-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_not_negative [hPre_tokens_not_negative : Cert.Pre_tokens_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_not_negative [hPre_tokens_not_negative : Cert.Pre_tokens_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tokens_in_range : Cert.Pre_tokens_in_range.Facts] (m : (ℓ : Loc Cert.Kernel2.nD Cert.Kernel2.τ Cert.Kernel2.sig) → Buf (Elt Bits) ℓ) : Prop :=
  ∀ c : Dev Cert.Kernel2.nD,
    (Cert.Pre_tokens_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_tokens_in_range : Cert.Pre_tokens_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tokens_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tokens_in_range [hPre_tokens_in_range : Cert.Pre_tokens_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tokens_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tokens_not_negative [hKernelIdeal : Cert.KernelIdeal.Facts] [hPre_tokens_not_negative : Cert.Pre_tokens_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_not_negative [hReferenceIdeal : Cert.ReferenceIdeal.Facts] [hPre_tokens_not_negative : Cert.Pre_tokens_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tokens_in_range : Cert.Pre_tokens_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_tokens_in_range : Cert.Pre_tokens_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_tokens_in_range [hReference2Ideal : Cert.Reference2Ideal.Facts] [hPre_tokens_in_range : Cert.Pre_tokens_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tokens_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_pre_tokens_not_negative [hKernelIdeal : Cert.KernelIdeal.Facts] [hReferenceIdeal : Cert.ReferenceIdeal.Facts] [hPre_tokens_not_negative : Cert.Pre_tokens_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tokens_in_range : Cert.Pre_tokens_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_tokens_not_negative : Cert.Pre_tokens_not_negative.Facts) (hPre_tokens_in_range : Cert.Pre_tokens_in_range.Facts),
    quiescent_Kernel (hKernel := hKernel)
    ∧ quiescent_KernelIdeal (hKernelIdeal := hKernelIdeal)
    ∧ quiescent_KernelIdeal_pre_tokens_not_negative (hKernelIdeal := hKernelIdeal) (hPre_tokens_not_negative := hPre_tokens_not_negative)
    ∧ quiescent_ReferenceIdeal (hReferenceIdeal := hReferenceIdeal)
    ∧ quiescent_ReferenceIdeal_pre_tokens_not_negative (hReferenceIdeal := hReferenceIdeal) (hPre_tokens_not_negative := hPre_tokens_not_negative)
    ∧ quiescent_Kernel2 (hKernel2 := hKernel2) (hPre_tokens_in_range := hPre_tokens_in_range)
    ∧ quiescent_Kernel2Ideal (hKernel2Ideal := hKernel2Ideal) (hPre_tokens_in_range := hPre_tokens_in_range)
    ∧ quiescent_Reference2Ideal (hReference2Ideal := hReference2Ideal)
    ∧ quiescent_Reference2Ideal_pre_tokens_in_range (hReference2Ideal := hReference2Ideal) (hPre_tokens_in_range := hPre_tokens_in_range)
    ∧ preserves_Kernel_KernelIdeal
    ∧ algebraic_KernelIdeal_ReferenceIdeal_pre_tokens_not_negative (hKernelIdeal := hKernelIdeal) (hReferenceIdeal := hReferenceIdeal) (hPre_tokens_not_negative := hPre_tokens_not_negative)
    ∧ preserves_Kernel2_Kernel2Ideal
    ∧ algebraic_Kernel2Ideal_Reference2Ideal (hKernel2Ideal := hKernel2Ideal) (hReference2Ideal := hReference2Ideal) (hPre_tokens_in_range := hPre_tokens_in_range)
-- ==== Pre_tokens_in_range.lean ====
abbrev S4096 : Shape := ⟨1, ![4096]⟩
abbrev S50257x768 : Shape := ⟨2, ![50257, 768]⟩
abbrev S1x768 : Shape := ⟨2, ![1, 768]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S50257x768 .f32) (main_arg2 : FVec F S1x768 .f32) (main_arg3 : FVec F S1x768 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 50257#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_tokens_not_negative.lean ====
abbrev S4x1024 : Shape := ⟨2, ![4, 1024]⟩
abbrev S4x1024x768 : Shape := ⟨3, ![4, 1024, 768]⟩
abbrev S50257x768 : Shape := ⟨2, ![50257, 768]⟩
abbrev S256x768 : Shape := ⟨2, ![256, 768]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel

variable [Facts]

def fn {F : FTy → Type} [FloatOps F] (main_arg0 : IVec S4x1024 32) (main_arg1 : FVec F S4x1024x768 .bf16) (main_arg2 : FVec F S50257x768 .f32) (main_arg3 : FVec F S256x768 .f32) (main_arg4 : FVec F S256x768 .f32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg0 main_v0
  let main_c_0 : IVec S_ 1 := constantI S_ 1 1#1
  let main_v2 : IVec S_ 1 := (fun x v => Host.reduce IntOp.andi x v reducesTo_S4x1024_S_d0_1 h_S_) main_v1 main_c_0
  main_v2
-- ==== Kernel.lean ====
abbrev S4x1024 : Shape := ⟨2, ![4, 1024]⟩
abbrev S4x1024x768 : Shape := ⟨3, ![4, 1024, 768]⟩
abbrev S50257x768 : Shape := ⟨2, ![50257, 768]⟩
abbrev S256x768 : Shape := ⟨2, ![256, 768]⟩
abbrev S4x1024x1024 : Shape := ⟨3, ![4, 1024, 1024]⟩
abbrev S1x1024x768 : Shape := ⟨3, ![1, 1024, 768]⟩
abbrev S1x1024x1024 : Shape := ⟨3, ![1, 1024, 1024]⟩
abbrev S1024x256 : Shape := ⟨2, ![1024, 256]⟩
abbrev S1024x768 : Shape := ⟨2, ![1024, 768]⟩
abbrev S1x256x768 : Shape := ⟨3, ![1, 256, 768]⟩
abbrev S256x256 : Shape := ⟨2, ![256, 256]⟩
abbrev S1x256x256 : Shape := ⟨3, ![1, 256, 256]⟩
abbrev S512x256 : Shape := ⟨2, ![512, 256]⟩
abbrev S256x512 : Shape := ⟨2, ![256, 512]⟩
abbrev S1x256x512 : Shape := ⟨3, ![1, 256, 512]⟩
abbrev S768x256 : Shape := ⟨2, ![768, 256]⟩
abbrev S256x1024 : Shape := ⟨2, ![256, 1024]⟩
abbrev S1x256x1024 : Shape := ⟨3, ![1, 256, 1024]⟩
abbrev S4x1x1024 : Shape := ⟨3, ![4, 1, 1024]⟩
abbrev S50257x4x1024 : Shape := ⟨3, ![50257, 4, 1024]⟩
abbrev S1024x1024 : Shape := ⟨2, ![1024, 1024]⟩
abbrev S4 : Shape := ⟨1, ![4]⟩
abbrev S1x1x1024 : Shape := ⟨3, ![1, 1, 1024]⟩
abbrev S1x1024 : Shape := ⟨2, ![1, 1024]⟩
abbrev S1 : Shape := ⟨1, ![1]⟩
abbrev S_ : Shape := ⟨0, ![]⟩
abbrev S1024x1x1024 : Shape := ⟨3, ![1024, 1, 1024]⟩
abbrev S1x1024x256 : Shape := ⟨3, ![1, 1024, 256]⟩
abbrev S1024x512 : Shape := ⟨2, ![1024, 512]⟩
abbrev S1024x4x1024 : Shape := ⟨3, ![1024, 4, 1024]⟩
abbrev S1024x1x256 : Shape := ⟨3, ![1024, 1, 256]⟩
abbrev S4x1024x50257 : Shape := ⟨3, ![4, 1024, 50257]⟩

abbrev nBuf : Space → Nat
  | .hbm => 12
  | .vmem => 20
  | .smem => 0
  | _ => 0

abbrev bufTy : (tb : Table) → Fin (tcTables nBuf tb) → BufTy
  | .hbm, ⟨0, _⟩ => ⟨S4x1024, .i32⟩
  | .hbm, ⟨1, _⟩ => ⟨S4x1024x768, .bf16⟩
  | .hbm, ⟨2, _⟩ => ⟨S50257x768, .f32⟩
  | .hbm, ⟨3, _⟩ => ⟨S256x768, .f32⟩
  | .hbm, ⟨4, _⟩ => ⟨S256x768, .f32⟩
  | .hbm, ⟨5, _⟩ => ⟨S256x768, .bf16⟩
  | .hbm, ⟨6, _⟩ => ⟨S256x768, .bf16⟩
  | .hbm, ⟨7, _⟩ => ⟨S4x1024x1024, .bf16⟩
  | .hbm, ⟨8, _⟩ => ⟨S4x1x1024, .i32⟩
  | .hbm, ⟨9, _⟩ => ⟨S50257x4x1024, .f32⟩
  | .hbm, ⟨10, _⟩ => ⟨S50257x4x1024, .f32⟩
  | .hbm, ⟨11, _⟩ => ⟨S4x1024x50257, .f32⟩
  | .local _ .vmem, ⟨0, _⟩ => ⟨S1x1024x768, .bf16⟩
  | .local _ .vmem, ⟨1, _⟩ => ⟨S1x1024x768, .bf16⟩
  | .local _ .vmem, ⟨2, _⟩ => ⟨S256x768, .bf16⟩
  | .local _ .vmem, ⟨3, _⟩ => ⟨S256x768, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x256, .bf16⟩
  | .local _ .vmem, ⟨7, _⟩ => ⟨S4x1x1024, .i32⟩
  | .local _ .vmem, ⟨8, _⟩ => ⟨S4x1024x768, .bf16⟩
  | .local _ .vmem, ⟨9, _⟩ => ⟨S4x1024x1024, .bf16⟩
  | .local _ .vmem, ⟨10, _⟩ => ⟨S1024x768, .f32⟩
  | .local _ .vmem, ⟨11, _⟩ => ⟨S1024x768, .f32⟩
  | .local _ .vmem, ⟨12, _⟩ => ⟨S1024x1024, .bf16⟩
  | .local _ .vmem, ⟨13, _⟩ => ⟨S4x1024x1024, .f32⟩
  | .local _ .vmem, ⟨14, _⟩ => ⟨S4x1x1024, .i32⟩
  | .local _ .vmem, ⟨15, _⟩ => ⟨S4x1024x768, .bf16⟩
  | .local _ .vmem, ⟨16, _⟩ => ⟨S4x1024x1024, .bf16⟩
  | .local _ .vmem, ⟨17, _⟩ => ⟨S1024x768, .f32⟩
  | .local _ .vmem, ⟨18, _⟩ => ⟨S1024x4x1024, .f32⟩
  | .local _ .vmem, ⟨19, _⟩ => ⟨S1024x1024, .bf16⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def k1_cond1 (i : grid1.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_7 : BitVec 32 := 0#32
  let v19 : BitVec 1 := Scalar.cmpi .ne v18 c0_i32_7
  v19

def k1_off1 (i : grid1.Coords) : Fin 3 → Nat :=
  let arg0 : BitVec 32 := BitVec.ofNat 32 (i 0).val
  let c1024_i32 : BitVec 32 := 1024#32
  let v0 : BitVec 32 := Scalar.muli arg0 c1024_i32
  let c0_i32_260 : BitVec 32 := 0#32
  let c0_i32_262 : BitVec 32 := 0#32
  ![v0.toNat, 0, 0]
def k1_off2 (i : grid1.Coords) : Fin 3 → Nat :=
  let arg0 : BitVec 32 := BitVec.ofNat 32 (i 0).val
  let c1024_i32 : BitVec 32 := 1024#32
  let v0 : BitVec 32 := Scalar.muli arg0 c1024_i32
  let c0_i32_58 : BitVec 32 := 0#32
  let c0_i32_60 : BitVec 32 := 0#32
  ![v0.toNat, 0, 0]
def k1_cond2 (i : grid1.Coords) : BitVec 1 :=
  let arg0 : BitVec 32 := BitVec.ofNat 32 (i 0).val
  let c0_i32_69 : BitVec 32 := 0#32
  let v81 : BitVec 1 := Scalar.cmpi .sgt arg0 c0_i32_69
  let v82 : BitVec 32 := Scalar.extui v81
  let c0_i32_70 : BitVec 32 := 0#32
  let v83 : BitVec 1 := Scalar.cmpi .ne v82 c0_i32_70
  v83

def k1_off3 (i : grid1.Coords) : Fin 3 → Nat :=
  let arg0 : BitVec 32 := BitVec.ofNat 32 (i 0).val
  let c1024_i32 : BitVec 32 := 1024#32
  let v0 : BitVec 32 := Scalar.muli arg0 c1024_i32
  let c1_i32_260 : BitVec 32 := 1#32
  let c0_i32_262 : BitVec 32 := 0#32
  ![v0.toNat, 1, 0]
def k1_off4 (i : grid1.Coords) : Fin 3 → Nat :=
  let arg0 : BitVec 32 := BitVec.ofNat 32 (i 0).val
  let c1024_i32 : BitVec 32 := 1024#32
  let v0 : BitVec 32 := Scalar.muli arg0 c1024_i32
  let c1_i32_123 : BitVec 32 := 1#32
  let c0_i32_125 : BitVec 32 := 0#32
  ![v0.toNat, 1, 0]
def k1_cond3 (i : grid1.Coords) : BitVec 1 :=
  let arg0 : BitVec 32 := BitVec.ofNat 32 (i 0).val
  let c0_i32_134 : BitVec 32 := 0#32
  let v145 : BitVec 1 := Scalar.cmpi .sgt arg0 c0_i32_134
  let v146 : BitVec 32 := Scalar.extui v145
  let c0_i32_135 : BitVec 32 := 0#32
  let v147 : BitVec 1 := Scalar.cmpi .ne v146 c0_i32_135
  v147

def k1_off5 (i : grid1.Coords) : Fin 3 → Nat :=
  let arg0 : BitVec 32 := BitVec.ofNat 32 (i 0).val
  let c1024_i32 : BitVec 32 := 1024#32
  let v0 : BitVec 32 := Scalar.muli arg0 c1024_i32
  let c2_i32_260 : BitVec 32 := 2#32
  let c0_i32_262 : BitVec 32 := 0#32
  ![v0.toNat, 2, 0]
def k1_off6 (i : grid1.Coords) : Fin 3 → Nat :=
  let arg0 : BitVec 32 := BitVec.ofNat 32 (i 0).val
  let c1024_i32 : BitVec 32 := 1024#32
  let v0 : BitVec 32 := Scalar.muli arg0 c1024_i32
  let c2_i32_188 : BitVec 32 := 2#32
  let c0_i32_190 : BitVec 32 := 0#32
  ![v0.toNat, 2, 0]
def k1_cond4 (i : grid1.Coords) : BitVec 1 :=
  let arg0 : BitVec 32 := BitVec.ofNat 32 (i 0).val
  let c0_i32_199 : BitVec 32 := 0#32
  let v209 : BitVec 1 := Scalar.cmpi .sgt arg0 c0_i32_199
  let v210 : BitVec 32 := Scalar.extui v209
  let c0_i32_200 : BitVec 32 := 0#32
  let v211 : BitVec 1 := Scalar.cmpi .ne v210 c0_i32_200
  v211

def k1_off7 (i : grid1.Coords) : Fin 3 → Nat :=
  let arg0 : BitVec 32 := BitVec.ofNat 32 (i 0).val
  let c1024_i32 : BitVec 32 := 1024#32
  let v0 : BitVec 32 := Scalar.muli arg0 c1024_i32
  let c3_i32_260 : BitVec 32 := 3#32
  let c0_i32_262 : BitVec 32 := 0#32
  ![v0.toNat, 3, 0]
def k1_off8 (i : grid1.Coords) : Fin 3 → Nat :=
  let arg0 : BitVec 32 := BitVec.ofNat 32 (i 0).val
  let c1024_i32 : BitVec 32 := 1024#32
  let v0 : BitVec 32 := Scalar.muli arg0 c1024_i32
  let c3_i32_253 : BitVec 32 := 3#32
  let c0_i32_255 : BitVec 32 := 0#32
  ![v0.toNat, 3, 0]
def k1_cond5 (i : grid1.Coords) : BitVec 1 :=
  let arg0 : BitVec 32 := BitVec.ofNat 32 (i 0).val
  let c48_i32 : BitVec 32 := 48#32
  let v262 : BitVec 1 := Scalar.cmpi .eq arg0 c48_i32
  let v263 : BitVec 32 := Scalar.extui v262
  let c0_i32_258 : BitVec 32 := 0#32
  let v264 : BitVec 1 := Scalar.cmpi .ne v263 c0_i32_258
  v264

def k1_off9 (i : grid1.Coords) : Fin 3 → Nat :=
  let arg0 : BitVec 32 := BitVec.ofNat 32 (i 0).val
  let c1024_i32 : BitVec 32 := 1024#32
  let v0 : BitVec 32 := Scalar.muli arg0 c1024_i32
  let c0_i32_260 : BitVec 32 := 0#32
  let c0_i32_262 : BitVec 32 := 0#32
  ![v0.toNat, 0, 0]
def k1_off10 (i : grid1.Coords) : Fin 3 → Nat :=
  let arg0 : BitVec 32 := BitVec.ofNat 32 (i 0).val
  let c1024_i32 : BitVec 32 := 1024#32
  let v0 : BitVec 32 := Scalar.muli arg0 c1024_i32
  let c1_i32_266 : BitVec 32 := 1#32
  let c0_i32_268 : BitVec 32 := 0#32
  ![v0.toNat, 1, 0]
def k1_off11 (i : grid1.Coords) : Fin 3 → Nat :=
  let arg0 : BitVec 32 := BitVec.ofNat 32 (i 0).val
  let c1024_i32 : BitVec 32 := 1024#32
  let v0 : BitVec 32 := Scalar.muli arg0 c1024_i32
  let c2_i32_272 : BitVec 32 := 2#32
  let c0_i32_274 : BitVec 32 := 0#32
  ![v0.toNat, 2, 0]
def k1_off12 (i : grid1.Coords) : Fin 3 → Nat :=
  let arg0 : BitVec 32 := BitVec.ofNat 32 (i 0).val
  let c1024_i32 : BitVec 32 := 1024#32
  let v0 : BitVec 32 := Scalar.muli arg0 c1024_i32
  let c3_i32_278 : BitVec 32 := 3#32
  let c0_i32_280 : BitVec 32 := 0#32
  ![v0.toNat, 3, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4x1x1024 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x1024x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c49_i32 : BitVec 32 := 49#32
  let c0_i32 : BitVec 32 := 0#32
  let c0_i32_0 : BitVec 32 := 0#32
  ![c49_i32.toNat, c0_i32.toNat]

def cc2_transform_5 (i : grid2.Coords) : Fin 3 → Nat :=
  let arg0 : BitVec 32 := BitVec.ofNat 32 (i 0).val
  let c49_i32 : BitVec 32 := 49#32
  let c0_i32 : BitVec 32 := 0#32
  let c0_i32_0 : BitVec 32 := 0#32
  let c0_i32_1 : BitVec 32 := 0#32
  ![c49_i32.toNat, c0_i32.toNat, c0_i32_0.toNat]

abbrev stage2_0 : Fin 1 → Memref sig .tc .vmem S4x1x1024 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4x1024x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x4x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S4x1024 : Shape := ⟨2, ![4, 1024]⟩
abbrev S4x1024x768 : Shape := ⟨3, ![4, 1024, 768]⟩
abbrev S50257x768 : Shape := ⟨2, ![50257, 768]⟩
abbrev S256x768 : Shape := ⟨2, ![256, 768]⟩
abbrev S4x1024x256 : Shape := ⟨3, ![4, 1024, 256]⟩
abbrev S4x1024x1024 : Shape := ⟨3, ![4, 1024, 1024]⟩
abbrev S_ : Shape := ⟨0, ![]⟩
abbrev S1024x1024 : Shape := ⟨2, ![1024, 1024]⟩
abbrev S4 : Shape := ⟨1, ![4]⟩
abbrev S4x1x1 : Shape := ⟨3, ![4, 1, 1]⟩
abbrev S1024 : Shape := ⟨1, ![1024]⟩
abbrev S1x1024x1 : Shape := ⟨3, ![1, 1024, 1]⟩
abbrev S4x1024x50257 : Shape := ⟨3, ![4, 1024, 50257]⟩
abbrev S4x1x1024 : Shape := ⟨3, ![4, 1, 1024]⟩
abbrev S4x1024x1024x1 : Shape := ⟨4, ![4, 1024, 1024, 1]⟩
abbrev S4x1024x1024x3 : Shape := ⟨4, ![4, 1024, 1024, 3]⟩

abbrev nBuf : Space → Nat
  | .hbm => 65
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x1024x768, .bf16⟩
  | .hbm, ⟨2, _⟩ => ⟨S50257x768, .f32⟩
  | .hbm, ⟨3, _⟩ => ⟨S256x768, .f32⟩
  | .hbm, ⟨4, _⟩ => ⟨S256x768, .f32⟩
  | .hbm, ⟨5, _⟩ => ⟨S4x1024x768, .f32⟩
  | .hbm, ⟨6, _⟩ => ⟨S4x1024x256, .f32⟩
  | .hbm, ⟨7, _⟩ => ⟨S4x1024x256, .f32⟩
  | .hbm, ⟨8, _⟩ => ⟨S4x1024x1024, .f32⟩
  | .hbm, ⟨9, _⟩ => ⟨S_, .f32⟩
  | .hbm, ⟨10, _⟩ => ⟨S4x1024x1024, .f32⟩
  | .hbm, ⟨11, _⟩ => ⟨S4x1024x1024, .f32⟩
  | .hbm, ⟨12, _⟩ => ⟨S_, .i1⟩
  | .hbm, ⟨13, _⟩ => ⟨S1024x1024, .i1⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S_, .i1⟩
  | .hbm, ⟨21, _⟩ => ⟨S1024x1024, .i1⟩
  | .hbm, ⟨22, _⟩ => ⟨S1024x1024, .i1⟩
  | .hbm, ⟨23, _⟩ => ⟨S_, .f32⟩
  | .hbm, ⟨24, _⟩ => ⟨S4x1024x1024, .i1⟩
  | .hbm, ⟨25, _⟩ => ⟨S4x1024x1024, .f32⟩
  | .hbm, ⟨26, _⟩ => ⟨S4x1024x1024, .f32⟩
  | .hbm, ⟨27, _⟩ => ⟨S4, .i32⟩
  | .hbm, ⟨28, _⟩ => ⟨S4x1x1, .i32⟩
  | .hbm, ⟨29, _⟩ => ⟨S1024, .i32⟩
  | .hbm, ⟨30, _⟩ => ⟨S1x1024x1, .i32⟩
  | .hbm, ⟨31, _⟩ => ⟨S_, .f32⟩
  | .hbm, ⟨32, _⟩ => ⟨S4x1024x50257, .f32⟩
  | .hbm, ⟨33, _⟩ => ⟨S4x1x1024, .i32⟩
  | .hbm, ⟨34, _⟩ => ⟨S_, .i32⟩
  | .hbm, ⟨35, _⟩ => ⟨S4x1x1, .i32⟩
  | .hbm, ⟨36, _⟩ => ⟨S4x1x1, .i1⟩
  | .hbm, ⟨37, _⟩ => ⟨S_, .i32⟩
  | .hbm, ⟨38, _⟩ => ⟨S4x1x1, .i32⟩
  | .hbm, ⟨39, _⟩ => ⟨S4x1x1, .i32⟩
  | .hbm, ⟨40, _⟩ => ⟨S4x1x1, .i32⟩
  | .hbm, ⟨41, _⟩ => ⟨S_, .i32⟩
  | .hbm, ⟨42, _⟩ => ⟨S1x1024x1, .i32⟩
  | .hbm, ⟨43, _⟩ => ⟨S1x1024x1, .i1⟩
  | .hbm, ⟨44, _⟩ => ⟨S_, .i32⟩
  | .hbm, ⟨45, _⟩ => ⟨S1x1024x1, .i32⟩
  | .hbm, ⟨46, _⟩ => ⟨S1x1024x1, .i32⟩
  | .hbm, ⟨47, _⟩ => ⟨S1x1024x1, .i32⟩
  | .hbm, ⟨48, _⟩ => ⟨S_, .i32⟩
  | .hbm, ⟨49, _⟩ => ⟨S4x1x1024, .i32⟩
  | .hbm, ⟨50, _⟩ => ⟨S4x1x1024, .i1⟩
  | .hbm, ⟨51, _⟩ => ⟨S_, .i32⟩
  | .hbm, ⟨52, _⟩ => ⟨S4x1x1024, .i32⟩
  | .hbm, ⟨53, _⟩ => ⟨S4x1x1024, .i32⟩
  | .hbm, ⟨54, _⟩ => ⟨S4x1x1024, .i32⟩
  | .hbm, ⟨55, _⟩ => ⟨S4x1024x1024, .i32⟩
  | .hbm, ⟨56, _⟩ => ⟨S4x1024x1024, .i32⟩
  | .hbm, ⟨57, _⟩ => ⟨S4x1024x1024, .i32⟩
  | .hbm, ⟨58, _⟩ => ⟨S4x1024x1024x1, .i32⟩
  | .hbm, ⟨59, _⟩ => ⟨S4x1024x1024x1, .i32⟩
  | .hbm, ⟨60, _⟩ => ⟨S4x1024x1024x1, .i32⟩
  | .hbm, ⟨61, _⟩ => ⟨S4x1024x1024x3, .i32⟩
  | .hbm, ⟨62, _⟩ => ⟨S4x1024x50257, .f32⟩
  | .hbm, ⟨63, _⟩ => ⟨S4x1024x50257, .f32⟩
  | .hbm, ⟨64, _⟩ => ⟨S4x1024x50257, .f32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v7 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel2.lean ====
abbrev S4096 : Shape := ⟨1, ![4096]⟩
abbrev S50257x768 : Shape := ⟨2, ![50257, 768]⟩
abbrev S1x768 : Shape := ⟨2, ![1, 768]⟩
abbrev S4096x768 : Shape := ⟨2, ![4096, 768]⟩
abbrev S512x768 : Shape := ⟨2, ![512, 768]⟩
abbrev S_ : Shape := ⟨0, ![]⟩
abbrev S1 : Shape := ⟨1, ![1]⟩
abbrev S768 : Shape := ⟨1, ![768]⟩
abbrev S512 : Shape := ⟨1, ![512]⟩
abbrev S512x1 : Shape := ⟨2, ![512, 1]⟩

abbrev nBuf : Space → Nat
  | .hbm => 5
  | .vmem => 7
  | .smem => 1
  | _ => 0

abbrev bufTy : (tb : Table) → Fin (tcTables nBuf tb) → BufTy
  | .hbm, ⟨0, _⟩ => ⟨S50257x768, .f32⟩
  | .hbm, ⟨1, _⟩ => ⟨S1x768, .f32⟩
  | .hbm, ⟨2, _⟩ => ⟨S1x768, .f32⟩
  | .hbm, ⟨3, _⟩ => ⟨S4096x768, .f32⟩
  | .hbm, ⟨4, _⟩ => ⟨S4096x768, .bf16⟩
  | .local _ .vmem, ⟨0, _⟩ => ⟨S1x768, .f32⟩
  | .local _ .vmem, ⟨1, _⟩ => ⟨S1x768, .f32⟩
  | .local _ .vmem, ⟨2, _⟩ => ⟨S512x768, .f32⟩
  | .local _ .vmem, ⟨3, _⟩ => ⟨S512x768, .f32⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | .local _ .smem, ⟨0, _⟩ => ⟨S4096, .i32⟩
  | _, _ => ⟨S50257x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_2 : BitVec 32 := 0#32
  ![v3.toNat, 0]

def k0_chk1 (v3 : BitVec 32) : Prop :=
  (∀ a, (k0_off2 v3) a + S1x768.size a ≤ S50257x768.size a)
theorem k0_off2_inb : ∀ (v3 : BitVec 32) (k0_hw1 : k0_chk1 v3), ∀ a, (k0_off2 v3) a + S1x768.size a ≤ S50257x768.size a := fun v3 k0_hw1 => k0_hw1

def k0_off3 (i : grid0.Coords) : Fin 1 → Nat :=
  let arg0 : BitVec 32 := BitVec.ofNat 32 (i 0).val
  let c512_i32 : BitVec 32 := 512#32
  let v0 : BitVec 32 := Scalar.muli arg0 c512_i32
  let c1_i32 : BitVec 32 := 1#32
  let v8 : BitVec 32 := Scalar.addi v0 c1_i32
  let v9 : Index := Scalar.indexCast v8
  ![v9.toNat]
def k0_off4 (v10 : BitVec 32) : Fin 2 → Nat :=
  let c0_i32_5 : BitVec 32 := 0#32
  ![v10.toNat, 0]

def k0_chk2 (v10 : BitVec 32) : Prop :=
  (∀ a, (k0_off4 v10) a + S1x768.size a ≤ S50257x768.size a)
theorem k0_off4_inb : ∀ (v10 : BitVec 32) (k0_hw2 : k0_chk2 v10), ∀ a, (k0_off4 v10) a + S1x768.size a ≤ S50257x768.size a := fun v10 k0_hw2 => k0_hw2

def k0_off5 (i : grid0.Coords) : Fin 1 → Nat :=
  let arg0 : BitVec 32 := BitVec.ofNat 32 (i 0).val
  let c512_i32 : BitVec 32 := 512#32
  let v0 : BitVec 32 := Scalar.muli arg0 c512_i32
  let c2_i32 : BitVec 32 := 2#32
  let v15 : BitVec 32 := Scalar.addi v0 c2_i32
  let v16 : Index := Scalar.indexCast v15
  ![v16.toNat]
def k0_off6 (v17 : BitVec 32) : Fin 2 → Nat :=
  let c0_i32_8 : BitVec 32 := 0#32
  ![v17.toNat, 0]

def k0_chk3 (v17 : BitVec 32) : Prop :=
  (∀ a, (k0_off6 v17) a + S1x768.size a ≤ S50257x768.size a)
theorem k0_off6_inb : ∀ (v17 : BitVec 32) (k0_hw3 : k0_chk3 v17), ∀ a, (k0_off6 v17) a + S1x768.size a ≤ S50257x768.size a := fun v17 k0_hw3 => k0_hw3

def k0_off7 (i : grid0.Coords) : Fin 1 → Nat :=
  let arg0 : BitVec 32 := BitVec.ofNat 32 (i 0).val
  let c512_i32 : BitVec 32 := 512#32
  let v0 : BitVec 32 := Scalar.muli arg0 c512_i32
  let c3_i32 : BitVec 32 := 3#32
  let v22 : BitVec 32 := Scalar.addi v0 c3_i32
  let v23 : Index := Scalar.indexCast v22
  ![v23.toNat]
def k0_off8 (v24 : BitVec 32) : Fin 2 → Nat :=
  let c0_i32_11 : BitVec 32 := 0#32
  ![v24.toNat, 0]

def k0_chk4 (v24 : BitVec 32) : Prop :=
  (∀ a, (k0_off8 v24) a + S1x768.size a ≤ S50257x768.size a)
theorem k0_off8_inb : ∀ (v24 : BitVec 32) (k0_hw4 : k0_chk4 v24), ∀ a, (k0_off8 v24) a + S1x768.size a ≤ S50257x768.size a := fun v24 k0_hw4 => k0_hw4

def k0_off9 (i : grid0.Coords) : Fin 1 → Nat :=
  let arg0 : BitVec 32 := BitVec.ofNat 32 (i 0).val
  let c512_i32 : BitVec 32 := 512#32
  let v0 : BitVec 32 := Scalar.muli arg0 c512_i32
  let c4_i32 : BitVec 32 := 4#32
  let v29 : BitVec 32 := Scalar.addi v0 c4_i32
  let v30 : Index := Scalar.indexCast v29
  ![v30.toNat]
def k0_off10 (v31 : BitVec 32) : Fin 2 → Nat :=
  let c0_i32_14 : BitVec 32 := 0#32
  ![v31.toNat, 0]

def k0_chk5 (v31 : BitVec 32) : Prop :=
  (∀ a, (k0_off10 v31) a + S1x768.size a ≤ S50257x768.size a)
theorem k0_off10_inb : ∀ (v31 : BitVec 32) (k0_hw5 : k0_chk5 v31), ∀ a, (k0_off10 v31) a + S1x768.size a ≤ S50257x768.size a := fun v31 k0_hw5 => k0_hw5

def k0_off11 (i : grid0.Coords) : Fin 1 → Nat :=
  let arg0 : BitVec 32 := BitVec.ofNat 32 (i 0).val
  let c512_i32 : BitVec 32 := 512#32
  let v0 : BitVec 32 := Scalar.muli arg0 c512_i32
  let c5_i32 : BitVec 32 := 5#32
  let v36 : BitVec 32 := Scalar.addi v0 c5_i32
  let v37 : Index := Scalar.indexCast v36
  ![v37.toNat]
def k0_off12 (v38 : BitVec 32) : Fin 2 → Nat :=
  let c0_i32_17 : BitVec 32 := 0#32
  ![v38.toNat, 0]

def k0_chk6 (v38 : BitVec 32) : Prop :=
  (∀ a, (k0_off12 v38) a + S1x768.size a ≤ S50257x768.size a)
theorem k0_off12_inb : ∀ (v38 : BitVec 32) (k0_hw6 : k0_chk6 v38), ∀ a, (k0_off12 v38) a + S1x768.size a ≤ S50257x768.size a := fun v38 k0_hw6 => k0_hw6

def k0_off13 (i : grid0.Coords) : Fin 1 → Nat :=
  let arg0 : BitVec 32 := BitVec.ofNat 32 (i 0).val
  let c512_i32 : BitVec 32 := 512#32
  let v0 : BitVec 32 := Scalar.muli arg0 c512_i32
  let c6_i32 : BitVec 32 := 6#32
  let v43 : BitVec 32 := Scalar.addi v0 c6_i32
  let v44 : Index := Scalar.indexCast v43
  ![v44.toNat]
def k0_off14 (v45 : BitVec 32) : Fin 2 → Nat :=
  let c0_i32_20 : BitVec 32 := 0#32
  ![v45.toNat, 0]

def k0_chk7 (v45 : BitVec 32) : Prop :=
  (∀ a, (k0_off14 v45) a + S1x768.size a ≤ S50257x768.size a)
theorem k0_off14_inb : ∀ (v45 : BitVec 32) (k0_hw7 : k0_chk7 v45), ∀ a, (k0_off14 v45) a + S1x768.size a ≤ S50257x768.size a := fun v45 k0_hw7 => k0_hw7

def k0_off15 (i : grid0.Coords) : Fin 1 → Nat :=
  let arg0 : BitVec 32 := BitVec.ofNat 32 (i 0).val
  let c512_i32 : BitVec 32 := 512#32
  let v0 : BitVec 32 := Scalar.muli arg0 c512_i32
  let c7_i32 : BitVec 32 := 7#32
  let v50 : BitVec 32 := Scalar.addi v0 c7_i32
  let v51 : Index := Scalar.indexCast v50
  ![v51.toNat]
def k0_off16 (v52 : BitVec 32) : Fin 2 → Nat :=
  let c0_i32_23 : BitVec 32 := 0#32
  ![v52.toNat, 0]

def k0_chk8 (v52 : BitVec 32) : Prop :=
  (∀ a, (k0_off16 v52) a + S1x768.size a ≤ S50257x768.size a)
theorem k0_off16_inb : ∀ (v52 : BitVec 32) (k0_hw8 : k0_chk8 v52), ∀ a, (k0_off16 v52) a + S1x768.size a ≤ S50257x768.size a := fun v52 k0_hw8 => k0_hw8

def k0_off17 (i : grid0.Coords) : Fin 1 → Nat :=
  let arg0 : BitVec 32 := BitVec.ofNat 32 (i 0).val
  let c512_i32 : BitVec 32 := 512#32
  let v0 : BitVec 32 := Scalar.muli arg0 c512_i32
  let c8_i32 : BitVec 32 := 8#32
  let v57 : BitVec 32 := Scalar.addi v0 c8_i32
  let v58 : Index := Scalar.indexCast v57
  ![v58.toNat]
def k0_off18 (v59 : BitVec 32) : Fin 2 → Nat :=
  let c0_i32_26 : BitVec 32 := 0#32
  ![v59.toNat, 0]

def k0_chk9 (v59 : BitVec 32) : Prop :=
  (∀ a, (k0_off18 v59) a + S1x768.size a ≤ S50257x768.size a)
theorem k0_off18_inb : ∀ (v59 : BitVec 32) (k0_hw9 : k0_chk9 v59), ∀ a, (k0_off18 v59) a + S1x768.size a ≤ S50257x768.size a := fun v59 k0_hw9 => k0_hw9

def k0_off19 (i : grid0.Coords) : Fin 1 → Nat :=
  let arg0 : BitVec 32 := BitVec.ofNat 32 (i 0).val
  let c512_i32 : BitVec 32 := 512#32
  let v0 : BitVec 32 := Scalar.muli arg0 c512_i32
  let c9_i32 : BitVec 32 := 9#32
  let v64 : BitVec 32 := Scalar.addi v0 c9_i32
  let v65 : Index := Scalar.indexCast v64
  ![v65.toNat]
def k0_off20 (v66 : BitVec 32) : Fin 2 → Nat :=
  let c0_i32_29 : BitVec 32 := 0#32
  ![v66.toNat, 0]

def k0_chk10 (v66 : BitVec 32) : Prop :=
  (∀ a, (k0_off20 v66) a + S1x768.size a ≤ S50257x768.size a)
theorem k0_off20_inb : ∀ (v66 : BitVec 32) (k0_hw10 : k0_chk10 v66), ∀ a, (k0_off20 v66) a + S1x768.size a ≤ S50257x768.size a := fun v66 k0_hw10 => k0_hw10

def k0_off21 (i : grid0.Coords) : Fin 1 → Nat :=
  let arg0 : BitVec 32 := BitVec.ofNat 32 (i 0).val
  let c512_i32 : BitVec 32 := 512#32
  let v0 : BitVec 32 := Scalar.muli arg0 c512_i32
  let c10_i32 : BitVec 32 := 10#32
  let v71 : BitVec 32 := Scalar.addi v0 c10_i32
  let v72 : Index := Scalar.indexCast v71
  ![v72.toNat]
def k0_off22 (v73 : BitVec 32) : Fin 2 → Nat :=
  let c0_i32_32 : BitVec 32 := 0#32
  ![v73.toNat, 0]

def k0_chk11 (v73 : BitVec 32) : Prop :=
  (∀ a, (k0_off22 v73) a + S1x768.size a ≤ S50257x768.size a)
theorem k0_off22_inb : ∀ (v73 : BitVec 32) (k0_hw11 : k0_chk11 v73), ∀ a, (k0_off22 v73) a + S1x768.size a ≤ S50257x768.size a := fun v73 k0_hw11 => k0_hw11

def k0_off23 (i : grid0.Coords) : Fin 1 → Nat :=
  let arg0 : BitVec 32 := BitVec.ofNat 32 (i 0).val
  let c512_i32 : BitVec 32 := 512#32
  let v0 : BitVec 32 := Scalar.muli arg0 c512_i32
  let c11_i32 : BitVec 32 := 11#32
  let v78 : BitVec 32 := Scalar.addi v0 c11_i32
  let v79 : Index := Scalar.indexCast v78
  ![v79.toNat]
def k0_off24 (v80 : BitVec 32) : Fin 2 → Nat :=
  let c0_i32_35 : BitVec 32 := 0#32
  ![v80.toNat, 0]

def k0_chk12 (v80 : BitVec 32) : Prop :=
  (∀ a, (k0_off24 v80) a + S1x768.size a ≤ S50257x768.size a)
theorem k0_off24_inb : ∀ (v80 : BitVec 32) (k0_hw12 : k0_chk12 v80), ∀ a, (k0_off24 v80) a + S1x768.size a ≤ S50257x768.size a := fun v80 k0_hw12 => k0_hw12

def k0_off25 (i : grid0.Coords) : Fin 1 → Nat :=
  let arg0 : BitVec 32 := BitVec.ofNat 32 (i 0).val
  let c512_i32 : BitVec 32 := 512#32
  let v0 : BitVec 32 := Scalar.muli arg0 c512_i32
  let c12_i32 : BitVec 32 := 12#32
  let v85 : BitVec 32 := Scalar.addi v0 c12_i32
  let v86 : Index := Scalar.indexCast v85
  ![v86.toNat]
def k0_off26 (v87 : BitVec 32) : Fin 2 → Nat :=
  let c0_i32_38 : BitVec 32 := 0#32
  ![v87.toNat, 0]

def k0_chk13 (v87 : BitVec 32) : Prop :=
  (∀ a, (k0_off26 v87) a + S1x768.size a ≤ S50257x768.size a)
theorem k0_off26_inb : ∀ (v87 : BitVec 32) (k0_hw13 : k0_chk13 v87), ∀ a, (k0_off26 v87) a + S1x768.size a ≤ S50257x768.size a := fun v87 k0_hw13 => k0_hw13

def k0_off27 (i : grid0.Coords) : Fin 1 → Nat :=
  let arg0 : BitVec 32 := BitVec.ofNat 32 (i 0).val
  let c512_i32 : BitVec 32 := 512#32
  let v0 : BitVec 32 := Scalar.muli arg0 c512_i32
  let c13_i32 : BitVec 32 := 13#32
  let v92 : BitVec 32 := Scalar.addi v0 c13_i32
  let v93 : Index := Scalar.indexCast v92
  ![v93.toNat]
def k0_off28 (v94 : BitVec 32) : Fin 2 → Nat :=
  let c0_i32_41 : BitVec 32 := 0#32
  ![v94.toNat, 0]

def k0_chk14 (v94 : BitVec 32) : Prop :=
  (∀ a, (k0_off28 v94) a + S1x768.size a ≤ S50257x768.size a)
theorem k0_off28_inb : ∀ (v94 : BitVec 32) (k0_hw14 : k0_chk14 v94), ∀ a, (k0_off28 v94) a + S1x768.size a ≤ S50257x768.size a := fun v94 k0_hw14 => k0_hw14

def k0_off29 (i : grid0.Coords) : Fin 1 → Nat :=
  let arg0 : BitVec 32 := BitVec.ofNat 32 (i 0).val
  let c512_i32 : BitVec 32 := 512#32
  let v0 : BitVec 32 := Scalar.muli arg0 c512_i32
  let c14_i32 : BitVec 32 := 14#32
  let v99 : BitVec 32 := Scalar.addi v0 c14_i32
  let v100 : Index := Scalar.indexCast v99
  ![v100.toNat]
def k0_off30 (v101 : BitVec 32) : Fin 2 → Nat :=
  let c0_i32_44 : BitVec 32 := 0#32
  ![v101.toNat, 0]

def k0_chk15 (v101 : BitVec 32) : Prop :=
  (∀ a, (k0_off30 v101) a + S1x768.size a ≤ S50257x768.size a)
theorem k0_off30_inb : ∀ (v101 : BitVec 32) (k0_hw15 : k0_chk15 v101), ∀ a, (k0_off30 v101) a + S1x768.size a ≤ S50257x768.size a := fun v101 k0_hw15 => k0_hw15

def k0_off31 (i : grid0.Coords) : Fin 1 → Nat :=
  let arg0 : BitVec 32 := BitVec.ofNat 32 (i 0).val
  let c512_i32 : BitVec 32 := 512#32
  let v0 : BitVec 32 := Scalar.muli arg0 c512_i32
  let c15_i32 : BitVec 32 := 15#32
  let v106 : BitVec 32 := Scalar.addi v0 c15_i32
  let v107 : Index := Scalar.indexCast v106
  ![v107.toNat]
def k0_off32 (v108 : BitVec 32) : Fin 2 → Nat :=
  let c0_i32_47 : BitVec 32 := 0#32
  ![v108.toNat, 0]

def k0_chk16 (v108 : BitVec 32) : Prop :=
  (∀ a, (k0_off32 v108) a + S1x768.size a ≤ S50257x768.size a)
theorem k0_off32_inb : ∀ (v108 : BitVec 32) (k0_hw16 : k0_chk16 v108), ∀ a, (k0_off32 v108) a + S1x768.size a ≤ S50257x768.size a := fun v108 k0_hw16 => k0_hw16

def k0_off33 (i : grid0.Coords) : Fin 1 → Nat :=
  let arg0 : BitVec 32 := BitVec.ofNat 32 (i 0).val
  let c512_i32 : BitVec 32 := 512#32
  let v0 : BitVec 32 := Scalar.muli arg0 c512_i32
  let c16_i32 : BitVec 32 := 16#32
  let v113 : BitVec 32 := Scalar.addi v0 c16_i32
  let v114 : Index := Scalar.indexCast v113
  ![v114.toNat]
def k0_off34 (v115 : BitVec 32) : Fin 2 → Nat :=
  let c0_i32_50 : BitVec 32 := 0#32
  ![v115.toNat, 0]

def k0_chk17 (v115 : BitVec 32) : Prop :=
  (∀ a, (k0_off34 v115) a + S1x768.size a ≤ S50257x768.size a)
theorem k0_off34_inb : ∀ (v115 : BitVec 32) (k0_hw17 : k0_chk17 v115), ∀ a, (k0_off34 v115) a + S1x768.size a ≤ S50257x768.size a := fun v115 k0_hw17 => k0_hw17

def k0_off35 (i : grid0.Coords) : Fin 1 → Nat :=
  let arg0 : BitVec 32 := BitVec.ofNat 32 (i 0).val
  let c512_i32 : BitVec 32 := 512#32
  let v0 : BitVec 32 := Scalar.muli arg0 c512_i32
  let c17_i32 : BitVec 32 := 17#32
  let v120 : BitVec 32 := Scalar.addi v0 c17_i32
  let v121 : Index := Scalar.indexCast v120
  ![v121.toNat]
def k0_off36 (v122 : BitVec 32) : Fin 2 → Nat :=
  let c0_i32_53 : BitVec 32 := 0#32
  ![v122.toNat, 0]

def k0_chk18 (v122 : BitVec 32) : Prop :=
  (∀ a, (k0_off36 v122) a + S1x768.size a ≤ S50257x768.size a)
theorem k0_off36_inb : ∀ (v122 : BitVec 32) (k0_hw18 : k0_chk18 v122), ∀ a, (k0_off36 v122) a + S1x768.size a ≤ S50257x768.size a := fun v122 k0_hw18 => k0_hw18

def k0_off37 (i : grid0.Coords) : Fin 1 → Nat :=
  let arg0 : BitVec 32 := BitVec.ofNat 32 (i 0).val
  let c512_i32 : BitVec 32 := 512#32
  let v0 : BitVec 32 := Scalar.muli arg0 c512_i32
  let c18_i32 : BitVec 32 := 18#32
  let v127 : BitVec 32 := Scalar.addi v0 c18_i32
  let v128 : Index := Scalar.indexCast v127
  ![v128.toNat]
def k0_off38 (v129 : BitVec 32) : Fin 2 → Nat :=
  let c0_i32_56 : BitVec 32 := 0#32
  ![v129.toNat, 0]

def k0_chk19 (v129 : BitVec 32) : Prop :=
  (∀ a, (k0_off38 v129) a + S1x768.size a ≤ S50257x768.size a)
theorem k0_off38_inb : ∀ (v129 : BitVec 32) (k0_hw19 : k0_chk19 v129), ∀ a, (k0_off38 v129) a + S1x768.size a ≤ S50257x768.size a := fun v129 k0_hw19 => k0_hw19

def k0_off39 (i : grid0.Coords) : Fin 1 → Nat :=
  let arg0 : BitVec 32 := BitVec.ofNat 32 (i 0).val
  let c512_i32 : BitVec 32 := 512#32
  let v0 : BitVec 32 := Scalar.muli arg0 c512_i32
  let c19_i32 : BitVec 32 := 19#32
  let v134 : BitVec 32 := Scalar.addi v0 c19_i32
  let v135 : Index := Scalar.indexCast v134
  ![v135.toNat]
def k0_off40 (v136 : BitVec 32) : Fin 2 → Nat :=
  let c0_i32_59 : BitVec 32 := 0#32
  ![v136.toNat, 0]

def k0_chk20 (v136 : BitVec 32) : Prop :=
  (∀ a, (k0_off40 v136) a + S1x768.size a ≤ S50257x768.size a)
theorem k0_off40_inb : ∀ (v136 : BitVec 32) (k0_hw20 : k0_chk20 v136), ∀ a, (k0_off40 v136) a + S1x768.size a ≤ S50257x768.size a := fun v136 k0_hw20 => k0_hw20

def k0_off41 (i : grid0.Coords) : Fin 1 → Nat :=
  let arg0 : BitVec 32 := BitVec.ofNat 32 (i 0).val
  let c512_i32 : BitVec 32 := 512#32
  let v0 : BitVec 32 := Scalar.muli arg0 c512_i32
  let c20_i32 : BitVec 32 := 20#32
  let v141 : BitVec 32 := Scalar.addi v0 c20_i32
  let v142 : Index := Scalar.indexCast v141
  ![v142.toNat]
def k0_off42 (v143 : BitVec 32) : Fin 2 → Nat :=
  let c0_i32_62 : BitVec 32 := 0#32
  ![v143.toNat, 0]

def k0_chk21 (v143 : BitVec 32) : Prop :=
  (∀ a, (k0_off42 v143) a + S1x768.size a ≤ S50257x768.size a)
theorem k0_off42_inb : ∀ (v143 : BitVec 32) (k0_hw21 : k0_chk21 v143), ∀ a, (k0_off42 v143) a + S1x768.size a ≤ S50257x768.size a := fun v143 k0_hw21 => k0_hw21

def k0_off43 (i : grid0.Coords) : Fin 1 → Nat :=
  let arg0 : BitVec 32 := BitVec.ofNat 32 (i 0).val
  let c512_i32 : BitVec 32 := 512#32
  let v0 : BitVec 32 := Scalar.muli arg0 c512_i32
  let c21_i32 : BitVec 32 := 21#32
  let v148 : BitVec 32 := Scalar.addi v0 c21_i32
  let v149 : Index := Scalar.indexCast v148
  ![v149.toNat]
def k0_off44 (v150 : BitVec 32) : Fin 2 → Nat :=
  let c0_i32_65 : BitVec 32 := 0#32
  ![v150.toNat, 0]

def k0_chk22 (v150 : BitVec 32) : Prop :=
  (∀ a, (k0_off44 v150) a + S1x768.size a ≤ S50257x768.size a)
theorem k0_off44_inb : ∀ (v150 : BitVec 32) (k0_hw22 : k0_chk22 v150), ∀ a, (k0_off44 v150) a + S1x768.size a ≤ S50257x768.size a := fun v150 k0_hw22 => k0_hw22

def k0_off45 (i : grid0.Coords) : Fin 1 → Nat :=
  let arg0 : BitVec 32 := BitVec.ofNat 32 (i 0).val
  let c512_i32 : BitVec 32 := 512#32
  let v0 : BitVec 32 := Scalar.muli arg0 c512_i32
  let c22_i32 : BitVec 32 := 22#32
  let v155 : BitVec 32 := Scalar.addi v0 c22_i32
  let v156 : Index := Scalar.indexCast v155
  ![v156.toNat]
def k0_off46 (v157 : BitVec 32) : Fin 2 → Nat :=
  let c0_i32_68 : BitVec 32 := 0#32
  ![v157.toNat, 0]

def k0_chk23 (v157 : BitVec 32) : Prop :=
  (∀ a, (k0_off46 v157) a + S1x768.size a ≤ S50257x768.size a)
theorem k0_off46_inb : ∀ (v157 : BitVec 32) (k0_hw23 : k0_chk23 v157), ∀ a, (k0_off46 v157) a + S1x768.size a ≤ S50257x768.size a := fun v157 k0_hw23 => k0_hw23

def k0_off47 (i : grid0.Coords) : Fin 1 → Nat :=
  let arg0 : BitVec 32 := BitVec.ofNat 32 (i 0).val
  let c512_i32 : BitVec 32 := 512#32
  let v0 : BitVec 32 := Scalar.muli arg0 c512_i32
  let c23_i32 : BitVec 32 := 23#32
  let v162 : BitVec 32 := Scalar.addi v0 c23_i32
  let v163 : Index := Scalar.indexCast v162
  ![v163.toNat]
def k0_off48 (v164 : BitVec 32) : Fin 2 → Nat :=
  let c0_i32_71 : BitVec 32 := 0#32
  ![v164.toNat, 0]

def k0_chk24 (v164 : BitVec 32) : Prop :=
  (∀ a, (k0_off48 v164) a + S1x768.size a ≤ S50257x768.size a)
theorem k0_off48_inb : ∀ (v164 : BitVec 32) (k0_hw24 : k0_chk24 v164), ∀ a, (k0_off48 v164) a + S1x768.size a ≤ S50257x768.size a := fun v164 k0_hw24 => k0_hw24

def k0_off49 (i : grid0.Coords) : Fin 1 → Nat :=
  let arg0 : BitVec 32 := BitVec.ofNat 32 (i 0).val
  let c512_i32 : BitVec 32 := 512#32
  let v0 : BitVec 32 := Scalar.muli arg0 c512_i32
  let c24_i32 : BitVec 32 := 24#32
  let v169 : BitVec 32 := Scalar.addi v0 c24_i32
  let v170 : Index := Scalar.indexCast v169
  ![v170.toNat]
def k0_off50 (v171 : BitVec 32) : Fin 2 → Nat :=
  let c0_i32_74 : BitVec 32 := 0#32
  ![v171.toNat, 0]

def k0_chk25 (v171 : BitVec 32) : Prop :=
  (∀ a, (k0_off50 v171) a + S1x768.size a ≤ S50257x768.size a)
theorem k0_off50_inb : ∀ (v171 : BitVec 32) (k0_hw25 : k0_chk25 v171), ∀ a, (k0_off50 v171) a + S1x768.size a ≤ S50257x768.size a := fun v171 k0_hw25 => k0_hw25

def k0_off51 (i : grid0.Coords) : Fin 1 → Nat :=
  let arg0 : BitVec 32 := BitVec.ofNat 32 (i 0).val
  let c512_i32 : BitVec 32 := 512#32
  let v0 : BitVec 32 := Scalar.muli arg0 c512_i32
  let c25_i32 : BitVec 32 := 25#32
  let v176 : BitVec 32 := Scalar.addi v0 c25_i32
  let v177 : Index := Scalar.indexCast v176
  ![v177.toNat]
def k0_off52 (v178 : BitVec 32) : Fin 2 → Nat :=
  let c0_i32_77 : BitVec 32 := 0#32
  ![v178.toNat, 0]

def k0_chk26 (v178 : BitVec 32) : Prop :=
  (∀ a, (k0_off52 v178) a + S1x768.size a ≤ S50257x768.size a)
theorem k0_off52_inb : ∀ (v178 : BitVec 32) (k0_hw26 : k0_chk26 v178), ∀ a, (k0_off52 v178) a + S1x768.size a ≤ S50257x768.size a := fun v178 k0_hw26 => k0_hw26

def k0_off53 (i : grid0.Coords) : Fin 1 → Nat :=
  let arg0 : BitVec 32 := BitVec.ofNat 32 (i 0).val
  let c512_i32 : BitVec 32 := 512#32
  let v0 : BitVec 32 := Scalar.muli arg0 c512_i32
  let c26_i32 : BitVec 32 := 26#32
  let v183 : BitVec 32 := Scalar.addi v0 c26_i32
  let v184 : Index := Scalar.indexCast v183
  ![v184.toNat]
def k0_off54 (v185 : BitVec 32) : Fin 2 → Nat :=
  let c0_i32_80 : BitVec 32 := 0#32
  ![v185.toNat, 0]

def k0_chk27 (v185 : BitVec 32) : Prop :=
  (∀ a, (k0_off54 v185) a + S1x768.size a ≤ S50257x768.size a)
theorem k0_off54_inb : ∀ (v185 : BitVec 32) (k0_hw27 : k0_chk27 v185), ∀ a, (k0_off54 v185) a + S1x768.size a ≤ S50257x768.size a := fun v185 k0_hw27 => k0_hw27

def k0_off55 (i : grid0.Coords) : Fin 1 → Nat :=
  let arg0 : BitVec 32 := BitVec.ofNat 32 (i 0).val
  let c512_i32 : BitVec 32 := 512#32
  let v0 : BitVec 32 := Scalar.muli arg0 c512_i32
  let c27_i32 : BitVec 32 := 27#32
  let v190 : BitVec 32 := Scalar.addi v0 c27_i32
  let v191 : Index := Scalar.indexCast v190
  ![v191.toNat]
def k0_off56 (v192 : BitVec 32) : Fin 2 → Nat :=
  let c0_i32_83 : BitVec 32 := 0#32
  ![v192.toNat, 0]

def k0_chk28 (v192 : BitVec 32) : Prop :=
  (∀ a, (k0_off56 v192) a + S1x768.size a ≤ S50257x768.size a)
theorem k0_off56_inb : ∀ (v192 : BitVec 32) (k0_hw28 : k0_chk28 v192), ∀ a, (k0_off56 v192) a + S1x768.size a ≤ S50257x768.size a := fun v192 k0_hw28 => k0_hw28

def k0_off57 (i : grid0.Coords) : Fin 1 → Nat :=
  let arg0 : BitVec 32 := BitVec.ofNat 32 (i 0).val
  let c512_i32 : BitVec 32 := 512#32
  let v0 : BitVec 32 := Scalar.muli arg0 c512_i32
  let c28_i32 : BitVec 32 := 28#32
  let v197 : BitVec 32 := Scalar.addi v0 c28_i32
  let v198 : Index := Scalar.indexCast v197
  ![v198.toNat]
def k0_off58 (v199 : BitVec 32) : Fin 2 → Nat :=
  let c0_i32_86 : BitVec 32 := 0#32
  ![v199.toNat, 0]

def k0_chk29 (v199 : BitVec 32) : Prop :=
  (∀ a, (k0_off58 v199) a + S1x768.size a ≤ S50257x768.size a)
theorem k0_off58_inb : ∀ (v199 : BitVec 32) (k0_hw29 : k0_chk29 v199), ∀ a, (k0_off58 v199) a + S1x768.size a ≤ S50257x768.size a := fun v199 k0_hw29 => k0_hw29

def k0_off59 (i : grid0.Coords) : Fin 1 → Nat :=
  let arg0 : BitVec 32 := BitVec.ofNat 32 (i 0).val
  let c512_i32 : BitVec 32 := 512#32
  let v0 : BitVec 32 := Scalar.muli arg0 c512_i32
  let c29_i32 : BitVec 32 := 29#32
  let v204 : BitVec 32 := Scalar.addi v0 c29_i32
  let v205 : Index := Scalar.indexCast v204
  ![v205.toNat]
def k0_off60 (v206 : BitVec 32) : Fin 2 → Nat :=
  let c0_i32_89 : BitVec 32 := 0#32
  ![v206.toNat, 0]

def k0_chk30 (v206 : BitVec 32) : Prop :=
  (∀ a, (k0_off60 v206) a + S1x768.size a ≤ S50257x768.size a)
theorem k0_off60_inb : ∀ (v206 : BitVec 32) (k0_hw30 : k0_chk30 v206), ∀ a, (k0_off60 v206) a + S1x768.size a ≤ S50257x768.size a := fun v206 k0_hw30 => k0_hw30

def k0_off61 (i : grid0.Coords) : Fin 1 → Nat :=
  let arg0 : BitVec 32 := BitVec.ofNat 32 (i 0).val
  let c512_i32 : BitVec 32 := 512#32
  let v0 : BitVec 32 := Scalar.muli arg0 c512_i32
  let c30_i32 : BitVec 32 := 30#32
  let v211 : BitVec 32 := Scalar.addi v0 c30_i32
  let v212 : Index := Scalar.indexCast v211
  ![v212.toNat]
def k0_off62 (v213 : BitVec 32) : Fin 2 → Nat :=
  let c0_i32_92 : BitVec 32 := 0#32
  ![v213.toNat, 0]

def k0_chk31 (v213 : BitVec 32) : Prop :=
  (∀ a, (k0_off62 v213) a + S1x768.size a ≤ S50257x768.size a)
theorem k0_off62_inb : ∀ (v213 : BitVec 32) (k0_hw31 : k0_chk31 v213), ∀ a, (k0_off62 v213) a + S1x768.size a ≤ S50257x768.size a := fun v213 k0_hw31 => k0_hw31

def k0_off63 (i : grid0.Coords) : Fin 1 → Nat :=
  let arg0 : BitVec 32 := BitVec.ofNat 32 (i 0).val
  let c512_i32 : BitVec 32 := 512#32
  let v0 : BitVec 32 := Scalar.muli arg0 c512_i32
  let c31_i32 : BitVec 32 := 31#32
  let v218 : BitVec 32 := Scalar.addi v0 c31_i32
  let v219 : Index := Scalar.indexCast v218
  ![v219.toNat]
def k0_off64 (v220 : BitVec 32) : Fin 2 → Nat :=
  let c0_i32_95 : BitVec 32 := 0#32
  ![v220.toNat, 0]

def k0_chk32 (v220 : BitVec 32) : Prop :=
  (∀ a, (k0_off64 v220) a + S1x768.size a ≤ S50257x768.size a)
theorem k0_off64_inb : ∀ (v220 : BitVec 32) (k0_hw32 : k0_chk32 v220), ∀ a, (k0_off64 v220) a + S1x768.size a ≤ S50257x768.size a := fun v220 k0_hw32 => k0_hw32

def k0_off65 (i : grid0.Coords) : Fin 1 → Nat :=
  let arg0 : BitVec 32 := BitVec.ofNat 32 (i 0).val
  let c512_i32 : BitVec 32 := 512#32
  let v0 : BitVec 32 := Scalar.muli arg0 c512_i32
  let c32_i32 : BitVec 32 := 32#32
  let v225 : BitVec 32 := Scalar.addi v0 c32_i32
  let v226 : Index := Scalar.indexCast v225
  ![v226.toNat]
def k0_off66 (v227 : BitVec 32) : Fin 2 → Nat :=
  let c0_i32_98 : BitVec 32 := 0#32
  ![v227.toNat, 0]

def k0_chk33 (v227 : BitVec 32) : Prop :=
  (∀ a, (k0_off66 v227) a + S1x768.size a ≤ S50257x768.size a)
theorem k0_off66_inb : ∀ (v227 : BitVec 32) (k0_hw33 : k0_chk33 v227), ∀ a, (k0_off66 v227) a + S1x768.size a ≤ S50257x768.size a := fun v227 k0_hw33 => k0_hw33

def k0_off67 (i : grid0.Coords) : Fin 1 → Nat :=
  let arg0 : BitVec 32 := BitVec.ofNat 32 (i 0).val
  let c512_i32 : BitVec 32 := 512#32
  let v0 : BitVec 32 := Scalar.muli arg0 c512_i32
  let c33_i32 : BitVec 32 := 33#32
  let v232 : BitVec 32 := Scalar.addi v0 c33_i32
  let v233 : Index := Scalar.indexCast v232
  ![v233.toNat]
def k0_off68 (v234 : BitVec 32) : Fin 2 → Nat :=
  let c0_i32_101 : BitVec 32 := 0#32
  ![v234.toNat, 0]

def k0_chk34 (v234 : BitVec 32) : Prop :=
  (∀ a, (k0_off68 v234) a + S1x768.size a ≤ S50257x768.size a)
theorem k0_off68_inb : ∀ (v234 : BitVec 32) (k0_hw34 : k0_chk34 v234), ∀ a, (k0_off68 v234) a + S1x768.size a ≤ S50257x768.size a := fun v234 k0_hw34 => k0_hw34

def k0_off69 (i : grid0.Coords) : Fin 1 → Nat :=
  let arg0 : BitVec 32 := BitVec.ofNat 32 (i 0).val
  let c512_i32 : BitVec 32 := 512#32
  let v0 : BitVec 32 := Scalar.muli arg0 c512_i32
  let c34_i32 : BitVec 32 := 34#32
  let v239 : BitVec 32 := Scalar.addi v0 c34_i32
  let v240 : Index := Scalar.indexCast v239
  ![v240.toNat]
def k0_off70 (v241 : BitVec 32) : Fin 2 → Nat :=
  let c0_i32_104 : BitVec 32 := 0#32
  ![v241.toNat, 0]

def k0_chk35 (v241 : BitVec 32) : Prop :=
  (∀ a, (k0_off70 v241) a + S1x768.size a ≤ S50257x768.size a)
theorem k0_off70_inb : ∀ (v241 : BitVec 32) (k0_hw35 : k0_chk35 v241), ∀ a, (k0_off70 v241) a + S1x768.size a ≤ S50257x768.size a := fun v241 k0_hw35 => k0_hw35

def k0_off71 (i : grid0.Coords) : Fin 1 → Nat :=
  let arg0 : BitVec 32 := BitVec.ofNat 32 (i 0).val
  let c512_i32 : BitVec 32 := 512#32
  let v0 : BitVec 32 := Scalar.muli arg0 c512_i32
  let c35_i32 : BitVec 32 := 35#32
  let v246 : BitVec 32 := Scalar.addi v0 c35_i32
  let v247 : Index := Scalar.indexCast v246
  ![v247.toNat]
def k0_off72 (v248 : BitVec 32) : Fin 2 → Nat :=
  let c0_i32_107 : BitVec 32 := 0#32
  ![v248.toNat, 0]

def k0_chk36 (v248 : BitVec 32) : Prop :=
  (∀ a, (k0_off72 v248) a + S1x768.size a ≤ S50257x768.size a)
theorem k0_off72_inb : ∀ (v248 : BitVec 32) (k0_hw36 : k0_chk36 v248), ∀ a, (k0_off72 v248) a + S1x768.size a ≤ S50257x768.size a := fun v248 k0_hw36 => k0_hw36

def k0_off73 (i : grid0.Coords) : Fin 1 → Nat :=
  let arg0 : BitVec 32 := BitVec.ofNat 32 (i 0).val
  let c512_i32 : BitVec 32 := 512#32
  let v0 : BitVec 32 := Scalar.muli arg0 c512_i32
  let c36_i32 : BitVec 32 := 36#32
  let v253 : BitVec 32 := Scalar.addi v0 c36_i32
  let v254 : Index := Scalar.indexCast v253
  ![v254.toNat]
def k0_off74 (v255 : BitVec 32) : Fin 2 → Nat :=
  let c0_i32_110 : BitVec 32 := 0#32
  ![v255.toNat, 0]

def k0_chk37 (v255 : BitVec 32) : Prop :=
  (∀ a, (k0_off74 v255) a + S1x768.size a ≤ S50257x768.size a)
theorem k0_off74_inb : ∀ (v255 : BitVec 32) (k0_hw37 : k0_chk37 v255), ∀ a, (k0_off74 v255) a + S1x768.size a ≤ S50257x768.size a := fun v255 k0_hw37 => k0_hw37

def k0_off75 (i : grid0.Coords) : Fin 1 → Nat :=
  let arg0 : BitVec 32 := BitVec.ofNat 32 (i 0).val
  let c512_i32 : BitVec 32 := 512#32
  let v0 : BitVec 32 := Scalar.muli arg0 c512_i32
  let c37_i32 : BitVec 32 := 37#32
  let v260 : BitVec 32 := Scalar.addi v0 c37_i32
  let v261 : Index := Scalar.indexCast v260
  ![v261.toNat]
def k0_off76 (v262 : BitVec 32) : Fin 2 → Nat :=
  let c0_i32_113 : BitVec 32 := 0#32
  ![v262.toNat, 0]

def k0_chk38 (v262 : BitVec 32) : Prop :=
  (∀ a, (k0_off76 v262) a + S1x768.size a ≤ S50257x768.size a)
theorem k0_off76_inb : ∀ (v262 : BitVec 32) (k0_hw38 : k0_chk38 v262), ∀ a, (k0_off76 v262) a + S1x768.size a ≤ S50257x768.size a := fun v262 k0_hw38 => k0_hw38

def k0_off77 (i : grid0.Coords) : Fin 1 → Nat :=
  let arg0 : BitVec 32 := BitVec.ofNat 32 (i 0).val
  let c512_i32 : BitVec 32 := 512#32
  let v0 : BitVec 32 := Scalar.muli arg0 c512_i32
  let c38_i32 : BitVec 32 := 38#32
  let v267 : BitVec 32 := Scalar.addi v0 c38_i32
  let v268 : Index := Scalar.indexCast v267
  ![v268.toNat]
def k0_off78 (v269 : BitVec 32) : Fin 2 → Nat :=
  let c0_i32_116 : BitVec 32 := 0#32
  ![v269.toNat, 0]

def k0_chk39 (v269 : BitVec 32) : Prop :=
  (∀ a, (k0_off78 v269) a + S1x768.size a ≤ S50257x768.size a)
theorem k0_off78_inb : ∀ (v269 : BitVec 32) (k0_hw39 : k0_chk39 v269), ∀ a, (k0_off78 v269) a + S1x768.size a ≤ S50257x768.size a := fun v269 k0_hw39 => k0_hw39

def k0_off79 (i : grid0.Coords) : Fin 1 → Nat :=
  let arg0 : BitVec 32 := BitVec.ofNat 32 (i 0).val
  let c512_i32 : BitVec 32 := 512#32
  let v0 : BitVec 32 := Scalar.muli arg0 c512_i32
  let c39_i32 : BitVec 32 := 39#32
  let v274 : BitVec 32 := Scalar.addi v0 c39_i32
  let v275 : Index := Scalar.indexCast v274
  ![v275.toNat]
def k0_off80 (v276 : BitVec 32) : Fin 2 → Nat :=
  let c0_i32_119 : BitVec 32 := 0#32
  ![v276.toNat, 0]

def k0_chk40 (v276 : BitVec 32) : Prop :=
  (∀ a, (k0_off80 v276) a + S1x768.size a ≤ S50257x768.size a)
theorem k0_off80_inb : ∀ (v276 : BitVec 32) (k0_hw40 : k0_chk40 v276), ∀ a, (k0_off80 v276) a + S1x768.size a ≤ S50257x768.size a := fun v276 k0_hw40 => k0_hw40

def k0_off81 (i : grid0.Coords) : Fin 1 → Nat :=
  let arg0 : BitVec 32 := BitVec.ofNat 32 (i 0).val
  let c512_i32 : BitVec 32 := 512#32
  let v0 : BitVec 32 := Scalar.muli arg0 c512_i32
  let c40_i32 : BitVec 32 := 40#32
  let v281 : BitVec 32 := Scalar.addi v0 c40_i32
  let v282 : Index := Scalar.indexCast v281
  ![v282.toNat]
def k0_off82 (v283 : BitVec 32) : Fin 2 → Nat :=
  let c0_i32_122 : BitVec 32 := 0#32
  ![v283.toNat, 0]

def k0_chk41 (v283 : BitVec 32) : Prop :=
  (∀ a, (k0_off82 v283) a + S1x768.size a ≤ S50257x768.size a)
theorem k0_off82_inb : ∀ (v283 : BitVec 32) (k0_hw41 : k0_chk41 v283), ∀ a, (k0_off82 v283) a + S1x768.size a ≤ S50257x768.size a := fun v283 k0_hw41 => k0_hw41

def k0_off83 (i : grid0.Coords) : Fin 1 → Nat :=
  let arg0 : BitVec 32 := BitVec.ofNat 32 (i 0).val
  let c512_i32 : BitVec 32 := 512#32
  let v0 : BitVec 32 := Scalar.muli arg0 c512_i32
  let c41_i32 : BitVec 32 := 41#32
  let v288 : BitVec 32 := Scalar.addi v0 c41_i32
  let v289 : Index := Scalar.indexCast v288
  ![v289.toNat]
def k0_off84 (v290 : BitVec 32) : Fin 2 → Nat :=
  let c0_i32_125 : BitVec 32 := 0#32
  ![v290.toNat, 0]

def k0_chk42 (v290 : BitVec 32) : Prop :=
  (∀ a, (k0_off84 v290) a + S1x768.size a ≤ S50257x768.size a)
theorem k0_off84_inb : ∀ (v290 : BitVec 32) (k0_hw42 : k0_chk42 v290), ∀ a, (k0_off84 v290) a + S1x768.size a ≤ S50257x768.size a := fun v290 k0_hw42 => k0_hw42

def k0_off85 (i : grid0.Coords) : Fin 1 → Nat :=
  let arg0 : BitVec 32 := BitVec.ofNat 32 (i 0).val
  let c512_i32 : BitVec 32 := 512#32
  let v0 : BitVec 32 := Scalar.muli arg0 c512_i32
  let c42_i32 : BitVec 32 := 42#32
  let v295 : BitVec 32 := Scalar.addi v0 c42_i32
  let v296 : Index := Scalar.indexCast v295
  ![v296.toNat]
def k0_off86 (v297 : BitVec 32) : Fin 2 → Nat :=
  let c0_i32_128 : BitVec 32 := 0#32
  ![v297.toNat, 0]

def k0_chk43 (v297 : BitVec 32) : Prop :=
  (∀ a, (k0_off86 v297) a + S1x768.size a ≤ S50257x768.size a)
theorem k0_off86_inb : ∀ (v297 : BitVec 32) (k0_hw43 : k0_chk43 v297), ∀ a, (k0_off86 v297) a + S1x768.size a ≤ S50257x768.size a := fun v297 k0_hw43 => k0_hw43

def k0_off87 (i : grid0.Coords) : Fin 1 → Nat :=
  let arg0 : BitVec 32 := BitVec.ofNat 32 (i 0).val
  let c512_i32 : BitVec 32 := 512#32
  let v0 : BitVec 32 := Scalar.muli arg0 c512_i32
  let c43_i32 : BitVec 32 := 43#32
  let v302 : BitVec 32 := Scalar.addi v0 c43_i32
  let v303 : Index := Scalar.indexCast v302
  ![v303.toNat]
def k0_off88 (v304 : BitVec 32) : Fin 2 → Nat :=
  let c0_i32_131 : BitVec 32 := 0#32
  ![v304.toNat, 0]

def k0_chk44 (v304 : BitVec 32) : Prop :=
  (∀ a, (k0_off88 v304) a + S1x768.size a ≤ S50257x768.size a)
theorem k0_off88_inb : ∀ (v304 : BitVec 32) (k0_hw44 : k0_chk44 v304), ∀ a, (k0_off88 v304) a + S1x768.size a ≤ S50257x768.size a := fun v304 k0_hw44 => k0_hw44

def k0_off89 (i : grid0.Coords) : Fin 1 → Nat :=
  let arg0 : BitVec 32 := BitVec.ofNat 32 (i 0).val
  let c512_i32 : BitVec 32 := 512#32
  let v0 : BitVec 32 := Scalar.muli arg0 c512_i32
  let c44_i32 : BitVec 32 := 44#32
  let v309 : BitVec 32 := Scalar.addi v0 c44_i32
  let v310 : Index := Scalar.indexCast v309
  ![v310.toNat]
def k0_off90 (v311 : BitVec 32) : Fin 2 → Nat :=
  let c0_i32_134 : BitVec 32 := 0#32
  ![v311.toNat, 0]

def k0_chk45 (v311 : BitVec 32) : Prop :=
  (∀ a, (k0_off90 v311) a + S1x768.size a ≤ S50257x768.size a)
theorem k0_off90_inb : ∀ (v311 : BitVec 32) (k0_hw45 : k0_chk45 v311), ∀ a, (k0_off90 v311) a + S1x768.size a ≤ S50257x768.size a := fun v311 k0_hw45 => k0_hw45

def k0_off91 (i : grid0.Coords) : Fin 1 → Nat :=
  let arg0 : BitVec 32 := BitVec.ofNat 32 (i 0).val
  let c512_i32 : BitVec 32 := 512#32
  let v0 : BitVec 32 := Scalar.muli arg0 c512_i32
  let c45_i32 : BitVec 32 := 45#32
  let v316 : BitVec 32 := Scalar.addi v0 c45_i32
  let v317 : Index := Scalar.indexCast v316
  ![v317.toNat]
def k0_off92 (v318 : BitVec 32) : Fin 2 → Nat :=
  let c0_i32_137 : BitVec 32 := 0#32
  ![v318.toNat, 0]

def k0_chk46 (v318 : BitVec 32) : Prop :=
  (∀ a, (k0_off92 v318) a + S1x768.size a ≤ S50257x768.size a)
theorem k0_off92_inb : ∀ (v318 : BitVec 32) (k0_hw46 : k0_chk46 v318), ∀ a, (k0_off92 v318) a + S1x768.size a ≤ S50257x768.size a := fun v318 k0_hw46 => k0_hw46

def k0_off93 (i : grid0.Coords) : Fin 1 → Nat :=
  let arg0 : BitVec 32 := BitVec.ofNat 32 (i 0).val
  let c512_i32 : BitVec 32 := 512#32
  let v0 : BitVec 32 := Scalar.muli arg0 c512_i32
  let c46_i32 : BitVec 32 := 46#32
  let v323 : BitVec 32 := Scalar.addi v0 c46_i32
  let v324 : Index := Scalar.indexCast v323
  ![v324.toNat]
def k0_off94 (v325 : BitVec 32) : Fin 2 → Nat :=
  let c0_i32_140 : BitVec 32 := 0#32
  ![v325.toNat, 0]

def k0_chk47 (v325 : BitVec 32) : Prop :=
  (∀ a, (k0_off94 v325) a + S1x768.size a ≤ S50257x768.size a)
theorem k0_off94_inb : ∀ (v325 : BitVec 32) (k0_hw47 : k0_chk47 v325), ∀ a, (k0_off94 v325) a + S1x768.size a ≤ S50257x768.size a := fun v325 k0_hw47 => k0_hw47

def k0_off95 (i : grid0.Coords) : Fin 1 → Nat :=
  let arg0 : BitVec 32 := BitVec.ofNat 32 (i 0).val
  let c512_i32 : BitVec 32 := 512#32
  let v0 : BitVec 32 := Scalar.muli arg0 c512_i32
  let c47_i32 : BitVec 32 := 47#32
  let v330 : BitVec 32 := Scalar.addi v0 c47_i32
  let v331 : Index := Scalar.indexCast v330
  ![v331.toNat]
def k0_off96 (v332 : BitVec 32) : Fin 2 → Nat :=
  let c0_i32_143 : BitVec 32 := 0#32
  ![v332.toNat, 0]

def k0_chk48 (v332 : BitVec 32) : Prop :=
  (∀ a, (k0_off96 v332) a + S1x768.size a ≤ S50257x768.size a)
theorem k0_off96_inb : ∀ (v332 : BitVec 32) (k0_hw48 : k0_chk48 v332), ∀ a, (k0_off96 v332) a + S1x768.size a ≤ S50257x768.size a := fun v332 k0_hw48 => k0_hw48

def k0_off97 (i : grid0.Coords) : Fin 1 → Nat :=
  let arg0 : BitVec 32 := BitVec.ofNat 32 (i 0).val
  let c512_i32 : BitVec 32 := 512#32
  let v0 : BitVec 32 := Scalar.muli arg0 c512_i32
  let c48_i32 : BitVec 32 := 48#32
  let v337 : BitVec 32 := Scalar.addi v0 c48_i32
  let v338 : Index := Scalar.indexCast v337
  ![v338.toNat]
def k0_off98 (v339 : BitVec 32) : Fin 2 → Nat :=
  let c0_i32_146 : BitVec 32 := 0#32
  ![v339.toNat, 0]

def k0_chk49 (v339 : BitVec 32) : Prop :=
  (∀ a, (k0_off98 v339) a + S1x768.size a ≤ S50257x768.size a)
theorem k0_off98_inb : ∀ (v339 : BitVec 32) (k0_hw49 : k0_chk49 v339), ∀ a, (k0_off98 v339) a + S1x768.size a ≤ S50257x768.size a := fun v339 k0_hw49 => k0_hw49

def k0_off99 (i : grid0.Coords) : Fin 1 → Nat :=
  let arg0 : BitVec 32 := BitVec.ofNat 32 (i 0).val
  let c512_i32 : BitVec 32 := 512#32
  let v0 : BitVec 32 := Scalar.muli arg0 c512_i32
  let c49_i32 : BitVec 32 := 49#32
  let v344 : BitVec 32 := Scalar.addi v0 c49_i32
  let v345 : Index := Scalar.indexCast v344
  ![v345.toNat]
def k0_off100 (v346 : BitVec 32) : Fin 2 → Nat :=
  let c0_i32_149 : BitVec 32 := 0#32
  ![v346.toNat, 0]

def k0_chk50 (v346 : BitVec 32) : Prop :=
  (∀ a, (k0_off100 v346) a + S1x768.size a ≤ S50257x768.size a)
theorem k0_off100_inb : ∀ (v346 : BitVec 32) (k0_hw50 : k0_chk50 v346), ∀ a, (k0_off100 v346) a + S1x768.size a ≤ S50257x768.size a := fun v346 k0_hw50 => k0_hw50

def k0_off101 (i : grid0.Coords) : Fin 1 → Nat :=
  let arg0 : BitVec 32 := BitVec.ofNat 32 (i 0).val
  let c512_i32 : BitVec 32 := 512#32
  let v0 : BitVec 32 := Scalar.muli arg0 c512_i32
  let c50_i32 : BitVec 32 := 50#32
  let v351 : BitVec 32 := Scalar.addi v0 c50_i32
  let v352 : Index := Scalar.indexCast v351
  ![v352.toNat]
def k0_off102 (v353 : BitVec 32) : Fin 2 → Nat :=
  let c0_i32_152 : BitVec 32 := 0#32
  ![v353.toNat, 0]

def k0_chk51 (v353 : BitVec 32) : Prop :=
  (∀ a, (k0_off102 v353) a + S1x768.size a ≤ S50257x768.size a)
theorem k0_off102_inb : ∀ (v353 : BitVec 32) (k0_hw51 : k0_chk51 v353), ∀ a, (k0_off102 v353) a + S1x768.size a ≤ S50257x768.size a := fun v353 k0_hw51 => k0_hw51

def k0_off103 (i : grid0.Coords) : Fin 1 → Nat :=
  let arg0 : BitVec 32 := BitVec.ofNat 32 (i 0).val
  let c512_i32 : BitVec 32 := 512#32
  let v0 : BitVec 32 := Scalar.muli arg0 c512_i32
  let c51_i32 : BitVec 32 := 51#32
  let v358 : BitVec 32 := Scalar.addi v0 c51_i32
  let v359 : Index := Scalar.indexCast v358
  ![v359.toNat]
def k0_off104 (v360 : BitVec 32) : Fin 2 → Nat :=
  let c0_i32_155 : BitVec 32 := 0#32
  ![v360.toNat, 0]

def k0_chk52 (v360 : BitVec 32) : Prop :=
  (∀ a, (k0_off104 v360) a + S1x768.size a ≤ S50257x768.size a)
theorem k0_off104_inb : ∀ (v360 : BitVec 32) (k0_hw52 : k0_chk52 v360), ∀ a, (k0_off104 v360) a + S1x768.size a ≤ S50257x768.size a := fun v360 k0_hw52 => k0_hw52

def k0_off105 (i : grid0.Coords) : Fin 1 → Nat :=
  let arg0 : BitVec 32 := BitVec.ofNat 32 (i 0).val
  let c512_i32 : BitVec 32 := 512#32
  let v0 : BitVec 32 := Scalar.muli arg0 c512_i32
  let c52_i32 : BitVec 32 := 52#32
  let v365 : BitVec 32 := Scalar.addi v0 c52_i32
  let v366 : Index := Scalar.indexCast v365
  ![v366.toNat]
def k0_off106 (v367 : BitVec 32) : Fin 2 → Nat :=
  let c0_i32_158 : BitVec 32 := 0#32
  ![v367.toNat, 0]

def k0_chk53 (v367 : BitVec 32) : Prop :=
  (∀ a, (k0_off106 v367) a + S1x768.size a ≤ S50257x768.size a)
theorem k0_off106_inb : ∀ (v367 : BitVec 32) (k0_hw53 : k0_chk53 v367), ∀ a, (k0_off106 v367) a + S1x768.size a ≤ S50257x768.size a := fun v367 k0_hw53 => k0_hw53

def k0_off107 (i : grid0.Coords) : Fin 1 → Nat :=
  let arg0 : BitVec 32 := BitVec.ofNat 32 (i 0).val
  let c512_i32 : BitVec 32 := 512#32
  let v0 : BitVec 32 := Scalar.muli arg0 c512_i32
  let c53_i32 : BitVec 32 := 53#32
  let v372 : BitVec 32 := Scalar.addi v0 c53_i32
  let v373 : Index := Scalar.indexCast v372
  ![v373.toNat]
def k0_off108 (v374 : BitVec 32) : Fin 2 → Nat :=
  let c0_i32_161 : BitVec 32 := 0#32
  ![v374.toNat, 0]

def k0_chk54 (v374 : BitVec 32) : Prop :=
  (∀ a, (k0_off108 v374) a + S1x768.size a ≤ S50257x768.size a)
theorem k0_off108_inb : ∀ (v374 : BitVec 32) (k0_hw54 : k0_chk54 v374), ∀ a, (k0_off108 v374) a + S1x768.size a ≤ S50257x768.size a := fun v374 k0_hw54 => k0_hw54

def k0_off109 (i : grid0.Coords) : Fin 1 → Nat :=
  let arg0 : BitVec 32 := BitVec.ofNat 32 (i 0).val
  let c512_i32 : BitVec 32 := 512#32
  let v0 : BitVec 32 := Scalar.muli arg0 c512_i32
  let c54_i32 : BitVec 32 := 54#32
  let v379 : BitVec 32 := Scalar.addi v0 c54_i32
  let v380 : Index := Scalar.indexCast v379
  ![v380.toNat]
def k0_off110 (v381 : BitVec 32) : Fin 2 → Nat :=
  let c0_i32_164 : BitVec 32 := 0#32
  ![v381.toNat, 0]

def k0_chk55 (v381 : BitVec 32) : Prop :=
  (∀ a, (k0_off110 v381) a + S1x768.size a ≤ S50257x768.size a)
theorem k0_off110_inb : ∀ (v381 : BitVec 32) (k0_hw55 : k0_chk55 v381), ∀ a, (k0_off110 v381) a + S1x768.size a ≤ S50257x768.size a := fun v381 k0_hw55 => k0_hw55

def k0_off111 (i : grid0.Coords) : Fin 1 → Nat :=
  let arg0 : BitVec 32 := BitVec.ofNat 32 (i 0).val
  let c512_i32 : BitVec 32 := 512#32
  let v0 : BitVec 32 := Scalar.muli arg0 c512_i32
  let c55_i32 : BitVec 32 := 55#32
  let v386 : BitVec 32 := Scalar.addi v0 c55_i32
  let v387 : Index := Scalar.indexCast v386
  ![v387.toNat]
def k0_off112 (v388 : BitVec 32) : Fin 2 → Nat :=
  let c0_i32_167 : BitVec 32 := 0#32
  ![v388.toNat, 0]

def k0_chk56 (v388 : BitVec 32) : Prop :=
  (∀ a, (k0_off112 v388) a + S1x768.size a ≤ S50257x768.size a)
theorem k0_off112_inb : ∀ (v388 : BitVec 32) (k0_hw56 : k0_chk56 v388), ∀ a, (k0_off112 v388) a + S1x768.size a ≤ S50257x768.size a := fun v388 k0_hw56 => k0_hw56

def k0_off113 (i : grid0.Coords) : Fin 1 → Nat :=
  let arg0 : BitVec 32 := BitVec.ofNat 32 (i 0).val
  let c512_i32 : BitVec 32 := 512#32
  let v0 : BitVec 32 := Scalar.muli arg0 c512_i32
  let c56_i32 : BitVec 32 := 56#32
  let v393 : BitVec 32 := Scalar.addi v0 c56_i32
  let v394 : Index := Scalar.indexCast v393
  ![v394.toNat]
def k0_off114 (v395 : BitVec 32) : Fin 2 → Nat :=
  let c0_i32_170 : BitVec 32 := 0#32
  ![v395.toNat, 0]

def k0_chk57 (v395 : BitVec 32) : Prop :=
  (∀ a, (k0_off114 v395) a + S1x768.size a ≤ S50257x768.size a)
theorem k0_off114_inb : ∀ (v395 : BitVec 32) (k0_hw57 : k0_chk57 v395), ∀ a, (k0_off114 v395) a + S1x768.size a ≤ S50257x768.size a := fun v395 k0_hw57 => k0_hw57

def k0_off115 (i : grid0.Coords) : Fin 1 → Nat :=
  let arg0 : BitVec 32 := BitVec.ofNat 32 (i 0).val
  let c512_i32 : BitVec 32 := 512#32
  let v0 : BitVec 32 := Scalar.muli arg0 c512_i32
  let c57_i32 : BitVec 32 := 57#32
  let v400 : BitVec 32 := Scalar.addi v0 c57_i32
  let v401 : Index := Scalar.indexCast v400
  ![v401.toNat]
def k0_off116 (v402 : BitVec 32) : Fin 2 → Nat :=
  let c0_i32_173 : BitVec 32 := 0#32
  ![v402.toNat, 0]

def k0_chk58 (v402 : BitVec 32) : Prop :=
  (∀ a, (k0_off116 v402) a + S1x768.size a ≤ S50257x768.size a)
theorem k0_off116_inb : ∀ (v402 : BitVec 32) (k0_hw58 : k0_chk58 v402), ∀ a, (k0_off116 v402) a + S1x768.size a ≤ S50257x768.size a := fun v402 k0_hw58 => k0_hw58

def k0_off117 (i : grid0.Coords) : Fin 1 → Nat :=
  let arg0 : BitVec 32 := BitVec.ofNat 32 (i 0).val
  let c512_i32 : BitVec 32 := 512#32
  let v0 : BitVec 32 := Scalar.muli arg0 c512_i32
  let c58_i32 : BitVec 32 := 58#32
  let v407 : BitVec 32 := Scalar.addi v0 c58_i32
  let v408 : Index := Scalar.indexCast v407
  ![v408.toNat]
def k0_off118 (v409 : BitVec 32) : Fin 2 → Nat :=
  let c0_i32_176 : BitVec 32 := 0#32
  ![v409.toNat, 0]

def k0_chk59 (v409 : BitVec 32) : Prop :=
  (∀ a, (k0_off118 v409) a + S1x768.size a ≤ S50257x768.size a)
theorem k0_off118_inb : ∀ (v409 : BitVec 32) (k0_hw59 : k0_chk59 v409), ∀ a, (k0_off118 v409) a + S1x768.size a ≤ S50257x768.size a := fun v409 k0_hw59 => k0_hw59

def k0_off119 (i : grid0.Coords) : Fin 1 → Nat :=
  let arg0 : BitVec 32 := BitVec.ofNat 32 (i 0).val
  let c512_i32 : BitVec 32 := 512#32
  let v0 : BitVec 32 := Scalar.muli arg0 c512_i32
  let c59_i32 : BitVec 32 := 59#32
  let v414 : BitVec 32 := Scalar.addi v0 c59_i32
  let v415 : Index := Scalar.indexCast v414
  ![v415.toNat]
def k0_off120 (v416 : BitVec 32) : Fin 2 → Nat :=
  let c0_i32_179 : BitVec 32 := 0#32
  ![v416.toNat, 0]

def k0_chk60 (v416 : BitVec 32) : Prop :=
  (∀ a, (k0_off120 v416) a + S1x768.size a ≤ S50257x768.size a)
theorem k0_off120_inb : ∀ (v416 : BitVec 32) (k0_hw60 : k0_chk60 v416), ∀ a, (k0_off120 v416) a + S1x768.size a ≤ S50257x768.size a := fun v416 k0_hw60 => k0_hw60

def k0_off121 (i : grid0.Coords) : Fin 1 → Nat :=
  let arg0 : BitVec 32 := BitVec.ofNat 32 (i 0).val
  let c512_i32 : BitVec 32 := 512#32
  let v0 : BitVec 32 := Scalar.muli arg0 c512_i32
  let c60_i32 : BitVec 32 := 60#32
  let v421 : BitVec 32 := Scalar.addi v0 c60_i32
  let v422 : Index := Scalar.indexCast v421
  ![v422.toNat]
def k0_off122 (v423 : BitVec 32) : Fin 2 → Nat :=
  let c0_i32_182 : BitVec 32 := 0#32
  ![v423.toNat, 0]

def k0_chk61 (v423 : BitVec 32) : Prop :=
  (∀ a, (k0_off122 v423) a + S1x768.size a ≤ S50257x768.size a)
theorem k0_off122_inb : ∀ (v423 : BitVec 32) (k0_hw61 : k0_chk61 v423), ∀ a, (k0_off122 v423) a + S1x768.size a ≤ S50257x768.size a := fun v423 k0_hw61 => k0_hw61

def k0_off123 (i : grid0.Coords) : Fin 1 → Nat :=
  let arg0 : BitVec 32 := BitVec.ofNat 32 (i 0).val
  let c512_i32 : BitVec 32 := 512#32
  let v0 : BitVec 32 := Scalar.muli arg0 c512_i32
  let c61_i32 : BitVec 32 := 61#32
  let v428 : BitVec 32 := Scalar.addi v0 c61_i32
  let v429 : Index := Scalar.indexCast v428
  ![v429.toNat]
def k0_off124 (v430 : BitVec 32) : Fin 2 → Nat :=
  let c0_i32_185 : BitVec 32 := 0#32
  ![v430.toNat, 0]

def k0_chk62 (v430 : BitVec 32) : Prop :=
  (∀ a, (k0_off124 v430) a + S1x768.size a ≤ S50257x768.size a)
theorem k0_off124_inb : ∀ (v430 : BitVec 32) (k0_hw62 : k0_chk62 v430), ∀ a, (k0_off124 v430) a + S1x768.size a ≤ S50257x768.size a := fun v430 k0_hw62 => k0_hw62

def k0_off125 (i : grid0.Coords) : Fin 1 → Nat :=
  let arg0 : BitVec 32 := BitVec.ofNat 32 (i 0).val
  let c512_i32 : BitVec 32 := 512#32
  let v0 : BitVec 32 := Scalar.muli arg0 c512_i32
  let c62_i32 : BitVec 32 := 62#32
  let v435 : BitVec 32 := Scalar.addi v0 c62_i32
  let v436 : Index := Scalar.indexCast v435
  ![v436.toNat]
def k0_off126 (v437 : BitVec 32) : Fin 2 → Nat :=
  let c0_i32_188 : BitVec 32 := 0#32
  ![v437.toNat, 0]

def k0_chk63 (v437 : BitVec 32) : Prop :=
  (∀ a, (k0_off126 v437) a + S1x768.size a ≤ S50257x768.size a)
theorem k0_off126_inb : ∀ (v437 : BitVec 32) (k0_hw63 : k0_chk63 v437), ∀ a, (k0_off126 v437) a + S1x768.size a ≤ S50257x768.size a := fun v437 k0_hw63 => k0_hw63

def k0_off127 (i : grid0.Coords) : Fin 1 → Nat :=
  let arg0 : BitVec 32 := BitVec.ofNat 32 (i 0).val
  let c512_i32 : BitVec 32 := 512#32
  let v0 : BitVec 32 := Scalar.muli arg0 c512_i32
  let c63_i32 : BitVec 32 := 63#32
  let v442 : BitVec 32 := Scalar.addi v0 c63_i32
  let v443 : Index := Scalar.indexCast v442
  ![v443.toNat]
def k0_off128 (v444 : BitVec 32) : Fin 2 → Nat :=
  let c0_i32_191 : BitVec 32 := 0#32
  ![v444.toNat, 0]

def k0_chk64 (v444 : BitVec 32) : Prop :=
  (∀ a, (k0_off128 v444) a + S1x768.size a ≤ S50257x768.size a)
theorem k0_off128_inb : ∀ (v444 : BitVec 32) (k0_hw64 : k0_chk64 v444), ∀ a, (k0_off128 v444) a + S1x768.size a ≤ S50257x768.size a := fun v444 k0_hw64 => k0_hw64

def k0_off129 (i : grid0.Coords) : Fin 1 → Nat :=
  let arg0 : BitVec 32 := BitVec.ofNat 32 (i 0).val
  let c512_i32 : BitVec 32 := 512#32
  let v0 : BitVec 32 := Scalar.muli arg0 c512_i32
  let c64_i32 : BitVec 32 := 64#32
  let v449 : BitVec 32 := Scalar.addi v0 c64_i32
  let v450 : Index := Scalar.indexCast v449
  ![v450.toNat]
def k0_off130 (v451 : BitVec 32) : Fin 2 → Nat :=
  let c0_i32_194 : BitVec 32 := 0#32
  ![v451.toNat, 0]

def k0_chk65 (v451 : BitVec 32) : Prop :=
  (∀ a, (k0_off130 v451) a + S1x768.size a ≤ S50257x768.size a)
theorem k0_off130_inb : ∀ (v451 : BitVec 32) (k0_hw65 : k0_chk65 v451), ∀ a, (k0_off130 v451) a + S1x768.size a ≤ S50257x768.size a := fun v451 k0_hw65 => k0_hw65

def k0_off131 (i : grid0.Coords) : Fin 1 → Nat :=
  let arg0 : BitVec 32 := BitVec.ofNat 32 (i 0).val
  let c512_i32 : BitVec 32 := 512#32
  let v0 : BitVec 32 := Scalar.muli arg0 c512_i32
  let c65_i32 : BitVec 32 := 65#32
  let v456 : BitVec 32 := Scalar.addi v0 c65_i32
  let v457 : Index := Scalar.indexCast v456
  ![v457.toNat]
def k0_off132 (v458 : BitVec 32) : Fin 2 → Nat :=
  let c0_i32_197 : BitVec 32 := 0#32
  ![v458.toNat, 0]

def k0_chk66 (v458 : BitVec 32) : Prop :=
  (∀ a, (k0_off132 v458) a + S1x768.size a ≤ S50257x768.size a)
theorem k0_off132_inb : ∀ (v458 : BitVec 32) (k0_hw66 : k0_chk66 v458), ∀ a, (k0_off132 v458) a + S1x768.size a ≤ S50257x768.size a := fun v458 k0_hw66 => k0_hw66

def k0_off133 (i : grid0.Coords) : Fin 1 → Nat :=
  let arg0 : BitVec 32 := BitVec.ofNat 32 (i 0).val
  let c512_i32 : BitVec 32 := 512#32
  let v0 : BitVec 32 := Scalar.muli arg0 c512_i32
  let c66_i32 : BitVec 32 := 66#32
  let v463 : BitVec 32 := Scalar.addi v0 c66_i32
  let v464 : Index := Scalar.indexCast v463
  ![v464.toNat]
def k0_off134 (v465 : BitVec 32) : Fin 2 → Nat :=
  let c0_i32_200 : BitVec 32 := 0#32
  ![v465.toNat, 0]

def k0_chk67 (v465 : BitVec 32) : Prop :=
  (∀ a, (k0_off134 v465) a + S1x768.size a ≤ S50257x768.size a)
theorem k0_off134_inb : ∀ (v465 : BitVec 32) (k0_hw67 : k0_chk67 v465), ∀ a, (k0_off134 v465) a + S1x768.size a ≤ S50257x768.size a := fun v465 k0_hw67 => k0_hw67

def k0_off135 (i : grid0.Coords) : Fin 1 → Nat :=
  let arg0 : BitVec 32 := BitVec.ofNat 32 (i 0).val
  let c512_i32 : BitVec 32 := 512#32
  let v0 : BitVec 32 := Scalar.muli arg0 c512_i32
  let c67_i32 : BitVec 32 := 67#32
  let v470 : BitVec 32 := Scalar.addi v0 c67_i32
  let v471 : Index := Scalar.indexCast v470
  ![v471.toNat]
def k0_off136 (v472 : BitVec 32) : Fin 2 → Nat :=
  let c0_i32_203 : BitVec 32 := 0#32
  ![v472.toNat, 0]

def k0_chk68 (v472 : BitVec 32) : Prop :=
  (∀ a, (k0_off136 v472) a + S1x768.size a ≤ S50257x768.size a)
theorem k0_off136_inb : ∀ (v472 : BitVec 32) (k0_hw68 : k0_chk68 v472), ∀ a, (k0_off136 v472) a + S1x768.size a ≤ S50257x768.size a := fun v472 k0_hw68 => k0_hw68

def k0_off137 (i : grid0.Coords) : Fin 1 → Nat :=
  let arg0 : BitVec 32 := BitVec.ofNat 32 (i 0).val
  let c512_i32 : BitVec 32 := 512#32
  let v0 : BitVec 32 := Scalar.muli arg0 c512_i32
  let c68_i32 : BitVec 32 := 68#32
  let v477 : BitVec 32 := Scalar.addi v0 c68_i32
  let v478 : Index := Scalar.indexCast v477
  ![v478.toNat]
def k0_off138 (v479 : BitVec 32) : Fin 2 → Nat :=
  let c0_i32_206 : BitVec 32 := 0#32
  ![v479.toNat, 0]

def k0_chk69 (v479 : BitVec 32) : Prop :=
  (∀ a, (k0_off138 v479) a + S1x768.size a ≤ S50257x768.size a)
theorem k0_off138_inb : ∀ (v479 : BitVec 32) (k0_hw69 : k0_chk69 v479), ∀ a, (k0_off138 v479) a + S1x768.size a ≤ S50257x768.size a := fun v479 k0_hw69 => k0_hw69

def k0_off139 (i : grid0.Coords) : Fin 1 → Nat :=
  let arg0 : BitVec 32 := BitVec.ofNat 32 (i 0).val
  let c512_i32 : BitVec 32 := 512#32
  let v0 : BitVec 32 := Scalar.muli arg0 c512_i32
  let c69_i32 : BitVec 32 := 69#32
  let v484 : BitVec 32 := Scalar.addi v0 c69_i32
  let v485 : Index := Scalar.indexCast v484
  ![v485.toNat]
def k0_off140 (v486 : BitVec 32) : Fin 2 → Nat :=
  let c0_i32_209 : BitVec 32 := 0#32
  ![v486.toNat, 0]

def k0_chk70 (v486 : BitVec 32) : Prop :=
  (∀ a, (k0_off140 v486) a + S1x768.size a ≤ S50257x768.size a)
theorem k0_off140_inb : ∀ (v486 : BitVec 32) (k0_hw70 : k0_chk70 v486), ∀ a, (k0_off140 v486) a + S1x768.size a ≤ S50257x768.size a := fun v486 k0_hw70 => k0_hw70

def k0_off141 (i : grid0.Coords) : Fin 1 → Nat :=
  let arg0 : BitVec 32 := BitVec.ofNat 32 (i 0).val
  let c512_i32 : BitVec 32 := 512#32
  let v0 : BitVec 32 := Scalar.muli arg0 c512_i32
  let c70_i32 : BitVec 32 := 70#32
  let v491 : BitVec 32 := Scalar.addi v0 c70_i32
  let v492 : Index := Scalar.indexCast v491
  ![v492.toNat]
def k0_off142 (v493 : BitVec 32) : Fin 2 → Nat :=
  let c0_i32_212 : BitVec 32 := 0#32
  ![v493.toNat, 0]

def k0_chk71 (v493 : BitVec 32) : Prop :=
  (∀ a, (k0_off142 v493) a + S1x768.size a ≤ S50257x768.size a)
theorem k0_off142_inb : ∀ (v493 : BitVec 32) (k0_hw71 : k0_chk71 v493), ∀ a, (k0_off142 v493) a + S1x768.size a ≤ S50257x768.size a := fun v493 k0_hw71 => k0_hw71

def k0_off143 (i : grid0.Coords) : Fin 1 → Nat :=
  let arg0 : BitVec 32 := BitVec.ofNat 32 (i 0).val
  let c512_i32 : BitVec 32 := 512#32
  let v0 : BitVec 32 := Scalar.muli arg0 c512_i32
  let c71_i32 : BitVec 32 := 71#32
  let v498 : BitVec 32 := Scalar.addi v0 c71_i32
  let v499 : Index := Scalar.indexCast v498
  ![v499.toNat]
def k0_off144 (v500 : BitVec 32) : Fin 2 → Nat :=
  let c0_i32_215 : BitVec 32 := 0#32
  ![v500.toNat, 0]

def k0_chk72 (v500 : BitVec 32) : Prop :=
  (∀ a, (k0_off144 v500) a + S1x768.size a ≤ S50257x768.size a)
theorem k0_off144_inb : ∀ (v500 : BitVec 32) (k0_hw72 : k0_chk72 v500), ∀ a, (k0_off144 v500) a + S1x768.size a ≤ S50257x768.size a := fun v500 k0_hw72 => k0_hw72

def k0_off145 (i : grid0.Coords) : Fin 1 → Nat :=
  let arg0 : BitVec 32 := BitVec.ofNat 32 (i 0).val
  let c512_i32 : BitVec 32 := 512#32
  let v0 : BitVec 32 := Scalar.muli arg0 c512_i32
  let c72_i32 : BitVec 32 := 72#32
  let v505 : BitVec 32 := Scalar.addi v0 c72_i32
  let v506 : Index := Scalar.indexCast v505
  ![v506.toNat]
def k0_off146 (v507 : BitVec 32) : Fin 2 → Nat :=
  let c0_i32_218 : BitVec 32 := 0#32
  ![v507.toNat, 0]

def k0_chk73 (v507 : BitVec 32) : Prop :=
  (∀ a, (k0_off146 v507) a + S1x768.size a ≤ S50257x768.size a)
theorem k0_off146_inb : ∀ (v507 : BitVec 32) (k0_hw73 : k0_chk73 v507), ∀ a, (k0_off146 v507) a + S1x768.size a ≤ S50257x768.size a := fun v507 k0_hw73 => k0_hw73

def k0_off147 (i : grid0.Coords) : Fin 1 → Nat :=
  let arg0 : BitVec 32 := BitVec.ofNat 32 (i 0).val
  let c512_i32 : BitVec 32 := 512#32
  let v0 : BitVec 32 := Scalar.muli arg0 c512_i32
  let c73_i32 : BitVec 32 := 73#32
  let v512 : BitVec 32 := Scalar.addi v0 c73_i32
  let v513 : Index := Scalar.indexCast v512
  ![v513.toNat]
def k0_off148 (v514 : BitVec 32) : Fin 2 → Nat :=
  let c0_i32_221 : BitVec 32 := 0#32
  ![v514.toNat, 0]

def k0_chk74 (v514 : BitVec 32) : Prop :=
  (∀ a, (k0_off148 v514) a + S1x768.size a ≤ S50257x768.size a)
theorem k0_off148_inb : ∀ (v514 : BitVec 32) (k0_hw74 : k0_chk74 v514), ∀ a, (k0_off148 v514) a + S1x768.size a ≤ S50257x768.size a := fun v514 k0_hw74 => k0_hw74

def k0_off149 (i : grid0.Coords) : Fin 1 → Nat :=
  let arg0 : BitVec 32 := BitVec.ofNat 32 (i 0).val
  let c512_i32 : BitVec 32 := 512#32
  let v0 : BitVec 32 := Scalar.muli arg0 c512_i32
  let c74_i32 : BitVec 32 := 74#32
  let v519 : BitVec 32 := Scalar.addi v0 c74_i32
  let v520 : Index := Scalar.indexCast v519
  ![v520.toNat]
def k0_off150 (v521 : BitVec 32) : Fin 2 → Nat :=
  let c0_i32_224 : BitVec 32 := 0#32
  ![v521.toNat, 0]

def k0_chk75 (v521 : BitVec 32) : Prop :=
  (∀ a, (k0_off150 v521) a + S1x768.size a ≤ S50257x768.size a)
theorem k0_off150_inb : ∀ (v521 : BitVec 32) (k0_hw75 : k0_chk75 v521), ∀ a, (k0_off150 v521) a + S1x768.size a ≤ S50257x768.size a := fun v521 k0_hw75 => k0_hw75

def k0_off151 (i : grid0.Coords) : Fin 1 → Nat :=
  let arg0 : BitVec 32 := BitVec.ofNat 32 (i 0).val
  let c512_i32 : BitVec 32 := 512#32
  let v0 : BitVec 32 := Scalar.muli arg0 c512_i32
  let c75_i32 : BitVec 32 := 75#32
  let v526 : BitVec 32 := Scalar.addi v0 c75_i32
  let v527 : Index := Scalar.indexCast v526
  ![v527.toNat]
def k0_off152 (v528 : BitVec 32) : Fin 2 → Nat :=
  let c0_i32_227 : BitVec 32 := 0#32
  ![v528.toNat, 0]

def k0_chk76 (v528 : BitVec 32) : Prop :=
  (∀ a, (k0_off152 v528) a + S1x768.size a ≤ S50257x768.size a)
theorem k0_off152_inb : ∀ (v528 : BitVec 32) (k0_hw76 : k0_chk76 v528), ∀ a, (k0_off152 v528) a + S1x768.size a ≤ S50257x768.size a := fun v528 k0_hw76 => k0_hw76

def k0_off153 (i : grid0.Coords) : Fin 1 → Nat :=
  let arg0 : BitVec 32 := BitVec.ofNat 32 (i 0).val
  let c512_i32 : BitVec 32 := 512#32
  let v0 : BitVec 32 := Scalar.muli arg0 c512_i32
  let c76_i32 : BitVec 32 := 76#32
  let v533 : BitVec 32 := Scalar.addi v0 c76_i32
  let v534 : Index := Scalar.indexCast v533
  ![v534.toNat]
def k0_off154 (v535 : BitVec 32) : Fin 2 → Nat :=
  let c0_i32_230 : BitVec 32 := 0#32
  ![v535.toNat, 0]

def k0_chk77 (v535 : BitVec 32) : Prop :=
  (∀ a, (k0_off154 v535) a + S1x768.size a ≤ S50257x768.size a)
theorem k0_off154_inb : ∀ (v535 : BitVec 32) (k0_hw77 : k0_chk77 v535), ∀ a, (k0_off154 v535) a + S1x768.size a ≤ S50257x768.size a := fun v535 k0_hw77 => k0_hw77

def k0_off155 (i : grid0.Coords) : Fin 1 → Nat :=
  let arg0 : BitVec 32 := BitVec.ofNat 32 (i 0).val
  let c512_i32 : BitVec 32 := 512#32
  let v0 : BitVec 32 := Scalar.muli arg0 c512_i32
  let c77_i32 : BitVec 32 := 77#32
  let v540 : BitVec 32 := Scalar.addi v0 c77_i32
  let v541 : Index := Scalar.indexCast v540
  ![v541.toNat]
def k0_off156 (v542 : BitVec 32) : Fin 2 → Nat :=
  let c0_i32_233 : BitVec 32 := 0#32
  ![v542.toNat, 0]

def k0_chk78 (v542 : BitVec 32) : Prop :=
  (∀ a, (k0_off156 v542) a + S1x768.size a ≤ S50257x768.size a)
theorem k0_off156_inb : ∀ (v542 : BitVec 32) (k0_hw78 : k0_chk78 v542), ∀ a, (k0_off156 v542) a + S1x768.size a ≤ S50257x768.size a := fun v542 k0_hw78 => k0_hw78

def k0_off157 (i : grid0.Coords) : Fin 1 → Nat :=
  let arg0 : BitVec 32 := BitVec.ofNat 32 (i 0).val
  let c512_i32 : BitVec 32 := 512#32
  let v0 : BitVec 32 := Scalar.muli arg0 c512_i32
  let c78_i32 : BitVec 32 := 78#32
  let v547 : BitVec 32 := Scalar.addi v0 c78_i32
  let v548 : Index := Scalar.indexCast v547
  ![v548.toNat]
def k0_off158 (v549 : BitVec 32) : Fin 2 → Nat :=
  let c0_i32_236 : BitVec 32 := 0#32
  ![v549.toNat, 0]

def k0_chk79 (v549 : BitVec 32) : Prop :=
  (∀ a, (k0_off158 v549) a + S1x768.size a ≤ S50257x768.size a)
theorem k0_off158_inb : ∀ (v549 : BitVec 32) (k0_hw79 : k0_chk79 v549), ∀ a, (k0_off158 v549) a + S1x768.size a ≤ S50257x768.size a := fun v549 k0_hw79 => k0_hw79

def k0_off159 (i : grid0.Coords) : Fin 1 → Nat :=
  let arg0 : BitVec 32 := BitVec.ofNat 32 (i 0).val
  let c512_i32 : BitVec 32 := 512#32
  let v0 : BitVec 32 := Scalar.muli arg0 c512_i32
  let c79_i32 : BitVec 32 := 79#32
  let v554 : BitVec 32 := Scalar.addi v0 c79_i32
  let v555 : Index := Scalar.indexCast v554
  ![v555.toNat]
def k0_off160 (v556 : BitVec 32) : Fin 2 → Nat :=
  let c0_i32_239 : BitVec 32 := 0#32
  ![v556.toNat, 0]

def k0_chk80 (v556 : BitVec 32) : Prop :=
  (∀ a, (k0_off160 v556) a + S1x768.size a ≤ S50257x768.size a)
theorem k0_off160_inb : ∀ (v556 : BitVec 32) (k0_hw80 : k0_chk80 v556), ∀ a, (k0_off160 v556) a + S1x768.size a ≤ S50257x768.size a := fun v556 k0_hw80 => k0_hw80

def k0_off161 (i : grid0.Coords) : Fin 1 → Nat :=
  let arg0 : BitVec 32 := BitVec.ofNat 32 (i 0).val
  let c512_i32 : BitVec 32 := 512#32
  let v0 : BitVec 32 := Scalar.muli arg0 c512_i32
  let c80_i32 : BitVec 32 := 80#32
  let v561 : BitVec 32 := Scalar.addi v0 c80_i32
  let v562 : Index := Scalar.indexCast v561
  ![v562.toNat]
def k0_off162 (v563 : BitVec 32) : Fin 2 → Nat :=
  let c0_i32_242 : BitVec 32 := 0#32
  ![v563.toNat, 0]

def k0_chk81 (v563 : BitVec 32) : Prop :=
  (∀ a, (k0_off162 v563) a + S1x768.size a ≤ S50257x768.size a)
theorem k0_off162_inb : ∀ (v563 : BitVec 32) (k0_hw81 : k0_chk81 v563), ∀ a, (k0_off162 v563) a + S1x768.size a ≤ S50257x768.size a := fun v563 k0_hw81 => k0_hw81

def k0_off163 (i : grid0.Coords) : Fin 1 → Nat :=
  let arg0 : BitVec 32 := BitVec.ofNat 32 (i 0).val
  let c512_i32 : BitVec 32 := 512#32
  let v0 : BitVec 32 := Scalar.muli arg0 c512_i32
  let c81_i32 : BitVec 32 := 81#32
  let v568 : BitVec 32 := Scalar.addi v0 c81_i32
  let v569 : Index := Scalar.indexCast v568
  ![v569.toNat]
def k0_off164 (v570 : BitVec 32) : Fin 2 → Nat :=
  let c0_i32_245 : BitVec 32 := 0#32
  ![v570.toNat, 0]

def k0_chk82 (v570 : BitVec 32) : Prop :=
  (∀ a, (k0_off164 v570) a + S1x768.size a ≤ S50257x768.size a)
theorem k0_off164_inb : ∀ (v570 : BitVec 32) (k0_hw82 : k0_chk82 v570), ∀ a, (k0_off164 v570) a + S1x768.size a ≤ S50257x768.size a := fun v570 k0_hw82 => k0_hw82

def k0_off165 (i : grid0.Coords) : Fin 1 → Nat :=
  let arg0 : BitVec 32 := BitVec.ofNat 32 (i 0).val
  let c512_i32 : BitVec 32 := 512#32
  let v0 : BitVec 32 := Scalar.muli arg0 c512_i32
  let c82_i32 : BitVec 32 := 82#32
  let v575 : BitVec 32 := Scalar.addi v0 c82_i32
  let v576 : Index := Scalar.indexCast v575
  ![v576.toNat]
def k0_off166 (v577 : BitVec 32) : Fin 2 → Nat :=
  let c0_i32_248 : BitVec 32 := 0#32
  ![v577.toNat, 0]

def k0_chk83 (v577 : BitVec 32) : Prop :=
  (∀ a, (k0_off166 v577) a + S1x768.size a ≤ S50257x768.size a)
theorem k0_off166_inb : ∀ (v577 : BitVec 32) (k0_hw83 : k0_chk83 v577), ∀ a, (k0_off166 v577) a + S1x768.size a ≤ S50257x768.size a := fun v577 k0_hw83 => k0_hw83

def k0_off167 (i : grid0.Coords) : Fin 1 → Nat :=
  let arg0 : BitVec 32 := BitVec.ofNat 32 (i 0).val
  let c512_i32 : BitVec 32 := 512#32
  let v0 : BitVec 32 := Scalar.muli arg0 c512_i32
  let c83_i32 : BitVec 32 := 83#32
  let v582 : BitVec 32 := Scalar.addi v0 c83_i32
  let v583 : Index := Scalar.indexCast v582
  ![v583.toNat]
def k0_off168 (v584 : BitVec 32) : Fin 2 → Nat :=
  let c0_i32_251 : BitVec 32 := 0#32
  ![v584.toNat, 0]

def k0_chk84 (v584 : BitVec 32) : Prop :=
  (∀ a, (k0_off168 v584) a + S1x768.size a ≤ S50257x768.size a)
theorem k0_off168_inb : ∀ (v584 : BitVec 32) (k0_hw84 : k0_chk84 v584), ∀ a, (k0_off168 v584) a + S1x768.size a ≤ S50257x768.size a := fun v584 k0_hw84 => k0_hw84

def k0_off169 (i : grid0.Coords) : Fin 1 → Nat :=
  let arg0 : BitVec 32 := BitVec.ofNat 32 (i 0).val
  let c512_i32 : BitVec 32 := 512#32
  let v0 : BitVec 32 := Scalar.muli arg0 c512_i32
  let c84_i32 : BitVec 32 := 84#32
  let v589 : BitVec 32 := Scalar.addi v0 c84_i32
  let v590 : Index := Scalar.indexCast v589
  ![v590.toNat]
def k0_off170 (v591 : BitVec 32) : Fin 2 → Nat :=
  let c0_i32_254 : BitVec 32 := 0#32
  ![v591.toNat, 0]

def k0_chk85 (v591 : BitVec 32) : Prop :=
  (∀ a, (k0_off170 v591) a + S1x768.size a ≤ S50257x768.size a)
theorem k0_off170_inb : ∀ (v591 : BitVec 32) (k0_hw85 : k0_chk85 v591), ∀ a, (k0_off170 v591) a + S1x768.size a ≤ S50257x768.size a := fun v591 k0_hw85 => k0_hw85

def k0_off171 (i : grid0.Coords) : Fin 1 → Nat :=
  let arg0 : BitVec 32 := BitVec.ofNat 32 (i 0).val
  let c512_i32 : BitVec 32 := 512#32
  let v0 : BitVec 32 := Scalar.muli arg0 c512_i32
  let c85_i32 : BitVec 32 := 85#32
  let v596 : BitVec 32 := Scalar.addi v0 c85_i32
  let v597 : Index := Scalar.indexCast v596
  ![v597.toNat]
def k0_off172 (v598 : BitVec 32) : Fin 2 → Nat :=
  let c0_i32_257 : BitVec 32 := 0#32
  ![v598.toNat, 0]

def k0_chk86 (v598 : BitVec 32) : Prop :=
  (∀ a, (k0_off172 v598) a + S1x768.size a ≤ S50257x768.size a)
theorem k0_off172_inb : ∀ (v598 : BitVec 32) (k0_hw86 : k0_chk86 v598), ∀ a, (k0_off172 v598) a + S1x768.size a ≤ S50257x768.size a := fun v598 k0_hw86 => k0_hw86

def k0_off173 (i : grid0.Coords) : Fin 1 → Nat :=
  let arg0 : BitVec 32 := BitVec.ofNat 32 (i 0).val
  let c512_i32 : BitVec 32 := 512#32
  let v0 : BitVec 32 := Scalar.muli arg0 c512_i32
  let c86_i32 : BitVec 32 := 86#32
  let v603 : BitVec 32 := Scalar.addi v0 c86_i32
  let v604 : Index := Scalar.indexCast v603
  ![v604.toNat]
def k0_off174 (v605 : BitVec 32) : Fin 2 → Nat :=
  let c0_i32_260 : BitVec 32 := 0#32
  ![v605.toNat, 0]

def k0_chk87 (v605 : BitVec 32) : Prop :=
  (∀ a, (k0_off174 v605) a + S1x768.size a ≤ S50257x768.size a)
theorem k0_off174_inb : ∀ (v605 : BitVec 32) (k0_hw87 : k0_chk87 v605), ∀ a, (k0_off174 v605) a + S1x768.size a ≤ S50257x768.size a := fun v605 k0_hw87 => k0_hw87

def k0_off175 (i : grid0.Coords) : Fin 1 → Nat :=
  let arg0 : BitVec 32 := BitVec.ofNat 32 (i 0).val
  let c512_i32 : BitVec 32 := 512#32
  let v0 : BitVec 32 := Scalar.muli arg0 c512_i32
  let c87_i32 : BitVec 32 := 87#32
  let v610 : BitVec 32 := Scalar.addi v0 c87_i32
  let v611 : Index := Scalar.indexCast v610
  ![v611.toNat]
def k0_off176 (v612 : BitVec 32) : Fin 2 → Nat :=
  let c0_i32_263 : BitVec 32 := 0#32
  ![v612.toNat, 0]

def k0_chk88 (v612 : BitVec 32) : Prop :=
  (∀ a, (k0_off176 v612) a + S1x768.size a ≤ S50257x768.size a)
theorem k0_off176_inb : ∀ (v612 : BitVec 32) (k0_hw88 : k0_chk88 v612), ∀ a, (k0_off176 v612) a + S1x768.size a ≤ S50257x768.size a := fun v612 k0_hw88 => k0_hw88

def k0_off177 (i : grid0.Coords) : Fin 1 → Nat :=
  let arg0 : BitVec 32 := BitVec.ofNat 32 (i 0).val
  let c512_i32 : BitVec 32 := 512#32
  let v0 : BitVec 32 := Scalar.muli arg0 c512_i32
  let c88_i32 : BitVec 32 := 88#32
  let v617 : BitVec 32 := Scalar.addi v0 c88_i32
  let v618 : Index := Scalar.indexCast v617
  ![v618.toNat]
def k0_off178 (v619 : BitVec 32) : Fin 2 → Nat :=
  let c0_i32_266 : BitVec 32 := 0#32
  ![v619.toNat, 0]

def k0_chk89 (v619 : BitVec 32) : Prop :=
  (∀ a, (k0_off178 v619) a + S1x768.size a ≤ S50257x768.size a)
theorem k0_off178_inb : ∀ (v619 : BitVec 32) (k0_hw89 : k0_chk89 v619), ∀ a, (k0_off178 v619) a + S1x768.size a ≤ S50257x768.size a := fun v619 k0_hw89 => k0_hw89

def k0_off179 (i : grid0.Coords) : Fin 1 → Nat :=
  let arg0 : BitVec 32 := BitVec.ofNat 32 (i 0).val
  let c512_i32 : BitVec 32 := 512#32
  let v0 : BitVec 32 := Scalar.muli arg0 c512_i32
  let c89_i32 : BitVec 32 := 89#32
  let v624 : BitVec 32 := Scalar.addi v0 c89_i32
  let v625 : Index := Scalar.indexCast v624
  ![v625.toNat]
def k0_off180 (v626 : BitVec 32) : Fin 2 → Nat :=
  let c0_i32_269 : BitVec 32 := 0#32
  ![v626.toNat, 0]

def k0_chk90 (v626 : BitVec 32) : Prop :=
  (∀ a, (k0_off180 v626) a + S1x768.size a ≤ S50257x768.size a)
theorem k0_off180_inb : ∀ (v626 : BitVec 32) (k0_hw90 : k0_chk90 v626), ∀ a, (k0_off180 v626) a + S1x768.size a ≤ S50257x768.size a := fun v626 k0_hw90 => k0_hw90

def k0_off181 (i : grid0.Coords) : Fin 1 → Nat :=
  let arg0 : BitVec 32 := BitVec.ofNat 32 (i 0).val
  let c512_i32 : BitVec 32 := 512#32
  let v0 : BitVec 32 := Scalar.muli arg0 c512_i32
  let c90_i32 : BitVec 32 := 90#32
  let v631 : BitVec 32 := Scalar.addi v0 c90_i32
  let v632 : Index := Scalar.indexCast v631
  ![v632.toNat]
def k0_off182 (v633 : BitVec 32) : Fin 2 → Nat :=
  let c0_i32_272 : BitVec 32 := 0#32
  ![v633.toNat, 0]

def k0_chk91 (v633 : BitVec 32) : Prop :=
  (∀ a, (k0_off182 v633) a + S1x768.size a ≤ S50257x768.size a)
theorem k0_off182_inb : ∀ (v633 : BitVec 32) (k0_hw91 : k0_chk91 v633), ∀ a, (k0_off182 v633) a + S1x768.size a ≤ S50257x768.size a := fun v633 k0_hw91 => k0_hw91

def k0_off183 (i : grid0.Coords) : Fin 1 → Nat :=
  let arg0 : BitVec 32 := BitVec.ofNat 32 (i 0).val
  let c512_i32 : BitVec 32 := 512#32
  let v0 : BitVec 32 := Scalar.muli arg0 c512_i32
  let c91_i32 : BitVec 32 := 91#32
  let v638 : BitVec 32 := Scalar.addi v0 c91_i32
  let v639 : Index := Scalar.indexCast v638
  ![v639.toNat]
def k0_off184 (v640 : BitVec 32) : Fin 2 → Nat :=
  let c0_i32_275 : BitVec 32 := 0#32
  ![v640.toNat, 0]

def k0_chk92 (v640 : BitVec 32) : Prop :=
  (∀ a, (k0_off184 v640) a + S1x768.size a ≤ S50257x768.size a)
theorem k0_off184_inb : ∀ (v640 : BitVec 32) (k0_hw92 : k0_chk92 v640), ∀ a, (k0_off184 v640) a + S1x768.size a ≤ S50257x768.size a := fun v640 k0_hw92 => k0_hw92

def k0_off185 (i : grid0.Coords) : Fin 1 → Nat :=
  let arg0 : BitVec 32 := BitVec.ofNat 32 (i 0).val
  let c512_i32 : BitVec 32 := 512#32
  let v0 : BitVec 32 := Scalar.muli arg0 c512_i32
  let c92_i32 : BitVec 32 := 92#32
  let v645 : BitVec 32 := Scalar.addi v0 c92_i32
  let v646 : Index := Scalar.indexCast v645
  ![v646.toNat]
def k0_off186 (v647 : BitVec 32) : Fin 2 → Nat :=
  let c0_i32_278 : BitVec 32 := 0#32
  ![v647.toNat, 0]

def k0_chk93 (v647 : BitVec 32) : Prop :=
  (∀ a, (k0_off186 v647) a + S1x768.size a ≤ S50257x768.size a)
theorem k0_off186_inb : ∀ (v647 : BitVec 32) (k0_hw93 : k0_chk93 v647), ∀ a, (k0_off186 v647) a + S1x768.size a ≤ S50257x768.size a := fun v647 k0_hw93 => k0_hw93

def k0_off187 (i : grid0.Coords) : Fin 1 → Nat :=
  let arg0 : BitVec 32 := BitVec.ofNat 32 (i 0).val
  let c512_i32 : BitVec 32 := 512#32
  let v0 : BitVec 32 := Scalar.muli arg0 c512_i32
  let c93_i32 : BitVec 32 := 93#32
  let v652 : BitVec 32 := Scalar.addi v0 c93_i32
  let v653 : Index := Scalar.indexCast v652
  ![v653.toNat]
def k0_off188 (v654 : BitVec 32) : Fin 2 → Nat :=
  let c0_i32_281 : BitVec 32 := 0#32
  ![v654.toNat, 0]

def k0_chk94 (v654 : BitVec 32) : Prop :=
  (∀ a, (k0_off188 v654) a + S1x768.size a ≤ S50257x768.size a)
theorem k0_off188_inb : ∀ (v654 : BitVec 32) (k0_hw94 : k0_chk94 v654), ∀ a, (k0_off188 v654) a + S1x768.size a ≤ S50257x768.size a := fun v654 k0_hw94 => k0_hw94

def k0_off189 (i : grid0.Coords) : Fin 1 → Nat :=
  let arg0 : BitVec 32 := BitVec.ofNat 32 (i 0).val
  let c512_i32 : BitVec 32 := 512#32
  let v0 : BitVec 32 := Scalar.muli arg0 c512_i32
  let c94_i32 : BitVec 32 := 94#32
  let v659 : BitVec 32 := Scalar.addi v0 c94_i32
  let v660 : Index := Scalar.indexCast v659
  ![v660.toNat]
def k0_off190 (v661 : BitVec 32) : Fin 2 → Nat :=
  let c0_i32_284 : BitVec 32 := 0#32
  ![v661.toNat, 0]

def k0_chk95 (v661 : BitVec 32) : Prop :=
  (∀ a, (k0_off190 v661) a + S1x768.size a ≤ S50257x768.size a)
theorem k0_off190_inb : ∀ (v661 : BitVec 32) (k0_hw95 : k0_chk95 v661), ∀ a, (k0_off190 v661) a + S1x768.size a ≤ S50257x768.size a := fun v661 k0_hw95 => k0_hw95

def k0_off191 (i : grid0.Coords) : Fin 1 → Nat :=
  let arg0 : BitVec 32 := BitVec.ofNat 32 (i 0).val
  let c512_i32 : BitVec 32 := 512#32
  let v0 : BitVec 32 := Scalar.muli arg0 c512_i32
  let c95_i32 : BitVec 32 := 95#32
  let v666 : BitVec 32 := Scalar.addi v0 c95_i32
  let v667 : Index := Scalar.indexCast v666
  ![v667.toNat]
def k0_off192 (v668 : BitVec 32) : Fin 2 → Nat :=
  let c0_i32_287 : BitVec 32 := 0#32
  ![v668.toNat, 0]

def k0_chk96 (v668 : BitVec 32) : Prop :=
  (∀ a, (k0_off192 v668) a + S1x768.size a ≤ S50257x768.size a)
theorem k0_off192_inb : ∀ (v668 : BitVec 32) (k0_hw96 : k0_chk96 v668), ∀ a, (k0_off192 v668) a + S1x768.size a ≤ S50257x768.size a := fun v668 k0_hw96 => k0_hw96

def k0_off193 (i : grid0.Coords) : Fin 1 → Nat :=
  let arg0 : BitVec 32 := BitVec.ofNat 32 (i 0).val
  let c512_i32 : BitVec 32 := 512#32
  let v0 : BitVec 32 := Scalar.muli arg0 c512_i32
  let c96_i32 : BitVec 32 := 96#32
  let v673 : BitVec 32 := Scalar.addi v0 c96_i32
  let v674 : Index := Scalar.indexCast v673
  ![v674.toNat]
def k0_off194 (v675 : BitVec 32) : Fin 2 → Nat :=
  let c0_i32_290 : BitVec 32 := 0#32
  ![v675.toNat, 0]

def k0_chk97 (v675 : BitVec 32) : Prop :=
  (∀ a, (k0_off194 v675) a + S1x768.size a ≤ S50257x768.size a)
theorem k0_off194_inb : ∀ (v675 : BitVec 32) (k0_hw97 : k0_chk97 v675), ∀ a, (k0_off194 v675) a + S1x768.size a ≤ S50257x768.size a := fun v675 k0_hw97 => k0_hw97

def k0_off195 (i : grid0.Coords) : Fin 1 → Nat :=
  let arg0 : BitVec 32 := BitVec.ofNat 32 (i 0).val
  let c512_i32 : BitVec 32 := 512#32
  let v0 : BitVec 32 := Scalar.muli arg0 c512_i32
  let c97_i32 : BitVec 32 := 97#32
  let v680 : BitVec 32 := Scalar.addi v0 c97_i32
  let v681 : Index := Scalar.indexCast v680
  ![v681.toNat]
def k0_off196 (v682 : BitVec 32) : Fin 2 → Nat :=
  let c0_i32_293 : BitVec 32 := 0#32
  ![v682.toNat, 0]

def k0_chk98 (v682 : BitVec 32) : Prop :=
  (∀ a, (k0_off196 v682) a + S1x768.size a ≤ S50257x768.size a)
theorem k0_off196_inb : ∀ (v682 : BitVec 32) (k0_hw98 : k0_chk98 v682), ∀ a, (k0_off196 v682) a + S1x768.size a ≤ S50257x768.size a := fun v682 k0_hw98 => k0_hw98

def k0_off197 (i : grid0.Coords) : Fin 1 → Nat :=
  let arg0 : BitVec 32 := BitVec.ofNat 32 (i 0).val
  let c512_i32 : BitVec 32 := 512#32
  let v0 : BitVec 32 := Scalar.muli arg0 c512_i32
  let c98_i32 : BitVec 32 := 98#32
  let v687 : BitVec 32 := Scalar.addi v0 c98_i32
  let v688 : Index := Scalar.indexCast v687
  ![v688.toNat]
def k0_off198 (v689 : BitVec 32) : Fin 2 → Nat :=
  let c0_i32_296 : BitVec 32 := 0#32
  ![v689.toNat, 0]

def k0_chk99 (v689 : BitVec 32) : Prop :=
  (∀ a, (k0_off198 v689) a + S1x768.size a ≤ S50257x768.size a)
theorem k0_off198_inb : ∀ (v689 : BitVec 32) (k0_hw99 : k0_chk99 v689), ∀ a, (k0_off198 v689) a + S1x768.size a ≤ S50257x768.size a := fun v689 k0_hw99 => k0_hw99

def k0_off199 (i : grid0.Coords) : Fin 1 → Nat :=
  let arg0 : BitVec 32 := BitVec.ofNat 32 (i 0).val
  let c512_i32 : BitVec 32 := 512#32
  let v0 : BitVec 32 := Scalar.muli arg0 c512_i32
  let c99_i32 : BitVec 32 := 99#32
  let v694 : BitVec 32 := Scalar.addi v0 c99_i32
  let v695 : Index := Scalar.indexCast v694
  ![v695.toNat]
def k0_off200 (v696 : BitVec 32) : Fin 2 → Nat :=
  let c0_i32_299 : BitVec 32 := 0#32
  ![v696.toNat, 0]

def k0_chk100 (v696 : BitVec 32) : Prop :=
  (∀ a, (k0_off200 v696) a + S1x768.size a ≤ S50257x768.size a)
theorem k0_off200_inb : ∀ (v696 : BitVec 32) (k0_hw100 : k0_chk100 v696), ∀ a, (k0_off200 v696) a + S1x768.size a ≤ S50257x768.size a := fun v696 k0_hw100 => k0_hw100

def k0_off201 (i : grid0.Coords) : Fin 1 → Nat :=
  let arg0 : BitVec 32 := BitVec.ofNat 32 (i 0).val
  let c512_i32 : BitVec 32 := 512#32
  let v0 : BitVec 32 := Scalar.muli arg0 c512_i32
  let c100_i32 : BitVec 32 := 100#32
  let v701 : BitVec 32 := Scalar.addi v0 c100_i32
  let v702 : Index := Scalar.indexCast v701
  ![v702.toNat]
def k0_off202 (v703 : BitVec 32) : Fin 2 → Nat :=
  let c0_i32_302 : BitVec 32 := 0#32
  ![v703.toNat, 0]

def k0_chk101 (v703 : BitVec 32) : Prop :=
  (∀ a, (k0_off202 v703) a + S1x768.size a ≤ S50257x768.size a)
theorem k0_off202_inb : ∀ (v703 : BitVec 32) (k0_hw101 : k0_chk101 v703), ∀ a, (k0_off202 v703) a + S1x768.size a ≤ S50257x768.size a := fun v703 k0_hw101 => k0_hw101

def k0_off203 (i : grid0.Coords) : Fin 1 → Nat :=
  let arg0 : BitVec 32 := BitVec.ofNat 32 (i 0).val
  let c512_i32 : BitVec 32 := 512#32
  let v0 : BitVec 32 := Scalar.muli arg0 c512_i32
  let c101_i32 : BitVec 32 := 101#32
  let v708 : BitVec 32 := Scalar.addi v0 c101_i32
  let v709 : Index := Scalar.indexCast v708
  ![v709.toNat]
def k0_off204 (v710 : BitVec 32) : Fin 2 → Nat :=
  let c0_i32_305 : BitVec 32 := 0#32
  ![v710.toNat, 0]

def k0_chk102 (v710 : BitVec 32) : Prop :=
  (∀ a, (k0_off204 v710) a + S1x768.size a ≤ S50257x768.size a)
theorem k0_off204_inb : ∀ (v710 : BitVec 32) (k0_hw102 : k0_chk102 v710), ∀ a, (k0_off204 v710) a + S1x768.size a ≤ S50257x768.size a := fun v710 k0_hw102 => k0_hw102

def k0_off205 (i : grid0.Coords) : Fin 1 → Nat :=
  let arg0 : BitVec 32 := BitVec.ofNat 32 (i 0).val
  let c512_i32 : BitVec 32 := 512#32
  let v0 : BitVec 32 := Scalar.muli arg0 c512_i32
  let c102_i32 : BitVec 32 := 102#32
  let v715 : BitVec 32 := Scalar.addi v0 c102_i32
  let v716 : Index := Scalar.indexCast v715
  ![v716.toNat]
def k0_off206 (v717 : BitVec 32) : Fin 2 → Nat :=
  let c0_i32_308 : BitVec 32 := 0#32
  ![v717.toNat, 0]

def k0_chk103 (v717 : BitVec 32) : Prop :=
  (∀ a, (k0_off206 v717) a + S1x768.size a ≤ S50257x768.size a)
theorem k0_off206_inb : ∀ (v717 : BitVec 32) (k0_hw103 : k0_chk103 v717), ∀ a, (k0_off206 v717) a + S1x768.size a ≤ S50257x768.size a := fun v717 k0_hw103 => k0_hw103

def k0_off207 (i : grid0.Coords) : Fin 1 → Nat :=
  let arg0 : BitVec 32 := BitVec.ofNat 32 (i 0).val
  let c512_i32 : BitVec 32 := 512#32
  let v0 : BitVec 32 := Scalar.muli arg0 c512_i32
  let c103_i32 : BitVec 32 := 103#32
  let v722 : BitVec 32 := Scalar.addi v0 c103_i32
  let v723 : Index := Scalar.indexCast v722
  ![v723.toNat]
def k0_off208 (v724 : BitVec 32) : Fin 2 → Nat :=
  let c0_i32_311 : BitVec 32 := 0#32
  ![v724.toNat, 0]

def k0_chk104 (v724 : BitVec 32) : Prop :=
  (∀ a, (k0_off208 v724) a + S1x768.size a ≤ S50257x768.size a)
theorem k0_off208_inb : ∀ (v724 : BitVec 32) (k0_hw104 : k0_chk104 v724), ∀ a, (k0_off208 v724) a + S1x768.size a ≤ S50257x768.size a := fun v724 k0_hw104 => k0_hw104

def k0_off209 (i : grid0.Coords) : Fin 1 → Nat :=
  let arg0 : BitVec 32 := BitVec.ofNat 32 (i 0).val
  let c512_i32 : BitVec 32 := 512#32
  let v0 : BitVec 32 := Scalar.muli arg0 c512_i32
  let c104_i32 : BitVec 32 := 104#32
  let v729 : BitVec 32 := Scalar.addi v0 c104_i32
  let v730 : Index := Scalar.indexCast v729
  ![v730.toNat]
def k0_off210 (v731 : BitVec 32) : Fin 2 → Nat :=
  let c0_i32_314 : BitVec 32 := 0#32
  ![v731.toNat, 0]

def k0_chk105 (v731 : BitVec 32) : Prop :=
  (∀ a, (k0_off210 v731) a + S1x768.size a ≤ S50257x768.size a)
theorem k0_off210_inb : ∀ (v731 : BitVec 32) (k0_hw105 : k0_chk105 v731), ∀ a, (k0_off210 v731) a + S1x768.size a ≤ S50257x768.size a := fun v731 k0_hw105 => k0_hw105

def k0_off211 (i : grid0.Coords) : Fin 1 → Nat :=
  let arg0 : BitVec 32 := BitVec.ofNat 32 (i 0).val
  let c512_i32 : BitVec 32 := 512#32
  let v0 : BitVec 32 := Scalar.muli arg0 c512_i32
  let c105_i32 : BitVec 32 := 105#32
  let v736 : BitVec 32 := Scalar.addi v0 c105_i32
  let v737 : Index := Scalar.indexCast v736
  ![v737.toNat]
def k0_off212 (v738 : BitVec 32) : Fin 2 → Nat :=
  let c0_i32_317 : BitVec 32 := 0#32
  ![v738.toNat, 0]

def k0_chk106 (v738 : BitVec 32) : Prop :=
  (∀ a, (k0_off212 v738) a + S1x768.size a ≤ S50257x768.size a)
theorem k0_off212_inb : ∀ (v738 : BitVec 32) (k0_hw106 : k0_chk106 v738), ∀ a, (k0_off212 v738) a + S1x768.size a ≤ S50257x768.size a := fun v738 k0_hw106 => k0_hw106

def k0_off213 (i : grid0.Coords) : Fin 1 → Nat :=
  let arg0 : BitVec 32 := BitVec.ofNat 32 (i 0).val
  let c512_i32 : BitVec 32 := 512#32
  let v0 : BitVec 32 := Scalar.muli arg0 c512_i32
  let c106_i32 : BitVec 32 := 106#32
  let v743 : BitVec 32 := Scalar.addi v0 c106_i32
  let v744 : Index := Scalar.indexCast v743
  ![v744.toNat]
def k0_off214 (v745 : BitVec 32) : Fin 2 → Nat :=
  let c0_i32_320 : BitVec 32 := 0#32
  ![v745.toNat, 0]

def k0_chk107 (v745 : BitVec 32) : Prop :=
  (∀ a, (k0_off214 v745) a + S1x768.size a ≤ S50257x768.size a)
theorem k0_off214_inb : ∀ (v745 : BitVec 32) (k0_hw107 : k0_chk107 v745), ∀ a, (k0_off214 v745) a + S1x768.size a ≤ S50257x768.size a := fun v745 k0_hw107 => k0_hw107

def k0_off215 (i : grid0.Coords) : Fin 1 → Nat :=
  let arg0 : BitVec 32 := BitVec.ofNat 32 (i 0).val
  let c512_i32 : BitVec 32 := 512#32
  let v0 : BitVec 32 := Scalar.muli arg0 c512_i32
  let c107_i32 : BitVec 32 := 107#32
  let v750 : BitVec 32 := Scalar.addi v0 c107_i32
  let v751 : Index := Scalar.indexCast v750
  ![v751.toNat]
def k0_off216 (v752 : BitVec 32) : Fin 2 → Nat :=
  let c0_i32_323 : BitVec 32 := 0#32
  ![v752.toNat, 0]

def k0_chk108 (v752 : BitVec 32) : Prop :=
  (∀ a, (k0_off216 v752) a + S1x768.size a ≤ S50257x768.size a)
theorem k0_off216_inb : ∀ (v752 : BitVec 32) (k0_hw108 : k0_chk108 v752), ∀ a, (k0_off216 v752) a + S1x768.size a ≤ S50257x768.size a := fun v752 k0_hw108 => k0_hw108

def k0_off217 (i : grid0.Coords) : Fin 1 → Nat :=
  let arg0 : BitVec 32 := BitVec.ofNat 32 (i 0).val
  let c512_i32 : BitVec 32 := 512#32
  let v0 : BitVec 32 := Scalar.muli arg0 c512_i32
  let c108_i32 : BitVec 32 := 108#32
  let v757 : BitVec 32 := Scalar.addi v0 c108_i32
  let v758 : Index := Scalar.indexCast v757
  ![v758.toNat]
def k0_off218 (v759 : BitVec 32) : Fin 2 → Nat :=
  let c0_i32_326 : BitVec 32 := 0#32
  ![v759.toNat, 0]

def k0_chk109 (v759 : BitVec 32) : Prop :=
  (∀ a, (k0_off218 v759) a + S1x768.size a ≤ S50257x768.size a)
theorem k0_off218_inb : ∀ (v759 : BitVec 32) (k0_hw109 : k0_chk109 v759), ∀ a, (k0_off218 v759) a + S1x768.size a ≤ S50257x768.size a := fun v759 k0_hw109 => k0_hw109

def k0_off219 (i : grid0.Coords) : Fin 1 → Nat :=
  let arg0 : BitVec 32 := BitVec.ofNat 32 (i 0).val
  let c512_i32 : BitVec 32 := 512#32
  let v0 : BitVec 32 := Scalar.muli arg0 c512_i32
  let c109_i32 : BitVec 32 := 109#32
  let v764 : BitVec 32 := Scalar.addi v0 c109_i32
  let v765 : Index := Scalar.indexCast v764
  ![v765.toNat]
def k0_off220 (v766 : BitVec 32) : Fin 2 → Nat :=
  let c0_i32_329 : BitVec 32 := 0#32
  ![v766.toNat, 0]

def k0_chk110 (v766 : BitVec 32) : Prop :=
  (∀ a, (k0_off220 v766) a + S1x768.size a ≤ S50257x768.size a)
theorem k0_off220_inb : ∀ (v766 : BitVec 32) (k0_hw110 : k0_chk110 v766), ∀ a, (k0_off220 v766) a + S1x768.size a ≤ S50257x768.size a := fun v766 k0_hw110 => k0_hw110

def k0_off221 (i : grid0.Coords) : Fin 1 → Nat :=
  let arg0 : BitVec 32 := BitVec.ofNat 32 (i 0).val
  let c512_i32 : BitVec 32 := 512#32
  let v0 : BitVec 32 := Scalar.muli arg0 c512_i32
  let c110_i32 : BitVec 32 := 110#32
  let v771 : BitVec 32 := Scalar.addi v0 c110_i32
  let v772 : Index := Scalar.indexCast v771
  ![v772.toNat]
def k0_off222 (v773 : BitVec 32) : Fin 2 → Nat :=
  let c0_i32_332 : BitVec 32 := 0#32
  ![v773.toNat, 0]

def k0_chk111 (v773 : BitVec 32) : Prop :=
  (∀ a, (k0_off222 v773) a + S1x768.size a ≤ S50257x768.size a)
theorem k0_off222_inb : ∀ (v773 : BitVec 32) (k0_hw111 : k0_chk111 v773), ∀ a, (k0_off222 v773) a + S1x768.size a ≤ S50257x768.size a := fun v773 k0_hw111 => k0_hw111

def k0_off223 (i : grid0.Coords) : Fin 1 → Nat :=
  let arg0 : BitVec 32 := BitVec.ofNat 32 (i 0).val
  let c512_i32 : BitVec 32 := 512#32
  let v0 : BitVec 32 := Scalar.muli arg0 c512_i32
  let c111_i32 : BitVec 32 := 111#32
  let v778 : BitVec 32 := Scalar.addi v0 c111_i32
  let v779 : Index := Scalar.indexCast v778
  ![v779.toNat]
def k0_off224 (v780 : BitVec 32) : Fin 2 → Nat :=
  let c0_i32_335 : BitVec 32 := 0#32
  ![v780.toNat, 0]

def k0_chk112 (v780 : BitVec 32) : Prop :=
  (∀ a, (k0_off224 v780) a + S1x768.size a ≤ S50257x768.size a)
theorem k0_off224_inb : ∀ (v780 : BitVec 32) (k0_hw112 : k0_chk112 v780), ∀ a, (k0_off224 v780) a + S1x768.size a ≤ S50257x768.size a := fun v780 k0_hw112 => k0_hw112

def k0_off225 (i : grid0.Coords) : Fin 1 → Nat :=
  let arg0 : BitVec 32 := BitVec.ofNat 32 (i 0).val
  let c512_i32 : BitVec 32 := 512#32
  let v0 : BitVec 32 := Scalar.muli arg0 c512_i32
  let c112_i32 : BitVec 32 := 112#32
  let v785 : BitVec 32 := Scalar.addi v0 c112_i32
  let v786 : Index := Scalar.indexCast v785
  ![v786.toNat]
def k0_off226 (v787 : BitVec 32) : Fin 2 → Nat :=
  let c0_i32_338 : BitVec 32 := 0#32
  ![v787.toNat, 0]

def k0_chk113 (v787 : BitVec 32) : Prop :=
  (∀ a, (k0_off226 v787) a + S1x768.size a ≤ S50257x768.size a)
theorem k0_off226_inb : ∀ (v787 : BitVec 32) (k0_hw113 : k0_chk113 v787), ∀ a, (k0_off226 v787) a + S1x768.size a ≤ S50257x768.size a := fun v787 k0_hw113 => k0_hw113

def k0_off227 (i : grid0.Coords) : Fin 1 → Nat :=
  let arg0 : BitVec 32 := BitVec.ofNat 32 (i 0).val
  let c512_i32 : BitVec 32 := 512#32
  let v0 : BitVec 32 := Scalar.muli arg0 c512_i32
  let c113_i32 : BitVec 32 := 113#32
  let v792 : BitVec 32 := Scalar.addi v0 c113_i32
  let v793 : Index := Scalar.indexCast v792
  ![v793.toNat]
def k0_off228 (v794 : BitVec 32) : Fin 2 → Nat :=
  let c0_i32_341 : BitVec 32 := 0#32
  ![v794.toNat, 0]

def k0_chk114 (v794 : BitVec 32) : Prop :=
  (∀ a, (k0_off228 v794) a + S1x768.size a ≤ S50257x768.size a)
theorem k0_off228_inb : ∀ (v794 : BitVec 32) (k0_hw114 : k0_chk114 v794), ∀ a, (k0_off228 v794) a + S1x768.size a ≤ S50257x768.size a := fun v794 k0_hw114 => k0_hw114

def k0_off229 (i : grid0.Coords) : Fin 1 → Nat :=
  let arg0 : BitVec 32 := BitVec.ofNat 32 (i 0).val
  let c512_i32 : BitVec 32 := 512#32
  let v0 : BitVec 32 := Scalar.muli arg0 c512_i32
  let c114_i32 : BitVec 32 := 114#32
  let v799 : BitVec 32 := Scalar.addi v0 c114_i32
  let v800 : Index := Scalar.indexCast v799
  ![v800.toNat]
def k0_off230 (v801 : BitVec 32) : Fin 2 → Nat :=
  let c0_i32_344 : BitVec 32 := 0#32
  ![v801.toNat, 0]

def k0_chk115 (v801 : BitVec 32) : Prop :=
  (∀ a, (k0_off230 v801) a + S1x768.size a ≤ S50257x768.size a)
theorem k0_off230_inb : ∀ (v801 : BitVec 32) (k0_hw115 : k0_chk115 v801), ∀ a, (k0_off230 v801) a + S1x768.size a ≤ S50257x768.size a := fun v801 k0_hw115 => k0_hw115

def k0_off231 (i : grid0.Coords) : Fin 1 → Nat :=
  let arg0 : BitVec 32 := BitVec.ofNat 32 (i 0).val
  let c512_i32 : BitVec 32 := 512#32
  let v0 : BitVec 32 := Scalar.muli arg0 c512_i32
  let c115_i32 : BitVec 32 := 115#32
  let v806 : BitVec 32 := Scalar.addi v0 c115_i32
  let v807 : Index := Scalar.indexCast v806
  ![v807.toNat]
def k0_off232 (v808 : BitVec 32) : Fin 2 → Nat :=
  let c0_i32_347 : BitVec 32 := 0#32
  ![v808.toNat, 0]

def k0_chk116 (v808 : BitVec 32) : Prop :=
  (∀ a, (k0_off232 v808) a + S1x768.size a ≤ S50257x768.size a)
theorem k0_off232_inb : ∀ (v808 : BitVec 32) (k0_hw116 : k0_chk116 v808), ∀ a, (k0_off232 v808) a + S1x768.size a ≤ S50257x768.size a := fun v808 k0_hw116 => k0_hw116

def k0_off233 (i : grid0.Coords) : Fin 1 → Nat :=
  let arg0 : BitVec 32 := BitVec.ofNat 32 (i 0).val
  let c512_i32 : BitVec 32 := 512#32
  let v0 : BitVec 32 := Scalar.muli arg0 c512_i32
  let c116_i32 : BitVec 32 := 116#32
  let v813 : BitVec 32 := Scalar.addi v0 c116_i32
  let v814 : Index := Scalar.indexCast v813
  ![v814.toNat]
def k0_off234 (v815 : BitVec 32) : Fin 2 → Nat :=
  let c0_i32_350 : BitVec 32 := 0#32
  ![v815.toNat, 0]

def k0_chk117 (v815 : BitVec 32) : Prop :=
  (∀ a, (k0_off234 v815) a + S1x768.size a ≤ S50257x768.size a)
theorem k0_off234_inb : ∀ (v815 : BitVec 32) (k0_hw117 : k0_chk117 v815), ∀ a, (k0_off234 v815) a + S1x768.size a ≤ S50257x768.size a := fun v815 k0_hw117 => k0_hw117

def k0_off235 (i : grid0.Coords) : Fin 1 → Nat :=
  let arg0 : BitVec 32 := BitVec.ofNat 32 (i 0).val
  let c512_i32 : BitVec 32 := 512#32
  let v0 : BitVec 32 := Scalar.muli arg0 c512_i32
  let c117_i32 : BitVec 32 := 117#32
  let v820 : BitVec 32 := Scalar.addi v0 c117_i32
  let v821 : Index := Scalar.indexCast v820
  ![v821.toNat]
def k0_off236 (v822 : BitVec 32) : Fin 2 → Nat :=
  let c0_i32_353 : BitVec 32 := 0#32
  ![v822.toNat, 0]

def k0_chk118 (v822 : BitVec 32) : Prop :=
  (∀ a, (k0_off236 v822) a + S1x768.size a ≤ S50257x768.size a)
theorem k0_off236_inb : ∀ (v822 : BitVec 32) (k0_hw118 : k0_chk118 v822), ∀ a, (k0_off236 v822) a + S1x768.size a ≤ S50257x768.size a := fun v822 k0_hw118 => k0_hw118

def k0_off237 (i : grid0.Coords) : Fin 1 → Nat :=
  let arg0 : BitVec 32 := BitVec.ofNat 32 (i 0).val
  let c512_i32 : BitVec 32 := 512#32
  let v0 : BitVec 32 := Scalar.muli arg0 c512_i32
  let c118_i32 : BitVec 32 := 118#32
  let v827 : BitVec 32 := Scalar.addi v0 c118_i32
  let v828 : Index := Scalar.indexCast v827
  ![v828.toNat]
def k0_off238 (v829 : BitVec 32) : Fin 2 → Nat :=
  let c0_i32_356 : BitVec 32 := 0#32
  ![v829.toNat, 0]

def k0_chk119 (v829 : BitVec 32) : Prop :=
  (∀ a, (k0_off238 v829) a + S1x768.size a ≤ S50257x768.size a)
theorem k0_off238_inb : ∀ (v829 : BitVec 32) (k0_hw119 : k0_chk119 v829), ∀ a, (k0_off238 v829) a + S1x768.size a ≤ S50257x768.size a := fun v829 k0_hw119 => k0_hw119

def k0_off239 (i : grid0.Coords) : Fin 1 → Nat :=
  let arg0 : BitVec 32 := BitVec.ofNat 32 (i 0).val
  let c512_i32 : BitVec 32 := 512#32
  let v0 : BitVec 32 := Scalar.muli arg0 c512_i32
  let c119_i32 : BitVec 32 := 119#32
  let v834 : BitVec 32 := Scalar.addi v0 c119_i32
  let v835 : Index := Scalar.indexCast v834
  ![v835.toNat]
def k0_off240 (v836 : BitVec 32) : Fin 2 → Nat :=
  let c0_i32_359 : BitVec 32 := 0#32
  ![v836.toNat, 0]

def k0_chk120 (v836 : BitVec 32) : Prop :=
  (∀ a, (k0_off240 v836) a + S1x768.size a ≤ S50257x768.size a)
theorem k0_off240_inb : ∀ (v836 : BitVec 32) (k0_hw120 : k0_chk120 v836), ∀ a, (k0_off240 v836) a + S1x768.size a ≤ S50257x768.size a := fun v836 k0_hw120 => k0_hw120

def k0_off241 (i : grid0.Coords) : Fin 1 → Nat :=
  let arg0 : BitVec 32 := BitVec.ofNat 32 (i 0).val
  let c512_i32 : BitVec 32 := 512#32
  let v0 : BitVec 32 := Scalar.muli arg0 c512_i32
  let c120_i32 : BitVec 32 := 120#32
  let v841 : BitVec 32 := Scalar.addi v0 c120_i32
  let v842 : Index := Scalar.indexCast v841
  ![v842.toNat]
def k0_off242 (v843 : BitVec 32) : Fin 2 → Nat :=
  let c0_i32_362 : BitVec 32 := 0#32
  ![v843.toNat, 0]

def k0_chk121 (v843 : BitVec 32) : Prop :=
  (∀ a, (k0_off242 v843) a + S1x768.size a ≤ S50257x768.size a)
theorem k0_off242_inb : ∀ (v843 : BitVec 32) (k0_hw121 : k0_chk121 v843), ∀ a, (k0_off242 v843) a + S1x768.size a ≤ S50257x768.size a := fun v843 k0_hw121 => k0_hw121

def k0_off243 (i : grid0.Coords) : Fin 1 → Nat :=
  let arg0 : BitVec 32 := BitVec.ofNat 32 (i 0).val
  let c512_i32 : BitVec 32 := 512#32
  let v0 : BitVec 32 := Scalar.muli arg0 c512_i32
  let c121_i32 : BitVec 32 := 121#32
  let v848 : BitVec 32 := Scalar.addi v0 c121_i32
  let v849 : Index := Scalar.indexCast v848
  ![v849.toNat]
def k0_off244 (v850 : BitVec 32) : Fin 2 → Nat :=
  let c0_i32_365 : BitVec 32 := 0#32
  ![v850.toNat, 0]

def k0_chk122 (v850 : BitVec 32) : Prop :=
  (∀ a, (k0_off244 v850) a + S1x768.size a ≤ S50257x768.size a)
theorem k0_off244_inb : ∀ (v850 : BitVec 32) (k0_hw122 : k0_chk122 v850), ∀ a, (k0_off244 v850) a + S1x768.size a ≤ S50257x768.size a := fun v850 k0_hw122 => k0_hw122

def k0_off245 (i : grid0.Coords) : Fin 1 → Nat :=
  let arg0 : BitVec 32 := BitVec.ofNat 32 (i 0).val
  let c512_i32 : BitVec 32 := 512#32
  let v0 : BitVec 32 := Scalar.muli arg0 c512_i32
  let c122_i32 : BitVec 32 := 122#32
  let v855 : BitVec 32 := Scalar.addi v0 c122_i32
  let v856 : Index := Scalar.indexCast v855
  ![v856.toNat]
def k0_off246 (v857 : BitVec 32) : Fin 2 → Nat :=
  let c0_i32_368 : BitVec 32 := 0#32
  ![v857.toNat, 0]

def k0_chk123 (v857 : BitVec 32) : Prop :=
  (∀ a, (k0_off246 v857) a + S1x768.size a ≤ S50257x768.size a)
theorem k0_off246_inb : ∀ (v857 : BitVec 32) (k0_hw123 : k0_chk123 v857), ∀ a, (k0_off246 v857) a + S1x768.size a ≤ S50257x768.size a := fun v857 k0_hw123 => k0_hw123

def k0_off247 (i : grid0.Coords) : Fin 1 → Nat :=
  let arg0 : BitVec 32 := BitVec.ofNat 32 (i 0).val
  let c512_i32 : BitVec 32 := 512#32
  let v0 : BitVec 32 := Scalar.muli arg0 c512_i32
  let c123_i32 : BitVec 32 := 123#32
  let v862 : BitVec 32 := Scalar.addi v0 c123_i32
  let v863 : Index := Scalar.indexCast v862
  ![v863.toNat]
def k0_off248 (v864 : BitVec 32) : Fin 2 → Nat :=
  let c0_i32_371 : BitVec 32 := 0#32
  ![v864.toNat, 0]

def k0_chk124 (v864 : BitVec 32) : Prop :=
  (∀ a, (k0_off248 v864) a + S1x768.size a ≤ S50257x768.size a)
theorem k0_off248_inb : ∀ (v864 : BitVec 32) (k0_hw124 : k0_chk124 v864), ∀ a, (k0_off248 v864) a + S1x768.size a ≤ S50257x768.size a := fun v864 k0_hw124 => k0_hw124

def k0_off249 (i : grid0.Coords) : Fin 1 → Nat :=
  let arg0 : BitVec 32 := BitVec.ofNat 32 (i 0).val
  let c512_i32 : BitVec 32 := 512#32
  let v0 : BitVec 32 := Scalar.muli arg0 c512_i32
  let c124_i32 : BitVec 32 := 124#32
  let v869 : BitVec 32 := Scalar.addi v0 c124_i32
  let v870 : Index := Scalar.indexCast v869
  ![v870.toNat]
def k0_off250 (v871 : BitVec 32) : Fin 2 → Nat :=
  let c0_i32_374 : BitVec 32 := 0#32
  ![v871.toNat, 0]

def k0_chk125 (v871 : BitVec 32) : Prop :=
  (∀ a, (k0_off250 v871) a + S1x768.size a ≤ S50257x768.size a)
theorem k0_off250_inb : ∀ (v871 : BitVec 32) (k0_hw125 : k0_chk125 v871), ∀ a, (k0_off250 v871) a + S1x768.size a ≤ S50257x768.size a := fun v871 k0_hw125 => k0_hw125

def k0_off251 (i : grid0.Coords) : Fin 1 → Nat :=
  let arg0 : BitVec 32 := BitVec.ofNat 32 (i 0).val
  let c512_i32 : BitVec 32 := 512#32
  let v0 : BitVec 32 := Scalar.muli arg0 c512_i32
  let c125_i32 : BitVec 32 := 125#32
  let v876 : BitVec 32 := Scalar.addi v0 c125_i32
  let v877 : Index := Scalar.indexCast v876
  ![v877.toNat]
def k0_off252 (v878 : BitVec 32) : Fin 2 → Nat :=
  let c0_i32_377 : BitVec 32 := 0#32
  ![v878.toNat, 0]

def k0_chk126 (v878 : BitVec 32) : Prop :=
  (∀ a, (k0_off252 v878) a + S1x768.size a ≤ S50257x768.size a)
theorem k0_off252_inb : ∀ (v878 : BitVec 32) (k0_hw126 : k0_chk126 v878), ∀ a, (k0_off252 v878) a + S1x768.size a ≤ S50257x768.size a := fun v878 k0_hw126 => k0_hw126

def k0_off253 (i : grid0.Coords) : Fin 1 → Nat :=
  let arg0 : BitVec 32 := BitVec.ofNat 32 (i 0).val
  let c512_i32 : BitVec 32 := 512#32
  let v0 : BitVec 32 := Scalar.muli arg0 c512_i32
  let c126_i32 : BitVec 32 := 126#32
  let v883 : BitVec 32 := Scalar.addi v0 c126_i32
  let v884 : Index := Scalar.indexCast v883
  ![v884.toNat]
def k0_off254 (v885 : BitVec 32) : Fin 2 → Nat :=
  let c0_i32_380 : BitVec 32 := 0#32
  ![v885.toNat, 0]

def k0_chk127 (v885 : BitVec 32) : Prop :=
  (∀ a, (k0_off254 v885) a + S1x768.size a ≤ S50257x768.size a)
theorem k0_off254_inb : ∀ (v885 : BitVec 32) (k0_hw127 : k0_chk127 v885), ∀ a, (k0_off254 v885) a + S1x768.size a ≤ S50257x768.size a := fun v885 k0_hw127 => k0_hw127

def k0_off255 (i : grid0.Coords) : Fin 1 → Nat :=
  let arg0 : BitVec 32 := BitVec.ofNat 32 (i 0).val
  let c512_i32 : BitVec 32 := 512#32
  let v0 : BitVec 32 := Scalar.muli arg0 c512_i32
  let c127_i32 : BitVec 32 := 127#32
  let v890 : BitVec 32 := Scalar.addi v0 c127_i32
  let v891 : Index := Scalar.indexCast v890
  ![v891.toNat]
def k0_off256 (v892 : BitVec 32) : Fin 2 → Nat :=
  let c0_i32_383 : BitVec 32 := 0#32
  ![v892.toNat, 0]

def k0_chk128 (v892 : BitVec 32) : Prop :=
  (∀ a, (k0_off256 v892) a + S1x768.size a ≤ S50257x768.size a)
theorem k0_off256_inb : ∀ (v892 : BitVec 32) (k0_hw128 : k0_chk128 v892), ∀ a, (k0_off256 v892) a + S1x768.size a ≤ S50257x768.size a := fun v892 k0_hw128 => k0_hw128

def k0_off257 (i : grid0.Coords) : Fin 1 → Nat :=
  let arg0 : BitVec 32 := BitVec.ofNat 32 (i 0).val
  let c512_i32 : BitVec 32 := 512#32
  let v0 : BitVec 32 := Scalar.muli arg0 c512_i32
  let c128_i32 : BitVec 32 := 128#32
  let v897 : BitVec 32 := Scalar.addi v0 c128_i32
  let v898 : Index := Scalar.indexCast v897
  ![v898.toNat]
def k0_off258 (v899 : BitVec 32) : Fin 2 → Nat :=
  let c0_i32_386 : BitVec 32 := 0#32
  ![v899.toNat, 0]

def k0_chk129 (v899 : BitVec 32) : Prop :=
  (∀ a, (k0_off258 v899) a + S1x768.size a ≤ S50257x768.size a)
theorem k0_off258_inb : ∀ (v899 : BitVec 32) (k0_hw129 : k0_chk129 v899), ∀ a, (k0_off258 v899) a + S1x768.size a ≤ S50257x768.size a := fun v899 k0_hw129 => k0_hw129

def k0_off259 (i : grid0.Coords) : Fin 1 → Nat :=
  let arg0 : BitVec 32 := BitVec.ofNat 32 (i 0).val
  let c512_i32 : BitVec 32 := 512#32
  let v0 : BitVec 32 := Scalar.muli arg0 c512_i32
  let c129_i32 : BitVec 32 := 129#32
  let v904 : BitVec 32 := Scalar.addi v0 c129_i32
  let v905 : Index := Scalar.indexCast v904
  ![v905.toNat]
def k0_off260 (v906 : BitVec 32) : Fin 2 → Nat :=
  let c0_i32_389 : BitVec 32 := 0#32
  ![v906.toNat, 0]

def k0_chk130 (v906 : BitVec 32) : Prop :=
  (∀ a, (k0_off260 v906) a + S1x768.size a ≤ S50257x768.size a)
theorem k0_off260_inb : ∀ (v906 : BitVec 32) (k0_hw130 : k0_chk130 v906), ∀ a, (k0_off260 v906) a + S1x768.size a ≤ S50257x768.size a := fun v906 k0_hw130 => k0_hw130

def k0_off261 (i : grid0.Coords) : Fin 1 → Nat :=
  let arg0 : BitVec 32 := BitVec.ofNat 32 (i 0).val
  let c512_i32 : BitVec 32 := 512#32
  let v0 : BitVec 32 := Scalar.muli arg0 c512_i32
  let c130_i32 : BitVec 32 := 130#32
  let v911 : BitVec 32 := Scalar.addi v0 c130_i32
  let v912 : Index := Scalar.indexCast v911
  ![v912.toNat]
def k0_off262 (v913 : BitVec 32) : Fin 2 → Nat :=
  let c0_i32_392 : BitVec 32 := 0#32
  ![v913.toNat, 0]

def k0_chk131 (v913 : BitVec 32) : Prop :=
  (∀ a, (k0_off262 v913) a + S1x768.size a ≤ S50257x768.size a)
theorem k0_off262_inb : ∀ (v913 : BitVec 32) (k0_hw131 : k0_chk131 v913), ∀ a, (k0_off262 v913) a + S1x768.size a ≤ S50257x768.size a := fun v913 k0_hw131 => k0_hw131

def k0_off263 (i : grid0.Coords) : Fin 1 → Nat :=
  let arg0 : BitVec 32 := BitVec.ofNat 32 (i 0).val
  let c512_i32 : BitVec 32 := 512#32
  let v0 : BitVec 32 := Scalar.muli arg0 c512_i32
  let c131_i32 : BitVec 32 := 131#32
  let v918 : BitVec 32 := Scalar.addi v0 c131_i32
  let v919 : Index := Scalar.indexCast v918
  ![v919.toNat]
def k0_off264 (v920 : BitVec 32) : Fin 2 → Nat :=
  let c0_i32_395 : BitVec 32 := 0#32
  ![v920.toNat, 0]

def k0_chk132 (v920 : BitVec 32) : Prop :=
  (∀ a, (k0_off264 v920) a + S1x768.size a ≤ S50257x768.size a)
theorem k0_off264_inb : ∀ (v920 : BitVec 32) (k0_hw132 : k0_chk132 v920), ∀ a, (k0_off264 v920) a + S1x768.size a ≤ S50257x768.size a := fun v920 k0_hw132 => k0_hw132

def k0_off265 (i : grid0.Coords) : Fin 1 → Nat :=
  let arg0 : BitVec 32 := BitVec.ofNat 32 (i 0).val
  let c512_i32 : BitVec 32 := 512#32
  let v0 : BitVec 32 := Scalar.muli arg0 c512_i32
  let c132_i32 : BitVec 32 := 132#32
  let v925 : BitVec 32 := Scalar.addi v0 c132_i32
  let v926 : Index := Scalar.indexCast v925
  ![v926.toNat]
def k0_off266 (v927 : BitVec 32) : Fin 2 → Nat :=
  let c0_i32_398 : BitVec 32 := 0#32
  ![v927.toNat, 0]

def k0_chk133 (v927 : BitVec 32) : Prop :=
  (∀ a, (k0_off266 v927) a + S1x768.size a ≤ S50257x768.size a)
theorem k0_off266_inb : ∀ (v927 : BitVec 32) (k0_hw133 : k0_chk133 v927), ∀ a, (k0_off266 v927) a + S1x768.size a ≤ S50257x768.size a := fun v927 k0_hw133 => k0_hw133

def k0_off267 (i : grid0.Coords) : Fin 1 → Nat :=
  let arg0 : BitVec 32 := BitVec.ofNat 32 (i 0).val
  let c512_i32 : BitVec 32 := 512#32
  let v0 : BitVec 32 := Scalar.muli arg0 c512_i32
  let c133_i32 : BitVec 32 := 133#32
  let v932 : BitVec 32 := Scalar.addi v0 c133_i32
  let v933 : Index := Scalar.indexCast v932
  ![v933.toNat]
def k0_off268 (v934 : BitVec 32) : Fin 2 → Nat :=
  let c0_i32_401 : BitVec 32 := 0#32
  ![v934.toNat, 0]

def k0_chk134 (v934 : BitVec 32) : Prop :=
  (∀ a, (k0_off268 v934) a + S1x768.size a ≤ S50257x768.size a)
theorem k0_off268_inb : ∀ (v934 : BitVec 32) (k0_hw134 : k0_chk134 v934), ∀ a, (k0_off268 v934) a + S1x768.size a ≤ S50257x768.size a := fun v934 k0_hw134 => k0_hw134

def k0_off269 (i : grid0.Coords) : Fin 1 → Nat :=
  let arg0 : BitVec 32 := BitVec.ofNat 32 (i 0).val
  let c512_i32 : BitVec 32 := 512#32
  let v0 : BitVec 32 := Scalar.muli arg0 c512_i32
  let c134_i32 : BitVec 32 := 134#32
  let v939 : BitVec 32 := Scalar.addi v0 c134_i32
  let v940 : Index := Scalar.indexCast v939
  ![v940.toNat]
def k0_off270 (v941 : BitVec 32) : Fin 2 → Nat :=
  let c0_i32_404 : BitVec 32 := 0#32
  ![v941.toNat, 0]

def k0_chk135 (v941 : BitVec 32) : Prop :=
  (∀ a, (k0_off270 v941) a + S1x768.size a ≤ S50257x768.size a)
theorem k0_off270_inb : ∀ (v941 : BitVec 32) (k0_hw135 : k0_chk135 v941), ∀ a, (k0_off270 v941) a + S1x768.size a ≤ S50257x768.size a := fun v941 k0_hw135 => k0_hw135

def k0_off271 (i : grid0.Coords) : Fin 1 → Nat :=
  let arg0 : BitVec 32 := BitVec.ofNat 32 (i 0).val
  let c512_i32 : BitVec 32 := 512#32
  let v0 : BitVec 32 := Scalar.muli arg0 c512_i32
  let c135_i32 : BitVec 32 := 135#32
  let v946 : BitVec 32 := Scalar.addi v0 c135_i32
  let v947 : Index := Scalar.indexCast v946
  ![v947.toNat]
def k0_off272 (v948 : BitVec 32) : Fin 2 → Nat :=
  let c0_i32_407 : BitVec 32 := 0#32
  ![v948.toNat, 0]

def k0_chk136 (v948 : BitVec 32) : Prop :=
  (∀ a, (k0_off272 v948) a + S1x768.size a ≤ S50257x768.size a)
theorem k0_off272_inb : ∀ (v948 : BitVec 32) (k0_hw136 : k0_chk136 v948), ∀ a, (k0_off272 v948) a + S1x768.size a ≤ S50257x768.size a := fun v948 k0_hw136 => k0_hw136

def k0_off273 (i : grid0.Coords) : Fin 1 → Nat :=
  let arg0 : BitVec 32 := BitVec.ofNat 32 (i 0).val
  let c512_i32 : BitVec 32 := 512#32
  let v0 : BitVec 32 := Scalar.muli arg0 c512_i32
  let c136_i32 : BitVec 32 := 136#32
  let v953 : BitVec 32 := Scalar.addi v0 c136_i32
  let v954 : Index := Scalar.indexCast v953
  ![v954.toNat]
def k0_off274 (v955 : BitVec 32) : Fin 2 → Nat :=
  let c0_i32_410 : BitVec 32 := 0#32
  ![v955.toNat, 0]

def k0_chk137 (v955 : BitVec 32) : Prop :=
  (∀ a, (k0_off274 v955) a + S1x768.size a ≤ S50257x768.size a)
theorem k0_off274_inb : ∀ (v955 : BitVec 32) (k0_hw137 : k0_chk137 v955), ∀ a, (k0_off274 v955) a + S1x768.size a ≤ S50257x768.size a := fun v955 k0_hw137 => k0_hw137

def k0_off275 (i : grid0.Coords) : Fin 1 → Nat :=
  let arg0 : BitVec 32 := BitVec.ofNat 32 (i 0).val
  let c512_i32 : BitVec 32 := 512#32
  let v0 : BitVec 32 := Scalar.muli arg0 c512_i32
  let c137_i32 : BitVec 32 := 137#32
  let v960 : BitVec 32 := Scalar.addi v0 c137_i32
  let v961 : Index := Scalar.indexCast v960
  ![v961.toNat]
def k0_off276 (v962 : BitVec 32) : Fin 2 → Nat :=
  let c0_i32_413 : BitVec 32 := 0#32
  ![v962.toNat, 0]

def k0_chk138 (v962 : BitVec 32) : Prop :=
  (∀ a, (k0_off276 v962) a + S1x768.size a ≤ S50257x768.size a)
theorem k0_off276_inb : ∀ (v962 : BitVec 32) (k0_hw138 : k0_chk138 v962), ∀ a, (k0_off276 v962) a + S1x768.size a ≤ S50257x768.size a := fun v962 k0_hw138 => k0_hw138

def k0_off277 (i : grid0.Coords) : Fin 1 → Nat :=
  let arg0 : BitVec 32 := BitVec.ofNat 32 (i 0).val
  let c512_i32 : BitVec 32 := 512#32
  let v0 : BitVec 32 := Scalar.muli arg0 c512_i32
  let c138_i32 : BitVec 32 := 138#32
  let v967 : BitVec 32 := Scalar.addi v0 c138_i32
  let v968 : Index := Scalar.indexCast v967
  ![v968.toNat]
def k0_off278 (v969 : BitVec 32) : Fin 2 → Nat :=
  let c0_i32_416 : BitVec 32 := 0#32
  ![v969.toNat, 0]

def k0_chk139 (v969 : BitVec 32) : Prop :=
  (∀ a, (k0_off278 v969) a + S1x768.size a ≤ S50257x768.size a)
theorem k0_off278_inb : ∀ (v969 : BitVec 32) (k0_hw139 : k0_chk139 v969), ∀ a, (k0_off278 v969) a + S1x768.size a ≤ S50257x768.size a := fun v969 k0_hw139 => k0_hw139

def k0_off279 (i : grid0.Coords) : Fin 1 → Nat :=
  let arg0 : BitVec 32 := BitVec.ofNat 32 (i 0).val
  let c512_i32 : BitVec 32 := 512#32
  let v0 : BitVec 32 := Scalar.muli arg0 c512_i32
  let c139_i32 : BitVec 32 := 139#32
  let v974 : BitVec 32 := Scalar.addi v0 c139_i32
  let v975 : Index := Scalar.indexCast v974
  ![v975.toNat]
def k0_off280 (v976 : BitVec 32) : Fin 2 → Nat :=
  let c0_i32_419 : BitVec 32 := 0#32
  ![v976.toNat, 0]

def k0_chk140 (v976 : BitVec 32) : Prop :=
  (∀ a, (k0_off280 v976) a + S1x768.size a ≤ S50257x768.size a)
theorem k0_off280_inb : ∀ (v976 : BitVec 32) (k0_hw140 : k0_chk140 v976), ∀ a, (k0_off280 v976) a + S1x768.size a ≤ S50257x768.size a := fun v976 k0_hw140 => k0_hw140

def k0_off281 (i : grid0.Coords) : Fin 1 → Nat :=
  let arg0 : BitVec 32 := BitVec.ofNat 32 (i 0).val
  let c512_i32 : BitVec 32 := 512#32
  let v0 : BitVec 32 := Scalar.muli arg0 c512_i32
  let c140_i32 : BitVec 32 := 140#32
  let v981 : BitVec 32 := Scalar.addi v0 c140_i32
  let v982 : Index := Scalar.indexCast v981
  ![v982.toNat]
def k0_off282 (v983 : BitVec 32) : Fin 2 → Nat :=
  let c0_i32_422 : BitVec 32 := 0#32
  ![v983.toNat, 0]

def k0_chk141 (v983 : BitVec 32) : Prop :=
  (∀ a, (k0_off282 v983) a + S1x768.size a ≤ S50257x768.size a)
theorem k0_off282_inb : ∀ (v983 : BitVec 32) (k0_hw141 : k0_chk141 v983), ∀ a, (k0_off282 v983) a + S1x768.size a ≤ S50257x768.size a := fun v983 k0_hw141 => k0_hw141

def k0_off283 (i : grid0.Coords) : Fin 1 → Nat :=
  let arg0 : BitVec 32 := BitVec.ofNat 32 (i 0).val
  let c512_i32 : BitVec 32 := 512#32
  let v0 : BitVec 32 := Scalar.muli arg0 c512_i32
  let c141_i32 : BitVec 32 := 141#32
  let v988 : BitVec 32 := Scalar.addi v0 c141_i32
  let v989 : Index := Scalar.indexCast v988
  ![v989.toNat]
def k0_off284 (v990 : BitVec 32) : Fin 2 → Nat :=
  let c0_i32_425 : BitVec 32 := 0#32
  ![v990.toNat, 0]

def k0_chk142 (v990 : BitVec 32) : Prop :=
  (∀ a, (k0_off284 v990) a + S1x768.size a ≤ S50257x768.size a)
theorem k0_off284_inb : ∀ (v990 : BitVec 32) (k0_hw142 : k0_chk142 v990), ∀ a, (k0_off284 v990) a + S1x768.size a ≤ S50257x768.size a := fun v990 k0_hw142 => k0_hw142

def k0_off285 (i : grid0.Coords) : Fin 1 → Nat :=
  let arg0 : BitVec 32 := BitVec.ofNat 32 (i 0).val
  let c512_i32 : BitVec 32 := 512#32
  let v0 : BitVec 32 := Scalar.muli arg0 c512_i32
  let c142_i32 : BitVec 32 := 142#32
  let v995 : BitVec 32 := Scalar.addi v0 c142_i32
  let v996 : Index := Scalar.indexCast v995
  ![v996.toNat]
def k0_off286 (v997 : BitVec 32) : Fin 2 → Nat :=
  let c0_i32_428 : BitVec 32 := 0#32
  ![v997.toNat, 0]

def k0_chk143 (v997 : BitVec 32) : Prop :=
  (∀ a, (k0_off286 v997) a + S1x768.size a ≤ S50257x768.size a)
theorem k0_off286_inb : ∀ (v997 : BitVec 32) (k0_hw143 : k0_chk143 v997), ∀ a, (k0_off286 v997) a + S1x768.size a ≤ S50257x768.size a := fun v997 k0_hw143 => k0_hw143

def k0_off287 (i : grid0.Coords) : Fin 1 → Nat :=
  let arg0 : BitVec 32 := BitVec.ofNat 32 (i 0).val
  let c512_i32 : BitVec 32 := 512#32
  let v0 : BitVec 32 := Scalar.muli arg0 c512_i32
  let c143_i32 : BitVec 32 := 143#32
  let v1002 : BitVec 32 := Scalar.addi v0 c143_i32
  let v1003 : Index := Scalar.indexCast v1002
  ![v1003.toNat]
def k0_off288 (v1004 : BitVec 32) : Fin 2 → Nat :=
  let c0_i32_431 : BitVec 32 := 0#32
  ![v1004.toNat, 0]

def k0_chk144 (v1004 : BitVec 32) : Prop :=
  (∀ a, (k0_off288 v1004) a + S1x768.size a ≤ S50257x768.size a)
theorem k0_off288_inb : ∀ (v1004 : BitVec 32) (k0_hw144 : k0_chk144 v1004), ∀ a, (k0_off288 v1004) a + S1x768.size a ≤ S50257x768.size a := fun v1004 k0_hw144 => k0_hw144

def k0_off289 (i : grid0.Coords) : Fin 1 → Nat :=
  let arg0 : BitVec 32 := BitVec.ofNat 32 (i 0).val
  let c512_i32 : BitVec 32 := 512#32
  let v0 : BitVec 32 := Scalar.muli arg0 c512_i32
  let c144_i32 : BitVec 32 := 144#32
  let v1009 : BitVec 32 := Scalar.addi v0 c144_i32
  let v1010 : Index := Scalar.indexCast v1009
  ![v1010.toNat]
def k0_off290 (v1011 : BitVec 32) : Fin 2 → Nat :=
  let c0_i32_434 : BitVec 32 := 0#32
  ![v1011.toNat, 0]

def k0_chk145 (v1011 : BitVec 32) : Prop :=
  (∀ a, (k0_off290 v1011) a + S1x768.size a ≤ S50257x768.size a)
theorem k0_off290_inb : ∀ (v1011 : BitVec 32) (k0_hw145 : k0_chk145 v1011), ∀ a, (k0_off290 v1011) a + S1x768.size a ≤ S50257x768.size a := fun v1011 k0_hw145 => k0_hw145

def k0_off291 (i : grid0.Coords) : Fin 1 → Nat :=
  let arg0 : BitVec 32 := BitVec.ofNat 32 (i 0).val
  let c512_i32 : BitVec 32 := 512#32
  let v0 : BitVec 32 := Scalar.muli arg0 c512_i32
  let c145_i32 : BitVec 32 := 145#32
  let v1016 : BitVec 32 := Scalar.addi v0 c145_i32
  let v1017 : Index := Scalar.indexCast v1016
  ![v1017.toNat]
def k0_off292 (v1018 : BitVec 32) : Fin 2 → Nat :=
  let c0_i32_437 : BitVec 32 := 0#32
  ![v1018.toNat, 0]

def k0_chk146 (v1018 : BitVec 32) : Prop :=
  (∀ a, (k0_off292 v1018) a + S1x768.size a ≤ S50257x768.size a)
theorem k0_off292_inb : ∀ (v1018 : BitVec 32) (k0_hw146 : k0_chk146 v1018), ∀ a, (k0_off292 v1018) a + S1x768.size a ≤ S50257x768.size a := fun v1018 k0_hw146 => k0_hw146

def k0_off293 (i : grid0.Coords) : Fin 1 → Nat :=
  let arg0 : BitVec 32 := BitVec.ofNat 32 (i 0).val
  let c512_i32 : BitVec 32 := 512#32
  let v0 : BitVec 32 := Scalar.muli arg0 c512_i32
  let c146_i32 : BitVec 32 := 146#32
  let v1023 : BitVec 32 := Scalar.addi v0 c146_i32
  let v1024 : Index := Scalar.indexCast v1023
  ![v1024.toNat]
def k0_off294 (v1025 : BitVec 32) : Fin 2 → Nat :=
  let c0_i32_440 : BitVec 32 := 0#32
  ![v1025.toNat, 0]

def k0_chk147 (v1025 : BitVec 32) : Prop :=
  (∀ a, (k0_off294 v1025) a + S1x768.size a ≤ S50257x768.size a)
theorem k0_off294_inb : ∀ (v1025 : BitVec 32) (k0_hw147 : k0_chk147 v1025), ∀ a, (k0_off294 v1025) a + S1x768.size a ≤ S50257x768.size a := fun v1025 k0_hw147 => k0_hw147

def k0_off295 (i : grid0.Coords) : Fin 1 → Nat :=
  let arg0 : BitVec 32 := BitVec.ofNat 32 (i 0).val
  let c512_i32 : BitVec 32 := 512#32
  let v0 : BitVec 32 := Scalar.muli arg0 c512_i32
  let c147_i32 : BitVec 32 := 147#32
  let v1030 : BitVec 32 := Scalar.addi v0 c147_i32
  let v1031 : Index := Scalar.indexCast v1030
  ![v1031.toNat]
def k0_off296 (v1032 : BitVec 32) : Fin 2 → Nat :=
  let c0_i32_443 : BitVec 32 := 0#32
  ![v1032.toNat, 0]

def k0_chk148 (v1032 : BitVec 32) : Prop :=
  (∀ a, (k0_off296 v1032) a + S1x768.size a ≤ S50257x768.size a)
theorem k0_off296_inb : ∀ (v1032 : BitVec 32) (k0_hw148 : k0_chk148 v1032), ∀ a, (k0_off296 v1032) a + S1x768.size a ≤ S50257x768.size a := fun v1032 k0_hw148 => k0_hw148

def k0_off297 (i : grid0.Coords) : Fin 1 → Nat :=
  let arg0 : BitVec 32 := BitVec.ofNat 32 (i 0).val
  let c512_i32 : BitVec 32 := 512#32
  let v0 : BitVec 32 := Scalar.muli arg0 c512_i32
  let c148_i32 : BitVec 32 := 148#32
  let v1037 : BitVec 32 := Scalar.addi v0 c148_i32
  let v1038 : Index := Scalar.indexCast v1037
  ![v1038.toNat]
def k0_off298 (v1039 : BitVec 32) : Fin 2 → Nat :=
  let c0_i32_446 : BitVec 32 := 0#32
  ![v1039.toNat, 0]

def k0_chk149 (v1039 : BitVec 32) : Prop :=
  (∀ a, (k0_off298 v1039) a + S1x768.size a ≤ S50257x768.size a)
theorem k0_off298_inb : ∀ (v1039 : BitVec 32) (k0_hw149 : k0_chk149 v1039), ∀ a, (k0_off298 v1039) a + S1x768.size a ≤ S50257x768.size a := fun v1039 k0_hw149 => k0_hw149

def k0_off299 (i : grid0.Coords) : Fin 1 → Nat :=
  let arg0 : BitVec 32 := BitVec.ofNat 32 (i 0).val
  let c512_i32 : BitVec 32 := 512#32
  let v0 : BitVec 32 := Scalar.muli arg0 c512_i32
  let c149_i32 : BitVec 32 := 149#32
  let v1044 : BitVec 32 := Scalar.addi v0 c149_i32
  let v1045 : Index := Scalar.indexCast v1044
  ![v1045.toNat]
def k0_off300 (v1046 : BitVec 32) : Fin 2 → Nat :=
  let c0_i32_449 : BitVec 32 := 0#32
  ![v1046.toNat, 0]

def k0_chk150 (v1046 : BitVec 32) : Prop :=
  (∀ a, (k0_off300 v1046) a + S1x768.size a ≤ S50257x768.size a)
theorem k0_off300_inb : ∀ (v1046 : BitVec 32) (k0_hw150 : k0_chk150 v1046), ∀ a, (k0_off300 v1046) a + S1x768.size a ≤ S50257x768.size a := fun v1046 k0_hw150 => k0_hw150

def k0_off301 (i : grid0.Coords) : Fin 1 → Nat :=
  let arg0 : BitVec 32 := BitVec.ofNat 32 (i 0).val
  let c512_i32 : BitVec 32 := 512#32
  let v0 : BitVec 32 := Scalar.muli arg0 c512_i32
  let c150_i32 : BitVec 32 := 150#32
  let v1051 : BitVec 32 := Scalar.addi v0 c150_i32
  let v1052 : Index := Scalar.indexCast v1051
  ![v1052.toNat]
def k0_off302 (v1053 : BitVec 32) : Fin 2 → Nat :=
  let c0_i32_452 : BitVec 32 := 0#32
  ![v1053.toNat, 0]

def k0_chk151 (v1053 : BitVec 32) : Prop :=
  (∀ a, (k0_off302 v1053) a + S1x768.size a ≤ S50257x768.size a)
theorem k0_off302_inb : ∀ (v1053 : BitVec 32) (k0_hw151 : k0_chk151 v1053), ∀ a, (k0_off302 v1053) a + S1x768.size a ≤ S50257x768.size a := fun v1053 k0_hw151 => k0_hw151

def k0_off303 (i : grid0.Coords) : Fin 1 → Nat :=
  let arg0 : BitVec 32 := BitVec.ofNat 32 (i 0).val
  let c512_i32 : BitVec 32 := 512#32
  let v0 : BitVec 32 := Scalar.muli arg0 c512_i32
  let c151_i32 : BitVec 32 := 151#32
  let v1058 : BitVec 32 := Scalar.addi v0 c151_i32
  let v1059 : Index := Scalar.indexCast v1058
  ![v1059.toNat]
def k0_off304 (v1060 : BitVec 32) : Fin 2 → Nat :=
  let c0_i32_455 : BitVec 32 := 0#32
  ![v1060.toNat, 0]

def k0_chk152 (v1060 : BitVec 32) : Prop :=
  (∀ a, (k0_off304 v1060) a + S1x768.size a ≤ S50257x768.size a)
theorem k0_off304_inb : ∀ (v1060 : BitVec 32) (k0_hw152 : k0_chk152 v1060), ∀ a, (k0_off304 v1060) a + S1x768.size a ≤ S50257x768.size a := fun v1060 k0_hw152 => k0_hw152

def k0_off305 (i : grid0.Coords) : Fin 1 → Nat :=
  let arg0 : BitVec 32 := BitVec.ofNat 32 (i 0).val
  let c512_i32 : BitVec 32 := 512#32
  let v0 : BitVec 32 := Scalar.muli arg0 c512_i32
  let c152_i32 : BitVec 32 := 152#32
  let v1065 : BitVec 32 := Scalar.addi v0 c152_i32
  let v1066 : Index := Scalar.indexCast v1065
  ![v1066.toNat]
def k0_off306 (v1067 : BitVec 32) : Fin 2 → Nat :=
  let c0_i32_458 : BitVec 32 := 0#32
  ![v1067.toNat, 0]

def k0_chk153 (v1067 : BitVec 32) : Prop :=
  (∀ a, (k0_off306 v1067) a + S1x768.size a ≤ S50257x768.size a)
theorem k0_off306_inb : ∀ (v1067 : BitVec 32) (k0_hw153 : k0_chk153 v1067), ∀ a, (k0_off306 v1067) a + S1x768.size a ≤ S50257x768.size a := fun v1067 k0_hw153 => k0_hw153

def k0_off307 (i : grid0.Coords) : Fin 1 → Nat :=
  let arg0 : BitVec 32 := BitVec.ofNat 32 (i 0).val
  let c512_i32 : BitVec 32 := 512#32
  let v0 : BitVec 32 := Scalar.muli arg0 c512_i32
  let c153_i32 : BitVec 32 := 153#32
  let v1072 : BitVec 32 := Scalar.addi v0 c153_i32
  let v1073 : Index := Scalar.indexCast v1072
  ![v1073.toNat]
def k0_off308 (v1074 : BitVec 32) : Fin 2 → Nat :=
  let c0_i32_461 : BitVec 32 := 0#32
  ![v1074.toNat, 0]

def k0_chk154 (v1074 : BitVec 32) : Prop :=
  (∀ a, (k0_off308 v1074) a + S1x768.size a ≤ S50257x768.size a)
theorem k0_off308_inb : ∀ (v1074 : BitVec 32) (k0_hw154 : k0_chk154 v1074), ∀ a, (k0_off308 v1074) a + S1x768.size a ≤ S50257x768.size a := fun v1074 k0_hw154 => k0_hw154

def k0_off309 (i : grid0.Coords) : Fin 1 → Nat :=
  let arg0 : BitVec 32 := BitVec.ofNat 32 (i 0).val
  let c512_i32 : BitVec 32 := 512#32
  let v0 : BitVec 32 := Scalar.muli arg0 c512_i32
  let c154_i32 : BitVec 32 := 154#32
  let v1079 : BitVec 32 := Scalar.addi v0 c154_i32
  let v1080 : Index := Scalar.indexCast v1079
  ![v1080.toNat]
def k0_off310 (v1081 : BitVec 32) : Fin 2 → Nat :=
  let c0_i32_464 : BitVec 32 := 0#32
  ![v1081.toNat, 0]

def k0_chk155 (v1081 : BitVec 32) : Prop :=
  (∀ a, (k0_off310 v1081) a + S1x768.size a ≤ S50257x768.size a)
theorem k0_off310_inb : ∀ (v1081 : BitVec 32) (k0_hw155 : k0_chk155 v1081), ∀ a, (k0_off310 v1081) a + S1x768.size a ≤ S50257x768.size a := fun v1081 k0_hw155 => k0_hw155

def k0_off311 (i : grid0.Coords) : Fin 1 → Nat :=
  let arg0 : BitVec 32 := BitVec.ofNat 32 (i 0).val
  let c512_i32 : BitVec 32 := 512#32
  let v0 : BitVec 32 := Scalar.muli arg0 c512_i32
  let c155_i32 : BitVec 32 := 155#32
  let v1086 : BitVec 32 := Scalar.addi v0 c155_i32
  let v1087 : Index := Scalar.indexCast v1086
  ![v1087.toNat]
def k0_off312 (v1088 : BitVec 32) : Fin 2 → Nat :=
  let c0_i32_467 : BitVec 32 := 0#32
  ![v1088.toNat, 0]

def k0_chk156 (v1088 : BitVec 32) : Prop :=
  (∀ a, (k0_off312 v1088) a + S1x768.size a ≤ S50257x768.size a)
theorem k0_off312_inb : ∀ (v1088 : BitVec 32) (k0_hw156 : k0_chk156 v1088), ∀ a, (k0_off312 v1088) a + S1x768.size a ≤ S50257x768.size a := fun v1088 k0_hw156 => k0_hw156

def k0_off313 (i : grid0.Coords) : Fin 1 → Nat :=
  let arg0 : BitVec 32 := BitVec.ofNat 32 (i 0).val
  let c512_i32 : BitVec 32 := 512#32
  let v0 : BitVec 32 := Scalar.muli arg0 c512_i32
  let c156_i32 : BitVec 32 := 156#32
  let v1093 : BitVec 32 := Scalar.addi v0 c156_i32
  let v1094 : Index := Scalar.indexCast v1093
  ![v1094.toNat]
def k0_off314 (v1095 : BitVec 32) : Fin 2 → Nat :=
  let c0_i32_470 : BitVec 32 := 0#32
  ![v1095.toNat, 0]

def k0_chk157 (v1095 : BitVec 32) : Prop :=
  (∀ a, (k0_off314 v1095) a + S1x768.size a ≤ S50257x768.size a)
theorem k0_off314_inb : ∀ (v1095 : BitVec 32) (k0_hw157 : k0_chk157 v1095), ∀ a, (k0_off314 v1095) a + S1x768.size a ≤ S50257x768.size a := fun v1095 k0_hw157 => k0_hw157

def k0_off315 (i : grid0.Coords) : Fin 1 → Nat :=
  let arg0 : BitVec 32 := BitVec.ofNat 32 (i 0).val
  let c512_i32 : BitVec 32 := 512#32
  let v0 : BitVec 32 := Scalar.muli arg0 c512_i32
  let c157_i32 : BitVec 32 := 157#32
  let v1100 : BitVec 32 := Scalar.addi v0 c157_i32
  let v1101 : Index := Scalar.indexCast v1100
  ![v1101.toNat]
def k0_off316 (v1102 : BitVec 32) : Fin 2 → Nat :=
  let c0_i32_473 : BitVec 32 := 0#32
  ![v1102.toNat, 0]

def k0_chk158 (v1102 : BitVec 32) : Prop :=
  (∀ a, (k0_off316 v1102) a + S1x768.size a ≤ S50257x768.size a)
theorem k0_off316_inb : ∀ (v1102 : BitVec 32) (k0_hw158 : k0_chk158 v1102), ∀ a, (k0_off316 v1102) a + S1x768.size a ≤ S50257x768.size a := fun v1102 k0_hw158 => k0_hw158

def k0_off317 (i : grid0.Coords) : Fin 1 → Nat :=
  let arg0 : BitVec 32 := BitVec.ofNat 32 (i 0).val
  let c512_i32 : BitVec 32 := 512#32
  let v0 : BitVec 32 := Scalar.muli arg0 c512_i32
  let c158_i32 : BitVec 32 := 158#32
  let v1107 : BitVec 32 := Scalar.addi v0 c158_i32
  let v1108 : Index := Scalar.indexCast v1107
  ![v1108.toNat]
def k0_off318 (v1109 : BitVec 32) : Fin 2 → Nat :=
  let c0_i32_476 : BitVec 32 := 0#32
  ![v1109.toNat, 0]

def k0_chk159 (v1109 : BitVec 32) : Prop :=
  (∀ a, (k0_off318 v1109) a + S1x768.size a ≤ S50257x768.size a)
theorem k0_off318_inb : ∀ (v1109 : BitVec 32) (k0_hw159 : k0_chk159 v1109), ∀ a, (k0_off318 v1109) a + S1x768.size a ≤ S50257x768.size a := fun v1109 k0_hw159 => k0_hw159

def k0_off319 (i : grid0.Coords) : Fin 1 → Nat :=
  let arg0 : BitVec 32 := BitVec.ofNat 32 (i 0).val
  let c512_i32 : BitVec 32 := 512#32
  let v0 : BitVec 32 := Scalar.muli arg0 c512_i32
  let c159_i32 : BitVec 32 := 159#32
  let v1114 : BitVec 32 := Scalar.addi v0 c159_i32
  let v1115 : Index := Scalar.indexCast v1114
  ![v1115.toNat]
def k0_off320 (v1116 : BitVec 32) : Fin 2 → Nat :=
  let c0_i32_479 : BitVec 32 := 0#32
  ![v1116.toNat, 0]

def k0_chk160 (v1116 : BitVec 32) : Prop :=
  (∀ a, (k0_off320 v1116) a + S1x768.size a ≤ S50257x768.size a)
theorem k0_off320_inb : ∀ (v1116 : BitVec 32) (k0_hw160 : k0_chk160 v1116), ∀ a, (k0_off320 v1116) a + S1x768.size a ≤ S50257x768.size a := fun v1116 k0_hw160 => k0_hw160

def k0_off321 (i : grid0.Coords) : Fin 1 → Nat :=
  let arg0 : BitVec 32 := BitVec.ofNat 32 (i 0).val
  let c512_i32 : BitVec 32 := 512#32
  let v0 : BitVec 32 := Scalar.muli arg0 c512_i32
  let c160_i32 : BitVec 32 := 160#32
  let v1121 : BitVec 32 := Scalar.addi v0 c160_i32
  let v1122 : Index := Scalar.indexCast v1121
  ![v1122.toNat]
def k0_off322 (v1123 : BitVec 32) : Fin 2 → Nat :=
  let c0_i32_482 : BitVec 32 := 0#32
  ![v1123.toNat, 0]

def k0_chk161 (v1123 : BitVec 32) : Prop :=
  (∀ a, (k0_off322 v1123) a + S1x768.size a ≤ S50257x768.size a)
theorem k0_off322_inb : ∀ (v1123 : BitVec 32) (k0_hw161 : k0_chk161 v1123), ∀ a, (k0_off322 v1123) a + S1x768.size a ≤ S50257x768.size a := fun v1123 k0_hw161 => k0_hw161

def k0_off323 (i : grid0.Coords) : Fin 1 → Nat :=
  let arg0 : BitVec 32 := BitVec.ofNat 32 (i 0).val
  let c512_i32 : BitVec 32 := 512#32
  let v0 : BitVec 32 := Scalar.muli arg0 c512_i32
  let c161_i32 : BitVec 32 := 161#32
  let v1128 : BitVec 32 := Scalar.addi v0 c161_i32
  let v1129 : Index := Scalar.indexCast v1128
  ![v1129.toNat]
def k0_off324 (v1130 : BitVec 32) : Fin 2 → Nat :=
  let c0_i32_485 : BitVec 32 := 0#32
  ![v1130.toNat, 0]

def k0_chk162 (v1130 : BitVec 32) : Prop :=
  (∀ a, (k0_off324 v1130) a + S1x768.size a ≤ S50257x768.size a)
theorem k0_off324_inb : ∀ (v1130 : BitVec 32) (k0_hw162 : k0_chk162 v1130), ∀ a, (k0_off324 v1130) a + S1x768.size a ≤ S50257x768.size a := fun v1130 k0_hw162 => k0_hw162

def k0_off325 (i : grid0.Coords) : Fin 1 → Nat :=
  let arg0 : BitVec 32 := BitVec.ofNat 32 (i 0).val
  let c512_i32 : BitVec 32 := 512#32
  let v0 : BitVec 32 := Scalar.muli arg0 c512_i32
  let c162_i32 : BitVec 32 := 162#32
  let v1135 : BitVec 32 := Scalar.addi v0 c162_i32
  let v1136 : Index := Scalar.indexCast v1135
  ![v1136.toNat]
def k0_off326 (v1137 : BitVec 32) : Fin 2 → Nat :=
  let c0_i32_488 : BitVec 32 := 0#32
  ![v1137.toNat, 0]

def k0_chk163 (v1137 : BitVec 32) : Prop :=
  (∀ a, (k0_off326 v1137) a + S1x768.size a ≤ S50257x768.size a)
theorem k0_off326_inb : ∀ (v1137 : BitVec 32) (k0_hw163 : k0_chk163 v1137), ∀ a, (k0_off326 v1137) a + S1x768.size a ≤ S50257x768.size a := fun v1137 k0_hw163 => k0_hw163

def k0_off327 (i : grid0.Coords) : Fin 1 → Nat :=
  let arg0 : BitVec 32 := BitVec.ofNat 32 (i 0).val
  let c512_i32 : BitVec 32 := 512#32
  let v0 : BitVec 32 := Scalar.muli arg0 c512_i32
  let c163_i32 : BitVec 32 := 163#32
  let v1142 : BitVec 32 := Scalar.addi v0 c163_i32
  let v1143 : Index := Scalar.indexCast v1142
  ![v1143.toNat]
def k0_off328 (v1144 : BitVec 32) : Fin 2 → Nat :=
  let c0_i32_491 : BitVec 32 := 0#32
  ![v1144.toNat, 0]

def k0_chk164 (v1144 : BitVec 32) : Prop :=
  (∀ a, (k0_off328 v1144) a + S1x768.size a ≤ S50257x768.size a)
theorem k0_off328_inb : ∀ (v1144 : BitVec 32) (k0_hw164 : k0_chk164 v1144), ∀ a, (k0_off328 v1144) a + S1x768.size a ≤ S50257x768.size a := fun v1144 k0_hw164 => k0_hw164

def k0_off329 (i : grid0.Coords) : Fin 1 → Nat :=
  let arg0 : BitVec 32 := BitVec.ofNat 32 (i 0).val
  let c512_i32 : BitVec 32 := 512#32
  let v0 : BitVec 32 := Scalar.muli arg0 c512_i32
  let c164_i32 : BitVec 32 := 164#32
  let v1149 : BitVec 32 := Scalar.addi v0 c164_i32
  let v1150 : Index := Scalar.indexCast v1149
  ![v1150.toNat]
def k0_off330 (v1151 : BitVec 32) : Fin 2 → Nat :=
  let c0_i32_494 : BitVec 32 := 0#32
  ![v1151.toNat, 0]

def k0_chk165 (v1151 : BitVec 32) : Prop :=
  (∀ a, (k0_off330 v1151) a + S1x768.size a ≤ S50257x768.size a)
theorem k0_off330_inb : ∀ (v1151 : BitVec 32) (k0_hw165 : k0_chk165 v1151), ∀ a, (k0_off330 v1151) a + S1x768.size a ≤ S50257x768.size a := fun v1151 k0_hw165 => k0_hw165

def k0_off331 (i : grid0.Coords) : Fin 1 → Nat :=
  let arg0 : BitVec 32 := BitVec.ofNat 32 (i 0).val
  let c512_i32 : BitVec 32 := 512#32
  let v0 : BitVec 32 := Scalar.muli arg0 c512_i32
  let c165_i32 : BitVec 32 := 165#32
  let v1156 : BitVec 32 := Scalar.addi v0 c165_i32
  let v1157 : Index := Scalar.indexCast v1156
  ![v1157.toNat]
def k0_off332 (v1158 : BitVec 32) : Fin 2 → Nat :=
  let c0_i32_497 : BitVec 32 := 0#32
  ![v1158.toNat, 0]

def k0_chk166 (v1158 : BitVec 32) : Prop :=
  (∀ a, (k0_off332 v1158) a + S1x768.size a ≤ S50257x768.size a)
theorem k0_off332_inb : ∀ (v1158 : BitVec 32) (k0_hw166 : k0_chk166 v1158), ∀ a, (k0_off332 v1158) a + S1x768.size a ≤ S50257x768.size a := fun v1158 k0_hw166 => k0_hw166

def k0_off333 (i : grid0.Coords) : Fin 1 → Nat :=
  let arg0 : BitVec 32 := BitVec.ofNat 32 (i 0).val
  let c512_i32 : BitVec 32 := 512#32
  let v0 : BitVec 32 := Scalar.muli arg0 c512_i32
  let c166_i32 : BitVec 32 := 166#32
  let v1163 : BitVec 32 := Scalar.addi v0 c166_i32
  let v1164 : Index := Scalar.indexCast v1163
  ![v1164.toNat]
def k0_off334 (v1165 : BitVec 32) : Fin 2 → Nat :=
  let c0_i32_500 : BitVec 32 := 0#32
  ![v1165.toNat, 0]

def k0_chk167 (v1165 : BitVec 32) : Prop :=
  (∀ a, (k0_off334 v1165) a + S1x768.size a ≤ S50257x768.size a)
theorem k0_off334_inb : ∀ (v1165 : BitVec 32) (k0_hw167 : k0_chk167 v1165), ∀ a, (k0_off334 v1165) a + S1x768.size a ≤ S50257x768.size a := fun v1165 k0_hw167 => k0_hw167

def k0_off335 (i : grid0.Coords) : Fin 1 → Nat :=
  let arg0 : BitVec 32 := BitVec.ofNat 32 (i 0).val
  let c512_i32 : BitVec 32 := 512#32
  let v0 : BitVec 32 := Scalar.muli arg0 c512_i32
  let c167_i32 : BitVec 32 := 167#32
  let v1170 : BitVec 32 := Scalar.addi v0 c167_i32
  let v1171 : Index := Scalar.indexCast v1170
  ![v1171.toNat]
def k0_off336 (v1172 : BitVec 32) : Fin 2 → Nat :=
  let c0_i32_503 : BitVec 32 := 0#32
  ![v1172.toNat, 0]

def k0_chk168 (v1172 : BitVec 32) : Prop :=
  (∀ a, (k0_off336 v1172) a + S1x768.size a ≤ S50257x768.size a)
theorem k0_off336_inb : ∀ (v1172 : BitVec 32) (k0_hw168 : k0_chk168 v1172), ∀ a, (k0_off336 v1172) a + S1x768.size a ≤ S50257x768.size a := fun v1172 k0_hw168 => k0_hw168

def k0_off337 (i : grid0.Coords) : Fin 1 → Nat :=
  let arg0 : BitVec 32 := BitVec.ofNat 32 (i 0).val
  let c512_i32 : BitVec 32 := 512#32
  let v0 : BitVec 32 := Scalar.muli arg0 c512_i32
  let c168_i32 : BitVec 32 := 168#32
  let v1177 : BitVec 32 := Scalar.addi v0 c168_i32
  let v1178 : Index := Scalar.indexCast v1177
  ![v1178.toNat]
def k0_off338 (v1179 : BitVec 32) : Fin 2 → Nat :=
  let c0_i32_506 : BitVec 32 := 0#32
  ![v1179.toNat, 0]

def k0_chk169 (v1179 : BitVec 32) : Prop :=
  (∀ a, (k0_off338 v1179) a + S1x768.size a ≤ S50257x768.size a)
theorem k0_off338_inb : ∀ (v1179 : BitVec 32) (k0_hw169 : k0_chk169 v1179), ∀ a, (k0_off338 v1179) a + S1x768.size a ≤ S50257x768.size a := fun v1179 k0_hw169 => k0_hw169

def k0_off339 (i : grid0.Coords) : Fin 1 → Nat :=
  let arg0 : BitVec 32 := BitVec.ofNat 32 (i 0).val
  let c512_i32 : BitVec 32 := 512#32
  let v0 : BitVec 32 := Scalar.muli arg0 c512_i32
  let c169_i32 : BitVec 32 := 169#32
  let v1184 : BitVec 32 := Scalar.addi v0 c169_i32
  let v1185 : Index := Scalar.indexCast v1184
  ![v1185.toNat]
def k0_off340 (v1186 : BitVec 32) : Fin 2 → Nat :=
  let c0_i32_509 : BitVec 32 := 0#32
  ![v1186.toNat, 0]

def k0_chk170 (v1186 : BitVec 32) : Prop :=
  (∀ a, (k0_off340 v1186) a + S1x768.size a ≤ S50257x768.size a)
theorem k0_off340_inb : ∀ (v1186 : BitVec 32) (k0_hw170 : k0_chk170 v1186), ∀ a, (k0_off340 v1186) a + S1x768.size a ≤ S50257x768.size a := fun v1186 k0_hw170 => k0_hw170

def k0_off341 (i : grid0.Coords) : Fin 1 → Nat :=
  let arg0 : BitVec 32 := BitVec.ofNat 32 (i 0).val
  let c512_i32 : BitVec 32 := 512#32
  let v0 : BitVec 32 := Scalar.muli arg0 c512_i32
  let c170_i32 : BitVec 32 := 170#32
  let v1191 : BitVec 32 := Scalar.addi v0 c170_i32
  let v1192 : Index := Scalar.indexCast v1191
  ![v1192.toNat]
def k0_off342 (v1193 : BitVec 32) : Fin 2 → Nat :=
  let c0_i32_512 : BitVec 32 := 0#32
  ![v1193.toNat, 0]

def k0_chk171 (v1193 : BitVec 32) : Prop :=
  (∀ a, (k0_off342 v1193) a + S1x768.size a ≤ S50257x768.size a)
theorem k0_off342_inb : ∀ (v1193 : BitVec 32) (k0_hw171 : k0_chk171 v1193), ∀ a, (k0_off342 v1193) a + S1x768.size a ≤ S50257x768.size a := fun v1193 k0_hw171 => k0_hw171

def k0_off343 (i : grid0.Coords) : Fin 1 → Nat :=
  let arg0 : BitVec 32 := BitVec.ofNat 32 (i 0).val
  let c512_i32 : BitVec 32 := 512#32
  let v0 : BitVec 32 := Scalar.muli arg0 c512_i32
  let c171_i32 : BitVec 32 := 171#32
  let v1198 : BitVec 32 := Scalar.addi v0 c171_i32
  let v1199 : Index := Scalar.indexCast v1198
  ![v1199.toNat]
def k0_off344 (v1200 : BitVec 32) : Fin 2 → Nat :=
  let c0_i32_515 : BitVec 32 := 0#32
  ![v1200.toNat, 0]

def k0_chk172 (v1200 : BitVec 32) : Prop :=
  (∀ a, (k0_off344 v1200) a + S1x768.size a ≤ S50257x768.size a)
theorem k0_off344_inb : ∀ (v1200 : BitVec 32) (k0_hw172 : k0_chk172 v1200), ∀ a, (k0_off344 v1200) a + S1x768.size a ≤ S50257x768.size a := fun v1200 k0_hw172 => k0_hw172

def k0_off345 (i : grid0.Coords) : Fin 1 → Nat :=
  let arg0 : BitVec 32 := BitVec.ofNat 32 (i 0).val
  let c512_i32 : BitVec 32 := 512#32
  let v0 : BitVec 32 := Scalar.muli arg0 c512_i32
  let c172_i32 : BitVec 32 := 172#32
  let v1205 : BitVec 32 := Scalar.addi v0 c172_i32
  let v1206 : Index := Scalar.indexCast v1205
  ![v1206.toNat]
def k0_off346 (v1207 : BitVec 32) : Fin 2 → Nat :=
  let c0_i32_518 : BitVec 32 := 0#32
  ![v1207.toNat, 0]

def k0_chk173 (v1207 : BitVec 32) : Prop :=
  (∀ a, (k0_off346 v1207) a + S1x768.size a ≤ S50257x768.size a)
theorem k0_off346_inb : ∀ (v1207 : BitVec 32) (k0_hw173 : k0_chk173 v1207), ∀ a, (k0_off346 v1207) a + S1x768.size a ≤ S50257x768.size a := fun v1207 k0_hw173 => k0_hw173

def k0_off347 (i : grid0.Coords) : Fin 1 → Nat :=
  let arg0 : BitVec 32 := BitVec.ofNat 32 (i 0).val
  let c512_i32 : BitVec 32 := 512#32
  let v0 : BitVec 32 := Scalar.muli arg0 c512_i32
  let c173_i32 : BitVec 32 := 173#32
  let v1212 : BitVec 32 := Scalar.addi v0 c173_i32
  let v1213 : Index := Scalar.indexCast v1212
  ![v1213.toNat]
def k0_off348 (v1214 : BitVec 32) : Fin 2 → Nat :=
  let c0_i32_521 : BitVec 32 := 0#32
  ![v1214.toNat, 0]

def k0_chk174 (v1214 : BitVec 32) : Prop :=
  (∀ a, (k0_off348 v1214) a + S1x768.size a ≤ S50257x768.size a)
theorem k0_off348_inb : ∀ (v1214 : BitVec 32) (k0_hw174 : k0_chk174 v1214), ∀ a, (k0_off348 v1214) a + S1x768.size a ≤ S50257x768.size a := fun v1214 k0_hw174 => k0_hw174

def k0_off349 (i : grid0.Coords) : Fin 1 → Nat :=
  let arg0 : BitVec 32 := BitVec.ofNat 32 (i 0).val
  let c512_i32 : BitVec 32 := 512#32
  let v0 : BitVec 32 := Scalar.muli arg0 c512_i32
  let c174_i32 : BitVec 32 := 174#32
  let v1219 : BitVec 32 := Scalar.addi v0 c174_i32
  let v1220 : Index := Scalar.indexCast v1219
  ![v1220.toNat]
def k0_off350 (v1221 : BitVec 32) : Fin 2 → Nat :=
  let c0_i32_524 : BitVec 32 := 0#32
  ![v1221.toNat, 0]

def k0_chk175 (v1221 : BitVec 32) : Prop :=
  (∀ a, (k0_off350 v1221) a + S1x768.size a ≤ S50257x768.size a)
theorem k0_off350_inb : ∀ (v1221 : BitVec 32) (k0_hw175 : k0_chk175 v1221), ∀ a, (k0_off350 v1221) a + S1x768.size a ≤ S50257x768.size a := fun v1221 k0_hw175 => k0_hw175

def k0_off351 (i : grid0.Coords) : Fin 1 → Nat :=
  let arg0 : BitVec 32 := BitVec.ofNat 32 (i 0).val
  let c512_i32 : BitVec 32 := 512#32
  let v0 : BitVec 32 := Scalar.muli arg0 c512_i32
  let c175_i32 : BitVec 32 := 175#32
  let v1226 : BitVec 32 := Scalar.addi v0 c175_i32
  let v1227 : Index := Scalar.indexCast v1226
  ![v1227.toNat]
def k0_off352 (v1228 : BitVec 32) : Fin 2 → Nat :=
  let c0_i32_527 : BitVec 32 := 0#32
  ![v1228.toNat, 0]

def k0_chk176 (v1228 : BitVec 32) : Prop :=
  (∀ a, (k0_off352 v1228) a + S1x768.size a ≤ S50257x768.size a)
theorem k0_off352_inb : ∀ (v1228 : BitVec 32) (k0_hw176 : k0_chk176 v1228), ∀ a, (k0_off352 v1228) a + S1x768.size a ≤ S50257x768.size a := fun v1228 k0_hw176 => k0_hw176

def k0_off353 (i : grid0.Coords) : Fin 1 → Nat :=
  let arg0 : BitVec 32 := BitVec.ofNat 32 (i 0).val
  let c512_i32 : BitVec 32 := 512#32
  let v0 : BitVec 32 := Scalar.muli arg0 c512_i32
  let c176_i32 : BitVec 32 := 176#32
  let v1233 : BitVec 32 := Scalar.addi v0 c176_i32
  let v1234 : Index := Scalar.indexCast v1233
  ![v1234.toNat]
def k0_off354 (v1235 : BitVec 32) : Fin 2 → Nat :=
  let c0_i32_530 : BitVec 32 := 0#32
  ![v1235.toNat, 0]

def k0_chk177 (v1235 : BitVec 32) : Prop :=
  (∀ a, (k0_off354 v1235) a + S1x768.size a ≤ S50257x768.size a)
theorem k0_off354_inb : ∀ (v1235 : BitVec 32) (k0_hw177 : k0_chk177 v1235), ∀ a, (k0_off354 v1235) a + S1x768.size a ≤ S50257x768.size a := fun v1235 k0_hw177 => k0_hw177

def k0_off355 (i : grid0.Coords) : Fin 1 → Nat :=
  let arg0 : BitVec 32 := BitVec.ofNat 32 (i 0).val
  let c512_i32 : BitVec 32 := 512#32
  let v0 : BitVec 32 := Scalar.muli arg0 c512_i32
  let c177_i32 : BitVec 32 := 177#32
  let v1240 : BitVec 32 := Scalar.addi v0 c177_i32
  let v1241 : Index := Scalar.indexCast v1240
  ![v1241.toNat]
def k0_off356 (v1242 : BitVec 32) : Fin 2 → Nat :=
  let c0_i32_533 : BitVec 32 := 0#32
  ![v1242.toNat, 0]

def k0_chk178 (v1242 : BitVec 32) : Prop :=
  (∀ a, (k0_off356 v1242) a + S1x768.size a ≤ S50257x768.size a)
theorem k0_off356_inb : ∀ (v1242 : BitVec 32) (k0_hw178 : k0_chk178 v1242), ∀ a, (k0_off356 v1242) a + S1x768.size a ≤ S50257x768.size a := fun v1242 k0_hw178 => k0_hw178

def k0_off357 (i : grid0.Coords) : Fin 1 → Nat :=
  let arg0 : BitVec 32 := BitVec.ofNat 32 (i 0).val
  let c512_i32 : BitVec 32 := 512#32
  let v0 : BitVec 32 := Scalar.muli arg0 c512_i32
  let c178_i32 : BitVec 32 := 178#32
  let v1247 : BitVec 32 := Scalar.addi v0 c178_i32
  let v1248 : Index := Scalar.indexCast v1247
  ![v1248.toNat]
def k0_off358 (v1249 : BitVec 32) : Fin 2 → Nat :=
  let c0_i32_536 : BitVec 32 := 0#32
  ![v1249.toNat, 0]

def k0_chk179 (v1249 : BitVec 32) : Prop :=
  (∀ a, (k0_off358 v1249) a + S1x768.size a ≤ S50257x768.size a)
theorem k0_off358_inb : ∀ (v1249 : BitVec 32) (k0_hw179 : k0_chk179 v1249), ∀ a, (k0_off358 v1249) a + S1x768.size a ≤ S50257x768.size a := fun v1249 k0_hw179 => k0_hw179

def k0_off359 (i : grid0.Coords) : Fin 1 → Nat :=
  let arg0 : BitVec 32 := BitVec.ofNat 32 (i 0).val
  let c512_i32 : BitVec 32 := 512#32
  let v0 : BitVec 32 := Scalar.muli arg0 c512_i32
  let c179_i32 : BitVec 32 := 179#32
  let v1254 : BitVec 32 := Scalar.addi v0 c179_i32
  let v1255 : Index := Scalar.indexCast v1254
  ![v1255.toNat]
def k0_off360 (v1256 : BitVec 32) : Fin 2 → Nat :=
  let c0_i32_539 : BitVec 32 := 0#32
  ![v1256.toNat, 0]

def k0_chk180 (v1256 : BitVec 32) : Prop :=
  (∀ a, (k0_off360 v1256) a + S1x768.size a ≤ S50257x768.size a)
theorem k0_off360_inb : ∀ (v1256 : BitVec 32) (k0_hw180 : k0_chk180 v1256), ∀ a, (k0_off360 v1256) a + S1x768.size a ≤ S50257x768.size a := fun v1256 k0_hw180 => k0_hw180

def k0_off361 (i : grid0.Coords) : Fin 1 → Nat :=
  let arg0 : BitVec 32 := BitVec.ofNat 32 (i 0).val
  let c512_i32 : BitVec 32 := 512#32
  let v0 : BitVec 32 := Scalar.muli arg0 c512_i32
  let c180_i32 : BitVec 32 := 180#32
  let v1261 : BitVec 32 := Scalar.addi v0 c180_i32
  let v1262 : Index := Scalar.indexCast v1261
  ![v1262.toNat]
def k0_off362 (v1263 : BitVec 32) : Fin 2 → Nat :=
  let c0_i32_542 : BitVec 32 := 0#32
  ![v1263.toNat, 0]

def k0_chk181 (v1263 : BitVec 32) : Prop :=
  (∀ a, (k0_off362 v1263) a + S1x768.size a ≤ S50257x768.size a)
theorem k0_off362_inb : ∀ (v1263 : BitVec 32) (k0_hw181 : k0_chk181 v1263), ∀ a, (k0_off362 v1263) a + S1x768.size a ≤ S50257x768.size a := fun v1263 k0_hw181 => k0_hw181

def k0_off363 (i : grid0.Coords) : Fin 1 → Nat :=
  let arg0 : BitVec 32 := BitVec.ofNat 32 (i 0).val
  let c512_i32 : BitVec 32 := 512#32
  let v0 : BitVec 32 := Scalar.muli arg0 c512_i32
  let c181_i32 : BitVec 32 := 181#32
  let v1268 : BitVec 32 := Scalar.addi v0 c181_i32
  let v1269 : Index := Scalar.indexCast v1268
  ![v1269.toNat]
def k0_off364 (v1270 : BitVec 32) : Fin 2 → Nat :=
  let c0_i32_545 : BitVec 32 := 0#32
  ![v1270.toNat, 0]

def k0_chk182 (v1270 : BitVec 32) : Prop :=
  (∀ a, (k0_off364 v1270) a + S1x768.size a ≤ S50257x768.size a)
theorem k0_off364_inb : ∀ (v1270 : BitVec 32) (k0_hw182 : k0_chk182 v1270), ∀ a, (k0_off364 v1270) a + S1x768.size a ≤ S50257x768.size a := fun v1270 k0_hw182 => k0_hw182

def k0_off365 (i : grid0.Coords) : Fin 1 → Nat :=
  let arg0 : BitVec 32 := BitVec.ofNat 32 (i 0).val
  let c512_i32 : BitVec 32 := 512#32
  let v0 : BitVec 32 := Scalar.muli arg0 c512_i32
  let c182_i32 : BitVec 32 := 182#32
  let v1275 : BitVec 32 := Scalar.addi v0 c182_i32
  let v1276 : Index := Scalar.indexCast v1275
  ![v1276.toNat]
def k0_off366 (v1277 : BitVec 32) : Fin 2 → Nat :=
  let c0_i32_548 : BitVec 32 := 0#32
  ![v1277.toNat, 0]

def k0_chk183 (v1277 : BitVec 32) : Prop :=
  (∀ a, (k0_off366 v1277) a + S1x768.size a ≤ S50257x768.size a)
theorem k0_off366_inb : ∀ (v1277 : BitVec 32) (k0_hw183 : k0_chk183 v1277), ∀ a, (k0_off366 v1277) a + S1x768.size a ≤ S50257x768.size a := fun v1277 k0_hw183 => k0_hw183

def k0_off367 (i : grid0.Coords) : Fin 1 → Nat :=
  let arg0 : BitVec 32 := BitVec.ofNat 32 (i 0).val
  let c512_i32 : BitVec 32 := 512#32
  let v0 : BitVec 32 := Scalar.muli arg0 c512_i32
  let c183_i32 : BitVec 32 := 183#32
  let v1282 : BitVec 32 := Scalar.addi v0 c183_i32
  let v1283 : Index := Scalar.indexCast v1282
  ![v1283.toNat]
def k0_off368 (v1284 : BitVec 32) : Fin 2 → Nat :=
  let c0_i32_551 : BitVec 32 := 0#32
  ![v1284.toNat, 0]

def k0_chk184 (v1284 : BitVec 32) : Prop :=
  (∀ a, (k0_off368 v1284) a + S1x768.size a ≤ S50257x768.size a)
theorem k0_off368_inb : ∀ (v1284 : BitVec 32) (k0_hw184 : k0_chk184 v1284), ∀ a, (k0_off368 v1284) a + S1x768.size a ≤ S50257x768.size a := fun v1284 k0_hw184 => k0_hw184

def k0_off369 (i : grid0.Coords) : Fin 1 → Nat :=
  let arg0 : BitVec 32 := BitVec.ofNat 32 (i 0).val
  let c512_i32 : BitVec 32 := 512#32
  let v0 : BitVec 32 := Scalar.muli arg0 c512_i32
  let c184_i32 : BitVec 32 := 184#32
  let v1289 : BitVec 32 := Scalar.addi v0 c184_i32
  let v1290 : Index := Scalar.indexCast v1289
  ![v1290.toNat]
def k0_off370 (v1291 : BitVec 32) : Fin 2 → Nat :=
  let c0_i32_554 : BitVec 32 := 0#32
  ![v1291.toNat, 0]

def k0_chk185 (v1291 : BitVec 32) : Prop :=
  (∀ a, (k0_off370 v1291) a + S1x768.size a ≤ S50257x768.size a)
theorem k0_off370_inb : ∀ (v1291 : BitVec 32) (k0_hw185 : k0_chk185 v1291), ∀ a, (k0_off370 v1291) a + S1x768.size a ≤ S50257x768.size a := fun v1291 k0_hw185 => k0_hw185

def k0_off371 (i : grid0.Coords) : Fin 1 → Nat :=
  let arg0 : BitVec 32 := BitVec.ofNat 32 (i 0).val
  let c512_i32 : BitVec 32 := 512#32
  let v0 : BitVec 32 := Scalar.muli arg0 c512_i32
  let c185_i32 : BitVec 32 := 185#32
  let v1296 : BitVec 32 := Scalar.addi v0 c185_i32
  let v1297 : Index := Scalar.indexCast v1296
  ![v1297.toNat]
def k0_off372 (v1298 : BitVec 32) : Fin 2 → Nat :=
  let c0_i32_557 : BitVec 32 := 0#32
  ![v1298.toNat, 0]

def k0_chk186 (v1298 : BitVec 32) : Prop :=
  (∀ a, (k0_off372 v1298) a + S1x768.size a ≤ S50257x768.size a)
theorem k0_off372_inb : ∀ (v1298 : BitVec 32) (k0_hw186 : k0_chk186 v1298), ∀ a, (k0_off372 v1298) a + S1x768.size a ≤ S50257x768.size a := fun v1298 k0_hw186 => k0_hw186

def k0_off373 (i : grid0.Coords) : Fin 1 → Nat :=
  let arg0 : BitVec 32 := BitVec.ofNat 32 (i 0).val
  let c512_i32 : BitVec 32 := 512#32
  let v0 : BitVec 32 := Scalar.muli arg0 c512_i32
  let c186_i32 : BitVec 32 := 186#32
  let v1303 : BitVec 32 := Scalar.addi v0 c186_i32
  let v1304 : Index := Scalar.indexCast v1303
  ![v1304.toNat]
def k0_off374 (v1305 : BitVec 32) : Fin 2 → Nat :=
  let c0_i32_560 : BitVec 32 := 0#32
  ![v1305.toNat, 0]

def k0_chk187 (v1305 : BitVec 32) : Prop :=
  (∀ a, (k0_off374 v1305) a + S1x768.size a ≤ S50257x768.size a)
theorem k0_off374_inb : ∀ (v1305 : BitVec 32) (k0_hw187 : k0_chk187 v1305), ∀ a, (k0_off374 v1305) a + S1x768.size a ≤ S50257x768.size a := fun v1305 k0_hw187 => k0_hw187

def k0_off375 (i : grid0.Coords) : Fin 1 → Nat :=
  let arg0 : BitVec 32 := BitVec.ofNat 32 (i 0).val
  let c512_i32 : BitVec 32 := 512#32
  let v0 : BitVec 32 := Scalar.muli arg0 c512_i32
  let c187_i32 : BitVec 32 := 187#32
  let v1310 : BitVec 32 := Scalar.addi v0 c187_i32
  let v1311 : Index := Scalar.indexCast v1310
  ![v1311.toNat]
def k0_off376 (v1312 : BitVec 32) : Fin 2 → Nat :=
  let c0_i32_563 : BitVec 32 := 0#32
  ![v1312.toNat, 0]

def k0_chk188 (v1312 : BitVec 32) : Prop :=
  (∀ a, (k0_off376 v1312) a + S1x768.size a ≤ S50257x768.size a)
theorem k0_off376_inb : ∀ (v1312 : BitVec 32) (k0_hw188 : k0_chk188 v1312), ∀ a, (k0_off376 v1312) a + S1x768.size a ≤ S50257x768.size a := fun v1312 k0_hw188 => k0_hw188

def k0_off377 (i : grid0.Coords) : Fin 1 → Nat :=
  let arg0 : BitVec 32 := BitVec.ofNat 32 (i 0).val
  let c512_i32 : BitVec 32 := 512#32
  let v0 : BitVec 32 := Scalar.muli arg0 c512_i32
  let c188_i32 : BitVec 32 := 188#32
  let v1317 : BitVec 32 := Scalar.addi v0 c188_i32
  let v1318 : Index := Scalar.indexCast v1317
  ![v1318.toNat]
def k0_off378 (v1319 : BitVec 32) : Fin 2 → Nat :=
  let c0_i32_566 : BitVec 32 := 0#32
  ![v1319.toNat, 0]

def k0_chk189 (v1319 : BitVec 32) : Prop :=
  (∀ a, (k0_off378 v1319) a + S1x768.size a ≤ S50257x768.size a)
theorem k0_off378_inb : ∀ (v1319 : BitVec 32) (k0_hw189 : k0_chk189 v1319), ∀ a, (k0_off378 v1319) a + S1x768.size a ≤ S50257x768.size a := fun v1319 k0_hw189 => k0_hw189

def k0_off379 (i : grid0.Coords) : Fin 1 → Nat :=
  let arg0 : BitVec 32 := BitVec.ofNat 32 (i 0).val
  let c512_i32 : BitVec 32 := 512#32
  let v0 : BitVec 32 := Scalar.muli arg0 c512_i32
  let c189_i32 : BitVec 32 := 189#32
  let v1324 : BitVec 32 := Scalar.addi v0 c189_i32
  let v1325 : Index := Scalar.indexCast v1324
  ![v1325.toNat]
def k0_off380 (v1326 : BitVec 32) : Fin 2 → Nat :=
  let c0_i32_569 : BitVec 32 := 0#32
  ![v1326.toNat, 0]

def k0_chk190 (v1326 : BitVec 32) : Prop :=
  (∀ a, (k0_off380 v1326) a + S1x768.size a ≤ S50257x768.size a)
theorem k0_off380_inb : ∀ (v1326 : BitVec 32) (k0_hw190 : k0_chk190 v1326), ∀ a, (k0_off380 v1326) a + S1x768.size a ≤ S50257x768.size a := fun v1326 k0_hw190 => k0_hw190

def k0_off381 (i : grid0.Coords) : Fin 1 → Nat :=
  let arg0 : BitVec 32 := BitVec.ofNat 32 (i 0).val
  let c512_i32 : BitVec 32 := 512#32
  let v0 : BitVec 32 := Scalar.muli arg0 c512_i32
  let c190_i32 : BitVec 32 := 190#32
  let v1331 : BitVec 32 := Scalar.addi v0 c190_i32
  let v1332 : Index := Scalar.indexCast v1331
  ![v1332.toNat]
def k0_off382 (v1333 : BitVec 32) : Fin 2 → Nat :=
  let c0_i32_572 : BitVec 32 := 0#32
  ![v1333.toNat, 0]

def k0_chk191 (v1333 : BitVec 32) : Prop :=
  (∀ a, (k0_off382 v1333) a + S1x768.size a ≤ S50257x768.size a)
theorem k0_off382_inb : ∀ (v1333 : BitVec 32) (k0_hw191 : k0_chk191 v1333), ∀ a, (k0_off382 v1333) a + S1x768.size a ≤ S50257x768.size a := fun v1333 k0_hw191 => k0_hw191

def k0_off383 (i : grid0.Coords) : Fin 1 → Nat :=
  let arg0 : BitVec 32 := BitVec.ofNat 32 (i 0).val
  let c512_i32 : BitVec 32 := 512#32
  let v0 : BitVec 32 := Scalar.muli arg0 c512_i32
  let c191_i32 : BitVec 32 := 191#32
  let v1338 : BitVec 32 := Scalar.addi v0 c191_i32
  let v1339 : Index := Scalar.indexCast v1338
  ![v1339.toNat]
def k0_off384 (v1340 : BitVec 32) : Fin 2 → Nat :=
  let c0_i32_575 : BitVec 32 := 0#32
  ![v1340.toNat, 0]

def k0_chk192 (v1340 : BitVec 32) : Prop :=
  (∀ a, (k0_off384 v1340) a + S1x768.size a ≤ S50257x768.size a)
theorem k0_off384_inb : ∀ (v1340 : BitVec 32) (k0_hw192 : k0_chk192 v1340), ∀ a, (k0_off384 v1340) a + S1x768.size a ≤ S50257x768.size a := fun v1340 k0_hw192 => k0_hw192

def k0_off385 (i : grid0.Coords) : Fin 1 → Nat :=
  let arg0 : BitVec 32 := BitVec.ofNat 32 (i 0).val
  let c512_i32 : BitVec 32 := 512#32
  let v0 : BitVec 32 := Scalar.muli arg0 c512_i32
  let c192_i32 : BitVec 32 := 192#32
  let v1345 : BitVec 32 := Scalar.addi v0 c192_i32
  let v1346 : Index := Scalar.indexCast v1345
  ![v1346.toNat]
def k0_off386 (v1347 : BitVec 32) : Fin 2 → Nat :=
  let c0_i32_578 : BitVec 32 := 0#32
  ![v1347.toNat, 0]

def k0_chk193 (v1347 : BitVec 32) : Prop :=
  (∀ a, (k0_off386 v1347) a + S1x768.size a ≤ S50257x768.size a)
theorem k0_off386_inb : ∀ (v1347 : BitVec 32) (k0_hw193 : k0_chk193 v1347), ∀ a, (k0_off386 v1347) a + S1x768.size a ≤ S50257x768.size a := fun v1347 k0_hw193 => k0_hw193

def k0_off387 (i : grid0.Coords) : Fin 1 → Nat :=
  let arg0 : BitVec 32 := BitVec.ofNat 32 (i 0).val
  let c512_i32 : BitVec 32 := 512#32
  let v0 : BitVec 32 := Scalar.muli arg0 c512_i32
  let c193_i32 : BitVec 32 := 193#32
  let v1352 : BitVec 32 := Scalar.addi v0 c193_i32
  let v1353 : Index := Scalar.indexCast v1352
  ![v1353.toNat]
def k0_off388 (v1354 : BitVec 32) : Fin 2 → Nat :=
  let c0_i32_581 : BitVec 32 := 0#32
  ![v1354.toNat, 0]

def k0_chk194 (v1354 : BitVec 32) : Prop :=
  (∀ a, (k0_off388 v1354) a + S1x768.size a ≤ S50257x768.size a)
theorem k0_off388_inb : ∀ (v1354 : BitVec 32) (k0_hw194 : k0_chk194 v1354), ∀ a, (k0_off388 v1354) a + S1x768.size a ≤ S50257x768.size a := fun v1354 k0_hw194 => k0_hw194

def k0_off389 (i : grid0.Coords) : Fin 1 → Nat :=
  let arg0 : BitVec 32 := BitVec.ofNat 32 (i 0).val
  let c512_i32 : BitVec 32 := 512#32
  let v0 : BitVec 32 := Scalar.muli arg0 c512_i32
  let c194_i32 : BitVec 32 := 194#32
  let v1359 : BitVec 32 := Scalar.addi v0 c194_i32
  let v1360 : Index := Scalar.indexCast v1359
  ![v1360.toNat]
def k0_off390 (v1361 : BitVec 32) : Fin 2 → Nat :=
  let c0_i32_584 : BitVec 32 := 0#32
  ![v1361.toNat, 0]

def k0_chk195 (v1361 : BitVec 32) : Prop :=
  (∀ a, (k0_off390 v1361) a + S1x768.size a ≤ S50257x768.size a)
theorem k0_off390_inb : ∀ (v1361 : BitVec 32) (k0_hw195 : k0_chk195 v1361), ∀ a, (k0_off390 v1361) a + S1x768.size a ≤ S50257x768.size a := fun v1361 k0_hw195 => k0_hw195

def k0_off391 (i : grid0.Coords) : Fin 1 → Nat :=
  let arg0 : BitVec 32 := BitVec.ofNat 32 (i 0).val
  let c512_i32 : BitVec 32 := 512#32
  let v0 : BitVec 32 := Scalar.muli arg0 c512_i32
  let c195_i32 : BitVec 32 := 195#32
  let v1366 : BitVec 32 := Scalar.addi v0 c195_i32
  let v1367 : Index := Scalar.indexCast v1366
  ![v1367.toNat]
def k0_off392 (v1368 : BitVec 32) : Fin 2 → Nat :=
  let c0_i32_587 : BitVec 32 := 0#32
  ![v1368.toNat, 0]

def k0_chk196 (v1368 : BitVec 32) : Prop :=
  (∀ a, (k0_off392 v1368) a + S1x768.size a ≤ S50257x768.size a)
theorem k0_off392_inb : ∀ (v1368 : BitVec 32) (k0_hw196 : k0_chk196 v1368), ∀ a, (k0_off392 v1368) a + S1x768.size a ≤ S50257x768.size a := fun v1368 k0_hw196 => k0_hw196

def k0_off393 (i : grid0.Coords) : Fin 1 → Nat :=
  let arg0 : BitVec 32 := BitVec.ofNat 32 (i 0).val
  let c512_i32 : BitVec 32 := 512#32
  let v0 : BitVec 32 := Scalar.muli arg0 c512_i32
  let c196_i32 : BitVec 32 := 196#32
  let v1373 : BitVec 32 := Scalar.addi v0 c196_i32
  let v1374 : Index := Scalar.indexCast v1373
  ![v1374.toNat]
def k0_off394 (v1375 : BitVec 32) : Fin 2 → Nat :=
  let c0_i32_590 : BitVec 32 := 0#32
  ![v1375.toNat, 0]

def k0_chk197 (v1375 : BitVec 32) : Prop :=
  (∀ a, (k0_off394 v1375) a + S1x768.size a ≤ S50257x768.size a)
theorem k0_off394_inb : ∀ (v1375 : BitVec 32) (k0_hw197 : k0_chk197 v1375), ∀ a, (k0_off394 v1375) a + S1x768.size a ≤ S50257x768.size a := fun v1375 k0_hw197 => k0_hw197

def k0_off395 (i : grid0.Coords) : Fin 1 → Nat :=
  let arg0 : BitVec 32 := BitVec.ofNat 32 (i 0).val
  let c512_i32 : BitVec 32 := 512#32
  let v0 : BitVec 32 := Scalar.muli arg0 c512_i32
  let c197_i32 : BitVec 32 := 197#32
  let v1380 : BitVec 32 := Scalar.addi v0 c197_i32
  let v1381 : Index := Scalar.indexCast v1380
  ![v1381.toNat]
def k0_off396 (v1382 : BitVec 32) : Fin 2 → Nat :=
  let c0_i32_593 : BitVec 32 := 0#32
  ![v1382.toNat, 0]

def k0_chk198 (v1382 : BitVec 32) : Prop :=
  (∀ a, (k0_off396 v1382) a + S1x768.size a ≤ S50257x768.size a)
theorem k0_off396_inb : ∀ (v1382 : BitVec 32) (k0_hw198 : k0_chk198 v1382), ∀ a, (k0_off396 v1382) a + S1x768.size a ≤ S50257x768.size a := fun v1382 k0_hw198 => k0_hw198

def k0_off397 (i : grid0.Coords) : Fin 1 → Nat :=
  let arg0 : BitVec 32 := BitVec.ofNat 32 (i 0).val
  let c512_i32 : BitVec 32 := 512#32
  let v0 : BitVec 32 := Scalar.muli arg0 c512_i32
  let c198_i32 : BitVec 32 := 198#32
  let v1387 : BitVec 32 := Scalar.addi v0 c198_i32
  let v1388 : Index := Scalar.indexCast v1387
  ![v1388.toNat]
def k0_off398 (v1389 : BitVec 32) : Fin 2 → Nat :=
  let c0_i32_596 : BitVec 32 := 0#32
  ![v1389.toNat, 0]

def k0_chk199 (v1389 : BitVec 32) : Prop :=
  (∀ a, (k0_off398 v1389) a + S1x768.size a ≤ S50257x768.size a)
theorem k0_off398_inb : ∀ (v1389 : BitVec 32) (k0_hw199 : k0_chk199 v1389), ∀ a, (k0_off398 v1389) a + S1x768.size a ≤ S50257x768.size a := fun v1389 k0_hw199 => k0_hw199

def k0_off399 (i : grid0.Coords) : Fin 1 → Nat :=
  let arg0 : BitVec 32 := BitVec.ofNat 32 (i 0).val
  let c512_i32 : BitVec 32 := 512#32
  let v0 : BitVec 32 := Scalar.muli arg0 c512_i32
  let c199_i32 : BitVec 32 := 199#32
  let v1394 : BitVec 32 := Scalar.addi v0 c199_i32
  let v1395 : Index := Scalar.indexCast v1394
  ![v1395.toNat]
def k0_off400 (v1396 : BitVec 32) : Fin 2 → Nat :=
  let c0_i32_599 : BitVec 32 := 0#32
  ![v1396.toNat, 0]

def k0_chk200 (v1396 : BitVec 32) : Prop :=
  (∀ a, (k0_off400 v1396) a + S1x768.size a ≤ S50257x768.size a)
theorem k0_off400_inb : ∀ (v1396 : BitVec 32) (k0_hw200 : k0_chk200 v1396), ∀ a, (k0_off400 v1396) a + S1x768.size a ≤ S50257x768.size a := fun v1396 k0_hw200 => k0_hw200

def k0_off401 (i : grid0.Coords) : Fin 1 → Nat :=
  let arg0 : BitVec 32 := BitVec.ofNat 32 (i 0).val
  let c512_i32 : BitVec 32 := 512#32
  let v0 : BitVec 32 := Scalar.muli arg0 c512_i32
  let c200_i32 : BitVec 32 := 200#32
  let v1401 : BitVec 32 := Scalar.addi v0 c200_i32
  let v1402 : Index := Scalar.indexCast v1401
  ![v1402.toNat]
def k0_off402 (v1403 : BitVec 32) : Fin 2 → Nat :=
  let c0_i32_602 : BitVec 32 := 0#32
  ![v1403.toNat, 0]

def k0_chk201 (v1403 : BitVec 32) : Prop :=
  (∀ a, (k0_off402 v1403) a + S1x768.size a ≤ S50257x768.size a)
theorem k0_off402_inb : ∀ (v1403 : BitVec 32) (k0_hw201 : k0_chk201 v1403), ∀ a, (k0_off402 v1403) a + S1x768.size a ≤ S50257x768.size a := fun v1403 k0_hw201 => k0_hw201

def k0_off403 (i : grid0.Coords) : Fin 1 → Nat :=
  let arg0 : BitVec 32 := BitVec.ofNat 32 (i 0).val
  let c512_i32 : BitVec 32 := 512#32
  let v0 : BitVec 32 := Scalar.muli arg0 c512_i32
  let c201_i32 : BitVec 32 := 201#32
  let v1408 : BitVec 32 := Scalar.addi v0 c201_i32
  let v1409 : Index := Scalar.indexCast v1408
  ![v1409.toNat]
def k0_off404 (v1410 : BitVec 32) : Fin 2 → Nat :=
  let c0_i32_605 : BitVec 32 := 0#32
  ![v1410.toNat, 0]

def k0_chk202 (v1410 : BitVec 32) : Prop :=
  (∀ a, (k0_off404 v1410) a + S1x768.size a ≤ S50257x768.size a)
theorem k0_off404_inb : ∀ (v1410 : BitVec 32) (k0_hw202 : k0_chk202 v1410), ∀ a, (k0_off404 v1410) a + S1x768.size a ≤ S50257x768.size a := fun v1410 k0_hw202 => k0_hw202

def k0_off405 (i : grid0.Coords) : Fin 1 → Nat :=
  let arg0 : BitVec 32 := BitVec.ofNat 32 (i 0).val
  let c512_i32 : BitVec 32 := 512#32
  let v0 : BitVec 32 := Scalar.muli arg0 c512_i32
  let c202_i32 : BitVec 32 := 202#32
  let v1415 : BitVec 32 := Scalar.addi v0 c202_i32
  let v1416 : Index := Scalar.indexCast v1415
  ![v1416.toNat]
def k0_off406 (v1417 : BitVec 32) : Fin 2 → Nat :=
  let c0_i32_608 : BitVec 32 := 0#32
  ![v1417.toNat, 0]

def k0_chk203 (v1417 : BitVec 32) : Prop :=
  (∀ a, (k0_off406 v1417) a + S1x768.size a ≤ S50257x768.size a)
theorem k0_off406_inb : ∀ (v1417 : BitVec 32) (k0_hw203 : k0_chk203 v1417), ∀ a, (k0_off406 v1417) a + S1x768.size a ≤ S50257x768.size a := fun v1417 k0_hw203 => k0_hw203

def k0_off407 (i : grid0.Coords) : Fin 1 → Nat :=
  let arg0 : BitVec 32 := BitVec.ofNat 32 (i 0).val
  let c512_i32 : BitVec 32 := 512#32
  let v0 : BitVec 32 := Scalar.muli arg0 c512_i32
  let c203_i32 : BitVec 32 := 203#32
  let v1422 : BitVec 32 := Scalar.addi v0 c203_i32
  let v1423 : Index := Scalar.indexCast v1422
  ![v1423.toNat]
def k0_off408 (v1424 : BitVec 32) : Fin 2 → Nat :=
  let c0_i32_611 : BitVec 32 := 0#32
  ![v1424.toNat, 0]

def k0_chk204 (v1424 : BitVec 32) : Prop :=
  (∀ a, (k0_off408 v1424) a + S1x768.size a ≤ S50257x768.size a)
theorem k0_off408_inb : ∀ (v1424 : BitVec 32) (k0_hw204 : k0_chk204 v1424), ∀ a, (k0_off408 v1424) a + S1x768.size a ≤ S50257x768.size a := fun v1424 k0_hw204 => k0_hw204

def k0_off409 (i : grid0.Coords) : Fin 1 → Nat :=
  let arg0 : BitVec 32 := BitVec.ofNat 32 (i 0).val
  let c512_i32 : BitVec 32 := 512#32
  let v0 : BitVec 32 := Scalar.muli arg0 c512_i32
  let c204_i32 : BitVec 32 := 204#32
  let v1429 : BitVec 32 := Scalar.addi v0 c204_i32
  let v1430 : Index := Scalar.indexCast v1429
  ![v1430.toNat]
def k0_off410 (v1431 : BitVec 32) : Fin 2 → Nat :=
  let c0_i32_614 : BitVec 32 := 0#32
  ![v1431.toNat, 0]

def k0_chk205 (v1431 : BitVec 32) : Prop :=
  (∀ a, (k0_off410 v1431) a + S1x768.size a ≤ S50257x768.size a)
theorem k0_off410_inb : ∀ (v1431 : BitVec 32) (k0_hw205 : k0_chk205 v1431), ∀ a, (k0_off410 v1431) a + S1x768.size a ≤ S50257x768.size a := fun v1431 k0_hw205 => k0_hw205

def k0_off411 (i : grid0.Coords) : Fin 1 → Nat :=
  let arg0 : BitVec 32 := BitVec.ofNat 32 (i 0).val
  let c512_i32 : BitVec 32 := 512#32
  let v0 : BitVec 32 := Scalar.muli arg0 c512_i32
  let c205_i32 : BitVec 32 := 205#32
  let v1436 : BitVec 32 := Scalar.addi v0 c205_i32
  let v1437 : Index := Scalar.indexCast v1436
  ![v1437.toNat]
def k0_off412 (v1438 : BitVec 32) : Fin 2 → Nat :=
  let c0_i32_617 : BitVec 32 := 0#32
  ![v1438.toNat, 0]

def k0_chk206 (v1438 : BitVec 32) : Prop :=
  (∀ a, (k0_off412 v1438) a + S1x768.size a ≤ S50257x768.size a)
theorem k0_off412_inb : ∀ (v1438 : BitVec 32) (k0_hw206 : k0_chk206 v1438), ∀ a, (k0_off412 v1438) a + S1x768.size a ≤ S50257x768.size a := fun v1438 k0_hw206 => k0_hw206

def k0_off413 (i : grid0.Coords) : Fin 1 → Nat :=
  let arg0 : BitVec 32 := BitVec.ofNat 32 (i 0).val
  let c512_i32 : BitVec 32 := 512#32
  let v0 : BitVec 32 := Scalar.muli arg0 c512_i32
  let c206_i32 : BitVec 32 := 206#32
  let v1443 : BitVec 32 := Scalar.addi v0 c206_i32
  let v1444 : Index := Scalar.indexCast v1443
  ![v1444.toNat]
def k0_off414 (v1445 : BitVec 32) : Fin 2 → Nat :=
  let c0_i32_620 : BitVec 32 := 0#32
  ![v1445.toNat, 0]

def k0_chk207 (v1445 : BitVec 32) : Prop :=
  (∀ a, (k0_off414 v1445) a + S1x768.size a ≤ S50257x768.size a)
theorem k0_off414_inb : ∀ (v1445 : BitVec 32) (k0_hw207 : k0_chk207 v1445), ∀ a, (k0_off414 v1445) a + S1x768.size a ≤ S50257x768.size a := fun v1445 k0_hw207 => k0_hw207

def k0_off415 (i : grid0.Coords) : Fin 1 → Nat :=
  let arg0 : BitVec 32 := BitVec.ofNat 32 (i 0).val
  let c512_i32 : BitVec 32 := 512#32
  let v0 : BitVec 32 := Scalar.muli arg0 c512_i32
  let c207_i32 : BitVec 32 := 207#32
  let v1450 : BitVec 32 := Scalar.addi v0 c207_i32
  let v1451 : Index := Scalar.indexCast v1450
  ![v1451.toNat]
def k0_off416 (v1452 : BitVec 32) : Fin 2 → Nat :=
  let c0_i32_623 : BitVec 32 := 0#32
  ![v1452.toNat, 0]

def k0_chk208 (v1452 : BitVec 32) : Prop :=
  (∀ a, (k0_off416 v1452) a + S1x768.size a ≤ S50257x768.size a)
theorem k0_off416_inb : ∀ (v1452 : BitVec 32) (k0_hw208 : k0_chk208 v1452), ∀ a, (k0_off416 v1452) a + S1x768.size a ≤ S50257x768.size a := fun v1452 k0_hw208 => k0_hw208

def k0_off417 (i : grid0.Coords) : Fin 1 → Nat :=
  let arg0 : BitVec 32 := BitVec.ofNat 32 (i 0).val
  let c512_i32 : BitVec 32 := 512#32
  let v0 : BitVec 32 := Scalar.muli arg0 c512_i32
  let c208_i32 : BitVec 32 := 208#32
  let v1457 : BitVec 32 := Scalar.addi v0 c208_i32
  let v1458 : Index := Scalar.indexCast v1457
  ![v1458.toNat]
def k0_off418 (v1459 : BitVec 32) : Fin 2 → Nat :=
  let c0_i32_626 : BitVec 32 := 0#32
  ![v1459.toNat, 0]

def k0_chk209 (v1459 : BitVec 32) : Prop :=
  (∀ a, (k0_off418 v1459) a + S1x768.size a ≤ S50257x768.size a)
theorem k0_off418_inb : ∀ (v1459 : BitVec 32) (k0_hw209 : k0_chk209 v1459), ∀ a, (k0_off418 v1459) a + S1x768.size a ≤ S50257x768.size a := fun v1459 k0_hw209 => k0_hw209

def k0_off419 (i : grid0.Coords) : Fin 1 → Nat :=
  let arg0 : BitVec 32 := BitVec.ofNat 32 (i 0).val
  let c512_i32 : BitVec 32 := 512#32
  let v0 : BitVec 32 := Scalar.muli arg0 c512_i32
  let c209_i32 : BitVec 32 := 209#32
  let v1464 : BitVec 32 := Scalar.addi v0 c209_i32
  let v1465 : Index := Scalar.indexCast v1464
  ![v1465.toNat]
def k0_off420 (v1466 : BitVec 32) : Fin 2 → Nat :=
  let c0_i32_629 : BitVec 32 := 0#32
  ![v1466.toNat, 0]

def k0_chk210 (v1466 : BitVec 32) : Prop :=
  (∀ a, (k0_off420 v1466) a + S1x768.size a ≤ S50257x768.size a)
theorem k0_off420_inb : ∀ (v1466 : BitVec 32) (k0_hw210 : k0_chk210 v1466), ∀ a, (k0_off420 v1466) a + S1x768.size a ≤ S50257x768.size a := fun v1466 k0_hw210 => k0_hw210

def k0_off421 (i : grid0.Coords) : Fin 1 → Nat :=
  let arg0 : BitVec 32 := BitVec.ofNat 32 (i 0).val
  let c512_i32 : BitVec 32 := 512#32
  let v0 : BitVec 32 := Scalar.muli arg0 c512_i32
  let c210_i32 : BitVec 32 := 210#32
  let v1471 : BitVec 32 := Scalar.addi v0 c210_i32
  let v1472 : Index := Scalar.indexCast v1471
  ![v1472.toNat]
def k0_off422 (v1473 : BitVec 32) : Fin 2 → Nat :=
  let c0_i32_632 : BitVec 32 := 0#32
  ![v1473.toNat, 0]

def k0_chk211 (v1473 : BitVec 32) : Prop :=
  (∀ a, (k0_off422 v1473) a + S1x768.size a ≤ S50257x768.size a)
theorem k0_off422_inb : ∀ (v1473 : BitVec 32) (k0_hw211 : k0_chk211 v1473), ∀ a, (k0_off422 v1473) a + S1x768.size a ≤ S50257x768.size a := fun v1473 k0_hw211 => k0_hw211

def k0_off423 (i : grid0.Coords) : Fin 1 → Nat :=
  let arg0 : BitVec 32 := BitVec.ofNat 32 (i 0).val
  let c512_i32 : BitVec 32 := 512#32
  let v0 : BitVec 32 := Scalar.muli arg0 c512_i32
  let c211_i32 : BitVec 32 := 211#32
  let v1478 : BitVec 32 := Scalar.addi v0 c211_i32
  let v1479 : Index := Scalar.indexCast v1478
  ![v1479.toNat]
def k0_off424 (v1480 : BitVec 32) : Fin 2 → Nat :=
  let c0_i32_635 : BitVec 32 := 0#32
  ![v1480.toNat, 0]

def k0_chk212 (v1480 : BitVec 32) : Prop :=
  (∀ a, (k0_off424 v1480) a + S1x768.size a ≤ S50257x768.size a)
theorem k0_off424_inb : ∀ (v1480 : BitVec 32) (k0_hw212 : k0_chk212 v1480), ∀ a, (k0_off424 v1480) a + S1x768.size a ≤ S50257x768.size a := fun v1480 k0_hw212 => k0_hw212

def k0_off425 (i : grid0.Coords) : Fin 1 → Nat :=
  let arg0 : BitVec 32 := BitVec.ofNat 32 (i 0).val
  let c512_i32 : BitVec 32 := 512#32
  let v0 : BitVec 32 := Scalar.muli arg0 c512_i32
  let c212_i32 : BitVec 32 := 212#32
  let v1485 : BitVec 32 := Scalar.addi v0 c212_i32
  let v1486 : Index := Scalar.indexCast v1485
  ![v1486.toNat]
def k0_off426 (v1487 : BitVec 32) : Fin 2 → Nat :=
  let c0_i32_638 : BitVec 32 := 0#32
  ![v1487.toNat, 0]

def k0_chk213 (v1487 : BitVec 32) : Prop :=
  (∀ a, (k0_off426 v1487) a + S1x768.size a ≤ S50257x768.size a)
theorem k0_off426_inb : ∀ (v1487 : BitVec 32) (k0_hw213 : k0_chk213 v1487), ∀ a, (k0_off426 v1487) a + S1x768.size a ≤ S50257x768.size a := fun v1487 k0_hw213 => k0_hw213

def k0_off427 (i : grid0.Coords) : Fin 1 → Nat :=
  let arg0 : BitVec 32 := BitVec.ofNat 32 (i 0).val
  let c512_i32 : BitVec 32 := 512#32
  let v0 : BitVec 32 := Scalar.muli arg0 c512_i32
  let c213_i32 : BitVec 32 := 213#32
  let v1492 : BitVec 32 := Scalar.addi v0 c213_i32
  let v1493 : Index := Scalar.indexCast v1492
  ![v1493.toNat]
def k0_off428 (v1494 : BitVec 32) : Fin 2 → Nat :=
  let c0_i32_641 : BitVec 32 := 0#32
  ![v1494.toNat, 0]

def k0_chk214 (v1494 : BitVec 32) : Prop :=
  (∀ a, (k0_off428 v1494) a + S1x768.size a ≤ S50257x768.size a)
theorem k0_off428_inb : ∀ (v1494 : BitVec 32) (k0_hw214 : k0_chk214 v1494), ∀ a, (k0_off428 v1494) a + S1x768.size a ≤ S50257x768.size a := fun v1494 k0_hw214 => k0_hw214

def k0_off429 (i : grid0.Coords) : Fin 1 → Nat :=
  let arg0 : BitVec 32 := BitVec.ofNat 32 (i 0).val
  let c512_i32 : BitVec 32 := 512#32
  let v0 : BitVec 32 := Scalar.muli arg0 c512_i32
  let c214_i32 : BitVec 32 := 214#32
  let v1499 : BitVec 32 := Scalar.addi v0 c214_i32
  let v1500 : Index := Scalar.indexCast v1499
  ![v1500.toNat]
def k0_off430 (v1501 : BitVec 32) : Fin 2 → Nat :=
  let c0_i32_644 : BitVec 32 := 0#32
  ![v1501.toNat, 0]

def k0_chk215 (v1501 : BitVec 32) : Prop :=
  (∀ a, (k0_off430 v1501) a + S1x768.size a ≤ S50257x768.size a)
theorem k0_off430_inb : ∀ (v1501 : BitVec 32) (k0_hw215 : k0_chk215 v1501), ∀ a, (k0_off430 v1501) a + S1x768.size a ≤ S50257x768.size a := fun v1501 k0_hw215 => k0_hw215

def k0_off431 (i : grid0.Coords) : Fin 1 → Nat :=
  let arg0 : BitVec 32 := BitVec.ofNat 32 (i 0).val
  let c512_i32 : BitVec 32 := 512#32
  let v0 : BitVec 32 := Scalar.muli arg0 c512_i32
  let c215_i32 : BitVec 32 := 215#32
  let v1506 : BitVec 32 := Scalar.addi v0 c215_i32
  let v1507 : Index := Scalar.indexCast v1506
  ![v1507.toNat]
def k0_off432 (v1508 : BitVec 32) : Fin 2 → Nat :=
  let c0_i32_647 : BitVec 32 := 0#32
  ![v1508.toNat, 0]

def k0_chk216 (v1508 : BitVec 32) : Prop :=
  (∀ a, (k0_off432 v1508) a + S1x768.size a ≤ S50257x768.size a)
theorem k0_off432_inb : ∀ (v1508 : BitVec 32) (k0_hw216 : k0_chk216 v1508), ∀ a, (k0_off432 v1508) a + S1x768.size a ≤ S50257x768.size a := fun v1508 k0_hw216 => k0_hw216

def k0_off433 (i : grid0.Coords) : Fin 1 → Nat :=
  let arg0 : BitVec 32 := BitVec.ofNat 32 (i 0).val
  let c512_i32 : BitVec 32 := 512#32
  let v0 : BitVec 32 := Scalar.muli arg0 c512_i32
  let c216_i32 : BitVec 32 := 216#32
  let v1513 : BitVec 32 := Scalar.addi v0 c216_i32
  let v1514 : Index := Scalar.indexCast v1513
  ![v1514.toNat]
def k0_off434 (v1515 : BitVec 32) : Fin 2 → Nat :=
  let c0_i32_650 : BitVec 32 := 0#32
  ![v1515.toNat, 0]

def k0_chk217 (v1515 : BitVec 32) : Prop :=
  (∀ a, (k0_off434 v1515) a + S1x768.size a ≤ S50257x768.size a)
theorem k0_off434_inb : ∀ (v1515 : BitVec 32) (k0_hw217 : k0_chk217 v1515), ∀ a, (k0_off434 v1515) a + S1x768.size a ≤ S50257x768.size a := fun v1515 k0_hw217 => k0_hw217

def k0_off435 (i : grid0.Coords) : Fin 1 → Nat :=
  let arg0 : BitVec 32 := BitVec.ofNat 32 (i 0).val
  let c512_i32 : BitVec 32 := 512#32
  let v0 : BitVec 32 := Scalar.muli arg0 c512_i32
  let c217_i32 : BitVec 32 := 217#32
  let v1520 : BitVec 32 := Scalar.addi v0 c217_i32
  let v1521 : Index := Scalar.indexCast v1520
  ![v1521.toNat]
def k0_off436 (v1522 : BitVec 32) : Fin 2 → Nat :=
  let c0_i32_653 : BitVec 32 := 0#32
  ![v1522.toNat, 0]

def k0_chk218 (v1522 : BitVec 32) : Prop :=
  (∀ a, (k0_off436 v1522) a + S1x768.size a ≤ S50257x768.size a)
theorem k0_off436_inb : ∀ (v1522 : BitVec 32) (k0_hw218 : k0_chk218 v1522), ∀ a, (k0_off436 v1522) a + S1x768.size a ≤ S50257x768.size a := fun v1522 k0_hw218 => k0_hw218

def k0_off437 (i : grid0.Coords) : Fin 1 → Nat :=
  let arg0 : BitVec 32 := BitVec.ofNat 32 (i 0).val
  let c512_i32 : BitVec 32 := 512#32
  let v0 : BitVec 32 := Scalar.muli arg0 c512_i32
  let c218_i32 : BitVec 32 := 218#32
  let v1527 : BitVec 32 := Scalar.addi v0 c218_i32
  let v1528 : Index := Scalar.indexCast v1527
  ![v1528.toNat]
def k0_off438 (v1529 : BitVec 32) : Fin 2 → Nat :=
  let c0_i32_656 : BitVec 32 := 0#32
  ![v1529.toNat, 0]

def k0_chk219 (v1529 : BitVec 32) : Prop :=
  (∀ a, (k0_off438 v1529) a + S1x768.size a ≤ S50257x768.size a)
theorem k0_off438_inb : ∀ (v1529 : BitVec 32) (k0_hw219 : k0_chk219 v1529), ∀ a, (k0_off438 v1529) a + S1x768.size a ≤ S50257x768.size a := fun v1529 k0_hw219 => k0_hw219

def k0_off439 (i : grid0.Coords) : Fin 1 → Nat :=
  let arg0 : BitVec 32 := BitVec.ofNat 32 (i 0).val
  let c512_i32 : BitVec 32 := 512#32
  let v0 : BitVec 32 := Scalar.muli arg0 c512_i32
  let c219_i32 : BitVec 32 := 219#32
  let v1534 : BitVec 32 := Scalar.addi v0 c219_i32
  let v1535 : Index := Scalar.indexCast v1534
  ![v1535.toNat]
def k0_off440 (v1536 : BitVec 32) : Fin 2 → Nat :=
  let c0_i32_659 : BitVec 32 := 0#32
  ![v1536.toNat, 0]

def k0_chk220 (v1536 : BitVec 32) : Prop :=
  (∀ a, (k0_off440 v1536) a + S1x768.size a ≤ S50257x768.size a)
theorem k0_off440_inb : ∀ (v1536 : BitVec 32) (k0_hw220 : k0_chk220 v1536), ∀ a, (k0_off440 v1536) a + S1x768.size a ≤ S50257x768.size a := fun v1536 k0_hw220 => k0_hw220

def k0_off441 (i : grid0.Coords) : Fin 1 → Nat :=
  let arg0 : BitVec 32 := BitVec.ofNat 32 (i 0).val
  let c512_i32 : BitVec 32 := 512#32
  let v0 : BitVec 32 := Scalar.muli arg0 c512_i32
  let c220_i32 : BitVec 32 := 220#32
  let v1541 : BitVec 32 := Scalar.addi v0 c220_i32
  let v1542 : Index := Scalar.indexCast v1541
  ![v1542.toNat]
def k0_off442 (v1543 : BitVec 32) : Fin 2 → Nat :=
  let c0_i32_662 : BitVec 32 := 0#32
  ![v1543.toNat, 0]

def k0_chk221 (v1543 : BitVec 32) : Prop :=
  (∀ a, (k0_off442 v1543) a + S1x768.size a ≤ S50257x768.size a)
theorem k0_off442_inb : ∀ (v1543 : BitVec 32) (k0_hw221 : k0_chk221 v1543), ∀ a, (k0_off442 v1543) a + S1x768.size a ≤ S50257x768.size a := fun v1543 k0_hw221 => k0_hw221

def k0_off443 (i : grid0.Coords) : Fin 1 → Nat :=
  let arg0 : BitVec 32 := BitVec.ofNat 32 (i 0).val
  let c512_i32 : BitVec 32 := 512#32
  let v0 : BitVec 32 := Scalar.muli arg0 c512_i32
  let c221_i32 : BitVec 32 := 221#32
  let v1548 : BitVec 32 := Scalar.addi v0 c221_i32
  let v1549 : Index := Scalar.indexCast v1548
  ![v1549.toNat]
def k0_off444 (v1550 : BitVec 32) : Fin 2 → Nat :=
  let c0_i32_665 : BitVec 32 := 0#32
  ![v1550.toNat, 0]

def k0_chk222 (v1550 : BitVec 32) : Prop :=
  (∀ a, (k0_off444 v1550) a + S1x768.size a ≤ S50257x768.size a)
theorem k0_off444_inb : ∀ (v1550 : BitVec 32) (k0_hw222 : k0_chk222 v1550), ∀ a, (k0_off444 v1550) a + S1x768.size a ≤ S50257x768.size a := fun v1550 k0_hw222 => k0_hw222

def k0_off445 (i : grid0.Coords) : Fin 1 → Nat :=
  let arg0 : BitVec 32 := BitVec.ofNat 32 (i 0).val
  let c512_i32 : BitVec 32 := 512#32
  let v0 : BitVec 32 := Scalar.muli arg0 c512_i32
  let c222_i32 : BitVec 32 := 222#32
  let v1555 : BitVec 32 := Scalar.addi v0 c222_i32
  let v1556 : Index := Scalar.indexCast v1555
  ![v1556.toNat]
def k0_off446 (v1557 : BitVec 32) : Fin 2 → Nat :=
  let c0_i32_668 : BitVec 32 := 0#32
  ![v1557.toNat, 0]

def k0_chk223 (v1557 : BitVec 32) : Prop :=
  (∀ a, (k0_off446 v1557) a + S1x768.size a ≤ S50257x768.size a)
theorem k0_off446_inb : ∀ (v1557 : BitVec 32) (k0_hw223 : k0_chk223 v1557), ∀ a, (k0_off446 v1557) a + S1x768.size a ≤ S50257x768.size a := fun v1557 k0_hw223 => k0_hw223

def k0_off447 (i : grid0.Coords) : Fin 1 → Nat :=
  let arg0 : BitVec 32 := BitVec.ofNat 32 (i 0).val
  let c512_i32 : BitVec 32 := 512#32
  let v0 : BitVec 32 := Scalar.muli arg0 c512_i32
  let c223_i32 : BitVec 32 := 223#32
  let v1562 : BitVec 32 := Scalar.addi v0 c223_i32
  let v1563 : Index := Scalar.indexCast v1562
  ![v1563.toNat]
def k0_off448 (v1564 : BitVec 32) : Fin 2 → Nat :=
  let c0_i32_671 : BitVec 32 := 0#32
  ![v1564.toNat, 0]

def k0_chk224 (v1564 : BitVec 32) : Prop :=
  (∀ a, (k0_off448 v1564) a + S1x768.size a ≤ S50257x768.size a)
theorem k0_off448_inb : ∀ (v1564 : BitVec 32) (k0_hw224 : k0_chk224 v1564), ∀ a, (k0_off448 v1564) a + S1x768.size a ≤ S50257x768.size a := fun v1564 k0_hw224 => k0_hw224

def k0_off449 (i : grid0.Coords) : Fin 1 → Nat :=
  let arg0 : BitVec 32 := BitVec.ofNat 32 (i 0).val
  let c512_i32 : BitVec 32 := 512#32
  let v0 : BitVec 32 := Scalar.muli arg0 c512_i32
  let c224_i32 : BitVec 32 := 224#32
  let v1569 : BitVec 32 := Scalar.addi v0 c224_i32
  let v1570 : Index := Scalar.indexCast v1569
  ![v1570.toNat]
def k0_off450 (v1571 : BitVec 32) : Fin 2 → Nat :=
  let c0_i32_674 : BitVec 32 := 0#32
  ![v1571.toNat, 0]

def k0_chk225 (v1571 : BitVec 32) : Prop :=
  (∀ a, (k0_off450 v1571) a + S1x768.size a ≤ S50257x768.size a)
theorem k0_off450_inb : ∀ (v1571 : BitVec 32) (k0_hw225 : k0_chk225 v1571), ∀ a, (k0_off450 v1571) a + S1x768.size a ≤ S50257x768.size a := fun v1571 k0_hw225 => k0_hw225

def k0_off451 (i : grid0.Coords) : Fin 1 → Nat :=
  let arg0 : BitVec 32 := BitVec.ofNat 32 (i 0).val
  let c512_i32 : BitVec 32 := 512#32
  let v0 : BitVec 32 := Scalar.muli arg0 c512_i32
  let c225_i32 : BitVec 32 := 225#32
  let v1576 : BitVec 32 := Scalar.addi v0 c225_i32
  let v1577 : Index := Scalar.indexCast v1576
  ![v1577.toNat]
def k0_off452 (v1578 : BitVec 32) : Fin 2 → Nat :=
  let c0_i32_677 : BitVec 32 := 0#32
  ![v1578.toNat, 0]

def k0_chk226 (v1578 : BitVec 32) : Prop :=
  (∀ a, (k0_off452 v1578) a + S1x768.size a ≤ S50257x768.size a)
theorem k0_off452_inb : ∀ (v1578 : BitVec 32) (k0_hw226 : k0_chk226 v1578), ∀ a, (k0_off452 v1578) a + S1x768.size a ≤ S50257x768.size a := fun v1578 k0_hw226 => k0_hw226

def k0_off453 (i : grid0.Coords) : Fin 1 → Nat :=
  let arg0 : BitVec 32 := BitVec.ofNat 32 (i 0).val
  let c512_i32 : BitVec 32 := 512#32
  let v0 : BitVec 32 := Scalar.muli arg0 c512_i32
  let c226_i32 : BitVec 32 := 226#32
  let v1583 : BitVec 32 := Scalar.addi v0 c226_i32
  let v1584 : Index := Scalar.indexCast v1583
  ![v1584.toNat]
def k0_off454 (v1585 : BitVec 32) : Fin 2 → Nat :=
  let c0_i32_680 : BitVec 32 := 0#32
  ![v1585.toNat, 0]

def k0_chk227 (v1585 : BitVec 32) : Prop :=
  (∀ a, (k0_off454 v1585) a + S1x768.size a ≤ S50257x768.size a)
theorem k0_off454_inb : ∀ (v1585 : BitVec 32) (k0_hw227 : k0_chk227 v1585), ∀ a, (k0_off454 v1585) a + S1x768.size a ≤ S50257x768.size a := fun v1585 k0_hw227 => k0_hw227

def k0_off455 (i : grid0.Coords) : Fin 1 → Nat :=
  let arg0 : BitVec 32 := BitVec.ofNat 32 (i 0).val
  let c512_i32 : BitVec 32 := 512#32
  let v0 : BitVec 32 := Scalar.muli arg0 c512_i32
  let c227_i32 : BitVec 32 := 227#32
  let v1590 : BitVec 32 := Scalar.addi v0 c227_i32
  let v1591 : Index := Scalar.indexCast v1590
  ![v1591.toNat]
def k0_off456 (v1592 : BitVec 32) : Fin 2 → Nat :=
  let c0_i32_683 : BitVec 32 := 0#32
  ![v1592.toNat, 0]

def k0_chk228 (v1592 : BitVec 32) : Prop :=
  (∀ a, (k0_off456 v1592) a + S1x768.size a ≤ S50257x768.size a)
theorem k0_off456_inb : ∀ (v1592 : BitVec 32) (k0_hw228 : k0_chk228 v1592), ∀ a, (k0_off456 v1592) a + S1x768.size a ≤ S50257x768.size a := fun v1592 k0_hw228 => k0_hw228

def k0_off457 (i : grid0.Coords) : Fin 1 → Nat :=
  let arg0 : BitVec 32 := BitVec.ofNat 32 (i 0).val
  let c512_i32 : BitVec 32 := 512#32
  let v0 : BitVec 32 := Scalar.muli arg0 c512_i32
  let c228_i32 : BitVec 32 := 228#32
  let v1597 : BitVec 32 := Scalar.addi v0 c228_i32
  let v1598 : Index := Scalar.indexCast v1597
  ![v1598.toNat]
def k0_off458 (v1599 : BitVec 32) : Fin 2 → Nat :=
  let c0_i32_686 : BitVec 32 := 0#32
  ![v1599.toNat, 0]

def k0_chk229 (v1599 : BitVec 32) : Prop :=
  (∀ a, (k0_off458 v1599) a + S1x768.size a ≤ S50257x768.size a)
theorem k0_off458_inb : ∀ (v1599 : BitVec 32) (k0_hw229 : k0_chk229 v1599), ∀ a, (k0_off458 v1599) a + S1x768.size a ≤ S50257x768.size a := fun v1599 k0_hw229 => k0_hw229

def k0_off459 (i : grid0.Coords) : Fin 1 → Nat :=
  let arg0 : BitVec 32 := BitVec.ofNat 32 (i 0).val
  let c512_i32 : BitVec 32 := 512#32
  let v0 : BitVec 32 := Scalar.muli arg0 c512_i32
  let c229_i32 : BitVec 32 := 229#32
  let v1604 : BitVec 32 := Scalar.addi v0 c229_i32
  let v1605 : Index := Scalar.indexCast v1604
  ![v1605.toNat]
def k0_off460 (v1606 : BitVec 32) : Fin 2 → Nat :=
  let c0_i32_689 : BitVec 32 := 0#32
  ![v1606.toNat, 0]

def k0_chk230 (v1606 : BitVec 32) : Prop :=
  (∀ a, (k0_off460 v1606) a + S1x768.size a ≤ S50257x768.size a)
theorem k0_off460_inb : ∀ (v1606 : BitVec 32) (k0_hw230 : k0_chk230 v1606), ∀ a, (k0_off460 v1606) a + S1x768.size a ≤ S50257x768.size a := fun v1606 k0_hw230 => k0_hw230

def k0_off461 (i : grid0.Coords) : Fin 1 → Nat :=
  let arg0 : BitVec 32 := BitVec.ofNat 32 (i 0).val
  let c512_i32 : BitVec 32 := 512#32
  let v0 : BitVec 32 := Scalar.muli arg0 c512_i32
  let c230_i32 : BitVec 32 := 230#32
  let v1611 : BitVec 32 := Scalar.addi v0 c230_i32
  let v1612 : Index := Scalar.indexCast v1611
  ![v1612.toNat]
def k0_off462 (v1613 : BitVec 32) : Fin 2 → Nat :=
  let c0_i32_692 : BitVec 32 := 0#32
  ![v1613.toNat, 0]

def k0_chk231 (v1613 : BitVec 32) : Prop :=
  (∀ a, (k0_off462 v1613) a + S1x768.size a ≤ S50257x768.size a)
theorem k0_off462_inb : ∀ (v1613 : BitVec 32) (k0_hw231 : k0_chk231 v1613), ∀ a, (k0_off462 v1613) a + S1x768.size a ≤ S50257x768.size a := fun v1613 k0_hw231 => k0_hw231

def k0_off463 (i : grid0.Coords) : Fin 1 → Nat :=
  let arg0 : BitVec 32 := BitVec.ofNat 32 (i 0).val
  let c512_i32 : BitVec 32 := 512#32
  let v0 : BitVec 32 := Scalar.muli arg0 c512_i32
  let c231_i32 : BitVec 32 := 231#32
  let v1618 : BitVec 32 := Scalar.addi v0 c231_i32
  let v1619 : Index := Scalar.indexCast v1618
  ![v1619.toNat]
def k0_off464 (v1620 : BitVec 32) : Fin 2 → Nat :=
  let c0_i32_695 : BitVec 32 := 0#32
  ![v1620.toNat, 0]

def k0_chk232 (v1620 : BitVec 32) : Prop :=
  (∀ a, (k0_off464 v1620) a + S1x768.size a ≤ S50257x768.size a)
theorem k0_off464_inb : ∀ (v1620 : BitVec 32) (k0_hw232 : k0_chk232 v1620), ∀ a, (k0_off464 v1620) a + S1x768.size a ≤ S50257x768.size a := fun v1620 k0_hw232 => k0_hw232

def k0_off465 (i : grid0.Coords) : Fin 1 → Nat :=
  let arg0 : BitVec 32 := BitVec.ofNat 32 (i 0).val
  let c512_i32 : BitVec 32 := 512#32
  let v0 : BitVec 32 := Scalar.muli arg0 c512_i32
  let c232_i32 : BitVec 32 := 232#32
  let v1625 : BitVec 32 := Scalar.addi v0 c232_i32
  let v1626 : Index := Scalar.indexCast v1625
  ![v1626.toNat]
def k0_off466 (v1627 : BitVec 32) : Fin 2 → Nat :=
  let c0_i32_698 : BitVec 32 := 0#32
  ![v1627.toNat, 0]

def k0_chk233 (v1627 : BitVec 32) : Prop :=
  (∀ a, (k0_off466 v1627) a + S1x768.size a ≤ S50257x768.size a)
theorem k0_off466_inb : ∀ (v1627 : BitVec 32) (k0_hw233 : k0_chk233 v1627), ∀ a, (k0_off466 v1627) a + S1x768.size a ≤ S50257x768.size a := fun v1627 k0_hw233 => k0_hw233

def k0_off467 (i : grid0.Coords) : Fin 1 → Nat :=
  let arg0 : BitVec 32 := BitVec.ofNat 32 (i 0).val
  let c512_i32 : BitVec 32 := 512#32
  let v0 : BitVec 32 := Scalar.muli arg0 c512_i32
  let c233_i32 : BitVec 32 := 233#32
  let v1632 : BitVec 32 := Scalar.addi v0 c233_i32
  let v1633 : Index := Scalar.indexCast v1632
  ![v1633.toNat]
def k0_off468 (v1634 : BitVec 32) : Fin 2 → Nat :=
  let c0_i32_701 : BitVec 32 := 0#32
  ![v1634.toNat, 0]

def k0_chk234 (v1634 : BitVec 32) : Prop :=
  (∀ a, (k0_off468 v1634) a + S1x768.size a ≤ S50257x768.size a)
theorem k0_off468_inb : ∀ (v1634 : BitVec 32) (k0_hw234 : k0_chk234 v1634), ∀ a, (k0_off468 v1634) a + S1x768.size a ≤ S50257x768.size a := fun v1634 k0_hw234 => k0_hw234

def k0_off469 (i : grid0.Coords) : Fin 1 → Nat :=
  let arg0 : BitVec 32 := BitVec.ofNat 32 (i 0).val
  let c512_i32 : BitVec 32 := 512#32
  let v0 : BitVec 32 := Scalar.muli arg0 c512_i32
  let c234_i32 : BitVec 32 := 234#32
  let v1639 : BitVec 32 := Scalar.addi v0 c234_i32
  let v1640 : Index := Scalar.indexCast v1639
  ![v1640.toNat]
def k0_off470 (v1641 : BitVec 32) : Fin 2 → Nat :=
  let c0_i32_704 : BitVec 32 := 0#32
  ![v1641.toNat, 0]

def k0_chk235 (v1641 : BitVec 32) : Prop :=
  (∀ a, (k0_off470 v1641) a + S1x768.size a ≤ S50257x768.size a)
theorem k0_off470_inb : ∀ (v1641 : BitVec 32) (k0_hw235 : k0_chk235 v1641), ∀ a, (k0_off470 v1641) a + S1x768.size a ≤ S50257x768.size a := fun v1641 k0_hw235 => k0_hw235

def k0_off471 (i : grid0.Coords) : Fin 1 → Nat :=
  let arg0 : BitVec 32 := BitVec.ofNat 32 (i 0).val
  let c512_i32 : BitVec 32 := 512#32
  let v0 : BitVec 32 := Scalar.muli arg0 c512_i32
  let c235_i32 : BitVec 32 := 235#32
  let v1646 : BitVec 32 := Scalar.addi v0 c235_i32
  let v1647 : Index := Scalar.indexCast v1646
  ![v1647.toNat]
def k0_off472 (v1648 : BitVec 32) : Fin 2 → Nat :=
  let c0_i32_707 : BitVec 32 := 0#32
  ![v1648.toNat, 0]

def k0_chk236 (v1648 : BitVec 32) : Prop :=
  (∀ a, (k0_off472 v1648) a + S1x768.size a ≤ S50257x768.size a)
theorem k0_off472_inb : ∀ (v1648 : BitVec 32) (k0_hw236 : k0_chk236 v1648), ∀ a, (k0_off472 v1648) a + S1x768.size a ≤ S50257x768.size a := fun v1648 k0_hw236 => k0_hw236

def k0_off473 (i : grid0.Coords) : Fin 1 → Nat :=
  let arg0 : BitVec 32 := BitVec.ofNat 32 (i 0).val
  let c512_i32 : BitVec 32 := 512#32
  let v0 : BitVec 32 := Scalar.muli arg0 c512_i32
  let c236_i32 : BitVec 32 := 236#32
  let v1653 : BitVec 32 := Scalar.addi v0 c236_i32
  let v1654 : Index := Scalar.indexCast v1653
  ![v1654.toNat]
def k0_off474 (v1655 : BitVec 32) : Fin 2 → Nat :=
  let c0_i32_710 : BitVec 32 := 0#32
  ![v1655.toNat, 0]

def k0_chk237 (v1655 : BitVec 32) : Prop :=
  (∀ a, (k0_off474 v1655) a + S1x768.size a ≤ S50257x768.size a)
theorem k0_off474_inb : ∀ (v1655 : BitVec 32) (k0_hw237 : k0_chk237 v1655), ∀ a, (k0_off474 v1655) a + S1x768.size a ≤ S50257x768.size a := fun v1655 k0_hw237 => k0_hw237

def k0_off475 (i : grid0.Coords) : Fin 1 → Nat :=
  let arg0 : BitVec 32 := BitVec.ofNat 32 (i 0).val
  let c512_i32 : BitVec 32 := 512#32
  let v0 : BitVec 32 := Scalar.muli arg0 c512_i32
  let c237_i32 : BitVec 32 := 237#32
  let v1660 : BitVec 32 := Scalar.addi v0 c237_i32
  let v1661 : Index := Scalar.indexCast v1660
  ![v1661.toNat]
def k0_off476 (v1662 : BitVec 32) : Fin 2 → Nat :=
  let c0_i32_713 : BitVec 32 := 0#32
  ![v1662.toNat, 0]

def k0_chk238 (v1662 : BitVec 32) : Prop :=
  (∀ a, (k0_off476 v1662) a + S1x768.size a ≤ S50257x768.size a)
theorem k0_off476_inb : ∀ (v1662 : BitVec 32) (k0_hw238 : k0_chk238 v1662), ∀ a, (k0_off476 v1662) a + S1x768.size a ≤ S50257x768.size a := fun v1662 k0_hw238 => k0_hw238

def k0_off477 (i : grid0.Coords) : Fin 1 → Nat :=
  let arg0 : BitVec 32 := BitVec.ofNat 32 (i 0).val
  let c512_i32 : BitVec 32 := 512#32
  let v0 : BitVec 32 := Scalar.muli arg0 c512_i32
  let c238_i32 : BitVec 32 := 238#32
  let v1667 : BitVec 32 := Scalar.addi v0 c238_i32
  let v1668 : Index := Scalar.indexCast v1667
  ![v1668.toNat]
def k0_off478 (v1669 : BitVec 32) : Fin 2 → Nat :=
  let c0_i32_716 : BitVec 32 := 0#32
  ![v1669.toNat, 0]

def k0_chk239 (v1669 : BitVec 32) : Prop :=
  (∀ a, (k0_off478 v1669) a + S1x768.size a ≤ S50257x768.size a)
theorem k0_off478_inb : ∀ (v1669 : BitVec 32) (k0_hw239 : k0_chk239 v1669), ∀ a, (k0_off478 v1669) a + S1x768.size a ≤ S50257x768.size a := fun v1669 k0_hw239 => k0_hw239

def k0_off479 (i : grid0.Coords) : Fin 1 → Nat :=
  let arg0 : BitVec 32 := BitVec.ofNat 32 (i 0).val
  let c512_i32 : BitVec 32 := 512#32
  let v0 : BitVec 32 := Scalar.muli arg0 c512_i32
  let c239_i32 : BitVec 32 := 239#32
  let v1674 : BitVec 32 := Scalar.addi v0 c239_i32
  let v1675 : Index := Scalar.indexCast v1674
  ![v1675.toNat]
def k0_off480 (v1676 : BitVec 32) : Fin 2 → Nat :=
  let c0_i32_719 : BitVec 32 := 0#32
  ![v1676.toNat, 0]

def k0_chk240 (v1676 : BitVec 32) : Prop :=
  (∀ a, (k0_off480 v1676) a + S1x768.size a ≤ S50257x768.size a)
theorem k0_off480_inb : ∀ (v1676 : BitVec 32) (k0_hw240 : k0_chk240 v1676), ∀ a, (k0_off480 v1676) a + S1x768.size a ≤ S50257x768.size a := fun v1676 k0_hw240 => k0_hw240

def k0_off481 (i : grid0.Coords) : Fin 1 → Nat :=
  let arg0 : BitVec 32 := BitVec.ofNat 32 (i 0).val
  let c512_i32 : BitVec 32 := 512#32
  let v0 : BitVec 32 := Scalar.muli arg0 c512_i32
  let c240_i32 : BitVec 32 := 240#32
  let v1681 : BitVec 32 := Scalar.addi v0 c240_i32
  let v1682 : Index := Scalar.indexCast v1681
  ![v1682.toNat]
def k0_off482 (v1683 : BitVec 32) : Fin 2 → Nat :=
  let c0_i32_722 : BitVec 32 := 0#32
  ![v1683.toNat, 0]

def k0_chk241 (v1683 : BitVec 32) : Prop :=
  (∀ a, (k0_off482 v1683) a + S1x768.size a ≤ S50257x768.size a)
theorem k0_off482_inb : ∀ (v1683 : BitVec 32) (k0_hw241 : k0_chk241 v1683), ∀ a, (k0_off482 v1683) a + S1x768.size a ≤ S50257x768.size a := fun v1683 k0_hw241 => k0_hw241

def k0_off483 (i : grid0.Coords) : Fin 1 → Nat :=
  let arg0 : BitVec 32 := BitVec.ofNat 32 (i 0).val
  let c512_i32 : BitVec 32 := 512#32
  let v0 : BitVec 32 := Scalar.muli arg0 c512_i32
  let c241_i32 : BitVec 32 := 241#32
  let v1688 : BitVec 32 := Scalar.addi v0 c241_i32
  let v1689 : Index := Scalar.indexCast v1688
  ![v1689.toNat]
def k0_off484 (v1690 : BitVec 32) : Fin 2 → Nat :=
  let c0_i32_725 : BitVec 32 := 0#32
  ![v1690.toNat, 0]

def k0_chk242 (v1690 : BitVec 32) : Prop :=
  (∀ a, (k0_off484 v1690) a + S1x768.size a ≤ S50257x768.size a)
theorem k0_off484_inb : ∀ (v1690 : BitVec 32) (k0_hw242 : k0_chk242 v1690), ∀ a, (k0_off484 v1690) a + S1x768.size a ≤ S50257x768.size a := fun v1690 k0_hw242 => k0_hw242

def k0_off485 (i : grid0.Coords) : Fin 1 → Nat :=
  let arg0 : BitVec 32 := BitVec.ofNat 32 (i 0).val
  let c512_i32 : BitVec 32 := 512#32
  let v0 : BitVec 32 := Scalar.muli arg0 c512_i32
  let c242_i32 : BitVec 32 := 242#32
  let v1695 : BitVec 32 := Scalar.addi v0 c242_i32
  let v1696 : Index := Scalar.indexCast v1695
  ![v1696.toNat]
def k0_off486 (v1697 : BitVec 32) : Fin 2 → Nat :=
  let c0_i32_728 : BitVec 32 := 0#32
  ![v1697.toNat, 0]

def k0_chk243 (v1697 : BitVec 32) : Prop :=
  (∀ a, (k0_off486 v1697) a + S1x768.size a ≤ S50257x768.size a)
theorem k0_off486_inb : ∀ (v1697 : BitVec 32) (k0_hw243 : k0_chk243 v1697), ∀ a, (k0_off486 v1697) a + S1x768.size a ≤ S50257x768.size a := fun v1697 k0_hw243 => k0_hw243

def k0_off487 (i : grid0.Coords) : Fin 1 → Nat :=
  let arg0 : BitVec 32 := BitVec.ofNat 32 (i 0).val
  let c512_i32 : BitVec 32 := 512#32
  let v0 : BitVec 32 := Scalar.muli arg0 c512_i32
  let c243_i32 : BitVec 32 := 243#32
  let v1702 : BitVec 32 := Scalar.addi v0 c243_i32
  let v1703 : Index := Scalar.indexCast v1702
  ![v1703.toNat]
def k0_off488 (v1704 : BitVec 32) : Fin 2 → Nat :=
  let c0_i32_731 : BitVec 32 := 0#32
  ![v1704.toNat, 0]

def k0_chk244 (v1704 : BitVec 32) : Prop :=
  (∀ a, (k0_off488 v1704) a + S1x768.size a ≤ S50257x768.size a)
theorem k0_off488_inb : ∀ (v1704 : BitVec 32) (k0_hw244 : k0_chk244 v1704), ∀ a, (k0_off488 v1704) a + S1x768.size a ≤ S50257x768.size a := fun v1704 k0_hw244 => k0_hw244

def k0_off489 (i : grid0.Coords) : Fin 1 → Nat :=
  let arg0 : BitVec 32 := BitVec.ofNat 32 (i 0).val
  let c512_i32 : BitVec 32 := 512#32
  let v0 : BitVec 32 := Scalar.muli arg0 c512_i32
  let c244_i32 : BitVec 32 := 244#32
  let v1709 : BitVec 32 := Scalar.addi v0 c244_i32
  let v1710 : Index := Scalar.indexCast v1709
  ![v1710.toNat]
def k0_off490 (v1711 : BitVec 32) : Fin 2 → Nat :=
  let c0_i32_734 : BitVec 32 := 0#32
  ![v1711.toNat, 0]

def k0_chk245 (v1711 : BitVec 32) : Prop :=
  (∀ a, (k0_off490 v1711) a + S1x768.size a ≤ S50257x768.size a)
theorem k0_off490_inb : ∀ (v1711 : BitVec 32) (k0_hw245 : k0_chk245 v1711), ∀ a, (k0_off490 v1711) a + S1x768.size a ≤ S50257x768.size a := fun v1711 k0_hw245 => k0_hw245

def k0_off491 (i : grid0.Coords) : Fin 1 → Nat :=
  let arg0 : BitVec 32 := BitVec.ofNat 32 (i 0).val
  let c512_i32 : BitVec 32 := 512#32
  let v0 : BitVec 32 := Scalar.muli arg0 c512_i32
  let c245_i32 : BitVec 32 := 245#32
  let v1716 : BitVec 32 := Scalar.addi v0 c245_i32
  let v1717 : Index := Scalar.indexCast v1716
  ![v1717.toNat]
def k0_off492 (v1718 : BitVec 32) : Fin 2 → Nat :=
  let c0_i32_737 : BitVec 32 := 0#32
  ![v1718.toNat, 0]

def k0_chk246 (v1718 : BitVec 32) : Prop :=
  (∀ a, (k0_off492 v1718) a + S1x768.size a ≤ S50257x768.size a)
theorem k0_off492_inb : ∀ (v1718 : BitVec 32) (k0_hw246 : k0_chk246 v1718), ∀ a, (k0_off492 v1718) a + S1x768.size a ≤ S50257x768.size a := fun v1718 k0_hw246 => k0_hw246

def k0_off493 (i : grid0.Coords) : Fin 1 → Nat :=
  let arg0 : BitVec 32 := BitVec.ofNat 32 (i 0).val
  let c512_i32 : BitVec 32 := 512#32
  let v0 : BitVec 32 := Scalar.muli arg0 c512_i32
  let c246_i32 : BitVec 32 := 246#32
  let v1723 : BitVec 32 := Scalar.addi v0 c246_i32
  let v1724 : Index := Scalar.indexCast v1723
  ![v1724.toNat]
def k0_off494 (v1725 : BitVec 32) : Fin 2 → Nat :=
  let c0_i32_740 : BitVec 32 := 0#32
  ![v1725.toNat, 0]

def k0_chk247 (v1725 : BitVec 32) : Prop :=
  (∀ a, (k0_off494 v1725) a + S1x768.size a ≤ S50257x768.size a)
theorem k0_off494_inb : ∀ (v1725 : BitVec 32) (k0_hw247 : k0_chk247 v1725), ∀ a, (k0_off494 v1725) a + S1x768.size a ≤ S50257x768.size a := fun v1725 k0_hw247 => k0_hw247

def k0_off495 (i : grid0.Coords) : Fin 1 → Nat :=
  let arg0 : BitVec 32 := BitVec.ofNat 32 (i 0).val
  let c512_i32 : BitVec 32 := 512#32
  let v0 : BitVec 32 := Scalar.muli arg0 c512_i32
  let c247_i32 : BitVec 32 := 247#32
  let v1730 : BitVec 32 := Scalar.addi v0 c247_i32
  let v1731 : Index := Scalar.indexCast v1730
  ![v1731.toNat]
def k0_off496 (v1732 : BitVec 32) : Fin 2 → Nat :=
  let c0_i32_743 : BitVec 32 := 0#32
  ![v1732.toNat, 0]

def k0_chk248 (v1732 : BitVec 32) : Prop :=
  (∀ a, (k0_off496 v1732) a + S1x768.size a ≤ S50257x768.size a)
theorem k0_off496_inb : ∀ (v1732 : BitVec 32) (k0_hw248 : k0_chk248 v1732), ∀ a, (k0_off496 v1732) a + S1x768.size a ≤ S50257x768.size a := fun v1732 k0_hw248 => k0_hw248

def k0_off497 (i : grid0.Coords) : Fin 1 → Nat :=
  let arg0 : BitVec 32 := BitVec.ofNat 32 (i 0).val
  let c512_i32 : BitVec 32 := 512#32
  let v0 : BitVec 32 := Scalar.muli arg0 c512_i32
  let c248_i32 : BitVec 32 := 248#32
  let v1737 : BitVec 32 := Scalar.addi v0 c248_i32
  let v1738 : Index := Scalar.indexCast v1737
  ![v1738.toNat]
def k0_off498 (v1739 : BitVec 32) : Fin 2 → Nat :=
  let c0_i32_746 : BitVec 32 := 0#32
  ![v1739.toNat, 0]

def k0_chk249 (v1739 : BitVec 32) : Prop :=
  (∀ a, (k0_off498 v1739) a + S1x768.size a ≤ S50257x768.size a)
theorem k0_off498_inb : ∀ (v1739 : BitVec 32) (k0_hw249 : k0_chk249 v1739), ∀ a, (k0_off498 v1739) a + S1x768.size a ≤ S50257x768.size a := fun v1739 k0_hw249 => k0_hw249

def k0_off499 (i : grid0.Coords) : Fin 1 → Nat :=
  let arg0 : BitVec 32 := BitVec.ofNat 32 (i 0).val
  let c512_i32 : BitVec 32 := 512#32
  let v0 : BitVec 32 := Scalar.muli arg0 c512_i32
  let c249_i32 : BitVec 32 := 249#32
  let v1744 : BitVec 32 := Scalar.addi v0 c249_i32
  let v1745 : Index := Scalar.indexCast v1744
  ![v1745.toNat]
def k0_off500 (v1746 : BitVec 32) : Fin 2 → Nat :=
  let c0_i32_749 : BitVec 32 := 0#32
  ![v1746.toNat, 0]

def k0_chk250 (v1746 : BitVec 32) : Prop :=
  (∀ a, (k0_off500 v1746) a + S1x768.size a ≤ S50257x768.size a)
theorem k0_off500_inb : ∀ (v1746 : BitVec 32) (k0_hw250 : k0_chk250 v1746), ∀ a, (k0_off500 v1746) a + S1x768.size a ≤ S50257x768.size a := fun v1746 k0_hw250 => k0_hw250

def k0_off501 (i : grid0.Coords) : Fin 1 → Nat :=
  let arg0 : BitVec 32 := BitVec.ofNat 32 (i 0).val
  let c512_i32 : BitVec 32 := 512#32
  let v0 : BitVec 32 := Scalar.muli arg0 c512_i32
  let c250_i32 : BitVec 32 := 250#32
  let v1751 : BitVec 32 := Scalar.addi v0 c250_i32
  let v1752 : Index := Scalar.indexCast v1751
  ![v1752.toNat]
def k0_off502 (v1753 : BitVec 32) : Fin 2 → Nat :=
  let c0_i32_752 : BitVec 32 := 0#32
  ![v1753.toNat, 0]

def k0_chk251 (v1753 : BitVec 32) : Prop :=
  (∀ a, (k0_off502 v1753) a + S1x768.size a ≤ S50257x768.size a)
theorem k0_off502_inb : ∀ (v1753 : BitVec 32) (k0_hw251 : k0_chk251 v1753), ∀ a, (k0_off502 v1753) a + S1x768.size a ≤ S50257x768.size a := fun v1753 k0_hw251 => k0_hw251

def k0_off503 (i : grid0.Coords) : Fin 1 → Nat :=
  let arg0 : BitVec 32 := BitVec.ofNat 32 (i 0).val
  let c512_i32 : BitVec 32 := 512#32
  let v0 : BitVec 32 := Scalar.muli arg0 c512_i32
  let c251_i32 : BitVec 32 := 251#32
  let v1758 : BitVec 32 := Scalar.addi v0 c251_i32
  let v1759 : Index := Scalar.indexCast v1758
  ![v1759.toNat]
def k0_off504 (v1760 : BitVec 32) : Fin 2 → Nat :=
  let c0_i32_755 : BitVec 32 := 0#32
  ![v1760.toNat, 0]

def k0_chk252 (v1760 : BitVec 32) : Prop :=
  (∀ a, (k0_off504 v1760) a + S1x768.size a ≤ S50257x768.size a)
theorem k0_off504_inb : ∀ (v1760 : BitVec 32) (k0_hw252 : k0_chk252 v1760), ∀ a, (k0_off504 v1760) a + S1x768.size a ≤ S50257x768.size a := fun v1760 k0_hw252 => k0_hw252

def k0_off505 (i : grid0.Coords) : Fin 1 → Nat :=
  let arg0 : BitVec 32 := BitVec.ofNat 32 (i 0).val
  let c512_i32 : BitVec 32 := 512#32
  let v0 : BitVec 32 := Scalar.muli arg0 c512_i32
  let c252_i32 : BitVec 32 := 252#32
  let v1765 : BitVec 32 := Scalar.addi v0 c252_i32
  let v1766 : Index := Scalar.indexCast v1765
  ![v1766.toNat]
def k0_off506 (v1767 : BitVec 32) : Fin 2 → Nat :=
  let c0_i32_758 : BitVec 32 := 0#32
  ![v1767.toNat, 0]

def k0_chk253 (v1767 : BitVec 32) : Prop :=
  (∀ a, (k0_off506 v1767) a + S1x768.size a ≤ S50257x768.size a)
theorem k0_off506_inb : ∀ (v1767 : BitVec 32) (k0_hw253 : k0_chk253 v1767), ∀ a, (k0_off506 v1767) a + S1x768.size a ≤ S50257x768.size a := fun v1767 k0_hw253 => k0_hw253

def k0_off507 (i : grid0.Coords) : Fin 1 → Nat :=
  let arg0 : BitVec 32 := BitVec.ofNat 32 (i 0).val
  let c512_i32 : BitVec 32 := 512#32
  let v0 : BitVec 32 := Scalar.muli arg0 c512_i32
  let c253_i32 : BitVec 32 := 253#32
  let v1772 : BitVec 32 := Scalar.addi v0 c253_i32
  let v1773 : Index := Scalar.indexCast v1772
  ![v1773.toNat]
def k0_off508 (v1774 : BitVec 32) : Fin 2 → Nat :=
  let c0_i32_761 : BitVec 32 := 0#32
  ![v1774.toNat, 0]

def k0_chk254 (v1774 : BitVec 32) : Prop :=
  (∀ a, (k0_off508 v1774) a + S1x768.size a ≤ S50257x768.size a)
theorem k0_off508_inb : ∀ (v1774 : BitVec 32) (k0_hw254 : k0_chk254 v1774), ∀ a, (k0_off508 v1774) a + S1x768.size a ≤ S50257x768.size a := fun v1774 k0_hw254 => k0_hw254

def k0_off509 (i : grid0.Coords) : Fin 1 → Nat :=
  let arg0 : BitVec 32 := BitVec.ofNat 32 (i 0).val
  let c512_i32 : BitVec 32 := 512#32
  let v0 : BitVec 32 := Scalar.muli arg0 c512_i32
  let c254_i32 : BitVec 32 := 254#32
  let v1779 : BitVec 32 := Scalar.addi v0 c254_i32
  let v1780 : Index := Scalar.indexCast v1779
  ![v1780.toNat]
def k0_off510 (v1781 : BitVec 32) : Fin 2 → Nat :=
  let c0_i32_764 : BitVec 32 := 0#32
  ![v1781.toNat, 0]

def k0_chk255 (v1781 : BitVec 32) : Prop :=
  (∀ a, (k0_off510 v1781) a + S1x768.size a ≤ S50257x768.size a)
theorem k0_off510_inb : ∀ (v1781 : BitVec 32) (k0_hw255 : k0_chk255 v1781), ∀ a, (k0_off510 v1781) a + S1x768.size a ≤ S50257x768.size a := fun v1781 k0_hw255 => k0_hw255

def k0_off511 (i : grid0.Coords) : Fin 1 → Nat :=
  let arg0 : BitVec 32 := BitVec.ofNat 32 (i 0).val
  let c512_i32 : BitVec 32 := 512#32
  let v0 : BitVec 32 := Scalar.muli arg0 c512_i32
  let c255_i32 : BitVec 32 := 255#32
  let v1786 : BitVec 32 := Scalar.addi v0 c255_i32
  let v1787 : Index := Scalar.indexCast v1786
  ![v1787.toNat]
def k0_off512 (v1788 : BitVec 32) : Fin 2 → Nat :=
  let c0_i32_767 : BitVec 32 := 0#32
  ![v1788.toNat, 0]

def k0_chk256 (v1788 : BitVec 32) : Prop :=
  (∀ a, (k0_off512 v1788) a + S1x768.size a ≤ S50257x768.size a)
theorem k0_off512_inb : ∀ (v1788 : BitVec 32) (k0_hw256 : k0_chk256 v1788), ∀ a, (k0_off512 v1788) a + S1x768.size a ≤ S50257x768.size a := fun v1788 k0_hw256 => k0_hw256

def k0_off513 (i : grid0.Coords) : Fin 1 → Nat :=
  let arg0 : BitVec 32 := BitVec.ofNat 32 (i 0).val
  let c512_i32 : BitVec 32 := 512#32
  let v0 : BitVec 32 := Scalar.muli arg0 c512_i32
  let c256_i32 : BitVec 32 := 256#32
  let v1793 : BitVec 32 := Scalar.addi v0 c256_i32
  let v1794 : Index := Scalar.indexCast v1793
  ![v1794.toNat]
def k0_off514 (v1795 : BitVec 32) : Fin 2 → Nat :=
  let c0_i32_770 : BitVec 32 := 0#32
  ![v1795.toNat, 0]

def k0_chk257 (v1795 : BitVec 32) : Prop :=
  (∀ a, (k0_off514 v1795) a + S1x768.size a ≤ S50257x768.size a)
theorem k0_off514_inb : ∀ (v1795 : BitVec 32) (k0_hw257 : k0_chk257 v1795), ∀ a, (k0_off514 v1795) a + S1x768.size a ≤ S50257x768.size a := fun v1795 k0_hw257 => k0_hw257

def k0_off515 (i : grid0.Coords) : Fin 1 → Nat :=
  let arg0 : BitVec 32 := BitVec.ofNat 32 (i 0).val
  let c512_i32 : BitVec 32 := 512#32
  let v0 : BitVec 32 := Scalar.muli arg0 c512_i32
  let c257_i32 : BitVec 32 := 257#32
  let v1800 : BitVec 32 := Scalar.addi v0 c257_i32
  let v1801 : Index := Scalar.indexCast v1800
  ![v1801.toNat]
def k0_off516 (v1802 : BitVec 32) : Fin 2 → Nat :=
  let c0_i32_773 : BitVec 32 := 0#32
  ![v1802.toNat, 0]

def k0_chk258 (v1802 : BitVec 32) : Prop :=
  (∀ a, (k0_off516 v1802) a + S1x768.size a ≤ S50257x768.size a)
theorem k0_off516_inb : ∀ (v1802 : BitVec 32) (k0_hw258 : k0_chk258 v1802), ∀ a, (k0_off516 v1802) a + S1x768.size a ≤ S50257x768.size a := fun v1802 k0_hw258 => k0_hw258

def k0_off517 (i : grid0.Coords) : Fin 1 → Nat :=
  let arg0 : BitVec 32 := BitVec.ofNat 32 (i 0).val
  let c512_i32 : BitVec 32 := 512#32
  let v0 : BitVec 32 := Scalar.muli arg0 c512_i32
  let c258_i32 : BitVec 32 := 258#32
  let v1807 : BitVec 32 := Scalar.addi v0 c258_i32
  let v1808 : Index := Scalar.indexCast v1807
  ![v1808.toNat]
def k0_off518 (v1809 : BitVec 32) : Fin 2 → Nat :=
  let c0_i32_776 : BitVec 32 := 0#32
  ![v1809.toNat, 0]

def k0_chk259 (v1809 : BitVec 32) : Prop :=
  (∀ a, (k0_off518 v1809) a + S1x768.size a ≤ S50257x768.size a)
theorem k0_off518_inb : ∀ (v1809 : BitVec 32) (k0_hw259 : k0_chk259 v1809), ∀ a, (k0_off518 v1809) a + S1x768.size a ≤ S50257x768.size a := fun v1809 k0_hw259 => k0_hw259

def k0_off519 (i : grid0.Coords) : Fin 1 → Nat :=
  let arg0 : BitVec 32 := BitVec.ofNat 32 (i 0).val
  let c512_i32 : BitVec 32 := 512#32
  let v0 : BitVec 32 := Scalar.muli arg0 c512_i32
  let c259_i32 : BitVec 32 := 259#32
  let v1814 : BitVec 32 := Scalar.addi v0 c259_i32
  let v1815 : Index := Scalar.indexCast v1814
  ![v1815.toNat]
def k0_off520 (v1816 : BitVec 32) : Fin 2 → Nat :=
  let c0_i32_779 : BitVec 32 := 0#32
  ![v1816.toNat, 0]

def k0_chk260 (v1816 : BitVec 32) : Prop :=
  (∀ a, (k0_off520 v1816) a + S1x768.size a ≤ S50257x768.size a)
theorem k0_off520_inb : ∀ (v1816 : BitVec 32) (k0_hw260 : k0_chk260 v1816), ∀ a, (k0_off520 v1816) a + S1x768.size a ≤ S50257x768.size a := fun v1816 k0_hw260 => k0_hw260

def k0_off521 (i : grid0.Coords) : Fin 1 → Nat :=
  let arg0 : BitVec 32 := BitVec.ofNat 32 (i 0).val
  let c512_i32 : BitVec 32 := 512#32
  let v0 : BitVec 32 := Scalar.muli arg0 c512_i32
  let c260_i32 : BitVec 32 := 260#32
  let v1821 : BitVec 32 := Scalar.addi v0 c260_i32
  let v1822 : Index := Scalar.indexCast v1821
  ![v1822.toNat]
def k0_off522 (v1823 : BitVec 32) : Fin 2 → Nat :=
  let c0_i32_782 : BitVec 32 := 0#32
  ![v1823.toNat, 0]

def k0_chk261 (v1823 : BitVec 32) : Prop :=
  (∀ a, (k0_off522 v1823) a + S1x768.size a ≤ S50257x768.size a)
theorem k0_off522_inb : ∀ (v1823 : BitVec 32) (k0_hw261 : k0_chk261 v1823), ∀ a, (k0_off522 v1823) a + S1x768.size a ≤ S50257x768.size a := fun v1823 k0_hw261 => k0_hw261

def k0_off523 (i : grid0.Coords) : Fin 1 → Nat :=
  let arg0 : BitVec 32 := BitVec.ofNat 32 (i 0).val
  let c512_i32 : BitVec 32 := 512#32
  let v0 : BitVec 32 := Scalar.muli arg0 c512_i32
  let c261_i32 : BitVec 32 := 261#32
  let v1828 : BitVec 32 := Scalar.addi v0 c261_i32
  let v1829 : Index := Scalar.indexCast v1828
  ![v1829.toNat]
def k0_off524 (v1830 : BitVec 32) : Fin 2 → Nat :=
  let c0_i32_785 : BitVec 32 := 0#32
  ![v1830.toNat, 0]

def k0_chk262 (v1830 : BitVec 32) : Prop :=
  (∀ a, (k0_off524 v1830) a + S1x768.size a ≤ S50257x768.size a)
theorem k0_off524_inb : ∀ (v1830 : BitVec 32) (k0_hw262 : k0_chk262 v1830), ∀ a, (k0_off524 v1830) a + S1x768.size a ≤ S50257x768.size a := fun v1830 k0_hw262 => k0_hw262

def k0_off525 (i : grid0.Coords) : Fin 1 → Nat :=
  let arg0 : BitVec 32 := BitVec.ofNat 32 (i 0).val
  let c512_i32 : BitVec 32 := 512#32
  let v0 : BitVec 32 := Scalar.muli arg0 c512_i32
  let c262_i32 : BitVec 32 := 262#32
  let v1835 : BitVec 32 := Scalar.addi v0 c262_i32
  let v1836 : Index := Scalar.indexCast v1835
  ![v1836.toNat]
def k0_off526 (v1837 : BitVec 32) : Fin 2 → Nat :=
  let c0_i32_788 : BitVec 32 := 0#32
  ![v1837.toNat, 0]

def k0_chk263 (v1837 : BitVec 32) : Prop :=
  (∀ a, (k0_off526 v1837) a + S1x768.size a ≤ S50257x768.size a)
theorem k0_off526_inb : ∀ (v1837 : BitVec 32) (k0_hw263 : k0_chk263 v1837), ∀ a, (k0_off526 v1837) a + S1x768.size a ≤ S50257x768.size a := fun v1837 k0_hw263 => k0_hw263

def k0_off527 (i : grid0.Coords) : Fin 1 → Nat :=
  let arg0 : BitVec 32 := BitVec.ofNat 32 (i 0).val
  let c512_i32 : BitVec 32 := 512#32
  let v0 : BitVec 32 := Scalar.muli arg0 c512_i32
  let c263_i32 : BitVec 32 := 263#32
  let v1842 : BitVec 32 := Scalar.addi v0 c263_i32
  let v1843 : Index := Scalar.indexCast v1842
  ![v1843.toNat]
def k0_off528 (v1844 : BitVec 32) : Fin 2 → Nat :=
  let c0_i32_791 : BitVec 32 := 0#32
  ![v1844.toNat, 0]

def k0_chk264 (v1844 : BitVec 32) : Prop :=
  (∀ a, (k0_off528 v1844) a + S1x768.size a ≤ S50257x768.size a)
theorem k0_off528_inb : ∀ (v1844 : BitVec 32) (k0_hw264 : k0_chk264 v1844), ∀ a, (k0_off528 v1844) a + S1x768.size a ≤ S50257x768.size a := fun v1844 k0_hw264 => k0_hw264

def k0_off529 (i : grid0.Coords) : Fin 1 → Nat :=
  let arg0 : BitVec 32 := BitVec.ofNat 32 (i 0).val
  let c512_i32 : BitVec 32 := 512#32
  let v0 : BitVec 32 := Scalar.muli arg0 c512_i32
  let c264_i32 : BitVec 32 := 264#32
  let v1849 : BitVec 32 := Scalar.addi v0 c264_i32
  let v1850 : Index := Scalar.indexCast v1849
  ![v1850.toNat]
def k0_off530 (v1851 : BitVec 32) : Fin 2 → Nat :=
  let c0_i32_794 : BitVec 32 := 0#32
  ![v1851.toNat, 0]

def k0_chk265 (v1851 : BitVec 32) : Prop :=
  (∀ a, (k0_off530 v1851) a + S1x768.size a ≤ S50257x768.size a)
theorem k0_off530_inb : ∀ (v1851 : BitVec 32) (k0_hw265 : k0_chk265 v1851), ∀ a, (k0_off530 v1851) a + S1x768.size a ≤ S50257x768.size a := fun v1851 k0_hw265 => k0_hw265

def k0_off531 (i : grid0.Coords) : Fin 1 → Nat :=
  let arg0 : BitVec 32 := BitVec.ofNat 32 (i 0).val
  let c512_i32 : BitVec 32 := 512#32
  let v0 : BitVec 32 := Scalar.muli arg0 c512_i32
  let c265_i32 : BitVec 32 := 265#32
  let v1856 : BitVec 32 := Scalar.addi v0 c265_i32
  let v1857 : Index := Scalar.indexCast v1856
  ![v1857.toNat]
def k0_off532 (v1858 : BitVec 32) : Fin 2 → Nat :=
  let c0_i32_797 : BitVec 32 := 0#32
  ![v1858.toNat, 0]

def k0_chk266 (v1858 : BitVec 32) : Prop :=
  (∀ a, (k0_off532 v1858) a + S1x768.size a ≤ S50257x768.size a)
theorem k0_off532_inb : ∀ (v1858 : BitVec 32) (k0_hw266 : k0_chk266 v1858), ∀ a, (k0_off532 v1858) a + S1x768.size a ≤ S50257x768.size a := fun v1858 k0_hw266 => k0_hw266

def k0_off533 (i : grid0.Coords) : Fin 1 → Nat :=
  let arg0 : BitVec 32 := BitVec.ofNat 32 (i 0).val
  let c512_i32 : BitVec 32 := 512#32
  let v0 : BitVec 32 := Scalar.muli arg0 c512_i32
  let c266_i32 : BitVec 32 := 266#32
  let v1863 : BitVec 32 := Scalar.addi v0 c266_i32
  let v1864 : Index := Scalar.indexCast v1863
  ![v1864.toNat]
def k0_off534 (v1865 : BitVec 32) : Fin 2 → Nat :=
  let c0_i32_800 : BitVec 32 := 0#32
  ![v1865.toNat, 0]

def k0_chk267 (v1865 : BitVec 32) : Prop :=
  (∀ a, (k0_off534 v1865) a + S1x768.size a ≤ S50257x768.size a)
theorem k0_off534_inb : ∀ (v1865 : BitVec 32) (k0_hw267 : k0_chk267 v1865), ∀ a, (k0_off534 v1865) a + S1x768.size a ≤ S50257x768.size a := fun v1865 k0_hw267 => k0_hw267

def k0_off535 (i : grid0.Coords) : Fin 1 → Nat :=
  let arg0 : BitVec 32 := BitVec.ofNat 32 (i 0).val
  let c512_i32 : BitVec 32 := 512#32
  let v0 : BitVec 32 := Scalar.muli arg0 c512_i32
  let c267_i32 : BitVec 32 := 267#32
  let v1870 : BitVec 32 := Scalar.addi v0 c267_i32
  let v1871 : Index := Scalar.indexCast v1870
  ![v1871.toNat]
def k0_off536 (v1872 : BitVec 32) : Fin 2 → Nat :=
  let c0_i32_803 : BitVec 32 := 0#32
  ![v1872.toNat, 0]

def k0_chk268 (v1872 : BitVec 32) : Prop :=
  (∀ a, (k0_off536 v1872) a + S1x768.size a ≤ S50257x768.size a)
theorem k0_off536_inb : ∀ (v1872 : BitVec 32) (k0_hw268 : k0_chk268 v1872), ∀ a, (k0_off536 v1872) a + S1x768.size a ≤ S50257x768.size a := fun v1872 k0_hw268 => k0_hw268

def k0_off537 (i : grid0.Coords) : Fin 1 → Nat :=
  let arg0 : BitVec 32 := BitVec.ofNat 32 (i 0).val
  let c512_i32 : BitVec 32 := 512#32
  let v0 : BitVec 32 := Scalar.muli arg0 c512_i32
  let c268_i32 : BitVec 32 := 268#32
  let v1877 : BitVec 32 := Scalar.addi v0 c268_i32
  let v1878 : Index := Scalar.indexCast v1877
  ![v1878.toNat]
def k0_off538 (v1879 : BitVec 32) : Fin 2 → Nat :=
  let c0_i32_806 : BitVec 32 := 0#32
  ![v1879.toNat, 0]

def k0_chk269 (v1879 : BitVec 32) : Prop :=
  (∀ a, (k0_off538 v1879) a + S1x768.size a ≤ S50257x768.size a)
theorem k0_off538_inb : ∀ (v1879 : BitVec 32) (k0_hw269 : k0_chk269 v1879), ∀ a, (k0_off538 v1879) a + S1x768.size a ≤ S50257x768.size a := fun v1879 k0_hw269 => k0_hw269

def k0_off539 (i : grid0.Coords) : Fin 1 → Nat :=
  let arg0 : BitVec 32 := BitVec.ofNat 32 (i 0).val
  let c512_i32 : BitVec 32 := 512#32
  let v0 : BitVec 32 := Scalar.muli arg0 c512_i32
  let c269_i32 : BitVec 32 := 269#32
  let v1884 : BitVec 32 := Scalar.addi v0 c269_i32
  let v1885 : Index := Scalar.indexCast v1884
  ![v1885.toNat]
def k0_off540 (v1886 : BitVec 32) : Fin 2 → Nat :=
  let c0_i32_809 : BitVec 32 := 0#32
  ![v1886.toNat, 0]

def k0_chk270 (v1886 : BitVec 32) : Prop :=
  (∀ a, (k0_off540 v1886) a + S1x768.size a ≤ S50257x768.size a)
theorem k0_off540_inb : ∀ (v1886 : BitVec 32) (k0_hw270 : k0_chk270 v1886), ∀ a, (k0_off540 v1886) a + S1x768.size a ≤ S50257x768.size a := fun v1886 k0_hw270 => k0_hw270

def k0_off541 (i : grid0.Coords) : Fin 1 → Nat :=
  let arg0 : BitVec 32 := BitVec.ofNat 32 (i 0).val
  let c512_i32 : BitVec 32 := 512#32
  let v0 : BitVec 32 := Scalar.muli arg0 c512_i32
  let c270_i32 : BitVec 32 := 270#32
  let v1891 : BitVec 32 := Scalar.addi v0 c270_i32
  let v1892 : Index := Scalar.indexCast v1891
  ![v1892.toNat]
def k0_off542 (v1893 : BitVec 32) : Fin 2 → Nat :=
  let c0_i32_812 : BitVec 32 := 0#32
  ![v1893.toNat, 0]

def k0_chk271 (v1893 : BitVec 32) : Prop :=
  (∀ a, (k0_off542 v1893) a + S1x768.size a ≤ S50257x768.size a)
theorem k0_off542_inb : ∀ (v1893 : BitVec 32) (k0_hw271 : k0_chk271 v1893), ∀ a, (k0_off542 v1893) a + S1x768.size a ≤ S50257x768.size a := fun v1893 k0_hw271 => k0_hw271

def k0_off543 (i : grid0.Coords) : Fin 1 → Nat :=
  let arg0 : BitVec 32 := BitVec.ofNat 32 (i 0).val
  let c512_i32 : BitVec 32 := 512#32
  let v0 : BitVec 32 := Scalar.muli arg0 c512_i32
  let c271_i32 : BitVec 32 := 271#32
  let v1898 : BitVec 32 := Scalar.addi v0 c271_i32
  let v1899 : Index := Scalar.indexCast v1898
  ![v1899.toNat]
def k0_off544 (v1900 : BitVec 32) : Fin 2 → Nat :=
  let c0_i32_815 : BitVec 32 := 0#32
  ![v1900.toNat, 0]

def k0_chk272 (v1900 : BitVec 32) : Prop :=
  (∀ a, (k0_off544 v1900) a + S1x768.size a ≤ S50257x768.size a)
theorem k0_off544_inb : ∀ (v1900 : BitVec 32) (k0_hw272 : k0_chk272 v1900), ∀ a, (k0_off544 v1900) a + S1x768.size a ≤ S50257x768.size a := fun v1900 k0_hw272 => k0_hw272

def k0_off545 (i : grid0.Coords) : Fin 1 → Nat :=
  let arg0 : BitVec 32 := BitVec.ofNat 32 (i 0).val
  let c512_i32 : BitVec 32 := 512#32
  let v0 : BitVec 32 := Scalar.muli arg0 c512_i32
  let c272_i32 : BitVec 32 := 272#32
  let v1905 : BitVec 32 := Scalar.addi v0 c272_i32
  let v1906 : Index := Scalar.indexCast v1905
  ![v1906.toNat]
def k0_off546 (v1907 : BitVec 32) : Fin 2 → Nat :=
  let c0_i32_818 : BitVec 32 := 0#32
  ![v1907.toNat, 0]

def k0_chk273 (v1907 : BitVec 32) : Prop :=
  (∀ a, (k0_off546 v1907) a + S1x768.size a ≤ S50257x768.size a)
theorem k0_off546_inb : ∀ (v1907 : BitVec 32) (k0_hw273 : k0_chk273 v1907), ∀ a, (k0_off546 v1907) a + S1x768.size a ≤ S50257x768.size a := fun v1907 k0_hw273 => k0_hw273

def k0_off547 (i : grid0.Coords) : Fin 1 → Nat :=
  let arg0 : BitVec 32 := BitVec.ofNat 32 (i 0).val
  let c512_i32 : BitVec 32 := 512#32
  let v0 : BitVec 32 := Scalar.muli arg0 c512_i32
  let c273_i32 : BitVec 32 := 273#32
  let v1912 : BitVec 32 := Scalar.addi v0 c273_i32
  let v1913 : Index := Scalar.indexCast v1912
  ![v1913.toNat]
def k0_off548 (v1914 : BitVec 32) : Fin 2 → Nat :=
  let c0_i32_821 : BitVec 32 := 0#32
  ![v1914.toNat, 0]

def k0_chk274 (v1914 : BitVec 32) : Prop :=
  (∀ a, (k0_off548 v1914) a + S1x768.size a ≤ S50257x768.size a)
theorem k0_off548_inb : ∀ (v1914 : BitVec 32) (k0_hw274 : k0_chk274 v1914), ∀ a, (k0_off548 v1914) a + S1x768.size a ≤ S50257x768.size a := fun v1914 k0_hw274 => k0_hw274

def k0_off549 (i : grid0.Coords) : Fin 1 → Nat :=
  let arg0 : BitVec 32 := BitVec.ofNat 32 (i 0).val
  let c512_i32 : BitVec 32 := 512#32
  let v0 : BitVec 32 := Scalar.muli arg0 c512_i32
  let c274_i32 : BitVec 32 := 274#32
  let v1919 : BitVec 32 := Scalar.addi v0 c274_i32
  let v1920 : Index := Scalar.indexCast v1919
  ![v1920.toNat]
def k0_off550 (v1921 : BitVec 32) : Fin 2 → Nat :=
  let c0_i32_824 : BitVec 32 := 0#32
  ![v1921.toNat, 0]

def k0_chk275 (v1921 : BitVec 32) : Prop :=
  (∀ a, (k0_off550 v1921) a + S1x768.size a ≤ S50257x768.size a)
theorem k0_off550_inb : ∀ (v1921 : BitVec 32) (k0_hw275 : k0_chk275 v1921), ∀ a, (k0_off550 v1921) a + S1x768.size a ≤ S50257x768.size a := fun v1921 k0_hw275 => k0_hw275

def k0_off551 (i : grid0.Coords) : Fin 1 → Nat :=
  let arg0 : BitVec 32 := BitVec.ofNat 32 (i 0).val
  let c512_i32 : BitVec 32 := 512#32
  let v0 : BitVec 32 := Scalar.muli arg0 c512_i32
  let c275_i32 : BitVec 32 := 275#32
  let v1926 : BitVec 32 := Scalar.addi v0 c275_i32
  let v1927 : Index := Scalar.indexCast v1926
  ![v1927.toNat]
def k0_off552 (v1928 : BitVec 32) : Fin 2 → Nat :=
  let c0_i32_827 : BitVec 32 := 0#32
  ![v1928.toNat, 0]

def k0_chk276 (v1928 : BitVec 32) : Prop :=
  (∀ a, (k0_off552 v1928) a + S1x768.size a ≤ S50257x768.size a)
theorem k0_off552_inb : ∀ (v1928 : BitVec 32) (k0_hw276 : k0_chk276 v1928), ∀ a, (k0_off552 v1928) a + S1x768.size a ≤ S50257x768.size a := fun v1928 k0_hw276 => k0_hw276

def k0_off553 (i : grid0.Coords) : Fin 1 → Nat :=
  let arg0 : BitVec 32 := BitVec.ofNat 32 (i 0).val
  let c512_i32 : BitVec 32 := 512#32
  let v0 : BitVec 32 := Scalar.muli arg0 c512_i32
  let c276_i32 : BitVec 32 := 276#32
  let v1933 : BitVec 32 := Scalar.addi v0 c276_i32
  let v1934 : Index := Scalar.indexCast v1933
  ![v1934.toNat]
def k0_off554 (v1935 : BitVec 32) : Fin 2 → Nat :=
  let c0_i32_830 : BitVec 32 := 0#32
  ![v1935.toNat, 0]

def k0_chk277 (v1935 : BitVec 32) : Prop :=
  (∀ a, (k0_off554 v1935) a + S1x768.size a ≤ S50257x768.size a)
theorem k0_off554_inb : ∀ (v1935 : BitVec 32) (k0_hw277 : k0_chk277 v1935), ∀ a, (k0_off554 v1935) a + S1x768.size a ≤ S50257x768.size a := fun v1935 k0_hw277 => k0_hw277

def k0_off555 (i : grid0.Coords) : Fin 1 → Nat :=
  let arg0 : BitVec 32 := BitVec.ofNat 32 (i 0).val
  let c512_i32 : BitVec 32 := 512#32
  let v0 : BitVec 32 := Scalar.muli arg0 c512_i32
  let c277_i32 : BitVec 32 := 277#32
  let v1940 : BitVec 32 := Scalar.addi v0 c277_i32
  let v1941 : Index := Scalar.indexCast v1940
  ![v1941.toNat]
def k0_off556 (v1942 : BitVec 32) : Fin 2 → Nat :=
  let c0_i32_833 : BitVec 32 := 0#32
  ![v1942.toNat, 0]

def k0_chk278 (v1942 : BitVec 32) : Prop :=
  (∀ a, (k0_off556 v1942) a + S1x768.size a ≤ S50257x768.size a)
theorem k0_off556_inb : ∀ (v1942 : BitVec 32) (k0_hw278 : k0_chk278 v1942), ∀ a, (k0_off556 v1942) a + S1x768.size a ≤ S50257x768.size a := fun v1942 k0_hw278 => k0_hw278

def k0_off557 (i : grid0.Coords) : Fin 1 → Nat :=
  let arg0 : BitVec 32 := BitVec.ofNat 32 (i 0).val
  let c512_i32 : BitVec 32 := 512#32
  let v0 : BitVec 32 := Scalar.muli arg0 c512_i32
  let c278_i32 : BitVec 32 := 278#32
  let v1947 : BitVec 32 := Scalar.addi v0 c278_i32
  let v1948 : Index := Scalar.indexCast v1947
  ![v1948.toNat]
def k0_off558 (v1949 : BitVec 32) : Fin 2 → Nat :=
  let c0_i32_836 : BitVec 32 := 0#32
  ![v1949.toNat, 0]

def k0_chk279 (v1949 : BitVec 32) : Prop :=
  (∀ a, (k0_off558 v1949) a + S1x768.size a ≤ S50257x768.size a)
theorem k0_off558_inb : ∀ (v1949 : BitVec 32) (k0_hw279 : k0_chk279 v1949), ∀ a, (k0_off558 v1949) a + S1x768.size a ≤ S50257x768.size a := fun v1949 k0_hw279 => k0_hw279

def k0_off559 (i : grid0.Coords) : Fin 1 → Nat :=
  let arg0 : BitVec 32 := BitVec.ofNat 32 (i 0).val
  let c512_i32 : BitVec 32 := 512#32
  let v0 : BitVec 32 := Scalar.muli arg0 c512_i32
  let c279_i32 : BitVec 32 := 279#32
  let v1954 : BitVec 32 := Scalar.addi v0 c279_i32
  let v1955 : Index := Scalar.indexCast v1954
  ![v1955.toNat]
def k0_off560 (v1956 : BitVec 32) : Fin 2 → Nat :=
  let c0_i32_839 : BitVec 32 := 0#32
  ![v1956.toNat, 0]

def k0_chk280 (v1956 : BitVec 32) : Prop :=
  (∀ a, (k0_off560 v1956) a + S1x768.size a ≤ S50257x768.size a)
theorem k0_off560_inb : ∀ (v1956 : BitVec 32) (k0_hw280 : k0_chk280 v1956), ∀ a, (k0_off560 v1956) a + S1x768.size a ≤ S50257x768.size a := fun v1956 k0_hw280 => k0_hw280

def k0_off561 (i : grid0.Coords) : Fin 1 → Nat :=
  let arg0 : BitVec 32 := BitVec.ofNat 32 (i 0).val
  let c512_i32 : BitVec 32 := 512#32
  let v0 : BitVec 32 := Scalar.muli arg0 c512_i32
  let c280_i32 : BitVec 32 := 280#32
  let v1961 : BitVec 32 := Scalar.addi v0 c280_i32
  let v1962 : Index := Scalar.indexCast v1961
  ![v1962.toNat]
def k0_off562 (v1963 : BitVec 32) : Fin 2 → Nat :=
  let c0_i32_842 : BitVec 32 := 0#32
  ![v1963.toNat, 0]

def k0_chk281 (v1963 : BitVec 32) : Prop :=
  (∀ a, (k0_off562 v1963) a + S1x768.size a ≤ S50257x768.size a)
theorem k0_off562_inb : ∀ (v1963 : BitVec 32) (k0_hw281 : k0_chk281 v1963), ∀ a, (k0_off562 v1963) a + S1x768.size a ≤ S50257x768.size a := fun v1963 k0_hw281 => k0_hw281

def k0_off563 (i : grid0.Coords) : Fin 1 → Nat :=
  let arg0 : BitVec 32 := BitVec.ofNat 32 (i 0).val
  let c512_i32 : BitVec 32 := 512#32
  let v0 : BitVec 32 := Scalar.muli arg0 c512_i32
  let c281_i32 : BitVec 32 := 281#32
  let v1968 : BitVec 32 := Scalar.addi v0 c281_i32
  let v1969 : Index := Scalar.indexCast v1968
  ![v1969.toNat]
def k0_off564 (v1970 : BitVec 32) : Fin 2 → Nat :=
  let c0_i32_845 : BitVec 32 := 0#32
  ![v1970.toNat, 0]

def k0_chk282 (v1970 : BitVec 32) : Prop :=
  (∀ a, (k0_off564 v1970) a + S1x768.size a ≤ S50257x768.size a)
theorem k0_off564_inb : ∀ (v1970 : BitVec 32) (k0_hw282 : k0_chk282 v1970), ∀ a, (k0_off564 v1970) a + S1x768.size a ≤ S50257x768.size a := fun v1970 k0_hw282 => k0_hw282

def k0_off565 (i : grid0.Coords) : Fin 1 → Nat :=
  let arg0 : BitVec 32 := BitVec.ofNat 32 (i 0).val
  let c512_i32 : BitVec 32 := 512#32
  let v0 : BitVec 32 := Scalar.muli arg0 c512_i32
  let c282_i32 : BitVec 32 := 282#32
  let v1975 : BitVec 32 := Scalar.addi v0 c282_i32
  let v1976 : Index := Scalar.indexCast v1975
  ![v1976.toNat]
def k0_off566 (v1977 : BitVec 32) : Fin 2 → Nat :=
  let c0_i32_848 : BitVec 32 := 0#32
  ![v1977.toNat, 0]

def k0_chk283 (v1977 : BitVec 32) : Prop :=
  (∀ a, (k0_off566 v1977) a + S1x768.size a ≤ S50257x768.size a)
theorem k0_off566_inb : ∀ (v1977 : BitVec 32) (k0_hw283 : k0_chk283 v1977), ∀ a, (k0_off566 v1977) a + S1x768.size a ≤ S50257x768.size a := fun v1977 k0_hw283 => k0_hw283

def k0_off567 (i : grid0.Coords) : Fin 1 → Nat :=
  let arg0 : BitVec 32 := BitVec.ofNat 32 (i 0).val
  let c512_i32 : BitVec 32 := 512#32
  let v0 : BitVec 32 := Scalar.muli arg0 c512_i32
  let c283_i32 : BitVec 32 := 283#32
  let v1982 : BitVec 32 := Scalar.addi v0 c283_i32
  let v1983 : Index := Scalar.indexCast v1982
  ![v1983.toNat]
def k0_off568 (v1984 : BitVec 32) : Fin 2 → Nat :=
  let c0_i32_851 : BitVec 32 := 0#32
  ![v1984.toNat, 0]

def k0_chk284 (v1984 : BitVec 32) : Prop :=
  (∀ a, (k0_off568 v1984) a + S1x768.size a ≤ S50257x768.size a)
theorem k0_off568_inb : ∀ (v1984 : BitVec 32) (k0_hw284 : k0_chk284 v1984), ∀ a, (k0_off568 v1984) a + S1x768.size a ≤ S50257x768.size a := fun v1984 k0_hw284 => k0_hw284

def k0_off569 (i : grid0.Coords) : Fin 1 → Nat :=
  let arg0 : BitVec 32 := BitVec.ofNat 32 (i 0).val
  let c512_i32 : BitVec 32 := 512#32
  let v0 : BitVec 32 := Scalar.muli arg0 c512_i32
  let c284_i32 : BitVec 32 := 284#32
  let v1989 : BitVec 32 := Scalar.addi v0 c284_i32
  let v1990 : Index := Scalar.indexCast v1989
  ![v1990.toNat]
def k0_off570 (v1991 : BitVec 32) : Fin 2 → Nat :=
  let c0_i32_854 : BitVec 32 := 0#32
  ![v1991.toNat, 0]

def k0_chk285 (v1991 : BitVec 32) : Prop :=
  (∀ a, (k0_off570 v1991) a + S1x768.size a ≤ S50257x768.size a)
theorem k0_off570_inb : ∀ (v1991 : BitVec 32) (k0_hw285 : k0_chk285 v1991), ∀ a, (k0_off570 v1991) a + S1x768.size a ≤ S50257x768.size a := fun v1991 k0_hw285 => k0_hw285

def k0_off571 (i : grid0.Coords) : Fin 1 → Nat :=
  let arg0 : BitVec 32 := BitVec.ofNat 32 (i 0).val
  let c512_i32 : BitVec 32 := 512#32
  let v0 : BitVec 32 := Scalar.muli arg0 c512_i32
  let c285_i32 : BitVec 32 := 285#32
  let v1996 : BitVec 32 := Scalar.addi v0 c285_i32
  let v1997 : Index := Scalar.indexCast v1996
  ![v1997.toNat]
def k0_off572 (v1998 : BitVec 32) : Fin 2 → Nat :=
  let c0_i32_857 : BitVec 32 := 0#32
  ![v1998.toNat, 0]

def k0_chk286 (v1998 : BitVec 32) : Prop :=
  (∀ a, (k0_off572 v1998) a + S1x768.size a ≤ S50257x768.size a)
theorem k0_off572_inb : ∀ (v1998 : BitVec 32) (k0_hw286 : k0_chk286 v1998), ∀ a, (k0_off572 v1998) a + S1x768.size a ≤ S50257x768.size a := fun v1998 k0_hw286 => k0_hw286

def k0_off573 (i : grid0.Coords) : Fin 1 → Nat :=
  let arg0 : BitVec 32 := BitVec.ofNat 32 (i 0).val
  let c512_i32 : BitVec 32 := 512#32
  let v0 : BitVec 32 := Scalar.muli arg0 c512_i32
  let c286_i32 : BitVec 32 := 286#32
  let v2003 : BitVec 32 := Scalar.addi v0 c286_i32
  let v2004 : Index := Scalar.indexCast v2003
  ![v2004.toNat]
def k0_off574 (v2005 : BitVec 32) : Fin 2 → Nat :=
  let c0_i32_860 : BitVec 32 := 0#32
  ![v2005.toNat, 0]

def k0_chk287 (v2005 : BitVec 32) : Prop :=
  (∀ a, (k0_off574 v2005) a + S1x768.size a ≤ S50257x768.size a)
theorem k0_off574_inb : ∀ (v2005 : BitVec 32) (k0_hw287 : k0_chk287 v2005), ∀ a, (k0_off574 v2005) a + S1x768.size a ≤ S50257x768.size a := fun v2005 k0_hw287 => k0_hw287

def k0_off575 (i : grid0.Coords) : Fin 1 → Nat :=
  let arg0 : BitVec 32 := BitVec.ofNat 32 (i 0).val
  let c512_i32 : BitVec 32 := 512#32
  let v0 : BitVec 32 := Scalar.muli arg0 c512_i32
  let c287_i32 : BitVec 32 := 287#32
  let v2010 : BitVec 32 := Scalar.addi v0 c287_i32
  let v2011 : Index := Scalar.indexCast v2010
  ![v2011.toNat]
def k0_off576 (v2012 : BitVec 32) : Fin 2 → Nat :=
  let c0_i32_863 : BitVec 32 := 0#32
  ![v2012.toNat, 0]

def k0_chk288 (v2012 : BitVec 32) : Prop :=
  (∀ a, (k0_off576 v2012) a + S1x768.size a ≤ S50257x768.size a)
theorem k0_off576_inb : ∀ (v2012 : BitVec 32) (k0_hw288 : k0_chk288 v2012), ∀ a, (k0_off576 v2012) a + S1x768.size a ≤ S50257x768.size a := fun v2012 k0_hw288 => k0_hw288

def k0_off577 (i : grid0.Coords) : Fin 1 → Nat :=
  let arg0 : BitVec 32 := BitVec.ofNat 32 (i 0).val
  let c512_i32 : BitVec 32 := 512#32
  let v0 : BitVec 32 := Scalar.muli arg0 c512_i32
  let c288_i32 : BitVec 32 := 288#32
  let v2017 : BitVec 32 := Scalar.addi v0 c288_i32
  let v2018 : Index := Scalar.indexCast v2017
  ![v2018.toNat]
def k0_off578 (v2019 : BitVec 32) : Fin 2 → Nat :=
  let c0_i32_866 : BitVec 32 := 0#32
  ![v2019.toNat, 0]

def k0_chk289 (v2019 : BitVec 32) : Prop :=
  (∀ a, (k0_off578 v2019) a + S1x768.size a ≤ S50257x768.size a)
theorem k0_off578_inb : ∀ (v2019 : BitVec 32) (k0_hw289 : k0_chk289 v2019), ∀ a, (k0_off578 v2019) a + S1x768.size a ≤ S50257x768.size a := fun v2019 k0_hw289 => k0_hw289

def k0_off579 (i : grid0.Coords) : Fin 1 → Nat :=
  let arg0 : BitVec 32 := BitVec.ofNat 32 (i 0).val
  let c512_i32 : BitVec 32 := 512#32
  let v0 : BitVec 32 := Scalar.muli arg0 c512_i32
  let c289_i32 : BitVec 32 := 289#32
  let v2024 : BitVec 32 := Scalar.addi v0 c289_i32
  let v2025 : Index := Scalar.indexCast v2024
  ![v2025.toNat]
def k0_off580 (v2026 : BitVec 32) : Fin 2 → Nat :=
  let c0_i32_869 : BitVec 32 := 0#32
  ![v2026.toNat, 0]

def k0_chk290 (v2026 : BitVec 32) : Prop :=
  (∀ a, (k0_off580 v2026) a + S1x768.size a ≤ S50257x768.size a)
theorem k0_off580_inb : ∀ (v2026 : BitVec 32) (k0_hw290 : k0_chk290 v2026), ∀ a, (k0_off580 v2026) a + S1x768.size a ≤ S50257x768.size a := fun v2026 k0_hw290 => k0_hw290

def k0_off581 (i : grid0.Coords) : Fin 1 → Nat :=
  let arg0 : BitVec 32 := BitVec.ofNat 32 (i 0).val
  let c512_i32 : BitVec 32 := 512#32
  let v0 : BitVec 32 := Scalar.muli arg0 c512_i32
  let c290_i32 : BitVec 32 := 290#32
  let v2031 : BitVec 32 := Scalar.addi v0 c290_i32
  let v2032 : Index := Scalar.indexCast v2031
  ![v2032.toNat]
def k0_off582 (v2033 : BitVec 32) : Fin 2 → Nat :=
  let c0_i32_872 : BitVec 32 := 0#32
  ![v2033.toNat, 0]

def k0_chk291 (v2033 : BitVec 32) : Prop :=
  (∀ a, (k0_off582 v2033) a + S1x768.size a ≤ S50257x768.size a)
theorem k0_off582_inb : ∀ (v2033 : BitVec 32) (k0_hw291 : k0_chk291 v2033), ∀ a, (k0_off582 v2033) a + S1x768.size a ≤ S50257x768.size a := fun v2033 k0_hw291 => k0_hw291

def k0_off583 (i : grid0.Coords) : Fin 1 → Nat :=
  let arg0 : BitVec 32 := BitVec.ofNat 32 (i 0).val
  let c512_i32 : BitVec 32 := 512#32
  let v0 : BitVec 32 := Scalar.muli arg0 c512_i32
  let c291_i32 : BitVec 32 := 291#32
  let v2038 : BitVec 32 := Scalar.addi v0 c291_i32
  let v2039 : Index := Scalar.indexCast v2038
  ![v2039.toNat]
def k0_off584 (v2040 : BitVec 32) : Fin 2 → Nat :=
  let c0_i32_875 : BitVec 32 := 0#32
  ![v2040.toNat, 0]

def k0_chk292 (v2040 : BitVec 32) : Prop :=
  (∀ a, (k0_off584 v2040) a + S1x768.size a ≤ S50257x768.size a)
theorem k0_off584_inb : ∀ (v2040 : BitVec 32) (k0_hw292 : k0_chk292 v2040), ∀ a, (k0_off584 v2040) a + S1x768.size a ≤ S50257x768.size a := fun v2040 k0_hw292 => k0_hw292

def k0_off585 (i : grid0.Coords) : Fin 1 → Nat :=
  let arg0 : BitVec 32 := BitVec.ofNat 32 (i 0).val
  let c512_i32 : BitVec 32 := 512#32
  let v0 : BitVec 32 := Scalar.muli arg0 c512_i32
  let c292_i32 : BitVec 32 := 292#32
  let v2045 : BitVec 32 := Scalar.addi v0 c292_i32
  let v2046 : Index := Scalar.indexCast v2045
  ![v2046.toNat]
def k0_off586 (v2047 : BitVec 32) : Fin 2 → Nat :=
  let c0_i32_878 : BitVec 32 := 0#32
  ![v2047.toNat, 0]

def k0_chk293 (v2047 : BitVec 32) : Prop :=
  (∀ a, (k0_off586 v2047) a + S1x768.size a ≤ S50257x768.size a)
theorem k0_off586_inb : ∀ (v2047 : BitVec 32) (k0_hw293 : k0_chk293 v2047), ∀ a, (k0_off586 v2047) a + S1x768.size a ≤ S50257x768.size a := fun v2047 k0_hw293 => k0_hw293

def k0_off587 (i : grid0.Coords) : Fin 1 → Nat :=
  let arg0 : BitVec 32 := BitVec.ofNat 32 (i 0).val
  let c512_i32 : BitVec 32 := 512#32
  let v0 : BitVec 32 := Scalar.muli arg0 c512_i32
  let c293_i32 : BitVec 32 := 293#32
  let v2052 : BitVec 32 := Scalar.addi v0 c293_i32
  let v2053 : Index := Scalar.indexCast v2052
  ![v2053.toNat]
def k0_off588 (v2054 : BitVec 32) : Fin 2 → Nat :=
  let c0_i32_881 : BitVec 32 := 0#32
  ![v2054.toNat, 0]

def k0_chk294 (v2054 : BitVec 32) : Prop :=
  (∀ a, (k0_off588 v2054) a + S1x768.size a ≤ S50257x768.size a)
theorem k0_off588_inb : ∀ (v2054 : BitVec 32) (k0_hw294 : k0_chk294 v2054), ∀ a, (k0_off588 v2054) a + S1x768.size a ≤ S50257x768.size a := fun v2054 k0_hw294 => k0_hw294

def k0_off589 (i : grid0.Coords) : Fin 1 → Nat :=
  let arg0 : BitVec 32 := BitVec.ofNat 32 (i 0).val
  let c512_i32 : BitVec 32 := 512#32
  let v0 : BitVec 32 := Scalar.muli arg0 c512_i32
  let c294_i32 : BitVec 32 := 294#32
  let v2059 : BitVec 32 := Scalar.addi v0 c294_i32
  let v2060 : Index := Scalar.indexCast v2059
  ![v2060.toNat]
def k0_off590 (v2061 : BitVec 32) : Fin 2 → Nat :=
  let c0_i32_884 : BitVec 32 := 0#32
  ![v2061.toNat, 0]

def k0_chk295 (v2061 : BitVec 32) : Prop :=
  (∀ a, (k0_off590 v2061) a + S1x768.size a ≤ S50257x768.size a)
theorem k0_off590_inb : ∀ (v2061 : BitVec 32) (k0_hw295 : k0_chk295 v2061), ∀ a, (k0_off590 v2061) a + S1x768.size a ≤ S50257x768.size a := fun v2061 k0_hw295 => k0_hw295

def k0_off591 (i : grid0.Coords) : Fin 1 → Nat :=
  let arg0 : BitVec 32 := BitVec.ofNat 32 (i 0).val
  let c512_i32 : BitVec 32 := 512#32
  let v0 : BitVec 32 := Scalar.muli arg0 c512_i32
  let c295_i32 : BitVec 32 := 295#32
  let v2066 : BitVec 32 := Scalar.addi v0 c295_i32
  let v2067 : Index := Scalar.indexCast v2066
  ![v2067.toNat]
def k0_off592 (v2068 : BitVec 32) : Fin 2 → Nat :=
  let c0_i32_887 : BitVec 32 := 0#32
  ![v2068.toNat, 0]

def k0_chk296 (v2068 : BitVec 32) : Prop :=
  (∀ a, (k0_off592 v2068) a + S1x768.size a ≤ S50257x768.size a)
theorem k0_off592_inb : ∀ (v2068 : BitVec 32) (k0_hw296 : k0_chk296 v2068), ∀ a, (k0_off592 v2068) a + S1x768.size a ≤ S50257x768.size a := fun v2068 k0_hw296 => k0_hw296

def k0_off593 (i : grid0.Coords) : Fin 1 → Nat :=
  let arg0 : BitVec 32 := BitVec.ofNat 32 (i 0).val
  let c512_i32 : BitVec 32 := 512#32
  let v0 : BitVec 32 := Scalar.muli arg0 c512_i32
  let c296_i32 : BitVec 32 := 296#32
  let v2073 : BitVec 32 := Scalar.addi v0 c296_i32
  let v2074 : Index := Scalar.indexCast v2073
  ![v2074.toNat]
def k0_off594 (v2075 : BitVec 32) : Fin 2 → Nat :=
  let c0_i32_890 : BitVec 32 := 0#32
  ![v2075.toNat, 0]

def k0_chk297 (v2075 : BitVec 32) : Prop :=
  (∀ a, (k0_off594 v2075) a + S1x768.size a ≤ S50257x768.size a)
theorem k0_off594_inb : ∀ (v2075 : BitVec 32) (k0_hw297 : k0_chk297 v2075), ∀ a, (k0_off594 v2075) a + S1x768.size a ≤ S50257x768.size a := fun v2075 k0_hw297 => k0_hw297

def k0_off595 (i : grid0.Coords) : Fin 1 → Nat :=
  let arg0 : BitVec 32 := BitVec.ofNat 32 (i 0).val
  let c512_i32 : BitVec 32 := 512#32
  let v0 : BitVec 32 := Scalar.muli arg0 c512_i32
  let c297_i32 : BitVec 32 := 297#32
  let v2080 : BitVec 32 := Scalar.addi v0 c297_i32
  let v2081 : Index := Scalar.indexCast v2080
  ![v2081.toNat]
def k0_off596 (v2082 : BitVec 32) : Fin 2 → Nat :=
  let c0_i32_893 : BitVec 32 := 0#32
  ![v2082.toNat, 0]

def k0_chk298 (v2082 : BitVec 32) : Prop :=
  (∀ a, (k0_off596 v2082) a + S1x768.size a ≤ S50257x768.size a)
theorem k0_off596_inb : ∀ (v2082 : BitVec 32) (k0_hw298 : k0_chk298 v2082), ∀ a, (k0_off596 v2082) a + S1x768.size a ≤ S50257x768.size a := fun v2082 k0_hw298 => k0_hw298

def k0_off597 (i : grid0.Coords) : Fin 1 → Nat :=
  let arg0 : BitVec 32 := BitVec.ofNat 32 (i 0).val
  let c512_i32 : BitVec 32 := 512#32
  let v0 : BitVec 32 := Scalar.muli arg0 c512_i32
  let c298_i32 : BitVec 32 := 298#32
  let v2087 : BitVec 32 := Scalar.addi v0 c298_i32
  let v2088 : Index := Scalar.indexCast v2087
  ![v2088.toNat]
def k0_off598 (v2089 : BitVec 32) : Fin 2 → Nat :=
  let c0_i32_896 : BitVec 32 := 0#32
  ![v2089.toNat, 0]

def k0_chk299 (v2089 : BitVec 32) : Prop :=
  (∀ a, (k0_off598 v2089) a + S1x768.size a ≤ S50257x768.size a)
theorem k0_off598_inb : ∀ (v2089 : BitVec 32) (k0_hw299 : k0_chk299 v2089), ∀ a, (k0_off598 v2089) a + S1x768.size a ≤ S50257x768.size a := fun v2089 k0_hw299 => k0_hw299

def k0_off599 (i : grid0.Coords) : Fin 1 → Nat :=
  let arg0 : BitVec 32 := BitVec.ofNat 32 (i 0).val
  let c512_i32 : BitVec 32 := 512#32
  let v0 : BitVec 32 := Scalar.muli arg0 c512_i32
  let c299_i32 : BitVec 32 := 299#32
  let v2094 : BitVec 32 := Scalar.addi v0 c299_i32
  let v2095 : Index := Scalar.indexCast v2094
  ![v2095.toNat]
def k0_off600 (v2096 : BitVec 32) : Fin 2 → Nat :=
  let c0_i32_899 : BitVec 32 := 0#32
  ![v2096.toNat, 0]

def k0_chk300 (v2096 : BitVec 32) : Prop :=
  (∀ a, (k0_off600 v2096) a + S1x768.size a ≤ S50257x768.size a)
theorem k0_off600_inb : ∀ (v2096 : BitVec 32) (k0_hw300 : k0_chk300 v2096), ∀ a, (k0_off600 v2096) a + S1x768.size a ≤ S50257x768.size a := fun v2096 k0_hw300 => k0_hw300

def k0_off601 (i : grid0.Coords) : Fin 1 → Nat :=
  let arg0 : BitVec 32 := BitVec.ofNat 32 (i 0).val
  let c512_i32 : BitVec 32 := 512#32
  let v0 : BitVec 32 := Scalar.muli arg0 c512_i32
  let c300_i32 : BitVec 32 := 300#32
  let v2101 : BitVec 32 := Scalar.addi v0 c300_i32
  let v2102 : Index := Scalar.indexCast v2101
  ![v2102.toNat]
def k0_off602 (v2103 : BitVec 32) : Fin 2 → Nat :=
  let c0_i32_902 : BitVec 32 := 0#32
  ![v2103.toNat, 0]

def k0_chk301 (v2103 : BitVec 32) : Prop :=
  (∀ a, (k0_off602 v2103) a + S1x768.size a ≤ S50257x768.size a)
theorem k0_off602_inb : ∀ (v2103 : BitVec 32) (k0_hw301 : k0_chk301 v2103), ∀ a, (k0_off602 v2103) a + S1x768.size a ≤ S50257x768.size a := fun v2103 k0_hw301 => k0_hw301

def k0_off603 (i : grid0.Coords) : Fin 1 → Nat :=
  let arg0 : BitVec 32 := BitVec.ofNat 32 (i 0).val
  let c512_i32 : BitVec 32 := 512#32
  let v0 : BitVec 32 := Scalar.muli arg0 c512_i32
  let c301_i32 : BitVec 32 := 301#32
  let v2108 : BitVec 32 := Scalar.addi v0 c301_i32
  let v2109 : Index := Scalar.indexCast v2108
  ![v2109.toNat]
def k0_off604 (v2110 : BitVec 32) : Fin 2 → Nat :=
  let c0_i32_905 : BitVec 32 := 0#32
  ![v2110.toNat, 0]

def k0_chk302 (v2110 : BitVec 32) : Prop :=
  (∀ a, (k0_off604 v2110) a + S1x768.size a ≤ S50257x768.size a)
theorem k0_off604_inb : ∀ (v2110 : BitVec 32) (k0_hw302 : k0_chk302 v2110), ∀ a, (k0_off604 v2110) a + S1x768.size a ≤ S50257x768.size a := fun v2110 k0_hw302 => k0_hw302

def k0_off605 (i : grid0.Coords) : Fin 1 → Nat :=
  let arg0 : BitVec 32 := BitVec.ofNat 32 (i 0).val
  let c512_i32 : BitVec 32 := 512#32
  let v0 : BitVec 32 := Scalar.muli arg0 c512_i32
  let c302_i32 : BitVec 32 := 302#32
  let v2115 : BitVec 32 := Scalar.addi v0 c302_i32
  let v2116 : Index := Scalar.indexCast v2115
  ![v2116.toNat]
def k0_off606 (v2117 : BitVec 32) : Fin 2 → Nat :=
  let c0_i32_908 : BitVec 32 := 0#32
  ![v2117.toNat, 0]

def k0_chk303 (v2117 : BitVec 32) : Prop :=
  (∀ a, (k0_off606 v2117) a + S1x768.size a ≤ S50257x768.size a)
theorem k0_off606_inb : ∀ (v2117 : BitVec 32) (k0_hw303 : k0_chk303 v2117), ∀ a, (k0_off606 v2117) a + S1x768.size a ≤ S50257x768.size a := fun v2117 k0_hw303 => k0_hw303

def k0_off607 (i : grid0.Coords) : Fin 1 → Nat :=
  let arg0 : BitVec 32 := BitVec.ofNat 32 (i 0).val
  let c512_i32 : BitVec 32 := 512#32
  let v0 : BitVec 32 := Scalar.muli arg0 c512_i32
  let c303_i32 : BitVec 32 := 303#32
  let v2122 : BitVec 32 := Scalar.addi v0 c303_i32
  let v2123 : Index := Scalar.indexCast v2122
  ![v2123.toNat]
def k0_off608 (v2124 : BitVec 32) : Fin 2 → Nat :=
  let c0_i32_911 : BitVec 32 := 0#32
  ![v2124.toNat, 0]

def k0_chk304 (v2124 : BitVec 32) : Prop :=
  (∀ a, (k0_off608 v2124) a + S1x768.size a ≤ S50257x768.size a)
theorem k0_off608_inb : ∀ (v2124 : BitVec 32) (k0_hw304 : k0_chk304 v2124), ∀ a, (k0_off608 v2124) a + S1x768.size a ≤ S50257x768.size a := fun v2124 k0_hw304 => k0_hw304

def k0_off609 (i : grid0.Coords) : Fin 1 → Nat :=
  let arg0 : BitVec 32 := BitVec.ofNat 32 (i 0).val
  let c512_i32 : BitVec 32 := 512#32
  let v0 : BitVec 32 := Scalar.muli arg0 c512_i32
  let c304_i32 : BitVec 32 := 304#32
  let v2129 : BitVec 32 := Scalar.addi v0 c304_i32
  let v2130 : Index := Scalar.indexCast v2129
  ![v2130.toNat]
def k0_off610 (v2131 : BitVec 32) : Fin 2 → Nat :=
  let c0_i32_914 : BitVec 32 := 0#32
  ![v2131.toNat, 0]

def k0_chk305 (v2131 : BitVec 32) : Prop :=
  (∀ a, (k0_off610 v2131) a + S1x768.size a ≤ S50257x768.size a)
theorem k0_off610_inb : ∀ (v2131 : BitVec 32) (k0_hw305 : k0_chk305 v2131), ∀ a, (k0_off610 v2131) a + S1x768.size a ≤ S50257x768.size a := fun v2131 k0_hw305 => k0_hw305

def k0_off611 (i : grid0.Coords) : Fin 1 → Nat :=
  let arg0 : BitVec 32 := BitVec.ofNat 32 (i 0).val
  let c512_i32 : BitVec 32 := 512#32
  let v0 : BitVec 32 := Scalar.muli arg0 c512_i32
  let c305_i32 : BitVec 32 := 305#32
  let v2136 : BitVec 32 := Scalar.addi v0 c305_i32
  let v2137 : Index := Scalar.indexCast v2136
  ![v2137.toNat]
def k0_off612 (v2138 : BitVec 32) : Fin 2 → Nat :=
  let c0_i32_917 : BitVec 32 := 0#32
  ![v2138.toNat, 0]

def k0_chk306 (v2138 : BitVec 32) : Prop :=
  (∀ a, (k0_off612 v2138) a + S1x768.size a ≤ S50257x768.size a)
theorem k0_off612_inb : ∀ (v2138 : BitVec 32) (k0_hw306 : k0_chk306 v2138), ∀ a, (k0_off612 v2138) a + S1x768.size a ≤ S50257x768.size a := fun v2138 k0_hw306 => k0_hw306

def k0_off613 (i : grid0.Coords) : Fin 1 → Nat :=
  let arg0 : BitVec 32 := BitVec.ofNat 32 (i 0).val
  let c512_i32 : BitVec 32 := 512#32
  let v0 : BitVec 32 := Scalar.muli arg0 c512_i32
  let c306_i32 : BitVec 32 := 306#32
  let v2143 : BitVec 32 := Scalar.addi v0 c306_i32
  let v2144 : Index := Scalar.indexCast v2143
  ![v2144.toNat]
def k0_off614 (v2145 : BitVec 32) : Fin 2 → Nat :=
  let c0_i32_920 : BitVec 32 := 0#32
  ![v2145.toNat, 0]

def k0_chk307 (v2145 : BitVec 32) : Prop :=
  (∀ a, (k0_off614 v2145) a + S1x768.size a ≤ S50257x768.size a)
theorem k0_off614_inb : ∀ (v2145 : BitVec 32) (k0_hw307 : k0_chk307 v2145), ∀ a, (k0_off614 v2145) a + S1x768.size a ≤ S50257x768.size a := fun v2145 k0_hw307 => k0_hw307

def k0_off615 (i : grid0.Coords) : Fin 1 → Nat :=
  let arg0 : BitVec 32 := BitVec.ofNat 32 (i 0).val
  let c512_i32 : BitVec 32 := 512#32
  let v0 : BitVec 32 := Scalar.muli arg0 c512_i32
  let c307_i32 : BitVec 32 := 307#32
  let v2150 : BitVec 32 := Scalar.addi v0 c307_i32
  let v2151 : Index := Scalar.indexCast v2150
  ![v2151.toNat]
def k0_off616 (v2152 : BitVec 32) : Fin 2 → Nat :=
  let c0_i32_923 : BitVec 32 := 0#32
  ![v2152.toNat, 0]

def k0_chk308 (v2152 : BitVec 32) : Prop :=
  (∀ a, (k0_off616 v2152) a + S1x768.size a ≤ S50257x768.size a)
theorem k0_off616_inb : ∀ (v2152 : BitVec 32) (k0_hw308 : k0_chk308 v2152), ∀ a, (k0_off616 v2152) a + S1x768.size a ≤ S50257x768.size a := fun v2152 k0_hw308 => k0_hw308

def k0_off617 (i : grid0.Coords) : Fin 1 → Nat :=
  let arg0 : BitVec 32 := BitVec.ofNat 32 (i 0).val
  let c512_i32 : BitVec 32 := 512#32
  let v0 : BitVec 32 := Scalar.muli arg0 c512_i32
  let c308_i32 : BitVec 32 := 308#32
  let v2157 : BitVec 32 := Scalar.addi v0 c308_i32
  let v2158 : Index := Scalar.indexCast v2157
  ![v2158.toNat]
def k0_off618 (v2159 : BitVec 32) : Fin 2 → Nat :=
  let c0_i32_926 : BitVec 32 := 0#32
  ![v2159.toNat, 0]

def k0_chk309 (v2159 : BitVec 32) : Prop :=
  (∀ a, (k0_off618 v2159) a + S1x768.size a ≤ S50257x768.size a)
theorem k0_off618_inb : ∀ (v2159 : BitVec 32) (k0_hw309 : k0_chk309 v2159), ∀ a, (k0_off618 v2159) a + S1x768.size a ≤ S50257x768.size a := fun v2159 k0_hw309 => k0_hw309

def k0_off619 (i : grid0.Coords) : Fin 1 → Nat :=
  let arg0 : BitVec 32 := BitVec.ofNat 32 (i 0).val
  let c512_i32 : BitVec 32 := 512#32
  let v0 : BitVec 32 := Scalar.muli arg0 c512_i32
  let c309_i32 : BitVec 32 := 309#32
  let v2164 : BitVec 32 := Scalar.addi v0 c309_i32
  let v2165 : Index := Scalar.indexCast v2164
  ![v2165.toNat]
def k0_off620 (v2166 : BitVec 32) : Fin 2 → Nat :=
  let c0_i32_929 : BitVec 32 := 0#32
  ![v2166.toNat, 0]

def k0_chk310 (v2166 : BitVec 32) : Prop :=
  (∀ a, (k0_off620 v2166) a + S1x768.size a ≤ S50257x768.size a)
theorem k0_off620_inb : ∀ (v2166 : BitVec 32) (k0_hw310 : k0_chk310 v2166), ∀ a, (k0_off620 v2166) a + S1x768.size a ≤ S50257x768.size a := fun v2166 k0_hw310 => k0_hw310

def k0_off621 (i : grid0.Coords) : Fin 1 → Nat :=
  let arg0 : BitVec 32 := BitVec.ofNat 32 (i 0).val
  let c512_i32 : BitVec 32 := 512#32
  let v0 : BitVec 32 := Scalar.muli arg0 c512_i32
  let c310_i32 : BitVec 32 := 310#32
  let v2171 : BitVec 32 := Scalar.addi v0 c310_i32
  let v2172 : Index := Scalar.indexCast v2171
  ![v2172.toNat]
def k0_off622 (v2173 : BitVec 32) : Fin 2 → Nat :=
  let c0_i32_932 : BitVec 32 := 0#32
  ![v2173.toNat, 0]

def k0_chk311 (v2173 : BitVec 32) : Prop :=
  (∀ a, (k0_off622 v2173) a + S1x768.size a ≤ S50257x768.size a)
theorem k0_off622_inb : ∀ (v2173 : BitVec 32) (k0_hw311 : k0_chk311 v2173), ∀ a, (k0_off622 v2173) a + S1x768.size a ≤ S50257x768.size a := fun v2173 k0_hw311 => k0_hw311

def k0_off623 (i : grid0.Coords) : Fin 1 → Nat :=
  let arg0 : BitVec 32 := BitVec.ofNat 32 (i 0).val
  let c512_i32 : BitVec 32 := 512#32
  let v0 : BitVec 32 := Scalar.muli arg0 c512_i32
  let c311_i32 : BitVec 32 := 311#32
  let v2178 : BitVec 32 := Scalar.addi v0 c311_i32
  let v2179 : Index := Scalar.indexCast v2178
  ![v2179.toNat]
def k0_off624 (v2180 : BitVec 32) : Fin 2 → Nat :=
  let c0_i32_935 : BitVec 32 := 0#32
  ![v2180.toNat, 0]

def k0_chk312 (v2180 : BitVec 32) : Prop :=
  (∀ a, (k0_off624 v2180) a + S1x768.size a ≤ S50257x768.size a)
theorem k0_off624_inb : ∀ (v2180 : BitVec 32) (k0_hw312 : k0_chk312 v2180), ∀ a, (k0_off624 v2180) a + S1x768.size a ≤ S50257x768.size a := fun v2180 k0_hw312 => k0_hw312

def k0_off625 (i : grid0.Coords) : Fin 1 → Nat :=
  let arg0 : BitVec 32 := BitVec.ofNat 32 (i 0).val
  let c512_i32 : BitVec 32 := 512#32
  let v0 : BitVec 32 := Scalar.muli arg0 c512_i32
  let c312_i32 : BitVec 32 := 312#32
  let v2185 : BitVec 32 := Scalar.addi v0 c312_i32
  let v2186 : Index := Scalar.indexCast v2185
  ![v2186.toNat]
def k0_off626 (v2187 : BitVec 32) : Fin 2 → Nat :=
  let c0_i32_938 : BitVec 32 := 0#32
  ![v2187.toNat, 0]

def k0_chk313 (v2187 : BitVec 32) : Prop :=
  (∀ a, (k0_off626 v2187) a + S1x768.size a ≤ S50257x768.size a)
theorem k0_off626_inb : ∀ (v2187 : BitVec 32) (k0_hw313 : k0_chk313 v2187), ∀ a, (k0_off626 v2187) a + S1x768.size a ≤ S50257x768.size a := fun v2187 k0_hw313 => k0_hw313

def k0_off627 (i : grid0.Coords) : Fin 1 → Nat :=
  let arg0 : BitVec 32 := BitVec.ofNat 32 (i 0).val
  let c512_i32 : BitVec 32 := 512#32
  let v0 : BitVec 32 := Scalar.muli arg0 c512_i32
  let c313_i32 : BitVec 32 := 313#32
  let v2192 : BitVec 32 := Scalar.addi v0 c313_i32
  let v2193 : Index := Scalar.indexCast v2192
  ![v2193.toNat]
def k0_off628 (v2194 : BitVec 32) : Fin 2 → Nat :=
  let c0_i32_941 : BitVec 32 := 0#32
  ![v2194.toNat, 0]

def k0_chk314 (v2194 : BitVec 32) : Prop :=
  (∀ a, (k0_off628 v2194) a + S1x768.size a ≤ S50257x768.size a)
theorem k0_off628_inb : ∀ (v2194 : BitVec 32) (k0_hw314 : k0_chk314 v2194), ∀ a, (k0_off628 v2194) a + S1x768.size a ≤ S50257x768.size a := fun v2194 k0_hw314 => k0_hw314

def k0_off629 (i : grid0.Coords) : Fin 1 → Nat :=
  let arg0 : BitVec 32 := BitVec.ofNat 32 (i 0).val
  let c512_i32 : BitVec 32 := 512#32
  let v0 : BitVec 32 := Scalar.muli arg0 c512_i32
  let c314_i32 : BitVec 32 := 314#32
  let v2199 : BitVec 32 := Scalar.addi v0 c314_i32
  let v2200 : Index := Scalar.indexCast v2199
  ![v2200.toNat]
def k0_off630 (v2201 : BitVec 32) : Fin 2 → Nat :=
  let c0_i32_944 : BitVec 32 := 0#32
  ![v2201.toNat, 0]

def k0_chk315 (v2201 : BitVec 32) : Prop :=
  (∀ a, (k0_off630 v2201) a + S1x768.size a ≤ S50257x768.size a)
theorem k0_off630_inb : ∀ (v2201 : BitVec 32) (k0_hw315 : k0_chk315 v2201), ∀ a, (k0_off630 v2201) a + S1x768.size a ≤ S50257x768.size a := fun v2201 k0_hw315 => k0_hw315

def k0_off631 (i : grid0.Coords) : Fin 1 → Nat :=
  let arg0 : BitVec 32 := BitVec.ofNat 32 (i 0).val
  let c512_i32 : BitVec 32 := 512#32
  let v0 : BitVec 32 := Scalar.muli arg0 c512_i32
  let c315_i32 : BitVec 32 := 315#32
  let v2206 : BitVec 32 := Scalar.addi v0 c315_i32
  let v2207 : Index := Scalar.indexCast v2206
  ![v2207.toNat]
def k0_off632 (v2208 : BitVec 32) : Fin 2 → Nat :=
  let c0_i32_947 : BitVec 32 := 0#32
  ![v2208.toNat, 0]

def k0_chk316 (v2208 : BitVec 32) : Prop :=
  (∀ a, (k0_off632 v2208) a + S1x768.size a ≤ S50257x768.size a)
theorem k0_off632_inb : ∀ (v2208 : BitVec 32) (k0_hw316 : k0_chk316 v2208), ∀ a, (k0_off632 v2208) a + S1x768.size a ≤ S50257x768.size a := fun v2208 k0_hw316 => k0_hw316

def k0_off633 (i : grid0.Coords) : Fin 1 → Nat :=
  let arg0 : BitVec 32 := BitVec.ofNat 32 (i 0).val
  let c512_i32 : BitVec 32 := 512#32
  let v0 : BitVec 32 := Scalar.muli arg0 c512_i32
  let c316_i32 : BitVec 32 := 316#32
  let v2213 : BitVec 32 := Scalar.addi v0 c316_i32
  let v2214 : Index := Scalar.indexCast v2213
  ![v2214.toNat]
def k0_off634 (v2215 : BitVec 32) : Fin 2 → Nat :=
  let c0_i32_950 : BitVec 32 := 0#32
  ![v2215.toNat, 0]

def k0_chk317 (v2215 : BitVec 32) : Prop :=
  (∀ a, (k0_off634 v2215) a + S1x768.size a ≤ S50257x768.size a)
theorem k0_off634_inb : ∀ (v2215 : BitVec 32) (k0_hw317 : k0_chk317 v2215), ∀ a, (k0_off634 v2215) a + S1x768.size a ≤ S50257x768.size a := fun v2215 k0_hw317 => k0_hw317

def k0_off635 (i : grid0.Coords) : Fin 1 → Nat :=
  let arg0 : BitVec 32 := BitVec.ofNat 32 (i 0).val
  let c512_i32 : BitVec 32 := 512#32
  let v0 : BitVec 32 := Scalar.muli arg0 c512_i32
  let c317_i32 : BitVec 32 := 317#32
  let v2220 : BitVec 32 := Scalar.addi v0 c317_i32
  let v2221 : Index := Scalar.indexCast v2220
  ![v2221.toNat]
def k0_off636 (v2222 : BitVec 32) : Fin 2 → Nat :=
  let c0_i32_953 : BitVec 32 := 0#32
  ![v2222.toNat, 0]

def k0_chk318 (v2222 : BitVec 32) : Prop :=
  (∀ a, (k0_off636 v2222) a + S1x768.size a ≤ S50257x768.size a)
theorem k0_off636_inb : ∀ (v2222 : BitVec 32) (k0_hw318 : k0_chk318 v2222), ∀ a, (k0_off636 v2222) a + S1x768.size a ≤ S50257x768.size a := fun v2222 k0_hw318 => k0_hw318

def k0_off637 (i : grid0.Coords) : Fin 1 → Nat :=
  let arg0 : BitVec 32 := BitVec.ofNat 32 (i 0).val
  let c512_i32 : BitVec 32 := 512#32
  let v0 : BitVec 32 := Scalar.muli arg0 c512_i32
  let c318_i32 : BitVec 32 := 318#32
  let v2227 : BitVec 32 := Scalar.addi v0 c318_i32
  let v2228 : Index := Scalar.indexCast v2227
  ![v2228.toNat]
def k0_off638 (v2229 : BitVec 32) : Fin 2 → Nat :=
  let c0_i32_956 : BitVec 32 := 0#32
  ![v2229.toNat, 0]

def k0_chk319 (v2229 : BitVec 32) : Prop :=
  (∀ a, (k0_off638 v2229) a + S1x768.size a ≤ S50257x768.size a)
theorem k0_off638_inb : ∀ (v2229 : BitVec 32) (k0_hw319 : k0_chk319 v2229), ∀ a, (k0_off638 v2229) a + S1x768.size a ≤ S50257x768.size a := fun v2229 k0_hw319 => k0_hw319

def k0_off639 (i : grid0.Coords) : Fin 1 → Nat :=
  let arg0 : BitVec 32 := BitVec.ofNat 32 (i 0).val
  let c512_i32 : BitVec 32 := 512#32
  let v0 : BitVec 32 := Scalar.muli arg0 c512_i32
  let c319_i32 : BitVec 32 := 319#32
  let v2234 : BitVec 32 := Scalar.addi v0 c319_i32
  let v2235 : Index := Scalar.indexCast v2234
  ![v2235.toNat]
def k0_off640 (v2236 : BitVec 32) : Fin 2 → Nat :=
  let c0_i32_959 : BitVec 32 := 0#32
  ![v2236.toNat, 0]

def k0_chk320 (v2236 : BitVec 32) : Prop :=
  (∀ a, (k0_off640 v2236) a + S1x768.size a ≤ S50257x768.size a)
theorem k0_off640_inb : ∀ (v2236 : BitVec 32) (k0_hw320 : k0_chk320 v2236), ∀ a, (k0_off640 v2236) a + S1x768.size a ≤ S50257x768.size a := fun v2236 k0_hw320 => k0_hw320

def k0_off641 (i : grid0.Coords) : Fin 1 → Nat :=
  let arg0 : BitVec 32 := BitVec.ofNat 32 (i 0).val
  let c512_i32 : BitVec 32 := 512#32
  let v0 : BitVec 32 := Scalar.muli arg0 c512_i32
  let c320_i32 : BitVec 32 := 320#32
  let v2241 : BitVec 32 := Scalar.addi v0 c320_i32
  let v2242 : Index := Scalar.indexCast v2241
  ![v2242.toNat]
def k0_off642 (v2243 : BitVec 32) : Fin 2 → Nat :=
  let c0_i32_962 : BitVec 32 := 0#32
  ![v2243.toNat, 0]

def k0_chk321 (v2243 : BitVec 32) : Prop :=
  (∀ a, (k0_off642 v2243) a + S1x768.size a ≤ S50257x768.size a)
theorem k0_off642_inb : ∀ (v2243 : BitVec 32) (k0_hw321 : k0_chk321 v2243), ∀ a, (k0_off642 v2243) a + S1x768.size a ≤ S50257x768.size a := fun v2243 k0_hw321 => k0_hw321

def k0_off643 (i : grid0.Coords) : Fin 1 → Nat :=
  let arg0 : BitVec 32 := BitVec.ofNat 32 (i 0).val
  let c512_i32 : BitVec 32 := 512#32
  let v0 : BitVec 32 := Scalar.muli arg0 c512_i32
  let c321_i32 : BitVec 32 := 321#32
  let v2248 : BitVec 32 := Scalar.addi v0 c321_i32
  let v2249 : Index := Scalar.indexCast v2248
  ![v2249.toNat]
def k0_off644 (v2250 : BitVec 32) : Fin 2 → Nat :=
  let c0_i32_965 : BitVec 32 := 0#32
  ![v2250.toNat, 0]

def k0_chk322 (v2250 : BitVec 32) : Prop :=
  (∀ a, (k0_off644 v2250) a + S1x768.size a ≤ S50257x768.size a)
theorem k0_off644_inb : ∀ (v2250 : BitVec 32) (k0_hw322 : k0_chk322 v2250), ∀ a, (k0_off644 v2250) a + S1x768.size a ≤ S50257x768.size a := fun v2250 k0_hw322 => k0_hw322

def k0_off645 (i : grid0.Coords) : Fin 1 → Nat :=
  let arg0 : BitVec 32 := BitVec.ofNat 32 (i 0).val
  let c512_i32 : BitVec 32 := 512#32
  let v0 : BitVec 32 := Scalar.muli arg0 c512_i32
  let c322_i32 : BitVec 32 := 322#32
  let v2255 : BitVec 32 := Scalar.addi v0 c322_i32
  let v2256 : Index := Scalar.indexCast v2255
  ![v2256.toNat]
def k0_off646 (v2257 : BitVec 32) : Fin 2 → Nat :=
  let c0_i32_968 : BitVec 32 := 0#32
  ![v2257.toNat, 0]

def k0_chk323 (v2257 : BitVec 32) : Prop :=
  (∀ a, (k0_off646 v2257) a + S1x768.size a ≤ S50257x768.size a)
theorem k0_off646_inb : ∀ (v2257 : BitVec 32) (k0_hw323 : k0_chk323 v2257), ∀ a, (k0_off646 v2257) a + S1x768.size a ≤ S50257x768.size a := fun v2257 k0_hw323 => k0_hw323

def k0_off647 (i : grid0.Coords) : Fin 1 → Nat :=
  let arg0 : BitVec 32 := BitVec.ofNat 32 (i 0).val
  let c512_i32 : BitVec 32 := 512#32
  let v0 : BitVec 32 := Scalar.muli arg0 c512_i32
  let c323_i32 : BitVec 32 := 323#32
  let v2262 : BitVec 32 := Scalar.addi v0 c323_i32
  let v2263 : Index := Scalar.indexCast v2262
  ![v2263.toNat]
def k0_off648 (v2264 : BitVec 32) : Fin 2 → Nat :=
  let c0_i32_971 : BitVec 32 := 0#32
  ![v2264.toNat, 0]

def k0_chk324 (v2264 : BitVec 32) : Prop :=
  (∀ a, (k0_off648 v2264) a + S1x768.size a ≤ S50257x768.size a)
theorem k0_off648_inb : ∀ (v2264 : BitVec 32) (k0_hw324 : k0_chk324 v2264), ∀ a, (k0_off648 v2264) a + S1x768.size a ≤ S50257x768.size a := fun v2264 k0_hw324 => k0_hw324

def k0_off649 (i : grid0.Coords) : Fin 1 → Nat :=
  let arg0 : BitVec 32 := BitVec.ofNat 32 (i 0).val
  let c512_i32 : BitVec 32 := 512#32
  let v0 : BitVec 32 := Scalar.muli arg0 c512_i32
  let c324_i32 : BitVec 32 := 324#32
  let v2269 : BitVec 32 := Scalar.addi v0 c324_i32
  let v2270 : Index := Scalar.indexCast v2269
  ![v2270.toNat]
def k0_off650 (v2271 : BitVec 32) : Fin 2 → Nat :=
  let c0_i32_974 : BitVec 32 := 0#32
  ![v2271.toNat, 0]

def k0_chk325 (v2271 : BitVec 32) : Prop :=
  (∀ a, (k0_off650 v2271) a + S1x768.size a ≤ S50257x768.size a)
theorem k0_off650_inb : ∀ (v2271 : BitVec 32) (k0_hw325 : k0_chk325 v2271), ∀ a, (k0_off650 v2271) a + S1x768.size a ≤ S50257x768.size a := fun v2271 k0_hw325 => k0_hw325

def k0_off651 (i : grid0.Coords) : Fin 1 → Nat :=
  let arg0 : BitVec 32 := BitVec.ofNat 32 (i 0).val
  let c512_i32 : BitVec 32 := 512#32
  let v0 : BitVec 32 := Scalar.muli arg0 c512_i32
  let c325_i32 : BitVec 32 := 325#32
  let v2276 : BitVec 32 := Scalar.addi v0 c325_i32
  let v2277 : Index := Scalar.indexCast v2276
  ![v2277.toNat]
def k0_off652 (v2278 : BitVec 32) : Fin 2 → Nat :=
  let c0_i32_977 : BitVec 32 := 0#32
  ![v2278.toNat, 0]

def k0_chk326 (v2278 : BitVec 32) : Prop :=
  (∀ a, (k0_off652 v2278) a + S1x768.size a ≤ S50257x768.size a)
theorem k0_off652_inb : ∀ (v2278 : BitVec 32) (k0_hw326 : k0_chk326 v2278), ∀ a, (k0_off652 v2278) a + S1x768.size a ≤ S50257x768.size a := fun v2278 k0_hw326 => k0_hw326

def k0_off653 (i : grid0.Coords) : Fin 1 → Nat :=
  let arg0 : BitVec 32 := BitVec.ofNat 32 (i 0).val
  let c512_i32 : BitVec 32 := 512#32
  let v0 : BitVec 32 := Scalar.muli arg0 c512_i32
  let c326_i32 : BitVec 32 := 326#32
  let v2283 : BitVec 32 := Scalar.addi v0 c326_i32
  let v2284 : Index := Scalar.indexCast v2283
  ![v2284.toNat]
def k0_off654 (v2285 : BitVec 32) : Fin 2 → Nat :=
  let c0_i32_980 : BitVec 32 := 0#32
  ![v2285.toNat, 0]

def k0_chk327 (v2285 : BitVec 32) : Prop :=
  (∀ a, (k0_off654 v2285) a + S1x768.size a ≤ S50257x768.size a)
theorem k0_off654_inb : ∀ (v2285 : BitVec 32) (k0_hw327 : k0_chk327 v2285), ∀ a, (k0_off654 v2285) a + S1x768.size a ≤ S50257x768.size a := fun v2285 k0_hw327 => k0_hw327

def k0_off655 (i : grid0.Coords) : Fin 1 → Nat :=
  let arg0 : BitVec 32 := BitVec.ofNat 32 (i 0).val
  let c512_i32 : BitVec 32 := 512#32
  let v0 : BitVec 32 := Scalar.muli arg0 c512_i32
  let c327_i32 : BitVec 32 := 327#32
  let v2290 : BitVec 32 := Scalar.addi v0 c327_i32
  let v2291 : Index := Scalar.indexCast v2290
  ![v2291.toNat]
def k0_off656 (v2292 : BitVec 32) : Fin 2 → Nat :=
  let c0_i32_983 : BitVec 32 := 0#32
  ![v2292.toNat, 0]

def k0_chk328 (v2292 : BitVec 32) : Prop :=
  (∀ a, (k0_off656 v2292) a + S1x768.size a ≤ S50257x768.size a)
theorem k0_off656_inb : ∀ (v2292 : BitVec 32) (k0_hw328 : k0_chk328 v2292), ∀ a, (k0_off656 v2292) a + S1x768.size a ≤ S50257x768.size a := fun v2292 k0_hw328 => k0_hw328

def k0_off657 (i : grid0.Coords) : Fin 1 → Nat :=
  let arg0 : BitVec 32 := BitVec.ofNat 32 (i 0).val
  let c512_i32 : BitVec 32 := 512#32
  let v0 : BitVec 32 := Scalar.muli arg0 c512_i32
  let c328_i32 : BitVec 32 := 328#32
  let v2297 : BitVec 32 := Scalar.addi v0 c328_i32
  let v2298 : Index := Scalar.indexCast v2297
  ![v2298.toNat]
def k0_off658 (v2299 : BitVec 32) : Fin 2 → Nat :=
  let c0_i32_986 : BitVec 32 := 0#32
  ![v2299.toNat, 0]

def k0_chk329 (v2299 : BitVec 32) : Prop :=
  (∀ a, (k0_off658 v2299) a + S1x768.size a ≤ S50257x768.size a)
theorem k0_off658_inb : ∀ (v2299 : BitVec 32) (k0_hw329 : k0_chk329 v2299), ∀ a, (k0_off658 v2299) a + S1x768.size a ≤ S50257x768.size a := fun v2299 k0_hw329 => k0_hw329

def k0_off659 (i : grid0.Coords) : Fin 1 → Nat :=
  let arg0 : BitVec 32 := BitVec.ofNat 32 (i 0).val
  let c512_i32 : BitVec 32 := 512#32
  let v0 : BitVec 32 := Scalar.muli arg0 c512_i32
  let c329_i32 : BitVec 32 := 329#32
  let v2304 : BitVec 32 := Scalar.addi v0 c329_i32
  let v2305 : Index := Scalar.indexCast v2304
  ![v2305.toNat]
def k0_off660 (v2306 : BitVec 32) : Fin 2 → Nat :=
  let c0_i32_989 : BitVec 32 := 0#32
  ![v2306.toNat, 0]

def k0_chk330 (v2306 : BitVec 32) : Prop :=
  (∀ a, (k0_off660 v2306) a + S1x768.size a ≤ S50257x768.size a)
theorem k0_off660_inb : ∀ (v2306 : BitVec 32) (k0_hw330 : k0_chk330 v2306), ∀ a, (k0_off660 v2306) a + S1x768.size a ≤ S50257x768.size a := fun v2306 k0_hw330 => k0_hw330

def k0_off661 (i : grid0.Coords) : Fin 1 → Nat :=
  let arg0 : BitVec 32 := BitVec.ofNat 32 (i 0).val
  let c512_i32 : BitVec 32 := 512#32
  let v0 : BitVec 32 := Scalar.muli arg0 c512_i32
  let c330_i32 : BitVec 32 := 330#32
  let v2311 : BitVec 32 := Scalar.addi v0 c330_i32
  let v2312 : Index := Scalar.indexCast v2311
  ![v2312.toNat]
def k0_off662 (v2313 : BitVec 32) : Fin 2 → Nat :=
  let c0_i32_992 : BitVec 32 := 0#32
  ![v2313.toNat, 0]

def k0_chk331 (v2313 : BitVec 32) : Prop :=
  (∀ a, (k0_off662 v2313) a + S1x768.size a ≤ S50257x768.size a)
theorem k0_off662_inb : ∀ (v2313 : BitVec 32) (k0_hw331 : k0_chk331 v2313), ∀ a, (k0_off662 v2313) a + S1x768.size a ≤ S50257x768.size a := fun v2313 k0_hw331 => k0_hw331

def k0_off663 (i : grid0.Coords) : Fin 1 → Nat :=
  let arg0 : BitVec 32 := BitVec.ofNat 32 (i 0).val
  let c512_i32 : BitVec 32 := 512#32
  let v0 : BitVec 32 := Scalar.muli arg0 c512_i32
  let c331_i32 : BitVec 32 := 331#32
  let v2318 : BitVec 32 := Scalar.addi v0 c331_i32
  let v2319 : Index := Scalar.indexCast v2318
  ![v2319.toNat]
def k0_off664 (v2320 : BitVec 32) : Fin 2 → Nat :=
  let c0_i32_995 : BitVec 32 := 0#32
  ![v2320.toNat, 0]

def k0_chk332 (v2320 : BitVec 32) : Prop :=
  (∀ a, (k0_off664 v2320) a + S1x768.size a ≤ S50257x768.size a)
theorem k0_off664_inb : ∀ (v2320 : BitVec 32) (k0_hw332 : k0_chk332 v2320), ∀ a, (k0_off664 v2320) a + S1x768.size a ≤ S50257x768.size a := fun v2320 k0_hw332 => k0_hw332

def k0_off665 (i : grid0.Coords) : Fin 1 → Nat :=
  let arg0 : BitVec 32 := BitVec.ofNat 32 (i 0).val
  let c512_i32 : BitVec 32 := 512#32
  let v0 : BitVec 32 := Scalar.muli arg0 c512_i32
  let c332_i32 : BitVec 32 := 332#32
  let v2325 : BitVec 32 := Scalar.addi v0 c332_i32
  let v2326 : Index := Scalar.indexCast v2325
  ![v2326.toNat]
def k0_off666 (v2327 : BitVec 32) : Fin 2 → Nat :=
  let c0_i32_998 : BitVec 32 := 0#32
  ![v2327.toNat, 0]

def k0_chk333 (v2327 : BitVec 32) : Prop :=
  (∀ a, (k0_off666 v2327) a + S1x768.size a ≤ S50257x768.size a)
theorem k0_off666_inb : ∀ (v2327 : BitVec 32) (k0_hw333 : k0_chk333 v2327), ∀ a, (k0_off666 v2327) a + S1x768.size a ≤ S50257x768.size a := fun v2327 k0_hw333 => k0_hw333

def k0_off667 (i : grid0.Coords) : Fin 1 → Nat :=
  let arg0 : BitVec 32 := BitVec.ofNat 32 (i 0).val
  let c512_i32 : BitVec 32 := 512#32
  let v0 : BitVec 32 := Scalar.muli arg0 c512_i32
  let c333_i32 : BitVec 32 := 333#32
  let v2332 : BitVec 32 := Scalar.addi v0 c333_i32
  let v2333 : Index := Scalar.indexCast v2332
  ![v2333.toNat]
def k0_off668 (v2334 : BitVec 32) : Fin 2 → Nat :=
  let c0_i32_1001 : BitVec 32 := 0#32
  ![v2334.toNat, 0]

def k0_chk334 (v2334 : BitVec 32) : Prop :=
  (∀ a, (k0_off668 v2334) a + S1x768.size a ≤ S50257x768.size a)
theorem k0_off668_inb : ∀ (v2334 : BitVec 32) (k0_hw334 : k0_chk334 v2334), ∀ a, (k0_off668 v2334) a + S1x768.size a ≤ S50257x768.size a := fun v2334 k0_hw334 => k0_hw334

def k0_off669 (i : grid0.Coords) : Fin 1 → Nat :=
  let arg0 : BitVec 32 := BitVec.ofNat 32 (i 0).val
  let c512_i32 : BitVec 32 := 512#32
  let v0 : BitVec 32 := Scalar.muli arg0 c512_i32
  let c334_i32 : BitVec 32 := 334#32
  let v2339 : BitVec 32 := Scalar.addi v0 c334_i32
  let v2340 : Index := Scalar.indexCast v2339
  ![v2340.toNat]
def k0_off670 (v2341 : BitVec 32) : Fin 2 → Nat :=
  let c0_i32_1004 : BitVec 32 := 0#32
  ![v2341.toNat, 0]

def k0_chk335 (v2341 : BitVec 32) : Prop :=
  (∀ a, (k0_off670 v2341) a + S1x768.size a ≤ S50257x768.size a)
theorem k0_off670_inb : ∀ (v2341 : BitVec 32) (k0_hw335 : k0_chk335 v2341), ∀ a, (k0_off670 v2341) a + S1x768.size a ≤ S50257x768.size a := fun v2341 k0_hw335 => k0_hw335

def k0_off671 (i : grid0.Coords) : Fin 1 → Nat :=
  let arg0 : BitVec 32 := BitVec.ofNat 32 (i 0).val
  let c512_i32 : BitVec 32 := 512#32
  let v0 : BitVec 32 := Scalar.muli arg0 c512_i32
  let c335_i32 : BitVec 32 := 335#32
  let v2346 : BitVec 32 := Scalar.addi v0 c335_i32
  let v2347 : Index := Scalar.indexCast v2346
  ![v2347.toNat]
def k0_off672 (v2348 : BitVec 32) : Fin 2 → Nat :=
  let c0_i32_1007 : BitVec 32 := 0#32
  ![v2348.toNat, 0]

def k0_chk336 (v2348 : BitVec 32) : Prop :=
  (∀ a, (k0_off672 v2348) a + S1x768.size a ≤ S50257x768.size a)
theorem k0_off672_inb : ∀ (v2348 : BitVec 32) (k0_hw336 : k0_chk336 v2348), ∀ a, (k0_off672 v2348) a + S1x768.size a ≤ S50257x768.size a := fun v2348 k0_hw336 => k0_hw336

def k0_off673 (i : grid0.Coords) : Fin 1 → Nat :=
  let arg0 : BitVec 32 := BitVec.ofNat 32 (i 0).val
  let c512_i32 : BitVec 32 := 512#32
  let v0 : BitVec 32 := Scalar.muli arg0 c512_i32
  let c336_i32 : BitVec 32 := 336#32
  let v2353 : BitVec 32 := Scalar.addi v0 c336_i32
  let v2354 : Index := Scalar.indexCast v2353
  ![v2354.toNat]
def k0_off674 (v2355 : BitVec 32) : Fin 2 → Nat :=
  let c0_i32_1010 : BitVec 32 := 0#32
  ![v2355.toNat, 0]

def k0_chk337 (v2355 : BitVec 32) : Prop :=
  (∀ a, (k0_off674 v2355) a + S1x768.size a ≤ S50257x768.size a)
theorem k0_off674_inb : ∀ (v2355 : BitVec 32) (k0_hw337 : k0_chk337 v2355), ∀ a, (k0_off674 v2355) a + S1x768.size a ≤ S50257x768.size a := fun v2355 k0_hw337 => k0_hw337

def k0_off675 (i : grid0.Coords) : Fin 1 → Nat :=
  let arg0 : BitVec 32 := BitVec.ofNat 32 (i 0).val
  let c512_i32 : BitVec 32 := 512#32
  let v0 : BitVec 32 := Scalar.muli arg0 c512_i32
  let c337_i32 : BitVec 32 := 337#32
  let v2360 : BitVec 32 := Scalar.addi v0 c337_i32
  let v2361 : Index := Scalar.indexCast v2360
  ![v2361.toNat]
def k0_off676 (v2362 : BitVec 32) : Fin 2 → Nat :=
  let c0_i32_1013 : BitVec 32 := 0#32
  ![v2362.toNat, 0]

def k0_chk338 (v2362 : BitVec 32) : Prop :=
  (∀ a, (k0_off676 v2362) a + S1x768.size a ≤ S50257x768.size a)
theorem k0_off676_inb : ∀ (v2362 : BitVec 32) (k0_hw338 : k0_chk338 v2362), ∀ a, (k0_off676 v2362) a + S1x768.size a ≤ S50257x768.size a := fun v2362 k0_hw338 => k0_hw338

def k0_off677 (i : grid0.Coords) : Fin 1 → Nat :=
  let arg0 : BitVec 32 := BitVec.ofNat 32 (i 0).val
  let c512_i32 : BitVec 32 := 512#32
  let v0 : BitVec 32 := Scalar.muli arg0 c512_i32
  let c338_i32 : BitVec 32 := 338#32
  let v2367 : BitVec 32 := Scalar.addi v0 c338_i32
  let v2368 : Index := Scalar.indexCast v2367
  ![v2368.toNat]
def k0_off678 (v2369 : BitVec 32) : Fin 2 → Nat :=
  let c0_i32_1016 : BitVec 32 := 0#32
  ![v2369.toNat, 0]

def k0_chk339 (v2369 : BitVec 32) : Prop :=
  (∀ a, (k0_off678 v2369) a + S1x768.size a ≤ S50257x768.size a)
theorem k0_off678_inb : ∀ (v2369 : BitVec 32) (k0_hw339 : k0_chk339 v2369), ∀ a, (k0_off678 v2369) a + S1x768.size a ≤ S50257x768.size a := fun v2369 k0_hw339 => k0_hw339

def k0_off679 (i : grid0.Coords) : Fin 1 → Nat :=
  let arg0 : BitVec 32 := BitVec.ofNat 32 (i 0).val
  let c512_i32 : BitVec 32 := 512#32
  let v0 : BitVec 32 := Scalar.muli arg0 c512_i32
  let c339_i32 : BitVec 32 := 339#32
  let v2374 : BitVec 32 := Scalar.addi v0 c339_i32
  let v2375 : Index := Scalar.indexCast v2374
  ![v2375.toNat]
def k0_off680 (v2376 : BitVec 32) : Fin 2 → Nat :=
  let c0_i32_1019 : BitVec 32 := 0#32
  ![v2376.toNat, 0]

def k0_chk340 (v2376 : BitVec 32) : Prop :=
  (∀ a, (k0_off680 v2376) a + S1x768.size a ≤ S50257x768.size a)
theorem k0_off680_inb : ∀ (v2376 : BitVec 32) (k0_hw340 : k0_chk340 v2376), ∀ a, (k0_off680 v2376) a + S1x768.size a ≤ S50257x768.size a := fun v2376 k0_hw340 => k0_hw340

def k0_off681 (i : grid0.Coords) : Fin 1 → Nat :=
  let arg0 : BitVec 32 := BitVec.ofNat 32 (i 0).val
  let c512_i32 : BitVec 32 := 512#32
  let v0 : BitVec 32 := Scalar.muli arg0 c512_i32
  let c340_i32 : BitVec 32 := 340#32
  let v2381 : BitVec 32 := Scalar.addi v0 c340_i32
  let v2382 : Index := Scalar.indexCast v2381
  ![v2382.toNat]
def k0_off682 (v2383 : BitVec 32) : Fin 2 → Nat :=
  let c0_i32_1022 : BitVec 32 := 0#32
  ![v2383.toNat, 0]

def k0_chk341 (v2383 : BitVec 32) : Prop :=
  (∀ a, (k0_off682 v2383) a + S1x768.size a ≤ S50257x768.size a)
theorem k0_off682_inb : ∀ (v2383 : BitVec 32) (k0_hw341 : k0_chk341 v2383), ∀ a, (k0_off682 v2383) a + S1x768.size a ≤ S50257x768.size a := fun v2383 k0_hw341 => k0_hw341

def k0_off683 (i : grid0.Coords) : Fin 1 → Nat :=
  let arg0 : BitVec 32 := BitVec.ofNat 32 (i 0).val
  let c512_i32 : BitVec 32 := 512#32
  let v0 : BitVec 32 := Scalar.muli arg0 c512_i32
  let c341_i32 : BitVec 32 := 341#32
  let v2388 : BitVec 32 := Scalar.addi v0 c341_i32
  let v2389 : Index := Scalar.indexCast v2388
  ![v2389.toNat]
def k0_off684 (v2390 : BitVec 32) : Fin 2 → Nat :=
  let c0_i32_1025 : BitVec 32 := 0#32
  ![v2390.toNat, 0]

def k0_chk342 (v2390 : BitVec 32) : Prop :=
  (∀ a, (k0_off684 v2390) a + S1x768.size a ≤ S50257x768.size a)
theorem k0_off684_inb : ∀ (v2390 : BitVec 32) (k0_hw342 : k0_chk342 v2390), ∀ a, (k0_off684 v2390) a + S1x768.size a ≤ S50257x768.size a := fun v2390 k0_hw342 => k0_hw342

def k0_off685 (i : grid0.Coords) : Fin 1 → Nat :=
  let arg0 : BitVec 32 := BitVec.ofNat 32 (i 0).val
  let c512_i32 : BitVec 32 := 512#32
  let v0 : BitVec 32 := Scalar.muli arg0 c512_i32
  let c342_i32 : BitVec 32 := 342#32
  let v2395 : BitVec 32 := Scalar.addi v0 c342_i32
  let v2396 : Index := Scalar.indexCast v2395
  ![v2396.toNat]
def k0_off686 (v2397 : BitVec 32) : Fin 2 → Nat :=
  let c0_i32_1028 : BitVec 32 := 0#32
  ![v2397.toNat, 0]

def k0_chk343 (v2397 : BitVec 32) : Prop :=
  (∀ a, (k0_off686 v2397) a + S1x768.size a ≤ S50257x768.size a)
theorem k0_off686_inb : ∀ (v2397 : BitVec 32) (k0_hw343 : k0_chk343 v2397), ∀ a, (k0_off686 v2397) a + S1x768.size a ≤ S50257x768.size a := fun v2397 k0_hw343 => k0_hw343

def k0_off687 (i : grid0.Coords) : Fin 1 → Nat :=
  let arg0 : BitVec 32 := BitVec.ofNat 32 (i 0).val
  let c512_i32 : BitVec 32 := 512#32
  let v0 : BitVec 32 := Scalar.muli arg0 c512_i32
  let c343_i32 : BitVec 32 := 343#32
  let v2402 : BitVec 32 := Scalar.addi v0 c343_i32
  let v2403 : Index := Scalar.indexCast v2402
  ![v2403.toNat]
def k0_off688 (v2404 : BitVec 32) : Fin 2 → Nat :=
  let c0_i32_1031 : BitVec 32 := 0#32
  ![v2404.toNat, 0]

def k0_chk344 (v2404 : BitVec 32) : Prop :=
  (∀ a, (k0_off688 v2404) a + S1x768.size a ≤ S50257x768.size a)
theorem k0_off688_inb : ∀ (v2404 : BitVec 32) (k0_hw344 : k0_chk344 v2404), ∀ a, (k0_off688 v2404) a + S1x768.size a ≤ S50257x768.size a := fun v2404 k0_hw344 => k0_hw344

def k0_off689 (i : grid0.Coords) : Fin 1 → Nat :=
  let arg0 : BitVec 32 := BitVec.ofNat 32 (i 0).val
  let c512_i32 : BitVec 32 := 512#32
  let v0 : BitVec 32 := Scalar.muli arg0 c512_i32
  let c344_i32 : BitVec 32 := 344#32
  let v2409 : BitVec 32 := Scalar.addi v0 c344_i32
  let v2410 : Index := Scalar.indexCast v2409
  ![v2410.toNat]
def k0_off690 (v2411 : BitVec 32) : Fin 2 → Nat :=
  let c0_i32_1034 : BitVec 32 := 0#32
  ![v2411.toNat, 0]

def k0_chk345 (v2411 : BitVec 32) : Prop :=
  (∀ a, (k0_off690 v2411) a + S1x768.size a ≤ S50257x768.size a)
theorem k0_off690_inb : ∀ (v2411 : BitVec 32) (k0_hw345 : k0_chk345 v2411), ∀ a, (k0_off690 v2411) a + S1x768.size a ≤ S50257x768.size a := fun v2411 k0_hw345 => k0_hw345

def k0_off691 (i : grid0.Coords) : Fin 1 → Nat :=
  let arg0 : BitVec 32 := BitVec.ofNat 32 (i 0).val
  let c512_i32 : BitVec 32 := 512#32
  let v0 : BitVec 32 := Scalar.muli arg0 c512_i32
  let c345_i32 : BitVec 32 := 345#32
  let v2416 : BitVec 32 := Scalar.addi v0 c345_i32
  let v2417 : Index := Scalar.indexCast v2416
  ![v2417.toNat]
def k0_off692 (v2418 : BitVec 32) : Fin 2 → Nat :=
  let c0_i32_1037 : BitVec 32 := 0#32
  ![v2418.toNat, 0]

def k0_chk346 (v2418 : BitVec 32) : Prop :=
  (∀ a, (k0_off692 v2418) a + S1x768.size a ≤ S50257x768.size a)
theorem k0_off692_inb : ∀ (v2418 : BitVec 32) (k0_hw346 : k0_chk346 v2418), ∀ a, (k0_off692 v2418) a + S1x768.size a ≤ S50257x768.size a := fun v2418 k0_hw346 => k0_hw346

def k0_off693 (i : grid0.Coords) : Fin 1 → Nat :=
  let arg0 : BitVec 32 := BitVec.ofNat 32 (i 0).val
  let c512_i32 : BitVec 32 := 512#32
  let v0 : BitVec 32 := Scalar.muli arg0 c512_i32
  let c346_i32 : BitVec 32 := 346#32
  let v2423 : BitVec 32 := Scalar.addi v0 c346_i32
  let v2424 : Index := Scalar.indexCast v2423
  ![v2424.toNat]
def k0_off694 (v2425 : BitVec 32) : Fin 2 → Nat :=
  let c0_i32_1040 : BitVec 32 := 0#32
  ![v2425.toNat, 0]

def k0_chk347 (v2425 : BitVec 32) : Prop :=
  (∀ a, (k0_off694 v2425) a + S1x768.size a ≤ S50257x768.size a)
theorem k0_off694_inb : ∀ (v2425 : BitVec 32) (k0_hw347 : k0_chk347 v2425), ∀ a, (k0_off694 v2425) a + S1x768.size a ≤ S50257x768.size a := fun v2425 k0_hw347 => k0_hw347

def k0_off695 (i : grid0.Coords) : Fin 1 → Nat :=
  let arg0 : BitVec 32 := BitVec.ofNat 32 (i 0).val
  let c512_i32 : BitVec 32 := 512#32
  let v0 : BitVec 32 := Scalar.muli arg0 c512_i32
  let c347_i32 : BitVec 32 := 347#32
  let v2430 : BitVec 32 := Scalar.addi v0 c347_i32
  let v2431 : Index := Scalar.indexCast v2430
  ![v2431.toNat]
def k0_off696 (v2432 : BitVec 32) : Fin 2 → Nat :=
  let c0_i32_1043 : BitVec 32 := 0#32
  ![v2432.toNat, 0]

def k0_chk348 (v2432 : BitVec 32) : Prop :=
  (∀ a, (k0_off696 v2432) a + S1x768.size a ≤ S50257x768.size a)
theorem k0_off696_inb : ∀ (v2432 : BitVec 32) (k0_hw348 : k0_chk348 v2432), ∀ a, (k0_off696 v2432) a + S1x768.size a ≤ S50257x768.size a := fun v2432 k0_hw348 => k0_hw348

def k0_off697 (i : grid0.Coords) : Fin 1 → Nat :=
  let arg0 : BitVec 32 := BitVec.ofNat 32 (i 0).val
  let c512_i32 : BitVec 32 := 512#32
  let v0 : BitVec 32 := Scalar.muli arg0 c512_i32
  let c348_i32 : BitVec 32 := 348#32
  let v2437 : BitVec 32 := Scalar.addi v0 c348_i32
  let v2438 : Index := Scalar.indexCast v2437
  ![v2438.toNat]
def k0_off698 (v2439 : BitVec 32) : Fin 2 → Nat :=
  let c0_i32_1046 : BitVec 32 := 0#32
  ![v2439.toNat, 0]

def k0_chk349 (v2439 : BitVec 32) : Prop :=
  (∀ a, (k0_off698 v2439) a + S1x768.size a ≤ S50257x768.size a)
theorem k0_off698_inb : ∀ (v2439 : BitVec 32) (k0_hw349 : k0_chk349 v2439), ∀ a, (k0_off698 v2439) a + S1x768.size a ≤ S50257x768.size a := fun v2439 k0_hw349 => k0_hw349

def k0_off699 (i : grid0.Coords) : Fin 1 → Nat :=
  let arg0 : BitVec 32 := BitVec.ofNat 32 (i 0).val
  let c512_i32 : BitVec 32 := 512#32
  let v0 : BitVec 32 := Scalar.muli arg0 c512_i32
  let c349_i32 : BitVec 32 := 349#32
  let v2444 : BitVec 32 := Scalar.addi v0 c349_i32
  let v2445 : Index := Scalar.indexCast v2444
  ![v2445.toNat]
def k0_off700 (v2446 : BitVec 32) : Fin 2 → Nat :=
  let c0_i32_1049 : BitVec 32 := 0#32
  ![v2446.toNat, 0]

def k0_chk350 (v2446 : BitVec 32) : Prop :=
  (∀ a, (k0_off700 v2446) a + S1x768.size a ≤ S50257x768.size a)
theorem k0_off700_inb : ∀ (v2446 : BitVec 32) (k0_hw350 : k0_chk350 v2446), ∀ a, (k0_off700 v2446) a + S1x768.size a ≤ S50257x768.size a := fun v2446 k0_hw350 => k0_hw350

def k0_off701 (i : grid0.Coords) : Fin 1 → Nat :=
  let arg0 : BitVec 32 := BitVec.ofNat 32 (i 0).val
  let c512_i32 : BitVec 32 := 512#32
  let v0 : BitVec 32 := Scalar.muli arg0 c512_i32
  let c350_i32 : BitVec 32 := 350#32
  let v2451 : BitVec 32 := Scalar.addi v0 c350_i32
  let v2452 : Index := Scalar.indexCast v2451
  ![v2452.toNat]
def k0_off702 (v2453 : BitVec 32) : Fin 2 → Nat :=
  let c0_i32_1052 : BitVec 32 := 0#32
  ![v2453.toNat, 0]

def k0_chk351 (v2453 : BitVec 32) : Prop :=
  (∀ a, (k0_off702 v2453) a + S1x768.size a ≤ S50257x768.size a)
theorem k0_off702_inb : ∀ (v2453 : BitVec 32) (k0_hw351 : k0_chk351 v2453), ∀ a, (k0_off702 v2453) a + S1x768.size a ≤ S50257x768.size a := fun v2453 k0_hw351 => k0_hw351

def k0_off703 (i : grid0.Coords) : Fin 1 → Nat :=
  let arg0 : BitVec 32 := BitVec.ofNat 32 (i 0).val
  let c512_i32 : BitVec 32 := 512#32
  let v0 : BitVec 32 := Scalar.muli arg0 c512_i32
  let c351_i32 : BitVec 32 := 351#32
  let v2458 : BitVec 32 := Scalar.addi v0 c351_i32
  let v2459 : Index := Scalar.indexCast v2458
  ![v2459.toNat]
def k0_off704 (v2460 : BitVec 32) : Fin 2 → Nat :=
  let c0_i32_1055 : BitVec 32 := 0#32
  ![v2460.toNat, 0]

def k0_chk352 (v2460 : BitVec 32) : Prop :=
  (∀ a, (k0_off704 v2460) a + S1x768.size a ≤ S50257x768.size a)
theorem k0_off704_inb : ∀ (v2460 : BitVec 32) (k0_hw352 : k0_chk352 v2460), ∀ a, (k0_off704 v2460) a + S1x768.size a ≤ S50257x768.size a := fun v2460 k0_hw352 => k0_hw352

def k0_off705 (i : grid0.Coords) : Fin 1 → Nat :=
  let arg0 : BitVec 32 := BitVec.ofNat 32 (i 0).val
  let c512_i32 : BitVec 32 := 512#32
  let v0 : BitVec 32 := Scalar.muli arg0 c512_i32
  let c352_i32 : BitVec 32 := 352#32
  let v2465 : BitVec 32 := Scalar.addi v0 c352_i32
  let v2466 : Index := Scalar.indexCast v2465
  ![v2466.toNat]
def k0_off706 (v2467 : BitVec 32) : Fin 2 → Nat :=
  let c0_i32_1058 : BitVec 32 := 0#32
  ![v2467.toNat, 0]

def k0_chk353 (v2467 : BitVec 32) : Prop :=
  (∀ a, (k0_off706 v2467) a + S1x768.size a ≤ S50257x768.size a)
theorem k0_off706_inb : ∀ (v2467 : BitVec 32) (k0_hw353 : k0_chk353 v2467), ∀ a, (k0_off706 v2467) a + S1x768.size a ≤ S50257x768.size a := fun v2467 k0_hw353 => k0_hw353

def k0_off707 (i : grid0.Coords) : Fin 1 → Nat :=
  let arg0 : BitVec 32 := BitVec.ofNat 32 (i 0).val
  let c512_i32 : BitVec 32 := 512#32
  let v0 : BitVec 32 := Scalar.muli arg0 c512_i32
  let c353_i32 : BitVec 32 := 353#32
  let v2472 : BitVec 32 := Scalar.addi v0 c353_i32
  let v2473 : Index := Scalar.indexCast v2472
  ![v2473.toNat]
def k0_off708 (v2474 : BitVec 32) : Fin 2 → Nat :=
  let c0_i32_1061 : BitVec 32 := 0#32
  ![v2474.toNat, 0]

def k0_chk354 (v2474 : BitVec 32) : Prop :=
  (∀ a, (k0_off708 v2474) a + S1x768.size a ≤ S50257x768.size a)
theorem k0_off708_inb : ∀ (v2474 : BitVec 32) (k0_hw354 : k0_chk354 v2474), ∀ a, (k0_off708 v2474) a + S1x768.size a ≤ S50257x768.size a := fun v2474 k0_hw354 => k0_hw354

def k0_off709 (i : grid0.Coords) : Fin 1 → Nat :=
  let arg0 : BitVec 32 := BitVec.ofNat 32 (i 0).val
  let c512_i32 : BitVec 32 := 512#32
  let v0 : BitVec 32 := Scalar.muli arg0 c512_i32
  let c354_i32 : BitVec 32 := 354#32
  let v2479 : BitVec 32 := Scalar.addi v0 c354_i32
  let v2480 : Index := Scalar.indexCast v2479
  ![v2480.toNat]
def k0_off710 (v2481 : BitVec 32) : Fin 2 → Nat :=
  let c0_i32_1064 : BitVec 32 := 0#32
  ![v2481.toNat, 0]

def k0_chk355 (v2481 : BitVec 32) : Prop :=
  (∀ a, (k0_off710 v2481) a + S1x768.size a ≤ S50257x768.size a)
theorem k0_off710_inb : ∀ (v2481 : BitVec 32) (k0_hw355 : k0_chk355 v2481), ∀ a, (k0_off710 v2481) a + S1x768.size a ≤ S50257x768.size a := fun v2481 k0_hw355 => k0_hw355

def k0_off711 (i : grid0.Coords) : Fin 1 → Nat :=
  let arg0 : BitVec 32 := BitVec.ofNat 32 (i 0).val
  let c512_i32 : BitVec 32 := 512#32
  let v0 : BitVec 32 := Scalar.muli arg0 c512_i32
  let c355_i32 : BitVec 32 := 355#32
  let v2486 : BitVec 32 := Scalar.addi v0 c355_i32
  let v2487 : Index := Scalar.indexCast v2486
  ![v2487.toNat]
def k0_off712 (v2488 : BitVec 32) : Fin 2 → Nat :=
  let c0_i32_1067 : BitVec 32 := 0#32
  ![v2488.toNat, 0]

def k0_chk356 (v2488 : BitVec 32) : Prop :=
  (∀ a, (k0_off712 v2488) a + S1x768.size a ≤ S50257x768.size a)
theorem k0_off712_inb : ∀ (v2488 : BitVec 32) (k0_hw356 : k0_chk356 v2488), ∀ a, (k0_off712 v2488) a + S1x768.size a ≤ S50257x768.size a := fun v2488 k0_hw356 => k0_hw356

def k0_off713 (i : grid0.Coords) : Fin 1 → Nat :=
  let arg0 : BitVec 32 := BitVec.ofNat 32 (i 0).val
  let c512_i32 : BitVec 32 := 512#32
  let v0 : BitVec 32 := Scalar.muli arg0 c512_i32
  let c356_i32 : BitVec 32 := 356#32
  let v2493 : BitVec 32 := Scalar.addi v0 c356_i32
  let v2494 : Index := Scalar.indexCast v2493
  ![v2494.toNat]
def k0_off714 (v2495 : BitVec 32) : Fin 2 → Nat :=
  let c0_i32_1070 : BitVec 32 := 0#32
  ![v2495.toNat, 0]

def k0_chk357 (v2495 : BitVec 32) : Prop :=
  (∀ a, (k0_off714 v2495) a + S1x768.size a ≤ S50257x768.size a)
theorem k0_off714_inb : ∀ (v2495 : BitVec 32) (k0_hw357 : k0_chk357 v2495), ∀ a, (k0_off714 v2495) a + S1x768.size a ≤ S50257x768.size a := fun v2495 k0_hw357 => k0_hw357

def k0_off715 (i : grid0.Coords) : Fin 1 → Nat :=
  let arg0 : BitVec 32 := BitVec.ofNat 32 (i 0).val
  let c512_i32 : BitVec 32 := 512#32
  let v0 : BitVec 32 := Scalar.muli arg0 c512_i32
  let c357_i32 : BitVec 32 := 357#32
  let v2500 : BitVec 32 := Scalar.addi v0 c357_i32
  let v2501 : Index := Scalar.indexCast v2500
  ![v2501.toNat]
def k0_off716 (v2502 : BitVec 32) : Fin 2 → Nat :=
  let c0_i32_1073 : BitVec 32 := 0#32
  ![v2502.toNat, 0]

def k0_chk358 (v2502 : BitVec 32) : Prop :=
  (∀ a, (k0_off716 v2502) a + S1x768.size a ≤ S50257x768.size a)
theorem k0_off716_inb : ∀ (v2502 : BitVec 32) (k0_hw358 : k0_chk358 v2502), ∀ a, (k0_off716 v2502) a + S1x768.size a ≤ S50257x768.size a := fun v2502 k0_hw358 => k0_hw358

def k0_off717 (i : grid0.Coords) : Fin 1 → Nat :=
  let arg0 : BitVec 32 := BitVec.ofNat 32 (i 0).val
  let c512_i32 : BitVec 32 := 512#32
  let v0 : BitVec 32 := Scalar.muli arg0 c512_i32
  let c358_i32 : BitVec 32 := 358#32
  let v2507 : BitVec 32 := Scalar.addi v0 c358_i32
  let v2508 : Index := Scalar.indexCast v2507
  ![v2508.toNat]
def k0_off718 (v2509 : BitVec 32) : Fin 2 → Nat :=
  let c0_i32_1076 : BitVec 32 := 0#32
  ![v2509.toNat, 0]

def k0_chk359 (v2509 : BitVec 32) : Prop :=
  (∀ a, (k0_off718 v2509) a + S1x768.size a ≤ S50257x768.size a)
theorem k0_off718_inb : ∀ (v2509 : BitVec 32) (k0_hw359 : k0_chk359 v2509), ∀ a, (k0_off718 v2509) a + S1x768.size a ≤ S50257x768.size a := fun v2509 k0_hw359 => k0_hw359

def k0_off719 (i : grid0.Coords) : Fin 1 → Nat :=
  let arg0 : BitVec 32 := BitVec.ofNat 32 (i 0).val
  let c512_i32 : BitVec 32 := 512#32
  let v0 : BitVec 32 := Scalar.muli arg0 c512_i32
  let c359_i32 : BitVec 32 := 359#32
  let v2514 : BitVec 32 := Scalar.addi v0 c359_i32
  let v2515 : Index := Scalar.indexCast v2514
  ![v2515.toNat]
def k0_off720 (v2516 : BitVec 32) : Fin 2 → Nat :=
  let c0_i32_1079 : BitVec 32 := 0#32
  ![v2516.toNat, 0]

def k0_chk360 (v2516 : BitVec 32) : Prop :=
  (∀ a, (k0_off720 v2516) a + S1x768.size a ≤ S50257x768.size a)
theorem k0_off720_inb : ∀ (v2516 : BitVec 32) (k0_hw360 : k0_chk360 v2516), ∀ a, (k0_off720 v2516) a + S1x768.size a ≤ S50257x768.size a := fun v2516 k0_hw360 => k0_hw360

def k0_off721 (i : grid0.Coords) : Fin 1 → Nat :=
  let arg0 : BitVec 32 := BitVec.ofNat 32 (i 0).val
  let c512_i32 : BitVec 32 := 512#32
  let v0 : BitVec 32 := Scalar.muli arg0 c512_i32
  let c360_i32 : BitVec 32 := 360#32
  let v2521 : BitVec 32 := Scalar.addi v0 c360_i32
  let v2522 : Index := Scalar.indexCast v2521
  ![v2522.toNat]
def k0_off722 (v2523 : BitVec 32) : Fin 2 → Nat :=
  let c0_i32_1082 : BitVec 32 := 0#32
  ![v2523.toNat, 0]

def k0_chk361 (v2523 : BitVec 32) : Prop :=
  (∀ a, (k0_off722 v2523) a + S1x768.size a ≤ S50257x768.size a)
theorem k0_off722_inb : ∀ (v2523 : BitVec 32) (k0_hw361 : k0_chk361 v2523), ∀ a, (k0_off722 v2523) a + S1x768.size a ≤ S50257x768.size a := fun v2523 k0_hw361 => k0_hw361

def k0_off723 (i : grid0.Coords) : Fin 1 → Nat :=
  let arg0 : BitVec 32 := BitVec.ofNat 32 (i 0).val
  let c512_i32 : BitVec 32 := 512#32
  let v0 : BitVec 32 := Scalar.muli arg0 c512_i32
  let c361_i32 : BitVec 32 := 361#32
  let v2528 : BitVec 32 := Scalar.addi v0 c361_i32
  let v2529 : Index := Scalar.indexCast v2528
  ![v2529.toNat]
def k0_off724 (v2530 : BitVec 32) : Fin 2 → Nat :=
  let c0_i32_1085 : BitVec 32 := 0#32
  ![v2530.toNat, 0]

def k0_chk362 (v2530 : BitVec 32) : Prop :=
  (∀ a, (k0_off724 v2530) a + S1x768.size a ≤ S50257x768.size a)
theorem k0_off724_inb : ∀ (v2530 : BitVec 32) (k0_hw362 : k0_chk362 v2530), ∀ a, (k0_off724 v2530) a + S1x768.size a ≤ S50257x768.size a := fun v2530 k0_hw362 => k0_hw362

def k0_off725 (i : grid0.Coords) : Fin 1 → Nat :=
  let arg0 : BitVec 32 := BitVec.ofNat 32 (i 0).val
  let c512_i32 : BitVec 32 := 512#32
  let v0 : BitVec 32 := Scalar.muli arg0 c512_i32
  let c362_i32 : BitVec 32 := 362#32
  let v2535 : BitVec 32 := Scalar.addi v0 c362_i32
  let v2536 : Index := Scalar.indexCast v2535
  ![v2536.toNat]
def k0_off726 (v2537 : BitVec 32) : Fin 2 → Nat :=
  let c0_i32_1088 : BitVec 32 := 0#32
  ![v2537.toNat, 0]

def k0_chk363 (v2537 : BitVec 32) : Prop :=
  (∀ a, (k0_off726 v2537) a + S1x768.size a ≤ S50257x768.size a)
theorem k0_off726_inb : ∀ (v2537 : BitVec 32) (k0_hw363 : k0_chk363 v2537), ∀ a, (k0_off726 v2537) a + S1x768.size a ≤ S50257x768.size a := fun v2537 k0_hw363 => k0_hw363

def k0_off727 (i : grid0.Coords) : Fin 1 → Nat :=
  let arg0 : BitVec 32 := BitVec.ofNat 32 (i 0).val
  let c512_i32 : BitVec 32 := 512#32
  let v0 : BitVec 32 := Scalar.muli arg0 c512_i32
  let c363_i32 : BitVec 32 := 363#32
  let v2542 : BitVec 32 := Scalar.addi v0 c363_i32
  let v2543 : Index := Scalar.indexCast v2542
  ![v2543.toNat]
def k0_off728 (v2544 : BitVec 32) : Fin 2 → Nat :=
  let c0_i32_1091 : BitVec 32 := 0#32
  ![v2544.toNat, 0]

def k0_chk364 (v2544 : BitVec 32) : Prop :=
  (∀ a, (k0_off728 v2544) a + S1x768.size a ≤ S50257x768.size a)
theorem k0_off728_inb : ∀ (v2544 : BitVec 32) (k0_hw364 : k0_chk364 v2544), ∀ a, (k0_off728 v2544) a + S1x768.size a ≤ S50257x768.size a := fun v2544 k0_hw364 => k0_hw364

def k0_off729 (i : grid0.Coords) : Fin 1 → Nat :=
  let arg0 : BitVec 32 := BitVec.ofNat 32 (i 0).val
  let c512_i32 : BitVec 32 := 512#32
  let v0 : BitVec 32 := Scalar.muli arg0 c512_i32
  let c364_i32 : BitVec 32 := 364#32
  let v2549 : BitVec 32 := Scalar.addi v0 c364_i32
  let v2550 : Index := Scalar.indexCast v2549
  ![v2550.toNat]
def k0_off730 (v2551 : BitVec 32) : Fin 2 → Nat :=
  let c0_i32_1094 : BitVec 32 := 0#32
  ![v2551.toNat, 0]

def k0_chk365 (v2551 : BitVec 32) : Prop :=
  (∀ a, (k0_off730 v2551) a + S1x768.size a ≤ S50257x768.size a)
theorem k0_off730_inb : ∀ (v2551 : BitVec 32) (k0_hw365 : k0_chk365 v2551), ∀ a, (k0_off730 v2551) a + S1x768.size a ≤ S50257x768.size a := fun v2551 k0_hw365 => k0_hw365

def k0_off731 (i : grid0.Coords) : Fin 1 → Nat :=
  let arg0 : BitVec 32 := BitVec.ofNat 32 (i 0).val
  let c512_i32 : BitVec 32 := 512#32
  let v0 : BitVec 32 := Scalar.muli arg0 c512_i32
  let c365_i32 : BitVec 32 := 365#32
  let v2556 : BitVec 32 := Scalar.addi v0 c365_i32
  let v2557 : Index := Scalar.indexCast v2556
  ![v2557.toNat]
def k0_off732 (v2558 : BitVec 32) : Fin 2 → Nat :=
  let c0_i32_1097 : BitVec 32 := 0#32
  ![v2558.toNat, 0]

def k0_chk366 (v2558 : BitVec 32) : Prop :=
  (∀ a, (k0_off732 v2558) a + S1x768.size a ≤ S50257x768.size a)
theorem k0_off732_inb : ∀ (v2558 : BitVec 32) (k0_hw366 : k0_chk366 v2558), ∀ a, (k0_off732 v2558) a + S1x768.size a ≤ S50257x768.size a := fun v2558 k0_hw366 => k0_hw366

def k0_off733 (i : grid0.Coords) : Fin 1 → Nat :=
  let arg0 : BitVec 32 := BitVec.ofNat 32 (i 0).val
  let c512_i32 : BitVec 32 := 512#32
  let v0 : BitVec 32 := Scalar.muli arg0 c512_i32
  let c366_i32 : BitVec 32 := 366#32
  let v2563 : BitVec 32 := Scalar.addi v0 c366_i32
  let v2564 : Index := Scalar.indexCast v2563
  ![v2564.toNat]
def k0_off734 (v2565 : BitVec 32) : Fin 2 → Nat :=
  let c0_i32_1100 : BitVec 32 := 0#32
  ![v2565.toNat, 0]

def k0_chk367 (v2565 : BitVec 32) : Prop :=
  (∀ a, (k0_off734 v2565) a + S1x768.size a ≤ S50257x768.size a)
theorem k0_off734_inb : ∀ (v2565 : BitVec 32) (k0_hw367 : k0_chk367 v2565), ∀ a, (k0_off734 v2565) a + S1x768.size a ≤ S50257x768.size a := fun v2565 k0_hw367 => k0_hw367

def k0_off735 (i : grid0.Coords) : Fin 1 → Nat :=
  let arg0 : BitVec 32 := BitVec.ofNat 32 (i 0).val
  let c512_i32 : BitVec 32 := 512#32
  let v0 : BitVec 32 := Scalar.muli arg0 c512_i32
  let c367_i32 : BitVec 32 := 367#32
  let v2570 : BitVec 32 := Scalar.addi v0 c367_i32
  let v2571 : Index := Scalar.indexCast v2570
  ![v2571.toNat]
def k0_off736 (v2572 : BitVec 32) : Fin 2 → Nat :=
  let c0_i32_1103 : BitVec 32 := 0#32
  ![v2572.toNat, 0]

def k0_chk368 (v2572 : BitVec 32) : Prop :=
  (∀ a, (k0_off736 v2572) a + S1x768.size a ≤ S50257x768.size a)
theorem k0_off736_inb : ∀ (v2572 : BitVec 32) (k0_hw368 : k0_chk368 v2572), ∀ a, (k0_off736 v2572) a + S1x768.size a ≤ S50257x768.size a := fun v2572 k0_hw368 => k0_hw368

def k0_off737 (i : grid0.Coords) : Fin 1 → Nat :=
  let arg0 : BitVec 32 := BitVec.ofNat 32 (i 0).val
  let c512_i32 : BitVec 32 := 512#32
  let v0 : BitVec 32 := Scalar.muli arg0 c512_i32
  let c368_i32 : BitVec 32 := 368#32
  let v2577 : BitVec 32 := Scalar.addi v0 c368_i32
  let v2578 : Index := Scalar.indexCast v2577
  ![v2578.toNat]
def k0_off738 (v2579 : BitVec 32) : Fin 2 → Nat :=
  let c0_i32_1106 : BitVec 32 := 0#32
  ![v2579.toNat, 0]

def k0_chk369 (v2579 : BitVec 32) : Prop :=
  (∀ a, (k0_off738 v2579) a + S1x768.size a ≤ S50257x768.size a)
theorem k0_off738_inb : ∀ (v2579 : BitVec 32) (k0_hw369 : k0_chk369 v2579), ∀ a, (k0_off738 v2579) a + S1x768.size a ≤ S50257x768.size a := fun v2579 k0_hw369 => k0_hw369

def k0_off739 (i : grid0.Coords) : Fin 1 → Nat :=
  let arg0 : BitVec 32 := BitVec.ofNat 32 (i 0).val
  let c512_i32 : BitVec 32 := 512#32
  let v0 : BitVec 32 := Scalar.muli arg0 c512_i32
  let c369_i32 : BitVec 32 := 369#32
  let v2584 : BitVec 32 := Scalar.addi v0 c369_i32
  let v2585 : Index := Scalar.indexCast v2584
  ![v2585.toNat]
def k0_off740 (v2586 : BitVec 32) : Fin 2 → Nat :=
  let c0_i32_1109 : BitVec 32 := 0#32
  ![v2586.toNat, 0]

def k0_chk370 (v2586 : BitVec 32) : Prop :=
  (∀ a, (k0_off740 v2586) a + S1x768.size a ≤ S50257x768.size a)
theorem k0_off740_inb : ∀ (v2586 : BitVec 32) (k0_hw370 : k0_chk370 v2586), ∀ a, (k0_off740 v2586) a + S1x768.size a ≤ S50257x768.size a := fun v2586 k0_hw370 => k0_hw370

def k0_off741 (i : grid0.Coords) : Fin 1 → Nat :=
  let arg0 : BitVec 32 := BitVec.ofNat 32 (i 0).val
  let c512_i32 : BitVec 32 := 512#32
  let v0 : BitVec 32 := Scalar.muli arg0 c512_i32
  let c370_i32 : BitVec 32 := 370#32
  let v2591 : BitVec 32 := Scalar.addi v0 c370_i32
  let v2592 : Index := Scalar.indexCast v2591
  ![v2592.toNat]
def k0_off742 (v2593 : BitVec 32) : Fin 2 → Nat :=
  let c0_i32_1112 : BitVec 32 := 0#32
  ![v2593.toNat, 0]

def k0_chk371 (v2593 : BitVec 32) : Prop :=
  (∀ a, (k0_off742 v2593) a + S1x768.size a ≤ S50257x768.size a)
theorem k0_off742_inb : ∀ (v2593 : BitVec 32) (k0_hw371 : k0_chk371 v2593), ∀ a, (k0_off742 v2593) a + S1x768.size a ≤ S50257x768.size a := fun v2593 k0_hw371 => k0_hw371

def k0_off743 (i : grid0.Coords) : Fin 1 → Nat :=
  let arg0 : BitVec 32 := BitVec.ofNat 32 (i 0).val
  let c512_i32 : BitVec 32 := 512#32
  let v0 : BitVec 32 := Scalar.muli arg0 c512_i32
  let c371_i32 : BitVec 32 := 371#32
  let v2598 : BitVec 32 := Scalar.addi v0 c371_i32
  let v2599 : Index := Scalar.indexCast v2598
  ![v2599.toNat]
def k0_off744 (v2600 : BitVec 32) : Fin 2 → Nat :=
  let c0_i32_1115 : BitVec 32 := 0#32
  ![v2600.toNat, 0]

def k0_chk372 (v2600 : BitVec 32) : Prop :=
  (∀ a, (k0_off744 v2600) a + S1x768.size a ≤ S50257x768.size a)
theorem k0_off744_inb : ∀ (v2600 : BitVec 32) (k0_hw372 : k0_chk372 v2600), ∀ a, (k0_off744 v2600) a + S1x768.size a ≤ S50257x768.size a := fun v2600 k0_hw372 => k0_hw372

def k0_off745 (i : grid0.Coords) : Fin 1 → Nat :=
  let arg0 : BitVec 32 := BitVec.ofNat 32 (i 0).val
  let c512_i32 : BitVec 32 := 512#32
  let v0 : BitVec 32 := Scalar.muli arg0 c512_i32
  let c372_i32 : BitVec 32 := 372#32
  let v2605 : BitVec 32 := Scalar.addi v0 c372_i32
  let v2606 : Index := Scalar.indexCast v2605
  ![v2606.toNat]
def k0_off746 (v2607 : BitVec 32) : Fin 2 → Nat :=
  let c0_i32_1118 : BitVec 32 := 0#32
  ![v2607.toNat, 0]

def k0_chk373 (v2607 : BitVec 32) : Prop :=
  (∀ a, (k0_off746 v2607) a + S1x768.size a ≤ S50257x768.size a)
theorem k0_off746_inb : ∀ (v2607 : BitVec 32) (k0_hw373 : k0_chk373 v2607), ∀ a, (k0_off746 v2607) a + S1x768.size a ≤ S50257x768.size a := fun v2607 k0_hw373 => k0_hw373

def k0_off747 (i : grid0.Coords) : Fin 1 → Nat :=
  let arg0 : BitVec 32 := BitVec.ofNat 32 (i 0).val
  let c512_i32 : BitVec 32 := 512#32
  let v0 : BitVec 32 := Scalar.muli arg0 c512_i32
  let c373_i32 : BitVec 32 := 373#32
  let v2612 : BitVec 32 := Scalar.addi v0 c373_i32
  let v2613 : Index := Scalar.indexCast v2612
  ![v2613.toNat]
def k0_off748 (v2614 : BitVec 32) : Fin 2 → Nat :=
  let c0_i32_1121 : BitVec 32 := 0#32
  ![v2614.toNat, 0]

def k0_chk374 (v2614 : BitVec 32) : Prop :=
  (∀ a, (k0_off748 v2614) a + S1x768.size a ≤ S50257x768.size a)
theorem k0_off748_inb : ∀ (v2614 : BitVec 32) (k0_hw374 : k0_chk374 v2614), ∀ a, (k0_off748 v2614) a + S1x768.size a ≤ S50257x768.size a := fun v2614 k0_hw374 => k0_hw374

def k0_off749 (i : grid0.Coords) : Fin 1 → Nat :=
  let arg0 : BitVec 32 := BitVec.ofNat 32 (i 0).val
  let c512_i32 : BitVec 32 := 512#32
  let v0 : BitVec 32 := Scalar.muli arg0 c512_i32
  let c374_i32 : BitVec 32 := 374#32
  let v2619 : BitVec 32 := Scalar.addi v0 c374_i32
  let v2620 : Index := Scalar.indexCast v2619
  ![v2620.toNat]
def k0_off750 (v2621 : BitVec 32) : Fin 2 → Nat :=
  let c0_i32_1124 : BitVec 32 := 0#32
  ![v2621.toNat, 0]

def k0_chk375 (v2621 : BitVec 32) : Prop :=
  (∀ a, (k0_off750 v2621) a + S1x768.size a ≤ S50257x768.size a)
theorem k0_off750_inb : ∀ (v2621 : BitVec 32) (k0_hw375 : k0_chk375 v2621), ∀ a, (k0_off750 v2621) a + S1x768.size a ≤ S50257x768.size a := fun v2621 k0_hw375 => k0_hw375

def k0_off751 (i : grid0.Coords) : Fin 1 → Nat :=
  let arg0 : BitVec 32 := BitVec.ofNat 32 (i 0).val
  let c512_i32 : BitVec 32 := 512#32
  let v0 : BitVec 32 := Scalar.muli arg0 c512_i32
  let c375_i32 : BitVec 32 := 375#32
  let v2626 : BitVec 32 := Scalar.addi v0 c375_i32
  let v2627 : Index := Scalar.indexCast v2626
  ![v2627.toNat]
def k0_off752 (v2628 : BitVec 32) : Fin 2 → Nat :=
  let c0_i32_1127 : BitVec 32 := 0#32
  ![v2628.toNat, 0]

def k0_chk376 (v2628 : BitVec 32) : Prop :=
  (∀ a, (k0_off752 v2628) a + S1x768.size a ≤ S50257x768.size a)
theorem k0_off752_inb : ∀ (v2628 : BitVec 32) (k0_hw376 : k0_chk376 v2628), ∀ a, (k0_off752 v2628) a + S1x768.size a ≤ S50257x768.size a := fun v2628 k0_hw376 => k0_hw376

def k0_off753 (i : grid0.Coords) : Fin 1 → Nat :=
  let arg0 : BitVec 32 := BitVec.ofNat 32 (i 0).val
  let c512_i32 : BitVec 32 := 512#32
  let v0 : BitVec 32 := Scalar.muli arg0 c512_i32
  let c376_i32 : BitVec 32 := 376#32
  let v2633 : BitVec 32 := Scalar.addi v0 c376_i32
  let v2634 : Index := Scalar.indexCast v2633
  ![v2634.toNat]
def k0_off754 (v2635 : BitVec 32) : Fin 2 → Nat :=
  let c0_i32_1130 : BitVec 32 := 0#32
  ![v2635.toNat, 0]

def k0_chk377 (v2635 : BitVec 32) : Prop :=
  (∀ a, (k0_off754 v2635) a + S1x768.size a ≤ S50257x768.size a)
theorem k0_off754_inb : ∀ (v2635 : BitVec 32) (k0_hw377 : k0_chk377 v2635), ∀ a, (k0_off754 v2635) a + S1x768.size a ≤ S50257x768.size a := fun v2635 k0_hw377 => k0_hw377

def k0_off755 (i : grid0.Coords) : Fin 1 → Nat :=
  let arg0 : BitVec 32 := BitVec.ofNat 32 (i 0).val
  let c512_i32 : BitVec 32 := 512#32
  let v0 : BitVec 32 := Scalar.muli arg0 c512_i32
  let c377_i32 : BitVec 32 := 377#32
  let v2640 : BitVec 32 := Scalar.addi v0 c377_i32
  let v2641 : Index := Scalar.indexCast v2640
  ![v2641.toNat]
def k0_off756 (v2642 : BitVec 32) : Fin 2 → Nat :=
  let c0_i32_1133 : BitVec 32 := 0#32
  ![v2642.toNat, 0]

def k0_chk378 (v2642 : BitVec 32) : Prop :=
  (∀ a, (k0_off756 v2642) a + S1x768.size a ≤ S50257x768.size a)
theorem k0_off756_inb : ∀ (v2642 : BitVec 32) (k0_hw378 : k0_chk378 v2642), ∀ a, (k0_off756 v2642) a + S1x768.size a ≤ S50257x768.size a := fun v2642 k0_hw378 => k0_hw378

def k0_off757 (i : grid0.Coords) : Fin 1 → Nat :=
  let arg0 : BitVec 32 := BitVec.ofNat 32 (i 0).val
  let c512_i32 : BitVec 32 := 512#32
  let v0 : BitVec 32 := Scalar.muli arg0 c512_i32
  let c378_i32 : BitVec 32 := 378#32
  let v2647 : BitVec 32 := Scalar.addi v0 c378_i32
  let v2648 : Index := Scalar.indexCast v2647
  ![v2648.toNat]
def k0_off758 (v2649 : BitVec 32) : Fin 2 → Nat :=
  let c0_i32_1136 : BitVec 32 := 0#32
  ![v2649.toNat, 0]

def k0_chk379 (v2649 : BitVec 32) : Prop :=
  (∀ a, (k0_off758 v2649) a + S1x768.size a ≤ S50257x768.size a)
theorem k0_off758_inb : ∀ (v2649 : BitVec 32) (k0_hw379 : k0_chk379 v2649), ∀ a, (k0_off758 v2649) a + S1x768.size a ≤ S50257x768.size a := fun v2649 k0_hw379 => k0_hw379

def k0_off759 (i : grid0.Coords) : Fin 1 → Nat :=
  let arg0 : BitVec 32 := BitVec.ofNat 32 (i 0).val
  let c512_i32 : BitVec 32 := 512#32
  let v0 : BitVec 32 := Scalar.muli arg0 c512_i32
  let c379_i32 : BitVec 32 := 379#32
  let v2654 : BitVec 32 := Scalar.addi v0 c379_i32
  let v2655 : Index := Scalar.indexCast v2654
  ![v2655.toNat]
def k0_off760 (v2656 : BitVec 32) : Fin 2 → Nat :=
  let c0_i32_1139 : BitVec 32 := 0#32
  ![v2656.toNat, 0]

def k0_chk380 (v2656 : BitVec 32) : Prop :=
  (∀ a, (k0_off760 v2656) a + S1x768.size a ≤ S50257x768.size a)
theorem k0_off760_inb : ∀ (v2656 : BitVec 32) (k0_hw380 : k0_chk380 v2656), ∀ a, (k0_off760 v2656) a + S1x768.size a ≤ S50257x768.size a := fun v2656 k0_hw380 => k0_hw380

def k0_off761 (i : grid0.Coords) : Fin 1 → Nat :=
  let arg0 : BitVec 32 := BitVec.ofNat 32 (i 0).val
  let c512_i32 : BitVec 32 := 512#32
  let v0 : BitVec 32 := Scalar.muli arg0 c512_i32
  let c380_i32 : BitVec 32 := 380#32
  let v2661 : BitVec 32 := Scalar.addi v0 c380_i32
  let v2662 : Index := Scalar.indexCast v2661
  ![v2662.toNat]
def k0_off762 (v2663 : BitVec 32) : Fin 2 → Nat :=
  let c0_i32_1142 : BitVec 32 := 0#32
  ![v2663.toNat, 0]

def k0_chk381 (v2663 : BitVec 32) : Prop :=
  (∀ a, (k0_off762 v2663) a + S1x768.size a ≤ S50257x768.size a)
theorem k0_off762_inb : ∀ (v2663 : BitVec 32) (k0_hw381 : k0_chk381 v2663), ∀ a, (k0_off762 v2663) a + S1x768.size a ≤ S50257x768.size a := fun v2663 k0_hw381 => k0_hw381

def k0_off763 (i : grid0.Coords) : Fin 1 → Nat :=
  let arg0 : BitVec 32 := BitVec.ofNat 32 (i 0).val
  let c512_i32 : BitVec 32 := 512#32
  let v0 : BitVec 32 := Scalar.muli arg0 c512_i32
  let c381_i32 : BitVec 32 := 381#32
  let v2668 : BitVec 32 := Scalar.addi v0 c381_i32
  let v2669 : Index := Scalar.indexCast v2668
  ![v2669.toNat]
def k0_off764 (v2670 : BitVec 32) : Fin 2 → Nat :=
  let c0_i32_1145 : BitVec 32 := 0#32
  ![v2670.toNat, 0]

def k0_chk382 (v2670 : BitVec 32) : Prop :=
  (∀ a, (k0_off764 v2670) a + S1x768.size a ≤ S50257x768.size a)
theorem k0_off764_inb : ∀ (v2670 : BitVec 32) (k0_hw382 : k0_chk382 v2670), ∀ a, (k0_off764 v2670) a + S1x768.size a ≤ S50257x768.size a := fun v2670 k0_hw382 => k0_hw382

def k0_off765 (i : grid0.Coords) : Fin 1 → Nat :=
  let arg0 : BitVec 32 := BitVec.ofNat 32 (i 0).val
  let c512_i32 : BitVec 32 := 512#32
  let v0 : BitVec 32 := Scalar.muli arg0 c512_i32
  let c382_i32 : BitVec 32 := 382#32
  let v2675 : BitVec 32 := Scalar.addi v0 c382_i32
  let v2676 : Index := Scalar.indexCast v2675
  ![v2676.toNat]
def k0_off766 (v2677 : BitVec 32) : Fin 2 → Nat :=
  let c0_i32_1148 : BitVec 32 := 0#32
  ![v2677.toNat, 0]

def k0_chk383 (v2677 : BitVec 32) : Prop :=
  (∀ a, (k0_off766 v2677) a + S1x768.size a ≤ S50257x768.size a)
theorem k0_off766_inb : ∀ (v2677 : BitVec 32) (k0_hw383 : k0_chk383 v2677), ∀ a, (k0_off766 v2677) a + S1x768.size a ≤ S50257x768.size a := fun v2677 k0_hw383 => k0_hw383

def k0_off767 (i : grid0.Coords) : Fin 1 → Nat :=
  let arg0 : BitVec 32 := BitVec.ofNat 32 (i 0).val
  let c512_i32 : BitVec 32 := 512#32
  let v0 : BitVec 32 := Scalar.muli arg0 c512_i32
  let c383_i32 : BitVec 32 := 383#32
  let v2682 : BitVec 32 := Scalar.addi v0 c383_i32
  let v2683 : Index := Scalar.indexCast v2682
  ![v2683.toNat]
def k0_off768 (v2684 : BitVec 32) : Fin 2 → Nat :=
  let c0_i32_1151 : BitVec 32 := 0#32
  ![v2684.toNat, 0]

def k0_chk384 (v2684 : BitVec 32) : Prop :=
  (∀ a, (k0_off768 v2684) a + S1x768.size a ≤ S50257x768.size a)
theorem k0_off768_inb : ∀ (v2684 : BitVec 32) (k0_hw384 : k0_chk384 v2684), ∀ a, (k0_off768 v2684) a + S1x768.size a ≤ S50257x768.size a := fun v2684 k0_hw384 => k0_hw384

def k0_off769 (i : grid0.Coords) : Fin 1 → Nat :=
  let arg0 : BitVec 32 := BitVec.ofNat 32 (i 0).val
  let c512_i32 : BitVec 32 := 512#32
  let v0 : BitVec 32 := Scalar.muli arg0 c512_i32
  let c384_i32 : BitVec 32 := 384#32
  let v2689 : BitVec 32 := Scalar.addi v0 c384_i32
  let v2690 : Index := Scalar.indexCast v2689
  ![v2690.toNat]
def k0_off770 (v2691 : BitVec 32) : Fin 2 → Nat :=
  let c0_i32_1154 : BitVec 32 := 0#32
  ![v2691.toNat, 0]

def k0_chk385 (v2691 : BitVec 32) : Prop :=
  (∀ a, (k0_off770 v2691) a + S1x768.size a ≤ S50257x768.size a)
theorem k0_off770_inb : ∀ (v2691 : BitVec 32) (k0_hw385 : k0_chk385 v2691), ∀ a, (k0_off770 v2691) a + S1x768.size a ≤ S50257x768.size a := fun v2691 k0_hw385 => k0_hw385

def k0_off771 (i : grid0.Coords) : Fin 1 → Nat :=
  let arg0 : BitVec 32 := BitVec.ofNat 32 (i 0).val
  let c512_i32 : BitVec 32 := 512#32
  let v0 : BitVec 32 := Scalar.muli arg0 c512_i32
  let c385_i32 : BitVec 32 := 385#32
  let v2696 : BitVec 32 := Scalar.addi v0 c385_i32
  let v2697 : Index := Scalar.indexCast v2696
  ![v2697.toNat]
def k0_off772 (v2698 : BitVec 32) : Fin 2 → Nat :=
  let c0_i32_1157 : BitVec 32 := 0#32
  ![v2698.toNat, 0]

def k0_chk386 (v2698 : BitVec 32) : Prop :=
  (∀ a, (k0_off772 v2698) a + S1x768.size a ≤ S50257x768.size a)
theorem k0_off772_inb : ∀ (v2698 : BitVec 32) (k0_hw386 : k0_chk386 v2698), ∀ a, (k0_off772 v2698) a + S1x768.size a ≤ S50257x768.size a := fun v2698 k0_hw386 => k0_hw386

def k0_off773 (i : grid0.Coords) : Fin 1 → Nat :=
  let arg0 : BitVec 32 := BitVec.ofNat 32 (i 0).val
  let c512_i32 : BitVec 32 := 512#32
  let v0 : BitVec 32 := Scalar.muli arg0 c512_i32
  let c386_i32 : BitVec 32 := 386#32
  let v2703 : BitVec 32 := Scalar.addi v0 c386_i32
  let v2704 : Index := Scalar.indexCast v2703
  ![v2704.toNat]
def k0_off774 (v2705 : BitVec 32) : Fin 2 → Nat :=
  let c0_i32_1160 : BitVec 32 := 0#32
  ![v2705.toNat, 0]

def k0_chk387 (v2705 : BitVec 32) : Prop :=
  (∀ a, (k0_off774 v2705) a + S1x768.size a ≤ S50257x768.size a)
theorem k0_off774_inb : ∀ (v2705 : BitVec 32) (k0_hw387 : k0_chk387 v2705), ∀ a, (k0_off774 v2705) a + S1x768.size a ≤ S50257x768.size a := fun v2705 k0_hw387 => k0_hw387

def k0_off775 (i : grid0.Coords) : Fin 1 → Nat :=
  let arg0 : BitVec 32 := BitVec.ofNat 32 (i 0).val
  let c512_i32 : BitVec 32 := 512#32
  let v0 : BitVec 32 := Scalar.muli arg0 c512_i32
  let c387_i32 : BitVec 32 := 387#32
  let v2710 : BitVec 32 := Scalar.addi v0 c387_i32
  let v2711 : Index := Scalar.indexCast v2710
  ![v2711.toNat]
def k0_off776 (v2712 : BitVec 32) : Fin 2 → Nat :=
  let c0_i32_1163 : BitVec 32 := 0#32
  ![v2712.toNat, 0]

def k0_chk388 (v2712 : BitVec 32) : Prop :=
  (∀ a, (k0_off776 v2712) a + S1x768.size a ≤ S50257x768.size a)
theorem k0_off776_inb : ∀ (v2712 : BitVec 32) (k0_hw388 : k0_chk388 v2712), ∀ a, (k0_off776 v2712) a + S1x768.size a ≤ S50257x768.size a := fun v2712 k0_hw388 => k0_hw388

def k0_off777 (i : grid0.Coords) : Fin 1 → Nat :=
  let arg0 : BitVec 32 := BitVec.ofNat 32 (i 0).val
  let c512_i32 : BitVec 32 := 512#32
  let v0 : BitVec 32 := Scalar.muli arg0 c512_i32
  let c388_i32 : BitVec 32 := 388#32
  let v2717 : BitVec 32 := Scalar.addi v0 c388_i32
  let v2718 : Index := Scalar.indexCast v2717
  ![v2718.toNat]
def k0_off778 (v2719 : BitVec 32) : Fin 2 → Nat :=
  let c0_i32_1166 : BitVec 32 := 0#32
  ![v2719.toNat, 0]

def k0_chk389 (v2719 : BitVec 32) : Prop :=
  (∀ a, (k0_off778 v2719) a + S1x768.size a ≤ S50257x768.size a)
theorem k0_off778_inb : ∀ (v2719 : BitVec 32) (k0_hw389 : k0_chk389 v2719), ∀ a, (k0_off778 v2719) a + S1x768.size a ≤ S50257x768.size a := fun v2719 k0_hw389 => k0_hw389

def k0_off779 (i : grid0.Coords) : Fin 1 → Nat :=
  let arg0 : BitVec 32 := BitVec.ofNat 32 (i 0).val
  let c512_i32 : BitVec 32 := 512#32
  let v0 : BitVec 32 := Scalar.muli arg0 c512_i32
  let c389_i32 : BitVec 32 := 389#32
  let v2724 : BitVec 32 := Scalar.addi v0 c389_i32
  let v2725 : Index := Scalar.indexCast v2724
  ![v2725.toNat]
def k0_off780 (v2726 : BitVec 32) : Fin 2 → Nat :=
  let c0_i32_1169 : BitVec 32 := 0#32
  ![v2726.toNat, 0]

def k0_chk390 (v2726 : BitVec 32) : Prop :=
  (∀ a, (k0_off780 v2726) a + S1x768.size a ≤ S50257x768.size a)
theorem k0_off780_inb : ∀ (v2726 : BitVec 32) (k0_hw390 : k0_chk390 v2726), ∀ a, (k0_off780 v2726) a + S1x768.size a ≤ S50257x768.size a := fun v2726 k0_hw390 => k0_hw390

def k0_off781 (i : grid0.Coords) : Fin 1 → Nat :=
  let arg0 : BitVec 32 := BitVec.ofNat 32 (i 0).val
  let c512_i32 : BitVec 32 := 512#32
  let v0 : BitVec 32 := Scalar.muli arg0 c512_i32
  let c390_i32 : BitVec 32 := 390#32
  let v2731 : BitVec 32 := Scalar.addi v0 c390_i32
  let v2732 : Index := Scalar.indexCast v2731
  ![v2732.toNat]
def k0_off782 (v2733 : BitVec 32) : Fin 2 → Nat :=
  let c0_i32_1172 : BitVec 32 := 0#32
  ![v2733.toNat, 0]

def k0_chk391 (v2733 : BitVec 32) : Prop :=
  (∀ a, (k0_off782 v2733) a + S1x768.size a ≤ S50257x768.size a)
theorem k0_off782_inb : ∀ (v2733 : BitVec 32) (k0_hw391 : k0_chk391 v2733), ∀ a, (k0_off782 v2733) a + S1x768.size a ≤ S50257x768.size a := fun v2733 k0_hw391 => k0_hw391

def k0_off783 (i : grid0.Coords) : Fin 1 → Nat :=
  let arg0 : BitVec 32 := BitVec.ofNat 32 (i 0).val
  let c512_i32 : BitVec 32 := 512#32
  let v0 : BitVec 32 := Scalar.muli arg0 c512_i32
  let c391_i32 : BitVec 32 := 391#32
  let v2738 : BitVec 32 := Scalar.addi v0 c391_i32
  let v2739 : Index := Scalar.indexCast v2738
  ![v2739.toNat]
def k0_off784 (v2740 : BitVec 32) : Fin 2 → Nat :=
  let c0_i32_1175 : BitVec 32 := 0#32
  ![v2740.toNat, 0]

def k0_chk392 (v2740 : BitVec 32) : Prop :=
  (∀ a, (k0_off784 v2740) a + S1x768.size a ≤ S50257x768.size a)
theorem k0_off784_inb : ∀ (v2740 : BitVec 32) (k0_hw392 : k0_chk392 v2740), ∀ a, (k0_off784 v2740) a + S1x768.size a ≤ S50257x768.size a := fun v2740 k0_hw392 => k0_hw392

def k0_off785 (i : grid0.Coords) : Fin 1 → Nat :=
  let arg0 : BitVec 32 := BitVec.ofNat 32 (i 0).val
  let c512_i32 : BitVec 32 := 512#32
  let v0 : BitVec 32 := Scalar.muli arg0 c512_i32
  let c392_i32 : BitVec 32 := 392#32
  let v2745 : BitVec 32 := Scalar.addi v0 c392_i32
  let v2746 : Index := Scalar.indexCast v2745
  ![v2746.toNat]
def k0_off786 (v2747 : BitVec 32) : Fin 2 → Nat :=
  let c0_i32_1178 : BitVec 32 := 0#32
  ![v2747.toNat, 0]

def k0_chk393 (v2747 : BitVec 32) : Prop :=
  (∀ a, (k0_off786 v2747) a + S1x768.size a ≤ S50257x768.size a)
theorem k0_off786_inb : ∀ (v2747 : BitVec 32) (k0_hw393 : k0_chk393 v2747), ∀ a, (k0_off786 v2747) a + S1x768.size a ≤ S50257x768.size a := fun v2747 k0_hw393 => k0_hw393

def k0_off787 (i : grid0.Coords) : Fin 1 → Nat :=
  let arg0 : BitVec 32 := BitVec.ofNat 32 (i 0).val
  let c512_i32 : BitVec 32 := 512#32
  let v0 : BitVec 32 := Scalar.muli arg0 c512_i32
  let c393_i32 : BitVec 32 := 393#32
  let v2752 : BitVec 32 := Scalar.addi v0 c393_i32
  let v2753 : Index := Scalar.indexCast v2752
  ![v2753.toNat]
def k0_off788 (v2754 : BitVec 32) : Fin 2 → Nat :=
  let c0_i32_1181 : BitVec 32 := 0#32
  ![v2754.toNat, 0]

def k0_chk394 (v2754 : BitVec 32) : Prop :=
  (∀ a, (k0_off788 v2754) a + S1x768.size a ≤ S50257x768.size a)
theorem k0_off788_inb : ∀ (v2754 : BitVec 32) (k0_hw394 : k0_chk394 v2754), ∀ a, (k0_off788 v2754) a + S1x768.size a ≤ S50257x768.size a := fun v2754 k0_hw394 => k0_hw394

def k0_off789 (i : grid0.Coords) : Fin 1 → Nat :=
  let arg0 : BitVec 32 := BitVec.ofNat 32 (i 0).val
  let c512_i32 : BitVec 32 := 512#32
  let v0 : BitVec 32 := Scalar.muli arg0 c512_i32
  let c394_i32 : BitVec 32 := 394#32
  let v2759 : BitVec 32 := Scalar.addi v0 c394_i32
  let v2760 : Index := Scalar.indexCast v2759
  ![v2760.toNat]
def k0_off790 (v2761 : BitVec 32) : Fin 2 → Nat :=
  let c0_i32_1184 : BitVec 32 := 0#32
  ![v2761.toNat, 0]

def k0_chk395 (v2761 : BitVec 32) : Prop :=
  (∀ a, (k0_off790 v2761) a + S1x768.size a ≤ S50257x768.size a)
theorem k0_off790_inb : ∀ (v2761 : BitVec 32) (k0_hw395 : k0_chk395 v2761), ∀ a, (k0_off790 v2761) a + S1x768.size a ≤ S50257x768.size a := fun v2761 k0_hw395 => k0_hw395

def k0_off791 (i : grid0.Coords) : Fin 1 → Nat :=
  let arg0 : BitVec 32 := BitVec.ofNat 32 (i 0).val
  let c512_i32 : BitVec 32 := 512#32
  let v0 : BitVec 32 := Scalar.muli arg0 c512_i32
  let c395_i32 : BitVec 32 := 395#32
  let v2766 : BitVec 32 := Scalar.addi v0 c395_i32
  let v2767 : Index := Scalar.indexCast v2766
  ![v2767.toNat]
def k0_off792 (v2768 : BitVec 32) : Fin 2 → Nat :=
  let c0_i32_1187 : BitVec 32 := 0#32
  ![v2768.toNat, 0]

def k0_chk396 (v2768 : BitVec 32) : Prop :=
  (∀ a, (k0_off792 v2768) a + S1x768.size a ≤ S50257x768.size a)
theorem k0_off792_inb : ∀ (v2768 : BitVec 32) (k0_hw396 : k0_chk396 v2768), ∀ a, (k0_off792 v2768) a + S1x768.size a ≤ S50257x768.size a := fun v2768 k0_hw396 => k0_hw396

def k0_off793 (i : grid0.Coords) : Fin 1 → Nat :=
  let arg0 : BitVec 32 := BitVec.ofNat 32 (i 0).val
  let c512_i32 : BitVec 32 := 512#32
  let v0 : BitVec 32 := Scalar.muli arg0 c512_i32
  let c396_i32 : BitVec 32 := 396#32
  let v2773 : BitVec 32 := Scalar.addi v0 c396_i32
  let v2774 : Index := Scalar.indexCast v2773
  ![v2774.toNat]
def k0_off794 (v2775 : BitVec 32) : Fin 2 → Nat :=
  let c0_i32_1190 : BitVec 32 := 0#32
  ![v2775.toNat, 0]

def k0_chk397 (v2775 : BitVec 32) : Prop :=
  (∀ a, (k0_off794 v2775) a + S1x768.size a ≤ S50257x768.size a)
theorem k0_off794_inb : ∀ (v2775 : BitVec 32) (k0_hw397 : k0_chk397 v2775), ∀ a, (k0_off794 v2775) a + S1x768.size a ≤ S50257x768.size a := fun v2775 k0_hw397 => k0_hw397

def k0_off795 (i : grid0.Coords) : Fin 1 → Nat :=
  let arg0 : BitVec 32 := BitVec.ofNat 32 (i 0).val
  let c512_i32 : BitVec 32 := 512#32
  let v0 : BitVec 32 := Scalar.muli arg0 c512_i32
  let c397_i32 : BitVec 32 := 397#32
  let v2780 : BitVec 32 := Scalar.addi v0 c397_i32
  let v2781 : Index := Scalar.indexCast v2780
  ![v2781.toNat]
def k0_off796 (v2782 : BitVec 32) : Fin 2 → Nat :=
  let c0_i32_1193 : BitVec 32 := 0#32
  ![v2782.toNat, 0]

def k0_chk398 (v2782 : BitVec 32) : Prop :=
  (∀ a, (k0_off796 v2782) a + S1x768.size a ≤ S50257x768.size a)
theorem k0_off796_inb : ∀ (v2782 : BitVec 32) (k0_hw398 : k0_chk398 v2782), ∀ a, (k0_off796 v2782) a + S1x768.size a ≤ S50257x768.size a := fun v2782 k0_hw398 => k0_hw398

def k0_off797 (i : grid0.Coords) : Fin 1 → Nat :=
  let arg0 : BitVec 32 := BitVec.ofNat 32 (i 0).val
  let c512_i32 : BitVec 32 := 512#32
  let v0 : BitVec 32 := Scalar.muli arg0 c512_i32
  let c398_i32 : BitVec 32 := 398#32
  let v2787 : BitVec 32 := Scalar.addi v0 c398_i32
  let v2788 : Index := Scalar.indexCast v2787
  ![v2788.toNat]
def k0_off798 (v2789 : BitVec 32) : Fin 2 → Nat :=
  let c0_i32_1196 : BitVec 32 := 0#32
  ![v2789.toNat, 0]

def k0_chk399 (v2789 : BitVec 32) : Prop :=
  (∀ a, (k0_off798 v2789) a + S1x768.size a ≤ S50257x768.size a)
theorem k0_off798_inb : ∀ (v2789 : BitVec 32) (k0_hw399 : k0_chk399 v2789), ∀ a, (k0_off798 v2789) a + S1x768.size a ≤ S50257x768.size a := fun v2789 k0_hw399 => k0_hw399

def k0_off799 (i : grid0.Coords) : Fin 1 → Nat :=
  let arg0 : BitVec 32 := BitVec.ofNat 32 (i 0).val
  let c512_i32 : BitVec 32 := 512#32
  let v0 : BitVec 32 := Scalar.muli arg0 c512_i32
  let c399_i32 : BitVec 32 := 399#32
  let v2794 : BitVec 32 := Scalar.addi v0 c399_i32
  let v2795 : Index := Scalar.indexCast v2794
  ![v2795.toNat]
def k0_off800 (v2796 : BitVec 32) : Fin 2 → Nat :=
  let c0_i32_1199 : BitVec 32 := 0#32
  ![v2796.toNat, 0]

def k0_chk400 (v2796 : BitVec 32) : Prop :=
  (∀ a, (k0_off800 v2796) a + S1x768.size a ≤ S50257x768.size a)
theorem k0_off800_inb : ∀ (v2796 : BitVec 32) (k0_hw400 : k0_chk400 v2796), ∀ a, (k0_off800 v2796) a + S1x768.size a ≤ S50257x768.size a := fun v2796 k0_hw400 => k0_hw400

def k0_off801 (i : grid0.Coords) : Fin 1 → Nat :=
  let arg0 : BitVec 32 := BitVec.ofNat 32 (i 0).val
  let c512_i32 : BitVec 32 := 512#32
  let v0 : BitVec 32 := Scalar.muli arg0 c512_i32
  let c400_i32 : BitVec 32 := 400#32
  let v2801 : BitVec 32 := Scalar.addi v0 c400_i32
  let v2802 : Index := Scalar.indexCast v2801
  ![v2802.toNat]
def k0_off802 (v2803 : BitVec 32) : Fin 2 → Nat :=
  let c0_i32_1202 : BitVec 32 := 0#32
  ![v2803.toNat, 0]

def k0_chk401 (v2803 : BitVec 32) : Prop :=
  (∀ a, (k0_off802 v2803) a + S1x768.size a ≤ S50257x768.size a)
theorem k0_off802_inb : ∀ (v2803 : BitVec 32) (k0_hw401 : k0_chk401 v2803), ∀ a, (k0_off802 v2803) a + S1x768.size a ≤ S50257x768.size a := fun v2803 k0_hw401 => k0_hw401

def k0_off803 (i : grid0.Coords) : Fin 1 → Nat :=
  let arg0 : BitVec 32 := BitVec.ofNat 32 (i 0).val
  let c512_i32 : BitVec 32 := 512#32
  let v0 : BitVec 32 := Scalar.muli arg0 c512_i32
  let c401_i32 : BitVec 32 := 401#32
  let v2808 : BitVec 32 := Scalar.addi v0 c401_i32
  let v2809 : Index := Scalar.indexCast v2808
  ![v2809.toNat]
def k0_off804 (v2810 : BitVec 32) : Fin 2 → Nat :=
  let c0_i32_1205 : BitVec 32 := 0#32
  ![v2810.toNat, 0]

def k0_chk402 (v2810 : BitVec 32) : Prop :=
  (∀ a, (k0_off804 v2810) a + S1x768.size a ≤ S50257x768.size a)
theorem k0_off804_inb : ∀ (v2810 : BitVec 32) (k0_hw402 : k0_chk402 v2810), ∀ a, (k0_off804 v2810) a + S1x768.size a ≤ S50257x768.size a := fun v2810 k0_hw402 => k0_hw402

def k0_off805 (i : grid0.Coords) : Fin 1 → Nat :=
  let arg0 : BitVec 32 := BitVec.ofNat 32 (i 0).val
  let c512_i32 : BitVec 32 := 512#32
  let v0 : BitVec 32 := Scalar.muli arg0 c512_i32
  let c402_i32 : BitVec 32 := 402#32
  let v2815 : BitVec 32 := Scalar.addi v0 c402_i32
  let v2816 : Index := Scalar.indexCast v2815
  ![v2816.toNat]
def k0_off806 (v2817 : BitVec 32) : Fin 2 → Nat :=
  let c0_i32_1208 : BitVec 32 := 0#32
  ![v2817.toNat, 0]

def k0_chk403 (v2817 : BitVec 32) : Prop :=
  (∀ a, (k0_off806 v2817) a + S1x768.size a ≤ S50257x768.size a)
theorem k0_off806_inb : ∀ (v2817 : BitVec 32) (k0_hw403 : k0_chk403 v2817), ∀ a, (k0_off806 v2817) a + S1x768.size a ≤ S50257x768.size a := fun v2817 k0_hw403 => k0_hw403

def k0_off807 (i : grid0.Coords) : Fin 1 → Nat :=
  let arg0 : BitVec 32 := BitVec.ofNat 32 (i 0).val
  let c512_i32 : BitVec 32 := 512#32
  let v0 : BitVec 32 := Scalar.muli arg0 c512_i32
  let c403_i32 : BitVec 32 := 403#32
  let v2822 : BitVec 32 := Scalar.addi v0 c403_i32
  let v2823 : Index := Scalar.indexCast v2822
  ![v2823.toNat]
def k0_off808 (v2824 : BitVec 32) : Fin 2 → Nat :=
  let c0_i32_1211 : BitVec 32 := 0#32
  ![v2824.toNat, 0]

def k0_chk404 (v2824 : BitVec 32) : Prop :=
  (∀ a, (k0_off808 v2824) a + S1x768.size a ≤ S50257x768.size a)
theorem k0_off808_inb : ∀ (v2824 : BitVec 32) (k0_hw404 : k0_chk404 v2824), ∀ a, (k0_off808 v2824) a + S1x768.size a ≤ S50257x768.size a := fun v2824 k0_hw404 => k0_hw404

def k0_off809 (i : grid0.Coords) : Fin 1 → Nat :=
  let arg0 : BitVec 32 := BitVec.ofNat 32 (i 0).val
  let c512_i32 : BitVec 32 := 512#32
  let v0 : BitVec 32 := Scalar.muli arg0 c512_i32
  let c404_i32 : BitVec 32 := 404#32
  let v2829 : BitVec 32 := Scalar.addi v0 c404_i32
  let v2830 : Index := Scalar.indexCast v2829
  ![v2830.toNat]
def k0_off810 (v2831 : BitVec 32) : Fin 2 → Nat :=
  let c0_i32_1214 : BitVec 32 := 0#32
  ![v2831.toNat, 0]

def k0_chk405 (v2831 : BitVec 32) : Prop :=
  (∀ a, (k0_off810 v2831) a + S1x768.size a ≤ S50257x768.size a)
theorem k0_off810_inb : ∀ (v2831 : BitVec 32) (k0_hw405 : k0_chk405 v2831), ∀ a, (k0_off810 v2831) a + S1x768.size a ≤ S50257x768.size a := fun v2831 k0_hw405 => k0_hw405

def k0_off811 (i : grid0.Coords) : Fin 1 → Nat :=
  let arg0 : BitVec 32 := BitVec.ofNat 32 (i 0).val
  let c512_i32 : BitVec 32 := 512#32
  let v0 : BitVec 32 := Scalar.muli arg0 c512_i32
  let c405_i32 : BitVec 32 := 405#32
  let v2836 : BitVec 32 := Scalar.addi v0 c405_i32
  let v2837 : Index := Scalar.indexCast v2836
  ![v2837.toNat]
def k0_off812 (v2838 : BitVec 32) : Fin 2 → Nat :=
  let c0_i32_1217 : BitVec 32 := 0#32
  ![v2838.toNat, 0]

def k0_chk406 (v2838 : BitVec 32) : Prop :=
  (∀ a, (k0_off812 v2838) a + S1x768.size a ≤ S50257x768.size a)
theorem k0_off812_inb : ∀ (v2838 : BitVec 32) (k0_hw406 : k0_chk406 v2838), ∀ a, (k0_off812 v2838) a + S1x768.size a ≤ S50257x768.size a := fun v2838 k0_hw406 => k0_hw406

def k0_off813 (i : grid0.Coords) : Fin 1 → Nat :=
  let arg0 : BitVec 32 := BitVec.ofNat 32 (i 0).val
  let c512_i32 : BitVec 32 := 512#32
  let v0 : BitVec 32 := Scalar.muli arg0 c512_i32
  let c406_i32 : BitVec 32 := 406#32
  let v2843 : BitVec 32 := Scalar.addi v0 c406_i32
  let v2844 : Index := Scalar.indexCast v2843
  ![v2844.toNat]
def k0_off814 (v2845 : BitVec 32) : Fin 2 → Nat :=
  let c0_i32_1220 : BitVec 32 := 0#32
  ![v2845.toNat, 0]

def k0_chk407 (v2845 : BitVec 32) : Prop :=
  (∀ a, (k0_off814 v2845) a + S1x768.size a ≤ S50257x768.size a)
theorem k0_off814_inb : ∀ (v2845 : BitVec 32) (k0_hw407 : k0_chk407 v2845), ∀ a, (k0_off814 v2845) a + S1x768.size a ≤ S50257x768.size a := fun v2845 k0_hw407 => k0_hw407

def k0_off815 (i : grid0.Coords) : Fin 1 → Nat :=
  let arg0 : BitVec 32 := BitVec.ofNat 32 (i 0).val
  let c512_i32 : BitVec 32 := 512#32
  let v0 : BitVec 32 := Scalar.muli arg0 c512_i32
  let c407_i32 : BitVec 32 := 407#32
  let v2850 : BitVec 32 := Scalar.addi v0 c407_i32
  let v2851 : Index := Scalar.indexCast v2850
  ![v2851.toNat]
def k0_off816 (v2852 : BitVec 32) : Fin 2 → Nat :=
  let c0_i32_1223 : BitVec 32 := 0#32
  ![v2852.toNat, 0]

def k0_chk408 (v2852 : BitVec 32) : Prop :=
  (∀ a, (k0_off816 v2852) a + S1x768.size a ≤ S50257x768.size a)
theorem k0_off816_inb : ∀ (v2852 : BitVec 32) (k0_hw408 : k0_chk408 v2852), ∀ a, (k0_off816 v2852) a + S1x768.size a ≤ S50257x768.size a := fun v2852 k0_hw408 => k0_hw408

def k0_off817 (i : grid0.Coords) : Fin 1 → Nat :=
  let arg0 : BitVec 32 := BitVec.ofNat 32 (i 0).val
  let c512_i32 : BitVec 32 := 512#32
  let v0 : BitVec 32 := Scalar.muli arg0 c512_i32
  let c408_i32 : BitVec 32 := 408#32
  let v2857 : BitVec 32 := Scalar.addi v0 c408_i32
  let v2858 : Index := Scalar.indexCast v2857
  ![v2858.toNat]
def k0_off818 (v2859 : BitVec 32) : Fin 2 → Nat :=
  let c0_i32_1226 : BitVec 32 := 0#32
  ![v2859.toNat, 0]

def k0_chk409 (v2859 : BitVec 32) : Prop :=
  (∀ a, (k0_off818 v2859) a + S1x768.size a ≤ S50257x768.size a)
theorem k0_off818_inb : ∀ (v2859 : BitVec 32) (k0_hw409 : k0_chk409 v2859), ∀ a, (k0_off818 v2859) a + S1x768.size a ≤ S50257x768.size a := fun v2859 k0_hw409 => k0_hw409

def k0_off819 (i : grid0.Coords) : Fin 1 → Nat :=
  let arg0 : BitVec 32 := BitVec.ofNat 32 (i 0).val
  let c512_i32 : BitVec 32 := 512#32
  let v0 : BitVec 32 := Scalar.muli arg0 c512_i32
  let c409_i32 : BitVec 32 := 409#32
  let v2864 : BitVec 32 := Scalar.addi v0 c409_i32
  let v2865 : Index := Scalar.indexCast v2864
  ![v2865.toNat]
def k0_off820 (v2866 : BitVec 32) : Fin 2 → Nat :=
  let c0_i32_1229 : BitVec 32 := 0#32
  ![v2866.toNat, 0]

def k0_chk410 (v2866 : BitVec 32) : Prop :=
  (∀ a, (k0_off820 v2866) a + S1x768.size a ≤ S50257x768.size a)
theorem k0_off820_inb : ∀ (v2866 : BitVec 32) (k0_hw410 : k0_chk410 v2866), ∀ a, (k0_off820 v2866) a + S1x768.size a ≤ S50257x768.size a := fun v2866 k0_hw410 => k0_hw410

def k0_off821 (i : grid0.Coords) : Fin 1 → Nat :=
  let arg0 : BitVec 32 := BitVec.ofNat 32 (i 0).val
  let c512_i32 : BitVec 32 := 512#32
  let v0 : BitVec 32 := Scalar.muli arg0 c512_i32
  let c410_i32 : BitVec 32 := 410#32
  let v2871 : BitVec 32 := Scalar.addi v0 c410_i32
  let v2872 : Index := Scalar.indexCast v2871
  ![v2872.toNat]
def k0_off822 (v2873 : BitVec 32) : Fin 2 → Nat :=
  let c0_i32_1232 : BitVec 32 := 0#32
  ![v2873.toNat, 0]

def k0_chk411 (v2873 : BitVec 32) : Prop :=
  (∀ a, (k0_off822 v2873) a + S1x768.size a ≤ S50257x768.size a)
theorem k0_off822_inb : ∀ (v2873 : BitVec 32) (k0_hw411 : k0_chk411 v2873), ∀ a, (k0_off822 v2873) a + S1x768.size a ≤ S50257x768.size a := fun v2873 k0_hw411 => k0_hw411

def k0_off823 (i : grid0.Coords) : Fin 1 → Nat :=
  let arg0 : BitVec 32 := BitVec.ofNat 32 (i 0).val
  let c512_i32 : BitVec 32 := 512#32
  let v0 : BitVec 32 := Scalar.muli arg0 c512_i32
  let c411_i32 : BitVec 32 := 411#32
  let v2878 : BitVec 32 := Scalar.addi v0 c411_i32
  let v2879 : Index := Scalar.indexCast v2878
  ![v2879.toNat]
def k0_off824 (v2880 : BitVec 32) : Fin 2 → Nat :=
  let c0_i32_1235 : BitVec 32 := 0#32
  ![v2880.toNat, 0]

def k0_chk412 (v2880 : BitVec 32) : Prop :=
  (∀ a, (k0_off824 v2880) a + S1x768.size a ≤ S50257x768.size a)
theorem k0_off824_inb : ∀ (v2880 : BitVec 32) (k0_hw412 : k0_chk412 v2880), ∀ a, (k0_off824 v2880) a + S1x768.size a ≤ S50257x768.size a := fun v2880 k0_hw412 => k0_hw412

def k0_off825 (i : grid0.Coords) : Fin 1 → Nat :=
  let arg0 : BitVec 32 := BitVec.ofNat 32 (i 0).val
  let c512_i32 : BitVec 32 := 512#32
  let v0 : BitVec 32 := Scalar.muli arg0 c512_i32
  let c412_i32 : BitVec 32 := 412#32
  let v2885 : BitVec 32 := Scalar.addi v0 c412_i32
  let v2886 : Index := Scalar.indexCast v2885
  ![v2886.toNat]
def k0_off826 (v2887 : BitVec 32) : Fin 2 → Nat :=
  let c0_i32_1238 : BitVec 32 := 0#32
  ![v2887.toNat, 0]

def k0_chk413 (v2887 : BitVec 32) : Prop :=
  (∀ a, (k0_off826 v2887) a + S1x768.size a ≤ S50257x768.size a)
theorem k0_off826_inb : ∀ (v2887 : BitVec 32) (k0_hw413 : k0_chk413 v2887), ∀ a, (k0_off826 v2887) a + S1x768.size a ≤ S50257x768.size a := fun v2887 k0_hw413 => k0_hw413

def k0_off827 (i : grid0.Coords) : Fin 1 → Nat :=
  let arg0 : BitVec 32 := BitVec.ofNat 32 (i 0).val
  let c512_i32 : BitVec 32 := 512#32
  let v0 : BitVec 32 := Scalar.muli arg0 c512_i32
  let c413_i32 : BitVec 32 := 413#32
  let v2892 : BitVec 32 := Scalar.addi v0 c413_i32
  let v2893 : Index := Scalar.indexCast v2892
  ![v2893.toNat]
def k0_off828 (v2894 : BitVec 32) : Fin 2 → Nat :=
  let c0_i32_1241 : BitVec 32 := 0#32
  ![v2894.toNat, 0]

def k0_chk414 (v2894 : BitVec 32) : Prop :=
  (∀ a, (k0_off828 v2894) a + S1x768.size a ≤ S50257x768.size a)
theorem k0_off828_inb : ∀ (v2894 : BitVec 32) (k0_hw414 : k0_chk414 v2894), ∀ a, (k0_off828 v2894) a + S1x768.size a ≤ S50257x768.size a := fun v2894 k0_hw414 => k0_hw414

def k0_off829 (i : grid0.Coords) : Fin 1 → Nat :=
  let arg0 : BitVec 32 := BitVec.ofNat 32 (i 0).val
  let c512_i32 : BitVec 32 := 512#32
  let v0 : BitVec 32 := Scalar.muli arg0 c512_i32
  let c414_i32 : BitVec 32 := 414#32
  let v2899 : BitVec 32 := Scalar.addi v0 c414_i32
  let v2900 : Index := Scalar.indexCast v2899
  ![v2900.toNat]
def k0_off830 (v2901 : BitVec 32) : Fin 2 → Nat :=
  let c0_i32_1244 : BitVec 32 := 0#32
  ![v2901.toNat, 0]

def k0_chk415 (v2901 : BitVec 32) : Prop :=
  (∀ a, (k0_off830 v2901) a + S1x768.size a ≤ S50257x768.size a)
theorem k0_off830_inb : ∀ (v2901 : BitVec 32) (k0_hw415 : k0_chk415 v2901), ∀ a, (k0_off830 v2901) a + S1x768.size a ≤ S50257x768.size a := fun v2901 k0_hw415 => k0_hw415

def k0_off831 (i : grid0.Coords) : Fin 1 → Nat :=
  let arg0 : BitVec 32 := BitVec.ofNat 32 (i 0).val
  let c512_i32 : BitVec 32 := 512#32
  let v0 : BitVec 32 := Scalar.muli arg0 c512_i32
  let c415_i32 : BitVec 32 := 415#32
  let v2906 : BitVec 32 := Scalar.addi v0 c415_i32
  let v2907 : Index := Scalar.indexCast v2906
  ![v2907.toNat]
def k0_off832 (v2908 : BitVec 32) : Fin 2 → Nat :=
  let c0_i32_1247 : BitVec 32 := 0#32
  ![v2908.toNat, 0]

def k0_chk416 (v2908 : BitVec 32) : Prop :=
  (∀ a, (k0_off832 v2908) a + S1x768.size a ≤ S50257x768.size a)
theorem k0_off832_inb : ∀ (v2908 : BitVec 32) (k0_hw416 : k0_chk416 v2908), ∀ a, (k0_off832 v2908) a + S1x768.size a ≤ S50257x768.size a := fun v2908 k0_hw416 => k0_hw416

def k0_off833 (i : grid0.Coords) : Fin 1 → Nat :=
  let arg0 : BitVec 32 := BitVec.ofNat 32 (i 0).val
  let c512_i32 : BitVec 32 := 512#32
  let v0 : BitVec 32 := Scalar.muli arg0 c512_i32
  let c416_i32 : BitVec 32 := 416#32
  let v2913 : BitVec 32 := Scalar.addi v0 c416_i32
  let v2914 : Index := Scalar.indexCast v2913
  ![v2914.toNat]
def k0_off834 (v2915 : BitVec 32) : Fin 2 → Nat :=
  let c0_i32_1250 : BitVec 32 := 0#32
  ![v2915.toNat, 0]

def k0_chk417 (v2915 : BitVec 32) : Prop :=
  (∀ a, (k0_off834 v2915) a + S1x768.size a ≤ S50257x768.size a)
theorem k0_off834_inb : ∀ (v2915 : BitVec 32) (k0_hw417 : k0_chk417 v2915), ∀ a, (k0_off834 v2915) a + S1x768.size a ≤ S50257x768.size a := fun v2915 k0_hw417 => k0_hw417

def k0_off835 (i : grid0.Coords) : Fin 1 → Nat :=
  let arg0 : BitVec 32 := BitVec.ofNat 32 (i 0).val
  let c512_i32 : BitVec 32 := 512#32
  let v0 : BitVec 32 := Scalar.muli arg0 c512_i32
  let c417_i32 : BitVec 32 := 417#32
  let v2920 : BitVec 32 := Scalar.addi v0 c417_i32
  let v2921 : Index := Scalar.indexCast v2920
  ![v2921.toNat]
def k0_off836 (v2922 : BitVec 32) : Fin 2 → Nat :=
  let c0_i32_1253 : BitVec 32 := 0#32
  ![v2922.toNat, 0]

def k0_chk418 (v2922 : BitVec 32) : Prop :=
  (∀ a, (k0_off836 v2922) a + S1x768.size a ≤ S50257x768.size a)
theorem k0_off836_inb : ∀ (v2922 : BitVec 32) (k0_hw418 : k0_chk418 v2922), ∀ a, (k0_off836 v2922) a + S1x768.size a ≤ S50257x768.size a := fun v2922 k0_hw418 => k0_hw418

def k0_off837 (i : grid0.Coords) : Fin 1 → Nat :=
  let arg0 : BitVec 32 := BitVec.ofNat 32 (i 0).val
  let c512_i32 : BitVec 32 := 512#32
  let v0 : BitVec 32 := Scalar.muli arg0 c512_i32
  let c418_i32 : BitVec 32 := 418#32
  let v2927 : BitVec 32 := Scalar.addi v0 c418_i32
  let v2928 : Index := Scalar.indexCast v2927
  ![v2928.toNat]
def k0_off838 (v2929 : BitVec 32) : Fin 2 → Nat :=
  let c0_i32_1256 : BitVec 32 := 0#32
  ![v2929.toNat, 0]

def k0_chk419 (v2929 : BitVec 32) : Prop :=
  (∀ a, (k0_off838 v2929) a + S1x768.size a ≤ S50257x768.size a)
theorem k0_off838_inb : ∀ (v2929 : BitVec 32) (k0_hw419 : k0_chk419 v2929), ∀ a, (k0_off838 v2929) a + S1x768.size a ≤ S50257x768.size a := fun v2929 k0_hw419 => k0_hw419

def k0_off839 (i : grid0.Coords) : Fin 1 → Nat :=
  let arg0 : BitVec 32 := BitVec.ofNat 32 (i 0).val
  let c512_i32 : BitVec 32 := 512#32
  let v0 : BitVec 32 := Scalar.muli arg0 c512_i32
  let c419_i32 : BitVec 32 := 419#32
  let v2934 : BitVec 32 := Scalar.addi v0 c419_i32
  let v2935 : Index := Scalar.indexCast v2934
  ![v2935.toNat]
def k0_off840 (v2936 : BitVec 32) : Fin 2 → Nat :=
  let c0_i32_1259 : BitVec 32 := 0#32
  ![v2936.toNat, 0]

def k0_chk420 (v2936 : BitVec 32) : Prop :=
  (∀ a, (k0_off840 v2936) a + S1x768.size a ≤ S50257x768.size a)
theorem k0_off840_inb : ∀ (v2936 : BitVec 32) (k0_hw420 : k0_chk420 v2936), ∀ a, (k0_off840 v2936) a + S1x768.size a ≤ S50257x768.size a := fun v2936 k0_hw420 => k0_hw420

def k0_off841 (i : grid0.Coords) : Fin 1 → Nat :=
  let arg0 : BitVec 32 := BitVec.ofNat 32 (i 0).val
  let c512_i32 : BitVec 32 := 512#32
  let v0 : BitVec 32 := Scalar.muli arg0 c512_i32
  let c420_i32 : BitVec 32 := 420#32
  let v2941 : BitVec 32 := Scalar.addi v0 c420_i32
  let v2942 : Index := Scalar.indexCast v2941
  ![v2942.toNat]
def k0_off842 (v2943 : BitVec 32) : Fin 2 → Nat :=
  let c0_i32_1262 : BitVec 32 := 0#32
  ![v2943.toNat, 0]

def k0_chk421 (v2943 : BitVec 32) : Prop :=
  (∀ a, (k0_off842 v2943) a + S1x768.size a ≤ S50257x768.size a)
theorem k0_off842_inb : ∀ (v2943 : BitVec 32) (k0_hw421 : k0_chk421 v2943), ∀ a, (k0_off842 v2943) a + S1x768.size a ≤ S50257x768.size a := fun v2943 k0_hw421 => k0_hw421

def k0_off843 (i : grid0.Coords) : Fin 1 → Nat :=
  let arg0 : BitVec 32 := BitVec.ofNat 32 (i 0).val
  let c512_i32 : BitVec 32 := 512#32
  let v0 : BitVec 32 := Scalar.muli arg0 c512_i32
  let c421_i32 : BitVec 32 := 421#32
  let v2948 : BitVec 32 := Scalar.addi v0 c421_i32
  let v2949 : Index := Scalar.indexCast v2948
  ![v2949.toNat]
def k0_off844 (v2950 : BitVec 32) : Fin 2 → Nat :=
  let c0_i32_1265 : BitVec 32 := 0#32
  ![v2950.toNat, 0]

def k0_chk422 (v2950 : BitVec 32) : Prop :=
  (∀ a, (k0_off844 v2950) a + S1x768.size a ≤ S50257x768.size a)
theorem k0_off844_inb : ∀ (v2950 : BitVec 32) (k0_hw422 : k0_chk422 v2950), ∀ a, (k0_off844 v2950) a + S1x768.size a ≤ S50257x768.size a := fun v2950 k0_hw422 => k0_hw422

def k0_off845 (i : grid0.Coords) : Fin 1 → Nat :=
  let arg0 : BitVec 32 := BitVec.ofNat 32 (i 0).val
  let c512_i32 : BitVec 32 := 512#32
  let v0 : BitVec 32 := Scalar.muli arg0 c512_i32
  let c422_i32 : BitVec 32 := 422#32
  let v2955 : BitVec 32 := Scalar.addi v0 c422_i32
  let v2956 : Index := Scalar.indexCast v2955
  ![v2956.toNat]
def k0_off846 (v2957 : BitVec 32) : Fin 2 → Nat :=
  let c0_i32_1268 : BitVec 32 := 0#32
  ![v2957.toNat, 0]

def k0_chk423 (v2957 : BitVec 32) : Prop :=
  (∀ a, (k0_off846 v2957) a + S1x768.size a ≤ S50257x768.size a)
theorem k0_off846_inb : ∀ (v2957 : BitVec 32) (k0_hw423 : k0_chk423 v2957), ∀ a, (k0_off846 v2957) a + S1x768.size a ≤ S50257x768.size a := fun v2957 k0_hw423 => k0_hw423

def k0_off847 (i : grid0.Coords) : Fin 1 → Nat :=
  let arg0 : BitVec 32 := BitVec.ofNat 32 (i 0).val
  let c512_i32 : BitVec 32 := 512#32
  let v0 : BitVec 32 := Scalar.muli arg0 c512_i32
  let c423_i32 : BitVec 32 := 423#32
  let v2962 : BitVec 32 := Scalar.addi v0 c423_i32
  let v2963 : Index := Scalar.indexCast v2962
  ![v2963.toNat]
def k0_off848 (v2964 : BitVec 32) : Fin 2 → Nat :=
  let c0_i32_1271 : BitVec 32 := 0#32
  ![v2964.toNat, 0]

def k0_chk424 (v2964 : BitVec 32) : Prop :=
  (∀ a, (k0_off848 v2964) a + S1x768.size a ≤ S50257x768.size a)
theorem k0_off848_inb : ∀ (v2964 : BitVec 32) (k0_hw424 : k0_chk424 v2964), ∀ a, (k0_off848 v2964) a + S1x768.size a ≤ S50257x768.size a := fun v2964 k0_hw424 => k0_hw424

def k0_off849 (i : grid0.Coords) : Fin 1 → Nat :=
  let arg0 : BitVec 32 := BitVec.ofNat 32 (i 0).val
  let c512_i32 : BitVec 32 := 512#32
  let v0 : BitVec 32 := Scalar.muli arg0 c512_i32
  let c424_i32 : BitVec 32 := 424#32
  let v2969 : BitVec 32 := Scalar.addi v0 c424_i32
  let v2970 : Index := Scalar.indexCast v2969
  ![v2970.toNat]
def k0_off850 (v2971 : BitVec 32) : Fin 2 → Nat :=
  let c0_i32_1274 : BitVec 32 := 0#32
  ![v2971.toNat, 0]

def k0_chk425 (v2971 : BitVec 32) : Prop :=
  (∀ a, (k0_off850 v2971) a + S1x768.size a ≤ S50257x768.size a)
theorem k0_off850_inb : ∀ (v2971 : BitVec 32) (k0_hw425 : k0_chk425 v2971), ∀ a, (k0_off850 v2971) a + S1x768.size a ≤ S50257x768.size a := fun v2971 k0_hw425 => k0_hw425

def k0_off851 (i : grid0.Coords) : Fin 1 → Nat :=
  let arg0 : BitVec 32 := BitVec.ofNat 32 (i 0).val
  let c512_i32 : BitVec 32 := 512#32
  let v0 : BitVec 32 := Scalar.muli arg0 c512_i32
  let c425_i32 : BitVec 32 := 425#32
  let v2976 : BitVec 32 := Scalar.addi v0 c425_i32
  let v2977 : Index := Scalar.indexCast v2976
  ![v2977.toNat]
def k0_off852 (v2978 : BitVec 32) : Fin 2 → Nat :=
  let c0_i32_1277 : BitVec 32 := 0#32
  ![v2978.toNat, 0]

def k0_chk426 (v2978 : BitVec 32) : Prop :=
  (∀ a, (k0_off852 v2978) a + S1x768.size a ≤ S50257x768.size a)
theorem k0_off852_inb : ∀ (v2978 : BitVec 32) (k0_hw426 : k0_chk426 v2978), ∀ a, (k0_off852 v2978) a + S1x768.size a ≤ S50257x768.size a := fun v2978 k0_hw426 => k0_hw426

def k0_off853 (i : grid0.Coords) : Fin 1 → Nat :=
  let arg0 : BitVec 32 := BitVec.ofNat 32 (i 0).val
  let c512_i32 : BitVec 32 := 512#32
  let v0 : BitVec 32 := Scalar.muli arg0 c512_i32
  let c426_i32 : BitVec 32 := 426#32
  let v2983 : BitVec 32 := Scalar.addi v0 c426_i32
  let v2984 : Index := Scalar.indexCast v2983
  ![v2984.toNat]
def k0_off854 (v2985 : BitVec 32) : Fin 2 → Nat :=
  let c0_i32_1280 : BitVec 32 := 0#32
  ![v2985.toNat, 0]

def k0_chk427 (v2985 : BitVec 32) : Prop :=
  (∀ a, (k0_off854 v2985) a + S1x768.size a ≤ S50257x768.size a)
theorem k0_off854_inb : ∀ (v2985 : BitVec 32) (k0_hw427 : k0_chk427 v2985), ∀ a, (k0_off854 v2985) a + S1x768.size a ≤ S50257x768.size a := fun v2985 k0_hw427 => k0_hw427

def k0_off855 (i : grid0.Coords) : Fin 1 → Nat :=
  let arg0 : BitVec 32 := BitVec.ofNat 32 (i 0).val
  let c512_i32 : BitVec 32 := 512#32
  let v0 : BitVec 32 := Scalar.muli arg0 c512_i32
  let c427_i32 : BitVec 32 := 427#32
  let v2990 : BitVec 32 := Scalar.addi v0 c427_i32
  let v2991 : Index := Scalar.indexCast v2990
  ![v2991.toNat]
def k0_off856 (v2992 : BitVec 32) : Fin 2 → Nat :=
  let c0_i32_1283 : BitVec 32 := 0#32
  ![v2992.toNat, 0]

def k0_chk428 (v2992 : BitVec 32) : Prop :=
  (∀ a, (k0_off856 v2992) a + S1x768.size a ≤ S50257x768.size a)
theorem k0_off856_inb : ∀ (v2992 : BitVec 32) (k0_hw428 : k0_chk428 v2992), ∀ a, (k0_off856 v2992) a + S1x768.size a ≤ S50257x768.size a := fun v2992 k0_hw428 => k0_hw428

def k0_off857 (i : grid0.Coords) : Fin 1 → Nat :=
  let arg0 : BitVec 32 := BitVec.ofNat 32 (i 0).val
  let c512_i32 : BitVec 32 := 512#32
  let v0 : BitVec 32 := Scalar.muli arg0 c512_i32
  let c428_i32 : BitVec 32 := 428#32
  let v2997 : BitVec 32 := Scalar.addi v0 c428_i32
  let v2998 : Index := Scalar.indexCast v2997
  ![v2998.toNat]
def k0_off858 (v2999 : BitVec 32) : Fin 2 → Nat :=
  let c0_i32_1286 : BitVec 32 := 0#32
  ![v2999.toNat, 0]

def k0_chk429 (v2999 : BitVec 32) : Prop :=
  (∀ a, (k0_off858 v2999) a + S1x768.size a ≤ S50257x768.size a)
theorem k0_off858_inb : ∀ (v2999 : BitVec 32) (k0_hw429 : k0_chk429 v2999), ∀ a, (k0_off858 v2999) a + S1x768.size a ≤ S50257x768.size a := fun v2999 k0_hw429 => k0_hw429

def k0_off859 (i : grid0.Coords) : Fin 1 → Nat :=
  let arg0 : BitVec 32 := BitVec.ofNat 32 (i 0).val
  let c512_i32 : BitVec 32 := 512#32
  let v0 : BitVec 32 := Scalar.muli arg0 c512_i32
  let c429_i32 : BitVec 32 := 429#32
  let v3004 : BitVec 32 := Scalar.addi v0 c429_i32
  let v3005 : Index := Scalar.indexCast v3004
  ![v3005.toNat]
def k0_off860 (v3006 : BitVec 32) : Fin 2 → Nat :=
  let c0_i32_1289 : BitVec 32 := 0#32
  ![v3006.toNat, 0]

def k0_chk430 (v3006 : BitVec 32) : Prop :=
  (∀ a, (k0_off860 v3006) a + S1x768.size a ≤ S50257x768.size a)
theorem k0_off860_inb : ∀ (v3006 : BitVec 32) (k0_hw430 : k0_chk430 v3006), ∀ a, (k0_off860 v3006) a + S1x768.size a ≤ S50257x768.size a := fun v3006 k0_hw430 => k0_hw430

def k0_off861 (i : grid0.Coords) : Fin 1 → Nat :=
  let arg0 : BitVec 32 := BitVec.ofNat 32 (i 0).val
  let c512_i32 : BitVec 32 := 512#32
  let v0 : BitVec 32 := Scalar.muli arg0 c512_i32
  let c430_i32 : BitVec 32 := 430#32
  let v3011 : BitVec 32 := Scalar.addi v0 c430_i32
  let v3012 : Index := Scalar.indexCast v3011
  ![v3012.toNat]
def k0_off862 (v3013 : BitVec 32) : Fin 2 → Nat :=
  let c0_i32_1292 : BitVec 32 := 0#32
  ![v3013.toNat, 0]

def k0_chk431 (v3013 : BitVec 32) : Prop :=
  (∀ a, (k0_off862 v3013) a + S1x768.size a ≤ S50257x768.size a)
theorem k0_off862_inb : ∀ (v3013 : BitVec 32) (k0_hw431 : k0_chk431 v3013), ∀ a, (k0_off862 v3013) a + S1x768.size a ≤ S50257x768.size a := fun v3013 k0_hw431 => k0_hw431

def k0_off863 (i : grid0.Coords) : Fin 1 → Nat :=
  let arg0 : BitVec 32 := BitVec.ofNat 32 (i 0).val
  let c512_i32 : BitVec 32 := 512#32
  let v0 : BitVec 32 := Scalar.muli arg0 c512_i32
  let c431_i32 : BitVec 32 := 431#32
  let v3018 : BitVec 32 := Scalar.addi v0 c431_i32
  let v3019 : Index := Scalar.indexCast v3018
  ![v3019.toNat]
def k0_off864 (v3020 : BitVec 32) : Fin 2 → Nat :=
  let c0_i32_1295 : BitVec 32 := 0#32
  ![v3020.toNat, 0]

def k0_chk432 (v3020 : BitVec 32) : Prop :=
  (∀ a, (k0_off864 v3020) a + S1x768.size a ≤ S50257x768.size a)
theorem k0_off864_inb : ∀ (v3020 : BitVec 32) (k0_hw432 : k0_chk432 v3020), ∀ a, (k0_off864 v3020) a + S1x768.size a ≤ S50257x768.size a := fun v3020 k0_hw432 => k0_hw432

def k0_off865 (i : grid0.Coords) : Fin 1 → Nat :=
  let arg0 : BitVec 32 := BitVec.ofNat 32 (i 0).val
  let c512_i32 : BitVec 32 := 512#32
  let v0 : BitVec 32 := Scalar.muli arg0 c512_i32
  let c432_i32 : BitVec 32 := 432#32
  let v3025 : BitVec 32 := Scalar.addi v0 c432_i32
  let v3026 : Index := Scalar.indexCast v3025
  ![v3026.toNat]
def k0_off866 (v3027 : BitVec 32) : Fin 2 → Nat :=
  let c0_i32_1298 : BitVec 32 := 0#32
  ![v3027.toNat, 0]

def k0_chk433 (v3027 : BitVec 32) : Prop :=
  (∀ a, (k0_off866 v3027) a + S1x768.size a ≤ S50257x768.size a)
theorem k0_off866_inb : ∀ (v3027 : BitVec 32) (k0_hw433 : k0_chk433 v3027), ∀ a, (k0_off866 v3027) a + S1x768.size a ≤ S50257x768.size a := fun v3027 k0_hw433 => k0_hw433

def k0_off867 (i : grid0.Coords) : Fin 1 → Nat :=
  let arg0 : BitVec 32 := BitVec.ofNat 32 (i 0).val
  let c512_i32 : BitVec 32 := 512#32
  let v0 : BitVec 32 := Scalar.muli arg0 c512_i32
  let c433_i32 : BitVec 32 := 433#32
  let v3032 : BitVec 32 := Scalar.addi v0 c433_i32
  let v3033 : Index := Scalar.indexCast v3032
  ![v3033.toNat]
def k0_off868 (v3034 : BitVec 32) : Fin 2 → Nat :=
  let c0_i32_1301 : BitVec 32 := 0#32
  ![v3034.toNat, 0]

def k0_chk434 (v3034 : BitVec 32) : Prop :=
  (∀ a, (k0_off868 v3034) a + S1x768.size a ≤ S50257x768.size a)
theorem k0_off868_inb : ∀ (v3034 : BitVec 32) (k0_hw434 : k0_chk434 v3034), ∀ a, (k0_off868 v3034) a + S1x768.size a ≤ S50257x768.size a := fun v3034 k0_hw434 => k0_hw434

def k0_off869 (i : grid0.Coords) : Fin 1 → Nat :=
  let arg0 : BitVec 32 := BitVec.ofNat 32 (i 0).val
  let c512_i32 : BitVec 32 := 512#32
  let v0 : BitVec 32 := Scalar.muli arg0 c512_i32
  let c434_i32 : BitVec 32 := 434#32
  let v3039 : BitVec 32 := Scalar.addi v0 c434_i32
  let v3040 : Index := Scalar.indexCast v3039
  ![v3040.toNat]
def k0_off870 (v3041 : BitVec 32) : Fin 2 → Nat :=
  let c0_i32_1304 : BitVec 32 := 0#32
  ![v3041.toNat, 0]

def k0_chk435 (v3041 : BitVec 32) : Prop :=
  (∀ a, (k0_off870 v3041) a + S1x768.size a ≤ S50257x768.size a)
theorem k0_off870_inb : ∀ (v3041 : BitVec 32) (k0_hw435 : k0_chk435 v3041), ∀ a, (k0_off870 v3041) a + S1x768.size a ≤ S50257x768.size a := fun v3041 k0_hw435 => k0_hw435

def k0_off871 (i : grid0.Coords) : Fin 1 → Nat :=
  let arg0 : BitVec 32 := BitVec.ofNat 32 (i 0).val
  let c512_i32 : BitVec 32 := 512#32
  let v0 : BitVec 32 := Scalar.muli arg0 c512_i32
  let c435_i32 : BitVec 32 := 435#32
  let v3046 : BitVec 32 := Scalar.addi v0 c435_i32
  let v3047 : Index := Scalar.indexCast v3046
  ![v3047.toNat]
def k0_off872 (v3048 : BitVec 32) : Fin 2 → Nat :=
  let c0_i32_1307 : BitVec 32 := 0#32
  ![v3048.toNat, 0]

def k0_chk436 (v3048 : BitVec 32) : Prop :=
  (∀ a, (k0_off872 v3048) a + S1x768.size a ≤ S50257x768.size a)
theorem k0_off872_inb : ∀ (v3048 : BitVec 32) (k0_hw436 : k0_chk436 v3048), ∀ a, (k0_off872 v3048) a + S1x768.size a ≤ S50257x768.size a := fun v3048 k0_hw436 => k0_hw436

def k0_off873 (i : grid0.Coords) : Fin 1 → Nat :=
  let arg0 : BitVec 32 := BitVec.ofNat 32 (i 0).val
  let c512_i32 : BitVec 32 := 512#32
  let v0 : BitVec 32 := Scalar.muli arg0 c512_i32
  let c436_i32 : BitVec 32 := 436#32
  let v3053 : BitVec 32 := Scalar.addi v0 c436_i32
  let v3054 : Index := Scalar.indexCast v3053
  ![v3054.toNat]
def k0_off874 (v3055 : BitVec 32) : Fin 2 → Nat :=
  let c0_i32_1310 : BitVec 32 := 0#32
  ![v3055.toNat, 0]

def k0_chk437 (v3055 : BitVec 32) : Prop :=
  (∀ a, (k0_off874 v3055) a + S1x768.size a ≤ S50257x768.size a)
theorem k0_off874_inb : ∀ (v3055 : BitVec 32) (k0_hw437 : k0_chk437 v3055), ∀ a, (k0_off874 v3055) a + S1x768.size a ≤ S50257x768.size a := fun v3055 k0_hw437 => k0_hw437

def k0_off875 (i : grid0.Coords) : Fin 1 → Nat :=
  let arg0 : BitVec 32 := BitVec.ofNat 32 (i 0).val
  let c512_i32 : BitVec 32 := 512#32
  let v0 : BitVec 32 := Scalar.muli arg0 c512_i32
  let c437_i32 : BitVec 32 := 437#32
  let v3060 : BitVec 32 := Scalar.addi v0 c437_i32
  let v3061 : Index := Scalar.indexCast v3060
  ![v3061.toNat]
def k0_off876 (v3062 : BitVec 32) : Fin 2 → Nat :=
  let c0_i32_1313 : BitVec 32 := 0#32
  ![v3062.toNat, 0]

def k0_chk438 (v3062 : BitVec 32) : Prop :=
  (∀ a, (k0_off876 v3062) a + S1x768.size a ≤ S50257x768.size a)
theorem k0_off876_inb : ∀ (v3062 : BitVec 32) (k0_hw438 : k0_chk438 v3062), ∀ a, (k0_off876 v3062) a + S1x768.size a ≤ S50257x768.size a := fun v3062 k0_hw438 => k0_hw438

def k0_off877 (i : grid0.Coords) : Fin 1 → Nat :=
  let arg0 : BitVec 32 := BitVec.ofNat 32 (i 0).val
  let c512_i32 : BitVec 32 := 512#32
  let v0 : BitVec 32 := Scalar.muli arg0 c512_i32
  let c438_i32 : BitVec 32 := 438#32
  let v3067 : BitVec 32 := Scalar.addi v0 c438_i32
  let v3068 : Index := Scalar.indexCast v3067
  ![v3068.toNat]
def k0_off878 (v3069 : BitVec 32) : Fin 2 → Nat :=
  let c0_i32_1316 : BitVec 32 := 0#32
  ![v3069.toNat, 0]

def k0_chk439 (v3069 : BitVec 32) : Prop :=
  (∀ a, (k0_off878 v3069) a + S1x768.size a ≤ S50257x768.size a)
theorem k0_off878_inb : ∀ (v3069 : BitVec 32) (k0_hw439 : k0_chk439 v3069), ∀ a, (k0_off878 v3069) a + S1x768.size a ≤ S50257x768.size a := fun v3069 k0_hw439 => k0_hw439

def k0_off879 (i : grid0.Coords) : Fin 1 → Nat :=
  let arg0 : BitVec 32 := BitVec.ofNat 32 (i 0).val
  let c512_i32 : BitVec 32 := 512#32
  let v0 : BitVec 32 := Scalar.muli arg0 c512_i32
  let c439_i32 : BitVec 32 := 439#32
  let v3074 : BitVec 32 := Scalar.addi v0 c439_i32
  let v3075 : Index := Scalar.indexCast v3074
  ![v3075.toNat]
def k0_off880 (v3076 : BitVec 32) : Fin 2 → Nat :=
  let c0_i32_1319 : BitVec 32 := 0#32
  ![v3076.toNat, 0]

def k0_chk440 (v3076 : BitVec 32) : Prop :=
  (∀ a, (k0_off880 v3076) a + S1x768.size a ≤ S50257x768.size a)
theorem k0_off880_inb : ∀ (v3076 : BitVec 32) (k0_hw440 : k0_chk440 v3076), ∀ a, (k0_off880 v3076) a + S1x768.size a ≤ S50257x768.size a := fun v3076 k0_hw440 => k0_hw440

def k0_off881 (i : grid0.Coords) : Fin 1 → Nat :=
  let arg0 : BitVec 32 := BitVec.ofNat 32 (i 0).val
  let c512_i32 : BitVec 32 := 512#32
  let v0 : BitVec 32 := Scalar.muli arg0 c512_i32
  let c440_i32 : BitVec 32 := 440#32
  let v3081 : BitVec 32 := Scalar.addi v0 c440_i32
  let v3082 : Index := Scalar.indexCast v3081
  ![v3082.toNat]
def k0_off882 (v3083 : BitVec 32) : Fin 2 → Nat :=
  let c0_i32_1322 : BitVec 32 := 0#32
  ![v3083.toNat, 0]

def k0_chk441 (v3083 : BitVec 32) : Prop :=
  (∀ a, (k0_off882 v3083) a + S1x768.size a ≤ S50257x768.size a)
theorem k0_off882_inb : ∀ (v3083 : BitVec 32) (k0_hw441 : k0_chk441 v3083), ∀ a, (k0_off882 v3083) a + S1x768.size a ≤ S50257x768.size a := fun v3083 k0_hw441 => k0_hw441

def k0_off883 (i : grid0.Coords) : Fin 1 → Nat :=
  let arg0 : BitVec 32 := BitVec.ofNat 32 (i 0).val
  let c512_i32 : BitVec 32 := 512#32
  let v0 : BitVec 32 := Scalar.muli arg0 c512_i32
  let c441_i32 : BitVec 32 := 441#32
  let v3088 : BitVec 32 := Scalar.addi v0 c441_i32
  let v3089 : Index := Scalar.indexCast v3088
  ![v3089.toNat]
def k0_off884 (v3090 : BitVec 32) : Fin 2 → Nat :=
  let c0_i32_1325 : BitVec 32 := 0#32
  ![v3090.toNat, 0]

def k0_chk442 (v3090 : BitVec 32) : Prop :=
  (∀ a, (k0_off884 v3090) a + S1x768.size a ≤ S50257x768.size a)
theorem k0_off884_inb : ∀ (v3090 : BitVec 32) (k0_hw442 : k0_chk442 v3090), ∀ a, (k0_off884 v3090) a + S1x768.size a ≤ S50257x768.size a := fun v3090 k0_hw442 => k0_hw442

def k0_off885 (i : grid0.Coords) : Fin 1 → Nat :=
  let arg0 : BitVec 32 := BitVec.ofNat 32 (i 0).val
  let c512_i32 : BitVec 32 := 512#32
  let v0 : BitVec 32 := Scalar.muli arg0 c512_i32
  let c442_i32 : BitVec 32 := 442#32
  let v3095 : BitVec 32 := Scalar.addi v0 c442_i32
  let v3096 : Index := Scalar.indexCast v3095
  ![v3096.toNat]
def k0_off886 (v3097 : BitVec 32) : Fin 2 → Nat :=
  let c0_i32_1328 : BitVec 32 := 0#32
  ![v3097.toNat, 0]

def k0_chk443 (v3097 : BitVec 32) : Prop :=
  (∀ a, (k0_off886 v3097) a + S1x768.size a ≤ S50257x768.size a)
theorem k0_off886_inb : ∀ (v3097 : BitVec 32) (k0_hw443 : k0_chk443 v3097), ∀ a, (k0_off886 v3097) a + S1x768.size a ≤ S50257x768.size a := fun v3097 k0_hw443 => k0_hw443

def k0_off887 (i : grid0.Coords) : Fin 1 → Nat :=
  let arg0 : BitVec 32 := BitVec.ofNat 32 (i 0).val
  let c512_i32 : BitVec 32 := 512#32
  let v0 : BitVec 32 := Scalar.muli arg0 c512_i32
  let c443_i32 : BitVec 32 := 443#32
  let v3102 : BitVec 32 := Scalar.addi v0 c443_i32
  let v3103 : Index := Scalar.indexCast v3102
  ![v3103.toNat]
def k0_off888 (v3104 : BitVec 32) : Fin 2 → Nat :=
  let c0_i32_1331 : BitVec 32 := 0#32
  ![v3104.toNat, 0]

def k0_chk444 (v3104 : BitVec 32) : Prop :=
  (∀ a, (k0_off888 v3104) a + S1x768.size a ≤ S50257x768.size a)
theorem k0_off888_inb : ∀ (v3104 : BitVec 32) (k0_hw444 : k0_chk444 v3104), ∀ a, (k0_off888 v3104) a + S1x768.size a ≤ S50257x768.size a := fun v3104 k0_hw444 => k0_hw444

def k0_off889 (i : grid0.Coords) : Fin 1 → Nat :=
  let arg0 : BitVec 32 := BitVec.ofNat 32 (i 0).val
  let c512_i32 : BitVec 32 := 512#32
  let v0 : BitVec 32 := Scalar.muli arg0 c512_i32
  let c444_i32 : BitVec 32 := 444#32
  let v3109 : BitVec 32 := Scalar.addi v0 c444_i32
  let v3110 : Index := Scalar.indexCast v3109
  ![v3110.toNat]
def k0_off890 (v3111 : BitVec 32) : Fin 2 → Nat :=
  let c0_i32_1334 : BitVec 32 := 0#32
  ![v3111.toNat, 0]

def k0_chk445 (v3111 : BitVec 32) : Prop :=
  (∀ a, (k0_off890 v3111) a + S1x768.size a ≤ S50257x768.size a)
theorem k0_off890_inb : ∀ (v3111 : BitVec 32) (k0_hw445 : k0_chk445 v3111), ∀ a, (k0_off890 v3111) a + S1x768.size a ≤ S50257x768.size a := fun v3111 k0_hw445 => k0_hw445

def k0_off891 (i : grid0.Coords) : Fin 1 → Nat :=
  let arg0 : BitVec 32 := BitVec.ofNat 32 (i 0).val
  let c512_i32 : BitVec 32 := 512#32
  let v0 : BitVec 32 := Scalar.muli arg0 c512_i32
  let c445_i32 : BitVec 32 := 445#32
  let v3116 : BitVec 32 := Scalar.addi v0 c445_i32
  let v3117 : Index := Scalar.indexCast v3116
  ![v3117.toNat]
def k0_off892 (v3118 : BitVec 32) : Fin 2 → Nat :=
  let c0_i32_1337 : BitVec 32 := 0#32
  ![v3118.toNat, 0]

def k0_chk446 (v3118 : BitVec 32) : Prop :=
  (∀ a, (k0_off892 v3118) a + S1x768.size a ≤ S50257x768.size a)
theorem k0_off892_inb : ∀ (v3118 : BitVec 32) (k0_hw446 : k0_chk446 v3118), ∀ a, (k0_off892 v3118) a + S1x768.size a ≤ S50257x768.size a := fun v3118 k0_hw446 => k0_hw446

def k0_off893 (i : grid0.Coords) : Fin 1 → Nat :=
  let arg0 : BitVec 32 := BitVec.ofNat 32 (i 0).val
  let c512_i32 : BitVec 32 := 512#32
  let v0 : BitVec 32 := Scalar.muli arg0 c512_i32
  let c446_i32 : BitVec 32 := 446#32
  let v3123 : BitVec 32 := Scalar.addi v0 c446_i32
  let v3124 : Index := Scalar.indexCast v3123
  ![v3124.toNat]
def k0_off894 (v3125 : BitVec 32) : Fin 2 → Nat :=
  let c0_i32_1340 : BitVec 32 := 0#32
  ![v3125.toNat, 0]

def k0_chk447 (v3125 : BitVec 32) : Prop :=
  (∀ a, (k0_off894 v3125) a + S1x768.size a ≤ S50257x768.size a)
theorem k0_off894_inb : ∀ (v3125 : BitVec 32) (k0_hw447 : k0_chk447 v3125), ∀ a, (k0_off894 v3125) a + S1x768.size a ≤ S50257x768.size a := fun v3125 k0_hw447 => k0_hw447

def k0_off895 (i : grid0.Coords) : Fin 1 → Nat :=
  let arg0 : BitVec 32 := BitVec.ofNat 32 (i 0).val
  let c512_i32 : BitVec 32 := 512#32
  let v0 : BitVec 32 := Scalar.muli arg0 c512_i32
  let c447_i32 : BitVec 32 := 447#32
  let v3130 : BitVec 32 := Scalar.addi v0 c447_i32
  let v3131 : Index := Scalar.indexCast v3130
  ![v3131.toNat]
def k0_off896 (v3132 : BitVec 32) : Fin 2 → Nat :=
  let c0_i32_1343 : BitVec 32 := 0#32
  ![v3132.toNat, 0]

def k0_chk448 (v3132 : BitVec 32) : Prop :=
  (∀ a, (k0_off896 v3132) a + S1x768.size a ≤ S50257x768.size a)
theorem k0_off896_inb : ∀ (v3132 : BitVec 32) (k0_hw448 : k0_chk448 v3132), ∀ a, (k0_off896 v3132) a + S1x768.size a ≤ S50257x768.size a := fun v3132 k0_hw448 => k0_hw448

def k0_off897 (i : grid0.Coords) : Fin 1 → Nat :=
  let arg0 : BitVec 32 := BitVec.ofNat 32 (i 0).val
  let c512_i32 : BitVec 32 := 512#32
  let v0 : BitVec 32 := Scalar.muli arg0 c512_i32
  let c448_i32 : BitVec 32 := 448#32
  let v3137 : BitVec 32 := Scalar.addi v0 c448_i32
  let v3138 : Index := Scalar.indexCast v3137
  ![v3138.toNat]
def k0_off898 (v3139 : BitVec 32) : Fin 2 → Nat :=
  let c0_i32_1346 : BitVec 32 := 0#32
  ![v3139.toNat, 0]

def k0_chk449 (v3139 : BitVec 32) : Prop :=
  (∀ a, (k0_off898 v3139) a + S1x768.size a ≤ S50257x768.size a)
theorem k0_off898_inb : ∀ (v3139 : BitVec 32) (k0_hw449 : k0_chk449 v3139), ∀ a, (k0_off898 v3139) a + S1x768.size a ≤ S50257x768.size a := fun v3139 k0_hw449 => k0_hw449

def k0_off899 (i : grid0.Coords) : Fin 1 → Nat :=
  let arg0 : BitVec 32 := BitVec.ofNat 32 (i 0).val
  let c512_i32 : BitVec 32 := 512#32
  let v0 : BitVec 32 := Scalar.muli arg0 c512_i32
  let c449_i32 : BitVec 32 := 449#32
  let v3144 : BitVec 32 := Scalar.addi v0 c449_i32
  let v3145 : Index := Scalar.indexCast v3144
  ![v3145.toNat]
def k0_off900 (v3146 : BitVec 32) : Fin 2 → Nat :=
  let c0_i32_1349 : BitVec 32 := 0#32
  ![v3146.toNat, 0]

def k0_chk450 (v3146 : BitVec 32) : Prop :=
  (∀ a, (k0_off900 v3146) a + S1x768.size a ≤ S50257x768.size a)
theorem k0_off900_inb : ∀ (v3146 : BitVec 32) (k0_hw450 : k0_chk450 v3146), ∀ a, (k0_off900 v3146) a + S1x768.size a ≤ S50257x768.size a := fun v3146 k0_hw450 => k0_hw450

def k0_off901 (i : grid0.Coords) : Fin 1 → Nat :=
  let arg0 : BitVec 32 := BitVec.ofNat 32 (i 0).val
  let c512_i32 : BitVec 32 := 512#32
  let v0 : BitVec 32 := Scalar.muli arg0 c512_i32
  let c450_i32 : BitVec 32 := 450#32
  let v3151 : BitVec 32 := Scalar.addi v0 c450_i32
  let v3152 : Index := Scalar.indexCast v3151
  ![v3152.toNat]
def k0_off902 (v3153 : BitVec 32) : Fin 2 → Nat :=
  let c0_i32_1352 : BitVec 32 := 0#32
  ![v3153.toNat, 0]

def k0_chk451 (v3153 : BitVec 32) : Prop :=
  (∀ a, (k0_off902 v3153) a + S1x768.size a ≤ S50257x768.size a)
theorem k0_off902_inb : ∀ (v3153 : BitVec 32) (k0_hw451 : k0_chk451 v3153), ∀ a, (k0_off902 v3153) a + S1x768.size a ≤ S50257x768.size a := fun v3153 k0_hw451 => k0_hw451

def k0_off903 (i : grid0.Coords) : Fin 1 → Nat :=
  let arg0 : BitVec 32 := BitVec.ofNat 32 (i 0).val
  let c512_i32 : BitVec 32 := 512#32
  let v0 : BitVec 32 := Scalar.muli arg0 c512_i32
  let c451_i32 : BitVec 32 := 451#32
  let v3158 : BitVec 32 := Scalar.addi v0 c451_i32
  let v3159 : Index := Scalar.indexCast v3158
  ![v3159.toNat]
def k0_off904 (v3160 : BitVec 32) : Fin 2 → Nat :=
  let c0_i32_1355 : BitVec 32 := 0#32
  ![v3160.toNat, 0]

def k0_chk452 (v3160 : BitVec 32) : Prop :=
  (∀ a, (k0_off904 v3160) a + S1x768.size a ≤ S50257x768.size a)
theorem k0_off904_inb : ∀ (v3160 : BitVec 32) (k0_hw452 : k0_chk452 v3160), ∀ a, (k0_off904 v3160) a + S1x768.size a ≤ S50257x768.size a := fun v3160 k0_hw452 => k0_hw452

def k0_off905 (i : grid0.Coords) : Fin 1 → Nat :=
  let arg0 : BitVec 32 := BitVec.ofNat 32 (i 0).val
  let c512_i32 : BitVec 32 := 512#32
  let v0 : BitVec 32 := Scalar.muli arg0 c512_i32
  let c452_i32 : BitVec 32 := 452#32
  let v3165 : BitVec 32 := Scalar.addi v0 c452_i32
  let v3166 : Index := Scalar.indexCast v3165
  ![v3166.toNat]
def k0_off906 (v3167 : BitVec 32) : Fin 2 → Nat :=
  let c0_i32_1358 : BitVec 32 := 0#32
  ![v3167.toNat, 0]

def k0_chk453 (v3167 : BitVec 32) : Prop :=
  (∀ a, (k0_off906 v3167) a + S1x768.size a ≤ S50257x768.size a)
theorem k0_off906_inb : ∀ (v3167 : BitVec 32) (k0_hw453 : k0_chk453 v3167), ∀ a, (k0_off906 v3167) a + S1x768.size a ≤ S50257x768.size a := fun v3167 k0_hw453 => k0_hw453

def k0_off907 (i : grid0.Coords) : Fin 1 → Nat :=
  let arg0 : BitVec 32 := BitVec.ofNat 32 (i 0).val
  let c512_i32 : BitVec 32 := 512#32
  let v0 : BitVec 32 := Scalar.muli arg0 c512_i32
  let c453_i32 : BitVec 32 := 453#32
  let v3172 : BitVec 32 := Scalar.addi v0 c453_i32
  let v3173 : Index := Scalar.indexCast v3172
  ![v3173.toNat]
def k0_off908 (v3174 : BitVec 32) : Fin 2 → Nat :=
  let c0_i32_1361 : BitVec 32 := 0#32
  ![v3174.toNat, 0]

def k0_chk454 (v3174 : BitVec 32) : Prop :=
  (∀ a, (k0_off908 v3174) a + S1x768.size a ≤ S50257x768.size a)
theorem k0_off908_inb : ∀ (v3174 : BitVec 32) (k0_hw454 : k0_chk454 v3174), ∀ a, (k0_off908 v3174) a + S1x768.size a ≤ S50257x768.size a := fun v3174 k0_hw454 => k0_hw454

def k0_off909 (i : grid0.Coords) : Fin 1 → Nat :=
  let arg0 : BitVec 32 := BitVec.ofNat 32 (i 0).val
  let c512_i32 : BitVec 32 := 512#32
  let v0 : BitVec 32 := Scalar.muli arg0 c512_i32
  let c454_i32 : BitVec 32 := 454#32
  let v3179 : BitVec 32 := Scalar.addi v0 c454_i32
  let v3180 : Index := Scalar.indexCast v3179
  ![v3180.toNat]
def k0_off910 (v3181 : BitVec 32) : Fin 2 → Nat :=
  let c0_i32_1364 : BitVec 32 := 0#32
  ![v3181.toNat, 0]

def k0_chk455 (v3181 : BitVec 32) : Prop :=
  (∀ a, (k0_off910 v3181) a + S1x768.size a ≤ S50257x768.size a)
theorem k0_off910_inb : ∀ (v3181 : BitVec 32) (k0_hw455 : k0_chk455 v3181), ∀ a, (k0_off910 v3181) a + S1x768.size a ≤ S50257x768.size a := fun v3181 k0_hw455 => k0_hw455

def k0_off911 (i : grid0.Coords) : Fin 1 → Nat :=
  let arg0 : BitVec 32 := BitVec.ofNat 32 (i 0).val
  let c512_i32 : BitVec 32 := 512#32
  let v0 : BitVec 32 := Scalar.muli arg0 c512_i32
  let c455_i32 : BitVec 32 := 455#32
  let v3186 : BitVec 32 := Scalar.addi v0 c455_i32
  let v3187 : Index := Scalar.indexCast v3186
  ![v3187.toNat]
def k0_off912 (v3188 : BitVec 32) : Fin 2 → Nat :=
  let c0_i32_1367 : BitVec 32 := 0#32
  ![v3188.toNat, 0]

def k0_chk456 (v3188 : BitVec 32) : Prop :=
  (∀ a, (k0_off912 v3188) a + S1x768.size a ≤ S50257x768.size a)
theorem k0_off912_inb : ∀ (v3188 : BitVec 32) (k0_hw456 : k0_chk456 v3188), ∀ a, (k0_off912 v3188) a + S1x768.size a ≤ S50257x768.size a := fun v3188 k0_hw456 => k0_hw456

def k0_off913 (i : grid0.Coords) : Fin 1 → Nat :=
  let arg0 : BitVec 32 := BitVec.ofNat 32 (i 0).val
  let c512_i32 : BitVec 32 := 512#32
  let v0 : BitVec 32 := Scalar.muli arg0 c512_i32
  let c456_i32 : BitVec 32 := 456#32
  let v3193 : BitVec 32 := Scalar.addi v0 c456_i32
  let v3194 : Index := Scalar.indexCast v3193
  ![v3194.toNat]
def k0_off914 (v3195 : BitVec 32) : Fin 2 → Nat :=
  let c0_i32_1370 : BitVec 32 := 0#32
  ![v3195.toNat, 0]

def k0_chk457 (v3195 : BitVec 32) : Prop :=
  (∀ a, (k0_off914 v3195) a + S1x768.size a ≤ S50257x768.size a)
theorem k0_off914_inb : ∀ (v3195 : BitVec 32) (k0_hw457 : k0_chk457 v3195), ∀ a, (k0_off914 v3195) a + S1x768.size a ≤ S50257x768.size a := fun v3195 k0_hw457 => k0_hw457

def k0_off915 (i : grid0.Coords) : Fin 1 → Nat :=
  let arg0 : BitVec 32 := BitVec.ofNat 32 (i 0).val
  let c512_i32 : BitVec 32 := 512#32
  let v0 : BitVec 32 := Scalar.muli arg0 c512_i32
  let c457_i32 : BitVec 32 := 457#32
  let v3200 : BitVec 32 := Scalar.addi v0 c457_i32
  let v3201 : Index := Scalar.indexCast v3200
  ![v3201.toNat]
def k0_off916 (v3202 : BitVec 32) : Fin 2 → Nat :=
  let c0_i32_1373 : BitVec 32 := 0#32
  ![v3202.toNat, 0]

def k0_chk458 (v3202 : BitVec 32) : Prop :=
  (∀ a, (k0_off916 v3202) a + S1x768.size a ≤ S50257x768.size a)
theorem k0_off916_inb : ∀ (v3202 : BitVec 32) (k0_hw458 : k0_chk458 v3202), ∀ a, (k0_off916 v3202) a + S1x768.size a ≤ S50257x768.size a := fun v3202 k0_hw458 => k0_hw458

def k0_off917 (i : grid0.Coords) : Fin 1 → Nat :=
  let arg0 : BitVec 32 := BitVec.ofNat 32 (i 0).val
  let c512_i32 : BitVec 32 := 512#32
  let v0 : BitVec 32 := Scalar.muli arg0 c512_i32
  let c458_i32 : BitVec 32 := 458#32
  let v3207 : BitVec 32 := Scalar.addi v0 c458_i32
  let v3208 : Index := Scalar.indexCast v3207
  ![v3208.toNat]
def k0_off918 (v3209 : BitVec 32) : Fin 2 → Nat :=
  let c0_i32_1376 : BitVec 32 := 0#32
  ![v3209.toNat, 0]

def k0_chk459 (v3209 : BitVec 32) : Prop :=
  (∀ a, (k0_off918 v3209) a + S1x768.size a ≤ S50257x768.size a)
theorem k0_off918_inb : ∀ (v3209 : BitVec 32) (k0_hw459 : k0_chk459 v3209), ∀ a, (k0_off918 v3209) a + S1x768.size a ≤ S50257x768.size a := fun v3209 k0_hw459 => k0_hw459

def k0_off919 (i : grid0.Coords) : Fin 1 → Nat :=
  let arg0 : BitVec 32 := BitVec.ofNat 32 (i 0).val
  let c512_i32 : BitVec 32 := 512#32
  let v0 : BitVec 32 := Scalar.muli arg0 c512_i32
  let c459_i32 : BitVec 32 := 459#32
  let v3214 : BitVec 32 := Scalar.addi v0 c459_i32
  let v3215 : Index := Scalar.indexCast v3214
  ![v3215.toNat]
def k0_off920 (v3216 : BitVec 32) : Fin 2 → Nat :=
  let c0_i32_1379 : BitVec 32 := 0#32
  ![v3216.toNat, 0]

def k0_chk460 (v3216 : BitVec 32) : Prop :=
  (∀ a, (k0_off920 v3216) a + S1x768.size a ≤ S50257x768.size a)
theorem k0_off920_inb : ∀ (v3216 : BitVec 32) (k0_hw460 : k0_chk460 v3216), ∀ a, (k0_off920 v3216) a + S1x768.size a ≤ S50257x768.size a := fun v3216 k0_hw460 => k0_hw460

def k0_off921 (i : grid0.Coords) : Fin 1 → Nat :=
  let arg0 : BitVec 32 := BitVec.ofNat 32 (i 0).val
  let c512_i32 : BitVec 32 := 512#32
  let v0 : BitVec 32 := Scalar.muli arg0 c512_i32
  let c460_i32 : BitVec 32 := 460#32
  let v3221 : BitVec 32 := Scalar.addi v0 c460_i32
  let v3222 : Index := Scalar.indexCast v3221
  ![v3222.toNat]
def k0_off922 (v3223 : BitVec 32) : Fin 2 → Nat :=
  let c0_i32_1382 : BitVec 32 := 0#32
  ![v3223.toNat, 0]

def k0_chk461 (v3223 : BitVec 32) : Prop :=
  (∀ a, (k0_off922 v3223) a + S1x768.size a ≤ S50257x768.size a)
theorem k0_off922_inb : ∀ (v3223 : BitVec 32) (k0_hw461 : k0_chk461 v3223), ∀ a, (k0_off922 v3223) a + S1x768.size a ≤ S50257x768.size a := fun v3223 k0_hw461 => k0_hw461

def k0_off923 (i : grid0.Coords) : Fin 1 → Nat :=
  let arg0 : BitVec 32 := BitVec.ofNat 32 (i 0).val
  let c512_i32 : BitVec 32 := 512#32
  let v0 : BitVec 32 := Scalar.muli arg0 c512_i32
  let c461_i32 : BitVec 32 := 461#32
  let v3228 : BitVec 32 := Scalar.addi v0 c461_i32
  let v3229 : Index := Scalar.indexCast v3228
  ![v3229.toNat]
def k0_off924 (v3230 : BitVec 32) : Fin 2 → Nat :=
  let c0_i32_1385 : BitVec 32 := 0#32
  ![v3230.toNat, 0]

def k0_chk462 (v3230 : BitVec 32) : Prop :=
  (∀ a, (k0_off924 v3230) a + S1x768.size a ≤ S50257x768.size a)
theorem k0_off924_inb : ∀ (v3230 : BitVec 32) (k0_hw462 : k0_chk462 v3230), ∀ a, (k0_off924 v3230) a + S1x768.size a ≤ S50257x768.size a := fun v3230 k0_hw462 => k0_hw462

def k0_off925 (i : grid0.Coords) : Fin 1 → Nat :=
  let arg0 : BitVec 32 := BitVec.ofNat 32 (i 0).val
  let c512_i32 : BitVec 32 := 512#32
  let v0 : BitVec 32 := Scalar.muli arg0 c512_i32
  let c462_i32 : BitVec 32 := 462#32
  let v3235 : BitVec 32 := Scalar.addi v0 c462_i32
  let v3236 : Index := Scalar.indexCast v3235
  ![v3236.toNat]
def k0_off926 (v3237 : BitVec 32) : Fin 2 → Nat :=
  let c0_i32_1388 : BitVec 32 := 0#32
  ![v3237.toNat, 0]

def k0_chk463 (v3237 : BitVec 32) : Prop :=
  (∀ a, (k0_off926 v3237) a + S1x768.size a ≤ S50257x768.size a)
theorem k0_off926_inb : ∀ (v3237 : BitVec 32) (k0_hw463 : k0_chk463 v3237), ∀ a, (k0_off926 v3237) a + S1x768.size a ≤ S50257x768.size a := fun v3237 k0_hw463 => k0_hw463

def k0_off927 (i : grid0.Coords) : Fin 1 → Nat :=
  let arg0 : BitVec 32 := BitVec.ofNat 32 (i 0).val
  let c512_i32 : BitVec 32 := 512#32
  let v0 : BitVec 32 := Scalar.muli arg0 c512_i32
  let c463_i32 : BitVec 32 := 463#32
  let v3242 : BitVec 32 := Scalar.addi v0 c463_i32
  let v3243 : Index := Scalar.indexCast v3242
  ![v3243.toNat]
def k0_off928 (v3244 : BitVec 32) : Fin 2 → Nat :=
  let c0_i32_1391 : BitVec 32 := 0#32
  ![v3244.toNat, 0]

def k0_chk464 (v3244 : BitVec 32) : Prop :=
  (∀ a, (k0_off928 v3244) a + S1x768.size a ≤ S50257x768.size a)
theorem k0_off928_inb : ∀ (v3244 : BitVec 32) (k0_hw464 : k0_chk464 v3244), ∀ a, (k0_off928 v3244) a + S1x768.size a ≤ S50257x768.size a := fun v3244 k0_hw464 => k0_hw464

def k0_off929 (i : grid0.Coords) : Fin 1 → Nat :=
  let arg0 : BitVec 32 := BitVec.ofNat 32 (i 0).val
  let c512_i32 : BitVec 32 := 512#32
  let v0 : BitVec 32 := Scalar.muli arg0 c512_i32
  let c464_i32 : BitVec 32 := 464#32
  let v3249 : BitVec 32 := Scalar.addi v0 c464_i32
  let v3250 : Index := Scalar.indexCast v3249
  ![v3250.toNat]
def k0_off930 (v3251 : BitVec 32) : Fin 2 → Nat :=
  let c0_i32_1394 : BitVec 32 := 0#32
  ![v3251.toNat, 0]

def k0_chk465 (v3251 : BitVec 32) : Prop :=
  (∀ a, (k0_off930 v3251) a + S1x768.size a ≤ S50257x768.size a)
theorem k0_off930_inb : ∀ (v3251 : BitVec 32) (k0_hw465 : k0_chk465 v3251), ∀ a, (k0_off930 v3251) a + S1x768.size a ≤ S50257x768.size a := fun v3251 k0_hw465 => k0_hw465

def k0_off931 (i : grid0.Coords) : Fin 1 → Nat :=
  let arg0 : BitVec 32 := BitVec.ofNat 32 (i 0).val
  let c512_i32 : BitVec 32 := 512#32
  let v0 : BitVec 32 := Scalar.muli arg0 c512_i32
  let c465_i32 : BitVec 32 := 465#32
  let v3256 : BitVec 32 := Scalar.addi v0 c465_i32
  let v3257 : Index := Scalar.indexCast v3256
  ![v3257.toNat]
def k0_off932 (v3258 : BitVec 32) : Fin 2 → Nat :=
  let c0_i32_1397 : BitVec 32 := 0#32
  ![v3258.toNat, 0]

def k0_chk466 (v3258 : BitVec 32) : Prop :=
  (∀ a, (k0_off932 v3258) a + S1x768.size a ≤ S50257x768.size a)
theorem k0_off932_inb : ∀ (v3258 : BitVec 32) (k0_hw466 : k0_chk466 v3258), ∀ a, (k0_off932 v3258) a + S1x768.size a ≤ S50257x768.size a := fun v3258 k0_hw466 => k0_hw466

def k0_off933 (i : grid0.Coords) : Fin 1 → Nat :=
  let arg0 : BitVec 32 := BitVec.ofNat 32 (i 0).val
  let c512_i32 : BitVec 32 := 512#32
  let v0 : BitVec 32 := Scalar.muli arg0 c512_i32
  let c466_i32 : BitVec 32 := 466#32
  let v3263 : BitVec 32 := Scalar.addi v0 c466_i32
  let v3264 : Index := Scalar.indexCast v3263
  ![v3264.toNat]
def k0_off934 (v3265 : BitVec 32) : Fin 2 → Nat :=
  let c0_i32_1400 : BitVec 32 := 0#32
  ![v3265.toNat, 0]

def k0_chk467 (v3265 : BitVec 32) : Prop :=
  (∀ a, (k0_off934 v3265) a + S1x768.size a ≤ S50257x768.size a)
theorem k0_off934_inb : ∀ (v3265 : BitVec 32) (k0_hw467 : k0_chk467 v3265), ∀ a, (k0_off934 v3265) a + S1x768.size a ≤ S50257x768.size a := fun v3265 k0_hw467 => k0_hw467

def k0_off935 (i : grid0.Coords) : Fin 1 → Nat :=
  let arg0 : BitVec 32 := BitVec.ofNat 32 (i 0).val
  let c512_i32 : BitVec 32 := 512#32
  let v0 : BitVec 32 := Scalar.muli arg0 c512_i32
  let c467_i32 : BitVec 32 := 467#32
  let v3270 : BitVec 32 := Scalar.addi v0 c467_i32
  let v3271 : Index := Scalar.indexCast v3270
  ![v3271.toNat]
def k0_off936 (v3272 : BitVec 32) : Fin 2 → Nat :=
  let c0_i32_1403 : BitVec 32 := 0#32
  ![v3272.toNat, 0]

def k0_chk468 (v3272 : BitVec 32) : Prop :=
  (∀ a, (k0_off936 v3272) a + S1x768.size a ≤ S50257x768.size a)
theorem k0_off936_inb : ∀ (v3272 : BitVec 32) (k0_hw468 : k0_chk468 v3272), ∀ a, (k0_off936 v3272) a + S1x768.size a ≤ S50257x768.size a := fun v3272 k0_hw468 => k0_hw468

def k0_off937 (i : grid0.Coords) : Fin 1 → Nat :=
  let arg0 : BitVec 32 := BitVec.ofNat 32 (i 0).val
  let c512_i32 : BitVec 32 := 512#32
  let v0 : BitVec 32 := Scalar.muli arg0 c512_i32
  let c468_i32 : BitVec 32 := 468#32
  let v3277 : BitVec 32 := Scalar.addi v0 c468_i32
  let v3278 : Index := Scalar.indexCast v3277
  ![v3278.toNat]
def k0_off938 (v3279 : BitVec 32) : Fin 2 → Nat :=
  let c0_i32_1406 : BitVec 32 := 0#32
  ![v3279.toNat, 0]

def k0_chk469 (v3279 : BitVec 32) : Prop :=
  (∀ a, (k0_off938 v3279) a + S1x768.size a ≤ S50257x768.size a)
theorem k0_off938_inb : ∀ (v3279 : BitVec 32) (k0_hw469 : k0_chk469 v3279), ∀ a, (k0_off938 v3279) a + S1x768.size a ≤ S50257x768.size a := fun v3279 k0_hw469 => k0_hw469

def k0_off939 (i : grid0.Coords) : Fin 1 → Nat :=
  let arg0 : BitVec 32 := BitVec.ofNat 32 (i 0).val
  let c512_i32 : BitVec 32 := 512#32
  let v0 : BitVec 32 := Scalar.muli arg0 c512_i32
  let c469_i32 : BitVec 32 := 469#32
  let v3284 : BitVec 32 := Scalar.addi v0 c469_i32
  let v3285 : Index := Scalar.indexCast v3284
  ![v3285.toNat]
def k0_off940 (v3286 : BitVec 32) : Fin 2 → Nat :=
  let c0_i32_1409 : BitVec 32 := 0#32
  ![v3286.toNat, 0]

def k0_chk470 (v3286 : BitVec 32) : Prop :=
  (∀ a, (k0_off940 v3286) a + S1x768.size a ≤ S50257x768.size a)
theorem k0_off940_inb : ∀ (v3286 : BitVec 32) (k0_hw470 : k0_chk470 v3286), ∀ a, (k0_off940 v3286) a + S1x768.size a ≤ S50257x768.size a := fun v3286 k0_hw470 => k0_hw470

def k0_off941 (i : grid0.Coords) : Fin 1 → Nat :=
  let arg0 : BitVec 32 := BitVec.ofNat 32 (i 0).val
  let c512_i32 : BitVec 32 := 512#32
  let v0 : BitVec 32 := Scalar.muli arg0 c512_i32
  let c470_i32 : BitVec 32 := 470#32
  let v3291 : BitVec 32 := Scalar.addi v0 c470_i32
  let v3292 : Index := Scalar.indexCast v3291
  ![v3292.toNat]
def k0_off942 (v3293 : BitVec 32) : Fin 2 → Nat :=
  let c0_i32_1412 : BitVec 32 := 0#32
  ![v3293.toNat, 0]

def k0_chk471 (v3293 : BitVec 32) : Prop :=
  (∀ a, (k0_off942 v3293) a + S1x768.size a ≤ S50257x768.size a)
theorem k0_off942_inb : ∀ (v3293 : BitVec 32) (k0_hw471 : k0_chk471 v3293), ∀ a, (k0_off942 v3293) a + S1x768.size a ≤ S50257x768.size a := fun v3293 k0_hw471 => k0_hw471

def k0_off943 (i : grid0.Coords) : Fin 1 → Nat :=
  let arg0 : BitVec 32 := BitVec.ofNat 32 (i 0).val
  let c512_i32 : BitVec 32 := 512#32
  let v0 : BitVec 32 := Scalar.muli arg0 c512_i32
  let c471_i32 : BitVec 32 := 471#32
  let v3298 : BitVec 32 := Scalar.addi v0 c471_i32
  let v3299 : Index := Scalar.indexCast v3298
  ![v3299.toNat]
def k0_off944 (v3300 : BitVec 32) : Fin 2 → Nat :=
  let c0_i32_1415 : BitVec 32 := 0#32
  ![v3300.toNat, 0]

def k0_chk472 (v3300 : BitVec 32) : Prop :=
  (∀ a, (k0_off944 v3300) a + S1x768.size a ≤ S50257x768.size a)
theorem k0_off944_inb : ∀ (v3300 : BitVec 32) (k0_hw472 : k0_chk472 v3300), ∀ a, (k0_off944 v3300) a + S1x768.size a ≤ S50257x768.size a := fun v3300 k0_hw472 => k0_hw472

def k0_off945 (i : grid0.Coords) : Fin 1 → Nat :=
  let arg0 : BitVec 32 := BitVec.ofNat 32 (i 0).val
  let c512_i32 : BitVec 32 := 512#32
  let v0 : BitVec 32 := Scalar.muli arg0 c512_i32
  let c472_i32 : BitVec 32 := 472#32
  let v3305 : BitVec 32 := Scalar.addi v0 c472_i32
  let v3306 : Index := Scalar.indexCast v3305
  ![v3306.toNat]
def k0_off946 (v3307 : BitVec 32) : Fin 2 → Nat :=
  let c0_i32_1418 : BitVec 32 := 0#32
  ![v3307.toNat, 0]

def k0_chk473 (v3307 : BitVec 32) : Prop :=
  (∀ a, (k0_off946 v3307) a + S1x768.size a ≤ S50257x768.size a)
theorem k0_off946_inb : ∀ (v3307 : BitVec 32) (k0_hw473 : k0_chk473 v3307), ∀ a, (k0_off946 v3307) a + S1x768.size a ≤ S50257x768.size a := fun v3307 k0_hw473 => k0_hw473

def k0_off947 (i : grid0.Coords) : Fin 1 → Nat :=
  let arg0 : BitVec 32 := BitVec.ofNat 32 (i 0).val
  let c512_i32 : BitVec 32 := 512#32
  let v0 : BitVec 32 := Scalar.muli arg0 c512_i32
  let c473_i32 : BitVec 32 := 473#32
  let v3312 : BitVec 32 := Scalar.addi v0 c473_i32
  let v3313 : Index := Scalar.indexCast v3312
  ![v3313.toNat]
def k0_off948 (v3314 : BitVec 32) : Fin 2 → Nat :=
  let c0_i32_1421 : BitVec 32 := 0#32
  ![v3314.toNat, 0]

def k0_chk474 (v3314 : BitVec 32) : Prop :=
  (∀ a, (k0_off948 v3314) a + S1x768.size a ≤ S50257x768.size a)
theorem k0_off948_inb : ∀ (v3314 : BitVec 32) (k0_hw474 : k0_chk474 v3314), ∀ a, (k0_off948 v3314) a + S1x768.size a ≤ S50257x768.size a := fun v3314 k0_hw474 => k0_hw474

def k0_off949 (i : grid0.Coords) : Fin 1 → Nat :=
  let arg0 : BitVec 32 := BitVec.ofNat 32 (i 0).val
  let c512_i32 : BitVec 32 := 512#32
  let v0 : BitVec 32 := Scalar.muli arg0 c512_i32
  let c474_i32 : BitVec 32 := 474#32
  let v3319 : BitVec 32 := Scalar.addi v0 c474_i32
  let v3320 : Index := Scalar.indexCast v3319
  ![v3320.toNat]
def k0_off950 (v3321 : BitVec 32) : Fin 2 → Nat :=
  let c0_i32_1424 : BitVec 32 := 0#32
  ![v3321.toNat, 0]

def k0_chk475 (v3321 : BitVec 32) : Prop :=
  (∀ a, (k0_off950 v3321) a + S1x768.size a ≤ S50257x768.size a)
theorem k0_off950_inb : ∀ (v3321 : BitVec 32) (k0_hw475 : k0_chk475 v3321), ∀ a, (k0_off950 v3321) a + S1x768.size a ≤ S50257x768.size a := fun v3321 k0_hw475 => k0_hw475

def k0_off951 (i : grid0.Coords) : Fin 1 → Nat :=
  let arg0 : BitVec 32 := BitVec.ofNat 32 (i 0).val
  let c512_i32 : BitVec 32 := 512#32
  let v0 : BitVec 32 := Scalar.muli arg0 c512_i32
  let c475_i32 : BitVec 32 := 475#32
  let v3326 : BitVec 32 := Scalar.addi v0 c475_i32
  let v3327 : Index := Scalar.indexCast v3326
  ![v3327.toNat]
def k0_off952 (v3328 : BitVec 32) : Fin 2 → Nat :=
  let c0_i32_1427 : BitVec 32 := 0#32
  ![v3328.toNat, 0]

def k0_chk476 (v3328 : BitVec 32) : Prop :=
  (∀ a, (k0_off952 v3328) a + S1x768.size a ≤ S50257x768.size a)
theorem k0_off952_inb : ∀ (v3328 : BitVec 32) (k0_hw476 : k0_chk476 v3328), ∀ a, (k0_off952 v3328) a + S1x768.size a ≤ S50257x768.size a := fun v3328 k0_hw476 => k0_hw476

def k0_off953 (i : grid0.Coords) : Fin 1 → Nat :=
  let arg0 : BitVec 32 := BitVec.ofNat 32 (i 0).val
  let c512_i32 : BitVec 32 := 512#32
  let v0 : BitVec 32 := Scalar.muli arg0 c512_i32
  let c476_i32 : BitVec 32 := 476#32
  let v3333 : BitVec 32 := Scalar.addi v0 c476_i32
  let v3334 : Index := Scalar.indexCast v3333
  ![v3334.toNat]
def k0_off954 (v3335 : BitVec 32) : Fin 2 → Nat :=
  let c0_i32_1430 : BitVec 32 := 0#32
  ![v3335.toNat, 0]

def k0_chk477 (v3335 : BitVec 32) : Prop :=
  (∀ a, (k0_off954 v3335) a + S1x768.size a ≤ S50257x768.size a)
theorem k0_off954_inb : ∀ (v3335 : BitVec 32) (k0_hw477 : k0_chk477 v3335), ∀ a, (k0_off954 v3335) a + S1x768.size a ≤ S50257x768.size a := fun v3335 k0_hw477 => k0_hw477

def k0_off955 (i : grid0.Coords) : Fin 1 → Nat :=
  let arg0 : BitVec 32 := BitVec.ofNat 32 (i 0).val
  let c512_i32 : BitVec 32 := 512#32
  let v0 : BitVec 32 := Scalar.muli arg0 c512_i32
  let c477_i32 : BitVec 32 := 477#32
  let v3340 : BitVec 32 := Scalar.addi v0 c477_i32
  let v3341 : Index := Scalar.indexCast v3340
  ![v3341.toNat]
def k0_off956 (v3342 : BitVec 32) : Fin 2 → Nat :=
  let c0_i32_1433 : BitVec 32 := 0#32
  ![v3342.toNat, 0]

def k0_chk478 (v3342 : BitVec 32) : Prop :=
  (∀ a, (k0_off956 v3342) a + S1x768.size a ≤ S50257x768.size a)
theorem k0_off956_inb : ∀ (v3342 : BitVec 32) (k0_hw478 : k0_chk478 v3342), ∀ a, (k0_off956 v3342) a + S1x768.size a ≤ S50257x768.size a := fun v3342 k0_hw478 => k0_hw478

def k0_off957 (i : grid0.Coords) : Fin 1 → Nat :=
  let arg0 : BitVec 32 := BitVec.ofNat 32 (i 0).val
  let c512_i32 : BitVec 32 := 512#32
  let v0 : BitVec 32 := Scalar.muli arg0 c512_i32
  let c478_i32 : BitVec 32 := 478#32
  let v3347 : BitVec 32 := Scalar.addi v0 c478_i32
  let v3348 : Index := Scalar.indexCast v3347
  ![v3348.toNat]
def k0_off958 (v3349 : BitVec 32) : Fin 2 → Nat :=
  let c0_i32_1436 : BitVec 32 := 0#32
  ![v3349.toNat, 0]

def k0_chk479 (v3349 : BitVec 32) : Prop :=
  (∀ a, (k0_off958 v3349) a + S1x768.size a ≤ S50257x768.size a)
theorem k0_off958_inb : ∀ (v3349 : BitVec 32) (k0_hw479 : k0_chk479 v3349), ∀ a, (k0_off958 v3349) a + S1x768.size a ≤ S50257x768.size a := fun v3349 k0_hw479 => k0_hw479

def k0_off959 (i : grid0.Coords) : Fin 1 → Nat :=
  let arg0 : BitVec 32 := BitVec.ofNat 32 (i 0).val
  let c512_i32 : BitVec 32 := 512#32
  let v0 : BitVec 32 := Scalar.muli arg0 c512_i32
  let c479_i32 : BitVec 32 := 479#32
  let v3354 : BitVec 32 := Scalar.addi v0 c479_i32
  let v3355 : Index := Scalar.indexCast v3354
  ![v3355.toNat]
def k0_off960 (v3356 : BitVec 32) : Fin 2 → Nat :=
  let c0_i32_1439 : BitVec 32 := 0#32
  ![v3356.toNat, 0]

def k0_chk480 (v3356 : BitVec 32) : Prop :=
  (∀ a, (k0_off960 v3356) a + S1x768.size a ≤ S50257x768.size a)
theorem k0_off960_inb : ∀ (v3356 : BitVec 32) (k0_hw480 : k0_chk480 v3356), ∀ a, (k0_off960 v3356) a + S1x768.size a ≤ S50257x768.size a := fun v3356 k0_hw480 => k0_hw480

def k0_off961 (i : grid0.Coords) : Fin 1 → Nat :=
  let arg0 : BitVec 32 := BitVec.ofNat 32 (i 0).val
  let c512_i32 : BitVec 32 := 512#32
  let v0 : BitVec 32 := Scalar.muli arg0 c512_i32
  let c480_i32 : BitVec 32 := 480#32
  let v3361 : BitVec 32 := Scalar.addi v0 c480_i32
  let v3362 : Index := Scalar.indexCast v3361
  ![v3362.toNat]
def k0_off962 (v3363 : BitVec 32) : Fin 2 → Nat :=
  let c0_i32_1442 : BitVec 32 := 0#32
  ![v3363.toNat, 0]

def k0_chk481 (v3363 : BitVec 32) : Prop :=
  (∀ a, (k0_off962 v3363) a + S1x768.size a ≤ S50257x768.size a)
theorem k0_off962_inb : ∀ (v3363 : BitVec 32) (k0_hw481 : k0_chk481 v3363), ∀ a, (k0_off962 v3363) a + S1x768.size a ≤ S50257x768.size a := fun v3363 k0_hw481 => k0_hw481

def k0_off963 (i : grid0.Coords) : Fin 1 → Nat :=
  let arg0 : BitVec 32 := BitVec.ofNat 32 (i 0).val
  let c512_i32 : BitVec 32 := 512#32
  let v0 : BitVec 32 := Scalar.muli arg0 c512_i32
  let c481_i32 : BitVec 32 := 481#32
  let v3368 : BitVec 32 := Scalar.addi v0 c481_i32
  let v3369 : Index := Scalar.indexCast v3368
  ![v3369.toNat]
def k0_off964 (v3370 : BitVec 32) : Fin 2 → Nat :=
  let c0_i32_1445 : BitVec 32 := 0#32
  ![v3370.toNat, 0]

def k0_chk482 (v3370 : BitVec 32) : Prop :=
  (∀ a, (k0_off964 v3370) a + S1x768.size a ≤ S50257x768.size a)
theorem k0_off964_inb : ∀ (v3370 : BitVec 32) (k0_hw482 : k0_chk482 v3370), ∀ a, (k0_off964 v3370) a + S1x768.size a ≤ S50257x768.size a := fun v3370 k0_hw482 => k0_hw482

def k0_off965 (i : grid0.Coords) : Fin 1 → Nat :=
  let arg0 : BitVec 32 := BitVec.ofNat 32 (i 0).val
  let c512_i32 : BitVec 32 := 512#32
  let v0 : BitVec 32 := Scalar.muli arg0 c512_i32
  let c482_i32 : BitVec 32 := 482#32
  let v3375 : BitVec 32 := Scalar.addi v0 c482_i32
  let v3376 : Index := Scalar.indexCast v3375
  ![v3376.toNat]
def k0_off966 (v3377 : BitVec 32) : Fin 2 → Nat :=
  let c0_i32_1448 : BitVec 32 := 0#32
  ![v3377.toNat, 0]

def k0_chk483 (v3377 : BitVec 32) : Prop :=
  (∀ a, (k0_off966 v3377) a + S1x768.size a ≤ S50257x768.size a)
theorem k0_off966_inb : ∀ (v3377 : BitVec 32) (k0_hw483 : k0_chk483 v3377), ∀ a, (k0_off966 v3377) a + S1x768.size a ≤ S50257x768.size a := fun v3377 k0_hw483 => k0_hw483

def k0_off967 (i : grid0.Coords) : Fin 1 → Nat :=
  let arg0 : BitVec 32 := BitVec.ofNat 32 (i 0).val
  let c512_i32 : BitVec 32 := 512#32
  let v0 : BitVec 32 := Scalar.muli arg0 c512_i32
  let c483_i32 : BitVec 32 := 483#32
  let v3382 : BitVec 32 := Scalar.addi v0 c483_i32
  let v3383 : Index := Scalar.indexCast v3382
  ![v3383.toNat]
def k0_off968 (v3384 : BitVec 32) : Fin 2 → Nat :=
  let c0_i32_1451 : BitVec 32 := 0#32
  ![v3384.toNat, 0]

def k0_chk484 (v3384 : BitVec 32) : Prop :=
  (∀ a, (k0_off968 v3384) a + S1x768.size a ≤ S50257x768.size a)
theorem k0_off968_inb : ∀ (v3384 : BitVec 32) (k0_hw484 : k0_chk484 v3384), ∀ a, (k0_off968 v3384) a + S1x768.size a ≤ S50257x768.size a := fun v3384 k0_hw484 => k0_hw484

def k0_off969 (i : grid0.Coords) : Fin 1 → Nat :=
  let arg0 : BitVec 32 := BitVec.ofNat 32 (i 0).val
  let c512_i32 : BitVec 32 := 512#32
  let v0 : BitVec 32 := Scalar.muli arg0 c512_i32
  let c484_i32 : BitVec 32 := 484#32
  let v3389 : BitVec 32 := Scalar.addi v0 c484_i32
  let v3390 : Index := Scalar.indexCast v3389
  ![v3390.toNat]
def k0_off970 (v3391 : BitVec 32) : Fin 2 → Nat :=
  let c0_i32_1454 : BitVec 32 := 0#32
  ![v3391.toNat, 0]

def k0_chk485 (v3391 : BitVec 32) : Prop :=
  (∀ a, (k0_off970 v3391) a + S1x768.size a ≤ S50257x768.size a)
theorem k0_off970_inb : ∀ (v3391 : BitVec 32) (k0_hw485 : k0_chk485 v3391), ∀ a, (k0_off970 v3391) a + S1x768.size a ≤ S50257x768.size a := fun v3391 k0_hw485 => k0_hw485

def k0_off971 (i : grid0.Coords) : Fin 1 → Nat :=
  let arg0 : BitVec 32 := BitVec.ofNat 32 (i 0).val
  let c512_i32 : BitVec 32 := 512#32
  let v0 : BitVec 32 := Scalar.muli arg0 c512_i32
  let c485_i32 : BitVec 32 := 485#32
  let v3396 : BitVec 32 := Scalar.addi v0 c485_i32
  let v3397 : Index := Scalar.indexCast v3396
  ![v3397.toNat]
def k0_off972 (v3398 : BitVec 32) : Fin 2 → Nat :=
  let c0_i32_1457 : BitVec 32 := 0#32
  ![v3398.toNat, 0]

def k0_chk486 (v3398 : BitVec 32) : Prop :=
  (∀ a, (k0_off972 v3398) a + S1x768.size a ≤ S50257x768.size a)
theorem k0_off972_inb : ∀ (v3398 : BitVec 32) (k0_hw486 : k0_chk486 v3398), ∀ a, (k0_off972 v3398) a + S1x768.size a ≤ S50257x768.size a := fun v3398 k0_hw486 => k0_hw486

def k0_off973 (i : grid0.Coords) : Fin 1 → Nat :=
  let arg0 : BitVec 32 := BitVec.ofNat 32 (i 0).val
  let c512_i32 : BitVec 32 := 512#32
  let v0 : BitVec 32 := Scalar.muli arg0 c512_i32
  let c486_i32 : BitVec 32 := 486#32
  let v3403 : BitVec 32 := Scalar.addi v0 c486_i32
  let v3404 : Index := Scalar.indexCast v3403
  ![v3404.toNat]
def k0_off974 (v3405 : BitVec 32) : Fin 2 → Nat :=
  let c0_i32_1460 : BitVec 32 := 0#32
  ![v3405.toNat, 0]

def k0_chk487 (v3405 : BitVec 32) : Prop :=
  (∀ a, (k0_off974 v3405) a + S1x768.size a ≤ S50257x768.size a)
theorem k0_off974_inb : ∀ (v3405 : BitVec 32) (k0_hw487 : k0_chk487 v3405), ∀ a, (k0_off974 v3405) a + S1x768.size a ≤ S50257x768.size a := fun v3405 k0_hw487 => k0_hw487

def k0_off975 (i : grid0.Coords) : Fin 1 → Nat :=
  let arg0 : BitVec 32 := BitVec.ofNat 32 (i 0).val
  let c512_i32 : BitVec 32 := 512#32
  let v0 : BitVec 32 := Scalar.muli arg0 c512_i32
  let c487_i32 : BitVec 32 := 487#32
  let v3410 : BitVec 32 := Scalar.addi v0 c487_i32
  let v3411 : Index := Scalar.indexCast v3410
  ![v3411.toNat]
def k0_off976 (v3412 : BitVec 32) : Fin 2 → Nat :=
  let c0_i32_1463 : BitVec 32 := 0#32
  ![v3412.toNat, 0]

def k0_chk488 (v3412 : BitVec 32) : Prop :=
  (∀ a, (k0_off976 v3412) a + S1x768.size a ≤ S50257x768.size a)
theorem k0_off976_inb : ∀ (v3412 : BitVec 32) (k0_hw488 : k0_chk488 v3412), ∀ a, (k0_off976 v3412) a + S1x768.size a ≤ S50257x768.size a := fun v3412 k0_hw488 => k0_hw488

def k0_off977 (i : grid0.Coords) : Fin 1 → Nat :=
  let arg0 : BitVec 32 := BitVec.ofNat 32 (i 0).val
  let c512_i32 : BitVec 32 := 512#32
  let v0 : BitVec 32 := Scalar.muli arg0 c512_i32
  let c488_i32 : BitVec 32 := 488#32
  let v3417 : BitVec 32 := Scalar.addi v0 c488_i32
  let v3418 : Index := Scalar.indexCast v3417
  ![v3418.toNat]
def k0_off978 (v3419 : BitVec 32) : Fin 2 → Nat :=
  let c0_i32_1466 : BitVec 32 := 0#32
  ![v3419.toNat, 0]

def k0_chk489 (v3419 : BitVec 32) : Prop :=
  (∀ a, (k0_off978 v3419) a + S1x768.size a ≤ S50257x768.size a)
theorem k0_off978_inb : ∀ (v3419 : BitVec 32) (k0_hw489 : k0_chk489 v3419), ∀ a, (k0_off978 v3419) a + S1x768.size a ≤ S50257x768.size a := fun v3419 k0_hw489 => k0_hw489

def k0_off979 (i : grid0.Coords) : Fin 1 → Nat :=
  let arg0 : BitVec 32 := BitVec.ofNat 32 (i 0).val
  let c512_i32 : BitVec 32 := 512#32
  let v0 : BitVec 32 := Scalar.muli arg0 c512_i32
  let c489_i32 : BitVec 32 := 489#32
  let v3424 : BitVec 32 := Scalar.addi v0 c489_i32
  let v3425 : Index := Scalar.indexCast v3424
  ![v3425.toNat]
def k0_off980 (v3426 : BitVec 32) : Fin 2 → Nat :=
  let c0_i32_1469 : BitVec 32 := 0#32
  ![v3426.toNat, 0]

def k0_chk490 (v3426 : BitVec 32) : Prop :=
  (∀ a, (k0_off980 v3426) a + S1x768.size a ≤ S50257x768.size a)
theorem k0_off980_inb : ∀ (v3426 : BitVec 32) (k0_hw490 : k0_chk490 v3426), ∀ a, (k0_off980 v3426) a + S1x768.size a ≤ S50257x768.size a := fun v3426 k0_hw490 => k0_hw490

def k0_off981 (i : grid0.Coords) : Fin 1 → Nat :=
  let arg0 : BitVec 32 := BitVec.ofNat 32 (i 0).val
  let c512_i32 : BitVec 32 := 512#32
  let v0 : BitVec 32 := Scalar.muli arg0 c512_i32
  let c490_i32 : BitVec 32 := 490#32
  let v3431 : BitVec 32 := Scalar.addi v0 c490_i32
  let v3432 : Index := Scalar.indexCast v3431
  ![v3432.toNat]
def k0_off982 (v3433 : BitVec 32) : Fin 2 → Nat :=
  let c0_i32_1472 : BitVec 32 := 0#32
  ![v3433.toNat, 0]

def k0_chk491 (v3433 : BitVec 32) : Prop :=
  (∀ a, (k0_off982 v3433) a + S1x768.size a ≤ S50257x768.size a)
theorem k0_off982_inb : ∀ (v3433 : BitVec 32) (k0_hw491 : k0_chk491 v3433), ∀ a, (k0_off982 v3433) a + S1x768.size a ≤ S50257x768.size a := fun v3433 k0_hw491 => k0_hw491

def k0_off983 (i : grid0.Coords) : Fin 1 → Nat :=
  let arg0 : BitVec 32 := BitVec.ofNat 32 (i 0).val
  let c512_i32 : BitVec 32 := 512#32
  let v0 : BitVec 32 := Scalar.muli arg0 c512_i32
  let c491_i32 : BitVec 32 := 491#32
  let v3438 : BitVec 32 := Scalar.addi v0 c491_i32
  let v3439 : Index := Scalar.indexCast v3438
  ![v3439.toNat]
def k0_off984 (v3440 : BitVec 32) : Fin 2 → Nat :=
  let c0_i32_1475 : BitVec 32 := 0#32
  ![v3440.toNat, 0]

def k0_chk492 (v3440 : BitVec 32) : Prop :=
  (∀ a, (k0_off984 v3440) a + S1x768.size a ≤ S50257x768.size a)
theorem k0_off984_inb : ∀ (v3440 : BitVec 32) (k0_hw492 : k0_chk492 v3440), ∀ a, (k0_off984 v3440) a + S1x768.size a ≤ S50257x768.size a := fun v3440 k0_hw492 => k0_hw492

def k0_off985 (i : grid0.Coords) : Fin 1 → Nat :=
  let arg0 : BitVec 32 := BitVec.ofNat 32 (i 0).val
  let c512_i32 : BitVec 32 := 512#32
  let v0 : BitVec 32 := Scalar.muli arg0 c512_i32
  let c492_i32 : BitVec 32 := 492#32
  let v3445 : BitVec 32 := Scalar.addi v0 c492_i32
  let v3446 : Index := Scalar.indexCast v3445
  ![v3446.toNat]
def k0_off986 (v3447 : BitVec 32) : Fin 2 → Nat :=
  let c0_i32_1478 : BitVec 32 := 0#32
  ![v3447.toNat, 0]

def k0_chk493 (v3447 : BitVec 32) : Prop :=
  (∀ a, (k0_off986 v3447) a + S1x768.size a ≤ S50257x768.size a)
theorem k0_off986_inb : ∀ (v3447 : BitVec 32) (k0_hw493 : k0_chk493 v3447), ∀ a, (k0_off986 v3447) a + S1x768.size a ≤ S50257x768.size a := fun v3447 k0_hw493 => k0_hw493

def k0_off987 (i : grid0.Coords) : Fin 1 → Nat :=
  let arg0 : BitVec 32 := BitVec.ofNat 32 (i 0).val
  let c512_i32 : BitVec 32 := 512#32
  let v0 : BitVec 32 := Scalar.muli arg0 c512_i32
  let c493_i32 : BitVec 32 := 493#32
  let v3452 : BitVec 32 := Scalar.addi v0 c493_i32
  let v3453 : Index := Scalar.indexCast v3452
  ![v3453.toNat]
def k0_off988 (v3454 : BitVec 32) : Fin 2 → Nat :=
  let c0_i32_1481 : BitVec 32 := 0#32
  ![v3454.toNat, 0]

def k0_chk494 (v3454 : BitVec 32) : Prop :=
  (∀ a, (k0_off988 v3454) a + S1x768.size a ≤ S50257x768.size a)
theorem k0_off988_inb : ∀ (v3454 : BitVec 32) (k0_hw494 : k0_chk494 v3454), ∀ a, (k0_off988 v3454) a + S1x768.size a ≤ S50257x768.size a := fun v3454 k0_hw494 => k0_hw494

def k0_off989 (i : grid0.Coords) : Fin 1 → Nat :=
  let arg0 : BitVec 32 := BitVec.ofNat 32 (i 0).val
  let c512_i32 : BitVec 32 := 512#32
  let v0 : BitVec 32 := Scalar.muli arg0 c512_i32
  let c494_i32 : BitVec 32 := 494#32
  let v3459 : BitVec 32 := Scalar.addi v0 c494_i32
  let v3460 : Index := Scalar.indexCast v3459
  ![v3460.toNat]
def k0_off990 (v3461 : BitVec 32) : Fin 2 → Nat :=
  let c0_i32_1484 : BitVec 32 := 0#32
  ![v3461.toNat, 0]

def k0_chk495 (v3461 : BitVec 32) : Prop :=
  (∀ a, (k0_off990 v3461) a + S1x768.size a ≤ S50257x768.size a)
theorem k0_off990_inb : ∀ (v3461 : BitVec 32) (k0_hw495 : k0_chk495 v3461), ∀ a, (k0_off990 v3461) a + S1x768.size a ≤ S50257x768.size a := fun v3461 k0_hw495 => k0_hw495

def k0_off991 (i : grid0.Coords) : Fin 1 → Nat :=
  let arg0 : BitVec 32 := BitVec.ofNat 32 (i 0).val
  let c512_i32 : BitVec 32 := 512#32
  let v0 : BitVec 32 := Scalar.muli arg0 c512_i32
  let c495_i32 : BitVec 32 := 495#32
  let v3466 : BitVec 32 := Scalar.addi v0 c495_i32
  let v3467 : Index := Scalar.indexCast v3466
  ![v3467.toNat]
def k0_off992 (v3468 : BitVec 32) : Fin 2 → Nat :=
  let c0_i32_1487 : BitVec 32 := 0#32
  ![v3468.toNat, 0]

def k0_chk496 (v3468 : BitVec 32) : Prop :=
  (∀ a, (k0_off992 v3468) a + S1x768.size a ≤ S50257x768.size a)
theorem k0_off992_inb : ∀ (v3468 : BitVec 32) (k0_hw496 : k0_chk496 v3468), ∀ a, (k0_off992 v3468) a + S1x768.size a ≤ S50257x768.size a := fun v3468 k0_hw496 => k0_hw496

def k0_off993 (i : grid0.Coords) : Fin 1 → Nat :=
  let arg0 : BitVec 32 := BitVec.ofNat 32 (i 0).val
  let c512_i32 : BitVec 32 := 512#32
  let v0 : BitVec 32 := Scalar.muli arg0 c512_i32
  let c496_i32 : BitVec 32 := 496#32
  let v3473 : BitVec 32 := Scalar.addi v0 c496_i32
  let v3474 : Index := Scalar.indexCast v3473
  ![v3474.toNat]
def k0_off994 (v3475 : BitVec 32) : Fin 2 → Nat :=
  let c0_i32_1490 : BitVec 32 := 0#32
  ![v3475.toNat, 0]

def k0_chk497 (v3475 : BitVec 32) : Prop :=
  (∀ a, (k0_off994 v3475) a + S1x768.size a ≤ S50257x768.size a)
theorem k0_off994_inb : ∀ (v3475 : BitVec 32) (k0_hw497 : k0_chk497 v3475), ∀ a, (k0_off994 v3475) a + S1x768.size a ≤ S50257x768.size a := fun v3475 k0_hw497 => k0_hw497

def k0_off995 (i : grid0.Coords) : Fin 1 → Nat :=
  let arg0 : BitVec 32 := BitVec.ofNat 32 (i 0).val
  let c512_i32 : BitVec 32 := 512#32
  let v0 : BitVec 32 := Scalar.muli arg0 c512_i32
  let c497_i32 : BitVec 32 := 497#32
  let v3480 : BitVec 32 := Scalar.addi v0 c497_i32
  let v3481 : Index := Scalar.indexCast v3480
  ![v3481.toNat]
def k0_off996 (v3482 : BitVec 32) : Fin 2 → Nat :=
  let c0_i32_1493 : BitVec 32 := 0#32
  ![v3482.toNat, 0]

def k0_chk498 (v3482 : BitVec 32) : Prop :=
  (∀ a, (k0_off996 v3482) a + S1x768.size a ≤ S50257x768.size a)
theorem k0_off996_inb : ∀ (v3482 : BitVec 32) (k0_hw498 : k0_chk498 v3482), ∀ a, (k0_off996 v3482) a + S1x768.size a ≤ S50257x768.size a := fun v3482 k0_hw498 => k0_hw498

def k0_off997 (i : grid0.Coords) : Fin 1 → Nat :=
  let arg0 : BitVec 32 := BitVec.ofNat 32 (i 0).val
  let c512_i32 : BitVec 32 := 512#32
  let v0 : BitVec 32 := Scalar.muli arg0 c512_i32
  let c498_i32 : BitVec 32 := 498#32
  let v3487 : BitVec 32 := Scalar.addi v0 c498_i32
  let v3488 : Index := Scalar.indexCast v3487
  ![v3488.toNat]
def k0_off998 (v3489 : BitVec 32) : Fin 2 → Nat :=
  let c0_i32_1496 : BitVec 32 := 0#32
  ![v3489.toNat, 0]

def k0_chk499 (v3489 : BitVec 32) : Prop :=
  (∀ a, (k0_off998 v3489) a + S1x768.size a ≤ S50257x768.size a)
theorem k0_off998_inb : ∀ (v3489 : BitVec 32) (k0_hw499 : k0_chk499 v3489), ∀ a, (k0_off998 v3489) a + S1x768.size a ≤ S50257x768.size a := fun v3489 k0_hw499 => k0_hw499

def k0_off999 (i : grid0.Coords) : Fin 1 → Nat :=
  let arg0 : BitVec 32 := BitVec.ofNat 32 (i 0).val
  let c512_i32 : BitVec 32 := 512#32
  let v0 : BitVec 32 := Scalar.muli arg0 c512_i32
  let c499_i32 : BitVec 32 := 499#32
  let v3494 : BitVec 32 := Scalar.addi v0 c499_i32
  let v3495 : Index := Scalar.indexCast v3494
  ![v3495.toNat]
def k0_off1000 (v3496 : BitVec 32) : Fin 2 → Nat :=
  let c0_i32_1499 : BitVec 32 := 0#32
  ![v3496.toNat, 0]

def k0_chk500 (v3496 : BitVec 32) : Prop :=
  (∀ a, (k0_off1000 v3496) a + S1x768.size a ≤ S50257x768.size a)
theorem k0_off1000_inb : ∀ (v3496 : BitVec 32) (k0_hw500 : k0_chk500 v3496), ∀ a, (k0_off1000 v3496) a + S1x768.size a ≤ S50257x768.size a := fun v3496 k0_hw500 => k0_hw500

def k0_off1001 (i : grid0.Coords) : Fin 1 → Nat :=
  let arg0 : BitVec 32 := BitVec.ofNat 32 (i 0).val
  let c512_i32 : BitVec 32 := 512#32
  let v0 : BitVec 32 := Scalar.muli arg0 c512_i32
  let c500_i32 : BitVec 32 := 500#32
  let v3501 : BitVec 32 := Scalar.addi v0 c500_i32
  let v3502 : Index := Scalar.indexCast v3501
  ![v3502.toNat]
def k0_off1002 (v3503 : BitVec 32) : Fin 2 → Nat :=
  let c0_i32_1502 : BitVec 32 := 0#32
  ![v3503.toNat, 0]

def k0_chk501 (v3503 : BitVec 32) : Prop :=
  (∀ a, (k0_off1002 v3503) a + S1x768.size a ≤ S50257x768.size a)
theorem k0_off1002_inb : ∀ (v3503 : BitVec 32) (k0_hw501 : k0_chk501 v3503), ∀ a, (k0_off1002 v3503) a + S1x768.size a ≤ S50257x768.size a := fun v3503 k0_hw501 => k0_hw501

def k0_off1003 (i : grid0.Coords) : Fin 1 → Nat :=
  let arg0 : BitVec 32 := BitVec.ofNat 32 (i 0).val
  let c512_i32 : BitVec 32 := 512#32
  let v0 : BitVec 32 := Scalar.muli arg0 c512_i32
  let c501_i32 : BitVec 32 := 501#32
  let v3508 : BitVec 32 := Scalar.addi v0 c501_i32
  let v3509 : Index := Scalar.indexCast v3508
  ![v3509.toNat]
def k0_off1004 (v3510 : BitVec 32) : Fin 2 → Nat :=
  let c0_i32_1505 : BitVec 32 := 0#32
  ![v3510.toNat, 0]

def k0_chk502 (v3510 : BitVec 32) : Prop :=
  (∀ a, (k0_off1004 v3510) a + S1x768.size a ≤ S50257x768.size a)
theorem k0_off1004_inb : ∀ (v3510 : BitVec 32) (k0_hw502 : k0_chk502 v3510), ∀ a, (k0_off1004 v3510) a + S1x768.size a ≤ S50257x768.size a := fun v3510 k0_hw502 => k0_hw502

def k0_off1005 (i : grid0.Coords) : Fin 1 → Nat :=
  let arg0 : BitVec 32 := BitVec.ofNat 32 (i 0).val
  let c512_i32 : BitVec 32 := 512#32
  let v0 : BitVec 32 := Scalar.muli arg0 c512_i32
  let c502_i32 : BitVec 32 := 502#32
  let v3515 : BitVec 32 := Scalar.addi v0 c502_i32
  let v3516 : Index := Scalar.indexCast v3515
  ![v3516.toNat]
def k0_off1006 (v3517 : BitVec 32) : Fin 2 → Nat :=
  let c0_i32_1508 : BitVec 32 := 0#32
  ![v3517.toNat, 0]

def k0_chk503 (v3517 : BitVec 32) : Prop :=
  (∀ a, (k0_off1006 v3517) a + S1x768.size a ≤ S50257x768.size a)
theorem k0_off1006_inb : ∀ (v3517 : BitVec 32) (k0_hw503 : k0_chk503 v3517), ∀ a, (k0_off1006 v3517) a + S1x768.size a ≤ S50257x768.size a := fun v3517 k0_hw503 => k0_hw503

def k0_off1007 (i : grid0.Coords) : Fin 1 → Nat :=
  let arg0 : BitVec 32 := BitVec.ofNat 32 (i 0).val
  let c512_i32 : BitVec 32 := 512#32
  let v0 : BitVec 32 := Scalar.muli arg0 c512_i32
  let c503_i32 : BitVec 32 := 503#32
  let v3522 : BitVec 32 := Scalar.addi v0 c503_i32
  let v3523 : Index := Scalar.indexCast v3522
  ![v3523.toNat]
def k0_off1008 (v3524 : BitVec 32) : Fin 2 → Nat :=
  let c0_i32_1511 : BitVec 32 := 0#32
  ![v3524.toNat, 0]

def k0_chk504 (v3524 : BitVec 32) : Prop :=
  (∀ a, (k0_off1008 v3524) a + S1x768.size a ≤ S50257x768.size a)
theorem k0_off1008_inb : ∀ (v3524 : BitVec 32) (k0_hw504 : k0_chk504 v3524), ∀ a, (k0_off1008 v3524) a + S1x768.size a ≤ S50257x768.size a := fun v3524 k0_hw504 => k0_hw504

def k0_off1009 (i : grid0.Coords) : Fin 1 → Nat :=
  let arg0 : BitVec 32 := BitVec.ofNat 32 (i 0).val
  let c512_i32 : BitVec 32 := 512#32
  let v0 : BitVec 32 := Scalar.muli arg0 c512_i32
  let c504_i32 : BitVec 32 := 504#32
  let v3529 : BitVec 32 := Scalar.addi v0 c504_i32
  let v3530 : Index := Scalar.indexCast v3529
  ![v3530.toNat]
def k0_off1010 (v3531 : BitVec 32) : Fin 2 → Nat :=
  let c0_i32_1514 : BitVec 32 := 0#32
  ![v3531.toNat, 0]

def k0_chk505 (v3531 : BitVec 32) : Prop :=
  (∀ a, (k0_off1010 v3531) a + S1x768.size a ≤ S50257x768.size a)
theorem k0_off1010_inb : ∀ (v3531 : BitVec 32) (k0_hw505 : k0_chk505 v3531), ∀ a, (k0_off1010 v3531) a + S1x768.size a ≤ S50257x768.size a := fun v3531 k0_hw505 => k0_hw505

def k0_off1011 (i : grid0.Coords) : Fin 1 → Nat :=
  let arg0 : BitVec 32 := BitVec.ofNat 32 (i 0).val
  let c512_i32 : BitVec 32 := 512#32
  let v0 : BitVec 32 := Scalar.muli arg0 c512_i32
  let c505_i32 : BitVec 32 := 505#32
  let v3536 : BitVec 32 := Scalar.addi v0 c505_i32
  let v3537 : Index := Scalar.indexCast v3536
  ![v3537.toNat]
def k0_off1012 (v3538 : BitVec 32) : Fin 2 → Nat :=
  let c0_i32_1517 : BitVec 32 := 0#32
  ![v3538.toNat, 0]

def k0_chk506 (v3538 : BitVec 32) : Prop :=
  (∀ a, (k0_off1012 v3538) a + S1x768.size a ≤ S50257x768.size a)
theorem k0_off1012_inb : ∀ (v3538 : BitVec 32) (k0_hw506 : k0_chk506 v3538), ∀ a, (k0_off1012 v3538) a + S1x768.size a ≤ S50257x768.size a := fun v3538 k0_hw506 => k0_hw506

def k0_off1013 (i : grid0.Coords) : Fin 1 → Nat :=
  let arg0 : BitVec 32 := BitVec.ofNat 32 (i 0).val
  let c512_i32 : BitVec 32 := 512#32
  let v0 : BitVec 32 := Scalar.muli arg0 c512_i32
  let c506_i32 : BitVec 32 := 506#32
  let v3543 : BitVec 32 := Scalar.addi v0 c506_i32
  let v3544 : Index := Scalar.indexCast v3543
  ![v3544.toNat]
def k0_off1014 (v3545 : BitVec 32) : Fin 2 → Nat :=
  let c0_i32_1520 : BitVec 32 := 0#32
  ![v3545.toNat, 0]

def k0_chk507 (v3545 : BitVec 32) : Prop :=
  (∀ a, (k0_off1014 v3545) a + S1x768.size a ≤ S50257x768.size a)
theorem k0_off1014_inb : ∀ (v3545 : BitVec 32) (k0_hw507 : k0_chk507 v3545), ∀ a, (k0_off1014 v3545) a + S1x768.size a ≤ S50257x768.size a := fun v3545 k0_hw507 => k0_hw507

def k0_off1015 (i : grid0.Coords) : Fin 1 → Nat :=
  let arg0 : BitVec 32 := BitVec.ofNat 32 (i 0).val
  let c512_i32 : BitVec 32 := 512#32
  let v0 : BitVec 32 := Scalar.muli arg0 c512_i32
  let c507_i32 : BitVec 32 := 507#32
  let v3550 : BitVec 32 := Scalar.addi v0 c507_i32
  let v3551 : Index := Scalar.indexCast v3550
  ![v3551.toNat]
def k0_off1016 (v3552 : BitVec 32) : Fin 2 → Nat :=
  let c0_i32_1523 : BitVec 32 := 0#32
  ![v3552.toNat, 0]

def k0_chk508 (v3552 : BitVec 32) : Prop :=
  (∀ a, (k0_off1016 v3552) a + S1x768.size a ≤ S50257x768.size a)
theorem k0_off1016_inb : ∀ (v3552 : BitVec 32) (k0_hw508 : k0_chk508 v3552), ∀ a, (k0_off1016 v3552) a + S1x768.size a ≤ S50257x768.size a := fun v3552 k0_hw508 => k0_hw508

def k0_off1017 (i : grid0.Coords) : Fin 1 → Nat :=
  let arg0 : BitVec 32 := BitVec.ofNat 32 (i 0).val
  let c512_i32 : BitVec 32 := 512#32
  let v0 : BitVec 32 := Scalar.muli arg0 c512_i32
  let c508_i32 : BitVec 32 := 508#32
  let v3557 : BitVec 32 := Scalar.addi v0 c508_i32
  let v3558 : Index := Scalar.indexCast v3557
  ![v3558.toNat]
def k0_off1018 (v3559 : BitVec 32) : Fin 2 → Nat :=
  let c0_i32_1526 : BitVec 32 := 0#32
  ![v3559.toNat, 0]

def k0_chk509 (v3559 : BitVec 32) : Prop :=
  (∀ a, (k0_off1018 v3559) a + S1x768.size a ≤ S50257x768.size a)
theorem k0_off1018_inb : ∀ (v3559 : BitVec 32) (k0_hw509 : k0_chk509 v3559), ∀ a, (k0_off1018 v3559) a + S1x768.size a ≤ S50257x768.size a := fun v3559 k0_hw509 => k0_hw509

def k0_off1019 (i : grid0.Coords) : Fin 1 → Nat :=
  let arg0 : BitVec 32 := BitVec.ofNat 32 (i 0).val
  let c512_i32 : BitVec 32 := 512#32
  let v0 : BitVec 32 := Scalar.muli arg0 c512_i32
  let c509_i32 : BitVec 32 := 509#32
  let v3564 : BitVec 32 := Scalar.addi v0 c509_i32
  let v3565 : Index := Scalar.indexCast v3564
  ![v3565.toNat]
def k0_off1020 (v3566 : BitVec 32) : Fin 2 → Nat :=
  let c0_i32_1529 : BitVec 32 := 0#32
  ![v3566.toNat, 0]

def k0_chk510 (v3566 : BitVec 32) : Prop :=
  (∀ a, (k0_off1020 v3566) a + S1x768.size a ≤ S50257x768.size a)
theorem k0_off1020_inb : ∀ (v3566 : BitVec 32) (k0_hw510 : k0_chk510 v3566), ∀ a, (k0_off1020 v3566) a + S1x768.size a ≤ S50257x768.size a := fun v3566 k0_hw510 => k0_hw510

def k0_off1021 (i : grid0.Coords) : Fin 1 → Nat :=
  let arg0 : BitVec 32 := BitVec.ofNat 32 (i 0).val
  let c512_i32 : BitVec 32 := 512#32
  let v0 : BitVec 32 := Scalar.muli arg0 c512_i32
  let c510_i32 : BitVec 32 := 510#32
  let v3571 : BitVec 32 := Scalar.addi v0 c510_i32
  let v3572 : Index := Scalar.indexCast v3571
  ![v3572.toNat]
def k0_off1022 (v3573 : BitVec 32) : Fin 2 → Nat :=
  let c0_i32_1532 : BitVec 32 := 0#32
  ![v3573.toNat, 0]

def k0_chk511 (v3573 : BitVec 32) : Prop :=
  (∀ a, (k0_off1022 v3573) a + S1x768.size a ≤ S50257x768.size a)
theorem k0_off1022_inb : ∀ (v3573 : BitVec 32) (k0_hw511 : k0_chk511 v3573), ∀ a, (k0_off1022 v3573) a + S1x768.size a ≤ S50257x768.size a := fun v3573 k0_hw511 => k0_hw511

def k0_off1023 (i : grid0.Coords) : Fin 1 → Nat :=
  let arg0 : BitVec 32 := BitVec.ofNat 32 (i 0).val
  let c512_i32 : BitVec 32 := 512#32
  let v0 : BitVec 32 := Scalar.muli arg0 c512_i32
  let c511_i32 : BitVec 32 := 511#32
  let v3578 : BitVec 32 := Scalar.addi v0 c511_i32
  let v3579 : Index := Scalar.indexCast v3578
  ![v3579.toNat]
def k0_off1024 (v3580 : BitVec 32) : Fin 2 → Nat :=
  let c0_i32_1535 : BitVec 32 := 0#32
  ![v3580.toNat, 0]

def k0_chk512 (v3580 : BitVec 32) : Prop :=
  (∀ a, (k0_off1024 v3580) a + S1x768.size a ≤ S50257x768.size a)
theorem k0_off1024_inb : ∀ (v3580 : BitVec 32) (k0_hw512 : k0_chk512 v3580), ∀ a, (k0_off1024 v3580) a + S1x768.size a ≤ S50257x768.size a := fun v3580 k0_hw512 => k0_hw512

def k0_off1025 (i : grid0.Coords) : Fin 1 → Nat :=
  let arg0 : BitVec 32 := BitVec.ofNat 32 (i 0).val
  let c512_i32 : BitVec 32 := 512#32
  let v0 : BitVec 32 := Scalar.muli arg0 c512_i32
  let c0_i32_1536 : BitVec 32 := 0#32
  let v3585 : BitVec 32 := Scalar.addi v0 c0_i32_1536
  let v3586 : Index := Scalar.indexCast v3585
  ![v3586.toNat]
def k0_off1026 (v3587 : BitVec 32) : Fin 2 → Nat :=
  let c0_i32_1539 : BitVec 32 := 0#32
  ![v3587.toNat, 0]

def k0_chk513 (v3587 : BitVec 32) : Prop :=
  (∀ a, (k0_off1026 v3587) a + S1x768.size a ≤ S50257x768.size a)
theorem k0_off1026_inb : ∀ (v3587 : BitVec 32) (k0_hw513 : k0_chk513 v3587), ∀ a, (k0_off1026 v3587) a + S1x768.size a ≤ S50257x768.size a := fun v3587 k0_hw513 => k0_hw513

def k0_off1027 (i : grid0.Coords) : Fin 1 → Nat :=
  let arg0 : BitVec 32 := BitVec.ofNat 32 (i 0).val
  let c512_i32 : BitVec 32 := 512#32
  let v0 : BitVec 32 := Scalar.muli arg0 c512_i32
  let c1_i32_1540 : BitVec 32 := 1#32
  let v3592 : BitVec 32 := Scalar.addi v0 c1_i32_1540
  let v3593 : Index := Scalar.indexCast v3592
  ![v3593.toNat]
def k0_off1028 (v3594 : BitVec 32) : Fin 2 → Nat :=
  let c0_i32_1543 : BitVec 32 := 0#32
  ![v3594.toNat, 0]

def k0_chk514 (v3594 : BitVec 32) : Prop :=
  (∀ a, (k0_off1028 v3594) a + S1x768.size a ≤ S50257x768.size a)
theorem k0_off1028_inb : ∀ (v3594 : BitVec 32) (k0_hw514 : k0_chk514 v3594), ∀ a, (k0_off1028 v3594) a + S1x768.size a ≤ S50257x768.size a := fun v3594 k0_hw514 => k0_hw514

def k0_off1029 (i : grid0.Coords) : Fin 1 → Nat :=
  let arg0 : BitVec 32 := BitVec.ofNat 32 (i 0).val
  let c512_i32 : BitVec 32 := 512#32
  let v0 : BitVec 32 := Scalar.muli arg0 c512_i32
  let c2_i32_1544 : BitVec 32 := 2#32
  let v3599 : BitVec 32 := Scalar.addi v0 c2_i32_1544
  let v3600 : Index := Scalar.indexCast v3599
  ![v3600.toNat]
def k0_off1030 (v3601 : BitVec 32) : Fin 2 → Nat :=
  let c0_i32_1547 : BitVec 32 := 0#32
  ![v3601.toNat, 0]

def k0_chk515 (v3601 : BitVec 32) : Prop :=
  (∀ a, (k0_off1030 v3601) a + S1x768.size a ≤ S50257x768.size a)
theorem k0_off1030_inb : ∀ (v3601 : BitVec 32) (k0_hw515 : k0_chk515 v3601), ∀ a, (k0_off1030 v3601) a + S1x768.size a ≤ S50257x768.size a := fun v3601 k0_hw515 => k0_hw515

def k0_off1031 (i : grid0.Coords) : Fin 1 → Nat :=
  let arg0 : BitVec 32 := BitVec.ofNat 32 (i 0).val
  let c512_i32 : BitVec 32 := 512#32
  let v0 : BitVec 32 := Scalar.muli arg0 c512_i32
  let c3_i32_1548 : BitVec 32 := 3#32
  let v3606 : BitVec 32 := Scalar.addi v0 c3_i32_1548
  let v3607 : Index := Scalar.indexCast v3606
  ![v3607.toNat]
def k0_off1032 (v3608 : BitVec 32) : Fin 2 → Nat :=
  let c0_i32_1551 : BitVec 32 := 0#32
  ![v3608.toNat, 0]

def k0_chk516 (v3608 : BitVec 32) : Prop :=
  (∀ a, (k0_off1032 v3608) a + S1x768.size a ≤ S50257x768.size a)
theorem k0_off1032_inb : ∀ (v3608 : BitVec 32) (k0_hw516 : k0_chk516 v3608), ∀ a, (k0_off1032 v3608) a + S1x768.size a ≤ S50257x768.size a := fun v3608 k0_hw516 => k0_hw516

def k0_off1033 (i : grid0.Coords) : Fin 1 → Nat :=
  let arg0 : BitVec 32 := BitVec.ofNat 32 (i 0).val
  let c512_i32 : BitVec 32 := 512#32
  let v0 : BitVec 32 := Scalar.muli arg0 c512_i32
  let c4_i32_1552 : BitVec 32 := 4#32
  let v3613 : BitVec 32 := Scalar.addi v0 c4_i32_1552
  let v3614 : Index := Scalar.indexCast v3613
  ![v3614.toNat]
def k0_off1034 (v3615 : BitVec 32) : Fin 2 → Nat :=
  let c0_i32_1555 : BitVec 32 := 0#32
  ![v3615.toNat, 0]

def k0_chk517 (v3615 : BitVec 32) : Prop :=
  (∀ a, (k0_off1034 v3615) a + S1x768.size a ≤ S50257x768.size a)
theorem k0_off1034_inb : ∀ (v3615 : BitVec 32) (k0_hw517 : k0_chk517 v3615), ∀ a, (k0_off1034 v3615) a + S1x768.size a ≤ S50257x768.size a := fun v3615 k0_hw517 => k0_hw517

def k0_off1035 (i : grid0.Coords) : Fin 1 → Nat :=
  let arg0 : BitVec 32 := BitVec.ofNat 32 (i 0).val
  let c512_i32 : BitVec 32 := 512#32
  let v0 : BitVec 32 := Scalar.muli arg0 c512_i32
  let c5_i32_1556 : BitVec 32 := 5#32
  let v3620 : BitVec 32 := Scalar.addi v0 c5_i32_1556
  let v3621 : Index := Scalar.indexCast v3620
  ![v3621.toNat]
def k0_off1036 (v3622 : BitVec 32) : Fin 2 → Nat :=
  let c0_i32_1559 : BitVec 32 := 0#32
  ![v3622.toNat, 0]

def k0_chk518 (v3622 : BitVec 32) : Prop :=
  (∀ a, (k0_off1036 v3622) a + S1x768.size a ≤ S50257x768.size a)
theorem k0_off1036_inb : ∀ (v3622 : BitVec 32) (k0_hw518 : k0_chk518 v3622), ∀ a, (k0_off1036 v3622) a + S1x768.size a ≤ S50257x768.size a := fun v3622 k0_hw518 => k0_hw518

def k0_off1037 (i : grid0.Coords) : Fin 1 → Nat :=
  let arg0 : BitVec 32 := BitVec.ofNat 32 (i 0).val
  let c512_i32 : BitVec 32 := 512#32
  let v0 : BitVec 32 := Scalar.muli arg0 c512_i32
  let c6_i32_1560 : BitVec 32 := 6#32
  let v3627 : BitVec 32 := Scalar.addi v0 c6_i32_1560
  let v3628 : Index := Scalar.indexCast v3627
  ![v3628.toNat]
def k0_off1038 (v3629 : BitVec 32) : Fin 2 → Nat :=
  let c0_i32_1563 : BitVec 32 := 0#32
  ![v3629.toNat, 0]

def k0_chk519 (v3629 : BitVec 32) : Prop :=
  (∀ a, (k0_off1038 v3629) a + S1x768.size a ≤ S50257x768.size a)
theorem k0_off1038_inb : ∀ (v3629 : BitVec 32) (k0_hw519 : k0_chk519 v3629), ∀ a, (k0_off1038 v3629) a + S1x768.size a ≤ S50257x768.size a := fun v3629 k0_hw519 => k0_hw519

def k0_off1039 (i : grid0.Coords) : Fin 1 → Nat :=
  let arg0 : BitVec 32 := BitVec.ofNat 32 (i 0).val
  let c512_i32 : BitVec 32 := 512#32
  let v0 : BitVec 32 := Scalar.muli arg0 c512_i32
  let c7_i32_1564 : BitVec 32 := 7#32
  let v3634 : BitVec 32 := Scalar.addi v0 c7_i32_1564
  let v3635 : Index := Scalar.indexCast v3634
  ![v3635.toNat]
def k0_off1040 (v3636 : BitVec 32) : Fin 2 → Nat :=
  let c0_i32_1567 : BitVec 32 := 0#32
  ![v3636.toNat, 0]

def k0_chk520 (v3636 : BitVec 32) : Prop :=
  (∀ a, (k0_off1040 v3636) a + S1x768.size a ≤ S50257x768.size a)
theorem k0_off1040_inb : ∀ (v3636 : BitVec 32) (k0_hw520 : k0_chk520 v3636), ∀ a, (k0_off1040 v3636) a + S1x768.size a ≤ S50257x768.size a := fun v3636 k0_hw520 => k0_hw520

def k0_off1041 (i : grid0.Coords) : Fin 1 → Nat :=
  let arg0 : BitVec 32 := BitVec.ofNat 32 (i 0).val
  let c512_i32 : BitVec 32 := 512#32
  let v0 : BitVec 32 := Scalar.muli arg0 c512_i32
  let c8_i32_1568 : BitVec 32 := 8#32
  let v3641 : BitVec 32 := Scalar.addi v0 c8_i32_1568
  let v3642 : Index := Scalar.indexCast v3641
  ![v3642.toNat]
def k0_off1042 (v3643 : BitVec 32) : Fin 2 → Nat :=
  let c0_i32_1571 : BitVec 32 := 0#32
  ![v3643.toNat, 0]

def k0_chk521 (v3643 : BitVec 32) : Prop :=
  (∀ a, (k0_off1042 v3643) a + S1x768.size a ≤ S50257x768.size a)
theorem k0_off1042_inb : ∀ (v3643 : BitVec 32) (k0_hw521 : k0_chk521 v3643), ∀ a, (k0_off1042 v3643) a + S1x768.size a ≤ S50257x768.size a := fun v3643 k0_hw521 => k0_hw521

def k0_off1043 (i : grid0.Coords) : Fin 1 → Nat :=
  let arg0 : BitVec 32 := BitVec.ofNat 32 (i 0).val
  let c512_i32 : BitVec 32 := 512#32
  let v0 : BitVec 32 := Scalar.muli arg0 c512_i32
  let c9_i32_1572 : BitVec 32 := 9#32
  let v3648 : BitVec 32 := Scalar.addi v0 c9_i32_1572
  let v3649 : Index := Scalar.indexCast v3648
  ![v3649.toNat]
def k0_off1044 (v3650 : BitVec 32) : Fin 2 → Nat :=
  let c0_i32_1575 : BitVec 32 := 0#32
  ![v3650.toNat, 0]

def k0_chk522 (v3650 : BitVec 32) : Prop :=
  (∀ a, (k0_off1044 v3650) a + S1x768.size a ≤ S50257x768.size a)
theorem k0_off1044_inb : ∀ (v3650 : BitVec 32) (k0_hw522 : k0_chk522 v3650), ∀ a, (k0_off1044 v3650) a + S1x768.size a ≤ S50257x768.size a := fun v3650 k0_hw522 => k0_hw522

def k0_off1045 (i : grid0.Coords) : Fin 1 → Nat :=
  let arg0 : BitVec 32 := BitVec.ofNat 32 (i 0).val
  let c512_i32 : BitVec 32 := 512#32
  let v0 : BitVec 32 := Scalar.muli arg0 c512_i32
  let c10_i32_1576 : BitVec 32 := 10#32
  let v3655 : BitVec 32 := Scalar.addi v0 c10_i32_1576
  let v3656 : Index := Scalar.indexCast v3655
  ![v3656.toNat]
def k0_off1046 (v3657 : BitVec 32) : Fin 2 → Nat :=
  let c0_i32_1579 : BitVec 32 := 0#32
  ![v3657.toNat, 0]

def k0_chk523 (v3657 : BitVec 32) : Prop :=
  (∀ a, (k0_off1046 v3657) a + S1x768.size a ≤ S50257x768.size a)
theorem k0_off1046_inb : ∀ (v3657 : BitVec 32) (k0_hw523 : k0_chk523 v3657), ∀ a, (k0_off1046 v3657) a + S1x768.size a ≤ S50257x768.size a := fun v3657 k0_hw523 => k0_hw523

def k0_off1047 (i : grid0.Coords) : Fin 1 → Nat :=
  let arg0 : BitVec 32 := BitVec.ofNat 32 (i 0).val
  let c512_i32 : BitVec 32 := 512#32
  let v0 : BitVec 32 := Scalar.muli arg0 c512_i32
  let c11_i32_1580 : BitVec 32 := 11#32
  let v3662 : BitVec 32 := Scalar.addi v0 c11_i32_1580
  let v3663 : Index := Scalar.indexCast v3662
  ![v3663.toNat]
def k0_off1048 (v3664 : BitVec 32) : Fin 2 → Nat :=
  let c0_i32_1583 : BitVec 32 := 0#32
  ![v3664.toNat, 0]

def k0_chk524 (v3664 : BitVec 32) : Prop :=
  (∀ a, (k0_off1048 v3664) a + S1x768.size a ≤ S50257x768.size a)
theorem k0_off1048_inb : ∀ (v3664 : BitVec 32) (k0_hw524 : k0_chk524 v3664), ∀ a, (k0_off1048 v3664) a + S1x768.size a ≤ S50257x768.size a := fun v3664 k0_hw524 => k0_hw524

def k0_off1049 (i : grid0.Coords) : Fin 1 → Nat :=
  let arg0 : BitVec 32 := BitVec.ofNat 32 (i 0).val
  let c512_i32 : BitVec 32 := 512#32
  let v0 : BitVec 32 := Scalar.muli arg0 c512_i32
  let c12_i32_1584 : BitVec 32 := 12#32
  let v3669 : BitVec 32 := Scalar.addi v0 c12_i32_1584
  let v3670 : Index := Scalar.indexCast v3669
  ![v3670.toNat]
def k0_off1050 (v3671 : BitVec 32) : Fin 2 → Nat :=
  let c0_i32_1587 : BitVec 32 := 0#32
  ![v3671.toNat, 0]

def k0_chk525 (v3671 : BitVec 32) : Prop :=
  (∀ a, (k0_off1050 v3671) a + S1x768.size a ≤ S50257x768.size a)
theorem k0_off1050_inb : ∀ (v3671 : BitVec 32) (k0_hw525 : k0_chk525 v3671), ∀ a, (k0_off1050 v3671) a + S1x768.size a ≤ S50257x768.size a := fun v3671 k0_hw525 => k0_hw525

def k0_off1051 (i : grid0.Coords) : Fin 1 → Nat :=
  let arg0 : BitVec 32 := BitVec.ofNat 32 (i 0).val
  let c512_i32 : BitVec 32 := 512#32
  let v0 : BitVec 32 := Scalar.muli arg0 c512_i32
  let c13_i32_1588 : BitVec 32 := 13#32
  let v3676 : BitVec 32 := Scalar.addi v0 c13_i32_1588
  let v3677 : Index := Scalar.indexCast v3676
  ![v3677.toNat]
def k0_off1052 (v3678 : BitVec 32) : Fin 2 → Nat :=
  let c0_i32_1591 : BitVec 32 := 0#32
  ![v3678.toNat, 0]

def k0_chk526 (v3678 : BitVec 32) : Prop :=
  (∀ a, (k0_off1052 v3678) a + S1x768.size a ≤ S50257x768.size a)
theorem k0_off1052_inb : ∀ (v3678 : BitVec 32) (k0_hw526 : k0_chk526 v3678), ∀ a, (k0_off1052 v3678) a + S1x768.size a ≤ S50257x768.size a := fun v3678 k0_hw526 => k0_hw526

def k0_off1053 (i : grid0.Coords) : Fin 1 → Nat :=
  let arg0 : BitVec 32 := BitVec.ofNat 32 (i 0).val
  let c512_i32 : BitVec 32 := 512#32
  let v0 : BitVec 32 := Scalar.muli arg0 c512_i32
  let c14_i32_1592 : BitVec 32 := 14#32
  let v3683 : BitVec 32 := Scalar.addi v0 c14_i32_1592
  let v3684 : Index := Scalar.indexCast v3683
  ![v3684.toNat]
def k0_off1054 (v3685 : BitVec 32) : Fin 2 → Nat :=
  let c0_i32_1595 : BitVec 32 := 0#32
  ![v3685.toNat, 0]

def k0_chk527 (v3685 : BitVec 32) : Prop :=
  (∀ a, (k0_off1054 v3685) a + S1x768.size a ≤ S50257x768.size a)
theorem k0_off1054_inb : ∀ (v3685 : BitVec 32) (k0_hw527 : k0_chk527 v3685), ∀ a, (k0_off1054 v3685) a + S1x768.size a ≤ S50257x768.size a := fun v3685 k0_hw527 => k0_hw527

def k0_off1055 (i : grid0.Coords) : Fin 1 → Nat :=
  let arg0 : BitVec 32 := BitVec.ofNat 32 (i 0).val
  let c512_i32 : BitVec 32 := 512#32
  let v0 : BitVec 32 := Scalar.muli arg0 c512_i32
  let c15_i32_1596 : BitVec 32 := 15#32
  let v3690 : BitVec 32 := Scalar.addi v0 c15_i32_1596
  let v3691 : Index := Scalar.indexCast v3690
  ![v3691.toNat]
def k0_off1056 (v3692 : BitVec 32) : Fin 2 → Nat :=
  let c0_i32_1599 : BitVec 32 := 0#32
  ![v3692.toNat, 0]

def k0_chk528 (v3692 : BitVec 32) : Prop :=
  (∀ a, (k0_off1056 v3692) a + S1x768.size a ≤ S50257x768.size a)
theorem k0_off1056_inb : ∀ (v3692 : BitVec 32) (k0_hw528 : k0_chk528 v3692), ∀ a, (k0_off1056 v3692) a + S1x768.size a ≤ S50257x768.size a := fun v3692 k0_hw528 => k0_hw528

def k0_off1057 (i : grid0.Coords) : Fin 1 → Nat :=
  let arg0 : BitVec 32 := BitVec.ofNat 32 (i 0).val
  let c512_i32 : BitVec 32 := 512#32
  let v0 : BitVec 32 := Scalar.muli arg0 c512_i32
  let c16_i32_1600 : BitVec 32 := 16#32
  let v3697 : BitVec 32 := Scalar.addi v0 c16_i32_1600
  let v3698 : Index := Scalar.indexCast v3697
  ![v3698.toNat]
def k0_off1058 (v3699 : BitVec 32) : Fin 2 → Nat :=
  let c0_i32_1603 : BitVec 32 := 0#32
  ![v3699.toNat, 0]

def k0_chk529 (v3699 : BitVec 32) : Prop :=
  (∀ a, (k0_off1058 v3699) a + S1x768.size a ≤ S50257x768.size a)
theorem k0_off1058_inb : ∀ (v3699 : BitVec 32) (k0_hw529 : k0_chk529 v3699), ∀ a, (k0_off1058 v3699) a + S1x768.size a ≤ S50257x768.size a := fun v3699 k0_hw529 => k0_hw529

def k0_off1059 (i : grid0.Coords) : Fin 1 → Nat :=
  let arg0 : BitVec 32 := BitVec.ofNat 32 (i 0).val
  let c512_i32 : BitVec 32 := 512#32
  let v0 : BitVec 32 := Scalar.muli arg0 c512_i32
  let c17_i32_1604 : BitVec 32 := 17#32
  let v3704 : BitVec 32 := Scalar.addi v0 c17_i32_1604
  let v3705 : Index := Scalar.indexCast v3704
  ![v3705.toNat]
def k0_off1060 (v3706 : BitVec 32) : Fin 2 → Nat :=
  let c0_i32_1607 : BitVec 32 := 0#32
  ![v3706.toNat, 0]

def k0_chk530 (v3706 : BitVec 32) : Prop :=
  (∀ a, (k0_off1060 v3706) a + S1x768.size a ≤ S50257x768.size a)
theorem k0_off1060_inb : ∀ (v3706 : BitVec 32) (k0_hw530 : k0_chk530 v3706), ∀ a, (k0_off1060 v3706) a + S1x768.size a ≤ S50257x768.size a := fun v3706 k0_hw530 => k0_hw530

def k0_off1061 (i : grid0.Coords) : Fin 1 → Nat :=
  let arg0 : BitVec 32 := BitVec.ofNat 32 (i 0).val
  let c512_i32 : BitVec 32 := 512#32
  let v0 : BitVec 32 := Scalar.muli arg0 c512_i32
  let c18_i32_1608 : BitVec 32 := 18#32
  let v3711 : BitVec 32 := Scalar.addi v0 c18_i32_1608
  let v3712 : Index := Scalar.indexCast v3711
  ![v3712.toNat]
def k0_off1062 (v3713 : BitVec 32) : Fin 2 → Nat :=
  let c0_i32_1611 : BitVec 32 := 0#32
  ![v3713.toNat, 0]

def k0_chk531 (v3713 : BitVec 32) : Prop :=
  (∀ a, (k0_off1062 v3713) a + S1x768.size a ≤ S50257x768.size a)
theorem k0_off1062_inb : ∀ (v3713 : BitVec 32) (k0_hw531 : k0_chk531 v3713), ∀ a, (k0_off1062 v3713) a + S1x768.size a ≤ S50257x768.size a := fun v3713 k0_hw531 => k0_hw531

def k0_off1063 (i : grid0.Coords) : Fin 1 → Nat :=
  let arg0 : BitVec 32 := BitVec.ofNat 32 (i 0).val
  let c512_i32 : BitVec 32 := 512#32
  let v0 : BitVec 32 := Scalar.muli arg0 c512_i32
  let c19_i32_1612 : BitVec 32 := 19#32
  let v3718 : BitVec 32 := Scalar.addi v0 c19_i32_1612
  let v3719 : Index := Scalar.indexCast v3718
  ![v3719.toNat]
def k0_off1064 (v3720 : BitVec 32) : Fin 2 → Nat :=
  let c0_i32_1615 : BitVec 32 := 0#32
  ![v3720.toNat, 0]

def k0_chk532 (v3720 : BitVec 32) : Prop :=
  (∀ a, (k0_off1064 v3720) a + S1x768.size a ≤ S50257x768.size a)
theorem k0_off1064_inb : ∀ (v3720 : BitVec 32) (k0_hw532 : k0_chk532 v3720), ∀ a, (k0_off1064 v3720) a + S1x768.size a ≤ S50257x768.size a := fun v3720 k0_hw532 => k0_hw532

def k0_off1065 (i : grid0.Coords) : Fin 1 → Nat :=
  let arg0 : BitVec 32 := BitVec.ofNat 32 (i 0).val
  let c512_i32 : BitVec 32 := 512#32
  let v0 : BitVec 32 := Scalar.muli arg0 c512_i32
  let c20_i32_1616 : BitVec 32 := 20#32
  let v3725 : BitVec 32 := Scalar.addi v0 c20_i32_1616
  let v3726 : Index := Scalar.indexCast v3725
  ![v3726.toNat]
def k0_off1066 (v3727 : BitVec 32) : Fin 2 → Nat :=
  let c0_i32_1619 : BitVec 32 := 0#32
  ![v3727.toNat, 0]

def k0_chk533 (v3727 : BitVec 32) : Prop :=
  (∀ a, (k0_off1066 v3727) a + S1x768.size a ≤ S50257x768.size a)
theorem k0_off1066_inb : ∀ (v3727 : BitVec 32) (k0_hw533 : k0_chk533 v3727), ∀ a, (k0_off1066 v3727) a + S1x768.size a ≤ S50257x768.size a := fun v3727 k0_hw533 => k0_hw533

def k0_off1067 (i : grid0.Coords) : Fin 1 → Nat :=
  let arg0 : BitVec 32 := BitVec.ofNat 32 (i 0).val
  let c512_i32 : BitVec 32 := 512#32
  let v0 : BitVec 32 := Scalar.muli arg0 c512_i32
  let c21_i32_1620 : BitVec 32 := 21#32
  let v3732 : BitVec 32 := Scalar.addi v0 c21_i32_1620
  let v3733 : Index := Scalar.indexCast v3732
  ![v3733.toNat]
def k0_off1068 (v3734 : BitVec 32) : Fin 2 → Nat :=
  let c0_i32_1623 : BitVec 32 := 0#32
  ![v3734.toNat, 0]

def k0_chk534 (v3734 : BitVec 32) : Prop :=
  (∀ a, (k0_off1068 v3734) a + S1x768.size a ≤ S50257x768.size a)
theorem k0_off1068_inb : ∀ (v3734 : BitVec 32) (k0_hw534 : k0_chk534 v3734), ∀ a, (k0_off1068 v3734) a + S1x768.size a ≤ S50257x768.size a := fun v3734 k0_hw534 => k0_hw534

def k0_off1069 (i : grid0.Coords) : Fin 1 → Nat :=
  let arg0 : BitVec 32 := BitVec.ofNat 32 (i 0).val
  let c512_i32 : BitVec 32 := 512#32
  let v0 : BitVec 32 := Scalar.muli arg0 c512_i32
  let c22_i32_1624 : BitVec 32 := 22#32
  let v3739 : BitVec 32 := Scalar.addi v0 c22_i32_1624
  let v3740 : Index := Scalar.indexCast v3739
  ![v3740.toNat]
def k0_off1070 (v3741 : BitVec 32) : Fin 2 → Nat :=
  let c0_i32_1627 : BitVec 32 := 0#32
  ![v3741.toNat, 0]

def k0_chk535 (v3741 : BitVec 32) : Prop :=
  (∀ a, (k0_off1070 v3741) a + S1x768.size a ≤ S50257x768.size a)
theorem k0_off1070_inb : ∀ (v3741 : BitVec 32) (k0_hw535 : k0_chk535 v3741), ∀ a, (k0_off1070 v3741) a + S1x768.size a ≤ S50257x768.size a := fun v3741 k0_hw535 => k0_hw535

def k0_off1071 (i : grid0.Coords) : Fin 1 → Nat :=
  let arg0 : BitVec 32 := BitVec.ofNat 32 (i 0).val
  let c512_i32 : BitVec 32 := 512#32
  let v0 : BitVec 32 := Scalar.muli arg0 c512_i32
  let c23_i32_1628 : BitVec 32 := 23#32
  let v3746 : BitVec 32 := Scalar.addi v0 c23_i32_1628
  let v3747 : Index := Scalar.indexCast v3746
  ![v3747.toNat]
def k0_off1072 (v3748 : BitVec 32) : Fin 2 → Nat :=
  let c0_i32_1631 : BitVec 32 := 0#32
  ![v3748.toNat, 0]

def k0_chk536 (v3748 : BitVec 32) : Prop :=
  (∀ a, (k0_off1072 v3748) a + S1x768.size a ≤ S50257x768.size a)
theorem k0_off1072_inb : ∀ (v3748 : BitVec 32) (k0_hw536 : k0_chk536 v3748), ∀ a, (k0_off1072 v3748) a + S1x768.size a ≤ S50257x768.size a := fun v3748 k0_hw536 => k0_hw536

def k0_off1073 (i : grid0.Coords) : Fin 1 → Nat :=
  let arg0 : BitVec 32 := BitVec.ofNat 32 (i 0).val
  let c512_i32 : BitVec 32 := 512#32
  let v0 : BitVec 32 := Scalar.muli arg0 c512_i32
  let c24_i32_1632 : BitVec 32 := 24#32
  let v3753 : BitVec 32 := Scalar.addi v0 c24_i32_1632
  let v3754 : Index := Scalar.indexCast v3753
  ![v3754.toNat]
def k0_off1074 (v3755 : BitVec 32) : Fin 2 → Nat :=
  let c0_i32_1635 : BitVec 32 := 0#32
  ![v3755.toNat, 0]

def k0_chk537 (v3755 : BitVec 32) : Prop :=
  (∀ a, (k0_off1074 v3755) a + S1x768.size a ≤ S50257x768.size a)
theorem k0_off1074_inb : ∀ (v3755 : BitVec 32) (k0_hw537 : k0_chk537 v3755), ∀ a, (k0_off1074 v3755) a + S1x768.size a ≤ S50257x768.size a := fun v3755 k0_hw537 => k0_hw537

def k0_off1075 (i : grid0.Coords) : Fin 1 → Nat :=
  let arg0 : BitVec 32 := BitVec.ofNat 32 (i 0).val
  let c512_i32 : BitVec 32 := 512#32
  let v0 : BitVec 32 := Scalar.muli arg0 c512_i32
  let c25_i32_1636 : BitVec 32 := 25#32
  let v3760 : BitVec 32 := Scalar.addi v0 c25_i32_1636
  let v3761 : Index := Scalar.indexCast v3760
  ![v3761.toNat]
def k0_off1076 (v3762 : BitVec 32) : Fin 2 → Nat :=
  let c0_i32_1639 : BitVec 32 := 0#32
  ![v3762.toNat, 0]

def k0_chk538 (v3762 : BitVec 32) : Prop :=
  (∀ a, (k0_off1076 v3762) a + S1x768.size a ≤ S50257x768.size a)
theorem k0_off1076_inb : ∀ (v3762 : BitVec 32) (k0_hw538 : k0_chk538 v3762), ∀ a, (k0_off1076 v3762) a + S1x768.size a ≤ S50257x768.size a := fun v3762 k0_hw538 => k0_hw538

def k0_off1077 (i : grid0.Coords) : Fin 1 → Nat :=
  let arg0 : BitVec 32 := BitVec.ofNat 32 (i 0).val
  let c512_i32 : BitVec 32 := 512#32
  let v0 : BitVec 32 := Scalar.muli arg0 c512_i32
  let c26_i32_1640 : BitVec 32 := 26#32
  let v3767 : BitVec 32 := Scalar.addi v0 c26_i32_1640
  let v3768 : Index := Scalar.indexCast v3767
  ![v3768.toNat]
def k0_off1078 (v3769 : BitVec 32) : Fin 2 → Nat :=
  let c0_i32_1643 : BitVec 32 := 0#32
  ![v3769.toNat, 0]

def k0_chk539 (v3769 : BitVec 32) : Prop :=
  (∀ a, (k0_off1078 v3769) a + S1x768.size a ≤ S50257x768.size a)
theorem k0_off1078_inb : ∀ (v3769 : BitVec 32) (k0_hw539 : k0_chk539 v3769), ∀ a, (k0_off1078 v3769) a + S1x768.size a ≤ S50257x768.size a := fun v3769 k0_hw539 => k0_hw539

def k0_off1079 (i : grid0.Coords) : Fin 1 → Nat :=
  let arg0 : BitVec 32 := BitVec.ofNat 32 (i 0).val
  let c512_i32 : BitVec 32 := 512#32
  let v0 : BitVec 32 := Scalar.muli arg0 c512_i32
  let c27_i32_1644 : BitVec 32 := 27#32
  let v3774 : BitVec 32 := Scalar.addi v0 c27_i32_1644
  let v3775 : Index := Scalar.indexCast v3774
  ![v3775.toNat]
def k0_off1080 (v3776 : BitVec 32) : Fin 2 → Nat :=
  let c0_i32_1647 : BitVec 32 := 0#32
  ![v3776.toNat, 0]

def k0_chk540 (v3776 : BitVec 32) : Prop :=
  (∀ a, (k0_off1080 v3776) a + S1x768.size a ≤ S50257x768.size a)
theorem k0_off1080_inb : ∀ (v3776 : BitVec 32) (k0_hw540 : k0_chk540 v3776), ∀ a, (k0_off1080 v3776) a + S1x768.size a ≤ S50257x768.size a := fun v3776 k0_hw540 => k0_hw540

def k0_off1081 (i : grid0.Coords) : Fin 1 → Nat :=
  let arg0 : BitVec 32 := BitVec.ofNat 32 (i 0).val
  let c512_i32 : BitVec 32 := 512#32
  let v0 : BitVec 32 := Scalar.muli arg0 c512_i32
  let c28_i32_1648 : BitVec 32 := 28#32
  let v3781 : BitVec 32 := Scalar.addi v0 c28_i32_1648
  let v3782 : Index := Scalar.indexCast v3781
  ![v3782.toNat]
def k0_off1082 (v3783 : BitVec 32) : Fin 2 → Nat :=
  let c0_i32_1651 : BitVec 32 := 0#32
  ![v3783.toNat, 0]

def k0_chk541 (v3783 : BitVec 32) : Prop :=
  (∀ a, (k0_off1082 v3783) a + S1x768.size a ≤ S50257x768.size a)
theorem k0_off1082_inb : ∀ (v3783 : BitVec 32) (k0_hw541 : k0_chk541 v3783), ∀ a, (k0_off1082 v3783) a + S1x768.size a ≤ S50257x768.size a := fun v3783 k0_hw541 => k0_hw541

def k0_off1083 (i : grid0.Coords) : Fin 1 → Nat :=
  let arg0 : BitVec 32 := BitVec.ofNat 32 (i 0).val
  let c512_i32 : BitVec 32 := 512#32
  let v0 : BitVec 32 := Scalar.muli arg0 c512_i32
  let c29_i32_1652 : BitVec 32 := 29#32
  let v3788 : BitVec 32 := Scalar.addi v0 c29_i32_1652
  let v3789 : Index := Scalar.indexCast v3788
  ![v3789.toNat]
def k0_off1084 (v3790 : BitVec 32) : Fin 2 → Nat :=
  let c0_i32_1655 : BitVec 32 := 0#32
  ![v3790.toNat, 0]

def k0_chk542 (v3790 : BitVec 32) : Prop :=
  (∀ a, (k0_off1084 v3790) a + S1x768.size a ≤ S50257x768.size a)
theorem k0_off1084_inb : ∀ (v3790 : BitVec 32) (k0_hw542 : k0_chk542 v3790), ∀ a, (k0_off1084 v3790) a + S1x768.size a ≤ S50257x768.size a := fun v3790 k0_hw542 => k0_hw542

def k0_off1085 (i : grid0.Coords) : Fin 1 → Nat :=
  let arg0 : BitVec 32 := BitVec.ofNat 32 (i 0).val
  let c512_i32 : BitVec 32 := 512#32
  let v0 : BitVec 32 := Scalar.muli arg0 c512_i32
  let c30_i32_1656 : BitVec 32 := 30#32
  let v3795 : BitVec 32 := Scalar.addi v0 c30_i32_1656
  let v3796 : Index := Scalar.indexCast v3795
  ![v3796.toNat]
def k0_off1086 (v3797 : BitVec 32) : Fin 2 → Nat :=
  let c0_i32_1659 : BitVec 32 := 0#32
  ![v3797.toNat, 0]

def k0_chk543 (v3797 : BitVec 32) : Prop :=
  (∀ a, (k0_off1086 v3797) a + S1x768.size a ≤ S50257x768.size a)
theorem k0_off1086_inb : ∀ (v3797 : BitVec 32) (k0_hw543 : k0_chk543 v3797), ∀ a, (k0_off1086 v3797) a + S1x768.size a ≤ S50257x768.size a := fun v3797 k0_hw543 => k0_hw543

def k0_off1087 (i : grid0.Coords) : Fin 1 → Nat :=
  let arg0 : BitVec 32 := BitVec.ofNat 32 (i 0).val
  let c512_i32 : BitVec 32 := 512#32
  let v0 : BitVec 32 := Scalar.muli arg0 c512_i32
  let c31_i32_1660 : BitVec 32 := 31#32
  let v3802 : BitVec 32 := Scalar.addi v0 c31_i32_1660
  let v3803 : Index := Scalar.indexCast v3802
  ![v3803.toNat]
def k0_off1088 (v3804 : BitVec 32) : Fin 2 → Nat :=
  let c0_i32_1663 : BitVec 32 := 0#32
  ![v3804.toNat, 0]

def k0_chk544 (v3804 : BitVec 32) : Prop :=
  (∀ a, (k0_off1088 v3804) a + S1x768.size a ≤ S50257x768.size a)
theorem k0_off1088_inb : ∀ (v3804 : BitVec 32) (k0_hw544 : k0_chk544 v3804), ∀ a, (k0_off1088 v3804) a + S1x768.size a ≤ S50257x768.size a := fun v3804 k0_hw544 => k0_hw544

def k0_off1089 (i : grid0.Coords) : Fin 1 → Nat :=
  let arg0 : BitVec 32 := BitVec.ofNat 32 (i 0).val
  let c512_i32 : BitVec 32 := 512#32
  let v0 : BitVec 32 := Scalar.muli arg0 c512_i32
  let c32_i32_1664 : BitVec 32 := 32#32
  let v3809 : BitVec 32 := Scalar.addi v0 c32_i32_1664
  let v3810 : Index := Scalar.indexCast v3809
  ![v3810.toNat]
def k0_off1090 (v3811 : BitVec 32) : Fin 2 → Nat :=
  let c0_i32_1667 : BitVec 32 := 0#32
  ![v3811.toNat, 0]

def k0_chk545 (v3811 : BitVec 32) : Prop :=
  (∀ a, (k0_off1090 v3811) a + S1x768.size a ≤ S50257x768.size a)
theorem k0_off1090_inb : ∀ (v3811 : BitVec 32) (k0_hw545 : k0_chk545 v3811), ∀ a, (k0_off1090 v3811) a + S1x768.size a ≤ S50257x768.size a := fun v3811 k0_hw545 => k0_hw545

def k0_off1091 (i : grid0.Coords) : Fin 1 → Nat :=
  let arg0 : BitVec 32 := BitVec.ofNat 32 (i 0).val
  let c512_i32 : BitVec 32 := 512#32
  let v0 : BitVec 32 := Scalar.muli arg0 c512_i32
  let c33_i32_1668 : BitVec 32 := 33#32
  let v3816 : BitVec 32 := Scalar.addi v0 c33_i32_1668
  let v3817 : Index := Scalar.indexCast v3816
  ![v3817.toNat]
def k0_off1092 (v3818 : BitVec 32) : Fin 2 → Nat :=
  let c0_i32_1671 : BitVec 32 := 0#32
  ![v3818.toNat, 0]

def k0_chk546 (v3818 : BitVec 32) : Prop :=
  (∀ a, (k0_off1092 v3818) a + S1x768.size a ≤ S50257x768.size a)
theorem k0_off1092_inb : ∀ (v3818 : BitVec 32) (k0_hw546 : k0_chk546 v3818), ∀ a, (k0_off1092 v3818) a + S1x768.size a ≤ S50257x768.size a := fun v3818 k0_hw546 => k0_hw546

def k0_off1093 (i : grid0.Coords) : Fin 1 → Nat :=
  let arg0 : BitVec 32 := BitVec.ofNat 32 (i 0).val
  let c512_i32 : BitVec 32 := 512#32
  let v0 : BitVec 32 := Scalar.muli arg0 c512_i32
  let c34_i32_1672 : BitVec 32 := 34#32
  let v3823 : BitVec 32 := Scalar.addi v0 c34_i32_1672
  let v3824 : Index := Scalar.indexCast v3823
  ![v3824.toNat]
def k0_off1094 (v3825 : BitVec 32) : Fin 2 → Nat :=
  let c0_i32_1675 : BitVec 32 := 0#32
  ![v3825.toNat, 0]

def k0_chk547 (v3825 : BitVec 32) : Prop :=
  (∀ a, (k0_off1094 v3825) a + S1x768.size a ≤ S50257x768.size a)
theorem k0_off1094_inb : ∀ (v3825 : BitVec 32) (k0_hw547 : k0_chk547 v3825), ∀ a, (k0_off1094 v3825) a + S1x768.size a ≤ S50257x768.size a := fun v3825 k0_hw547 => k0_hw547

def k0_off1095 (i : grid0.Coords) : Fin 1 → Nat :=
  let arg0 : BitVec 32 := BitVec.ofNat 32 (i 0).val
  let c512_i32 : BitVec 32 := 512#32
  let v0 : BitVec 32 := Scalar.muli arg0 c512_i32
  let c35_i32_1676 : BitVec 32 := 35#32
  let v3830 : BitVec 32 := Scalar.addi v0 c35_i32_1676
  let v3831 : Index := Scalar.indexCast v3830
  ![v3831.toNat]
def k0_off1096 (v3832 : BitVec 32) : Fin 2 → Nat :=
  let c0_i32_1679 : BitVec 32 := 0#32
  ![v3832.toNat, 0]

def k0_chk548 (v3832 : BitVec 32) : Prop :=
  (∀ a, (k0_off1096 v3832) a + S1x768.size a ≤ S50257x768.size a)
theorem k0_off1096_inb : ∀ (v3832 : BitVec 32) (k0_hw548 : k0_chk548 v3832), ∀ a, (k0_off1096 v3832) a + S1x768.size a ≤ S50257x768.size a := fun v3832 k0_hw548 => k0_hw548

def k0_off1097 (i : grid0.Coords) : Fin 1 → Nat :=
  let arg0 : BitVec 32 := BitVec.ofNat 32 (i 0).val
  let c512_i32 : BitVec 32 := 512#32
  let v0 : BitVec 32 := Scalar.muli arg0 c512_i32
  let c36_i32_1680 : BitVec 32 := 36#32
  let v3837 : BitVec 32 := Scalar.addi v0 c36_i32_1680
  let v3838 : Index := Scalar.indexCast v3837
  ![v3838.toNat]
def k0_off1098 (v3839 : BitVec 32) : Fin 2 → Nat :=
  let c0_i32_1683 : BitVec 32 := 0#32
  ![v3839.toNat, 0]

def k0_chk549 (v3839 : BitVec 32) : Prop :=
  (∀ a, (k0_off1098 v3839) a + S1x768.size a ≤ S50257x768.size a)
theorem k0_off1098_inb : ∀ (v3839 : BitVec 32) (k0_hw549 : k0_chk549 v3839), ∀ a, (k0_off1098 v3839) a + S1x768.size a ≤ S50257x768.size a := fun v3839 k0_hw549 => k0_hw549

def k0_off1099 (i : grid0.Coords) : Fin 1 → Nat :=
  let arg0 : BitVec 32 := BitVec.ofNat 32 (i 0).val
  let c512_i32 : BitVec 32 := 512#32
  let v0 : BitVec 32 := Scalar.muli arg0 c512_i32
  let c37_i32_1684 : BitVec 32 := 37#32
  let v3844 : BitVec 32 := Scalar.addi v0 c37_i32_1684
  let v3845 : Index := Scalar.indexCast v3844
  ![v3845.toNat]
def k0_off1100 (v3846 : BitVec 32) : Fin 2 → Nat :=
  let c0_i32_1687 : BitVec 32 := 0#32
  ![v3846.toNat, 0]

def k0_chk550 (v3846 : BitVec 32) : Prop :=
  (∀ a, (k0_off1100 v3846) a + S1x768.size a ≤ S50257x768.size a)
theorem k0_off1100_inb : ∀ (v3846 : BitVec 32) (k0_hw550 : k0_chk550 v3846), ∀ a, (k0_off1100 v3846) a + S1x768.size a ≤ S50257x768.size a := fun v3846 k0_hw550 => k0_hw550

def k0_off1101 (i : grid0.Coords) : Fin 1 → Nat :=
  let arg0 : BitVec 32 := BitVec.ofNat 32 (i 0).val
  let c512_i32 : BitVec 32 := 512#32
  let v0 : BitVec 32 := Scalar.muli arg0 c512_i32
  let c38_i32_1688 : BitVec 32 := 38#32
  let v3851 : BitVec 32 := Scalar.addi v0 c38_i32_1688
  let v3852 : Index := Scalar.indexCast v3851
  ![v3852.toNat]
def k0_off1102 (v3853 : BitVec 32) : Fin 2 → Nat :=
  let c0_i32_1691 : BitVec 32 := 0#32
  ![v3853.toNat, 0]

def k0_chk551 (v3853 : BitVec 32) : Prop :=
  (∀ a, (k0_off1102 v3853) a + S1x768.size a ≤ S50257x768.size a)
theorem k0_off1102_inb : ∀ (v3853 : BitVec 32) (k0_hw551 : k0_chk551 v3853), ∀ a, (k0_off1102 v3853) a + S1x768.size a ≤ S50257x768.size a := fun v3853 k0_hw551 => k0_hw551

def k0_off1103 (i : grid0.Coords) : Fin 1 → Nat :=
  let arg0 : BitVec 32 := BitVec.ofNat 32 (i 0).val
  let c512_i32 : BitVec 32 := 512#32
  let v0 : BitVec 32 := Scalar.muli arg0 c512_i32
  let c39_i32_1692 : BitVec 32 := 39#32
  let v3858 : BitVec 32 := Scalar.addi v0 c39_i32_1692
  let v3859 : Index := Scalar.indexCast v3858
  ![v3859.toNat]
def k0_off1104 (v3860 : BitVec 32) : Fin 2 → Nat :=
  let c0_i32_1695 : BitVec 32 := 0#32
  ![v3860.toNat, 0]

def k0_chk552 (v3860 : BitVec 32) : Prop :=
  (∀ a, (k0_off1104 v3860) a + S1x768.size a ≤ S50257x768.size a)
theorem k0_off1104_inb : ∀ (v3860 : BitVec 32) (k0_hw552 : k0_chk552 v3860), ∀ a, (k0_off1104 v3860) a + S1x768.size a ≤ S50257x768.size a := fun v3860 k0_hw552 => k0_hw552

def k0_off1105 (i : grid0.Coords) : Fin 1 → Nat :=
  let arg0 : BitVec 32 := BitVec.ofNat 32 (i 0).val
  let c512_i32 : BitVec 32 := 512#32
  let v0 : BitVec 32 := Scalar.muli arg0 c512_i32
  let c40_i32_1696 : BitVec 32 := 40#32
  let v3865 : BitVec 32 := Scalar.addi v0 c40_i32_1696
  let v3866 : Index := Scalar.indexCast v3865
  ![v3866.toNat]
def k0_off1106 (v3867 : BitVec 32) : Fin 2 → Nat :=
  let c0_i32_1699 : BitVec 32 := 0#32
  ![v3867.toNat, 0]

def k0_chk553 (v3867 : BitVec 32) : Prop :=
  (∀ a, (k0_off1106 v3867) a + S1x768.size a ≤ S50257x768.size a)
theorem k0_off1106_inb : ∀ (v3867 : BitVec 32) (k0_hw553 : k0_chk553 v3867), ∀ a, (k0_off1106 v3867) a + S1x768.size a ≤ S50257x768.size a := fun v3867 k0_hw553 => k0_hw553

def k0_off1107 (i : grid0.Coords) : Fin 1 → Nat :=
  let arg0 : BitVec 32 := BitVec.ofNat 32 (i 0).val
  let c512_i32 : BitVec 32 := 512#32
  let v0 : BitVec 32 := Scalar.muli arg0 c512_i32
  let c41_i32_1700 : BitVec 32 := 41#32
  let v3872 : BitVec 32 := Scalar.addi v0 c41_i32_1700
  let v3873 : Index := Scalar.indexCast v3872
  ![v3873.toNat]
def k0_off1108 (v3874 : BitVec 32) : Fin 2 → Nat :=
  let c0_i32_1703 : BitVec 32 := 0#32
  ![v3874.toNat, 0]

def k0_chk554 (v3874 : BitVec 32) : Prop :=
  (∀ a, (k0_off1108 v3874) a + S1x768.size a ≤ S50257x768.size a)
theorem k0_off1108_inb : ∀ (v3874 : BitVec 32) (k0_hw554 : k0_chk554 v3874), ∀ a, (k0_off1108 v3874) a + S1x768.size a ≤ S50257x768.size a := fun v3874 k0_hw554 => k0_hw554

def k0_off1109 (i : grid0.Coords) : Fin 1 → Nat :=
  let arg0 : BitVec 32 := BitVec.ofNat 32 (i 0).val
  let c512_i32 : BitVec 32 := 512#32
  let v0 : BitVec 32 := Scalar.muli arg0 c512_i32
  let c42_i32_1704 : BitVec 32 := 42#32
  let v3879 : BitVec 32 := Scalar.addi v0 c42_i32_1704
  let v3880 : Index := Scalar.indexCast v3879
  ![v3880.toNat]
def k0_off1110 (v3881 : BitVec 32) : Fin 2 → Nat :=
  let c0_i32_1707 : BitVec 32 := 0#32
  ![v3881.toNat, 0]

def k0_chk555 (v3881 : BitVec 32) : Prop :=
  (∀ a, (k0_off1110 v3881) a + S1x768.size a ≤ S50257x768.size a)
theorem k0_off1110_inb : ∀ (v3881 : BitVec 32) (k0_hw555 : k0_chk555 v3881), ∀ a, (k0_off1110 v3881) a + S1x768.size a ≤ S50257x768.size a := fun v3881 k0_hw555 => k0_hw555

def k0_off1111 (i : grid0.Coords) : Fin 1 → Nat :=
  let arg0 : BitVec 32 := BitVec.ofNat 32 (i 0).val
  let c512_i32 : BitVec 32 := 512#32
  let v0 : BitVec 32 := Scalar.muli arg0 c512_i32
  let c43_i32_1708 : BitVec 32 := 43#32
  let v3886 : BitVec 32 := Scalar.addi v0 c43_i32_1708
  let v3887 : Index := Scalar.indexCast v3886
  ![v3887.toNat]
def k0_off1112 (v3888 : BitVec 32) : Fin 2 → Nat :=
  let c0_i32_1711 : BitVec 32 := 0#32
  ![v3888.toNat, 0]

def k0_chk556 (v3888 : BitVec 32) : Prop :=
  (∀ a, (k0_off1112 v3888) a + S1x768.size a ≤ S50257x768.size a)
theorem k0_off1112_inb : ∀ (v3888 : BitVec 32) (k0_hw556 : k0_chk556 v3888), ∀ a, (k0_off1112 v3888) a + S1x768.size a ≤ S50257x768.size a := fun v3888 k0_hw556 => k0_hw556

def k0_off1113 (i : grid0.Coords) : Fin 1 → Nat :=
  let arg0 : BitVec 32 := BitVec.ofNat 32 (i 0).val
  let c512_i32 : BitVec 32 := 512#32
  let v0 : BitVec 32 := Scalar.muli arg0 c512_i32
  let c44_i32_1712 : BitVec 32 := 44#32
  let v3893 : BitVec 32 := Scalar.addi v0 c44_i32_1712
  let v3894 : Index := Scalar.indexCast v3893
  ![v3894.toNat]
def k0_off1114 (v3895 : BitVec 32) : Fin 2 → Nat :=
  let c0_i32_1715 : BitVec 32 := 0#32
  ![v3895.toNat, 0]

def k0_chk557 (v3895 : BitVec 32) : Prop :=
  (∀ a, (k0_off1114 v3895) a + S1x768.size a ≤ S50257x768.size a)
theorem k0_off1114_inb : ∀ (v3895 : BitVec 32) (k0_hw557 : k0_chk557 v3895), ∀ a, (k0_off1114 v3895) a + S1x768.size a ≤ S50257x768.size a := fun v3895 k0_hw557 => k0_hw557

def k0_off1115 (i : grid0.Coords) : Fin 1 → Nat :=
  let arg0 : BitVec 32 := BitVec.ofNat 32 (i 0).val
  let c512_i32 : BitVec 32 := 512#32
  let v0 : BitVec 32 := Scalar.muli arg0 c512_i32
  let c45_i32_1716 : BitVec 32 := 45#32
  let v3900 : BitVec 32 := Scalar.addi v0 c45_i32_1716
  let v3901 : Index := Scalar.indexCast v3900
  ![v3901.toNat]
def k0_off1116 (v3902 : BitVec 32) : Fin 2 → Nat :=
  let c0_i32_1719 : BitVec 32 := 0#32
  ![v3902.toNat, 0]

def k0_chk558 (v3902 : BitVec 32) : Prop :=
  (∀ a, (k0_off1116 v3902) a + S1x768.size a ≤ S50257x768.size a)
theorem k0_off1116_inb : ∀ (v3902 : BitVec 32) (k0_hw558 : k0_chk558 v3902), ∀ a, (k0_off1116 v3902) a + S1x768.size a ≤ S50257x768.size a := fun v3902 k0_hw558 => k0_hw558

def k0_off1117 (i : grid0.Coords) : Fin 1 → Nat :=
  let arg0 : BitVec 32 := BitVec.ofNat 32 (i 0).val
  let c512_i32 : BitVec 32 := 512#32
  let v0 : BitVec 32 := Scalar.muli arg0 c512_i32
  let c46_i32_1720 : BitVec 32 := 46#32
  let v3907 : BitVec 32 := Scalar.addi v0 c46_i32_1720
  let v3908 : Index := Scalar.indexCast v3907
  ![v3908.toNat]
def k0_off1118 (v3909 : BitVec 32) : Fin 2 → Nat :=
  let c0_i32_1723 : BitVec 32 := 0#32
  ![v3909.toNat, 0]

def k0_chk559 (v3909 : BitVec 32) : Prop :=
  (∀ a, (k0_off1118 v3909) a + S1x768.size a ≤ S50257x768.size a)
theorem k0_off1118_inb : ∀ (v3909 : BitVec 32) (k0_hw559 : k0_chk559 v3909), ∀ a, (k0_off1118 v3909) a + S1x768.size a ≤ S50257x768.size a := fun v3909 k0_hw559 => k0_hw559

def k0_off1119 (i : grid0.Coords) : Fin 1 → Nat :=
  let arg0 : BitVec 32 := BitVec.ofNat 32 (i 0).val
  let c512_i32 : BitVec 32 := 512#32
  let v0 : BitVec 32 := Scalar.muli arg0 c512_i32
  let c47_i32_1724 : BitVec 32 := 47#32
  let v3914 : BitVec 32 := Scalar.addi v0 c47_i32_1724
  let v3915 : Index := Scalar.indexCast v3914
  ![v3915.toNat]
def k0_off1120 (v3916 : BitVec 32) : Fin 2 → Nat :=
  let c0_i32_1727 : BitVec 32 := 0#32
  ![v3916.toNat, 0]

def k0_chk560 (v3916 : BitVec 32) : Prop :=
  (∀ a, (k0_off1120 v3916) a + S1x768.size a ≤ S50257x768.size a)
theorem k0_off1120_inb : ∀ (v3916 : BitVec 32) (k0_hw560 : k0_chk560 v3916), ∀ a, (k0_off1120 v3916) a + S1x768.size a ≤ S50257x768.size a := fun v3916 k0_hw560 => k0_hw560

def k0_off1121 (i : grid0.Coords) : Fin 1 → Nat :=
  let arg0 : BitVec 32 := BitVec.ofNat 32 (i 0).val
  let c512_i32 : BitVec 32 := 512#32
  let v0 : BitVec 32 := Scalar.muli arg0 c512_i32
  let c48_i32_1728 : BitVec 32 := 48#32
  let v3921 : BitVec 32 := Scalar.addi v0 c48_i32_1728
  let v3922 : Index := Scalar.indexCast v3921
  ![v3922.toNat]
def k0_off1122 (v3923 : BitVec 32) : Fin 2 → Nat :=
  let c0_i32_1731 : BitVec 32 := 0#32
  ![v3923.toNat, 0]

def k0_chk561 (v3923 : BitVec 32) : Prop :=
  (∀ a, (k0_off1122 v3923) a + S1x768.size a ≤ S50257x768.size a)
theorem k0_off1122_inb : ∀ (v3923 : BitVec 32) (k0_hw561 : k0_chk561 v3923), ∀ a, (k0_off1122 v3923) a + S1x768.size a ≤ S50257x768.size a := fun v3923 k0_hw561 => k0_hw561

def k0_off1123 (i : grid0.Coords) : Fin 1 → Nat :=
  let arg0 : BitVec 32 := BitVec.ofNat 32 (i 0).val
  let c512_i32 : BitVec 32 := 512#32
  let v0 : BitVec 32 := Scalar.muli arg0 c512_i32
  let c49_i32_1732 : BitVec 32 := 49#32
  let v3928 : BitVec 32 := Scalar.addi v0 c49_i32_1732
  let v3929 : Index := Scalar.indexCast v3928
  ![v3929.toNat]
def k0_off1124 (v3930 : BitVec 32) : Fin 2 → Nat :=
  let c0_i32_1735 : BitVec 32 := 0#32
  ![v3930.toNat, 0]

def k0_chk562 (v3930 : BitVec 32) : Prop :=
  (∀ a, (k0_off1124 v3930) a + S1x768.size a ≤ S50257x768.size a)
theorem k0_off1124_inb : ∀ (v3930 : BitVec 32) (k0_hw562 : k0_chk562 v3930), ∀ a, (k0_off1124 v3930) a + S1x768.size a ≤ S50257x768.size a := fun v3930 k0_hw562 => k0_hw562

def k0_off1125 (i : grid0.Coords) : Fin 1 → Nat :=
  let arg0 : BitVec 32 := BitVec.ofNat 32 (i 0).val
  let c512_i32 : BitVec 32 := 512#32
  let v0 : BitVec 32 := Scalar.muli arg0 c512_i32
  let c50_i32_1736 : BitVec 32 := 50#32
  let v3935 : BitVec 32 := Scalar.addi v0 c50_i32_1736
  let v3936 : Index := Scalar.indexCast v3935
  ![v3936.toNat]
def k0_off1126 (v3937 : BitVec 32) : Fin 2 → Nat :=
  let c0_i32_1739 : BitVec 32 := 0#32
  ![v3937.toNat, 0]

def k0_chk563 (v3937 : BitVec 32) : Prop :=
  (∀ a, (k0_off1126 v3937) a + S1x768.size a ≤ S50257x768.size a)
theorem k0_off1126_inb : ∀ (v3937 : BitVec 32) (k0_hw563 : k0_chk563 v3937), ∀ a, (k0_off1126 v3937) a + S1x768.size a ≤ S50257x768.size a := fun v3937 k0_hw563 => k0_hw563

def k0_off1127 (i : grid0.Coords) : Fin 1 → Nat :=
  let arg0 : BitVec 32 := BitVec.ofNat 32 (i 0).val
  let c512_i32 : BitVec 32 := 512#32
  let v0 : BitVec 32 := Scalar.muli arg0 c512_i32
  let c51_i32_1740 : BitVec 32 := 51#32
  let v3942 : BitVec 32 := Scalar.addi v0 c51_i32_1740
  let v3943 : Index := Scalar.indexCast v3942
  ![v3943.toNat]
def k0_off1128 (v3944 : BitVec 32) : Fin 2 → Nat :=
  let c0_i32_1743 : BitVec 32 := 0#32
  ![v3944.toNat, 0]

def k0_chk564 (v3944 : BitVec 32) : Prop :=
  (∀ a, (k0_off1128 v3944) a + S1x768.size a ≤ S50257x768.size a)
theorem k0_off1128_inb : ∀ (v3944 : BitVec 32) (k0_hw564 : k0_chk564 v3944), ∀ a, (k0_off1128 v3944) a + S1x768.size a ≤ S50257x768.size a := fun v3944 k0_hw564 => k0_hw564

def k0_off1129 (i : grid0.Coords) : Fin 1 → Nat :=
  let arg0 : BitVec 32 := BitVec.ofNat 32 (i 0).val
  let c512_i32 : BitVec 32 := 512#32
  let v0 : BitVec 32 := Scalar.muli arg0 c512_i32
  let c52_i32_1744 : BitVec 32 := 52#32
  let v3949 : BitVec 32 := Scalar.addi v0 c52_i32_1744
  let v3950 : Index := Scalar.indexCast v3949
  ![v3950.toNat]
def k0_off1130 (v3951 : BitVec 32) : Fin 2 → Nat :=
  let c0_i32_1747 : BitVec 32 := 0#32
  ![v3951.toNat, 0]

def k0_chk565 (v3951 : BitVec 32) : Prop :=
  (∀ a, (k0_off1130 v3951) a + S1x768.size a ≤ S50257x768.size a)
theorem k0_off1130_inb : ∀ (v3951 : BitVec 32) (k0_hw565 : k0_chk565 v3951), ∀ a, (k0_off1130 v3951) a + S1x768.size a ≤ S50257x768.size a := fun v3951 k0_hw565 => k0_hw565

def k0_off1131 (i : grid0.Coords) : Fin 1 → Nat :=
  let arg0 : BitVec 32 := BitVec.ofNat 32 (i 0).val
  let c512_i32 : BitVec 32 := 512#32
  let v0 : BitVec 32 := Scalar.muli arg0 c512_i32
  let c53_i32_1748 : BitVec 32 := 53#32
  let v3956 : BitVec 32 := Scalar.addi v0 c53_i32_1748
  let v3957 : Index := Scalar.indexCast v3956
  ![v3957.toNat]
def k0_off1132 (v3958 : BitVec 32) : Fin 2 → Nat :=
  let c0_i32_1751 : BitVec 32 := 0#32
  ![v3958.toNat, 0]

def k0_chk566 (v3958 : BitVec 32) : Prop :=
  (∀ a, (k0_off1132 v3958) a + S1x768.size a ≤ S50257x768.size a)
theorem k0_off1132_inb : ∀ (v3958 : BitVec 32) (k0_hw566 : k0_chk566 v3958), ∀ a, (k0_off1132 v3958) a + S1x768.size a ≤ S50257x768.size a := fun v3958 k0_hw566 => k0_hw566

def k0_off1133 (i : grid0.Coords) : Fin 1 → Nat :=
  let arg0 : BitVec 32 := BitVec.ofNat 32 (i 0).val
  let c512_i32 : BitVec 32 := 512#32
  let v0 : BitVec 32 := Scalar.muli arg0 c512_i32
  let c54_i32_1752 : BitVec 32 := 54#32
  let v3963 : BitVec 32 := Scalar.addi v0 c54_i32_1752
  let v3964 : Index := Scalar.indexCast v3963
  ![v3964.toNat]
def k0_off1134 (v3965 : BitVec 32) : Fin 2 → Nat :=
  let c0_i32_1755 : BitVec 32 := 0#32
  ![v3965.toNat, 0]

def k0_chk567 (v3965 : BitVec 32) : Prop :=
  (∀ a, (k0_off1134 v3965) a + S1x768.size a ≤ S50257x768.size a)
theorem k0_off1134_inb : ∀ (v3965 : BitVec 32) (k0_hw567 : k0_chk567 v3965), ∀ a, (k0_off1134 v3965) a + S1x768.size a ≤ S50257x768.size a := fun v3965 k0_hw567 => k0_hw567

def k0_off1135 (i : grid0.Coords) : Fin 1 → Nat :=
  let arg0 : BitVec 32 := BitVec.ofNat 32 (i 0).val
  let c512_i32 : BitVec 32 := 512#32
  let v0 : BitVec 32 := Scalar.muli arg0 c512_i32
  let c55_i32_1756 : BitVec 32 := 55#32
  let v3970 : BitVec 32 := Scalar.addi v0 c55_i32_1756
  let v3971 : Index := Scalar.indexCast v3970
  ![v3971.toNat]
def k0_off1136 (v3972 : BitVec 32) : Fin 2 → Nat :=
  let c0_i32_1759 : BitVec 32 := 0#32
  ![v3972.toNat, 0]

def k0_chk568 (v3972 : BitVec 32) : Prop :=
  (∀ a, (k0_off1136 v3972) a + S1x768.size a ≤ S50257x768.size a)
theorem k0_off1136_inb : ∀ (v3972 : BitVec 32) (k0_hw568 : k0_chk568 v3972), ∀ a, (k0_off1136 v3972) a + S1x768.size a ≤ S50257x768.size a := fun v3972 k0_hw568 => k0_hw568

def k0_off1137 (i : grid0.Coords) : Fin 1 → Nat :=
  let arg0 : BitVec 32 := BitVec.ofNat 32 (i 0).val
  let c512_i32 : BitVec 32 := 512#32
  let v0 : BitVec 32 := Scalar.muli arg0 c512_i32
  let c56_i32_1760 : BitVec 32 := 56#32
  let v3977 : BitVec 32 := Scalar.addi v0 c56_i32_1760
  let v3978 : Index := Scalar.indexCast v3977
  ![v3978.toNat]
def k0_off1138 (v3979 : BitVec 32) : Fin 2 → Nat :=
  let c0_i32_1763 : BitVec 32 := 0#32
  ![v3979.toNat, 0]

def k0_chk569 (v3979 : BitVec 32) : Prop :=
  (∀ a, (k0_off1138 v3979) a + S1x768.size a ≤ S50257x768.size a)
theorem k0_off1138_inb : ∀ (v3979 : BitVec 32) (k0_hw569 : k0_chk569 v3979), ∀ a, (k0_off1138 v3979) a + S1x768.size a ≤ S50257x768.size a := fun v3979 k0_hw569 => k0_hw569

def k0_off1139 (i : grid0.Coords) : Fin 1 → Nat :=
  let arg0 : BitVec 32 := BitVec.ofNat 32 (i 0).val
  let c512_i32 : BitVec 32 := 512#32
  let v0 : BitVec 32 := Scalar.muli arg0 c512_i32
  let c57_i32_1764 : BitVec 32 := 57#32
  let v3984 : BitVec 32 := Scalar.addi v0 c57_i32_1764
  let v3985 : Index := Scalar.indexCast v3984
  ![v3985.toNat]
def k0_off1140 (v3986 : BitVec 32) : Fin 2 → Nat :=
  let c0_i32_1767 : BitVec 32 := 0#32
  ![v3986.toNat, 0]

def k0_chk570 (v3986 : BitVec 32) : Prop :=
  (∀ a, (k0_off1140 v3986) a + S1x768.size a ≤ S50257x768.size a)
theorem k0_off1140_inb : ∀ (v3986 : BitVec 32) (k0_hw570 : k0_chk570 v3986), ∀ a, (k0_off1140 v3986) a + S1x768.size a ≤ S50257x768.size a := fun v3986 k0_hw570 => k0_hw570

def k0_off1141 (i : grid0.Coords) : Fin 1 → Nat :=
  let arg0 : BitVec 32 := BitVec.ofNat 32 (i 0).val
  let c512_i32 : BitVec 32 := 512#32
  let v0 : BitVec 32 := Scalar.muli arg0 c512_i32
  let c58_i32_1768 : BitVec 32 := 58#32
  let v3991 : BitVec 32 := Scalar.addi v0 c58_i32_1768
  let v3992 : Index := Scalar.indexCast v3991
  ![v3992.toNat]
def k0_off1142 (v3993 : BitVec 32) : Fin 2 → Nat :=
  let c0_i32_1771 : BitVec 32 := 0#32
  ![v3993.toNat, 0]

def k0_chk571 (v3993 : BitVec 32) : Prop :=
  (∀ a, (k0_off1142 v3993) a + S1x768.size a ≤ S50257x768.size a)
theorem k0_off1142_inb : ∀ (v3993 : BitVec 32) (k0_hw571 : k0_chk571 v3993), ∀ a, (k0_off1142 v3993) a + S1x768.size a ≤ S50257x768.size a := fun v3993 k0_hw571 => k0_hw571

def k0_off1143 (i : grid0.Coords) : Fin 1 → Nat :=
  let arg0 : BitVec 32 := BitVec.ofNat 32 (i 0).val
  let c512_i32 : BitVec 32 := 512#32
  let v0 : BitVec 32 := Scalar.muli arg0 c512_i32
  let c59_i32_1772 : BitVec 32 := 59#32
  let v3998 : BitVec 32 := Scalar.addi v0 c59_i32_1772
  let v3999 : Index := Scalar.indexCast v3998
  ![v3999.toNat]
def k0_off1144 (v4000 : BitVec 32) : Fin 2 → Nat :=
  let c0_i32_1775 : BitVec 32 := 0#32
  ![v4000.toNat, 0]

def k0_chk572 (v4000 : BitVec 32) : Prop :=
  (∀ a, (k0_off1144 v4000) a + S1x768.size a ≤ S50257x768.size a)
theorem k0_off1144_inb : ∀ (v4000 : BitVec 32) (k0_hw572 : k0_chk572 v4000), ∀ a, (k0_off1144 v4000) a + S1x768.size a ≤ S50257x768.size a := fun v4000 k0_hw572 => k0_hw572

def k0_off1145 (i : grid0.Coords) : Fin 1 → Nat :=
  let arg0 : BitVec 32 := BitVec.ofNat 32 (i 0).val
  let c512_i32 : BitVec 32 := 512#32
  let v0 : BitVec 32 := Scalar.muli arg0 c512_i32
  let c60_i32_1776 : BitVec 32 := 60#32
  let v4005 : BitVec 32 := Scalar.addi v0 c60_i32_1776
  let v4006 : Index := Scalar.indexCast v4005
  ![v4006.toNat]
def k0_off1146 (v4007 : BitVec 32) : Fin 2 → Nat :=
  let c0_i32_1779 : BitVec 32 := 0#32
  ![v4007.toNat, 0]

def k0_chk573 (v4007 : BitVec 32) : Prop :=
  (∀ a, (k0_off1146 v4007) a + S1x768.size a ≤ S50257x768.size a)
theorem k0_off1146_inb : ∀ (v4007 : BitVec 32) (k0_hw573 : k0_chk573 v4007), ∀ a, (k0_off1146 v4007) a + S1x768.size a ≤ S50257x768.size a := fun v4007 k0_hw573 => k0_hw573

def k0_off1147 (i : grid0.Coords) : Fin 1 → Nat :=
  let arg0 : BitVec 32 := BitVec.ofNat 32 (i 0).val
  let c512_i32 : BitVec 32 := 512#32
  let v0 : BitVec 32 := Scalar.muli arg0 c512_i32
  let c61_i32_1780 : BitVec 32 := 61#32
  let v4012 : BitVec 32 := Scalar.addi v0 c61_i32_1780
  let v4013 : Index := Scalar.indexCast v4012
  ![v4013.toNat]
def k0_off1148 (v4014 : BitVec 32) : Fin 2 → Nat :=
  let c0_i32_1783 : BitVec 32 := 0#32
  ![v4014.toNat, 0]

def k0_chk574 (v4014 : BitVec 32) : Prop :=
  (∀ a, (k0_off1148 v4014) a + S1x768.size a ≤ S50257x768.size a)
theorem k0_off1148_inb : ∀ (v4014 : BitVec 32) (k0_hw574 : k0_chk574 v4014), ∀ a, (k0_off1148 v4014) a + S1x768.size a ≤ S50257x768.size a := fun v4014 k0_hw574 => k0_hw574

def k0_off1149 (i : grid0.Coords) : Fin 1 → Nat :=
  let arg0 : BitVec 32 := BitVec.ofNat 32 (i 0).val
  let c512_i32 : BitVec 32 := 512#32
  let v0 : BitVec 32 := Scalar.muli arg0 c512_i32
  let c62_i32_1784 : BitVec 32 := 62#32
  let v4019 : BitVec 32 := Scalar.addi v0 c62_i32_1784
  let v4020 : Index := Scalar.indexCast v4019
  ![v4020.toNat]
def k0_off1150 (v4021 : BitVec 32) : Fin 2 → Nat :=
  let c0_i32_1787 : BitVec 32 := 0#32
  ![v4021.toNat, 0]

def k0_chk575 (v4021 : BitVec 32) : Prop :=
  (∀ a, (k0_off1150 v4021) a + S1x768.size a ≤ S50257x768.size a)
theorem k0_off1150_inb : ∀ (v4021 : BitVec 32) (k0_hw575 : k0_chk575 v4021), ∀ a, (k0_off1150 v4021) a + S1x768.size a ≤ S50257x768.size a := fun v4021 k0_hw575 => k0_hw575

def k0_off1151 (i : grid0.Coords) : Fin 1 → Nat :=
  let arg0 : BitVec 32 := BitVec.ofNat 32 (i 0).val
  let c512_i32 : BitVec 32 := 512#32
  let v0 : BitVec 32 := Scalar.muli arg0 c512_i32
  let c63_i32_1788 : BitVec 32 := 63#32
  let v4026 : BitVec 32 := Scalar.addi v0 c63_i32_1788
  let v4027 : Index := Scalar.indexCast v4026
  ![v4027.toNat]
def k0_off1152 (v4028 : BitVec 32) : Fin 2 → Nat :=
  let c0_i32_1791 : BitVec 32 := 0#32
  ![v4028.toNat, 0]

def k0_chk576 (v4028 : BitVec 32) : Prop :=
  (∀ a, (k0_off1152 v4028) a + S1x768.size a ≤ S50257x768.size a)
theorem k0_off1152_inb : ∀ (v4028 : BitVec 32) (k0_hw576 : k0_chk576 v4028), ∀ a, (k0_off1152 v4028) a + S1x768.size a ≤ S50257x768.size a := fun v4028 k0_hw576 => k0_hw576

def k0_off1153 (i : grid0.Coords) : Fin 1 → Nat :=
  let arg0 : BitVec 32 := BitVec.ofNat 32 (i 0).val
  let c512_i32 : BitVec 32 := 512#32
  let v0 : BitVec 32 := Scalar.muli arg0 c512_i32
  let c64_i32_1792 : BitVec 32 := 64#32
  let v4033 : BitVec 32 := Scalar.addi v0 c64_i32_1792
  let v4034 : Index := Scalar.indexCast v4033
  ![v4034.toNat]
def k0_off1154 (v4035 : BitVec 32) : Fin 2 → Nat :=
  let c0_i32_1795 : BitVec 32 := 0#32
  ![v4035.toNat, 0]

def k0_chk577 (v4035 : BitVec 32) : Prop :=
  (∀ a, (k0_off1154 v4035) a + S1x768.size a ≤ S50257x768.size a)
theorem k0_off1154_inb : ∀ (v4035 : BitVec 32) (k0_hw577 : k0_chk577 v4035), ∀ a, (k0_off1154 v4035) a + S1x768.size a ≤ S50257x768.size a := fun v4035 k0_hw577 => k0_hw577

def k0_off1155 (i : grid0.Coords) : Fin 1 → Nat :=
  let arg0 : BitVec 32 := BitVec.ofNat 32 (i 0).val
  let c512_i32 : BitVec 32 := 512#32
  let v0 : BitVec 32 := Scalar.muli arg0 c512_i32
  let c65_i32_1796 : BitVec 32 := 65#32
  let v4040 : BitVec 32 := Scalar.addi v0 c65_i32_1796
  let v4041 : Index := Scalar.indexCast v4040
  ![v4041.toNat]
def k0_off1156 (v4042 : BitVec 32) : Fin 2 → Nat :=
  let c0_i32_1799 : BitVec 32 := 0#32
  ![v4042.toNat, 0]

def k0_chk578 (v4042 : BitVec 32) : Prop :=
  (∀ a, (k0_off1156 v4042) a + S1x768.size a ≤ S50257x768.size a)
theorem k0_off1156_inb : ∀ (v4042 : BitVec 32) (k0_hw578 : k0_chk578 v4042), ∀ a, (k0_off1156 v4042) a + S1x768.size a ≤ S50257x768.size a := fun v4042 k0_hw578 => k0_hw578

def k0_off1157 (i : grid0.Coords) : Fin 1 → Nat :=
  let arg0 : BitVec 32 := BitVec.ofNat 32 (i 0).val
  let c512_i32 : BitVec 32 := 512#32
  let v0 : BitVec 32 := Scalar.muli arg0 c512_i32
  let c66_i32_1800 : BitVec 32 := 66#32
  let v4047 : BitVec 32 := Scalar.addi v0 c66_i32_1800
  let v4048 : Index := Scalar.indexCast v4047
  ![v4048.toNat]
def k0_off1158 (v4049 : BitVec 32) : Fin 2 → Nat :=
  let c0_i32_1803 : BitVec 32 := 0#32
  ![v4049.toNat, 0]

def k0_chk579 (v4049 : BitVec 32) : Prop :=
  (∀ a, (k0_off1158 v4049) a + S1x768.size a ≤ S50257x768.size a)
theorem k0_off1158_inb : ∀ (v4049 : BitVec 32) (k0_hw579 : k0_chk579 v4049), ∀ a, (k0_off1158 v4049) a + S1x768.size a ≤ S50257x768.size a := fun v4049 k0_hw579 => k0_hw579

def k0_off1159 (i : grid0.Coords) : Fin 1 → Nat :=
  let arg0 : BitVec 32 := BitVec.ofNat 32 (i 0).val
  let c512_i32 : BitVec 32 := 512#32
  let v0 : BitVec 32 := Scalar.muli arg0 c512_i32
  let c67_i32_1804 : BitVec 32 := 67#32
  let v4054 : BitVec 32 := Scalar.addi v0 c67_i32_1804
  let v4055 : Index := Scalar.indexCast v4054
  ![v4055.toNat]
def k0_off1160 (v4056 : BitVec 32) : Fin 2 → Nat :=
  let c0_i32_1807 : BitVec 32 := 0#32
  ![v4056.toNat, 0]

def k0_chk580 (v4056 : BitVec 32) : Prop :=
  (∀ a, (k0_off1160 v4056) a + S1x768.size a ≤ S50257x768.size a)
theorem k0_off1160_inb : ∀ (v4056 : BitVec 32) (k0_hw580 : k0_chk580 v4056), ∀ a, (k0_off1160 v4056) a + S1x768.size a ≤ S50257x768.size a := fun v4056 k0_hw580 => k0_hw580

def k0_off1161 (i : grid0.Coords) : Fin 1 → Nat :=
  let arg0 : BitVec 32 := BitVec.ofNat 32 (i 0).val
  let c512_i32 : BitVec 32 := 512#32
  let v0 : BitVec 32 := Scalar.muli arg0 c512_i32
  let c68_i32_1808 : BitVec 32 := 68#32
  let v4061 : BitVec 32 := Scalar.addi v0 c68_i32_1808
  let v4062 : Index := Scalar.indexCast v4061
  ![v4062.toNat]
def k0_off1162 (v4063 : BitVec 32) : Fin 2 → Nat :=
  let c0_i32_1811 : BitVec 32 := 0#32
  ![v4063.toNat, 0]

def k0_chk581 (v4063 : BitVec 32) : Prop :=
  (∀ a, (k0_off1162 v4063) a + S1x768.size a ≤ S50257x768.size a)
theorem k0_off1162_inb : ∀ (v4063 : BitVec 32) (k0_hw581 : k0_chk581 v4063), ∀ a, (k0_off1162 v4063) a + S1x768.size a ≤ S50257x768.size a := fun v4063 k0_hw581 => k0_hw581

def k0_off1163 (i : grid0.Coords) : Fin 1 → Nat :=
  let arg0 : BitVec 32 := BitVec.ofNat 32 (i 0).val
  let c512_i32 : BitVec 32 := 512#32
  let v0 : BitVec 32 := Scalar.muli arg0 c512_i32
  let c69_i32_1812 : BitVec 32 := 69#32
  let v4068 : BitVec 32 := Scalar.addi v0 c69_i32_1812
  let v4069 : Index := Scalar.indexCast v4068
  ![v4069.toNat]
def k0_off1164 (v4070 : BitVec 32) : Fin 2 → Nat :=
  let c0_i32_1815 : BitVec 32 := 0#32
  ![v4070.toNat, 0]

def k0_chk582 (v4070 : BitVec 32) : Prop :=
  (∀ a, (k0_off1164 v4070) a + S1x768.size a ≤ S50257x768.size a)
theorem k0_off1164_inb : ∀ (v4070 : BitVec 32) (k0_hw582 : k0_chk582 v4070), ∀ a, (k0_off1164 v4070) a + S1x768.size a ≤ S50257x768.size a := fun v4070 k0_hw582 => k0_hw582

def k0_off1165 (i : grid0.Coords) : Fin 1 → Nat :=
  let arg0 : BitVec 32 := BitVec.ofNat 32 (i 0).val
  let c512_i32 : BitVec 32 := 512#32
  let v0 : BitVec 32 := Scalar.muli arg0 c512_i32
  let c70_i32_1816 : BitVec 32 := 70#32
  let v4075 : BitVec 32 := Scalar.addi v0 c70_i32_1816
  let v4076 : Index := Scalar.indexCast v4075
  ![v4076.toNat]
def k0_off1166 (v4077 : BitVec 32) : Fin 2 → Nat :=
  let c0_i32_1819 : BitVec 32 := 0#32
  ![v4077.toNat, 0]

def k0_chk583 (v4077 : BitVec 32) : Prop :=
  (∀ a, (k0_off1166 v4077) a + S1x768.size a ≤ S50257x768.size a)
theorem k0_off1166_inb : ∀ (v4077 : BitVec 32) (k0_hw583 : k0_chk583 v4077), ∀ a, (k0_off1166 v4077) a + S1x768.size a ≤ S50257x768.size a := fun v4077 k0_hw583 => k0_hw583

def k0_off1167 (i : grid0.Coords) : Fin 1 → Nat :=
  let arg0 : BitVec 32 := BitVec.ofNat 32 (i 0).val
  let c512_i32 : BitVec 32 := 512#32
  let v0 : BitVec 32 := Scalar.muli arg0 c512_i32
  let c71_i32_1820 : BitVec 32 := 71#32
  let v4082 : BitVec 32 := Scalar.addi v0 c71_i32_1820
  let v4083 : Index := Scalar.indexCast v4082
  ![v4083.toNat]
def k0_off1168 (v4084 : BitVec 32) : Fin 2 → Nat :=
  let c0_i32_1823 : BitVec 32 := 0#32
  ![v4084.toNat, 0]

def k0_chk584 (v4084 : BitVec 32) : Prop :=
  (∀ a, (k0_off1168 v4084) a + S1x768.size a ≤ S50257x768.size a)
theorem k0_off1168_inb : ∀ (v4084 : BitVec 32) (k0_hw584 : k0_chk584 v4084), ∀ a, (k0_off1168 v4084) a + S1x768.size a ≤ S50257x768.size a := fun v4084 k0_hw584 => k0_hw584

def k0_off1169 (i : grid0.Coords) : Fin 1 → Nat :=
  let arg0 : BitVec 32 := BitVec.ofNat 32 (i 0).val
  let c512_i32 : BitVec 32 := 512#32
  let v0 : BitVec 32 := Scalar.muli arg0 c512_i32
  let c72_i32_1824 : BitVec 32 := 72#32
  let v4089 : BitVec 32 := Scalar.addi v0 c72_i32_1824
  let v4090 : Index := Scalar.indexCast v4089
  ![v4090.toNat]
def k0_off1170 (v4091 : BitVec 32) : Fin 2 → Nat :=
  let c0_i32_1827 : BitVec 32 := 0#32
  ![v4091.toNat, 0]

def k0_chk585 (v4091 : BitVec 32) : Prop :=
  (∀ a, (k0_off1170 v4091) a + S1x768.size a ≤ S50257x768.size a)
theorem k0_off1170_inb : ∀ (v4091 : BitVec 32) (k0_hw585 : k0_chk585 v4091), ∀ a, (k0_off1170 v4091) a + S1x768.size a ≤ S50257x768.size a := fun v4091 k0_hw585 => k0_hw585

def k0_off1171 (i : grid0.Coords) : Fin 1 → Nat :=
  let arg0 : BitVec 32 := BitVec.ofNat 32 (i 0).val
  let c512_i32 : BitVec 32 := 512#32
  let v0 : BitVec 32 := Scalar.muli arg0 c512_i32
  let c73_i32_1828 : BitVec 32 := 73#32
  let v4096 : BitVec 32 := Scalar.addi v0 c73_i32_1828
  let v4097 : Index := Scalar.indexCast v4096
  ![v4097.toNat]
def k0_off1172 (v4098 : BitVec 32) : Fin 2 → Nat :=
  let c0_i32_1831 : BitVec 32 := 0#32
  ![v4098.toNat, 0]

def k0_chk586 (v4098 : BitVec 32) : Prop :=
  (∀ a, (k0_off1172 v4098) a + S1x768.size a ≤ S50257x768.size a)
theorem k0_off1172_inb : ∀ (v4098 : BitVec 32) (k0_hw586 : k0_chk586 v4098), ∀ a, (k0_off1172 v4098) a + S1x768.size a ≤ S50257x768.size a := fun v4098 k0_hw586 => k0_hw586

def k0_off1173 (i : grid0.Coords) : Fin 1 → Nat :=
  let arg0 : BitVec 32 := BitVec.ofNat 32 (i 0).val
  let c512_i32 : BitVec 32 := 512#32
  let v0 : BitVec 32 := Scalar.muli arg0 c512_i32
  let c74_i32_1832 : BitVec 32 := 74#32
  let v4103 : BitVec 32 := Scalar.addi v0 c74_i32_1832
  let v4104 : Index := Scalar.indexCast v4103
  ![v4104.toNat]
def k0_off1174 (v4105 : BitVec 32) : Fin 2 → Nat :=
  let c0_i32_1835 : BitVec 32 := 0#32
  ![v4105.toNat, 0]

def k0_chk587 (v4105 : BitVec 32) : Prop :=
  (∀ a, (k0_off1174 v4105) a + S1x768.size a ≤ S50257x768.size a)
theorem k0_off1174_inb : ∀ (v4105 : BitVec 32) (k0_hw587 : k0_chk587 v4105), ∀ a, (k0_off1174 v4105) a + S1x768.size a ≤ S50257x768.size a := fun v4105 k0_hw587 => k0_hw587

def k0_off1175 (i : grid0.Coords) : Fin 1 → Nat :=
  let arg0 : BitVec 32 := BitVec.ofNat 32 (i 0).val
  let c512_i32 : BitVec 32 := 512#32
  let v0 : BitVec 32 := Scalar.muli arg0 c512_i32
  let c75_i32_1836 : BitVec 32 := 75#32
  let v4110 : BitVec 32 := Scalar.addi v0 c75_i32_1836
  let v4111 : Index := Scalar.indexCast v4110
  ![v4111.toNat]
def k0_off1176 (v4112 : BitVec 32) : Fin 2 → Nat :=
  let c0_i32_1839 : BitVec 32 := 0#32
  ![v4112.toNat, 0]

def k0_chk588 (v4112 : BitVec 32) : Prop :=
  (∀ a, (k0_off1176 v4112) a + S1x768.size a ≤ S50257x768.size a)
theorem k0_off1176_inb : ∀ (v4112 : BitVec 32) (k0_hw588 : k0_chk588 v4112), ∀ a, (k0_off1176 v4112) a + S1x768.size a ≤ S50257x768.size a := fun v4112 k0_hw588 => k0_hw588

def k0_off1177 (i : grid0.Coords) : Fin 1 → Nat :=
  let arg0 : BitVec 32 := BitVec.ofNat 32 (i 0).val
  let c512_i32 : BitVec 32 := 512#32
  let v0 : BitVec 32 := Scalar.muli arg0 c512_i32
  let c76_i32_1840 : BitVec 32 := 76#32
  let v4117 : BitVec 32 := Scalar.addi v0 c76_i32_1840
  let v4118 : Index := Scalar.indexCast v4117
  ![v4118.toNat]
def k0_off1178 (v4119 : BitVec 32) : Fin 2 → Nat :=
  let c0_i32_1843 : BitVec 32 := 0#32
  ![v4119.toNat, 0]

def k0_chk589 (v4119 : BitVec 32) : Prop :=
  (∀ a, (k0_off1178 v4119) a + S1x768.size a ≤ S50257x768.size a)
theorem k0_off1178_inb : ∀ (v4119 : BitVec 32) (k0_hw589 : k0_chk589 v4119), ∀ a, (k0_off1178 v4119) a + S1x768.size a ≤ S50257x768.size a := fun v4119 k0_hw589 => k0_hw589

def k0_off1179 (i : grid0.Coords) : Fin 1 → Nat :=
  let arg0 : BitVec 32 := BitVec.ofNat 32 (i 0).val
  let c512_i32 : BitVec 32 := 512#32
  let v0 : BitVec 32 := Scalar.muli arg0 c512_i32
  let c77_i32_1844 : BitVec 32 := 77#32
  let v4124 : BitVec 32 := Scalar.addi v0 c77_i32_1844
  let v4125 : Index := Scalar.indexCast v4124
  ![v4125.toNat]
def k0_off1180 (v4126 : BitVec 32) : Fin 2 → Nat :=
  let c0_i32_1847 : BitVec 32 := 0#32
  ![v4126.toNat, 0]

def k0_chk590 (v4126 : BitVec 32) : Prop :=
  (∀ a, (k0_off1180 v4126) a + S1x768.size a ≤ S50257x768.size a)
theorem k0_off1180_inb : ∀ (v4126 : BitVec 32) (k0_hw590 : k0_chk590 v4126), ∀ a, (k0_off1180 v4126) a + S1x768.size a ≤ S50257x768.size a := fun v4126 k0_hw590 => k0_hw590

def k0_off1181 (i : grid0.Coords) : Fin 1 → Nat :=
  let arg0 : BitVec 32 := BitVec.ofNat 32 (i 0).val
  let c512_i32 : BitVec 32 := 512#32
  let v0 : BitVec 32 := Scalar.muli arg0 c512_i32
  let c78_i32_1848 : BitVec 32 := 78#32
  let v4131 : BitVec 32 := Scalar.addi v0 c78_i32_1848
  let v4132 : Index := Scalar.indexCast v4131
  ![v4132.toNat]
def k0_off1182 (v4133 : BitVec 32) : Fin 2 → Nat :=
  let c0_i32_1851 : BitVec 32 := 0#32
  ![v4133.toNat, 0]

def k0_chk591 (v4133 : BitVec 32) : Prop :=
  (∀ a, (k0_off1182 v4133) a + S1x768.size a ≤ S50257x768.size a)
theorem k0_off1182_inb : ∀ (v4133 : BitVec 32) (k0_hw591 : k0_chk591 v4133), ∀ a, (k0_off1182 v4133) a + S1x768.size a ≤ S50257x768.size a := fun v4133 k0_hw591 => k0_hw591

def k0_off1183 (i : grid0.Coords) : Fin 1 → Nat :=
  let arg0 : BitVec 32 := BitVec.ofNat 32 (i 0).val
  let c512_i32 : BitVec 32 := 512#32
  let v0 : BitVec 32 := Scalar.muli arg0 c512_i32
  let c79_i32_1852 : BitVec 32 := 79#32
  let v4138 : BitVec 32 := Scalar.addi v0 c79_i32_1852
  let v4139 : Index := Scalar.indexCast v4138
  ![v4139.toNat]
def k0_off1184 (v4140 : BitVec 32) : Fin 2 → Nat :=
  let c0_i32_1855 : BitVec 32 := 0#32
  ![v4140.toNat, 0]

def k0_chk592 (v4140 : BitVec 32) : Prop :=
  (∀ a, (k0_off1184 v4140) a + S1x768.size a ≤ S50257x768.size a)
theorem k0_off1184_inb : ∀ (v4140 : BitVec 32) (k0_hw592 : k0_chk592 v4140), ∀ a, (k0_off1184 v4140) a + S1x768.size a ≤ S50257x768.size a := fun v4140 k0_hw592 => k0_hw592

def k0_off1185 (i : grid0.Coords) : Fin 1 → Nat :=
  let arg0 : BitVec 32 := BitVec.ofNat 32 (i 0).val
  let c512_i32 : BitVec 32 := 512#32
  let v0 : BitVec 32 := Scalar.muli arg0 c512_i32
  let c80_i32_1856 : BitVec 32 := 80#32
  let v4145 : BitVec 32 := Scalar.addi v0 c80_i32_1856
  let v4146 : Index := Scalar.indexCast v4145
  ![v4146.toNat]
def k0_off1186 (v4147 : BitVec 32) : Fin 2 → Nat :=
  let c0_i32_1859 : BitVec 32 := 0#32
  ![v4147.toNat, 0]

def k0_chk593 (v4147 : BitVec 32) : Prop :=
  (∀ a, (k0_off1186 v4147) a + S1x768.size a ≤ S50257x768.size a)
theorem k0_off1186_inb : ∀ (v4147 : BitVec 32) (k0_hw593 : k0_chk593 v4147), ∀ a, (k0_off1186 v4147) a + S1x768.size a ≤ S50257x768.size a := fun v4147 k0_hw593 => k0_hw593

def k0_off1187 (i : grid0.Coords) : Fin 1 → Nat :=
  let arg0 : BitVec 32 := BitVec.ofNat 32 (i 0).val
  let c512_i32 : BitVec 32 := 512#32
  let v0 : BitVec 32 := Scalar.muli arg0 c512_i32
  let c81_i32_1860 : BitVec 32 := 81#32
  let v4152 : BitVec 32 := Scalar.addi v0 c81_i32_1860
  let v4153 : Index := Scalar.indexCast v4152
  ![v4153.toNat]
def k0_off1188 (v4154 : BitVec 32) : Fin 2 → Nat :=
  let c0_i32_1863 : BitVec 32 := 0#32
  ![v4154.toNat, 0]

def k0_chk594 (v4154 : BitVec 32) : Prop :=
  (∀ a, (k0_off1188 v4154) a + S1x768.size a ≤ S50257x768.size a)
theorem k0_off1188_inb : ∀ (v4154 : BitVec 32) (k0_hw594 : k0_chk594 v4154), ∀ a, (k0_off1188 v4154) a + S1x768.size a ≤ S50257x768.size a := fun v4154 k0_hw594 => k0_hw594

def k0_off1189 (i : grid0.Coords) : Fin 1 → Nat :=
  let arg0 : BitVec 32 := BitVec.ofNat 32 (i 0).val
  let c512_i32 : BitVec 32 := 512#32
  let v0 : BitVec 32 := Scalar.muli arg0 c512_i32
  let c82_i32_1864 : BitVec 32 := 82#32
  let v4159 : BitVec 32 := Scalar.addi v0 c82_i32_1864
  let v4160 : Index := Scalar.indexCast v4159
  ![v4160.toNat]
def k0_off1190 (v4161 : BitVec 32) : Fin 2 → Nat :=
  let c0_i32_1867 : BitVec 32 := 0#32
  ![v4161.toNat, 0]

def k0_chk595 (v4161 : BitVec 32) : Prop :=
  (∀ a, (k0_off1190 v4161) a + S1x768.size a ≤ S50257x768.size a)
theorem k0_off1190_inb : ∀ (v4161 : BitVec 32) (k0_hw595 : k0_chk595 v4161), ∀ a, (k0_off1190 v4161) a + S1x768.size a ≤ S50257x768.size a := fun v4161 k0_hw595 => k0_hw595

def k0_off1191 (i : grid0.Coords) : Fin 1 → Nat :=
  let arg0 : BitVec 32 := BitVec.ofNat 32 (i 0).val
  let c512_i32 : BitVec 32 := 512#32
  let v0 : BitVec 32 := Scalar.muli arg0 c512_i32
  let c83_i32_1868 : BitVec 32 := 83#32
  let v4166 : BitVec 32 := Scalar.addi v0 c83_i32_1868
  let v4167 : Index := Scalar.indexCast v4166
  ![v4167.toNat]
def k0_off1192 (v4168 : BitVec 32) : Fin 2 → Nat :=
  let c0_i32_1871 : BitVec 32 := 0#32
  ![v4168.toNat, 0]

def k0_chk596 (v4168 : BitVec 32) : Prop :=
  (∀ a, (k0_off1192 v4168) a + S1x768.size a ≤ S50257x768.size a)
theorem k0_off1192_inb : ∀ (v4168 : BitVec 32) (k0_hw596 : k0_chk596 v4168), ∀ a, (k0_off1192 v4168) a + S1x768.size a ≤ S50257x768.size a := fun v4168 k0_hw596 => k0_hw596

def k0_off1193 (i : grid0.Coords) : Fin 1 → Nat :=
  let arg0 : BitVec 32 := BitVec.ofNat 32 (i 0).val
  let c512_i32 : BitVec 32 := 512#32
  let v0 : BitVec 32 := Scalar.muli arg0 c512_i32
  let c84_i32_1872 : BitVec 32 := 84#32
  let v4173 : BitVec 32 := Scalar.addi v0 c84_i32_1872
  let v4174 : Index := Scalar.indexCast v4173
  ![v4174.toNat]
def k0_off1194 (v4175 : BitVec 32) : Fin 2 → Nat :=
  let c0_i32_1875 : BitVec 32 := 0#32
  ![v4175.toNat, 0]

def k0_chk597 (v4175 : BitVec 32) : Prop :=
  (∀ a, (k0_off1194 v4175) a + S1x768.size a ≤ S50257x768.size a)
theorem k0_off1194_inb : ∀ (v4175 : BitVec 32) (k0_hw597 : k0_chk597 v4175), ∀ a, (k0_off1194 v4175) a + S1x768.size a ≤ S50257x768.size a := fun v4175 k0_hw597 => k0_hw597

def k0_off1195 (i : grid0.Coords) : Fin 1 → Nat :=
  let arg0 : BitVec 32 := BitVec.ofNat 32 (i 0).val
  let c512_i32 : BitVec 32 := 512#32
  let v0 : BitVec 32 := Scalar.muli arg0 c512_i32
  let c85_i32_1876 : BitVec 32 := 85#32
  let v4180 : BitVec 32 := Scalar.addi v0 c85_i32_1876
  let v4181 : Index := Scalar.indexCast v4180
  ![v4181.toNat]
def k0_off1196 (v4182 : BitVec 32) : Fin 2 → Nat :=
  let c0_i32_1879 : BitVec 32 := 0#32
  ![v4182.toNat, 0]

def k0_chk598 (v4182 : BitVec 32) : Prop :=
  (∀ a, (k0_off1196 v4182) a + S1x768.size a ≤ S50257x768.size a)
theorem k0_off1196_inb : ∀ (v4182 : BitVec 32) (k0_hw598 : k0_chk598 v4182), ∀ a, (k0_off1196 v4182) a + S1x768.size a ≤ S50257x768.size a := fun v4182 k0_hw598 => k0_hw598

def k0_off1197 (i : grid0.Coords) : Fin 1 → Nat :=
  let arg0 : BitVec 32 := BitVec.ofNat 32 (i 0).val
  let c512_i32 : BitVec 32 := 512#32
  let v0 : BitVec 32 := Scalar.muli arg0 c512_i32
  let c86_i32_1880 : BitVec 32 := 86#32
  let v4187 : BitVec 32 := Scalar.addi v0 c86_i32_1880
  let v4188 : Index := Scalar.indexCast v4187
  ![v4188.toNat]
def k0_off1198 (v4189 : BitVec 32) : Fin 2 → Nat :=
  let c0_i32_1883 : BitVec 32 := 0#32
  ![v4189.toNat, 0]

def k0_chk599 (v4189 : BitVec 32) : Prop :=
  (∀ a, (k0_off1198 v4189) a + S1x768.size a ≤ S50257x768.size a)
theorem k0_off1198_inb : ∀ (v4189 : BitVec 32) (k0_hw599 : k0_chk599 v4189), ∀ a, (k0_off1198 v4189) a + S1x768.size a ≤ S50257x768.size a := fun v4189 k0_hw599 => k0_hw599

def k0_off1199 (i : grid0.Coords) : Fin 1 → Nat :=
  let arg0 : BitVec 32 := BitVec.ofNat 32 (i 0).val
  let c512_i32 : BitVec 32 := 512#32
  let v0 : BitVec 32 := Scalar.muli arg0 c512_i32
  let c87_i32_1884 : BitVec 32 := 87#32
  let v4194 : BitVec 32 := Scalar.addi v0 c87_i32_1884
  let v4195 : Index := Scalar.indexCast v4194
  ![v4195.toNat]
def k0_off1200 (v4196 : BitVec 32) : Fin 2 → Nat :=
  let c0_i32_1887 : BitVec 32 := 0#32
  ![v4196.toNat, 0]

def k0_chk600 (v4196 : BitVec 32) : Prop :=
  (∀ a, (k0_off1200 v4196) a + S1x768.size a ≤ S50257x768.size a)
theorem k0_off1200_inb : ∀ (v4196 : BitVec 32) (k0_hw600 : k0_chk600 v4196), ∀ a, (k0_off1200 v4196) a + S1x768.size a ≤ S50257x768.size a := fun v4196 k0_hw600 => k0_hw600

def k0_off1201 (i : grid0.Coords) : Fin 1 → Nat :=
  let arg0 : BitVec 32 := BitVec.ofNat 32 (i 0).val
  let c512_i32 : BitVec 32 := 512#32
  let v0 : BitVec 32 := Scalar.muli arg0 c512_i32
  let c88_i32_1888 : BitVec 32 := 88#32
  let v4201 : BitVec 32 := Scalar.addi v0 c88_i32_1888
  let v4202 : Index := Scalar.indexCast v4201
  ![v4202.toNat]
def k0_off1202 (v4203 : BitVec 32) : Fin 2 → Nat :=
  let c0_i32_1891 : BitVec 32 := 0#32
  ![v4203.toNat, 0]

def k0_chk601 (v4203 : BitVec 32) : Prop :=
  (∀ a, (k0_off1202 v4203) a + S1x768.size a ≤ S50257x768.size a)
theorem k0_off1202_inb : ∀ (v4203 : BitVec 32) (k0_hw601 : k0_chk601 v4203), ∀ a, (k0_off1202 v4203) a + S1x768.size a ≤ S50257x768.size a := fun v4203 k0_hw601 => k0_hw601

def k0_off1203 (i : grid0.Coords) : Fin 1 → Nat :=
  let arg0 : BitVec 32 := BitVec.ofNat 32 (i 0).val
  let c512_i32 : BitVec 32 := 512#32
  let v0 : BitVec 32 := Scalar.muli arg0 c512_i32
  let c89_i32_1892 : BitVec 32 := 89#32
  let v4208 : BitVec 32 := Scalar.addi v0 c89_i32_1892
  let v4209 : Index := Scalar.indexCast v4208
  ![v4209.toNat]
def k0_off1204 (v4210 : BitVec 32) : Fin 2 → Nat :=
  let c0_i32_1895 : BitVec 32 := 0#32
  ![v4210.toNat, 0]

def k0_chk602 (v4210 : BitVec 32) : Prop :=
  (∀ a, (k0_off1204 v4210) a + S1x768.size a ≤ S50257x768.size a)
theorem k0_off1204_inb : ∀ (v4210 : BitVec 32) (k0_hw602 : k0_chk602 v4210), ∀ a, (k0_off1204 v4210) a + S1x768.size a ≤ S50257x768.size a := fun v4210 k0_hw602 => k0_hw602

def k0_off1205 (i : grid0.Coords) : Fin 1 → Nat :=
  let arg0 : BitVec 32 := BitVec.ofNat 32 (i 0).val
  let c512_i32 : BitVec 32 := 512#32
  let v0 : BitVec 32 := Scalar.muli arg0 c512_i32
  let c90_i32_1896 : BitVec 32 := 90#32
  let v4215 : BitVec 32 := Scalar.addi v0 c90_i32_1896
  let v4216 : Index := Scalar.indexCast v4215
  ![v4216.toNat]
def k0_off1206 (v4217 : BitVec 32) : Fin 2 → Nat :=
  let c0_i32_1899 : BitVec 32 := 0#32
  ![v4217.toNat, 0]

def k0_chk603 (v4217 : BitVec 32) : Prop :=
  (∀ a, (k0_off1206 v4217) a + S1x768.size a ≤ S50257x768.size a)
theorem k0_off1206_inb : ∀ (v4217 : BitVec 32) (k0_hw603 : k0_chk603 v4217), ∀ a, (k0_off1206 v4217) a + S1x768.size a ≤ S50257x768.size a := fun v4217 k0_hw603 => k0_hw603

def k0_off1207 (i : grid0.Coords) : Fin 1 → Nat :=
  let arg0 : BitVec 32 := BitVec.ofNat 32 (i 0).val
  let c512_i32 : BitVec 32 := 512#32
  let v0 : BitVec 32 := Scalar.muli arg0 c512_i32
  let c91_i32_1900 : BitVec 32 := 91#32
  let v4222 : BitVec 32 := Scalar.addi v0 c91_i32_1900
  let v4223 : Index := Scalar.indexCast v4222
  ![v4223.toNat]
def k0_off1208 (v4224 : BitVec 32) : Fin 2 → Nat :=
  let c0_i32_1903 : BitVec 32 := 0#32
  ![v4224.toNat, 0]

def k0_chk604 (v4224 : BitVec 32) : Prop :=
  (∀ a, (k0_off1208 v4224) a + S1x768.size a ≤ S50257x768.size a)
theorem k0_off1208_inb : ∀ (v4224 : BitVec 32) (k0_hw604 : k0_chk604 v4224), ∀ a, (k0_off1208 v4224) a + S1x768.size a ≤ S50257x768.size a := fun v4224 k0_hw604 => k0_hw604

def k0_off1209 (i : grid0.Coords) : Fin 1 → Nat :=
  let arg0 : BitVec 32 := BitVec.ofNat 32 (i 0).val
  let c512_i32 : BitVec 32 := 512#32
  let v0 : BitVec 32 := Scalar.muli arg0 c512_i32
  let c92_i32_1904 : BitVec 32 := 92#32
  let v4229 : BitVec 32 := Scalar.addi v0 c92_i32_1904
  let v4230 : Index := Scalar.indexCast v4229
  ![v4230.toNat]
def k0_off1210 (v4231 : BitVec 32) : Fin 2 → Nat :=
  let c0_i32_1907 : BitVec 32 := 0#32
  ![v4231.toNat, 0]

def k0_chk605 (v4231 : BitVec 32) : Prop :=
  (∀ a, (k0_off1210 v4231) a + S1x768.size a ≤ S50257x768.size a)
theorem k0_off1210_inb : ∀ (v4231 : BitVec 32) (k0_hw605 : k0_chk605 v4231), ∀ a, (k0_off1210 v4231) a + S1x768.size a ≤ S50257x768.size a := fun v4231 k0_hw605 => k0_hw605

def k0_off1211 (i : grid0.Coords) : Fin 1 → Nat :=
  let arg0 : BitVec 32 := BitVec.ofNat 32 (i 0).val
  let c512_i32 : BitVec 32 := 512#32
  let v0 : BitVec 32 := Scalar.muli arg0 c512_i32
  let c93_i32_1908 : BitVec 32 := 93#32
  let v4236 : BitVec 32 := Scalar.addi v0 c93_i32_1908
  let v4237 : Index := Scalar.indexCast v4236
  ![v4237.toNat]
def k0_off1212 (v4238 : BitVec 32) : Fin 2 → Nat :=
  let c0_i32_1911 : BitVec 32 := 0#32
  ![v4238.toNat, 0]

def k0_chk606 (v4238 : BitVec 32) : Prop :=
  (∀ a, (k0_off1212 v4238) a + S1x768.size a ≤ S50257x768.size a)
theorem k0_off1212_inb : ∀ (v4238 : BitVec 32) (k0_hw606 : k0_chk606 v4238), ∀ a, (k0_off1212 v4238) a + S1x768.size a ≤ S50257x768.size a := fun v4238 k0_hw606 => k0_hw606

def k0_off1213 (i : grid0.Coords) : Fin 1 → Nat :=
  let arg0 : BitVec 32 := BitVec.ofNat 32 (i 0).val
  let c512_i32 : BitVec 32 := 512#32
  let v0 : BitVec 32 := Scalar.muli arg0 c512_i32
  let c94_i32_1912 : BitVec 32 := 94#32
  let v4243 : BitVec 32 := Scalar.addi v0 c94_i32_1912
  let v4244 : Index := Scalar.indexCast v4243
  ![v4244.toNat]
def k0_off1214 (v4245 : BitVec 32) : Fin 2 → Nat :=
  let c0_i32_1915 : BitVec 32 := 0#32
  ![v4245.toNat, 0]

def k0_chk607 (v4245 : BitVec 32) : Prop :=
  (∀ a, (k0_off1214 v4245) a + S1x768.size a ≤ S50257x768.size a)
theorem k0_off1214_inb : ∀ (v4245 : BitVec 32) (k0_hw607 : k0_chk607 v4245), ∀ a, (k0_off1214 v4245) a + S1x768.size a ≤ S50257x768.size a := fun v4245 k0_hw607 => k0_hw607

def k0_off1215 (i : grid0.Coords) : Fin 1 → Nat :=
  let arg0 : BitVec 32 := BitVec.ofNat 32 (i 0).val
  let c512_i32 : BitVec 32 := 512#32
  let v0 : BitVec 32 := Scalar.muli arg0 c512_i32
  let c95_i32_1916 : BitVec 32 := 95#32
  let v4250 : BitVec 32 := Scalar.addi v0 c95_i32_1916
  let v4251 : Index := Scalar.indexCast v4250
  ![v4251.toNat]
def k0_off1216 (v4252 : BitVec 32) : Fin 2 → Nat :=
  let c0_i32_1919 : BitVec 32 := 0#32
  ![v4252.toNat, 0]

def k0_chk608 (v4252 : BitVec 32) : Prop :=
  (∀ a, (k0_off1216 v4252) a + S1x768.size a ≤ S50257x768.size a)
theorem k0_off1216_inb : ∀ (v4252 : BitVec 32) (k0_hw608 : k0_chk608 v4252), ∀ a, (k0_off1216 v4252) a + S1x768.size a ≤ S50257x768.size a := fun v4252 k0_hw608 => k0_hw608

def k0_off1217 (i : grid0.Coords) : Fin 1 → Nat :=
  let arg0 : BitVec 32 := BitVec.ofNat 32 (i 0).val
  let c512_i32 : BitVec 32 := 512#32
  let v0 : BitVec 32 := Scalar.muli arg0 c512_i32
  let c96_i32_1920 : BitVec 32 := 96#32
  let v4257 : BitVec 32 := Scalar.addi v0 c96_i32_1920
  let v4258 : Index := Scalar.indexCast v4257
  ![v4258.toNat]
def k0_off1218 (v4259 : BitVec 32) : Fin 2 → Nat :=
  let c0_i32_1923 : BitVec 32 := 0#32
  ![v4259.toNat, 0]

def k0_chk609 (v4259 : BitVec 32) : Prop :=
  (∀ a, (k0_off1218 v4259) a + S1x768.size a ≤ S50257x768.size a)
theorem k0_off1218_inb : ∀ (v4259 : BitVec 32) (k0_hw609 : k0_chk609 v4259), ∀ a, (k0_off1218 v4259) a + S1x768.size a ≤ S50257x768.size a := fun v4259 k0_hw609 => k0_hw609

def k0_off1219 (i : grid0.Coords) : Fin 1 → Nat :=
  let arg0 : BitVec 32 := BitVec.ofNat 32 (i 0).val
  let c512_i32 : BitVec 32 := 512#32
  let v0 : BitVec 32 := Scalar.muli arg0 c512_i32
  let c97_i32_1924 : BitVec 32 := 97#32
  let v4264 : BitVec 32 := Scalar.addi v0 c97_i32_1924
  let v4265 : Index := Scalar.indexCast v4264
  ![v4265.toNat]
def k0_off1220 (v4266 : BitVec 32) : Fin 2 → Nat :=
  let c0_i32_1927 : BitVec 32 := 0#32
  ![v4266.toNat, 0]

def k0_chk610 (v4266 : BitVec 32) : Prop :=
  (∀ a, (k0_off1220 v4266) a + S1x768.size a ≤ S50257x768.size a)
theorem k0_off1220_inb : ∀ (v4266 : BitVec 32) (k0_hw610 : k0_chk610 v4266), ∀ a, (k0_off1220 v4266) a + S1x768.size a ≤ S50257x768.size a := fun v4266 k0_hw610 => k0_hw610

def k0_off1221 (i : grid0.Coords) : Fin 1 → Nat :=
  let arg0 : BitVec 32 := BitVec.ofNat 32 (i 0).val
  let c512_i32 : BitVec 32 := 512#32
  let v0 : BitVec 32 := Scalar.muli arg0 c512_i32
  let c98_i32_1928 : BitVec 32 := 98#32
  let v4271 : BitVec 32 := Scalar.addi v0 c98_i32_1928
  let v4272 : Index := Scalar.indexCast v4271
  ![v4272.toNat]
def k0_off1222 (v4273 : BitVec 32) : Fin 2 → Nat :=
  let c0_i32_1931 : BitVec 32 := 0#32
  ![v4273.toNat, 0]

def k0_chk611 (v4273 : BitVec 32) : Prop :=
  (∀ a, (k0_off1222 v4273) a + S1x768.size a ≤ S50257x768.size a)
theorem k0_off1222_inb : ∀ (v4273 : BitVec 32) (k0_hw611 : k0_chk611 v4273), ∀ a, (k0_off1222 v4273) a + S1x768.size a ≤ S50257x768.size a := fun v4273 k0_hw611 => k0_hw611

def k0_off1223 (i : grid0.Coords) : Fin 1 → Nat :=
  let arg0 : BitVec 32 := BitVec.ofNat 32 (i 0).val
  let c512_i32 : BitVec 32 := 512#32
  let v0 : BitVec 32 := Scalar.muli arg0 c512_i32
  let c99_i32_1932 : BitVec 32 := 99#32
  let v4278 : BitVec 32 := Scalar.addi v0 c99_i32_1932
  let v4279 : Index := Scalar.indexCast v4278
  ![v4279.toNat]
def k0_off1224 (v4280 : BitVec 32) : Fin 2 → Nat :=
  let c0_i32_1935 : BitVec 32 := 0#32
  ![v4280.toNat, 0]

def k0_chk612 (v4280 : BitVec 32) : Prop :=
  (∀ a, (k0_off1224 v4280) a + S1x768.size a ≤ S50257x768.size a)
theorem k0_off1224_inb : ∀ (v4280 : BitVec 32) (k0_hw612 : k0_chk612 v4280), ∀ a, (k0_off1224 v4280) a + S1x768.size a ≤ S50257x768.size a := fun v4280 k0_hw612 => k0_hw612

def k0_off1225 (i : grid0.Coords) : Fin 1 → Nat :=
  let arg0 : BitVec 32 := BitVec.ofNat 32 (i 0).val
  let c512_i32 : BitVec 32 := 512#32
  let v0 : BitVec 32 := Scalar.muli arg0 c512_i32
  let c100_i32_1936 : BitVec 32 := 100#32
  let v4285 : BitVec 32 := Scalar.addi v0 c100_i32_1936
  let v4286 : Index := Scalar.indexCast v4285
  ![v4286.toNat]
def k0_off1226 (v4287 : BitVec 32) : Fin 2 → Nat :=
  let c0_i32_1939 : BitVec 32 := 0#32
  ![v4287.toNat, 0]

def k0_chk613 (v4287 : BitVec 32) : Prop :=
  (∀ a, (k0_off1226 v4287) a + S1x768.size a ≤ S50257x768.size a)
theorem k0_off1226_inb : ∀ (v4287 : BitVec 32) (k0_hw613 : k0_chk613 v4287), ∀ a, (k0_off1226 v4287) a + S1x768.size a ≤ S50257x768.size a := fun v4287 k0_hw613 => k0_hw613

def k0_off1227 (i : grid0.Coords) : Fin 1 → Nat :=
  let arg0 : BitVec 32 := BitVec.ofNat 32 (i 0).val
  let c512_i32 : BitVec 32 := 512#32
  let v0 : BitVec 32 := Scalar.muli arg0 c512_i32
  let c101_i32_1940 : BitVec 32 := 101#32
  let v4292 : BitVec 32 := Scalar.addi v0 c101_i32_1940
  let v4293 : Index := Scalar.indexCast v4292
  ![v4293.toNat]
def k0_off1228 (v4294 : BitVec 32) : Fin 2 → Nat :=
  let c0_i32_1943 : BitVec 32 := 0#32
  ![v4294.toNat, 0]

def k0_chk614 (v4294 : BitVec 32) : Prop :=
  (∀ a, (k0_off1228 v4294) a + S1x768.size a ≤ S50257x768.size a)
theorem k0_off1228_inb : ∀ (v4294 : BitVec 32) (k0_hw614 : k0_chk614 v4294), ∀ a, (k0_off1228 v4294) a + S1x768.size a ≤ S50257x768.size a := fun v4294 k0_hw614 => k0_hw614

def k0_off1229 (i : grid0.Coords) : Fin 1 → Nat :=
  let arg0 : BitVec 32 := BitVec.ofNat 32 (i 0).val
  let c512_i32 : BitVec 32 := 512#32
  let v0 : BitVec 32 := Scalar.muli arg0 c512_i32
  let c102_i32_1944 : BitVec 32 := 102#32
  let v4299 : BitVec 32 := Scalar.addi v0 c102_i32_1944
  let v4300 : Index := Scalar.indexCast v4299
  ![v4300.toNat]
def k0_off1230 (v4301 : BitVec 32) : Fin 2 → Nat :=
  let c0_i32_1947 : BitVec 32 := 0#32
  ![v4301.toNat, 0]

def k0_chk615 (v4301 : BitVec 32) : Prop :=
  (∀ a, (k0_off1230 v4301) a + S1x768.size a ≤ S50257x768.size a)
theorem k0_off1230_inb : ∀ (v4301 : BitVec 32) (k0_hw615 : k0_chk615 v4301), ∀ a, (k0_off1230 v4301) a + S1x768.size a ≤ S50257x768.size a := fun v4301 k0_hw615 => k0_hw615

def k0_off1231 (i : grid0.Coords) : Fin 1 → Nat :=
  let arg0 : BitVec 32 := BitVec.ofNat 32 (i 0).val
  let c512_i32 : BitVec 32 := 512#32
  let v0 : BitVec 32 := Scalar.muli arg0 c512_i32
  let c103_i32_1948 : BitVec 32 := 103#32
  let v4306 : BitVec 32 := Scalar.addi v0 c103_i32_1948
  let v4307 : Index := Scalar.indexCast v4306
  ![v4307.toNat]
def k0_off1232 (v4308 : BitVec 32) : Fin 2 → Nat :=
  let c0_i32_1951 : BitVec 32 := 0#32
  ![v4308.toNat, 0]

def k0_chk616 (v4308 : BitVec 32) : Prop :=
  (∀ a, (k0_off1232 v4308) a + S1x768.size a ≤ S50257x768.size a)
theorem k0_off1232_inb : ∀ (v4308 : BitVec 32) (k0_hw616 : k0_chk616 v4308), ∀ a, (k0_off1232 v4308) a + S1x768.size a ≤ S50257x768.size a := fun v4308 k0_hw616 => k0_hw616

def k0_off1233 (i : grid0.Coords) : Fin 1 → Nat :=
  let arg0 : BitVec 32 := BitVec.ofNat 32 (i 0).val
  let c512_i32 : BitVec 32 := 512#32
  let v0 : BitVec 32 := Scalar.muli arg0 c512_i32
  let c104_i32_1952 : BitVec 32 := 104#32
  let v4313 : BitVec 32 := Scalar.addi v0 c104_i32_1952
  let v4314 : Index := Scalar.indexCast v4313
  ![v4314.toNat]
def k0_off1234 (v4315 : BitVec 32) : Fin 2 → Nat :=
  let c0_i32_1955 : BitVec 32 := 0#32
  ![v4315.toNat, 0]

def k0_chk617 (v4315 : BitVec 32) : Prop :=
  (∀ a, (k0_off1234 v4315) a + S1x768.size a ≤ S50257x768.size a)
theorem k0_off1234_inb : ∀ (v4315 : BitVec 32) (k0_hw617 : k0_chk617 v4315), ∀ a, (k0_off1234 v4315) a + S1x768.size a ≤ S50257x768.size a := fun v4315 k0_hw617 => k0_hw617

def k0_off1235 (i : grid0.Coords) : Fin 1 → Nat :=
  let arg0 : BitVec 32 := BitVec.ofNat 32 (i 0).val
  let c512_i32 : BitVec 32 := 512#32
  let v0 : BitVec 32 := Scalar.muli arg0 c512_i32
  let c105_i32_1956 : BitVec 32 := 105#32
  let v4320 : BitVec 32 := Scalar.addi v0 c105_i32_1956
  let v4321 : Index := Scalar.indexCast v4320
  ![v4321.toNat]
def k0_off1236 (v4322 : BitVec 32) : Fin 2 → Nat :=
  let c0_i32_1959 : BitVec 32 := 0#32
  ![v4322.toNat, 0]

def k0_chk618 (v4322 : BitVec 32) : Prop :=
  (∀ a, (k0_off1236 v4322) a + S1x768.size a ≤ S50257x768.size a)
theorem k0_off1236_inb : ∀ (v4322 : BitVec 32) (k0_hw618 : k0_chk618 v4322), ∀ a, (k0_off1236 v4322) a + S1x768.size a ≤ S50257x768.size a := fun v4322 k0_hw618 => k0_hw618

def k0_off1237 (i : grid0.Coords) : Fin 1 → Nat :=
  let arg0 : BitVec 32 := BitVec.ofNat 32 (i 0).val
  let c512_i32 : BitVec 32 := 512#32
  let v0 : BitVec 32 := Scalar.muli arg0 c512_i32
  let c106_i32_1960 : BitVec 32 := 106#32
  let v4327 : BitVec 32 := Scalar.addi v0 c106_i32_1960
  let v4328 : Index := Scalar.indexCast v4327
  ![v4328.toNat]
def k0_off1238 (v4329 : BitVec 32) : Fin 2 → Nat :=
  let c0_i32_1963 : BitVec 32 := 0#32
  ![v4329.toNat, 0]

def k0_chk619 (v4329 : BitVec 32) : Prop :=
  (∀ a, (k0_off1238 v4329) a + S1x768.size a ≤ S50257x768.size a)
theorem k0_off1238_inb : ∀ (v4329 : BitVec 32) (k0_hw619 : k0_chk619 v4329), ∀ a, (k0_off1238 v4329) a + S1x768.size a ≤ S50257x768.size a := fun v4329 k0_hw619 => k0_hw619

def k0_off1239 (i : grid0.Coords) : Fin 1 → Nat :=
  let arg0 : BitVec 32 := BitVec.ofNat 32 (i 0).val
  let c512_i32 : BitVec 32 := 512#32
  let v0 : BitVec 32 := Scalar.muli arg0 c512_i32
  let c107_i32_1964 : BitVec 32 := 107#32
  let v4334 : BitVec 32 := Scalar.addi v0 c107_i32_1964
  let v4335 : Index := Scalar.indexCast v4334
  ![v4335.toNat]
def k0_off1240 (v4336 : BitVec 32) : Fin 2 → Nat :=
  let c0_i32_1967 : BitVec 32 := 0#32
  ![v4336.toNat, 0]

def k0_chk620 (v4336 : BitVec 32) : Prop :=
  (∀ a, (k0_off1240 v4336) a + S1x768.size a ≤ S50257x768.size a)
theorem k0_off1240_inb : ∀ (v4336 : BitVec 32) (k0_hw620 : k0_chk620 v4336), ∀ a, (k0_off1240 v4336) a + S1x768.size a ≤ S50257x768.size a := fun v4336 k0_hw620 => k0_hw620

def k0_off1241 (i : grid0.Coords) : Fin 1 → Nat :=
  let arg0 : BitVec 32 := BitVec.ofNat 32 (i 0).val
  let c512_i32 : BitVec 32 := 512#32
  let v0 : BitVec 32 := Scalar.muli arg0 c512_i32
  let c108_i32_1968 : BitVec 32 := 108#32
  let v4341 : BitVec 32 := Scalar.addi v0 c108_i32_1968
  let v4342 : Index := Scalar.indexCast v4341
  ![v4342.toNat]
def k0_off1242 (v4343 : BitVec 32) : Fin 2 → Nat :=
  let c0_i32_1971 : BitVec 32 := 0#32
  ![v4343.toNat, 0]

def k0_chk621 (v4343 : BitVec 32) : Prop :=
  (∀ a, (k0_off1242 v4343) a + S1x768.size a ≤ S50257x768.size a)
theorem k0_off1242_inb : ∀ (v4343 : BitVec 32) (k0_hw621 : k0_chk621 v4343), ∀ a, (k0_off1242 v4343) a + S1x768.size a ≤ S50257x768.size a := fun v4343 k0_hw621 => k0_hw621

def k0_off1243 (i : grid0.Coords) : Fin 1 → Nat :=
  let arg0 : BitVec 32 := BitVec.ofNat 32 (i 0).val
  let c512_i32 : BitVec 32 := 512#32
  let v0 : BitVec 32 := Scalar.muli arg0 c512_i32
  let c109_i32_1972 : BitVec 32 := 109#32
  let v4348 : BitVec 32 := Scalar.addi v0 c109_i32_1972
  let v4349 : Index := Scalar.indexCast v4348
  ![v4349.toNat]
def k0_off1244 (v4350 : BitVec 32) : Fin 2 → Nat :=
  let c0_i32_1975 : BitVec 32 := 0#32
  ![v4350.toNat, 0]

def k0_chk622 (v4350 : BitVec 32) : Prop :=
  (∀ a, (k0_off1244 v4350) a + S1x768.size a ≤ S50257x768.size a)
theorem k0_off1244_inb : ∀ (v4350 : BitVec 32) (k0_hw622 : k0_chk622 v4350), ∀ a, (k0_off1244 v4350) a + S1x768.size a ≤ S50257x768.size a := fun v4350 k0_hw622 => k0_hw622

def k0_off1245 (i : grid0.Coords) : Fin 1 → Nat :=
  let arg0 : BitVec 32 := BitVec.ofNat 32 (i 0).val
  let c512_i32 : BitVec 32 := 512#32
  let v0 : BitVec 32 := Scalar.muli arg0 c512_i32
  let c110_i32_1976 : BitVec 32 := 110#32
  let v4355 : BitVec 32 := Scalar.addi v0 c110_i32_1976
  let v4356 : Index := Scalar.indexCast v4355
  ![v4356.toNat]
def k0_off1246 (v4357 : BitVec 32) : Fin 2 → Nat :=
  let c0_i32_1979 : BitVec 32 := 0#32
  ![v4357.toNat, 0]

def k0_chk623 (v4357 : BitVec 32) : Prop :=
  (∀ a, (k0_off1246 v4357) a + S1x768.size a ≤ S50257x768.size a)
theorem k0_off1246_inb : ∀ (v4357 : BitVec 32) (k0_hw623 : k0_chk623 v4357), ∀ a, (k0_off1246 v4357) a + S1x768.size a ≤ S50257x768.size a := fun v4357 k0_hw623 => k0_hw623

def k0_off1247 (i : grid0.Coords) : Fin 1 → Nat :=
  let arg0 : BitVec 32 := BitVec.ofNat 32 (i 0).val
  let c512_i32 : BitVec 32 := 512#32
  let v0 : BitVec 32 := Scalar.muli arg0 c512_i32
  let c111_i32_1980 : BitVec 32 := 111#32
  let v4362 : BitVec 32 := Scalar.addi v0 c111_i32_1980
  let v4363 : Index := Scalar.indexCast v4362
  ![v4363.toNat]
def k0_off1248 (v4364 : BitVec 32) : Fin 2 → Nat :=
  let c0_i32_1983 : BitVec 32 := 0#32
  ![v4364.toNat, 0]

def k0_chk624 (v4364 : BitVec 32) : Prop :=
  (∀ a, (k0_off1248 v4364) a + S1x768.size a ≤ S50257x768.size a)
theorem k0_off1248_inb : ∀ (v4364 : BitVec 32) (k0_hw624 : k0_chk624 v4364), ∀ a, (k0_off1248 v4364) a + S1x768.size a ≤ S50257x768.size a := fun v4364 k0_hw624 => k0_hw624

def k0_off1249 (i : grid0.Coords) : Fin 1 → Nat :=
  let arg0 : BitVec 32 := BitVec.ofNat 32 (i 0).val
  let c512_i32 : BitVec 32 := 512#32
  let v0 : BitVec 32 := Scalar.muli arg0 c512_i32
  let c112_i32_1984 : BitVec 32 := 112#32
  let v4369 : BitVec 32 := Scalar.addi v0 c112_i32_1984
  let v4370 : Index := Scalar.indexCast v4369
  ![v4370.toNat]
def k0_off1250 (v4371 : BitVec 32) : Fin 2 → Nat :=
  let c0_i32_1987 : BitVec 32 := 0#32
  ![v4371.toNat, 0]

def k0_chk625 (v4371 : BitVec 32) : Prop :=
  (∀ a, (k0_off1250 v4371) a + S1x768.size a ≤ S50257x768.size a)
theorem k0_off1250_inb : ∀ (v4371 : BitVec 32) (k0_hw625 : k0_chk625 v4371), ∀ a, (k0_off1250 v4371) a + S1x768.size a ≤ S50257x768.size a := fun v4371 k0_hw625 => k0_hw625

def k0_off1251 (i : grid0.Coords) : Fin 1 → Nat :=
  let arg0 : BitVec 32 := BitVec.ofNat 32 (i 0).val
  let c512_i32 : BitVec 32 := 512#32
  let v0 : BitVec 32 := Scalar.muli arg0 c512_i32
  let c113_i32_1988 : BitVec 32 := 113#32
  let v4376 : BitVec 32 := Scalar.addi v0 c113_i32_1988
  let v4377 : Index := Scalar.indexCast v4376
  ![v4377.toNat]
def k0_off1252 (v4378 : BitVec 32) : Fin 2 → Nat :=
  let c0_i32_1991 : BitVec 32 := 0#32
  ![v4378.toNat, 0]

def k0_chk626 (v4378 : BitVec 32) : Prop :=
  (∀ a, (k0_off1252 v4378) a + S1x768.size a ≤ S50257x768.size a)
theorem k0_off1252_inb : ∀ (v4378 : BitVec 32) (k0_hw626 : k0_chk626 v4378), ∀ a, (k0_off1252 v4378) a + S1x768.size a ≤ S50257x768.size a := fun v4378 k0_hw626 => k0_hw626

def k0_off1253 (i : grid0.Coords) : Fin 1 → Nat :=
  let arg0 : BitVec 32 := BitVec.ofNat 32 (i 0).val
  let c512_i32 : BitVec 32 := 512#32
  let v0 : BitVec 32 := Scalar.muli arg0 c512_i32
  let c114_i32_1992 : BitVec 32 := 114#32
  let v4383 : BitVec 32 := Scalar.addi v0 c114_i32_1992
  let v4384 : Index := Scalar.indexCast v4383
  ![v4384.toNat]
def k0_off1254 (v4385 : BitVec 32) : Fin 2 → Nat :=
  let c0_i32_1995 : BitVec 32 := 0#32
  ![v4385.toNat, 0]

def k0_chk627 (v4385 : BitVec 32) : Prop :=
  (∀ a, (k0_off1254 v4385) a + S1x768.size a ≤ S50257x768.size a)
theorem k0_off1254_inb : ∀ (v4385 : BitVec 32) (k0_hw627 : k0_chk627 v4385), ∀ a, (k0_off1254 v4385) a + S1x768.size a ≤ S50257x768.size a := fun v4385 k0_hw627 => k0_hw627

def k0_off1255 (i : grid0.Coords) : Fin 1 → Nat :=
  let arg0 : BitVec 32 := BitVec.ofNat 32 (i 0).val
  let c512_i32 : BitVec 32 := 512#32
  let v0 : BitVec 32 := Scalar.muli arg0 c512_i32
  let c115_i32_1996 : BitVec 32 := 115#32
  let v4390 : BitVec 32 := Scalar.addi v0 c115_i32_1996
  let v4391 : Index := Scalar.indexCast v4390
  ![v4391.toNat]
def k0_off1256 (v4392 : BitVec 32) : Fin 2 → Nat :=
  let c0_i32_1999 : BitVec 32 := 0#32
  ![v4392.toNat, 0]

def k0_chk628 (v4392 : BitVec 32) : Prop :=
  (∀ a, (k0_off1256 v4392) a + S1x768.size a ≤ S50257x768.size a)
theorem k0_off1256_inb : ∀ (v4392 : BitVec 32) (k0_hw628 : k0_chk628 v4392), ∀ a, (k0_off1256 v4392) a + S1x768.size a ≤ S50257x768.size a := fun v4392 k0_hw628 => k0_hw628

def k0_off1257 (i : grid0.Coords) : Fin 1 → Nat :=
  let arg0 : BitVec 32 := BitVec.ofNat 32 (i 0).val
  let c512_i32 : BitVec 32 := 512#32
  let v0 : BitVec 32 := Scalar.muli arg0 c512_i32
  let c116_i32_2000 : BitVec 32 := 116#32
  let v4397 : BitVec 32 := Scalar.addi v0 c116_i32_2000
  let v4398 : Index := Scalar.indexCast v4397
  ![v4398.toNat]
def k0_off1258 (v4399 : BitVec 32) : Fin 2 → Nat :=
  let c0_i32_2003 : BitVec 32 := 0#32
  ![v4399.toNat, 0]

def k0_chk629 (v4399 : BitVec 32) : Prop :=
  (∀ a, (k0_off1258 v4399) a + S1x768.size a ≤ S50257x768.size a)
theorem k0_off1258_inb : ∀ (v4399 : BitVec 32) (k0_hw629 : k0_chk629 v4399), ∀ a, (k0_off1258 v4399) a + S1x768.size a ≤ S50257x768.size a := fun v4399 k0_hw629 => k0_hw629

def k0_off1259 (i : grid0.Coords) : Fin 1 → Nat :=
  let arg0 : BitVec 32 := BitVec.ofNat 32 (i 0).val
  let c512_i32 : BitVec 32 := 512#32
  let v0 : BitVec 32 := Scalar.muli arg0 c512_i32
  let c117_i32_2004 : BitVec 32 := 117#32
  let v4404 : BitVec 32 := Scalar.addi v0 c117_i32_2004
  let v4405 : Index := Scalar.indexCast v4404
  ![v4405.toNat]
def k0_off1260 (v4406 : BitVec 32) : Fin 2 → Nat :=
  let c0_i32_2007 : BitVec 32 := 0#32
  ![v4406.toNat, 0]

def k0_chk630 (v4406 : BitVec 32) : Prop :=
  (∀ a, (k0_off1260 v4406) a + S1x768.size a ≤ S50257x768.size a)
theorem k0_off1260_inb : ∀ (v4406 : BitVec 32) (k0_hw630 : k0_chk630 v4406), ∀ a, (k0_off1260 v4406) a + S1x768.size a ≤ S50257x768.size a := fun v4406 k0_hw630 => k0_hw630

def k0_off1261 (i : grid0.Coords) : Fin 1 → Nat :=
  let arg0 : BitVec 32 := BitVec.ofNat 32 (i 0).val
  let c512_i32 : BitVec 32 := 512#32
  let v0 : BitVec 32 := Scalar.muli arg0 c512_i32
  let c118_i32_2008 : BitVec 32 := 118#32
  let v4411 : BitVec 32 := Scalar.addi v0 c118_i32_2008
  let v4412 : Index := Scalar.indexCast v4411
  ![v4412.toNat]
def k0_off1262 (v4413 : BitVec 32) : Fin 2 → Nat :=
  let c0_i32_2011 : BitVec 32 := 0#32
  ![v4413.toNat, 0]

def k0_chk631 (v4413 : BitVec 32) : Prop :=
  (∀ a, (k0_off1262 v4413) a + S1x768.size a ≤ S50257x768.size a)
theorem k0_off1262_inb : ∀ (v4413 : BitVec 32) (k0_hw631 : k0_chk631 v4413), ∀ a, (k0_off1262 v4413) a + S1x768.size a ≤ S50257x768.size a := fun v4413 k0_hw631 => k0_hw631

def k0_off1263 (i : grid0.Coords) : Fin 1 → Nat :=
  let arg0 : BitVec 32 := BitVec.ofNat 32 (i 0).val
  let c512_i32 : BitVec 32 := 512#32
  let v0 : BitVec 32 := Scalar.muli arg0 c512_i32
  let c119_i32_2012 : BitVec 32 := 119#32
  let v4418 : BitVec 32 := Scalar.addi v0 c119_i32_2012
  let v4419 : Index := Scalar.indexCast v4418
  ![v4419.toNat]
def k0_off1264 (v4420 : BitVec 32) : Fin 2 → Nat :=
  let c0_i32_2015 : BitVec 32 := 0#32
  ![v4420.toNat, 0]

def k0_chk632 (v4420 : BitVec 32) : Prop :=
  (∀ a, (k0_off1264 v4420) a + S1x768.size a ≤ S50257x768.size a)
theorem k0_off1264_inb : ∀ (v4420 : BitVec 32) (k0_hw632 : k0_chk632 v4420), ∀ a, (k0_off1264 v4420) a + S1x768.size a ≤ S50257x768.size a := fun v4420 k0_hw632 => k0_hw632

def k0_off1265 (i : grid0.Coords) : Fin 1 → Nat :=
  let arg0 : BitVec 32 := BitVec.ofNat 32 (i 0).val
  let c512_i32 : BitVec 32 := 512#32
  let v0 : BitVec 32 := Scalar.muli arg0 c512_i32
  let c120_i32_2016 : BitVec 32 := 120#32
  let v4425 : BitVec 32 := Scalar.addi v0 c120_i32_2016
  let v4426 : Index := Scalar.indexCast v4425
  ![v4426.toNat]
def k0_off1266 (v4427 : BitVec 32) : Fin 2 → Nat :=
  let c0_i32_2019 : BitVec 32 := 0#32
  ![v4427.toNat, 0]

def k0_chk633 (v4427 : BitVec 32) : Prop :=
  (∀ a, (k0_off1266 v4427) a + S1x768.size a ≤ S50257x768.size a)
theorem k0_off1266_inb : ∀ (v4427 : BitVec 32) (k0_hw633 : k0_chk633 v4427), ∀ a, (k0_off1266 v4427) a + S1x768.size a ≤ S50257x768.size a := fun v4427 k0_hw633 => k0_hw633

def k0_off1267 (i : grid0.Coords) : Fin 1 → Nat :=
  let arg0 : BitVec 32 := BitVec.ofNat 32 (i 0).val
  let c512_i32 : BitVec 32 := 512#32
  let v0 : BitVec 32 := Scalar.muli arg0 c512_i32
  let c121_i32_2020 : BitVec 32 := 121#32
  let v4432 : BitVec 32 := Scalar.addi v0 c121_i32_2020
  let v4433 : Index := Scalar.indexCast v4432
  ![v4433.toNat]
def k0_off1268 (v4434 : BitVec 32) : Fin 2 → Nat :=
  let c0_i32_2023 : BitVec 32 := 0#32
  ![v4434.toNat, 0]

def k0_chk634 (v4434 : BitVec 32) : Prop :=
  (∀ a, (k0_off1268 v4434) a + S1x768.size a ≤ S50257x768.size a)
theorem k0_off1268_inb : ∀ (v4434 : BitVec 32) (k0_hw634 : k0_chk634 v4434), ∀ a, (k0_off1268 v4434) a + S1x768.size a ≤ S50257x768.size a := fun v4434 k0_hw634 => k0_hw634

def k0_off1269 (i : grid0.Coords) : Fin 1 → Nat :=
  let arg0 : BitVec 32 := BitVec.ofNat 32 (i 0).val
  let c512_i32 : BitVec 32 := 512#32
  let v0 : BitVec 32 := Scalar.muli arg0 c512_i32
  let c122_i32_2024 : BitVec 32 := 122#32
  let v4439 : BitVec 32 := Scalar.addi v0 c122_i32_2024
  let v4440 : Index := Scalar.indexCast v4439
  ![v4440.toNat]
def k0_off1270 (v4441 : BitVec 32) : Fin 2 → Nat :=
  let c0_i32_2027 : BitVec 32 := 0#32
  ![v4441.toNat, 0]

def k0_chk635 (v4441 : BitVec 32) : Prop :=
  (∀ a, (k0_off1270 v4441) a + S1x768.size a ≤ S50257x768.size a)
theorem k0_off1270_inb : ∀ (v4441 : BitVec 32) (k0_hw635 : k0_chk635 v4441), ∀ a, (k0_off1270 v4441) a + S1x768.size a ≤ S50257x768.size a := fun v4441 k0_hw635 => k0_hw635

def k0_off1271 (i : grid0.Coords) : Fin 1 → Nat :=
  let arg0 : BitVec 32 := BitVec.ofNat 32 (i 0).val
  let c512_i32 : BitVec 32 := 512#32
  let v0 : BitVec 32 := Scalar.muli arg0 c512_i32
  let c123_i32_2028 : BitVec 32 := 123#32
  let v4446 : BitVec 32 := Scalar.addi v0 c123_i32_2028
  let v4447 : Index := Scalar.indexCast v4446
  ![v4447.toNat]
def k0_off1272 (v4448 : BitVec 32) : Fin 2 → Nat :=
  let c0_i32_2031 : BitVec 32 := 0#32
  ![v4448.toNat, 0]

def k0_chk636 (v4448 : BitVec 32) : Prop :=
  (∀ a, (k0_off1272 v4448) a + S1x768.size a ≤ S50257x768.size a)
theorem k0_off1272_inb : ∀ (v4448 : BitVec 32) (k0_hw636 : k0_chk636 v4448), ∀ a, (k0_off1272 v4448) a + S1x768.size a ≤ S50257x768.size a := fun v4448 k0_hw636 => k0_hw636

def k0_off1273 (i : grid0.Coords) : Fin 1 → Nat :=
  let arg0 : BitVec 32 := BitVec.ofNat 32 (i 0).val
  let c512_i32 : BitVec 32 := 512#32
  let v0 : BitVec 32 := Scalar.muli arg0 c512_i32
  let c124_i32_2032 : BitVec 32 := 124#32
  let v4453 : BitVec 32 := Scalar.addi v0 c124_i32_2032
  let v4454 : Index := Scalar.indexCast v4453
  ![v4454.toNat]
def k0_off1274 (v4455 : BitVec 32) : Fin 2 → Nat :=
  let c0_i32_2035 : BitVec 32 := 0#32
  ![v4455.toNat, 0]

def k0_chk637 (v4455 : BitVec 32) : Prop :=
  (∀ a, (k0_off1274 v4455) a + S1x768.size a ≤ S50257x768.size a)
theorem k0_off1274_inb : ∀ (v4455 : BitVec 32) (k0_hw637 : k0_chk637 v4455), ∀ a, (k0_off1274 v4455) a + S1x768.size a ≤ S50257x768.size a := fun v4455 k0_hw637 => k0_hw637

def k0_off1275 (i : grid0.Coords) : Fin 1 → Nat :=
  let arg0 : BitVec 32 := BitVec.ofNat 32 (i 0).val
  let c512_i32 : BitVec 32 := 512#32
  let v0 : BitVec 32 := Scalar.muli arg0 c512_i32
  let c125_i32_2036 : BitVec 32 := 125#32
  let v4460 : BitVec 32 := Scalar.addi v0 c125_i32_2036
  let v4461 : Index := Scalar.indexCast v4460
  ![v4461.toNat]
def k0_off1276 (v4462 : BitVec 32) : Fin 2 → Nat :=
  let c0_i32_2039 : BitVec 32 := 0#32
  ![v4462.toNat, 0]

def k0_chk638 (v4462 : BitVec 32) : Prop :=
  (∀ a, (k0_off1276 v4462) a + S1x768.size a ≤ S50257x768.size a)
theorem k0_off1276_inb : ∀ (v4462 : BitVec 32) (k0_hw638 : k0_chk638 v4462), ∀ a, (k0_off1276 v4462) a + S1x768.size a ≤ S50257x768.size a := fun v4462 k0_hw638 => k0_hw638

def k0_off1277 (i : grid0.Coords) : Fin 1 → Nat :=
  let arg0 : BitVec 32 := BitVec.ofNat 32 (i 0).val
  let c512_i32 : BitVec 32 := 512#32
  let v0 : BitVec 32 := Scalar.muli arg0 c512_i32
  let c126_i32_2040 : BitVec 32 := 126#32
  let v4467 : BitVec 32 := Scalar.addi v0 c126_i32_2040
  let v4468 : Index := Scalar.indexCast v4467
  ![v4468.toNat]
def k0_off1278 (v4469 : BitVec 32) : Fin 2 → Nat :=
  let c0_i32_2043 : BitVec 32 := 0#32
  ![v4469.toNat, 0]

def k0_chk639 (v4469 : BitVec 32) : Prop :=
  (∀ a, (k0_off1278 v4469) a + S1x768.size a ≤ S50257x768.size a)
theorem k0_off1278_inb : ∀ (v4469 : BitVec 32) (k0_hw639 : k0_chk639 v4469), ∀ a, (k0_off1278 v4469) a + S1x768.size a ≤ S50257x768.size a := fun v4469 k0_hw639 => k0_hw639

def k0_off1279 (i : grid0.Coords) : Fin 1 → Nat :=
  let arg0 : BitVec 32 := BitVec.ofNat 32 (i 0).val
  let c512_i32 : BitVec 32 := 512#32
  let v0 : BitVec 32 := Scalar.muli arg0 c512_i32
  let c127_i32_2044 : BitVec 32 := 127#32
  let v4474 : BitVec 32 := Scalar.addi v0 c127_i32_2044
  let v4475 : Index := Scalar.indexCast v4474
  ![v4475.toNat]
def k0_off1280 (v4476 : BitVec 32) : Fin 2 → Nat :=
  let c0_i32_2047 : BitVec 32 := 0#32
  ![v4476.toNat, 0]

def k0_chk640 (v4476 : BitVec 32) : Prop :=
  (∀ a, (k0_off1280 v4476) a + S1x768.size a ≤ S50257x768.size a)
theorem k0_off1280_inb : ∀ (v4476 : BitVec 32) (k0_hw640 : k0_chk640 v4476), ∀ a, (k0_off1280 v4476) a + S1x768.size a ≤ S50257x768.size a := fun v4476 k0_hw640 => k0_hw640

def k0_off1281 (i : grid0.Coords) : Fin 1 → Nat :=
  let arg0 : BitVec 32 := BitVec.ofNat 32 (i 0).val
  let c512_i32 : BitVec 32 := 512#32
  let v0 : BitVec 32 := Scalar.muli arg0 c512_i32
  let c128_i32_2048 : BitVec 32 := 128#32
  let v4481 : BitVec 32 := Scalar.addi v0 c128_i32_2048
  let v4482 : Index := Scalar.indexCast v4481
  ![v4482.toNat]
def k0_off1282 (v4483 : BitVec 32) : Fin 2 → Nat :=
  let c0_i32_2051 : BitVec 32 := 0#32
  ![v4483.toNat, 0]

def k0_chk641 (v4483 : BitVec 32) : Prop :=
  (∀ a, (k0_off1282 v4483) a + S1x768.size a ≤ S50257x768.size a)
theorem k0_off1282_inb : ∀ (v4483 : BitVec 32) (k0_hw641 : k0_chk641 v4483), ∀ a, (k0_off1282 v4483) a + S1x768.size a ≤ S50257x768.size a := fun v4483 k0_hw641 => k0_hw641

def k0_off1283 (i : grid0.Coords) : Fin 1 → Nat :=
  let arg0 : BitVec 32 := BitVec.ofNat 32 (i 0).val
  let c512_i32 : BitVec 32 := 512#32
  let v0 : BitVec 32 := Scalar.muli arg0 c512_i32
  let c129_i32_2052 : BitVec 32 := 129#32
  let v4488 : BitVec 32 := Scalar.addi v0 c129_i32_2052
  let v4489 : Index := Scalar.indexCast v4488
  ![v4489.toNat]
def k0_off1284 (v4490 : BitVec 32) : Fin 2 → Nat :=
  let c0_i32_2055 : BitVec 32 := 0#32
  ![v4490.toNat, 0]

def k0_chk642 (v4490 : BitVec 32) : Prop :=
  (∀ a, (k0_off1284 v4490) a + S1x768.size a ≤ S50257x768.size a)
theorem k0_off1284_inb : ∀ (v4490 : BitVec 32) (k0_hw642 : k0_chk642 v4490), ∀ a, (k0_off1284 v4490) a + S1x768.size a ≤ S50257x768.size a := fun v4490 k0_hw642 => k0_hw642

def k0_off1285 (i : grid0.Coords) : Fin 1 → Nat :=
  let arg0 : BitVec 32 := BitVec.ofNat 32 (i 0).val
  let c512_i32 : BitVec 32 := 512#32
  let v0 : BitVec 32 := Scalar.muli arg0 c512_i32
  let c130_i32_2056 : BitVec 32 := 130#32
  let v4495 : BitVec 32 := Scalar.addi v0 c130_i32_2056
  let v4496 : Index := Scalar.indexCast v4495
  ![v4496.toNat]
def k0_off1286 (v4497 : BitVec 32) : Fin 2 → Nat :=
  let c0_i32_2059 : BitVec 32 := 0#32
  ![v4497.toNat, 0]

def k0_chk643 (v4497 : BitVec 32) : Prop :=
  (∀ a, (k0_off1286 v4497) a + S1x768.size a ≤ S50257x768.size a)
theorem k0_off1286_inb : ∀ (v4497 : BitVec 32) (k0_hw643 : k0_chk643 v4497), ∀ a, (k0_off1286 v4497) a + S1x768.size a ≤ S50257x768.size a := fun v4497 k0_hw643 => k0_hw643

def k0_off1287 (i : grid0.Coords) : Fin 1 → Nat :=
  let arg0 : BitVec 32 := BitVec.ofNat 32 (i 0).val
  let c512_i32 : BitVec 32 := 512#32
  let v0 : BitVec 32 := Scalar.muli arg0 c512_i32
  let c131_i32_2060 : BitVec 32 := 131#32
  let v4502 : BitVec 32 := Scalar.addi v0 c131_i32_2060
  let v4503 : Index := Scalar.indexCast v4502
  ![v4503.toNat]
def k0_off1288 (v4504 : BitVec 32) : Fin 2 → Nat :=
  let c0_i32_2063 : BitVec 32 := 0#32
  ![v4504.toNat, 0]

def k0_chk644 (v4504 : BitVec 32) : Prop :=
  (∀ a, (k0_off1288 v4504) a + S1x768.size a ≤ S50257x768.size a)
theorem k0_off1288_inb : ∀ (v4504 : BitVec 32) (k0_hw644 : k0_chk644 v4504), ∀ a, (k0_off1288 v4504) a + S1x768.size a ≤ S50257x768.size a := fun v4504 k0_hw644 => k0_hw644

def k0_off1289 (i : grid0.Coords) : Fin 1 → Nat :=
  let arg0 : BitVec 32 := BitVec.ofNat 32 (i 0).val
  let c512_i32 : BitVec 32 := 512#32
  let v0 : BitVec 32 := Scalar.muli arg0 c512_i32
  let c132_i32_2064 : BitVec 32 := 132#32
  let v4509 : BitVec 32 := Scalar.addi v0 c132_i32_2064
  let v4510 : Index := Scalar.indexCast v4509
  ![v4510.toNat]
def k0_off1290 (v4511 : BitVec 32) : Fin 2 → Nat :=
  let c0_i32_2067 : BitVec 32 := 0#32
  ![v4511.toNat, 0]

def k0_chk645 (v4511 : BitVec 32) : Prop :=
  (∀ a, (k0_off1290 v4511) a + S1x768.size a ≤ S50257x768.size a)
theorem k0_off1290_inb : ∀ (v4511 : BitVec 32) (k0_hw645 : k0_chk645 v4511), ∀ a, (k0_off1290 v4511) a + S1x768.size a ≤ S50257x768.size a := fun v4511 k0_hw645 => k0_hw645

def k0_off1291 (i : grid0.Coords) : Fin 1 → Nat :=
  let arg0 : BitVec 32 := BitVec.ofNat 32 (i 0).val
  let c512_i32 : BitVec 32 := 512#32
  let v0 : BitVec 32 := Scalar.muli arg0 c512_i32
  let c133_i32_2068 : BitVec 32 := 133#32
  let v4516 : BitVec 32 := Scalar.addi v0 c133_i32_2068
  let v4517 : Index := Scalar.indexCast v4516
  ![v4517.toNat]
def k0_off1292 (v4518 : BitVec 32) : Fin 2 → Nat :=
  let c0_i32_2071 : BitVec 32 := 0#32
  ![v4518.toNat, 0]

def k0_chk646 (v4518 : BitVec 32) : Prop :=
  (∀ a, (k0_off1292 v4518) a + S1x768.size a ≤ S50257x768.size a)
theorem k0_off1292_inb : ∀ (v4518 : BitVec 32) (k0_hw646 : k0_chk646 v4518), ∀ a, (k0_off1292 v4518) a + S1x768.size a ≤ S50257x768.size a := fun v4518 k0_hw646 => k0_hw646

def k0_off1293 (i : grid0.Coords) : Fin 1 → Nat :=
  let arg0 : BitVec 32 := BitVec.ofNat 32 (i 0).val
  let c512_i32 : BitVec 32 := 512#32
  let v0 : BitVec 32 := Scalar.muli arg0 c512_i32
  let c134_i32_2072 : BitVec 32 := 134#32
  let v4523 : BitVec 32 := Scalar.addi v0 c134_i32_2072
  let v4524 : Index := Scalar.indexCast v4523
  ![v4524.toNat]
def k0_off1294 (v4525 : BitVec 32) : Fin 2 → Nat :=
  let c0_i32_2075 : BitVec 32 := 0#32
  ![v4525.toNat, 0]

def k0_chk647 (v4525 : BitVec 32) : Prop :=
  (∀ a, (k0_off1294 v4525) a + S1x768.size a ≤ S50257x768.size a)
theorem k0_off1294_inb : ∀ (v4525 : BitVec 32) (k0_hw647 : k0_chk647 v4525), ∀ a, (k0_off1294 v4525) a + S1x768.size a ≤ S50257x768.size a := fun v4525 k0_hw647 => k0_hw647

def k0_off1295 (i : grid0.Coords) : Fin 1 → Nat :=
  let arg0 : BitVec 32 := BitVec.ofNat 32 (i 0).val
  let c512_i32 : BitVec 32 := 512#32
  let v0 : BitVec 32 := Scalar.muli arg0 c512_i32
  let c135_i32_2076 : BitVec 32 := 135#32
  let v4530 : BitVec 32 := Scalar.addi v0 c135_i32_2076
  let v4531 : Index := Scalar.indexCast v4530
  ![v4531.toNat]
def k0_off1296 (v4532 : BitVec 32) : Fin 2 → Nat :=
  let c0_i32_2079 : BitVec 32 := 0#32
  ![v4532.toNat, 0]

def k0_chk648 (v4532 : BitVec 32) : Prop :=
  (∀ a, (k0_off1296 v4532) a + S1x768.size a ≤ S50257x768.size a)
theorem k0_off1296_inb : ∀ (v4532 : BitVec 32) (k0_hw648 : k0_chk648 v4532), ∀ a, (k0_off1296 v4532) a + S1x768.size a ≤ S50257x768.size a := fun v4532 k0_hw648 => k0_hw648

def k0_off1297 (i : grid0.Coords) : Fin 1 → Nat :=
  let arg0 : BitVec 32 := BitVec.ofNat 32 (i 0).val
  let c512_i32 : BitVec 32 := 512#32
  let v0 : BitVec 32 := Scalar.muli arg0 c512_i32
  let c136_i32_2080 : BitVec 32 := 136#32
  let v4537 : BitVec 32 := Scalar.addi v0 c136_i32_2080
  let v4538 : Index := Scalar.indexCast v4537
  ![v4538.toNat]
def k0_off1298 (v4539 : BitVec 32) : Fin 2 → Nat :=
  let c0_i32_2083 : BitVec 32 := 0#32
  ![v4539.toNat, 0]

def k0_chk649 (v4539 : BitVec 32) : Prop :=
  (∀ a, (k0_off1298 v4539) a + S1x768.size a ≤ S50257x768.size a)
theorem k0_off1298_inb : ∀ (v4539 : BitVec 32) (k0_hw649 : k0_chk649 v4539), ∀ a, (k0_off1298 v4539) a + S1x768.size a ≤ S50257x768.size a := fun v4539 k0_hw649 => k0_hw649

def k0_off1299 (i : grid0.Coords) : Fin 1 → Nat :=
  let arg0 : BitVec 32 := BitVec.ofNat 32 (i 0).val
  let c512_i32 : BitVec 32 := 512#32
  let v0 : BitVec 32 := Scalar.muli arg0 c512_i32
  let c137_i32_2084 : BitVec 32 := 137#32
  let v4544 : BitVec 32 := Scalar.addi v0 c137_i32_2084
  let v4545 : Index := Scalar.indexCast v4544
  ![v4545.toNat]
def k0_off1300 (v4546 : BitVec 32) : Fin 2 → Nat :=
  let c0_i32_2087 : BitVec 32 := 0#32
  ![v4546.toNat, 0]

def k0_chk650 (v4546 : BitVec 32) : Prop :=
  (∀ a, (k0_off1300 v4546) a + S1x768.size a ≤ S50257x768.size a)
theorem k0_off1300_inb : ∀ (v4546 : BitVec 32) (k0_hw650 : k0_chk650 v4546), ∀ a, (k0_off1300 v4546) a + S1x768.size a ≤ S50257x768.size a := fun v4546 k0_hw650 => k0_hw650

def k0_off1301 (i : grid0.Coords) : Fin 1 → Nat :=
  let arg0 : BitVec 32 := BitVec.ofNat 32 (i 0).val
  let c512_i32 : BitVec 32 := 512#32
  let v0 : BitVec 32 := Scalar.muli arg0 c512_i32
  let c138_i32_2088 : BitVec 32 := 138#32
  let v4551 : BitVec 32 := Scalar.addi v0 c138_i32_2088
  let v4552 : Index := Scalar.indexCast v4551
  ![v4552.toNat]
def k0_off1302 (v4553 : BitVec 32) : Fin 2 → Nat :=
  let c0_i32_2091 : BitVec 32 := 0#32
  ![v4553.toNat, 0]

def k0_chk651 (v4553 : BitVec 32) : Prop :=
  (∀ a, (k0_off1302 v4553) a + S1x768.size a ≤ S50257x768.size a)
theorem k0_off1302_inb : ∀ (v4553 : BitVec 32) (k0_hw651 : k0_chk651 v4553), ∀ a, (k0_off1302 v4553) a + S1x768.size a ≤ S50257x768.size a := fun v4553 k0_hw651 => k0_hw651

def k0_off1303 (i : grid0.Coords) : Fin 1 → Nat :=
  let arg0 : BitVec 32 := BitVec.ofNat 32 (i 0).val
  let c512_i32 : BitVec 32 := 512#32
  let v0 : BitVec 32 := Scalar.muli arg0 c512_i32
  let c139_i32_2092 : BitVec 32 := 139#32
  let v4558 : BitVec 32 := Scalar.addi v0 c139_i32_2092
  let v4559 : Index := Scalar.indexCast v4558
  ![v4559.toNat]
def k0_off1304 (v4560 : BitVec 32) : Fin 2 → Nat :=
  let c0_i32_2095 : BitVec 32 := 0#32
  ![v4560.toNat, 0]

def k0_chk652 (v4560 : BitVec 32) : Prop :=
  (∀ a, (k0_off1304 v4560) a + S1x768.size a ≤ S50257x768.size a)
theorem k0_off1304_inb : ∀ (v4560 : BitVec 32) (k0_hw652 : k0_chk652 v4560), ∀ a, (k0_off1304 v4560) a + S1x768.size a ≤ S50257x768.size a := fun v4560 k0_hw652 => k0_hw652

def k0_off1305 (i : grid0.Coords) : Fin 1 → Nat :=
  let arg0 : BitVec 32 := BitVec.ofNat 32 (i 0).val
  let c512_i32 : BitVec 32 := 512#32
  let v0 : BitVec 32 := Scalar.muli arg0 c512_i32
  let c140_i32_2096 : BitVec 32 := 140#32
  let v4565 : BitVec 32 := Scalar.addi v0 c140_i32_2096
  let v4566 : Index := Scalar.indexCast v4565
  ![v4566.toNat]
def k0_off1306 (v4567 : BitVec 32) : Fin 2 → Nat :=
  let c0_i32_2099 : BitVec 32 := 0#32
  ![v4567.toNat, 0]

def k0_chk653 (v4567 : BitVec 32) : Prop :=
  (∀ a, (k0_off1306 v4567) a + S1x768.size a ≤ S50257x768.size a)
theorem k0_off1306_inb : ∀ (v4567 : BitVec 32) (k0_hw653 : k0_chk653 v4567), ∀ a, (k0_off1306 v4567) a + S1x768.size a ≤ S50257x768.size a := fun v4567 k0_hw653 => k0_hw653

def k0_off1307 (i : grid0.Coords) : Fin 1 → Nat :=
  let arg0 : BitVec 32 := BitVec.ofNat 32 (i 0).val
  let c512_i32 : BitVec 32 := 512#32
  let v0 : BitVec 32 := Scalar.muli arg0 c512_i32
  let c141_i32_2100 : BitVec 32 := 141#32
  let v4572 : BitVec 32 := Scalar.addi v0 c141_i32_2100
  let v4573 : Index := Scalar.indexCast v4572
  ![v4573.toNat]
def k0_off1308 (v4574 : BitVec 32) : Fin 2 → Nat :=
  let c0_i32_2103 : BitVec 32 := 0#32
  ![v4574.toNat, 0]

def k0_chk654 (v4574 : BitVec 32) : Prop :=
  (∀ a, (k0_off1308 v4574) a + S1x768.size a ≤ S50257x768.size a)
theorem k0_off1308_inb : ∀ (v4574 : BitVec 32) (k0_hw654 : k0_chk654 v4574), ∀ a, (k0_off1308 v4574) a + S1x768.size a ≤ S50257x768.size a := fun v4574 k0_hw654 => k0_hw654

def k0_off1309 (i : grid0.Coords) : Fin 1 → Nat :=
  let arg0 : BitVec 32 := BitVec.ofNat 32 (i 0).val
  let c512_i32 : BitVec 32 := 512#32
  let v0 : BitVec 32 := Scalar.muli arg0 c512_i32
  let c142_i32_2104 : BitVec 32 := 142#32
  let v4579 : BitVec 32 := Scalar.addi v0 c142_i32_2104
  let v4580 : Index := Scalar.indexCast v4579
  ![v4580.toNat]
def k0_off1310 (v4581 : BitVec 32) : Fin 2 → Nat :=
  let c0_i32_2107 : BitVec 32 := 0#32
  ![v4581.toNat, 0]

def k0_chk655 (v4581 : BitVec 32) : Prop :=
  (∀ a, (k0_off1310 v4581) a + S1x768.size a ≤ S50257x768.size a)
theorem k0_off1310_inb : ∀ (v4581 : BitVec 32) (k0_hw655 : k0_chk655 v4581), ∀ a, (k0_off1310 v4581) a + S1x768.size a ≤ S50257x768.size a := fun v4581 k0_hw655 => k0_hw655

def k0_off1311 (i : grid0.Coords) : Fin 1 → Nat :=
  let arg0 : BitVec 32 := BitVec.ofNat 32 (i 0).val
  let c512_i32 : BitVec 32 := 512#32
  let v0 : BitVec 32 := Scalar.muli arg0 c512_i32
  let c143_i32_2108 : BitVec 32 := 143#32
  let v4586 : BitVec 32 := Scalar.addi v0 c143_i32_2108
  let v4587 : Index := Scalar.indexCast v4586
  ![v4587.toNat]
def k0_off1312 (v4588 : BitVec 32) : Fin 2 → Nat :=
  let c0_i32_2111 : BitVec 32 := 0#32
  ![v4588.toNat, 0]

def k0_chk656 (v4588 : BitVec 32) : Prop :=
  (∀ a, (k0_off1312 v4588) a + S1x768.size a ≤ S50257x768.size a)
theorem k0_off1312_inb : ∀ (v4588 : BitVec 32) (k0_hw656 : k0_chk656 v4588), ∀ a, (k0_off1312 v4588) a + S1x768.size a ≤ S50257x768.size a := fun v4588 k0_hw656 => k0_hw656

def k0_off1313 (i : grid0.Coords) : Fin 1 → Nat :=
  let arg0 : BitVec 32 := BitVec.ofNat 32 (i 0).val
  let c512_i32 : BitVec 32 := 512#32
  let v0 : BitVec 32 := Scalar.muli arg0 c512_i32
  let c144_i32_2112 : BitVec 32 := 144#32
  let v4593 : BitVec 32 := Scalar.addi v0 c144_i32_2112
  let v4594 : Index := Scalar.indexCast v4593
  ![v4594.toNat]
def k0_off1314 (v4595 : BitVec 32) : Fin 2 → Nat :=
  let c0_i32_2115 : BitVec 32 := 0#32
  ![v4595.toNat, 0]

def k0_chk657 (v4595 : BitVec 32) : Prop :=
  (∀ a, (k0_off1314 v4595) a + S1x768.size a ≤ S50257x768.size a)
theorem k0_off1314_inb : ∀ (v4595 : BitVec 32) (k0_hw657 : k0_chk657 v4595), ∀ a, (k0_off1314 v4595) a + S1x768.size a ≤ S50257x768.size a := fun v4595 k0_hw657 => k0_hw657

def k0_off1315 (i : grid0.Coords) : Fin 1 → Nat :=
  let arg0 : BitVec 32 := BitVec.ofNat 32 (i 0).val
  let c512_i32 : BitVec 32 := 512#32
  let v0 : BitVec 32 := Scalar.muli arg0 c512_i32
  let c145_i32_2116 : BitVec 32 := 145#32
  let v4600 : BitVec 32 := Scalar.addi v0 c145_i32_2116
  let v4601 : Index := Scalar.indexCast v4600
  ![v4601.toNat]
def k0_off1316 (v4602 : BitVec 32) : Fin 2 → Nat :=
  let c0_i32_2119 : BitVec 32 := 0#32
  ![v4602.toNat, 0]

def k0_chk658 (v4602 : BitVec 32) : Prop :=
  (∀ a, (k0_off1316 v4602) a + S1x768.size a ≤ S50257x768.size a)
theorem k0_off1316_inb : ∀ (v4602 : BitVec 32) (k0_hw658 : k0_chk658 v4602), ∀ a, (k0_off1316 v4602) a + S1x768.size a ≤ S50257x768.size a := fun v4602 k0_hw658 => k0_hw658

def k0_off1317 (i : grid0.Coords) : Fin 1 → Nat :=
  let arg0 : BitVec 32 := BitVec.ofNat 32 (i 0).val
  let c512_i32 : BitVec 32 := 512#32
  let v0 : BitVec 32 := Scalar.muli arg0 c512_i32
  let c146_i32_2120 : BitVec 32 := 146#32
  let v4607 : BitVec 32 := Scalar.addi v0 c146_i32_2120
  let v4608 : Index := Scalar.indexCast v4607
  ![v4608.toNat]
def k0_off1318 (v4609 : BitVec 32) : Fin 2 → Nat :=
  let c0_i32_2123 : BitVec 32 := 0#32
  ![v4609.toNat, 0]

def k0_chk659 (v4609 : BitVec 32) : Prop :=
  (∀ a, (k0_off1318 v4609) a + S1x768.size a ≤ S50257x768.size a)
theorem k0_off1318_inb : ∀ (v4609 : BitVec 32) (k0_hw659 : k0_chk659 v4609), ∀ a, (k0_off1318 v4609) a + S1x768.size a ≤ S50257x768.size a := fun v4609 k0_hw659 => k0_hw659

def k0_off1319 (i : grid0.Coords) : Fin 1 → Nat :=
  let arg0 : BitVec 32 := BitVec.ofNat 32 (i 0).val
  let c512_i32 : BitVec 32 := 512#32
  let v0 : BitVec 32 := Scalar.muli arg0 c512_i32
  let c147_i32_2124 : BitVec 32 := 147#32
  let v4614 : BitVec 32 := Scalar.addi v0 c147_i32_2124
  let v4615 : Index := Scalar.indexCast v4614
  ![v4615.toNat]
def k0_off1320 (v4616 : BitVec 32) : Fin 2 → Nat :=
  let c0_i32_2127 : BitVec 32 := 0#32
  ![v4616.toNat, 0]

def k0_chk660 (v4616 : BitVec 32) : Prop :=
  (∀ a, (k0_off1320 v4616) a + S1x768.size a ≤ S50257x768.size a)
theorem k0_off1320_inb : ∀ (v4616 : BitVec 32) (k0_hw660 : k0_chk660 v4616), ∀ a, (k0_off1320 v4616) a + S1x768.size a ≤ S50257x768.size a := fun v4616 k0_hw660 => k0_hw660

def k0_off1321 (i : grid0.Coords) : Fin 1 → Nat :=
  let arg0 : BitVec 32 := BitVec.ofNat 32 (i 0).val
  let c512_i32 : BitVec 32 := 512#32
  let v0 : BitVec 32 := Scalar.muli arg0 c512_i32
  let c148_i32_2128 : BitVec 32 := 148#32
  let v4621 : BitVec 32 := Scalar.addi v0 c148_i32_2128
  let v4622 : Index := Scalar.indexCast v4621
  ![v4622.toNat]
def k0_off1322 (v4623 : BitVec 32) : Fin 2 → Nat :=
  let c0_i32_2131 : BitVec 32 := 0#32
  ![v4623.toNat, 0]

def k0_chk661 (v4623 : BitVec 32) : Prop :=
  (∀ a, (k0_off1322 v4623) a + S1x768.size a ≤ S50257x768.size a)
theorem k0_off1322_inb : ∀ (v4623 : BitVec 32) (k0_hw661 : k0_chk661 v4623), ∀ a, (k0_off1322 v4623) a + S1x768.size a ≤ S50257x768.size a := fun v4623 k0_hw661 => k0_hw661

def k0_off1323 (i : grid0.Coords) : Fin 1 → Nat :=
  let arg0 : BitVec 32 := BitVec.ofNat 32 (i 0).val
  let c512_i32 : BitVec 32 := 512#32
  let v0 : BitVec 32 := Scalar.muli arg0 c512_i32
  let c149_i32_2132 : BitVec 32 := 149#32
  let v4628 : BitVec 32 := Scalar.addi v0 c149_i32_2132
  let v4629 : Index := Scalar.indexCast v4628
  ![v4629.toNat]
def k0_off1324 (v4630 : BitVec 32) : Fin 2 → Nat :=
  let c0_i32_2135 : BitVec 32 := 0#32
  ![v4630.toNat, 0]

def k0_chk662 (v4630 : BitVec 32) : Prop :=
  (∀ a, (k0_off1324 v4630) a + S1x768.size a ≤ S50257x768.size a)
theorem k0_off1324_inb : ∀ (v4630 : BitVec 32) (k0_hw662 : k0_chk662 v4630), ∀ a, (k0_off1324 v4630) a + S1x768.size a ≤ S50257x768.size a := fun v4630 k0_hw662 => k0_hw662

def k0_off1325 (i : grid0.Coords) : Fin 1 → Nat :=
  let arg0 : BitVec 32 := BitVec.ofNat 32 (i 0).val
  let c512_i32 : BitVec 32 := 512#32
  let v0 : BitVec 32 := Scalar.muli arg0 c512_i32
  let c150_i32_2136 : BitVec 32 := 150#32
  let v4635 : BitVec 32 := Scalar.addi v0 c150_i32_2136
  let v4636 : Index := Scalar.indexCast v4635
  ![v4636.toNat]
def k0_off1326 (v4637 : BitVec 32) : Fin 2 → Nat :=
  let c0_i32_2139 : BitVec 32 := 0#32
  ![v4637.toNat, 0]

def k0_chk663 (v4637 : BitVec 32) : Prop :=
  (∀ a, (k0_off1326 v4637) a + S1x768.size a ≤ S50257x768.size a)
theorem k0_off1326_inb : ∀ (v4637 : BitVec 32) (k0_hw663 : k0_chk663 v4637), ∀ a, (k0_off1326 v4637) a + S1x768.size a ≤ S50257x768.size a := fun v4637 k0_hw663 => k0_hw663

def k0_off1327 (i : grid0.Coords) : Fin 1 → Nat :=
  let arg0 : BitVec 32 := BitVec.ofNat 32 (i 0).val
  let c512_i32 : BitVec 32 := 512#32
  let v0 : BitVec 32 := Scalar.muli arg0 c512_i32
  let c151_i32_2140 : BitVec 32 := 151#32
  let v4642 : BitVec 32 := Scalar.addi v0 c151_i32_2140
  let v4643 : Index := Scalar.indexCast v4642
  ![v4643.toNat]
def k0_off1328 (v4644 : BitVec 32) : Fin 2 → Nat :=
  let c0_i32_2143 : BitVec 32 := 0#32
  ![v4644.toNat, 0]

def k0_chk664 (v4644 : BitVec 32) : Prop :=
  (∀ a, (k0_off1328 v4644) a + S1x768.size a ≤ S50257x768.size a)
theorem k0_off1328_inb : ∀ (v4644 : BitVec 32) (k0_hw664 : k0_chk664 v4644), ∀ a, (k0_off1328 v4644) a + S1x768.size a ≤ S50257x768.size a := fun v4644 k0_hw664 => k0_hw664

def k0_off1329 (i : grid0.Coords) : Fin 1 → Nat :=
  let arg0 : BitVec 32 := BitVec.ofNat 32 (i 0).val
  let c512_i32 : BitVec 32 := 512#32
  let v0 : BitVec 32 := Scalar.muli arg0 c512_i32
  let c152_i32_2144 : BitVec 32 := 152#32
  let v4649 : BitVec 32 := Scalar.addi v0 c152_i32_2144
  let v4650 : Index := Scalar.indexCast v4649
  ![v4650.toNat]
def k0_off1330 (v4651 : BitVec 32) : Fin 2 → Nat :=
  let c0_i32_2147 : BitVec 32 := 0#32
  ![v4651.toNat, 0]

def k0_chk665 (v4651 : BitVec 32) : Prop :=
  (∀ a, (k0_off1330 v4651) a + S1x768.size a ≤ S50257x768.size a)
theorem k0_off1330_inb : ∀ (v4651 : BitVec 32) (k0_hw665 : k0_chk665 v4651), ∀ a, (k0_off1330 v4651) a + S1x768.size a ≤ S50257x768.size a := fun v4651 k0_hw665 => k0_hw665

def k0_off1331 (i : grid0.Coords) : Fin 1 → Nat :=
  let arg0 : BitVec 32 := BitVec.ofNat 32 (i 0).val
  let c512_i32 : BitVec 32 := 512#32
  let v0 : BitVec 32 := Scalar.muli arg0 c512_i32
  let c153_i32_2148 : BitVec 32 := 153#32
  let v4656 : BitVec 32 := Scalar.addi v0 c153_i32_2148
  let v4657 : Index := Scalar.indexCast v4656
  ![v4657.toNat]
def k0_off1332 (v4658 : BitVec 32) : Fin 2 → Nat :=
  let c0_i32_2151 : BitVec 32 := 0#32
  ![v4658.toNat, 0]

def k0_chk666 (v4658 : BitVec 32) : Prop :=
  (∀ a, (k0_off1332 v4658) a + S1x768.size a ≤ S50257x768.size a)
theorem k0_off1332_inb : ∀ (v4658 : BitVec 32) (k0_hw666 : k0_chk666 v4658), ∀ a, (k0_off1332 v4658) a + S1x768.size a ≤ S50257x768.size a := fun v4658 k0_hw666 => k0_hw666

def k0_off1333 (i : grid0.Coords) : Fin 1 → Nat :=
  let arg0 : BitVec 32 := BitVec.ofNat 32 (i 0).val
  let c512_i32 : BitVec 32 := 512#32
  let v0 : BitVec 32 := Scalar.muli arg0 c512_i32
  let c154_i32_2152 : BitVec 32 := 154#32
  let v4663 : BitVec 32 := Scalar.addi v0 c154_i32_2152
  let v4664 : Index := Scalar.indexCast v4663
  ![v4664.toNat]
def k0_off1334 (v4665 : BitVec 32) : Fin 2 → Nat :=
  let c0_i32_2155 : BitVec 32 := 0#32
  ![v4665.toNat, 0]

def k0_chk667 (v4665 : BitVec 32) : Prop :=
  (∀ a, (k0_off1334 v4665) a + S1x768.size a ≤ S50257x768.size a)
theorem k0_off1334_inb : ∀ (v4665 : BitVec 32) (k0_hw667 : k0_chk667 v4665), ∀ a, (k0_off1334 v4665) a + S1x768.size a ≤ S50257x768.size a := fun v4665 k0_hw667 => k0_hw667

def k0_off1335 (i : grid0.Coords) : Fin 1 → Nat :=
  let arg0 : BitVec 32 := BitVec.ofNat 32 (i 0).val
  let c512_i32 : BitVec 32 := 512#32
  let v0 : BitVec 32 := Scalar.muli arg0 c512_i32
  let c155_i32_2156 : BitVec 32 := 155#32
  let v4670 : BitVec 32 := Scalar.addi v0 c155_i32_2156
  let v4671 : Index := Scalar.indexCast v4670
  ![v4671.toNat]
def k0_off1336 (v4672 : BitVec 32) : Fin 2 → Nat :=
  let c0_i32_2159 : BitVec 32 := 0#32
  ![v4672.toNat, 0]

def k0_chk668 (v4672 : BitVec 32) : Prop :=
  (∀ a, (k0_off1336 v4672) a + S1x768.size a ≤ S50257x768.size a)
theorem k0_off1336_inb : ∀ (v4672 : BitVec 32) (k0_hw668 : k0_chk668 v4672), ∀ a, (k0_off1336 v4672) a + S1x768.size a ≤ S50257x768.size a := fun v4672 k0_hw668 => k0_hw668

def k0_off1337 (i : grid0.Coords) : Fin 1 → Nat :=
  let arg0 : BitVec 32 := BitVec.ofNat 32 (i 0).val
  let c512_i32 : BitVec 32 := 512#32
  let v0 : BitVec 32 := Scalar.muli arg0 c512_i32
  let c156_i32_2160 : BitVec 32 := 156#32
  let v4677 : BitVec 32 := Scalar.addi v0 c156_i32_2160
  let v4678 : Index := Scalar.indexCast v4677
  ![v4678.toNat]
def k0_off1338 (v4679 : BitVec 32) : Fin 2 → Nat :=
  let c0_i32_2163 : BitVec 32 := 0#32
  ![v4679.toNat, 0]

def k0_chk669 (v4679 : BitVec 32) : Prop :=
  (∀ a, (k0_off1338 v4679) a + S1x768.size a ≤ S50257x768.size a)
theorem k0_off1338_inb : ∀ (v4679 : BitVec 32) (k0_hw669 : k0_chk669 v4679), ∀ a, (k0_off1338 v4679) a + S1x768.size a ≤ S50257x768.size a := fun v4679 k0_hw669 => k0_hw669

def k0_off1339 (i : grid0.Coords) : Fin 1 → Nat :=
  let arg0 : BitVec 32 := BitVec.ofNat 32 (i 0).val
  let c512_i32 : BitVec 32 := 512#32
  let v0 : BitVec 32 := Scalar.muli arg0 c512_i32
  let c157_i32_2164 : BitVec 32 := 157#32
  let v4684 : BitVec 32 := Scalar.addi v0 c157_i32_2164
  let v4685 : Index := Scalar.indexCast v4684
  ![v4685.toNat]
def k0_off1340 (v4686 : BitVec 32) : Fin 2 → Nat :=
  let c0_i32_2167 : BitVec 32 := 0#32
  ![v4686.toNat, 0]

def k0_chk670 (v4686 : BitVec 32) : Prop :=
  (∀ a, (k0_off1340 v4686) a + S1x768.size a ≤ S50257x768.size a)
theorem k0_off1340_inb : ∀ (v4686 : BitVec 32) (k0_hw670 : k0_chk670 v4686), ∀ a, (k0_off1340 v4686) a + S1x768.size a ≤ S50257x768.size a := fun v4686 k0_hw670 => k0_hw670

def k0_off1341 (i : grid0.Coords) : Fin 1 → Nat :=
  let arg0 : BitVec 32 := BitVec.ofNat 32 (i 0).val
  let c512_i32 : BitVec 32 := 512#32
  let v0 : BitVec 32 := Scalar.muli arg0 c512_i32
  let c158_i32_2168 : BitVec 32 := 158#32
  let v4691 : BitVec 32 := Scalar.addi v0 c158_i32_2168
  let v4692 : Index := Scalar.indexCast v4691
  ![v4692.toNat]
def k0_off1342 (v4693 : BitVec 32) : Fin 2 → Nat :=
  let c0_i32_2171 : BitVec 32 := 0#32
  ![v4693.toNat, 0]

def k0_chk671 (v4693 : BitVec 32) : Prop :=
  (∀ a, (k0_off1342 v4693) a + S1x768.size a ≤ S50257x768.size a)
theorem k0_off1342_inb : ∀ (v4693 : BitVec 32) (k0_hw671 : k0_chk671 v4693), ∀ a, (k0_off1342 v4693) a + S1x768.size a ≤ S50257x768.size a := fun v4693 k0_hw671 => k0_hw671

def k0_off1343 (i : grid0.Coords) : Fin 1 → Nat :=
  let arg0 : BitVec 32 := BitVec.ofNat 32 (i 0).val
  let c512_i32 : BitVec 32 := 512#32
  let v0 : BitVec 32 := Scalar.muli arg0 c512_i32
  let c159_i32_2172 : BitVec 32 := 159#32
  let v4698 : BitVec 32 := Scalar.addi v0 c159_i32_2172
  let v4699 : Index := Scalar.indexCast v4698
  ![v4699.toNat]
def k0_off1344 (v4700 : BitVec 32) : Fin 2 → Nat :=
  let c0_i32_2175 : BitVec 32 := 0#32
  ![v4700.toNat, 0]

def k0_chk672 (v4700 : BitVec 32) : Prop :=
  (∀ a, (k0_off1344 v4700) a + S1x768.size a ≤ S50257x768.size a)
theorem k0_off1344_inb : ∀ (v4700 : BitVec 32) (k0_hw672 : k0_chk672 v4700), ∀ a, (k0_off1344 v4700) a + S1x768.size a ≤ S50257x768.size a := fun v4700 k0_hw672 => k0_hw672

def k0_off1345 (i : grid0.Coords) : Fin 1 → Nat :=
  let arg0 : BitVec 32 := BitVec.ofNat 32 (i 0).val
  let c512_i32 : BitVec 32 := 512#32
  let v0 : BitVec 32 := Scalar.muli arg0 c512_i32
  let c160_i32_2176 : BitVec 32 := 160#32
  let v4705 : BitVec 32 := Scalar.addi v0 c160_i32_2176
  let v4706 : Index := Scalar.indexCast v4705
  ![v4706.toNat]
def k0_off1346 (v4707 : BitVec 32) : Fin 2 → Nat :=
  let c0_i32_2179 : BitVec 32 := 0#32
  ![v4707.toNat, 0]

def k0_chk673 (v4707 : BitVec 32) : Prop :=
  (∀ a, (k0_off1346 v4707) a + S1x768.size a ≤ S50257x768.size a)
theorem k0_off1346_inb : ∀ (v4707 : BitVec 32) (k0_hw673 : k0_chk673 v4707), ∀ a, (k0_off1346 v4707) a + S1x768.size a ≤ S50257x768.size a := fun v4707 k0_hw673 => k0_hw673

def k0_off1347 (i : grid0.Coords) : Fin 1 → Nat :=
  let arg0 : BitVec 32 := BitVec.ofNat 32 (i 0).val
  let c512_i32 : BitVec 32 := 512#32
  let v0 : BitVec 32 := Scalar.muli arg0 c512_i32
  let c161_i32_2180 : BitVec 32 := 161#32
  let v4712 : BitVec 32 := Scalar.addi v0 c161_i32_2180
  let v4713 : Index := Scalar.indexCast v4712
  ![v4713.toNat]
def k0_off1348 (v4714 : BitVec 32) : Fin 2 → Nat :=
  let c0_i32_2183 : BitVec 32 := 0#32
  ![v4714.toNat, 0]

def k0_chk674 (v4714 : BitVec 32) : Prop :=
  (∀ a, (k0_off1348 v4714) a + S1x768.size a ≤ S50257x768.size a)
theorem k0_off1348_inb : ∀ (v4714 : BitVec 32) (k0_hw674 : k0_chk674 v4714), ∀ a, (k0_off1348 v4714) a + S1x768.size a ≤ S50257x768.size a := fun v4714 k0_hw674 => k0_hw674

def k0_off1349 (i : grid0.Coords) : Fin 1 → Nat :=
  let arg0 : BitVec 32 := BitVec.ofNat 32 (i 0).val
  let c512_i32 : BitVec 32 := 512#32
  let v0 : BitVec 32 := Scalar.muli arg0 c512_i32
  let c162_i32_2184 : BitVec 32 := 162#32
  let v4719 : BitVec 32 := Scalar.addi v0 c162_i32_2184
  let v4720 : Index := Scalar.indexCast v4719
  ![v4720.toNat]
def k0_off1350 (v4721 : BitVec 32) : Fin 2 → Nat :=
  let c0_i32_2187 : BitVec 32 := 0#32
  ![v4721.toNat, 0]

def k0_chk675 (v4721 : BitVec 32) : Prop :=
  (∀ a, (k0_off1350 v4721) a + S1x768.size a ≤ S50257x768.size a)
theorem k0_off1350_inb : ∀ (v4721 : BitVec 32) (k0_hw675 : k0_chk675 v4721), ∀ a, (k0_off1350 v4721) a + S1x768.size a ≤ S50257x768.size a := fun v4721 k0_hw675 => k0_hw675

def k0_off1351 (i : grid0.Coords) : Fin 1 → Nat :=
  let arg0 : BitVec 32 := BitVec.ofNat 32 (i 0).val
  let c512_i32 : BitVec 32 := 512#32
  let v0 : BitVec 32 := Scalar.muli arg0 c512_i32
  let c163_i32_2188 : BitVec 32 := 163#32
  let v4726 : BitVec 32 := Scalar.addi v0 c163_i32_2188
  let v4727 : Index := Scalar.indexCast v4726
  ![v4727.toNat]
def k0_off1352 (v4728 : BitVec 32) : Fin 2 → Nat :=
  let c0_i32_2191 : BitVec 32 := 0#32
  ![v4728.toNat, 0]

def k0_chk676 (v4728 : BitVec 32) : Prop :=
  (∀ a, (k0_off1352 v4728) a + S1x768.size a ≤ S50257x768.size a)
theorem k0_off1352_inb : ∀ (v4728 : BitVec 32) (k0_hw676 : k0_chk676 v4728), ∀ a, (k0_off1352 v4728) a + S1x768.size a ≤ S50257x768.size a := fun v4728 k0_hw676 => k0_hw676

def k0_off1353 (i : grid0.Coords) : Fin 1 → Nat :=
  let arg0 : BitVec 32 := BitVec.ofNat 32 (i 0).val
  let c512_i32 : BitVec 32 := 512#32
  let v0 : BitVec 32 := Scalar.muli arg0 c512_i32
  let c164_i32_2192 : BitVec 32 := 164#32
  let v4733 : BitVec 32 := Scalar.addi v0 c164_i32_2192
  let v4734 : Index := Scalar.indexCast v4733
  ![v4734.toNat]
def k0_off1354 (v4735 : BitVec 32) : Fin 2 → Nat :=
  let c0_i32_2195 : BitVec 32 := 0#32
  ![v4735.toNat, 0]

def k0_chk677 (v4735 : BitVec 32) : Prop :=
  (∀ a, (k0_off1354 v4735) a + S1x768.size a ≤ S50257x768.size a)
theorem k0_off1354_inb : ∀ (v4735 : BitVec 32) (k0_hw677 : k0_chk677 v4735), ∀ a, (k0_off1354 v4735) a + S1x768.size a ≤ S50257x768.size a := fun v4735 k0_hw677 => k0_hw677

def k0_off1355 (i : grid0.Coords) : Fin 1 → Nat :=
  let arg0 : BitVec 32 := BitVec.ofNat 32 (i 0).val
  let c512_i32 : BitVec 32 := 512#32
  let v0 : BitVec 32 := Scalar.muli arg0 c512_i32
  let c165_i32_2196 : BitVec 32 := 165#32
  let v4740 : BitVec 32 := Scalar.addi v0 c165_i32_2196
  let v4741 : Index := Scalar.indexCast v4740
  ![v4741.toNat]
def k0_off1356 (v4742 : BitVec 32) : Fin 2 → Nat :=
  let c0_i32_2199 : BitVec 32 := 0#32
  ![v4742.toNat, 0]

def k0_chk678 (v4742 : BitVec 32) : Prop :=
  (∀ a, (k0_off1356 v4742) a + S1x768.size a ≤ S50257x768.size a)
theorem k0_off1356_inb : ∀ (v4742 : BitVec 32) (k0_hw678 : k0_chk678 v4742), ∀ a, (k0_off1356 v4742) a + S1x768.size a ≤ S50257x768.size a := fun v4742 k0_hw678 => k0_hw678

def k0_off1357 (i : grid0.Coords) : Fin 1 → Nat :=
  let arg0 : BitVec 32 := BitVec.ofNat 32 (i 0).val
  let c512_i32 : BitVec 32 := 512#32
  let v0 : BitVec 32 := Scalar.muli arg0 c512_i32
  let c166_i32_2200 : BitVec 32 := 166#32
  let v4747 : BitVec 32 := Scalar.addi v0 c166_i32_2200
  let v4748 : Index := Scalar.indexCast v4747
  ![v4748.toNat]
def k0_off1358 (v4749 : BitVec 32) : Fin 2 → Nat :=
  let c0_i32_2203 : BitVec 32 := 0#32
  ![v4749.toNat, 0]

def k0_chk679 (v4749 : BitVec 32) : Prop :=
  (∀ a, (k0_off1358 v4749) a + S1x768.size a ≤ S50257x768.size a)
theorem k0_off1358_inb : ∀ (v4749 : BitVec 32) (k0_hw679 : k0_chk679 v4749), ∀ a, (k0_off1358 v4749) a + S1x768.size a ≤ S50257x768.size a := fun v4749 k0_hw679 => k0_hw679

def k0_off1359 (i : grid0.Coords) : Fin 1 → Nat :=
  let arg0 : BitVec 32 := BitVec.ofNat 32 (i 0).val
  let c512_i32 : BitVec 32 := 512#32
  let v0 : BitVec 32 := Scalar.muli arg0 c512_i32
  let c167_i32_2204 : BitVec 32 := 167#32
  let v4754 : BitVec 32 := Scalar.addi v0 c167_i32_2204
  let v4755 : Index := Scalar.indexCast v4754
  ![v4755.toNat]
def k0_off1360 (v4756 : BitVec 32) : Fin 2 → Nat :=
  let c0_i32_2207 : BitVec 32 := 0#32
  ![v4756.toNat, 0]

def k0_chk680 (v4756 : BitVec 32) : Prop :=
  (∀ a, (k0_off1360 v4756) a + S1x768.size a ≤ S50257x768.size a)
theorem k0_off1360_inb : ∀ (v4756 : BitVec 32) (k0_hw680 : k0_chk680 v4756), ∀ a, (k0_off1360 v4756) a + S1x768.size a ≤ S50257x768.size a := fun v4756 k0_hw680 => k0_hw680

def k0_off1361 (i : grid0.Coords) : Fin 1 → Nat :=
  let arg0 : BitVec 32 := BitVec.ofNat 32 (i 0).val
  let c512_i32 : BitVec 32 := 512#32
  let v0 : BitVec 32 := Scalar.muli arg0 c512_i32
  let c168_i32_2208 : BitVec 32 := 168#32
  let v4761 : BitVec 32 := Scalar.addi v0 c168_i32_2208
  let v4762 : Index := Scalar.indexCast v4761
  ![v4762.toNat]
def k0_off1362 (v4763 : BitVec 32) : Fin 2 → Nat :=
  let c0_i32_2211 : BitVec 32 := 0#32
  ![v4763.toNat, 0]

def k0_chk681 (v4763 : BitVec 32) : Prop :=
  (∀ a, (k0_off1362 v4763) a + S1x768.size a ≤ S50257x768.size a)
theorem k0_off1362_inb : ∀ (v4763 : BitVec 32) (k0_hw681 : k0_chk681 v4763), ∀ a, (k0_off1362 v4763) a + S1x768.size a ≤ S50257x768.size a := fun v4763 k0_hw681 => k0_hw681

def k0_off1363 (i : grid0.Coords) : Fin 1 → Nat :=
  let arg0 : BitVec 32 := BitVec.ofNat 32 (i 0).val
  let c512_i32 : BitVec 32 := 512#32
  let v0 : BitVec 32 := Scalar.muli arg0 c512_i32
  let c169_i32_2212 : BitVec 32 := 169#32
  let v4768 : BitVec 32 := Scalar.addi v0 c169_i32_2212
  let v4769 : Index := Scalar.indexCast v4768
  ![v4769.toNat]
def k0_off1364 (v4770 : BitVec 32) : Fin 2 → Nat :=
  let c0_i32_2215 : BitVec 32 := 0#32
  ![v4770.toNat, 0]

def k0_chk682 (v4770 : BitVec 32) : Prop :=
  (∀ a, (k0_off1364 v4770) a + S1x768.size a ≤ S50257x768.size a)
theorem k0_off1364_inb : ∀ (v4770 : BitVec 32) (k0_hw682 : k0_chk682 v4770), ∀ a, (k0_off1364 v4770) a + S1x768.size a ≤ S50257x768.size a := fun v4770 k0_hw682 => k0_hw682

def k0_off1365 (i : grid0.Coords) : Fin 1 → Nat :=
  let arg0 : BitVec 32 := BitVec.ofNat 32 (i 0).val
  let c512_i32 : BitVec 32 := 512#32
  let v0 : BitVec 32 := Scalar.muli arg0 c512_i32
  let c170_i32_2216 : BitVec 32 := 170#32
  let v4775 : BitVec 32 := Scalar.addi v0 c170_i32_2216
  let v4776 : Index := Scalar.indexCast v4775
  ![v4776.toNat]
def k0_off1366 (v4777 : BitVec 32) : Fin 2 → Nat :=
  let c0_i32_2219 : BitVec 32 := 0#32
  ![v4777.toNat, 0]

def k0_chk683 (v4777 : BitVec 32) : Prop :=
  (∀ a, (k0_off1366 v4777) a + S1x768.size a ≤ S50257x768.size a)
theorem k0_off1366_inb : ∀ (v4777 : BitVec 32) (k0_hw683 : k0_chk683 v4777), ∀ a, (k0_off1366 v4777) a + S1x768.size a ≤ S50257x768.size a := fun v4777 k0_hw683 => k0_hw683

def k0_off1367 (i : grid0.Coords) : Fin 1 → Nat :=
  let arg0 : BitVec 32 := BitVec.ofNat 32 (i 0).val
  let c512_i32 : BitVec 32 := 512#32
  let v0 : BitVec 32 := Scalar.muli arg0 c512_i32
  let c171_i32_2220 : BitVec 32 := 171#32
  let v4782 : BitVec 32 := Scalar.addi v0 c171_i32_2220
  let v4783 : Index := Scalar.indexCast v4782
  ![v4783.toNat]
def k0_off1368 (v4784 : BitVec 32) : Fin 2 → Nat :=
  let c0_i32_2223 : BitVec 32 := 0#32
  ![v4784.toNat, 0]

def k0_chk684 (v4784 : BitVec 32) : Prop :=
  (∀ a, (k0_off1368 v4784) a + S1x768.size a ≤ S50257x768.size a)
theorem k0_off1368_inb : ∀ (v4784 : BitVec 32) (k0_hw684 : k0_chk684 v4784), ∀ a, (k0_off1368 v4784) a + S1x768.size a ≤ S50257x768.size a := fun v4784 k0_hw684 => k0_hw684

def k0_off1369 (i : grid0.Coords) : Fin 1 → Nat :=
  let arg0 : BitVec 32 := BitVec.ofNat 32 (i 0).val
  let c512_i32 : BitVec 32 := 512#32
  let v0 : BitVec 32 := Scalar.muli arg0 c512_i32
  let c172_i32_2224 : BitVec 32 := 172#32
  let v4789 : BitVec 32 := Scalar.addi v0 c172_i32_2224
  let v4790 : Index := Scalar.indexCast v4789
  ![v4790.toNat]
def k0_off1370 (v4791 : BitVec 32) : Fin 2 → Nat :=
  let c0_i32_2227 : BitVec 32 := 0#32
  ![v4791.toNat, 0]

def k0_chk685 (v4791 : BitVec 32) : Prop :=
  (∀ a, (k0_off1370 v4791) a + S1x768.size a ≤ S50257x768.size a)
theorem k0_off1370_inb : ∀ (v4791 : BitVec 32) (k0_hw685 : k0_chk685 v4791), ∀ a, (k0_off1370 v4791) a + S1x768.size a ≤ S50257x768.size a := fun v4791 k0_hw685 => k0_hw685

def k0_off1371 (i : grid0.Coords) : Fin 1 → Nat :=
  let arg0 : BitVec 32 := BitVec.ofNat 32 (i 0).val
  let c512_i32 : BitVec 32 := 512#32
  let v0 : BitVec 32 := Scalar.muli arg0 c512_i32
  let c173_i32_2228 : BitVec 32 := 173#32
  let v4796 : BitVec 32 := Scalar.addi v0 c173_i32_2228
  let v4797 : Index := Scalar.indexCast v4796
  ![v4797.toNat]
def k0_off1372 (v4798 : BitVec 32) : Fin 2 → Nat :=
  let c0_i32_2231 : BitVec 32 := 0#32
  ![v4798.toNat, 0]

def k0_chk686 (v4798 : BitVec 32) : Prop :=
  (∀ a, (k0_off1372 v4798) a + S1x768.size a ≤ S50257x768.size a)
theorem k0_off1372_inb : ∀ (v4798 : BitVec 32) (k0_hw686 : k0_chk686 v4798), ∀ a, (k0_off1372 v4798) a + S1x768.size a ≤ S50257x768.size a := fun v4798 k0_hw686 => k0_hw686

def k0_off1373 (i : grid0.Coords) : Fin 1 → Nat :=
  let arg0 : BitVec 32 := BitVec.ofNat 32 (i 0).val
  let c512_i32 : BitVec 32 := 512#32
  let v0 : BitVec 32 := Scalar.muli arg0 c512_i32
  let c174_i32_2232 : BitVec 32 := 174#32
  let v4803 : BitVec 32 := Scalar.addi v0 c174_i32_2232
  let v4804 : Index := Scalar.indexCast v4803
  ![v4804.toNat]
def k0_off1374 (v4805 : BitVec 32) : Fin 2 → Nat :=
  let c0_i32_2235 : BitVec 32 := 0#32
  ![v4805.toNat, 0]

def k0_chk687 (v4805 : BitVec 32) : Prop :=
  (∀ a, (k0_off1374 v4805) a + S1x768.size a ≤ S50257x768.size a)
theorem k0_off1374_inb : ∀ (v4805 : BitVec 32) (k0_hw687 : k0_chk687 v4805), ∀ a, (k0_off1374 v4805) a + S1x768.size a ≤ S50257x768.size a := fun v4805 k0_hw687 => k0_hw687

def k0_off1375 (i : grid0.Coords) : Fin 1 → Nat :=
  let arg0 : BitVec 32 := BitVec.ofNat 32 (i 0).val
  let c512_i32 : BitVec 32 := 512#32
  let v0 : BitVec 32 := Scalar.muli arg0 c512_i32
  let c175_i32_2236 : BitVec 32 := 175#32
  let v4810 : BitVec 32 := Scalar.addi v0 c175_i32_2236
  let v4811 : Index := Scalar.indexCast v4810
  ![v4811.toNat]
def k0_off1376 (v4812 : BitVec 32) : Fin 2 → Nat :=
  let c0_i32_2239 : BitVec 32 := 0#32
  ![v4812.toNat, 0]

def k0_chk688 (v4812 : BitVec 32) : Prop :=
  (∀ a, (k0_off1376 v4812) a + S1x768.size a ≤ S50257x768.size a)
theorem k0_off1376_inb : ∀ (v4812 : BitVec 32) (k0_hw688 : k0_chk688 v4812), ∀ a, (k0_off1376 v4812) a + S1x768.size a ≤ S50257x768.size a := fun v4812 k0_hw688 => k0_hw688

def k0_off1377 (i : grid0.Coords) : Fin 1 → Nat :=
  let arg0 : BitVec 32 := BitVec.ofNat 32 (i 0).val
  let c512_i32 : BitVec 32 := 512#32
  let v0 : BitVec 32 := Scalar.muli arg0 c512_i32
  let c176_i32_2240 : BitVec 32 := 176#32
  let v4817 : BitVec 32 := Scalar.addi v0 c176_i32_2240
  let v4818 : Index := Scalar.indexCast v4817
  ![v4818.toNat]
def k0_off1378 (v4819 : BitVec 32) : Fin 2 → Nat :=
  let c0_i32_2243 : BitVec 32 := 0#32
  ![v4819.toNat, 0]

def k0_chk689 (v4819 : BitVec 32) : Prop :=
  (∀ a, (k0_off1378 v4819) a + S1x768.size a ≤ S50257x768.size a)
theorem k0_off1378_inb : ∀ (v4819 : BitVec 32) (k0_hw689 : k0_chk689 v4819), ∀ a, (k0_off1378 v4819) a + S1x768.size a ≤ S50257x768.size a := fun v4819 k0_hw689 => k0_hw689

def k0_off1379 (i : grid0.Coords) : Fin 1 → Nat :=
  let arg0 : BitVec 32 := BitVec.ofNat 32 (i 0).val
  let c512_i32 : BitVec 32 := 512#32
  let v0 : BitVec 32 := Scalar.muli arg0 c512_i32
  let c177_i32_2244 : BitVec 32 := 177#32
  let v4824 : BitVec 32 := Scalar.addi v0 c177_i32_2244
  let v4825 : Index := Scalar.indexCast v4824
  ![v4825.toNat]
def k0_off1380 (v4826 : BitVec 32) : Fin 2 → Nat :=
  let c0_i32_2247 : BitVec 32 := 0#32
  ![v4826.toNat, 0]

def k0_chk690 (v4826 : BitVec 32) : Prop :=
  (∀ a, (k0_off1380 v4826) a + S1x768.size a ≤ S50257x768.size a)
theorem k0_off1380_inb : ∀ (v4826 : BitVec 32) (k0_hw690 : k0_chk690 v4826), ∀ a, (k0_off1380 v4826) a + S1x768.size a ≤ S50257x768.size a := fun v4826 k0_hw690 => k0_hw690

def k0_off1381 (i : grid0.Coords) : Fin 1 → Nat :=
  let arg0 : BitVec 32 := BitVec.ofNat 32 (i 0).val
  let c512_i32 : BitVec 32 := 512#32
  let v0 : BitVec 32 := Scalar.muli arg0 c512_i32
  let c178_i32_2248 : BitVec 32 := 178#32
  let v4831 : BitVec 32 := Scalar.addi v0 c178_i32_2248
  let v4832 : Index := Scalar.indexCast v4831
  ![v4832.toNat]
def k0_off1382 (v4833 : BitVec 32) : Fin 2 → Nat :=
  let c0_i32_2251 : BitVec 32 := 0#32
  ![v4833.toNat, 0]

def k0_chk691 (v4833 : BitVec 32) : Prop :=
  (∀ a, (k0_off1382 v4833) a + S1x768.size a ≤ S50257x768.size a)
theorem k0_off1382_inb : ∀ (v4833 : BitVec 32) (k0_hw691 : k0_chk691 v4833), ∀ a, (k0_off1382 v4833) a + S1x768.size a ≤ S50257x768.size a := fun v4833 k0_hw691 => k0_hw691

def k0_off1383 (i : grid0.Coords) : Fin 1 → Nat :=
  let arg0 : BitVec 32 := BitVec.ofNat 32 (i 0).val
  let c512_i32 : BitVec 32 := 512#32
  let v0 : BitVec 32 := Scalar.muli arg0 c512_i32
  let c179_i32_2252 : BitVec 32 := 179#32
  let v4838 : BitVec 32 := Scalar.addi v0 c179_i32_2252
  let v4839 : Index := Scalar.indexCast v4838
  ![v4839.toNat]
def k0_off1384 (v4840 : BitVec 32) : Fin 2 → Nat :=
  let c0_i32_2255 : BitVec 32 := 0#32
  ![v4840.toNat, 0]

def k0_chk692 (v4840 : BitVec 32) : Prop :=
  (∀ a, (k0_off1384 v4840) a + S1x768.size a ≤ S50257x768.size a)
theorem k0_off1384_inb : ∀ (v4840 : BitVec 32) (k0_hw692 : k0_chk692 v4840), ∀ a, (k0_off1384 v4840) a + S1x768.size a ≤ S50257x768.size a := fun v4840 k0_hw692 => k0_hw692

def k0_off1385 (i : grid0.Coords) : Fin 1 → Nat :=
  let arg0 : BitVec 32 := BitVec.ofNat 32 (i 0).val
  let c512_i32 : BitVec 32 := 512#32
  let v0 : BitVec 32 := Scalar.muli arg0 c512_i32
  let c180_i32_2256 : BitVec 32 := 180#32
  let v4845 : BitVec 32 := Scalar.addi v0 c180_i32_2256
  let v4846 : Index := Scalar.indexCast v4845
  ![v4846.toNat]
def k0_off1386 (v4847 : BitVec 32) : Fin 2 → Nat :=
  let c0_i32_2259 : BitVec 32 := 0#32
  ![v4847.toNat, 0]

def k0_chk693 (v4847 : BitVec 32) : Prop :=
  (∀ a, (k0_off1386 v4847) a + S1x768.size a ≤ S50257x768.size a)
theorem k0_off1386_inb : ∀ (v4847 : BitVec 32) (k0_hw693 : k0_chk693 v4847), ∀ a, (k0_off1386 v4847) a + S1x768.size a ≤ S50257x768.size a := fun v4847 k0_hw693 => k0_hw693

def k0_off1387 (i : grid0.Coords) : Fin 1 → Nat :=
  let arg0 : BitVec 32 := BitVec.ofNat 32 (i 0).val
  let c512_i32 : BitVec 32 := 512#32
  let v0 : BitVec 32 := Scalar.muli arg0 c512_i32
  let c181_i32_2260 : BitVec 32 := 181#32
  let v4852 : BitVec 32 := Scalar.addi v0 c181_i32_2260
  let v4853 : Index := Scalar.indexCast v4852
  ![v4853.toNat]
def k0_off1388 (v4854 : BitVec 32) : Fin 2 → Nat :=
  let c0_i32_2263 : BitVec 32 := 0#32
  ![v4854.toNat, 0]

def k0_chk694 (v4854 : BitVec 32) : Prop :=
  (∀ a, (k0_off1388 v4854) a + S1x768.size a ≤ S50257x768.size a)
theorem k0_off1388_inb : ∀ (v4854 : BitVec 32) (k0_hw694 : k0_chk694 v4854), ∀ a, (k0_off1388 v4854) a + S1x768.size a ≤ S50257x768.size a := fun v4854 k0_hw694 => k0_hw694

def k0_off1389 (i : grid0.Coords) : Fin 1 → Nat :=
  let arg0 : BitVec 32 := BitVec.ofNat 32 (i 0).val
  let c512_i32 : BitVec 32 := 512#32
  let v0 : BitVec 32 := Scalar.muli arg0 c512_i32
  let c182_i32_2264 : BitVec 32 := 182#32
  let v4859 : BitVec 32 := Scalar.addi v0 c182_i32_2264
  let v4860 : Index := Scalar.indexCast v4859
  ![v4860.toNat]
def k0_off1390 (v4861 : BitVec 32) : Fin 2 → Nat :=
  let c0_i32_2267 : BitVec 32 := 0#32
  ![v4861.toNat, 0]

def k0_chk695 (v4861 : BitVec 32) : Prop :=
  (∀ a, (k0_off1390 v4861) a + S1x768.size a ≤ S50257x768.size a)
theorem k0_off1390_inb : ∀ (v4861 : BitVec 32) (k0_hw695 : k0_chk695 v4861), ∀ a, (k0_off1390 v4861) a + S1x768.size a ≤ S50257x768.size a := fun v4861 k0_hw695 => k0_hw695

def k0_off1391 (i : grid0.Coords) : Fin 1 → Nat :=
  let arg0 : BitVec 32 := BitVec.ofNat 32 (i 0).val
  let c512_i32 : BitVec 32 := 512#32
  let v0 : BitVec 32 := Scalar.muli arg0 c512_i32
  let c183_i32_2268 : BitVec 32 := 183#32
  let v4866 : BitVec 32 := Scalar.addi v0 c183_i32_2268
  let v4867 : Index := Scalar.indexCast v4866
  ![v4867.toNat]
def k0_off1392 (v4868 : BitVec 32) : Fin 2 → Nat :=
  let c0_i32_2271 : BitVec 32 := 0#32
  ![v4868.toNat, 0]

def k0_chk696 (v4868 : BitVec 32) : Prop :=
  (∀ a, (k0_off1392 v4868) a + S1x768.size a ≤ S50257x768.size a)
theorem k0_off1392_inb : ∀ (v4868 : BitVec 32) (k0_hw696 : k0_chk696 v4868), ∀ a, (k0_off1392 v4868) a + S1x768.size a ≤ S50257x768.size a := fun v4868 k0_hw696 => k0_hw696

def k0_off1393 (i : grid0.Coords) : Fin 1 → Nat :=
  let arg0 : BitVec 32 := BitVec.ofNat 32 (i 0).val
  let c512_i32 : BitVec 32 := 512#32
  let v0 : BitVec 32 := Scalar.muli arg0 c512_i32
  let c184_i32_2272 : BitVec 32 := 184#32
  let v4873 : BitVec 32 := Scalar.addi v0 c184_i32_2272
  let v4874 : Index := Scalar.indexCast v4873
  ![v4874.toNat]
def k0_off1394 (v4875 : BitVec 32) : Fin 2 → Nat :=
  let c0_i32_2275 : BitVec 32 := 0#32
  ![v4875.toNat, 0]

def k0_chk697 (v4875 : BitVec 32) : Prop :=
  (∀ a, (k0_off1394 v4875) a + S1x768.size a ≤ S50257x768.size a)
theorem k0_off1394_inb : ∀ (v4875 : BitVec 32) (k0_hw697 : k0_chk697 v4875), ∀ a, (k0_off1394 v4875) a + S1x768.size a ≤ S50257x768.size a := fun v4875 k0_hw697 => k0_hw697

def k0_off1395 (i : grid0.Coords) : Fin 1 → Nat :=
  let arg0 : BitVec 32 := BitVec.ofNat 32 (i 0).val
  let c512_i32 : BitVec 32 := 512#32
  let v0 : BitVec 32 := Scalar.muli arg0 c512_i32
  let c185_i32_2276 : BitVec 32 := 185#32
  let v4880 : BitVec 32 := Scalar.addi v0 c185_i32_2276
  let v4881 : Index := Scalar.indexCast v4880
  ![v4881.toNat]
def k0_off1396 (v4882 : BitVec 32) : Fin 2 → Nat :=
  let c0_i32_2279 : BitVec 32 := 0#32
  ![v4882.toNat, 0]

def k0_chk698 (v4882 : BitVec 32) : Prop :=
  (∀ a, (k0_off1396 v4882) a + S1x768.size a ≤ S50257x768.size a)
theorem k0_off1396_inb : ∀ (v4882 : BitVec 32) (k0_hw698 : k0_chk698 v4882), ∀ a, (k0_off1396 v4882) a + S1x768.size a ≤ S50257x768.size a := fun v4882 k0_hw698 => k0_hw698

def k0_off1397 (i : grid0.Coords) : Fin 1 → Nat :=
  let arg0 : BitVec 32 := BitVec.ofNat 32 (i 0).val
  let c512_i32 : BitVec 32 := 512#32
  let v0 : BitVec 32 := Scalar.muli arg0 c512_i32
  let c186_i32_2280 : BitVec 32 := 186#32
  let v4887 : BitVec 32 := Scalar.addi v0 c186_i32_2280
  let v4888 : Index := Scalar.indexCast v4887
  ![v4888.toNat]
def k0_off1398 (v4889 : BitVec 32) : Fin 2 → Nat :=
  let c0_i32_2283 : BitVec 32 := 0#32
  ![v4889.toNat, 0]

def k0_chk699 (v4889 : BitVec 32) : Prop :=
  (∀ a, (k0_off1398 v4889) a + S1x768.size a ≤ S50257x768.size a)
theorem k0_off1398_inb : ∀ (v4889 : BitVec 32) (k0_hw699 : k0_chk699 v4889), ∀ a, (k0_off1398 v4889) a + S1x768.size a ≤ S50257x768.size a := fun v4889 k0_hw699 => k0_hw699

def k0_off1399 (i : grid0.Coords) : Fin 1 → Nat :=
  let arg0 : BitVec 32 := BitVec.ofNat 32 (i 0).val
  let c512_i32 : BitVec 32 := 512#32
  let v0 : BitVec 32 := Scalar.muli arg0 c512_i32
  let c187_i32_2284 : BitVec 32 := 187#32
  let v4894 : BitVec 32 := Scalar.addi v0 c187_i32_2284
  let v4895 : Index := Scalar.indexCast v4894
  ![v4895.toNat]
def k0_off1400 (v4896 : BitVec 32) : Fin 2 → Nat :=
  let c0_i32_2287 : BitVec 32 := 0#32
  ![v4896.toNat, 0]

def k0_chk700 (v4896 : BitVec 32) : Prop :=
  (∀ a, (k0_off1400 v4896) a + S1x768.size a ≤ S50257x768.size a)
theorem k0_off1400_inb : ∀ (v4896 : BitVec 32) (k0_hw700 : k0_chk700 v4896), ∀ a, (k0_off1400 v4896) a + S1x768.size a ≤ S50257x768.size a := fun v4896 k0_hw700 => k0_hw700

def k0_off1401 (i : grid0.Coords) : Fin 1 → Nat :=
  let arg0 : BitVec 32 := BitVec.ofNat 32 (i 0).val
  let c512_i32 : BitVec 32 := 512#32
  let v0 : BitVec 32 := Scalar.muli arg0 c512_i32
  let c188_i32_2288 : BitVec 32 := 188#32
  let v4901 : BitVec 32 := Scalar.addi v0 c188_i32_2288
  let v4902 : Index := Scalar.indexCast v4901
  ![v4902.toNat]
def k0_off1402 (v4903 : BitVec 32) : Fin 2 → Nat :=
  let c0_i32_2291 : BitVec 32 := 0#32
  ![v4903.toNat, 0]

def k0_chk701 (v4903 : BitVec 32) : Prop :=
  (∀ a, (k0_off1402 v4903) a + S1x768.size a ≤ S50257x768.size a)
theorem k0_off1402_inb : ∀ (v4903 : BitVec 32) (k0_hw701 : k0_chk701 v4903), ∀ a, (k0_off1402 v4903) a + S1x768.size a ≤ S50257x768.size a := fun v4903 k0_hw701 => k0_hw701

def k0_off1403 (i : grid0.Coords) : Fin 1 → Nat :=
  let arg0 : BitVec 32 := BitVec.ofNat 32 (i 0).val
  let c512_i32 : BitVec 32 := 512#32
  let v0 : BitVec 32 := Scalar.muli arg0 c512_i32
  let c189_i32_2292 : BitVec 32 := 189#32
  let v4908 : BitVec 32 := Scalar.addi v0 c189_i32_2292
  let v4909 : Index := Scalar.indexCast v4908
  ![v4909.toNat]
def k0_off1404 (v4910 : BitVec 32) : Fin 2 → Nat :=
  let c0_i32_2295 : BitVec 32 := 0#32
  ![v4910.toNat, 0]

def k0_chk702 (v4910 : BitVec 32) : Prop :=
  (∀ a, (k0_off1404 v4910) a + S1x768.size a ≤ S50257x768.size a)
theorem k0_off1404_inb : ∀ (v4910 : BitVec 32) (k0_hw702 : k0_chk702 v4910), ∀ a, (k0_off1404 v4910) a + S1x768.size a ≤ S50257x768.size a := fun v4910 k0_hw702 => k0_hw702

def k0_off1405 (i : grid0.Coords) : Fin 1 → Nat :=
  let arg0 : BitVec 32 := BitVec.ofNat 32 (i 0).val
  let c512_i32 : BitVec 32 := 512#32
  let v0 : BitVec 32 := Scalar.muli arg0 c512_i32
  let c190_i32_2296 : BitVec 32 := 190#32
  let v4915 : BitVec 32 := Scalar.addi v0 c190_i32_2296
  let v4916 : Index := Scalar.indexCast v4915
  ![v4916.toNat]
def k0_off1406 (v4917 : BitVec 32) : Fin 2 → Nat :=
  let c0_i32_2299 : BitVec 32 := 0#32
  ![v4917.toNat, 0]

def k0_chk703 (v4917 : BitVec 32) : Prop :=
  (∀ a, (k0_off1406 v4917) a + S1x768.size a ≤ S50257x768.size a)
theorem k0_off1406_inb : ∀ (v4917 : BitVec 32) (k0_hw703 : k0_chk703 v4917), ∀ a, (k0_off1406 v4917) a + S1x768.size a ≤ S50257x768.size a := fun v4917 k0_hw703 => k0_hw703

def k0_off1407 (i : grid0.Coords) : Fin 1 → Nat :=
  let arg0 : BitVec 32 := BitVec.ofNat 32 (i 0).val
  let c512_i32 : BitVec 32 := 512#32
  let v0 : BitVec 32 := Scalar.muli arg0 c512_i32
  let c191_i32_2300 : BitVec 32 := 191#32
  let v4922 : BitVec 32 := Scalar.addi v0 c191_i32_2300
  let v4923 : Index := Scalar.indexCast v4922
  ![v4923.toNat]
def k0_off1408 (v4924 : BitVec 32) : Fin 2 → Nat :=
  let c0_i32_2303 : BitVec 32 := 0#32
  ![v4924.toNat, 0]

def k0_chk704 (v4924 : BitVec 32) : Prop :=
  (∀ a, (k0_off1408 v4924) a + S1x768.size a ≤ S50257x768.size a)
theorem k0_off1408_inb : ∀ (v4924 : BitVec 32) (k0_hw704 : k0_chk704 v4924), ∀ a, (k0_off1408 v4924) a + S1x768.size a ≤ S50257x768.size a := fun v4924 k0_hw704 => k0_hw704

def k0_off1409 (i : grid0.Coords) : Fin 1 → Nat :=
  let arg0 : BitVec 32 := BitVec.ofNat 32 (i 0).val
  let c512_i32 : BitVec 32 := 512#32
  let v0 : BitVec 32 := Scalar.muli arg0 c512_i32
  let c192_i32_2304 : BitVec 32 := 192#32
  let v4929 : BitVec 32 := Scalar.addi v0 c192_i32_2304
  let v4930 : Index := Scalar.indexCast v4929
  ![v4930.toNat]
def k0_off1410 (v4931 : BitVec 32) : Fin 2 → Nat :=
  let c0_i32_2307 : BitVec 32 := 0#32
  ![v4931.toNat, 0]

def k0_chk705 (v4931 : BitVec 32) : Prop :=
  (∀ a, (k0_off1410 v4931) a + S1x768.size a ≤ S50257x768.size a)
theorem k0_off1410_inb : ∀ (v4931 : BitVec 32) (k0_hw705 : k0_chk705 v4931), ∀ a, (k0_off1410 v4931) a + S1x768.size a ≤ S50257x768.size a := fun v4931 k0_hw705 => k0_hw705

def k0_off1411 (i : grid0.Coords) : Fin 1 → Nat :=
  let arg0 : BitVec 32 := BitVec.ofNat 32 (i 0).val
  let c512_i32 : BitVec 32 := 512#32
  let v0 : BitVec 32 := Scalar.muli arg0 c512_i32
  let c193_i32_2308 : BitVec 32 := 193#32
  let v4936 : BitVec 32 := Scalar.addi v0 c193_i32_2308
  let v4937 : Index := Scalar.indexCast v4936
  ![v4937.toNat]
def k0_off1412 (v4938 : BitVec 32) : Fin 2 → Nat :=
  let c0_i32_2311 : BitVec 32 := 0#32
  ![v4938.toNat, 0]

def k0_chk706 (v4938 : BitVec 32) : Prop :=
  (∀ a, (k0_off1412 v4938) a + S1x768.size a ≤ S50257x768.size a)
theorem k0_off1412_inb : ∀ (v4938 : BitVec 32) (k0_hw706 : k0_chk706 v4938), ∀ a, (k0_off1412 v4938) a + S1x768.size a ≤ S50257x768.size a := fun v4938 k0_hw706 => k0_hw706

def k0_off1413 (i : grid0.Coords) : Fin 1 → Nat :=
  let arg0 : BitVec 32 := BitVec.ofNat 32 (i 0).val
  let c512_i32 : BitVec 32 := 512#32
  let v0 : BitVec 32 := Scalar.muli arg0 c512_i32
  let c194_i32_2312 : BitVec 32 := 194#32
  let v4943 : BitVec 32 := Scalar.addi v0 c194_i32_2312
  let v4944 : Index := Scalar.indexCast v4943
  ![v4944.toNat]
def k0_off1414 (v4945 : BitVec 32) : Fin 2 → Nat :=
  let c0_i32_2315 : BitVec 32 := 0#32
  ![v4945.toNat, 0]

def k0_chk707 (v4945 : BitVec 32) : Prop :=
  (∀ a, (k0_off1414 v4945) a + S1x768.size a ≤ S50257x768.size a)
theorem k0_off1414_inb : ∀ (v4945 : BitVec 32) (k0_hw707 : k0_chk707 v4945), ∀ a, (k0_off1414 v4945) a + S1x768.size a ≤ S50257x768.size a := fun v4945 k0_hw707 => k0_hw707

def k0_off1415 (i : grid0.Coords) : Fin 1 → Nat :=
  let arg0 : BitVec 32 := BitVec.ofNat 32 (i 0).val
  let c512_i32 : BitVec 32 := 512#32
  let v0 : BitVec 32 := Scalar.muli arg0 c512_i32
  let c195_i32_2316 : BitVec 32 := 195#32
  let v4950 : BitVec 32 := Scalar.addi v0 c195_i32_2316
  let v4951 : Index := Scalar.indexCast v4950
  ![v4951.toNat]
def k0_off1416 (v4952 : BitVec 32) : Fin 2 → Nat :=
  let c0_i32_2319 : BitVec 32 := 0#32
  ![v4952.toNat, 0]

def k0_chk708 (v4952 : BitVec 32) : Prop :=
  (∀ a, (k0_off1416 v4952) a + S1x768.size a ≤ S50257x768.size a)
theorem k0_off1416_inb : ∀ (v4952 : BitVec 32) (k0_hw708 : k0_chk708 v4952), ∀ a, (k0_off1416 v4952) a + S1x768.size a ≤ S50257x768.size a := fun v4952 k0_hw708 => k0_hw708

def k0_off1417 (i : grid0.Coords) : Fin 1 → Nat :=
  let arg0 : BitVec 32 := BitVec.ofNat 32 (i 0).val
  let c512_i32 : BitVec 32 := 512#32
  let v0 : BitVec 32 := Scalar.muli arg0 c512_i32
  let c196_i32_2320 : BitVec 32 := 196#32
  let v4957 : BitVec 32 := Scalar.addi v0 c196_i32_2320
  let v4958 : Index := Scalar.indexCast v4957
  ![v4958.toNat]
def k0_off1418 (v4959 : BitVec 32) : Fin 2 → Nat :=
  let c0_i32_2323 : BitVec 32 := 0#32
  ![v4959.toNat, 0]

def k0_chk709 (v4959 : BitVec 32) : Prop :=
  (∀ a, (k0_off1418 v4959) a + S1x768.size a ≤ S50257x768.size a)
theorem k0_off1418_inb : ∀ (v4959 : BitVec 32) (k0_hw709 : k0_chk709 v4959), ∀ a, (k0_off1418 v4959) a + S1x768.size a ≤ S50257x768.size a := fun v4959 k0_hw709 => k0_hw709

def k0_off1419 (i : grid0.Coords) : Fin 1 → Nat :=
  let arg0 : BitVec 32 := BitVec.ofNat 32 (i 0).val
  let c512_i32 : BitVec 32 := 512#32
  let v0 : BitVec 32 := Scalar.muli arg0 c512_i32
  let c197_i32_2324 : BitVec 32 := 197#32
  let v4964 : BitVec 32 := Scalar.addi v0 c197_i32_2324
  let v4965 : Index := Scalar.indexCast v4964
  ![v4965.toNat]
def k0_off1420 (v4966 : BitVec 32) : Fin 2 → Nat :=
  let c0_i32_2327 : BitVec 32 := 0#32
  ![v4966.toNat, 0]

def k0_chk710 (v4966 : BitVec 32) : Prop :=
  (∀ a, (k0_off1420 v4966) a + S1x768.size a ≤ S50257x768.size a)
theorem k0_off1420_inb : ∀ (v4966 : BitVec 32) (k0_hw710 : k0_chk710 v4966), ∀ a, (k0_off1420 v4966) a + S1x768.size a ≤ S50257x768.size a := fun v4966 k0_hw710 => k0_hw710

def k0_off1421 (i : grid0.Coords) : Fin 1 → Nat :=
  let arg0 : BitVec 32 := BitVec.ofNat 32 (i 0).val
  let c512_i32 : BitVec 32 := 512#32
  let v0 : BitVec 32 := Scalar.muli arg0 c512_i32
  let c198_i32_2328 : BitVec 32 := 198#32
  let v4971 : BitVec 32 := Scalar.addi v0 c198_i32_2328
  let v4972 : Index := Scalar.indexCast v4971
  ![v4972.toNat]
def k0_off1422 (v4973 : BitVec 32) : Fin 2 → Nat :=
  let c0_i32_2331 : BitVec 32 := 0#32
  ![v4973.toNat, 0]

def k0_chk711 (v4973 : BitVec 32) : Prop :=
  (∀ a, (k0_off1422 v4973) a + S1x768.size a ≤ S50257x768.size a)
theorem k0_off1422_inb : ∀ (v4973 : BitVec 32) (k0_hw711 : k0_chk711 v4973), ∀ a, (k0_off1422 v4973) a + S1x768.size a ≤ S50257x768.size a := fun v4973 k0_hw711 => k0_hw711

def k0_off1423 (i : grid0.Coords) : Fin 1 → Nat :=
  let arg0 : BitVec 32 := BitVec.ofNat 32 (i 0).val
  let c512_i32 : BitVec 32 := 512#32
  let v0 : BitVec 32 := Scalar.muli arg0 c512_i32
  let c199_i32_2332 : BitVec 32 := 199#32
  let v4978 : BitVec 32 := Scalar.addi v0 c199_i32_2332
  let v4979 : Index := Scalar.indexCast v4978
  ![v4979.toNat]
def k0_off1424 (v4980 : BitVec 32) : Fin 2 → Nat :=
  let c0_i32_2335 : BitVec 32 := 0#32
  ![v4980.toNat, 0]

def k0_chk712 (v4980 : BitVec 32) : Prop :=
  (∀ a, (k0_off1424 v4980) a + S1x768.size a ≤ S50257x768.size a)
theorem k0_off1424_inb : ∀ (v4980 : BitVec 32) (k0_hw712 : k0_chk712 v4980), ∀ a, (k0_off1424 v4980) a + S1x768.size a ≤ S50257x768.size a := fun v4980 k0_hw712 => k0_hw712

def k0_off1425 (i : grid0.Coords) : Fin 1 → Nat :=
  let arg0 : BitVec 32 := BitVec.ofNat 32 (i 0).val
  let c512_i32 : BitVec 32 := 512#32
  let v0 : BitVec 32 := Scalar.muli arg0 c512_i32
  let c200_i32_2336 : BitVec 32 := 200#32
  let v4985 : BitVec 32 := Scalar.addi v0 c200_i32_2336
  let v4986 : Index := Scalar.indexCast v4985
  ![v4986.toNat]
def k0_off1426 (v4987 : BitVec 32) : Fin 2 → Nat :=
  let c0_i32_2339 : BitVec 32 := 0#32
  ![v4987.toNat, 0]

def k0_chk713 (v4987 : BitVec 32) : Prop :=
  (∀ a, (k0_off1426 v4987) a + S1x768.size a ≤ S50257x768.size a)
theorem k0_off1426_inb : ∀ (v4987 : BitVec 32) (k0_hw713 : k0_chk713 v4987), ∀ a, (k0_off1426 v4987) a + S1x768.size a ≤ S50257x768.size a := fun v4987 k0_hw713 => k0_hw713

def k0_off1427 (i : grid0.Coords) : Fin 1 → Nat :=
  let arg0 : BitVec 32 := BitVec.ofNat 32 (i 0).val
  let c512_i32 : BitVec 32 := 512#32
  let v0 : BitVec 32 := Scalar.muli arg0 c512_i32
  let c201_i32_2340 : BitVec 32 := 201#32
  let v4992 : BitVec 32 := Scalar.addi v0 c201_i32_2340
  let v4993 : Index := Scalar.indexCast v4992
  ![v4993.toNat]
def k0_off1428 (v4994 : BitVec 32) : Fin 2 → Nat :=
  let c0_i32_2343 : BitVec 32 := 0#32
  ![v4994.toNat, 0]

def k0_chk714 (v4994 : BitVec 32) : Prop :=
  (∀ a, (k0_off1428 v4994) a + S1x768.size a ≤ S50257x768.size a)
theorem k0_off1428_inb : ∀ (v4994 : BitVec 32) (k0_hw714 : k0_chk714 v4994), ∀ a, (k0_off1428 v4994) a + S1x768.size a ≤ S50257x768.size a := fun v4994 k0_hw714 => k0_hw714

def k0_off1429 (i : grid0.Coords) : Fin 1 → Nat :=
  let arg0 : BitVec 32 := BitVec.ofNat 32 (i 0).val
  let c512_i32 : BitVec 32 := 512#32
  let v0 : BitVec 32 := Scalar.muli arg0 c512_i32
  let c202_i32_2344 : BitVec 32 := 202#32
  let v4999 : BitVec 32 := Scalar.addi v0 c202_i32_2344
  let v5000 : Index := Scalar.indexCast v4999
  ![v5000.toNat]
def k0_off1430 (v5001 : BitVec 32) : Fin 2 → Nat :=
  let c0_i32_2347 : BitVec 32 := 0#32
  ![v5001.toNat, 0]

def k0_chk715 (v5001 : BitVec 32) : Prop :=
  (∀ a, (k0_off1430 v5001) a + S1x768.size a ≤ S50257x768.size a)
theorem k0_off1430_inb : ∀ (v5001 : BitVec 32) (k0_hw715 : k0_chk715 v5001), ∀ a, (k0_off1430 v5001) a + S1x768.size a ≤ S50257x768.size a := fun v5001 k0_hw715 => k0_hw715

def k0_off1431 (i : grid0.Coords) : Fin 1 → Nat :=
  let arg0 : BitVec 32 := BitVec.ofNat 32 (i 0).val
  let c512_i32 : BitVec 32 := 512#32
  let v0 : BitVec 32 := Scalar.muli arg0 c512_i32
  let c203_i32_2348 : BitVec 32 := 203#32
  let v5006 : BitVec 32 := Scalar.addi v0 c203_i32_2348
  let v5007 : Index := Scalar.indexCast v5006
  ![v5007.toNat]
def k0_off1432 (v5008 : BitVec 32) : Fin 2 → Nat :=
  let c0_i32_2351 : BitVec 32 := 0#32
  ![v5008.toNat, 0]

def k0_chk716 (v5008 : BitVec 32) : Prop :=
  (∀ a, (k0_off1432 v5008) a + S1x768.size a ≤ S50257x768.size a)
theorem k0_off1432_inb : ∀ (v5008 : BitVec 32) (k0_hw716 : k0_chk716 v5008), ∀ a, (k0_off1432 v5008) a + S1x768.size a ≤ S50257x768.size a := fun v5008 k0_hw716 => k0_hw716

def k0_off1433 (i : grid0.Coords) : Fin 1 → Nat :=
  let arg0 : BitVec 32 := BitVec.ofNat 32 (i 0).val
  let c512_i32 : BitVec 32 := 512#32
  let v0 : BitVec 32 := Scalar.muli arg0 c512_i32
  let c204_i32_2352 : BitVec 32 := 204#32
  let v5013 : BitVec 32 := Scalar.addi v0 c204_i32_2352
  let v5014 : Index := Scalar.indexCast v5013
  ![v5014.toNat]
def k0_off1434 (v5015 : BitVec 32) : Fin 2 → Nat :=
  let c0_i32_2355 : BitVec 32 := 0#32
  ![v5015.toNat, 0]

def k0_chk717 (v5015 : BitVec 32) : Prop :=
  (∀ a, (k0_off1434 v5015) a + S1x768.size a ≤ S50257x768.size a)
theorem k0_off1434_inb : ∀ (v5015 : BitVec 32) (k0_hw717 : k0_chk717 v5015), ∀ a, (k0_off1434 v5015) a + S1x768.size a ≤ S50257x768.size a := fun v5015 k0_hw717 => k0_hw717

def k0_off1435 (i : grid0.Coords) : Fin 1 → Nat :=
  let arg0 : BitVec 32 := BitVec.ofNat 32 (i 0).val
  let c512_i32 : BitVec 32 := 512#32
  let v0 : BitVec 32 := Scalar.muli arg0 c512_i32
  let c205_i32_2356 : BitVec 32 := 205#32
  let v5020 : BitVec 32 := Scalar.addi v0 c205_i32_2356
  let v5021 : Index := Scalar.indexCast v5020
  ![v5021.toNat]
def k0_off1436 (v5022 : BitVec 32) : Fin 2 → Nat :=
  let c0_i32_2359 : BitVec 32 := 0#32
  ![v5022.toNat, 0]

def k0_chk718 (v5022 : BitVec 32) : Prop :=
  (∀ a, (k0_off1436 v5022) a + S1x768.size a ≤ S50257x768.size a)
theorem k0_off1436_inb : ∀ (v5022 : BitVec 32) (k0_hw718 : k0_chk718 v5022), ∀ a, (k0_off1436 v5022) a + S1x768.size a ≤ S50257x768.size a := fun v5022 k0_hw718 => k0_hw718

def k0_off1437 (i : grid0.Coords) : Fin 1 → Nat :=
  let arg0 : BitVec 32 := BitVec.ofNat 32 (i 0).val
  let c512_i32 : BitVec 32 := 512#32
  let v0 : BitVec 32 := Scalar.muli arg0 c512_i32
  let c206_i32_2360 : BitVec 32 := 206#32
  let v5027 : BitVec 32 := Scalar.addi v0 c206_i32_2360
  let v5028 : Index := Scalar.indexCast v5027
  ![v5028.toNat]
def k0_off1438 (v5029 : BitVec 32) : Fin 2 → Nat :=
  let c0_i32_2363 : BitVec 32 := 0#32
  ![v5029.toNat, 0]

def k0_chk719 (v5029 : BitVec 32) : Prop :=
  (∀ a, (k0_off1438 v5029) a + S1x768.size a ≤ S50257x768.size a)
theorem k0_off1438_inb : ∀ (v5029 : BitVec 32) (k0_hw719 : k0_chk719 v5029), ∀ a, (k0_off1438 v5029) a + S1x768.size a ≤ S50257x768.size a := fun v5029 k0_hw719 => k0_hw719

def k0_off1439 (i : grid0.Coords) : Fin 1 → Nat :=
  let arg0 : BitVec 32 := BitVec.ofNat 32 (i 0).val
  let c512_i32 : BitVec 32 := 512#32
  let v0 : BitVec 32 := Scalar.muli arg0 c512_i32
  let c207_i32_2364 : BitVec 32 := 207#32
  let v5034 : BitVec 32 := Scalar.addi v0 c207_i32_2364
  let v5035 : Index := Scalar.indexCast v5034
  ![v5035.toNat]
def k0_off1440 (v5036 : BitVec 32) : Fin 2 → Nat :=
  let c0_i32_2367 : BitVec 32 := 0#32
  ![v5036.toNat, 0]

def k0_chk720 (v5036 : BitVec 32) : Prop :=
  (∀ a, (k0_off1440 v5036) a + S1x768.size a ≤ S50257x768.size a)
theorem k0_off1440_inb : ∀ (v5036 : BitVec 32) (k0_hw720 : k0_chk720 v5036), ∀ a, (k0_off1440 v5036) a + S1x768.size a ≤ S50257x768.size a := fun v5036 k0_hw720 => k0_hw720

def k0_off1441 (i : grid0.Coords) : Fin 1 → Nat :=
  let arg0 : BitVec 32 := BitVec.ofNat 32 (i 0).val
  let c512_i32 : BitVec 32 := 512#32
  let v0 : BitVec 32 := Scalar.muli arg0 c512_i32
  let c208_i32_2368 : BitVec 32 := 208#32
  let v5041 : BitVec 32 := Scalar.addi v0 c208_i32_2368
  let v5042 : Index := Scalar.indexCast v5041
  ![v5042.toNat]
def k0_off1442 (v5043 : BitVec 32) : Fin 2 → Nat :=
  let c0_i32_2371 : BitVec 32 := 0#32
  ![v5043.toNat, 0]

def k0_chk721 (v5043 : BitVec 32) : Prop :=
  (∀ a, (k0_off1442 v5043) a + S1x768.size a ≤ S50257x768.size a)
theorem k0_off1442_inb : ∀ (v5043 : BitVec 32) (k0_hw721 : k0_chk721 v5043), ∀ a, (k0_off1442 v5043) a + S1x768.size a ≤ S50257x768.size a := fun v5043 k0_hw721 => k0_hw721

def k0_off1443 (i : grid0.Coords) : Fin 1 → Nat :=
  let arg0 : BitVec 32 := BitVec.ofNat 32 (i 0).val
  let c512_i32 : BitVec 32 := 512#32
  let v0 : BitVec 32 := Scalar.muli arg0 c512_i32
  let c209_i32_2372 : BitVec 32 := 209#32
  let v5048 : BitVec 32 := Scalar.addi v0 c209_i32_2372
  let v5049 : Index := Scalar.indexCast v5048
  ![v5049.toNat]
def k0_off1444 (v5050 : BitVec 32) : Fin 2 → Nat :=
  let c0_i32_2375 : BitVec 32 := 0#32
  ![v5050.toNat, 0]

def k0_chk722 (v5050 : BitVec 32) : Prop :=
  (∀ a, (k0_off1444 v5050) a + S1x768.size a ≤ S50257x768.size a)
theorem k0_off1444_inb : ∀ (v5050 : BitVec 32) (k0_hw722 : k0_chk722 v5050), ∀ a, (k0_off1444 v5050) a + S1x768.size a ≤ S50257x768.size a := fun v5050 k0_hw722 => k0_hw722

def k0_off1445 (i : grid0.Coords) : Fin 1 → Nat :=
  let arg0 : BitVec 32 := BitVec.ofNat 32 (i 0).val
  let c512_i32 : BitVec 32 := 512#32
  let v0 : BitVec 32 := Scalar.muli arg0 c512_i32
  let c210_i32_2376 : BitVec 32 := 210#32
  let v5055 : BitVec 32 := Scalar.addi v0 c210_i32_2376
  let v5056 : Index := Scalar.indexCast v5055
  ![v5056.toNat]
def k0_off1446 (v5057 : BitVec 32) : Fin 2 → Nat :=
  let c0_i32_2379 : BitVec 32 := 0#32
  ![v5057.toNat, 0]

def k0_chk723 (v5057 : BitVec 32) : Prop :=
  (∀ a, (k0_off1446 v5057) a + S1x768.size a ≤ S50257x768.size a)
theorem k0_off1446_inb : ∀ (v5057 : BitVec 32) (k0_hw723 : k0_chk723 v5057), ∀ a, (k0_off1446 v5057) a + S1x768.size a ≤ S50257x768.size a := fun v5057 k0_hw723 => k0_hw723

def k0_off1447 (i : grid0.Coords) : Fin 1 → Nat :=
  let arg0 : BitVec 32 := BitVec.ofNat 32 (i 0).val
  let c512_i32 : BitVec 32 := 512#32
  let v0 : BitVec 32 := Scalar.muli arg0 c512_i32
  let c211_i32_2380 : BitVec 32 := 211#32
  let v5062 : BitVec 32 := Scalar.addi v0 c211_i32_2380
  let v5063 : Index := Scalar.indexCast v5062
  ![v5063.toNat]
def k0_off1448 (v5064 : BitVec 32) : Fin 2 → Nat :=
  let c0_i32_2383 : BitVec 32 := 0#32
  ![v5064.toNat, 0]

def k0_chk724 (v5064 : BitVec 32) : Prop :=
  (∀ a, (k0_off1448 v5064) a + S1x768.size a ≤ S50257x768.size a)
theorem k0_off1448_inb : ∀ (v5064 : BitVec 32) (k0_hw724 : k0_chk724 v5064), ∀ a, (k0_off1448 v5064) a + S1x768.size a ≤ S50257x768.size a := fun v5064 k0_hw724 => k0_hw724

def k0_off1449 (i : grid0.Coords) : Fin 1 → Nat :=
  let arg0 : BitVec 32 := BitVec.ofNat 32 (i 0).val
  let c512_i32 : BitVec 32 := 512#32
  let v0 : BitVec 32 := Scalar.muli arg0 c512_i32
  let c212_i32_2384 : BitVec 32 := 212#32
  let v5069 : BitVec 32 := Scalar.addi v0 c212_i32_2384
  let v5070 : Index := Scalar.indexCast v5069
  ![v5070.toNat]
def k0_off1450 (v5071 : BitVec 32) : Fin 2 → Nat :=
  let c0_i32_2387 : BitVec 32 := 0#32
  ![v5071.toNat, 0]

def k0_chk725 (v5071 : BitVec 32) : Prop :=
  (∀ a, (k0_off1450 v5071) a + S1x768.size a ≤ S50257x768.size a)
theorem k0_off1450_inb : ∀ (v5071 : BitVec 32) (k0_hw725 : k0_chk725 v5071), ∀ a, (k0_off1450 v5071) a + S1x768.size a ≤ S50257x768.size a := fun v5071 k0_hw725 => k0_hw725

def k0_off1451 (i : grid0.Coords) : Fin 1 → Nat :=
  let arg0 : BitVec 32 := BitVec.ofNat 32 (i 0).val
  let c512_i32 : BitVec 32 := 512#32
  let v0 : BitVec 32 := Scalar.muli arg0 c512_i32
  let c213_i32_2388 : BitVec 32 := 213#32
  let v5076 : BitVec 32 := Scalar.addi v0 c213_i32_2388
  let v5077 : Index := Scalar.indexCast v5076
  ![v5077.toNat]
def k0_off1452 (v5078 : BitVec 32) : Fin 2 → Nat :=
  let c0_i32_2391 : BitVec 32 := 0#32
  ![v5078.toNat, 0]

def k0_chk726 (v5078 : BitVec 32) : Prop :=
  (∀ a, (k0_off1452 v5078) a + S1x768.size a ≤ S50257x768.size a)
theorem k0_off1452_inb : ∀ (v5078 : BitVec 32) (k0_hw726 : k0_chk726 v5078), ∀ a, (k0_off1452 v5078) a + S1x768.size a ≤ S50257x768.size a := fun v5078 k0_hw726 => k0_hw726

def k0_off1453 (i : grid0.Coords) : Fin 1 → Nat :=
  let arg0 : BitVec 32 := BitVec.ofNat 32 (i 0).val
  let c512_i32 : BitVec 32 := 512#32
  let v0 : BitVec 32 := Scalar.muli arg0 c512_i32
  let c214_i32_2392 : BitVec 32 := 214#32
  let v5083 : BitVec 32 := Scalar.addi v0 c214_i32_2392
  let v5084 : Index := Scalar.indexCast v5083
  ![v5084.toNat]
def k0_off1454 (v5085 : BitVec 32) : Fin 2 → Nat :=
  let c0_i32_2395 : BitVec 32 := 0#32
  ![v5085.toNat, 0]

def k0_chk727 (v5085 : BitVec 32) : Prop :=
  (∀ a, (k0_off1454 v5085) a + S1x768.size a ≤ S50257x768.size a)
theorem k0_off1454_inb : ∀ (v5085 : BitVec 32) (k0_hw727 : k0_chk727 v5085), ∀ a, (k0_off1454 v5085) a + S1x768.size a ≤ S50257x768.size a := fun v5085 k0_hw727 => k0_hw727

def k0_off1455 (i : grid0.Coords) : Fin 1 → Nat :=
  let arg0 : BitVec 32 := BitVec.ofNat 32 (i 0).val
  let c512_i32 : BitVec 32 := 512#32
  let v0 : BitVec 32 := Scalar.muli arg0 c512_i32
  let c215_i32_2396 : BitVec 32 := 215#32
  let v5090 : BitVec 32 := Scalar.addi v0 c215_i32_2396
  let v5091 : Index := Scalar.indexCast v5090
  ![v5091.toNat]
def k0_off1456 (v5092 : BitVec 32) : Fin 2 → Nat :=
  let c0_i32_2399 : BitVec 32 := 0#32
  ![v5092.toNat, 0]

def k0_chk728 (v5092 : BitVec 32) : Prop :=
  (∀ a, (k0_off1456 v5092) a + S1x768.size a ≤ S50257x768.size a)
theorem k0_off1456_inb : ∀ (v5092 : BitVec 32) (k0_hw728 : k0_chk728 v5092), ∀ a, (k0_off1456 v5092) a + S1x768.size a ≤ S50257x768.size a := fun v5092 k0_hw728 => k0_hw728

def k0_off1457 (i : grid0.Coords) : Fin 1 → Nat :=
  let arg0 : BitVec 32 := BitVec.ofNat 32 (i 0).val
  let c512_i32 : BitVec 32 := 512#32
  let v0 : BitVec 32 := Scalar.muli arg0 c512_i32
  let c216_i32_2400 : BitVec 32 := 216#32
  let v5097 : BitVec 32 := Scalar.addi v0 c216_i32_2400
  let v5098 : Index := Scalar.indexCast v5097
  ![v5098.toNat]
def k0_off1458 (v5099 : BitVec 32) : Fin 2 → Nat :=
  let c0_i32_2403 : BitVec 32 := 0#32
  ![v5099.toNat, 0]

def k0_chk729 (v5099 : BitVec 32) : Prop :=
  (∀ a, (k0_off1458 v5099) a + S1x768.size a ≤ S50257x768.size a)
theorem k0_off1458_inb : ∀ (v5099 : BitVec 32) (k0_hw729 : k0_chk729 v5099), ∀ a, (k0_off1458 v5099) a + S1x768.size a ≤ S50257x768.size a := fun v5099 k0_hw729 => k0_hw729

def k0_off1459 (i : grid0.Coords) : Fin 1 → Nat :=
  let arg0 : BitVec 32 := BitVec.ofNat 32 (i 0).val
  let c512_i32 : BitVec 32 := 512#32
  let v0 : BitVec 32 := Scalar.muli arg0 c512_i32
  let c217_i32_2404 : BitVec 32 := 217#32
  let v5104 : BitVec 32 := Scalar.addi v0 c217_i32_2404
  let v5105 : Index := Scalar.indexCast v5104
  ![v5105.toNat]
def k0_off1460 (v5106 : BitVec 32) : Fin 2 → Nat :=
  let c0_i32_2407 : BitVec 32 := 0#32
  ![v5106.toNat, 0]

def k0_chk730 (v5106 : BitVec 32) : Prop :=
  (∀ a, (k0_off1460 v5106) a + S1x768.size a ≤ S50257x768.size a)
theorem k0_off1460_inb : ∀ (v5106 : BitVec 32) (k0_hw730 : k0_chk730 v5106), ∀ a, (k0_off1460 v5106) a + S1x768.size a ≤ S50257x768.size a := fun v5106 k0_hw730 => k0_hw730

def k0_off1461 (i : grid0.Coords) : Fin 1 → Nat :=
  let arg0 : BitVec 32 := BitVec.ofNat 32 (i 0).val
  let c512_i32 : BitVec 32 := 512#32
  let v0 : BitVec 32 := Scalar.muli arg0 c512_i32
  let c218_i32_2408 : BitVec 32 := 218#32
  let v5111 : BitVec 32 := Scalar.addi v0 c218_i32_2408
  let v5112 : Index := Scalar.indexCast v5111
  ![v5112.toNat]
def k0_off1462 (v5113 : BitVec 32) : Fin 2 → Nat :=
  let c0_i32_2411 : BitVec 32 := 0#32
  ![v5113.toNat, 0]

def k0_chk731 (v5113 : BitVec 32) : Prop :=
  (∀ a, (k0_off1462 v5113) a + S1x768.size a ≤ S50257x768.size a)
theorem k0_off1462_inb : ∀ (v5113 : BitVec 32) (k0_hw731 : k0_chk731 v5113), ∀ a, (k0_off1462 v5113) a + S1x768.size a ≤ S50257x768.size a := fun v5113 k0_hw731 => k0_hw731

def k0_off1463 (i : grid0.Coords) : Fin 1 → Nat :=
  let arg0 : BitVec 32 := BitVec.ofNat 32 (i 0).val
  let c512_i32 : BitVec 32 := 512#32
  let v0 : BitVec 32 := Scalar.muli arg0 c512_i32
  let c219_i32_2412 : BitVec 32 := 219#32
  let v5118 : BitVec 32 := Scalar.addi v0 c219_i32_2412
  let v5119 : Index := Scalar.indexCast v5118
  ![v5119.toNat]
def k0_off1464 (v5120 : BitVec 32) : Fin 2 → Nat :=
  let c0_i32_2415 : BitVec 32 := 0#32
  ![v5120.toNat, 0]

def k0_chk732 (v5120 : BitVec 32) : Prop :=
  (∀ a, (k0_off1464 v5120) a + S1x768.size a ≤ S50257x768.size a)
theorem k0_off1464_inb : ∀ (v5120 : BitVec 32) (k0_hw732 : k0_chk732 v5120), ∀ a, (k0_off1464 v5120) a + S1x768.size a ≤ S50257x768.size a := fun v5120 k0_hw732 => k0_hw732

def k0_off1465 (i : grid0.Coords) : Fin 1 → Nat :=
  let arg0 : BitVec 32 := BitVec.ofNat 32 (i 0).val
  let c512_i32 : BitVec 32 := 512#32
  let v0 : BitVec 32 := Scalar.muli arg0 c512_i32
  let c220_i32_2416 : BitVec 32 := 220#32
  let v5125 : BitVec 32 := Scalar.addi v0 c220_i32_2416
  let v5126 : Index := Scalar.indexCast v5125
  ![v5126.toNat]
def k0_off1466 (v5127 : BitVec 32) : Fin 2 → Nat :=
  let c0_i32_2419 : BitVec 32 := 0#32
  ![v5127.toNat, 0]

def k0_chk733 (v5127 : BitVec 32) : Prop :=
  (∀ a, (k0_off1466 v5127) a + S1x768.size a ≤ S50257x768.size a)
theorem k0_off1466_inb : ∀ (v5127 : BitVec 32) (k0_hw733 : k0_chk733 v5127), ∀ a, (k0_off1466 v5127) a + S1x768.size a ≤ S50257x768.size a := fun v5127 k0_hw733 => k0_hw733

def k0_off1467 (i : grid0.Coords) : Fin 1 → Nat :=
  let arg0 : BitVec 32 := BitVec.ofNat 32 (i 0).val
  let c512_i32 : BitVec 32 := 512#32
  let v0 : BitVec 32 := Scalar.muli arg0 c512_i32
  let c221_i32_2420 : BitVec 32 := 221#32
  let v5132 : BitVec 32 := Scalar.addi v0 c221_i32_2420
  let v5133 : Index := Scalar.indexCast v5132
  ![v5133.toNat]
def k0_off1468 (v5134 : BitVec 32) : Fin 2 → Nat :=
  let c0_i32_2423 : BitVec 32 := 0#32
  ![v5134.toNat, 0]

def k0_chk734 (v5134 : BitVec 32) : Prop :=
  (∀ a, (k0_off1468 v5134) a + S1x768.size a ≤ S50257x768.size a)
theorem k0_off1468_inb : ∀ (v5134 : BitVec 32) (k0_hw734 : k0_chk734 v5134), ∀ a, (k0_off1468 v5134) a + S1x768.size a ≤ S50257x768.size a := fun v5134 k0_hw734 => k0_hw734

def k0_off1469 (i : grid0.Coords) : Fin 1 → Nat :=
  let arg0 : BitVec 32 := BitVec.ofNat 32 (i 0).val
  let c512_i32 : BitVec 32 := 512#32
  let v0 : BitVec 32 := Scalar.muli arg0 c512_i32
  let c222_i32_2424 : BitVec 32 := 222#32
  let v5139 : BitVec 32 := Scalar.addi v0 c222_i32_2424
  let v5140 : Index := Scalar.indexCast v5139
  ![v5140.toNat]
def k0_off1470 (v5141 : BitVec 32) : Fin 2 → Nat :=
  let c0_i32_2427 : BitVec 32 := 0#32
  ![v5141.toNat, 0]

def k0_chk735 (v5141 : BitVec 32) : Prop :=
  (∀ a, (k0_off1470 v5141) a + S1x768.size a ≤ S50257x768.size a)
theorem k0_off1470_inb : ∀ (v5141 : BitVec 32) (k0_hw735 : k0_chk735 v5141), ∀ a, (k0_off1470 v5141) a + S1x768.size a ≤ S50257x768.size a := fun v5141 k0_hw735 => k0_hw735

def k0_off1471 (i : grid0.Coords) : Fin 1 → Nat :=
  let arg0 : BitVec 32 := BitVec.ofNat 32 (i 0).val
  let c512_i32 : BitVec 32 := 512#32
  let v0 : BitVec 32 := Scalar.muli arg0 c512_i32
  let c223_i32_2428 : BitVec 32 := 223#32
  let v5146 : BitVec 32 := Scalar.addi v0 c223_i32_2428
  let v5147 : Index := Scalar.indexCast v5146
  ![v5147.toNat]
def k0_off1472 (v5148 : BitVec 32) : Fin 2 → Nat :=
  let c0_i32_2431 : BitVec 32 := 0#32
  ![v5148.toNat, 0]

def k0_chk736 (v5148 : BitVec 32) : Prop :=
  (∀ a, (k0_off1472 v5148) a + S1x768.size a ≤ S50257x768.size a)
theorem k0_off1472_inb : ∀ (v5148 : BitVec 32) (k0_hw736 : k0_chk736 v5148), ∀ a, (k0_off1472 v5148) a + S1x768.size a ≤ S50257x768.size a := fun v5148 k0_hw736 => k0_hw736

def k0_off1473 (i : grid0.Coords) : Fin 1 → Nat :=
  let arg0 : BitVec 32 := BitVec.ofNat 32 (i 0).val
  let c512_i32 : BitVec 32 := 512#32
  let v0 : BitVec 32 := Scalar.muli arg0 c512_i32
  let c224_i32_2432 : BitVec 32 := 224#32
  let v5153 : BitVec 32 := Scalar.addi v0 c224_i32_2432
  let v5154 : Index := Scalar.indexCast v5153
  ![v5154.toNat]
def k0_off1474 (v5155 : BitVec 32) : Fin 2 → Nat :=
  let c0_i32_2435 : BitVec 32 := 0#32
  ![v5155.toNat, 0]

def k0_chk737 (v5155 : BitVec 32) : Prop :=
  (∀ a, (k0_off1474 v5155) a + S1x768.size a ≤ S50257x768.size a)
theorem k0_off1474_inb : ∀ (v5155 : BitVec 32) (k0_hw737 : k0_chk737 v5155), ∀ a, (k0_off1474 v5155) a + S1x768.size a ≤ S50257x768.size a := fun v5155 k0_hw737 => k0_hw737

def k0_off1475 (i : grid0.Coords) : Fin 1 → Nat :=
  let arg0 : BitVec 32 := BitVec.ofNat 32 (i 0).val
  let c512_i32 : BitVec 32 := 512#32
  let v0 : BitVec 32 := Scalar.muli arg0 c512_i32
  let c225_i32_2436 : BitVec 32 := 225#32
  let v5160 : BitVec 32 := Scalar.addi v0 c225_i32_2436
  let v5161 : Index := Scalar.indexCast v5160
  ![v5161.toNat]
def k0_off1476 (v5162 : BitVec 32) : Fin 2 → Nat :=
  let c0_i32_2439 : BitVec 32 := 0#32
  ![v5162.toNat, 0]

def k0_chk738 (v5162 : BitVec 32) : Prop :=
  (∀ a, (k0_off1476 v5162) a + S1x768.size a ≤ S50257x768.size a)
theorem k0_off1476_inb : ∀ (v5162 : BitVec 32) (k0_hw738 : k0_chk738 v5162), ∀ a, (k0_off1476 v5162) a + S1x768.size a ≤ S50257x768.size a := fun v5162 k0_hw738 => k0_hw738

def k0_off1477 (i : grid0.Coords) : Fin 1 → Nat :=
  let arg0 : BitVec 32 := BitVec.ofNat 32 (i 0).val
  let c512_i32 : BitVec 32 := 512#32
  let v0 : BitVec 32 := Scalar.muli arg0 c512_i32
  let c226_i32_2440 : BitVec 32 := 226#32
  let v5167 : BitVec 32 := Scalar.addi v0 c226_i32_2440
  let v5168 : Index := Scalar.indexCast v5167
  ![v5168.toNat]
def k0_off1478 (v5169 : BitVec 32) : Fin 2 → Nat :=
  let c0_i32_2443 : BitVec 32 := 0#32
  ![v5169.toNat, 0]

def k0_chk739 (v5169 : BitVec 32) : Prop :=
  (∀ a, (k0_off1478 v5169) a + S1x768.size a ≤ S50257x768.size a)
theorem k0_off1478_inb : ∀ (v5169 : BitVec 32) (k0_hw739 : k0_chk739 v5169), ∀ a, (k0_off1478 v5169) a + S1x768.size a ≤ S50257x768.size a := fun v5169 k0_hw739 => k0_hw739

def k0_off1479 (i : grid0.Coords) : Fin 1 → Nat :=
  let arg0 : BitVec 32 := BitVec.ofNat 32 (i 0).val
  let c512_i32 : BitVec 32 := 512#32
  let v0 : BitVec 32 := Scalar.muli arg0 c512_i32
  let c227_i32_2444 : BitVec 32 := 227#32
  let v5174 : BitVec 32 := Scalar.addi v0 c227_i32_2444
  let v5175 : Index := Scalar.indexCast v5174
  ![v5175.toNat]
def k0_off1480 (v5176 : BitVec 32) : Fin 2 → Nat :=
  let c0_i32_2447 : BitVec 32 := 0#32
  ![v5176.toNat, 0]

def k0_chk740 (v5176 : BitVec 32) : Prop :=
  (∀ a, (k0_off1480 v5176) a + S1x768.size a ≤ S50257x768.size a)
theorem k0_off1480_inb : ∀ (v5176 : BitVec 32) (k0_hw740 : k0_chk740 v5176), ∀ a, (k0_off1480 v5176) a + S1x768.size a ≤ S50257x768.size a := fun v5176 k0_hw740 => k0_hw740

def k0_off1481 (i : grid0.Coords) : Fin 1 → Nat :=
  let arg0 : BitVec 32 := BitVec.ofNat 32 (i 0).val
  let c512_i32 : BitVec 32 := 512#32
  let v0 : BitVec 32 := Scalar.muli arg0 c512_i32
  let c228_i32_2448 : BitVec 32 := 228#32
  let v5181 : BitVec 32 := Scalar.addi v0 c228_i32_2448
  let v5182 : Index := Scalar.indexCast v5181
  ![v5182.toNat]
def k0_off1482 (v5183 : BitVec 32) : Fin 2 → Nat :=
  let c0_i32_2451 : BitVec 32 := 0#32
  ![v5183.toNat, 0]

def k0_chk741 (v5183 : BitVec 32) : Prop :=
  (∀ a, (k0_off1482 v5183) a + S1x768.size a ≤ S50257x768.size a)
theorem k0_off1482_inb : ∀ (v5183 : BitVec 32) (k0_hw741 : k0_chk741 v5183), ∀ a, (k0_off1482 v5183) a + S1x768.size a ≤ S50257x768.size a := fun v5183 k0_hw741 => k0_hw741

def k0_off1483 (i : grid0.Coords) : Fin 1 → Nat :=
  let arg0 : BitVec 32 := BitVec.ofNat 32 (i 0).val
  let c512_i32 : BitVec 32 := 512#32
  let v0 : BitVec 32 := Scalar.muli arg0 c512_i32
  let c229_i32_2452 : BitVec 32 := 229#32
  let v5188 : BitVec 32 := Scalar.addi v0 c229_i32_2452
  let v5189 : Index := Scalar.indexCast v5188
  ![v5189.toNat]
def k0_off1484 (v5190 : BitVec 32) : Fin 2 → Nat :=
  let c0_i32_2455 : BitVec 32 := 0#32
  ![v5190.toNat, 0]

def k0_chk742 (v5190 : BitVec 32) : Prop :=
  (∀ a, (k0_off1484 v5190) a + S1x768.size a ≤ S50257x768.size a)
theorem k0_off1484_inb : ∀ (v5190 : BitVec 32) (k0_hw742 : k0_chk742 v5190), ∀ a, (k0_off1484 v5190) a + S1x768.size a ≤ S50257x768.size a := fun v5190 k0_hw742 => k0_hw742

def k0_off1485 (i : grid0.Coords) : Fin 1 → Nat :=
  let arg0 : BitVec 32 := BitVec.ofNat 32 (i 0).val
  let c512_i32 : BitVec 32 := 512#32
  let v0 : BitVec 32 := Scalar.muli arg0 c512_i32
  let c230_i32_2456 : BitVec 32 := 230#32
  let v5195 : BitVec 32 := Scalar.addi v0 c230_i32_2456
  let v5196 : Index := Scalar.indexCast v5195
  ![v5196.toNat]
def k0_off1486 (v5197 : BitVec 32) : Fin 2 → Nat :=
  let c0_i32_2459 : BitVec 32 := 0#32
  ![v5197.toNat, 0]

def k0_chk743 (v5197 : BitVec 32) : Prop :=
  (∀ a, (k0_off1486 v5197) a + S1x768.size a ≤ S50257x768.size a)
theorem k0_off1486_inb : ∀ (v5197 : BitVec 32) (k0_hw743 : k0_chk743 v5197), ∀ a, (k0_off1486 v5197) a + S1x768.size a ≤ S50257x768.size a := fun v5197 k0_hw743 => k0_hw743

def k0_off1487 (i : grid0.Coords) : Fin 1 → Nat :=
  let arg0 : BitVec 32 := BitVec.ofNat 32 (i 0).val
  let c512_i32 : BitVec 32 := 512#32
  let v0 : BitVec 32 := Scalar.muli arg0 c512_i32
  let c231_i32_2460 : BitVec 32 := 231#32
  let v5202 : BitVec 32 := Scalar.addi v0 c231_i32_2460
  let v5203 : Index := Scalar.indexCast v5202
  ![v5203.toNat]
def k0_off1488 (v5204 : BitVec 32) : Fin 2 → Nat :=
  let c0_i32_2463 : BitVec 32 := 0#32
  ![v5204.toNat, 0]

def k0_chk744 (v5204 : BitVec 32) : Prop :=
  (∀ a, (k0_off1488 v5204) a + S1x768.size a ≤ S50257x768.size a)
theorem k0_off1488_inb : ∀ (v5204 : BitVec 32) (k0_hw744 : k0_chk744 v5204), ∀ a, (k0_off1488 v5204) a + S1x768.size a ≤ S50257x768.size a := fun v5204 k0_hw744 => k0_hw744

def k0_off1489 (i : grid0.Coords) : Fin 1 → Nat :=
  let arg0 : BitVec 32 := BitVec.ofNat 32 (i 0).val
  let c512_i32 : BitVec 32 := 512#32
  let v0 : BitVec 32 := Scalar.muli arg0 c512_i32
  let c232_i32_2464 : BitVec 32 := 232#32
  let v5209 : BitVec 32 := Scalar.addi v0 c232_i32_2464
  let v5210 : Index := Scalar.indexCast v5209
  ![v5210.toNat]
def k0_off1490 (v5211 : BitVec 32) : Fin 2 → Nat :=
  let c0_i32_2467 : BitVec 32 := 0#32
  ![v5211.toNat, 0]

def k0_chk745 (v5211 : BitVec 32) : Prop :=
  (∀ a, (k0_off1490 v5211) a + S1x768.size a ≤ S50257x768.size a)
theorem k0_off1490_inb : ∀ (v5211 : BitVec 32) (k0_hw745 : k0_chk745 v5211), ∀ a, (k0_off1490 v5211) a + S1x768.size a ≤ S50257x768.size a := fun v5211 k0_hw745 => k0_hw745

def k0_off1491 (i : grid0.Coords) : Fin 1 → Nat :=
  let arg0 : BitVec 32 := BitVec.ofNat 32 (i 0).val
  let c512_i32 : BitVec 32 := 512#32
  let v0 : BitVec 32 := Scalar.muli arg0 c512_i32
  let c233_i32_2468 : BitVec 32 := 233#32
  let v5216 : BitVec 32 := Scalar.addi v0 c233_i32_2468
  let v5217 : Index := Scalar.indexCast v5216
  ![v5217.toNat]
def k0_off1492 (v5218 : BitVec 32) : Fin 2 → Nat :=
  let c0_i32_2471 : BitVec 32 := 0#32
  ![v5218.toNat, 0]

def k0_chk746 (v5218 : BitVec 32) : Prop :=
  (∀ a, (k0_off1492 v5218) a + S1x768.size a ≤ S50257x768.size a)
theorem k0_off1492_inb : ∀ (v5218 : BitVec 32) (k0_hw746 : k0_chk746 v5218), ∀ a, (k0_off1492 v5218) a + S1x768.size a ≤ S50257x768.size a := fun v5218 k0_hw746 => k0_hw746

def k0_off1493 (i : grid0.Coords) : Fin 1 → Nat :=
  let arg0 : BitVec 32 := BitVec.ofNat 32 (i 0).val
  let c512_i32 : BitVec 32 := 512#32
  let v0 : BitVec 32 := Scalar.muli arg0 c512_i32
  let c234_i32_2472 : BitVec 32 := 234#32
  let v5223 : BitVec 32 := Scalar.addi v0 c234_i32_2472
  let v5224 : Index := Scalar.indexCast v5223
  ![v5224.toNat]
def k0_off1494 (v5225 : BitVec 32) : Fin 2 → Nat :=
  let c0_i32_2475 : BitVec 32 := 0#32
  ![v5225.toNat, 0]

def k0_chk747 (v5225 : BitVec 32) : Prop :=
  (∀ a, (k0_off1494 v5225) a + S1x768.size a ≤ S50257x768.size a)
theorem k0_off1494_inb : ∀ (v5225 : BitVec 32) (k0_hw747 : k0_chk747 v5225), ∀ a, (k0_off1494 v5225) a + S1x768.size a ≤ S50257x768.size a := fun v5225 k0_hw747 => k0_hw747

def k0_off1495 (i : grid0.Coords) : Fin 1 → Nat :=
  let arg0 : BitVec 32 := BitVec.ofNat 32 (i 0).val
  let c512_i32 : BitVec 32 := 512#32
  let v0 : BitVec 32 := Scalar.muli arg0 c512_i32
  let c235_i32_2476 : BitVec 32 := 235#32
  let v5230 : BitVec 32 := Scalar.addi v0 c235_i32_2476
  let v5231 : Index := Scalar.indexCast v5230
  ![v5231.toNat]
def k0_off1496 (v5232 : BitVec 32) : Fin 2 → Nat :=
  let c0_i32_2479 : BitVec 32 := 0#32
  ![v5232.toNat, 0]

def k0_chk748 (v5232 : BitVec 32) : Prop :=
  (∀ a, (k0_off1496 v5232) a + S1x768.size a ≤ S50257x768.size a)
theorem k0_off1496_inb : ∀ (v5232 : BitVec 32) (k0_hw748 : k0_chk748 v5232), ∀ a, (k0_off1496 v5232) a + S1x768.size a ≤ S50257x768.size a := fun v5232 k0_hw748 => k0_hw748

def k0_off1497 (i : grid0.Coords) : Fin 1 → Nat :=
  let arg0 : BitVec 32 := BitVec.ofNat 32 (i 0).val
  let c512_i32 : BitVec 32 := 512#32
  let v0 : BitVec 32 := Scalar.muli arg0 c512_i32
  let c236_i32_2480 : BitVec 32 := 236#32
  let v5237 : BitVec 32 := Scalar.addi v0 c236_i32_2480
  let v5238 : Index := Scalar.indexCast v5237
  ![v5238.toNat]
def k0_off1498 (v5239 : BitVec 32) : Fin 2 → Nat :=
  let c0_i32_2483 : BitVec 32 := 0#32
  ![v5239.toNat, 0]

def k0_chk749 (v5239 : BitVec 32) : Prop :=
  (∀ a, (k0_off1498 v5239) a + S1x768.size a ≤ S50257x768.size a)
theorem k0_off1498_inb : ∀ (v5239 : BitVec 32) (k0_hw749 : k0_chk749 v5239), ∀ a, (k0_off1498 v5239) a + S1x768.size a ≤ S50257x768.size a := fun v5239 k0_hw749 => k0_hw749

def k0_off1499 (i : grid0.Coords) : Fin 1 → Nat :=
  let arg0 : BitVec 32 := BitVec.ofNat 32 (i 0).val
  let c512_i32 : BitVec 32 := 512#32
  let v0 : BitVec 32 := Scalar.muli arg0 c512_i32
  let c237_i32_2484 : BitVec 32 := 237#32
  let v5244 : BitVec 32 := Scalar.addi v0 c237_i32_2484
  let v5245 : Index := Scalar.indexCast v5244
  ![v5245.toNat]
def k0_off1500 (v5246 : BitVec 32) : Fin 2 → Nat :=
  let c0_i32_2487 : BitVec 32 := 0#32
  ![v5246.toNat, 0]

def k0_chk750 (v5246 : BitVec 32) : Prop :=
  (∀ a, (k0_off1500 v5246) a + S1x768.size a ≤ S50257x768.size a)
theorem k0_off1500_inb : ∀ (v5246 : BitVec 32) (k0_hw750 : k0_chk750 v5246), ∀ a, (k0_off1500 v5246) a + S1x768.size a ≤ S50257x768.size a := fun v5246 k0_hw750 => k0_hw750

def k0_off1501 (i : grid0.Coords) : Fin 1 → Nat :=
  let arg0 : BitVec 32 := BitVec.ofNat 32 (i 0).val
  let c512_i32 : BitVec 32 := 512#32
  let v0 : BitVec 32 := Scalar.muli arg0 c512_i32
  let c238_i32_2488 : BitVec 32 := 238#32
  let v5251 : BitVec 32 := Scalar.addi v0 c238_i32_2488
  let v5252 : Index := Scalar.indexCast v5251
  ![v5252.toNat]
def k0_off1502 (v5253 : BitVec 32) : Fin 2 → Nat :=
  let c0_i32_2491 : BitVec 32 := 0#32
  ![v5253.toNat, 0]

def k0_chk751 (v5253 : BitVec 32) : Prop :=
  (∀ a, (k0_off1502 v5253) a + S1x768.size a ≤ S50257x768.size a)
theorem k0_off1502_inb : ∀ (v5253 : BitVec 32) (k0_hw751 : k0_chk751 v5253), ∀ a, (k0_off1502 v5253) a + S1x768.size a ≤ S50257x768.size a := fun v5253 k0_hw751 => k0_hw751

def k0_off1503 (i : grid0.Coords) : Fin 1 → Nat :=
  let arg0 : BitVec 32 := BitVec.ofNat 32 (i 0).val
  let c512_i32 : BitVec 32 := 512#32
  let v0 : BitVec 32 := Scalar.muli arg0 c512_i32
  let c239_i32_2492 : BitVec 32 := 239#32
  let v5258 : BitVec 32 := Scalar.addi v0 c239_i32_2492
  let v5259 : Index := Scalar.indexCast v5258
  ![v5259.toNat]
def k0_off1504 (v5260 : BitVec 32) : Fin 2 → Nat :=
  let c0_i32_2495 : BitVec 32 := 0#32
  ![v5260.toNat, 0]

def k0_chk752 (v5260 : BitVec 32) : Prop :=
  (∀ a, (k0_off1504 v5260) a + S1x768.size a ≤ S50257x768.size a)
theorem k0_off1504_inb : ∀ (v5260 : BitVec 32) (k0_hw752 : k0_chk752 v5260), ∀ a, (k0_off1504 v5260) a + S1x768.size a ≤ S50257x768.size a := fun v5260 k0_hw752 => k0_hw752

def k0_off1505 (i : grid0.Coords) : Fin 1 → Nat :=
  let arg0 : BitVec 32 := BitVec.ofNat 32 (i 0).val
  let c512_i32 : BitVec 32 := 512#32
  let v0 : BitVec 32 := Scalar.muli arg0 c512_i32
  let c240_i32_2496 : BitVec 32 := 240#32
  let v5265 : BitVec 32 := Scalar.addi v0 c240_i32_2496
  let v5266 : Index := Scalar.indexCast v5265
  ![v5266.toNat]
def k0_off1506 (v5267 : BitVec 32) : Fin 2 → Nat :=
  let c0_i32_2499 : BitVec 32 := 0#32
  ![v5267.toNat, 0]

def k0_chk753 (v5267 : BitVec 32) : Prop :=
  (∀ a, (k0_off1506 v5267) a + S1x768.size a ≤ S50257x768.size a)
theorem k0_off1506_inb : ∀ (v5267 : BitVec 32) (k0_hw753 : k0_chk753 v5267), ∀ a, (k0_off1506 v5267) a + S1x768.size a ≤ S50257x768.size a := fun v5267 k0_hw753 => k0_hw753

def k0_off1507 (i : grid0.Coords) : Fin 1 → Nat :=
  let arg0 : BitVec 32 := BitVec.ofNat 32 (i 0).val
  let c512_i32 : BitVec 32 := 512#32
  let v0 : BitVec 32 := Scalar.muli arg0 c512_i32
  let c241_i32_2500 : BitVec 32 := 241#32
  let v5272 : BitVec 32 := Scalar.addi v0 c241_i32_2500
  let v5273 : Index := Scalar.indexCast v5272
  ![v5273.toNat]
def k0_off1508 (v5274 : BitVec 32) : Fin 2 → Nat :=
  let c0_i32_2503 : BitVec 32 := 0#32
  ![v5274.toNat, 0]

def k0_chk754 (v5274 : BitVec 32) : Prop :=
  (∀ a, (k0_off1508 v5274) a + S1x768.size a ≤ S50257x768.size a)
theorem k0_off1508_inb : ∀ (v5274 : BitVec 32) (k0_hw754 : k0_chk754 v5274), ∀ a, (k0_off1508 v5274) a + S1x768.size a ≤ S50257x768.size a := fun v5274 k0_hw754 => k0_hw754

def k0_off1509 (i : grid0.Coords) : Fin 1 → Nat :=
  let arg0 : BitVec 32 := BitVec.ofNat 32 (i 0).val
  let c512_i32 : BitVec 32 := 512#32
  let v0 : BitVec 32 := Scalar.muli arg0 c512_i32
  let c242_i32_2504 : BitVec 32 := 242#32
  let v5279 : BitVec 32 := Scalar.addi v0 c242_i32_2504
  let v5280 : Index := Scalar.indexCast v5279
  ![v5280.toNat]
def k0_off1510 (v5281 : BitVec 32) : Fin 2 → Nat :=
  let c0_i32_2507 : BitVec 32 := 0#32
  ![v5281.toNat, 0]

def k0_chk755 (v5281 : BitVec 32) : Prop :=
  (∀ a, (k0_off1510 v5281) a + S1x768.size a ≤ S50257x768.size a)
theorem k0_off1510_inb : ∀ (v5281 : BitVec 32) (k0_hw755 : k0_chk755 v5281), ∀ a, (k0_off1510 v5281) a + S1x768.size a ≤ S50257x768.size a := fun v5281 k0_hw755 => k0_hw755

def k0_off1511 (i : grid0.Coords) : Fin 1 → Nat :=
  let arg0 : BitVec 32 := BitVec.ofNat 32 (i 0).val
  let c512_i32 : BitVec 32 := 512#32
  let v0 : BitVec 32 := Scalar.muli arg0 c512_i32
  let c243_i32_2508 : BitVec 32 := 243#32
  let v5286 : BitVec 32 := Scalar.addi v0 c243_i32_2508
  let v5287 : Index := Scalar.indexCast v5286
  ![v5287.toNat]
def k0_off1512 (v5288 : BitVec 32) : Fin 2 → Nat :=
  let c0_i32_2511 : BitVec 32 := 0#32
  ![v5288.toNat, 0]

def k0_chk756 (v5288 : BitVec 32) : Prop :=
  (∀ a, (k0_off1512 v5288) a + S1x768.size a ≤ S50257x768.size a)
theorem k0_off1512_inb : ∀ (v5288 : BitVec 32) (k0_hw756 : k0_chk756 v5288), ∀ a, (k0_off1512 v5288) a + S1x768.size a ≤ S50257x768.size a := fun v5288 k0_hw756 => k0_hw756

def k0_off1513 (i : grid0.Coords) : Fin 1 → Nat :=
  let arg0 : BitVec 32 := BitVec.ofNat 32 (i 0).val
  let c512_i32 : BitVec 32 := 512#32
  let v0 : BitVec 32 := Scalar.muli arg0 c512_i32
  let c244_i32_2512 : BitVec 32 := 244#32
  let v5293 : BitVec 32 := Scalar.addi v0 c244_i32_2512
  let v5294 : Index := Scalar.indexCast v5293
  ![v5294.toNat]
def k0_off1514 (v5295 : BitVec 32) : Fin 2 → Nat :=
  let c0_i32_2515 : BitVec 32 := 0#32
  ![v5295.toNat, 0]

def k0_chk757 (v5295 : BitVec 32) : Prop :=
  (∀ a, (k0_off1514 v5295) a + S1x768.size a ≤ S50257x768.size a)
theorem k0_off1514_inb : ∀ (v5295 : BitVec 32) (k0_hw757 : k0_chk757 v5295), ∀ a, (k0_off1514 v5295) a + S1x768.size a ≤ S50257x768.size a := fun v5295 k0_hw757 => k0_hw757

def k0_off1515 (i : grid0.Coords) : Fin 1 → Nat :=
  let arg0 : BitVec 32 := BitVec.ofNat 32 (i 0).val
  let c512_i32 : BitVec 32 := 512#32
  let v0 : BitVec 32 := Scalar.muli arg0 c512_i32
  let c245_i32_2516 : BitVec 32 := 245#32
  let v5300 : BitVec 32 := Scalar.addi v0 c245_i32_2516
  let v5301 : Index := Scalar.indexCast v5300
  ![v5301.toNat]
def k0_off1516 (v5302 : BitVec 32) : Fin 2 → Nat :=
  let c0_i32_2519 : BitVec 32 := 0#32
  ![v5302.toNat, 0]

def k0_chk758 (v5302 : BitVec 32) : Prop :=
  (∀ a, (k0_off1516 v5302) a + S1x768.size a ≤ S50257x768.size a)
theorem k0_off1516_inb : ∀ (v5302 : BitVec 32) (k0_hw758 : k0_chk758 v5302), ∀ a, (k0_off1516 v5302) a + S1x768.size a ≤ S50257x768.size a := fun v5302 k0_hw758 => k0_hw758

def k0_off1517 (i : grid0.Coords) : Fin 1 → Nat :=
  let arg0 : BitVec 32 := BitVec.ofNat 32 (i 0).val
  let c512_i32 : BitVec 32 := 512#32
  let v0 : BitVec 32 := Scalar.muli arg0 c512_i32
  let c246_i32_2520 : BitVec 32 := 246#32
  let v5307 : BitVec 32 := Scalar.addi v0 c246_i32_2520
  let v5308 : Index := Scalar.indexCast v5307
  ![v5308.toNat]
def k0_off1518 (v5309 : BitVec 32) : Fin 2 → Nat :=
  let c0_i32_2523 : BitVec 32 := 0#32
  ![v5309.toNat, 0]

def k0_chk759 (v5309 : BitVec 32) : Prop :=
  (∀ a, (k0_off1518 v5309) a + S1x768.size a ≤ S50257x768.size a)
theorem k0_off1518_inb : ∀ (v5309 : BitVec 32) (k0_hw759 : k0_chk759 v5309), ∀ a, (k0_off1518 v5309) a + S1x768.size a ≤ S50257x768.size a := fun v5309 k0_hw759 => k0_hw759

def k0_off1519 (i : grid0.Coords) : Fin 1 → Nat :=
  let arg0 : BitVec 32 := BitVec.ofNat 32 (i 0).val
  let c512_i32 : BitVec 32 := 512#32
  let v0 : BitVec 32 := Scalar.muli arg0 c512_i32
  let c247_i32_2524 : BitVec 32 := 247#32
  let v5314 : BitVec 32 := Scalar.addi v0 c247_i32_2524
  let v5315 : Index := Scalar.indexCast v5314
  ![v5315.toNat]
def k0_off1520 (v5316 : BitVec 32) : Fin 2 → Nat :=
  let c0_i32_2527 : BitVec 32 := 0#32
  ![v5316.toNat, 0]

def k0_chk760 (v5316 : BitVec 32) : Prop :=
  (∀ a, (k0_off1520 v5316) a + S1x768.size a ≤ S50257x768.size a)
theorem k0_off1520_inb : ∀ (v5316 : BitVec 32) (k0_hw760 : k0_chk760 v5316), ∀ a, (k0_off1520 v5316) a + S1x768.size a ≤ S50257x768.size a := fun v5316 k0_hw760 => k0_hw760

def k0_off1521 (i : grid0.Coords) : Fin 1 → Nat :=
  let arg0 : BitVec 32 := BitVec.ofNat 32 (i 0).val
  let c512_i32 : BitVec 32 := 512#32
  let v0 : BitVec 32 := Scalar.muli arg0 c512_i32
  let c248_i32_2528 : BitVec 32 := 248#32
  let v5321 : BitVec 32 := Scalar.addi v0 c248_i32_2528
  let v5322 : Index := Scalar.indexCast v5321
  ![v5322.toNat]
def k0_off1522 (v5323 : BitVec 32) : Fin 2 → Nat :=
  let c0_i32_2531 : BitVec 32 := 0#32
  ![v5323.toNat, 0]

def k0_chk761 (v5323 : BitVec 32) : Prop :=
  (∀ a, (k0_off1522 v5323) a + S1x768.size a ≤ S50257x768.size a)
theorem k0_off1522_inb : ∀ (v5323 : BitVec 32) (k0_hw761 : k0_chk761 v5323), ∀ a, (k0_off1522 v5323) a + S1x768.size a ≤ S50257x768.size a := fun v5323 k0_hw761 => k0_hw761

def k0_off1523 (i : grid0.Coords) : Fin 1 → Nat :=
  let arg0 : BitVec 32 := BitVec.ofNat 32 (i 0).val
  let c512_i32 : BitVec 32 := 512#32
  let v0 : BitVec 32 := Scalar.muli arg0 c512_i32
  let c249_i32_2532 : BitVec 32 := 249#32
  let v5328 : BitVec 32 := Scalar.addi v0 c249_i32_2532
  let v5329 : Index := Scalar.indexCast v5328
  ![v5329.toNat]
def k0_off1524 (v5330 : BitVec 32) : Fin 2 → Nat :=
  let c0_i32_2535 : BitVec 32 := 0#32
  ![v5330.toNat, 0]

def k0_chk762 (v5330 : BitVec 32) : Prop :=
  (∀ a, (k0_off1524 v5330) a + S1x768.size a ≤ S50257x768.size a)
theorem k0_off1524_inb : ∀ (v5330 : BitVec 32) (k0_hw762 : k0_chk762 v5330), ∀ a, (k0_off1524 v5330) a + S1x768.size a ≤ S50257x768.size a := fun v5330 k0_hw762 => k0_hw762

def k0_off1525 (i : grid0.Coords) : Fin 1 → Nat :=
  let arg0 : BitVec 32 := BitVec.ofNat 32 (i 0).val
  let c512_i32 : BitVec 32 := 512#32
  let v0 : BitVec 32 := Scalar.muli arg0 c512_i32
  let c250_i32_2536 : BitVec 32 := 250#32
  let v5335 : BitVec 32 := Scalar.addi v0 c250_i32_2536
  let v5336 : Index := Scalar.indexCast v5335
  ![v5336.toNat]
def k0_off1526 (v5337 : BitVec 32) : Fin 2 → Nat :=
  let c0_i32_2539 : BitVec 32 := 0#32
  ![v5337.toNat, 0]

def k0_chk763 (v5337 : BitVec 32) : Prop :=
  (∀ a, (k0_off1526 v5337) a + S1x768.size a ≤ S50257x768.size a)
theorem k0_off1526_inb : ∀ (v5337 : BitVec 32) (k0_hw763 : k0_chk763 v5337), ∀ a, (k0_off1526 v5337) a + S1x768.size a ≤ S50257x768.size a := fun v5337 k0_hw763 => k0_hw763

def k0_off1527 (i : grid0.Coords) : Fin 1 → Nat :=
  let arg0 : BitVec 32 := BitVec.ofNat 32 (i 0).val
  let c512_i32 : BitVec 32 := 512#32
  let v0 : BitVec 32 := Scalar.muli arg0 c512_i32
  let c251_i32_2540 : BitVec 32 := 251#32
  let v5342 : BitVec 32 := Scalar.addi v0 c251_i32_2540
  let v5343 : Index := Scalar.indexCast v5342
  ![v5343.toNat]
def k0_off1528 (v5344 : BitVec 32) : Fin 2 → Nat :=
  let c0_i32_2543 : BitVec 32 := 0#32
  ![v5344.toNat, 0]

def k0_chk764 (v5344 : BitVec 32) : Prop :=
  (∀ a, (k0_off1528 v5344) a + S1x768.size a ≤ S50257x768.size a)
theorem k0_off1528_inb : ∀ (v5344 : BitVec 32) (k0_hw764 : k0_chk764 v5344), ∀ a, (k0_off1528 v5344) a + S1x768.size a ≤ S50257x768.size a := fun v5344 k0_hw764 => k0_hw764

def k0_off1529 (i : grid0.Coords) : Fin 1 → Nat :=
  let arg0 : BitVec 32 := BitVec.ofNat 32 (i 0).val
  let c512_i32 : BitVec 32 := 512#32
  let v0 : BitVec 32 := Scalar.muli arg0 c512_i32
  let c252_i32_2544 : BitVec 32 := 252#32
  let v5349 : BitVec 32 := Scalar.addi v0 c252_i32_2544
  let v5350 : Index := Scalar.indexCast v5349
  ![v5350.toNat]
def k0_off1530 (v5351 : BitVec 32) : Fin 2 → Nat :=
  let c0_i32_2547 : BitVec 32 := 0#32
  ![v5351.toNat, 0]

def k0_chk765 (v5351 : BitVec 32) : Prop :=
  (∀ a, (k0_off1530 v5351) a + S1x768.size a ≤ S50257x768.size a)
theorem k0_off1530_inb : ∀ (v5351 : BitVec 32) (k0_hw765 : k0_chk765 v5351), ∀ a, (k0_off1530 v5351) a + S1x768.size a ≤ S50257x768.size a := fun v5351 k0_hw765 => k0_hw765

def k0_off1531 (i : grid0.Coords) : Fin 1 → Nat :=
  let arg0 : BitVec 32 := BitVec.ofNat 32 (i 0).val
  let c512_i32 : BitVec 32 := 512#32
  let v0 : BitVec 32 := Scalar.muli arg0 c512_i32
  let c253_i32_2548 : BitVec 32 := 253#32
  let v5356 : BitVec 32 := Scalar.addi v0 c253_i32_2548
  let v5357 : Index := Scalar.indexCast v5356
  ![v5357.toNat]
def k0_off1532 (v5358 : BitVec 32) : Fin 2 → Nat :=
  let c0_i32_2551 : BitVec 32 := 0#32
  ![v5358.toNat, 0]

def k0_chk766 (v5358 : BitVec 32) : Prop :=
  (∀ a, (k0_off1532 v5358) a + S1x768.size a ≤ S50257x768.size a)
theorem k0_off1532_inb : ∀ (v5358 : BitVec 32) (k0_hw766 : k0_chk766 v5358), ∀ a, (k0_off1532 v5358) a + S1x768.size a ≤ S50257x768.size a := fun v5358 k0_hw766 => k0_hw766

def k0_off1533 (i : grid0.Coords) : Fin 1 → Nat :=
  let arg0 : BitVec 32 := BitVec.ofNat 32 (i 0).val
  let c512_i32 : BitVec 32 := 512#32
  let v0 : BitVec 32 := Scalar.muli arg0 c512_i32
  let c254_i32_2552 : BitVec 32 := 254#32
  let v5363 : BitVec 32 := Scalar.addi v0 c254_i32_2552
  let v5364 : Index := Scalar.indexCast v5363
  ![v5364.toNat]
def k0_off1534 (v5365 : BitVec 32) : Fin 2 → Nat :=
  let c0_i32_2555 : BitVec 32 := 0#32
  ![v5365.toNat, 0]

def k0_chk767 (v5365 : BitVec 32) : Prop :=
  (∀ a, (k0_off1534 v5365) a + S1x768.size a ≤ S50257x768.size a)
theorem k0_off1534_inb : ∀ (v5365 : BitVec 32) (k0_hw767 : k0_chk767 v5365), ∀ a, (k0_off1534 v5365) a + S1x768.size a ≤ S50257x768.size a := fun v5365 k0_hw767 => k0_hw767

def k0_off1535 (i : grid0.Coords) : Fin 1 → Nat :=
  let arg0 : BitVec 32 := BitVec.ofNat 32 (i 0).val
  let c512_i32 : BitVec 32 := 512#32
  let v0 : BitVec 32 := Scalar.muli arg0 c512_i32
  let c255_i32_2556 : BitVec 32 := 255#32
  let v5370 : BitVec 32 := Scalar.addi v0 c255_i32_2556
  let v5371 : Index := Scalar.indexCast v5370
  ![v5371.toNat]
def k0_off1536 (v5372 : BitVec 32) : Fin 2 → Nat :=
  let c0_i32_2559 : BitVec 32 := 0#32
  ![v5372.toNat, 0]

def k0_chk768 (v5372 : BitVec 32) : Prop :=
  (∀ a, (k0_off1536 v5372) a + S1x768.size a ≤ S50257x768.size a)
theorem k0_off1536_inb : ∀ (v5372 : BitVec 32) (k0_hw768 : k0_chk768 v5372), ∀ a, (k0_off1536 v5372) a + S1x768.size a ≤ S50257x768.size a := fun v5372 k0_hw768 => k0_hw768

def k0_off1537 (i : grid0.Coords) : Fin 1 → Nat :=
  let arg0 : BitVec 32 := BitVec.ofNat 32 (i 0).val
  let c512_i32 : BitVec 32 := 512#32
  let v0 : BitVec 32 := Scalar.muli arg0 c512_i32
  let c256_i32_2560 : BitVec 32 := 256#32
  let v5377 : BitVec 32 := Scalar.addi v0 c256_i32_2560
  let v5378 : Index := Scalar.indexCast v5377
  ![v5378.toNat]
def k0_off1538 (v5379 : BitVec 32) : Fin 2 → Nat :=
  let c0_i32_2563 : BitVec 32 := 0#32
  ![v5379.toNat, 0]

def k0_chk769 (v5379 : BitVec 32) : Prop :=
  (∀ a, (k0_off1538 v5379) a + S1x768.size a ≤ S50257x768.size a)
theorem k0_off1538_inb : ∀ (v5379 : BitVec 32) (k0_hw769 : k0_chk769 v5379), ∀ a, (k0_off1538 v5379) a + S1x768.size a ≤ S50257x768.size a := fun v5379 k0_hw769 => k0_hw769

def k0_off1539 (i : grid0.Coords) : Fin 1 → Nat :=
  let arg0 : BitVec 32 := BitVec.ofNat 32 (i 0).val
  let c512_i32 : BitVec 32 := 512#32
  let v0 : BitVec 32 := Scalar.muli arg0 c512_i32
  let c257_i32_2564 : BitVec 32 := 257#32
  let v5384 : BitVec 32 := Scalar.addi v0 c257_i32_2564
  let v5385 : Index := Scalar.indexCast v5384
  ![v5385.toNat]
def k0_off1540 (v5386 : BitVec 32) : Fin 2 → Nat :=
  let c0_i32_2567 : BitVec 32 := 0#32
  ![v5386.toNat, 0]

def k0_chk770 (v5386 : BitVec 32) : Prop :=
  (∀ a, (k0_off1540 v5386) a + S1x768.size a ≤ S50257x768.size a)
theorem k0_off1540_inb : ∀ (v5386 : BitVec 32) (k0_hw770 : k0_chk770 v5386), ∀ a, (k0_off1540 v5386) a + S1x768.size a ≤ S50257x768.size a := fun v5386 k0_hw770 => k0_hw770

def k0_off1541 (i : grid0.Coords) : Fin 1 → Nat :=
  let arg0 : BitVec 32 := BitVec.ofNat 32 (i 0).val
  let c512_i32 : BitVec 32 := 512#32
  let v0 : BitVec 32 := Scalar.muli arg0 c512_i32
  let c258_i32_2568 : BitVec 32 := 258#32
  let v5391 : BitVec 32 := Scalar.addi v0 c258_i32_2568
  let v5392 : Index := Scalar.indexCast v5391
  ![v5392.toNat]
def k0_off1542 (v5393 : BitVec 32) : Fin 2 → Nat :=
  let c0_i32_2571 : BitVec 32 := 0#32
  ![v5393.toNat, 0]

def k0_chk771 (v5393 : BitVec 32) : Prop :=
  (∀ a, (k0_off1542 v5393) a + S1x768.size a ≤ S50257x768.size a)
theorem k0_off1542_inb : ∀ (v5393 : BitVec 32) (k0_hw771 : k0_chk771 v5393), ∀ a, (k0_off1542 v5393) a + S1x768.size a ≤ S50257x768.size a := fun v5393 k0_hw771 => k0_hw771

def k0_off1543 (i : grid0.Coords) : Fin 1 → Nat :=
  let arg0 : BitVec 32 := BitVec.ofNat 32 (i 0).val
  let c512_i32 : BitVec 32 := 512#32
  let v0 : BitVec 32 := Scalar.muli arg0 c512_i32
  let c259_i32_2572 : BitVec 32 := 259#32
  let v5398 : BitVec 32 := Scalar.addi v0 c259_i32_2572
  let v5399 : Index := Scalar.indexCast v5398
  ![v5399.toNat]
def k0_off1544 (v5400 : BitVec 32) : Fin 2 → Nat :=
  let c0_i32_2575 : BitVec 32 := 0#32
  ![v5400.toNat, 0]

def k0_chk772 (v5400 : BitVec 32) : Prop :=
  (∀ a, (k0_off1544 v5400) a + S1x768.size a ≤ S50257x768.size a)
theorem k0_off1544_inb : ∀ (v5400 : BitVec 32) (k0_hw772 : k0_chk772 v5400), ∀ a, (k0_off1544 v5400) a + S1x768.size a ≤ S50257x768.size a := fun v5400 k0_hw772 => k0_hw772

def k0_off1545 (i : grid0.Coords) : Fin 1 → Nat :=
  let arg0 : BitVec 32 := BitVec.ofNat 32 (i 0).val
  let c512_i32 : BitVec 32 := 512#32
  let v0 : BitVec 32 := Scalar.muli arg0 c512_i32
  let c260_i32_2576 : BitVec 32 := 260#32
  let v5405 : BitVec 32 := Scalar.addi v0 c260_i32_2576
  let v5406 : Index := Scalar.indexCast v5405
  ![v5406.toNat]
def k0_off1546 (v5407 : BitVec 32) : Fin 2 → Nat :=
  let c0_i32_2579 : BitVec 32 := 0#32
  ![v5407.toNat, 0]

def k0_chk773 (v5407 : BitVec 32) : Prop :=
  (∀ a, (k0_off1546 v5407) a + S1x768.size a ≤ S50257x768.size a)
theorem k0_off1546_inb : ∀ (v5407 : BitVec 32) (k0_hw773 : k0_chk773 v5407), ∀ a, (k0_off1546 v5407) a + S1x768.size a ≤ S50257x768.size a := fun v5407 k0_hw773 => k0_hw773

def k0_off1547 (i : grid0.Coords) : Fin 1 → Nat :=
  let arg0 : BitVec 32 := BitVec.ofNat 32 (i 0).val
  let c512_i32 : BitVec 32 := 512#32
  let v0 : BitVec 32 := Scalar.muli arg0 c512_i32
  let c261_i32_2580 : BitVec 32 := 261#32
  let v5412 : BitVec 32 := Scalar.addi v0 c261_i32_2580
  let v5413 : Index := Scalar.indexCast v5412
  ![v5413.toNat]
def k0_off1548 (v5414 : BitVec 32) : Fin 2 → Nat :=
  let c0_i32_2583 : BitVec 32 := 0#32
  ![v5414.toNat, 0]

def k0_chk774 (v5414 : BitVec 32) : Prop :=
  (∀ a, (k0_off1548 v5414) a + S1x768.size a ≤ S50257x768.size a)
theorem k0_off1548_inb : ∀ (v5414 : BitVec 32) (k0_hw774 : k0_chk774 v5414), ∀ a, (k0_off1548 v5414) a + S1x768.size a ≤ S50257x768.size a := fun v5414 k0_hw774 => k0_hw774

def k0_off1549 (i : grid0.Coords) : Fin 1 → Nat :=
  let arg0 : BitVec 32 := BitVec.ofNat 32 (i 0).val
  let c512_i32 : BitVec 32 := 512#32
  let v0 : BitVec 32 := Scalar.muli arg0 c512_i32
  let c262_i32_2584 : BitVec 32 := 262#32
  let v5419 : BitVec 32 := Scalar.addi v0 c262_i32_2584
  let v5420 : Index := Scalar.indexCast v5419
  ![v5420.toNat]
def k0_off1550 (v5421 : BitVec 32) : Fin 2 → Nat :=
  let c0_i32_2587 : BitVec 32 := 0#32
  ![v5421.toNat, 0]

def k0_chk775 (v5421 : BitVec 32) : Prop :=
  (∀ a, (k0_off1550 v5421) a + S1x768.size a ≤ S50257x768.size a)
theorem k0_off1550_inb : ∀ (v5421 : BitVec 32) (k0_hw775 : k0_chk775 v5421), ∀ a, (k0_off1550 v5421) a + S1x768.size a ≤ S50257x768.size a := fun v5421 k0_hw775 => k0_hw775

def k0_off1551 (i : grid0.Coords) : Fin 1 → Nat :=
  let arg0 : BitVec 32 := BitVec.ofNat 32 (i 0).val
  let c512_i32 : BitVec 32 := 512#32
  let v0 : BitVec 32 := Scalar.muli arg0 c512_i32
  let c263_i32_2588 : BitVec 32 := 263#32
  let v5426 : BitVec 32 := Scalar.addi v0 c263_i32_2588
  let v5427 : Index := Scalar.indexCast v5426
  ![v5427.toNat]
def k0_off1552 (v5428 : BitVec 32) : Fin 2 → Nat :=
  let c0_i32_2591 : BitVec 32 := 0#32
  ![v5428.toNat, 0]

def k0_chk776 (v5428 : BitVec 32) : Prop :=
  (∀ a, (k0_off1552 v5428) a + S1x768.size a ≤ S50257x768.size a)
theorem k0_off1552_inb : ∀ (v5428 : BitVec 32) (k0_hw776 : k0_chk776 v5428), ∀ a, (k0_off1552 v5428) a + S1x768.size a ≤ S50257x768.size a := fun v5428 k0_hw776 => k0_hw776

def k0_off1553 (i : grid0.Coords) : Fin 1 → Nat :=
  let arg0 : BitVec 32 := BitVec.ofNat 32 (i 0).val
  let c512_i32 : BitVec 32 := 512#32
  let v0 : BitVec 32 := Scalar.muli arg0 c512_i32
  let c264_i32_2592 : BitVec 32 := 264#32
  let v5433 : BitVec 32 := Scalar.addi v0 c264_i32_2592
  let v5434 : Index := Scalar.indexCast v5433
  ![v5434.toNat]
def k0_off1554 (v5435 : BitVec 32) : Fin 2 → Nat :=
  let c0_i32_2595 : BitVec 32 := 0#32
  ![v5435.toNat, 0]

def k0_chk777 (v5435 : BitVec 32) : Prop :=
  (∀ a, (k0_off1554 v5435) a + S1x768.size a ≤ S50257x768.size a)
theorem k0_off1554_inb : ∀ (v5435 : BitVec 32) (k0_hw777 : k0_chk777 v5435), ∀ a, (k0_off1554 v5435) a + S1x768.size a ≤ S50257x768.size a := fun v5435 k0_hw777 => k0_hw777

def k0_off1555 (i : grid0.Coords) : Fin 1 → Nat :=
  let arg0 : BitVec 32 := BitVec.ofNat 32 (i 0).val
  let c512_i32 : BitVec 32 := 512#32
  let v0 : BitVec 32 := Scalar.muli arg0 c512_i32
  let c265_i32_2596 : BitVec 32 := 265#32
  let v5440 : BitVec 32 := Scalar.addi v0 c265_i32_2596
  let v5441 : Index := Scalar.indexCast v5440
  ![v5441.toNat]
def k0_off1556 (v5442 : BitVec 32) : Fin 2 → Nat :=
  let c0_i32_2599 : BitVec 32 := 0#32
  ![v5442.toNat, 0]

def k0_chk778 (v5442 : BitVec 32) : Prop :=
  (∀ a, (k0_off1556 v5442) a + S1x768.size a ≤ S50257x768.size a)
theorem k0_off1556_inb : ∀ (v5442 : BitVec 32) (k0_hw778 : k0_chk778 v5442), ∀ a, (k0_off1556 v5442) a + S1x768.size a ≤ S50257x768.size a := fun v5442 k0_hw778 => k0_hw778

def k0_off1557 (i : grid0.Coords) : Fin 1 → Nat :=
  let arg0 : BitVec 32 := BitVec.ofNat 32 (i 0).val
  let c512_i32 : BitVec 32 := 512#32
  let v0 : BitVec 32 := Scalar.muli arg0 c512_i32
  let c266_i32_2600 : BitVec 32 := 266#32
  let v5447 : BitVec 32 := Scalar.addi v0 c266_i32_2600
  let v5448 : Index := Scalar.indexCast v5447
  ![v5448.toNat]
def k0_off1558 (v5449 : BitVec 32) : Fin 2 → Nat :=
  let c0_i32_2603 : BitVec 32 := 0#32
  ![v5449.toNat, 0]

def k0_chk779 (v5449 : BitVec 32) : Prop :=
  (∀ a, (k0_off1558 v5449) a + S1x768.size a ≤ S50257x768.size a)
theorem k0_off1558_inb : ∀ (v5449 : BitVec 32) (k0_hw779 : k0_chk779 v5449), ∀ a, (k0_off1558 v5449) a + S1x768.size a ≤ S50257x768.size a := fun v5449 k0_hw779 => k0_hw779

def k0_off1559 (i : grid0.Coords) : Fin 1 → Nat :=
  let arg0 : BitVec 32 := BitVec.ofNat 32 (i 0).val
  let c512_i32 : BitVec 32 := 512#32
  let v0 : BitVec 32 := Scalar.muli arg0 c512_i32
  let c267_i32_2604 : BitVec 32 := 267#32
  let v5454 : BitVec 32 := Scalar.addi v0 c267_i32_2604
  let v5455 : Index := Scalar.indexCast v5454
  ![v5455.toNat]
def k0_off1560 (v5456 : BitVec 32) : Fin 2 → Nat :=
  let c0_i32_2607 : BitVec 32 := 0#32
  ![v5456.toNat, 0]

def k0_chk780 (v5456 : BitVec 32) : Prop :=
  (∀ a, (k0_off1560 v5456) a + S1x768.size a ≤ S50257x768.size a)
theorem k0_off1560_inb : ∀ (v5456 : BitVec 32) (k0_hw780 : k0_chk780 v5456), ∀ a, (k0_off1560 v5456) a + S1x768.size a ≤ S50257x768.size a := fun v5456 k0_hw780 => k0_hw780

def k0_off1561 (i : grid0.Coords) : Fin 1 → Nat :=
  let arg0 : BitVec 32 := BitVec.ofNat 32 (i 0).val
  let c512_i32 : BitVec 32 := 512#32
  let v0 : BitVec 32 := Scalar.muli arg0 c512_i32
  let c268_i32_2608 : BitVec 32 := 268#32
  let v5461 : BitVec 32 := Scalar.addi v0 c268_i32_2608
  let v5462 : Index := Scalar.indexCast v5461
  ![v5462.toNat]
def k0_off1562 (v5463 : BitVec 32) : Fin 2 → Nat :=
  let c0_i32_2611 : BitVec 32 := 0#32
  ![v5463.toNat, 0]

def k0_chk781 (v5463 : BitVec 32) : Prop :=
  (∀ a, (k0_off1562 v5463) a + S1x768.size a ≤ S50257x768.size a)
theorem k0_off1562_inb : ∀ (v5463 : BitVec 32) (k0_hw781 : k0_chk781 v5463), ∀ a, (k0_off1562 v5463) a + S1x768.size a ≤ S50257x768.size a := fun v5463 k0_hw781 => k0_hw781

def k0_off1563 (i : grid0.Coords) : Fin 1 → Nat :=
  let arg0 : BitVec 32 := BitVec.ofNat 32 (i 0).val
  let c512_i32 : BitVec 32 := 512#32
  let v0 : BitVec 32 := Scalar.muli arg0 c512_i32
  let c269_i32_2612 : BitVec 32 := 269#32
  let v5468 : BitVec 32 := Scalar.addi v0 c269_i32_2612
  let v5469 : Index := Scalar.indexCast v5468
  ![v5469.toNat]
def k0_off1564 (v5470 : BitVec 32) : Fin 2 → Nat :=
  let c0_i32_2615 : BitVec 32 := 0#32
  ![v5470.toNat, 0]

def k0_chk782 (v5470 : BitVec 32) : Prop :=
  (∀ a, (k0_off1564 v5470) a + S1x768.size a ≤ S50257x768.size a)
theorem k0_off1564_inb : ∀ (v5470 : BitVec 32) (k0_hw782 : k0_chk782 v5470), ∀ a, (k0_off1564 v5470) a + S1x768.size a ≤ S50257x768.size a := fun v5470 k0_hw782 => k0_hw782

def k0_off1565 (i : grid0.Coords) : Fin 1 → Nat :=
  let arg0 : BitVec 32 := BitVec.ofNat 32 (i 0).val
  let c512_i32 : BitVec 32 := 512#32
  let v0 : BitVec 32 := Scalar.muli arg0 c512_i32
  let c270_i32_2616 : BitVec 32 := 270#32
  let v5475 : BitVec 32 := Scalar.addi v0 c270_i32_2616
  let v5476 : Index := Scalar.indexCast v5475
  ![v5476.toNat]
def k0_off1566 (v5477 : BitVec 32) : Fin 2 → Nat :=
  let c0_i32_2619 : BitVec 32 := 0#32
  ![v5477.toNat, 0]

def k0_chk783 (v5477 : BitVec 32) : Prop :=
  (∀ a, (k0_off1566 v5477) a + S1x768.size a ≤ S50257x768.size a)
theorem k0_off1566_inb : ∀ (v5477 : BitVec 32) (k0_hw783 : k0_chk783 v5477), ∀ a, (k0_off1566 v5477) a + S1x768.size a ≤ S50257x768.size a := fun v5477 k0_hw783 => k0_hw783

def k0_off1567 (i : grid0.Coords) : Fin 1 → Nat :=
  let arg0 : BitVec 32 := BitVec.ofNat 32 (i 0).val
  let c512_i32 : BitVec 32 := 512#32
  let v0 : BitVec 32 := Scalar.muli arg0 c512_i32
  let c271_i32_2620 : BitVec 32 := 271#32
  let v5482 : BitVec 32 := Scalar.addi v0 c271_i32_2620
  let v5483 : Index := Scalar.indexCast v5482
  ![v5483.toNat]
def k0_off1568 (v5484 : BitVec 32) : Fin 2 → Nat :=
  let c0_i32_2623 : BitVec 32 := 0#32
  ![v5484.toNat, 0]

def k0_chk784 (v5484 : BitVec 32) : Prop :=
  (∀ a, (k0_off1568 v5484) a + S1x768.size a ≤ S50257x768.size a)
theorem k0_off1568_inb : ∀ (v5484 : BitVec 32) (k0_hw784 : k0_chk784 v5484), ∀ a, (k0_off1568 v5484) a + S1x768.size a ≤ S50257x768.size a := fun v5484 k0_hw784 => k0_hw784

def k0_off1569 (i : grid0.Coords) : Fin 1 → Nat :=
  let arg0 : BitVec 32 := BitVec.ofNat 32 (i 0).val
  let c512_i32 : BitVec 32 := 512#32
  let v0 : BitVec 32 := Scalar.muli arg0 c512_i32
  let c272_i32_2624 : BitVec 32 := 272#32
  let v5489 : BitVec 32 := Scalar.addi v0 c272_i32_2624
  let v5490 : Index := Scalar.indexCast v5489
  ![v5490.toNat]
def k0_off1570 (v5491 : BitVec 32) : Fin 2 → Nat :=
  let c0_i32_2627 : BitVec 32 := 0#32
  ![v5491.toNat, 0]

def k0_chk785 (v5491 : BitVec 32) : Prop :=
  (∀ a, (k0_off1570 v5491) a + S1x768.size a ≤ S50257x768.size a)
theorem k0_off1570_inb : ∀ (v5491 : BitVec 32) (k0_hw785 : k0_chk785 v5491), ∀ a, (k0_off1570 v5491) a + S1x768.size a ≤ S50257x768.size a := fun v5491 k0_hw785 => k0_hw785

def k0_off1571 (i : grid0.Coords) : Fin 1 → Nat :=
  let arg0 : BitVec 32 := BitVec.ofNat 32 (i 0).val
  let c512_i32 : BitVec 32 := 512#32
  let v0 : BitVec 32 := Scalar.muli arg0 c512_i32
  let c273_i32_2628 : BitVec 32 := 273#32
  let v5496 : BitVec 32 := Scalar.addi v0 c273_i32_2628
  let v5497 : Index := Scalar.indexCast v5496
  ![v5497.toNat]
def k0_off1572 (v5498 : BitVec 32) : Fin 2 → Nat :=
  let c0_i32_2631 : BitVec 32 := 0#32
  ![v5498.toNat, 0]

def k0_chk786 (v5498 : BitVec 32) : Prop :=
  (∀ a, (k0_off1572 v5498) a + S1x768.size a ≤ S50257x768.size a)
theorem k0_off1572_inb : ∀ (v5498 : BitVec 32) (k0_hw786 : k0_chk786 v5498), ∀ a, (k0_off1572 v5498) a + S1x768.size a ≤ S50257x768.size a := fun v5498 k0_hw786 => k0_hw786

def k0_off1573 (i : grid0.Coords) : Fin 1 → Nat :=
  let arg0 : BitVec 32 := BitVec.ofNat 32 (i 0).val
  let c512_i32 : BitVec 32 := 512#32
  let v0 : BitVec 32 := Scalar.muli arg0 c512_i32
  let c274_i32_2632 : BitVec 32 := 274#32
  let v5503 : BitVec 32 := Scalar.addi v0 c274_i32_2632
  let v5504 : Index := Scalar.indexCast v5503
  ![v5504.toNat]
def k0_off1574 (v5505 : BitVec 32) : Fin 2 → Nat :=
  let c0_i32_2635 : BitVec 32 := 0#32
  ![v5505.toNat, 0]

def k0_chk787 (v5505 : BitVec 32) : Prop :=
  (∀ a, (k0_off1574 v5505) a + S1x768.size a ≤ S50257x768.size a)
theorem k0_off1574_inb : ∀ (v5505 : BitVec 32) (k0_hw787 : k0_chk787 v5505), ∀ a, (k0_off1574 v5505) a + S1x768.size a ≤ S50257x768.size a := fun v5505 k0_hw787 => k0_hw787

def k0_off1575 (i : grid0.Coords) : Fin 1 → Nat :=
  let arg0 : BitVec 32 := BitVec.ofNat 32 (i 0).val
  let c512_i32 : BitVec 32 := 512#32
  let v0 : BitVec 32 := Scalar.muli arg0 c512_i32
  let c275_i32_2636 : BitVec 32 := 275#32
  let v5510 : BitVec 32 := Scalar.addi v0 c275_i32_2636
  let v5511 : Index := Scalar.indexCast v5510
  ![v5511.toNat]
def k0_off1576 (v5512 : BitVec 32) : Fin 2 → Nat :=
  let c0_i32_2639 : BitVec 32 := 0#32
  ![v5512.toNat, 0]

def k0_chk788 (v5512 : BitVec 32) : Prop :=
  (∀ a, (k0_off1576 v5512) a + S1x768.size a ≤ S50257x768.size a)
theorem k0_off1576_inb : ∀ (v5512 : BitVec 32) (k0_hw788 : k0_chk788 v5512), ∀ a, (k0_off1576 v5512) a + S1x768.size a ≤ S50257x768.size a := fun v5512 k0_hw788 => k0_hw788

def k0_off1577 (i : grid0.Coords) : Fin 1 → Nat :=
  let arg0 : BitVec 32 := BitVec.ofNat 32 (i 0).val
  let c512_i32 : BitVec 32 := 512#32
  let v0 : BitVec 32 := Scalar.muli arg0 c512_i32
  let c276_i32_2640 : BitVec 32 := 276#32
  let v5517 : BitVec 32 := Scalar.addi v0 c276_i32_2640
  let v5518 : Index := Scalar.indexCast v5517
  ![v5518.toNat]
def k0_off1578 (v5519 : BitVec 32) : Fin 2 → Nat :=
  let c0_i32_2643 : BitVec 32 := 0#32
  ![v5519.toNat, 0]

def k0_chk789 (v5519 : BitVec 32) : Prop :=
  (∀ a, (k0_off1578 v5519) a + S1x768.size a ≤ S50257x768.size a)
theorem k0_off1578_inb : ∀ (v5519 : BitVec 32) (k0_hw789 : k0_chk789 v5519), ∀ a, (k0_off1578 v5519) a + S1x768.size a ≤ S50257x768.size a := fun v5519 k0_hw789 => k0_hw789

def k0_off1579 (i : grid0.Coords) : Fin 1 → Nat :=
  let arg0 : BitVec 32 := BitVec.ofNat 32 (i 0).val
  let c512_i32 : BitVec 32 := 512#32
  let v0 : BitVec 32 := Scalar.muli arg0 c512_i32
  let c277_i32_2644 : BitVec 32 := 277#32
  let v5524 : BitVec 32 := Scalar.addi v0 c277_i32_2644
  let v5525 : Index := Scalar.indexCast v5524
  ![v5525.toNat]
def k0_off1580 (v5526 : BitVec 32) : Fin 2 → Nat :=
  let c0_i32_2647 : BitVec 32 := 0#32
  ![v5526.toNat, 0]

def k0_chk790 (v5526 : BitVec 32) : Prop :=
  (∀ a, (k0_off1580 v5526) a + S1x768.size a ≤ S50257x768.size a)
theorem k0_off1580_inb : ∀ (v5526 : BitVec 32) (k0_hw790 : k0_chk790 v5526), ∀ a, (k0_off1580 v5526) a + S1x768.size a ≤ S50257x768.size a := fun v5526 k0_hw790 => k0_hw790

def k0_off1581 (i : grid0.Coords) : Fin 1 → Nat :=
  let arg0 : BitVec 32 := BitVec.ofNat 32 (i 0).val
  let c512_i32 : BitVec 32 := 512#32
  let v0 : BitVec 32 := Scalar.muli arg0 c512_i32
  let c278_i32_2648 : BitVec 32 := 278#32
  let v5531 : BitVec 32 := Scalar.addi v0 c278_i32_2648
  let v5532 : Index := Scalar.indexCast v5531
  ![v5532.toNat]
def k0_off1582 (v5533 : BitVec 32) : Fin 2 → Nat :=
  let c0_i32_2651 : BitVec 32 := 0#32
  ![v5533.toNat, 0]

def k0_chk791 (v5533 : BitVec 32) : Prop :=
  (∀ a, (k0_off1582 v5533) a + S1x768.size a ≤ S50257x768.size a)
theorem k0_off1582_inb : ∀ (v5533 : BitVec 32) (k0_hw791 : k0_chk791 v5533), ∀ a, (k0_off1582 v5533) a + S1x768.size a ≤ S50257x768.size a := fun v5533 k0_hw791 => k0_hw791

def k0_off1583 (i : grid0.Coords) : Fin 1 → Nat :=
  let arg0 : BitVec 32 := BitVec.ofNat 32 (i 0).val
  let c512_i32 : BitVec 32 := 512#32
  let v0 : BitVec 32 := Scalar.muli arg0 c512_i32
  let c279_i32_2652 : BitVec 32 := 279#32
  let v5538 : BitVec 32 := Scalar.addi v0 c279_i32_2652
  let v5539 : Index := Scalar.indexCast v5538
  ![v5539.toNat]
def k0_off1584 (v5540 : BitVec 32) : Fin 2 → Nat :=
  let c0_i32_2655 : BitVec 32 := 0#32
  ![v5540.toNat, 0]

def k0_chk792 (v5540 : BitVec 32) : Prop :=
  (∀ a, (k0_off1584 v5540) a + S1x768.size a ≤ S50257x768.size a)
theorem k0_off1584_inb : ∀ (v5540 : BitVec 32) (k0_hw792 : k0_chk792 v5540), ∀ a, (k0_off1584 v5540) a + S1x768.size a ≤ S50257x768.size a := fun v5540 k0_hw792 => k0_hw792

def k0_off1585 (i : grid0.Coords) : Fin 1 → Nat :=
  let arg0 : BitVec 32 := BitVec.ofNat 32 (i 0).val
  let c512_i32 : BitVec 32 := 512#32
  let v0 : BitVec 32 := Scalar.muli arg0 c512_i32
  let c280_i32_2656 : BitVec 32 := 280#32
  let v5545 : BitVec 32 := Scalar.addi v0 c280_i32_2656
  let v5546 : Index := Scalar.indexCast v5545
  ![v5546.toNat]
def k0_off1586 (v5547 : BitVec 32) : Fin 2 → Nat :=
  let c0_i32_2659 : BitVec 32 := 0#32
  ![v5547.toNat, 0]

def k0_chk793 (v5547 : BitVec 32) : Prop :=
  (∀ a, (k0_off1586 v5547) a + S1x768.size a ≤ S50257x768.size a)
theorem k0_off1586_inb : ∀ (v5547 : BitVec 32) (k0_hw793 : k0_chk793 v5547), ∀ a, (k0_off1586 v5547) a + S1x768.size a ≤ S50257x768.size a := fun v5547 k0_hw793 => k0_hw793

def k0_off1587 (i : grid0.Coords) : Fin 1 → Nat :=
  let arg0 : BitVec 32 := BitVec.ofNat 32 (i 0).val
  let c512_i32 : BitVec 32 := 512#32
  let v0 : BitVec 32 := Scalar.muli arg0 c512_i32
  let c281_i32_2660 : BitVec 32 := 281#32
  let v5552 : BitVec 32 := Scalar.addi v0 c281_i32_2660
  let v5553 : Index := Scalar.indexCast v5552
  ![v5553.toNat]
def k0_off1588 (v5554 : BitVec 32) : Fin 2 → Nat :=
  let c0_i32_2663 : BitVec 32 := 0#32
  ![v5554.toNat, 0]

def k0_chk794 (v5554 : BitVec 32) : Prop :=
  (∀ a, (k0_off1588 v5554) a + S1x768.size a ≤ S50257x768.size a)
theorem k0_off1588_inb : ∀ (v5554 : BitVec 32) (k0_hw794 : k0_chk794 v5554), ∀ a, (k0_off1588 v5554) a + S1x768.size a ≤ S50257x768.size a := fun v5554 k0_hw794 => k0_hw794

def k0_off1589 (i : grid0.Coords) : Fin 1 → Nat :=
  let arg0 : BitVec 32 := BitVec.ofNat 32 (i 0).val
  let c512_i32 : BitVec 32 := 512#32
  let v0 : BitVec 32 := Scalar.muli arg0 c512_i32
  let c282_i32_2664 : BitVec 32 := 282#32
  let v5559 : BitVec 32 := Scalar.addi v0 c282_i32_2664
  let v5560 : Index := Scalar.indexCast v5559
  ![v5560.toNat]
def k0_off1590 (v5561 : BitVec 32) : Fin 2 → Nat :=
  let c0_i32_2667 : BitVec 32 := 0#32
  ![v5561.toNat, 0]

def k0_chk795 (v5561 : BitVec 32) : Prop :=
  (∀ a, (k0_off1590 v5561) a + S1x768.size a ≤ S50257x768.size a)
theorem k0_off1590_inb : ∀ (v5561 : BitVec 32) (k0_hw795 : k0_chk795 v5561), ∀ a, (k0_off1590 v5561) a + S1x768.size a ≤ S50257x768.size a := fun v5561 k0_hw795 => k0_hw795

def k0_off1591 (i : grid0.Coords) : Fin 1 → Nat :=
  let arg0 : BitVec 32 := BitVec.ofNat 32 (i 0).val
  let c512_i32 : BitVec 32 := 512#32
  let v0 : BitVec 32 := Scalar.muli arg0 c512_i32
  let c283_i32_2668 : BitVec 32 := 283#32
  let v5566 : BitVec 32 := Scalar.addi v0 c283_i32_2668
  let v5567 : Index := Scalar.indexCast v5566
  ![v5567.toNat]
def k0_off1592 (v5568 : BitVec 32) : Fin 2 → Nat :=
  let c0_i32_2671 : BitVec 32 := 0#32
  ![v5568.toNat, 0]

def k0_chk796 (v5568 : BitVec 32) : Prop :=
  (∀ a, (k0_off1592 v5568) a + S1x768.size a ≤ S50257x768.size a)
theorem k0_off1592_inb : ∀ (v5568 : BitVec 32) (k0_hw796 : k0_chk796 v5568), ∀ a, (k0_off1592 v5568) a + S1x768.size a ≤ S50257x768.size a := fun v5568 k0_hw796 => k0_hw796

def k0_off1593 (i : grid0.Coords) : Fin 1 → Nat :=
  let arg0 : BitVec 32 := BitVec.ofNat 32 (i 0).val
  let c512_i32 : BitVec 32 := 512#32
  let v0 : BitVec 32 := Scalar.muli arg0 c512_i32
  let c284_i32_2672 : BitVec 32 := 284#32
  let v5573 : BitVec 32 := Scalar.addi v0 c284_i32_2672
  let v5574 : Index := Scalar.indexCast v5573
  ![v5574.toNat]
def k0_off1594 (v5575 : BitVec 32) : Fin 2 → Nat :=
  let c0_i32_2675 : BitVec 32 := 0#32
  ![v5575.toNat, 0]

def k0_chk797 (v5575 : BitVec 32) : Prop :=
  (∀ a, (k0_off1594 v5575) a + S1x768.size a ≤ S50257x768.size a)
theorem k0_off1594_inb : ∀ (v5575 : BitVec 32) (k0_hw797 : k0_chk797 v5575), ∀ a, (k0_off1594 v5575) a + S1x768.size a ≤ S50257x768.size a := fun v5575 k0_hw797 => k0_hw797

def k0_off1595 (i : grid0.Coords) : Fin 1 → Nat :=
  let arg0 : BitVec 32 := BitVec.ofNat 32 (i 0).val
  let c512_i32 : BitVec 32 := 512#32
  let v0 : BitVec 32 := Scalar.muli arg0 c512_i32
  let c285_i32_2676 : BitVec 32 := 285#32
  let v5580 : BitVec 32 := Scalar.addi v0 c285_i32_2676
  let v5581 : Index := Scalar.indexCast v5580
  ![v5581.toNat]
def k0_off1596 (v5582 : BitVec 32) : Fin 2 → Nat :=
  let c0_i32_2679 : BitVec 32 := 0#32
  ![v5582.toNat, 0]

def k0_chk798 (v5582 : BitVec 32) : Prop :=
  (∀ a, (k0_off1596 v5582) a + S1x768.size a ≤ S50257x768.size a)
theorem k0_off1596_inb : ∀ (v5582 : BitVec 32) (k0_hw798 : k0_chk798 v5582), ∀ a, (k0_off1596 v5582) a + S1x768.size a ≤ S50257x768.size a := fun v5582 k0_hw798 => k0_hw798

def k0_off1597 (i : grid0.Coords) : Fin 1 → Nat :=
  let arg0 : BitVec 32 := BitVec.ofNat 32 (i 0).val
  let c512_i32 : BitVec 32 := 512#32
  let v0 : BitVec 32 := Scalar.muli arg0 c512_i32
  let c286_i32_2680 : BitVec 32 := 286#32
  let v5587 : BitVec 32 := Scalar.addi v0 c286_i32_2680
  let v5588 : Index := Scalar.indexCast v5587
  ![v5588.toNat]
def k0_off1598 (v5589 : BitVec 32) : Fin 2 → Nat :=
  let c0_i32_2683 : BitVec 32 := 0#32
  ![v5589.toNat, 0]

def k0_chk799 (v5589 : BitVec 32) : Prop :=
  (∀ a, (k0_off1598 v5589) a + S1x768.size a ≤ S50257x768.size a)
theorem k0_off1598_inb : ∀ (v5589 : BitVec 32) (k0_hw799 : k0_chk799 v5589), ∀ a, (k0_off1598 v5589) a + S1x768.size a ≤ S50257x768.size a := fun v5589 k0_hw799 => k0_hw799

def k0_off1599 (i : grid0.Coords) : Fin 1 → Nat :=
  let arg0 : BitVec 32 := BitVec.ofNat 32 (i 0).val
  let c512_i32 : BitVec 32 := 512#32
  let v0 : BitVec 32 := Scalar.muli arg0 c512_i32
  let c287_i32_2684 : BitVec 32 := 287#32
  let v5594 : BitVec 32 := Scalar.addi v0 c287_i32_2684
  let v5595 : Index := Scalar.indexCast v5594
  ![v5595.toNat]
def k0_off1600 (v5596 : BitVec 32) : Fin 2 → Nat :=
  let c0_i32_2687 : BitVec 32 := 0#32
  ![v5596.toNat, 0]

def k0_chk800 (v5596 : BitVec 32) : Prop :=
  (∀ a, (k0_off1600 v5596) a + S1x768.size a ≤ S50257x768.size a)
theorem k0_off1600_inb : ∀ (v5596 : BitVec 32) (k0_hw800 : k0_chk800 v5596), ∀ a, (k0_off1600 v5596) a + S1x768.size a ≤ S50257x768.size a := fun v5596 k0_hw800 => k0_hw800

def k0_off1601 (i : grid0.Coords) : Fin 1 → Nat :=
  let arg0 : BitVec 32 := BitVec.ofNat 32 (i 0).val
  let c512_i32 : BitVec 32 := 512#32
  let v0 : BitVec 32 := Scalar.muli arg0 c512_i32
  let c288_i32_2688 : BitVec 32 := 288#32
  let v5601 : BitVec 32 := Scalar.addi v0 c288_i32_2688
  let v5602 : Index := Scalar.indexCast v5601
  ![v5602.toNat]
def k0_off1602 (v5603 : BitVec 32) : Fin 2 → Nat :=
  let c0_i32_2691 : BitVec 32 := 0#32
  ![v5603.toNat, 0]

def k0_chk801 (v5603 : BitVec 32) : Prop :=
  (∀ a, (k0_off1602 v5603) a + S1x768.size a ≤ S50257x768.size a)
theorem k0_off1602_inb : ∀ (v5603 : BitVec 32) (k0_hw801 : k0_chk801 v5603), ∀ a, (k0_off1602 v5603) a + S1x768.size a ≤ S50257x768.size a := fun v5603 k0_hw801 => k0_hw801

def k0_off1603 (i : grid0.Coords) : Fin 1 → Nat :=
  let arg0 : BitVec 32 := BitVec.ofNat 32 (i 0).val
  let c512_i32 : BitVec 32 := 512#32
  let v0 : BitVec 32 := Scalar.muli arg0 c512_i32
  let c289_i32_2692 : BitVec 32 := 289#32
  let v5608 : BitVec 32 := Scalar.addi v0 c289_i32_2692
  let v5609 : Index := Scalar.indexCast v5608
  ![v5609.toNat]
def k0_off1604 (v5610 : BitVec 32) : Fin 2 → Nat :=
  let c0_i32_2695 : BitVec 32 := 0#32
  ![v5610.toNat, 0]

def k0_chk802 (v5610 : BitVec 32) : Prop :=
  (∀ a, (k0_off1604 v5610) a + S1x768.size a ≤ S50257x768.size a)
theorem k0_off1604_inb : ∀ (v5610 : BitVec 32) (k0_hw802 : k0_chk802 v5610), ∀ a, (k0_off1604 v5610) a + S1x768.size a ≤ S50257x768.size a := fun v5610 k0_hw802 => k0_hw802

def k0_off1605 (i : grid0.Coords) : Fin 1 → Nat :=
  let arg0 : BitVec 32 := BitVec.ofNat 32 (i 0).val
  let c512_i32 : BitVec 32 := 512#32
  let v0 : BitVec 32 := Scalar.muli arg0 c512_i32
  let c290_i32_2696 : BitVec 32 := 290#32
  let v5615 : BitVec 32 := Scalar.addi v0 c290_i32_2696
  let v5616 : Index := Scalar.indexCast v5615
  ![v5616.toNat]
def k0_off1606 (v5617 : BitVec 32) : Fin 2 → Nat :=
  let c0_i32_2699 : BitVec 32 := 0#32
  ![v5617.toNat, 0]

def k0_chk803 (v5617 : BitVec 32) : Prop :=
  (∀ a, (k0_off1606 v5617) a + S1x768.size a ≤ S50257x768.size a)
theorem k0_off1606_inb : ∀ (v5617 : BitVec 32) (k0_hw803 : k0_chk803 v5617), ∀ a, (k0_off1606 v5617) a + S1x768.size a ≤ S50257x768.size a := fun v5617 k0_hw803 => k0_hw803

def k0_off1607 (i : grid0.Coords) : Fin 1 → Nat :=
  let arg0 : BitVec 32 := BitVec.ofNat 32 (i 0).val
  let c512_i32 : BitVec 32 := 512#32
  let v0 : BitVec 32 := Scalar.muli arg0 c512_i32
  let c291_i32_2700 : BitVec 32 := 291#32
  let v5622 : BitVec 32 := Scalar.addi v0 c291_i32_2700
  let v5623 : Index := Scalar.indexCast v5622
  ![v5623.toNat]
def k0_off1608 (v5624 : BitVec 32) : Fin 2 → Nat :=
  let c0_i32_2703 : BitVec 32 := 0#32
  ![v5624.toNat, 0]

def k0_chk804 (v5624 : BitVec 32) : Prop :=
  (∀ a, (k0_off1608 v5624) a + S1x768.size a ≤ S50257x768.size a)
theorem k0_off1608_inb : ∀ (v5624 : BitVec 32) (k0_hw804 : k0_chk804 v5624), ∀ a, (k0_off1608 v5624) a + S1x768.size a ≤ S50257x768.size a := fun v5624 k0_hw804 => k0_hw804

def k0_off1609 (i : grid0.Coords) : Fin 1 → Nat :=
  let arg0 : BitVec 32 := BitVec.ofNat 32 (i 0).val
  let c512_i32 : BitVec 32 := 512#32
  let v0 : BitVec 32 := Scalar.muli arg0 c512_i32
  let c292_i32_2704 : BitVec 32 := 292#32
  let v5629 : BitVec 32 := Scalar.addi v0 c292_i32_2704
  let v5630 : Index := Scalar.indexCast v5629
  ![v5630.toNat]
def k0_off1610 (v5631 : BitVec 32) : Fin 2 → Nat :=
  let c0_i32_2707 : BitVec 32 := 0#32
  ![v5631.toNat, 0]

def k0_chk805 (v5631 : BitVec 32) : Prop :=
  (∀ a, (k0_off1610 v5631) a + S1x768.size a ≤ S50257x768.size a)
theorem k0_off1610_inb : ∀ (v5631 : BitVec 32) (k0_hw805 : k0_chk805 v5631), ∀ a, (k0_off1610 v5631) a + S1x768.size a ≤ S50257x768.size a := fun v5631 k0_hw805 => k0_hw805

def k0_off1611 (i : grid0.Coords) : Fin 1 → Nat :=
  let arg0 : BitVec 32 := BitVec.ofNat 32 (i 0).val
  let c512_i32 : BitVec 32 := 512#32
  let v0 : BitVec 32 := Scalar.muli arg0 c512_i32
  let c293_i32_2708 : BitVec 32 := 293#32
  let v5636 : BitVec 32 := Scalar.addi v0 c293_i32_2708
  let v5637 : Index := Scalar.indexCast v5636
  ![v5637.toNat]
def k0_off1612 (v5638 : BitVec 32) : Fin 2 → Nat :=
  let c0_i32_2711 : BitVec 32 := 0#32
  ![v5638.toNat, 0]

def k0_chk806 (v5638 : BitVec 32) : Prop :=
  (∀ a, (k0_off1612 v5638) a + S1x768.size a ≤ S50257x768.size a)
theorem k0_off1612_inb : ∀ (v5638 : BitVec 32) (k0_hw806 : k0_chk806 v5638), ∀ a, (k0_off1612 v5638) a + S1x768.size a ≤ S50257x768.size a := fun v5638 k0_hw806 => k0_hw806

def k0_off1613 (i : grid0.Coords) : Fin 1 → Nat :=
  let arg0 : BitVec 32 := BitVec.ofNat 32 (i 0).val
  let c512_i32 : BitVec 32 := 512#32
  let v0 : BitVec 32 := Scalar.muli arg0 c512_i32
  let c294_i32_2712 : BitVec 32 := 294#32
  let v5643 : BitVec 32 := Scalar.addi v0 c294_i32_2712
  let v5644 : Index := Scalar.indexCast v5643
  ![v5644.toNat]
def k0_off1614 (v5645 : BitVec 32) : Fin 2 → Nat :=
  let c0_i32_2715 : BitVec 32 := 0#32
  ![v5645.toNat, 0]

def k0_chk807 (v5645 : BitVec 32) : Prop :=
  (∀ a, (k0_off1614 v5645) a + S1x768.size a ≤ S50257x768.size a)
theorem k0_off1614_inb : ∀ (v5645 : BitVec 32) (k0_hw807 : k0_chk807 v5645), ∀ a, (k0_off1614 v5645) a + S1x768.size a ≤ S50257x768.size a := fun v5645 k0_hw807 => k0_hw807

def k0_off1615 (i : grid0.Coords) : Fin 1 → Nat :=
  let arg0 : BitVec 32 := BitVec.ofNat 32 (i 0).val
  let c512_i32 : BitVec 32 := 512#32
  let v0 : BitVec 32 := Scalar.muli arg0 c512_i32
  let c295_i32_2716 : BitVec 32 := 295#32
  let v5650 : BitVec 32 := Scalar.addi v0 c295_i32_2716
  let v5651 : Index := Scalar.indexCast v5650
  ![v5651.toNat]
def k0_off1616 (v5652 : BitVec 32) : Fin 2 → Nat :=
  let c0_i32_2719 : BitVec 32 := 0#32
  ![v5652.toNat, 0]

def k0_chk808 (v5652 : BitVec 32) : Prop :=
  (∀ a, (k0_off1616 v5652) a + S1x768.size a ≤ S50257x768.size a)
theorem k0_off1616_inb : ∀ (v5652 : BitVec 32) (k0_hw808 : k0_chk808 v5652), ∀ a, (k0_off1616 v5652) a + S1x768.size a ≤ S50257x768.size a := fun v5652 k0_hw808 => k0_hw808

def k0_off1617 (i : grid0.Coords) : Fin 1 → Nat :=
  let arg0 : BitVec 32 := BitVec.ofNat 32 (i 0).val
  let c512_i32 : BitVec 32 := 512#32
  let v0 : BitVec 32 := Scalar.muli arg0 c512_i32
  let c296_i32_2720 : BitVec 32 := 296#32
  let v5657 : BitVec 32 := Scalar.addi v0 c296_i32_2720
  let v5658 : Index := Scalar.indexCast v5657
  ![v5658.toNat]
def k0_off1618 (v5659 : BitVec 32) : Fin 2 → Nat :=
  let c0_i32_2723 : BitVec 32 := 0#32
  ![v5659.toNat, 0]

def k0_chk809 (v5659 : BitVec 32) : Prop :=
  (∀ a, (k0_off1618 v5659) a + S1x768.size a ≤ S50257x768.size a)
theorem k0_off1618_inb : ∀ (v5659 : BitVec 32) (k0_hw809 : k0_chk809 v5659), ∀ a, (k0_off1618 v5659) a + S1x768.size a ≤ S50257x768.size a := fun v5659 k0_hw809 => k0_hw809

def k0_off1619 (i : grid0.Coords) : Fin 1 → Nat :=
  let arg0 : BitVec 32 := BitVec.ofNat 32 (i 0).val
  let c512_i32 : BitVec 32 := 512#32
  let v0 : BitVec 32 := Scalar.muli arg0 c512_i32
  let c297_i32_2724 : BitVec 32 := 297#32
  let v5664 : BitVec 32 := Scalar.addi v0 c297_i32_2724
  let v5665 : Index := Scalar.indexCast v5664
  ![v5665.toNat]
def k0_off1620 (v5666 : BitVec 32) : Fin 2 → Nat :=
  let c0_i32_2727 : BitVec 32 := 0#32
  ![v5666.toNat, 0]

def k0_chk810 (v5666 : BitVec 32) : Prop :=
  (∀ a, (k0_off1620 v5666) a + S1x768.size a ≤ S50257x768.size a)
theorem k0_off1620_inb : ∀ (v5666 : BitVec 32) (k0_hw810 : k0_chk810 v5666), ∀ a, (k0_off1620 v5666) a + S1x768.size a ≤ S50257x768.size a := fun v5666 k0_hw810 => k0_hw810

def k0_off1621 (i : grid0.Coords) : Fin 1 → Nat :=
  let arg0 : BitVec 32 := BitVec.ofNat 32 (i 0).val
  let c512_i32 : BitVec 32 := 512#32
  let v0 : BitVec 32 := Scalar.muli arg0 c512_i32
  let c298_i32_2728 : BitVec 32 := 298#32
  let v5671 : BitVec 32 := Scalar.addi v0 c298_i32_2728
  let v5672 : Index := Scalar.indexCast v5671
  ![v5672.toNat]
def k0_off1622 (v5673 : BitVec 32) : Fin 2 → Nat :=
  let c0_i32_2731 : BitVec 32 := 0#32
  ![v5673.toNat, 0]

def k0_chk811 (v5673 : BitVec 32) : Prop :=
  (∀ a, (k0_off1622 v5673) a + S1x768.size a ≤ S50257x768.size a)
theorem k0_off1622_inb : ∀ (v5673 : BitVec 32) (k0_hw811 : k0_chk811 v5673), ∀ a, (k0_off1622 v5673) a + S1x768.size a ≤ S50257x768.size a := fun v5673 k0_hw811 => k0_hw811

def k0_off1623 (i : grid0.Coords) : Fin 1 → Nat :=
  let arg0 : BitVec 32 := BitVec.ofNat 32 (i 0).val
  let c512_i32 : BitVec 32 := 512#32
  let v0 : BitVec 32 := Scalar.muli arg0 c512_i32
  let c299_i32_2732 : BitVec 32 := 299#32
  let v5678 : BitVec 32 := Scalar.addi v0 c299_i32_2732
  let v5679 : Index := Scalar.indexCast v5678
  ![v5679.toNat]
def k0_off1624 (v5680 : BitVec 32) : Fin 2 → Nat :=
  let c0_i32_2735 : BitVec 32 := 0#32
  ![v5680.toNat, 0]

def k0_chk812 (v5680 : BitVec 32) : Prop :=
  (∀ a, (k0_off1624 v5680) a + S1x768.size a ≤ S50257x768.size a)
theorem k0_off1624_inb : ∀ (v5680 : BitVec 32) (k0_hw812 : k0_chk812 v5680), ∀ a, (k0_off1624 v5680) a + S1x768.size a ≤ S50257x768.size a := fun v5680 k0_hw812 => k0_hw812

def k0_off1625 (i : grid0.Coords) : Fin 1 → Nat :=
  let arg0 : BitVec 32 := BitVec.ofNat 32 (i 0).val
  let c512_i32 : BitVec 32 := 512#32
  let v0 : BitVec 32 := Scalar.muli arg0 c512_i32
  let c300_i32_2736 : BitVec 32 := 300#32
  let v5685 : BitVec 32 := Scalar.addi v0 c300_i32_2736
  let v5686 : Index := Scalar.indexCast v5685
  ![v5686.toNat]
def k0_off1626 (v5687 : BitVec 32) : Fin 2 → Nat :=
  let c0_i32_2739 : BitVec 32 := 0#32
  ![v5687.toNat, 0]

def k0_chk813 (v5687 : BitVec 32) : Prop :=
  (∀ a, (k0_off1626 v5687) a + S1x768.size a ≤ S50257x768.size a)
theorem k0_off1626_inb : ∀ (v5687 : BitVec 32) (k0_hw813 : k0_chk813 v5687), ∀ a, (k0_off1626 v5687) a + S1x768.size a ≤ S50257x768.size a := fun v5687 k0_hw813 => k0_hw813

def k0_off1627 (i : grid0.Coords) : Fin 1 → Nat :=
  let arg0 : BitVec 32 := BitVec.ofNat 32 (i 0).val
  let c512_i32 : BitVec 32 := 512#32
  let v0 : BitVec 32 := Scalar.muli arg0 c512_i32
  let c301_i32_2740 : BitVec 32 := 301#32
  let v5692 : BitVec 32 := Scalar.addi v0 c301_i32_2740
  let v5693 : Index := Scalar.indexCast v5692
  ![v5693.toNat]
def k0_off1628 (v5694 : BitVec 32) : Fin 2 → Nat :=
  let c0_i32_2743 : BitVec 32 := 0#32
  ![v5694.toNat, 0]

def k0_chk814 (v5694 : BitVec 32) : Prop :=
  (∀ a, (k0_off1628 v5694) a + S1x768.size a ≤ S50257x768.size a)
theorem k0_off1628_inb : ∀ (v5694 : BitVec 32) (k0_hw814 : k0_chk814 v5694), ∀ a, (k0_off1628 v5694) a + S1x768.size a ≤ S50257x768.size a := fun v5694 k0_hw814 => k0_hw814

def k0_off1629 (i : grid0.Coords) : Fin 1 → Nat :=
  let arg0 : BitVec 32 := BitVec.ofNat 32 (i 0).val
  let c512_i32 : BitVec 32 := 512#32
  let v0 : BitVec 32 := Scalar.muli arg0 c512_i32
  let c302_i32_2744 : BitVec 32 := 302#32
  let v5699 : BitVec 32 := Scalar.addi v0 c302_i32_2744
  let v5700 : Index := Scalar.indexCast v5699
  ![v5700.toNat]
def k0_off1630 (v5701 : BitVec 32) : Fin 2 → Nat :=
  let c0_i32_2747 : BitVec 32 := 0#32
  ![v5701.toNat, 0]

def k0_chk815 (v5701 : BitVec 32) : Prop :=
  (∀ a, (k0_off1630 v5701) a + S1x768.size a ≤ S50257x768.size a)
theorem k0_off1630_inb : ∀ (v5701 : BitVec 32) (k0_hw815 : k0_chk815 v5701), ∀ a, (k0_off1630 v5701) a + S1x768.size a ≤ S50257x768.size a := fun v5701 k0_hw815 => k0_hw815

def k0_off1631 (i : grid0.Coords) : Fin 1 → Nat :=
  let arg0 : BitVec 32 := BitVec.ofNat 32 (i 0).val
  let c512_i32 : BitVec 32 := 512#32
  let v0 : BitVec 32 := Scalar.muli arg0 c512_i32
  let c303_i32_2748 : BitVec 32 := 303#32
  let v5706 : BitVec 32 := Scalar.addi v0 c303_i32_2748
  let v5707 : Index := Scalar.indexCast v5706
  ![v5707.toNat]
def k0_off1632 (v5708 : BitVec 32) : Fin 2 → Nat :=
  let c0_i32_2751 : BitVec 32 := 0#32
  ![v5708.toNat, 0]

def k0_chk816 (v5708 : BitVec 32) : Prop :=
  (∀ a, (k0_off1632 v5708) a + S1x768.size a ≤ S50257x768.size a)
theorem k0_off1632_inb : ∀ (v5708 : BitVec 32) (k0_hw816 : k0_chk816 v5708), ∀ a, (k0_off1632 v5708) a + S1x768.size a ≤ S50257x768.size a := fun v5708 k0_hw816 => k0_hw816

def k0_off1633 (i : grid0.Coords) : Fin 1 → Nat :=
  let arg0 : BitVec 32 := BitVec.ofNat 32 (i 0).val
  let c512_i32 : BitVec 32 := 512#32
  let v0 : BitVec 32 := Scalar.muli arg0 c512_i32
  let c304_i32_2752 : BitVec 32 := 304#32
  let v5713 : BitVec 32 := Scalar.addi v0 c304_i32_2752
  let v5714 : Index := Scalar.indexCast v5713
  ![v5714.toNat]
def k0_off1634 (v5715 : BitVec 32) : Fin 2 → Nat :=
  let c0_i32_2755 : BitVec 32 := 0#32
  ![v5715.toNat, 0]

def k0_chk817 (v5715 : BitVec 32) : Prop :=
  (∀ a, (k0_off1634 v5715) a + S1x768.size a ≤ S50257x768.size a)
theorem k0_off1634_inb : ∀ (v5715 : BitVec 32) (k0_hw817 : k0_chk817 v5715), ∀ a, (k0_off1634 v5715) a + S1x768.size a ≤ S50257x768.size a := fun v5715 k0_hw817 => k0_hw817

def k0_off1635 (i : grid0.Coords) : Fin 1 → Nat :=
  let arg0 : BitVec 32 := BitVec.ofNat 32 (i 0).val
  let c512_i32 : BitVec 32 := 512#32
  let v0 : BitVec 32 := Scalar.muli arg0 c512_i32
  let c305_i32_2756 : BitVec 32 := 305#32
  let v5720 : BitVec 32 := Scalar.addi v0 c305_i32_2756
  let v5721 : Index := Scalar.indexCast v5720
  ![v5721.toNat]
def k0_off1636 (v5722 : BitVec 32) : Fin 2 → Nat :=
  let c0_i32_2759 : BitVec 32 := 0#32
  ![v5722.toNat, 0]

def k0_chk818 (v5722 : BitVec 32) : Prop :=
  (∀ a, (k0_off1636 v5722) a + S1x768.size a ≤ S50257x768.size a)
theorem k0_off1636_inb : ∀ (v5722 : BitVec 32) (k0_hw818 : k0_chk818 v5722), ∀ a, (k0_off1636 v5722) a + S1x768.size a ≤ S50257x768.size a := fun v5722 k0_hw818 => k0_hw818

def k0_off1637 (i : grid0.Coords) : Fin 1 → Nat :=
  let arg0 : BitVec 32 := BitVec.ofNat 32 (i 0).val
  let c512_i32 : BitVec 32 := 512#32
  let v0 : BitVec 32 := Scalar.muli arg0 c512_i32
  let c306_i32_2760 : BitVec 32 := 306#32
  let v5727 : BitVec 32 := Scalar.addi v0 c306_i32_2760
  let v5728 : Index := Scalar.indexCast v5727
  ![v5728.toNat]
def k0_off1638 (v5729 : BitVec 32) : Fin 2 → Nat :=
  let c0_i32_2763 : BitVec 32 := 0#32
  ![v5729.toNat, 0]

def k0_chk819 (v5729 : BitVec 32) : Prop :=
  (∀ a, (k0_off1638 v5729) a + S1x768.size a ≤ S50257x768.size a)
theorem k0_off1638_inb : ∀ (v5729 : BitVec 32) (k0_hw819 : k0_chk819 v5729), ∀ a, (k0_off1638 v5729) a + S1x768.size a ≤ S50257x768.size a := fun v5729 k0_hw819 => k0_hw819

def k0_off1639 (i : grid0.Coords) : Fin 1 → Nat :=
  let arg0 : BitVec 32 := BitVec.ofNat 32 (i 0).val
  let c512_i32 : BitVec 32 := 512#32
  let v0 : BitVec 32 := Scalar.muli arg0 c512_i32
  let c307_i32_2764 : BitVec 32 := 307#32
  let v5734 : BitVec 32 := Scalar.addi v0 c307_i32_2764
  let v5735 : Index := Scalar.indexCast v5734
  ![v5735.toNat]
def k0_off1640 (v5736 : BitVec 32) : Fin 2 → Nat :=
  let c0_i32_2767 : BitVec 32 := 0#32
  ![v5736.toNat, 0]

def k0_chk820 (v5736 : BitVec 32) : Prop :=
  (∀ a, (k0_off1640 v5736) a + S1x768.size a ≤ S50257x768.size a)
theorem k0_off1640_inb : ∀ (v5736 : BitVec 32) (k0_hw820 : k0_chk820 v5736), ∀ a, (k0_off1640 v5736) a + S1x768.size a ≤ S50257x768.size a := fun v5736 k0_hw820 => k0_hw820

def k0_off1641 (i : grid0.Coords) : Fin 1 → Nat :=
  let arg0 : BitVec 32 := BitVec.ofNat 32 (i 0).val
  let c512_i32 : BitVec 32 := 512#32
  let v0 : BitVec 32 := Scalar.muli arg0 c512_i32
  let c308_i32_2768 : BitVec 32 := 308#32
  let v5741 : BitVec 32 := Scalar.addi v0 c308_i32_2768
  let v5742 : Index := Scalar.indexCast v5741
  ![v5742.toNat]
def k0_off1642 (v5743 : BitVec 32) : Fin 2 → Nat :=
  let c0_i32_2771 : BitVec 32 := 0#32
  ![v5743.toNat, 0]

def k0_chk821 (v5743 : BitVec 32) : Prop :=
  (∀ a, (k0_off1642 v5743) a + S1x768.size a ≤ S50257x768.size a)
theorem k0_off1642_inb : ∀ (v5743 : BitVec 32) (k0_hw821 : k0_chk821 v5743), ∀ a, (k0_off1642 v5743) a + S1x768.size a ≤ S50257x768.size a := fun v5743 k0_hw821 => k0_hw821

def k0_off1643 (i : grid0.Coords) : Fin 1 → Nat :=
  let arg0 : BitVec 32 := BitVec.ofNat 32 (i 0).val
  let c512_i32 : BitVec 32 := 512#32
  let v0 : BitVec 32 := Scalar.muli arg0 c512_i32
  let c309_i32_2772 : BitVec 32 := 309#32
  let v5748 : BitVec 32 := Scalar.addi v0 c309_i32_2772
  let v5749 : Index := Scalar.indexCast v5748
  ![v5749.toNat]
def k0_off1644 (v5750 : BitVec 32) : Fin 2 → Nat :=
  let c0_i32_2775 : BitVec 32 := 0#32
  ![v5750.toNat, 0]

def k0_chk822 (v5750 : BitVec 32) : Prop :=
  (∀ a, (k0_off1644 v5750) a + S1x768.size a ≤ S50257x768.size a)
theorem k0_off1644_inb : ∀ (v5750 : BitVec 32) (k0_hw822 : k0_chk822 v5750), ∀ a, (k0_off1644 v5750) a + S1x768.size a ≤ S50257x768.size a := fun v5750 k0_hw822 => k0_hw822

def k0_off1645 (i : grid0.Coords) : Fin 1 → Nat :=
  let arg0 : BitVec 32 := BitVec.ofNat 32 (i 0).val
  let c512_i32 : BitVec 32 := 512#32
  let v0 : BitVec 32 := Scalar.muli arg0 c512_i32
  let c310_i32_2776 : BitVec 32 := 310#32
  let v5755 : BitVec 32 := Scalar.addi v0 c310_i32_2776
  let v5756 : Index := Scalar.indexCast v5755
  ![v5756.toNat]
def k0_off1646 (v5757 : BitVec 32) : Fin 2 → Nat :=
  let c0_i32_2779 : BitVec 32 := 0#32
  ![v5757.toNat, 0]

def k0_chk823 (v5757 : BitVec 32) : Prop :=
  (∀ a, (k0_off1646 v5757) a + S1x768.size a ≤ S50257x768.size a)
theorem k0_off1646_inb : ∀ (v5757 : BitVec 32) (k0_hw823 : k0_chk823 v5757), ∀ a, (k0_off1646 v5757) a + S1x768.size a ≤ S50257x768.size a := fun v5757 k0_hw823 => k0_hw823

def k0_off1647 (i : grid0.Coords) : Fin 1 → Nat :=
  let arg0 : BitVec 32 := BitVec.ofNat 32 (i 0).val
  let c512_i32 : BitVec 32 := 512#32
  let v0 : BitVec 32 := Scalar.muli arg0 c512_i32
  let c311_i32_2780 : BitVec 32 := 311#32
  let v5762 : BitVec 32 := Scalar.addi v0 c311_i32_2780
  let v5763 : Index := Scalar.indexCast v5762
  ![v5763.toNat]
def k0_off1648 (v5764 : BitVec 32) : Fin 2 → Nat :=
  let c0_i32_2783 : BitVec 32 := 0#32
  ![v5764.toNat, 0]

def k0_chk824 (v5764 : BitVec 32) : Prop :=
  (∀ a, (k0_off1648 v5764) a + S1x768.size a ≤ S50257x768.size a)
theorem k0_off1648_inb : ∀ (v5764 : BitVec 32) (k0_hw824 : k0_chk824 v5764), ∀ a, (k0_off1648 v5764) a + S1x768.size a ≤ S50257x768.size a := fun v5764 k0_hw824 => k0_hw824

def k0_off1649 (i : grid0.Coords) : Fin 1 → Nat :=
  let arg0 : BitVec 32 := BitVec.ofNat 32 (i 0).val
  let c512_i32 : BitVec 32 := 512#32
  let v0 : BitVec 32 := Scalar.muli arg0 c512_i32
  let c312_i32_2784 : BitVec 32 := 312#32
  let v5769 : BitVec 32 := Scalar.addi v0 c312_i32_2784
  let v5770 : Index := Scalar.indexCast v5769
  ![v5770.toNat]
def k0_off1650 (v5771 : BitVec 32) : Fin 2 → Nat :=
  let c0_i32_2787 : BitVec 32 := 0#32
  ![v5771.toNat, 0]

def k0_chk825 (v5771 : BitVec 32) : Prop :=
  (∀ a, (k0_off1650 v5771) a + S1x768.size a ≤ S50257x768.size a)
theorem k0_off1650_inb : ∀ (v5771 : BitVec 32) (k0_hw825 : k0_chk825 v5771), ∀ a, (k0_off1650 v5771) a + S1x768.size a ≤ S50257x768.size a := fun v5771 k0_hw825 => k0_hw825

def k0_off1651 (i : grid0.Coords) : Fin 1 → Nat :=
  let arg0 : BitVec 32 := BitVec.ofNat 32 (i 0).val
  let c512_i32 : BitVec 32 := 512#32
  let v0 : BitVec 32 := Scalar.muli arg0 c512_i32
  let c313_i32_2788 : BitVec 32 := 313#32
  let v5776 : BitVec 32 := Scalar.addi v0 c313_i32_2788
  let v5777 : Index := Scalar.indexCast v5776
  ![v5777.toNat]
def k0_off1652 (v5778 : BitVec 32) : Fin 2 → Nat :=
  let c0_i32_2791 : BitVec 32 := 0#32
  ![v5778.toNat, 0]

def k0_chk826 (v5778 : BitVec 32) : Prop :=
  (∀ a, (k0_off1652 v5778) a + S1x768.size a ≤ S50257x768.size a)
theorem k0_off1652_inb : ∀ (v5778 : BitVec 32) (k0_hw826 : k0_chk826 v5778), ∀ a, (k0_off1652 v5778) a + S1x768.size a ≤ S50257x768.size a := fun v5778 k0_hw826 => k0_hw826

def k0_off1653 (i : grid0.Coords) : Fin 1 → Nat :=
  let arg0 : BitVec 32 := BitVec.ofNat 32 (i 0).val
  let c512_i32 : BitVec 32 := 512#32
  let v0 : BitVec 32 := Scalar.muli arg0 c512_i32
  let c314_i32_2792 : BitVec 32 := 314#32
  let v5783 : BitVec 32 := Scalar.addi v0 c314_i32_2792
  let v5784 : Index := Scalar.indexCast v5783
  ![v5784.toNat]
def k0_off1654 (v5785 : BitVec 32) : Fin 2 → Nat :=
  let c0_i32_2795 : BitVec 32 := 0#32
  ![v5785.toNat, 0]

def k0_chk827 (v5785 : BitVec 32) : Prop :=
  (∀ a, (k0_off1654 v5785) a + S1x768.size a ≤ S50257x768.size a)
theorem k0_off1654_inb : ∀ (v5785 : BitVec 32) (k0_hw827 : k0_chk827 v5785), ∀ a, (k0_off1654 v5785) a + S1x768.size a ≤ S50257x768.size a := fun v5785 k0_hw827 => k0_hw827

def k0_off1655 (i : grid0.Coords) : Fin 1 → Nat :=
  let arg0 : BitVec 32 := BitVec.ofNat 32 (i 0).val
  let c512_i32 : BitVec 32 := 512#32
  let v0 : BitVec 32 := Scalar.muli arg0 c512_i32
  let c315_i32_2796 : BitVec 32 := 315#32
  let v5790 : BitVec 32 := Scalar.addi v0 c315_i32_2796
  let v5791 : Index := Scalar.indexCast v5790
  ![v5791.toNat]
def k0_off1656 (v5792 : BitVec 32) : Fin 2 → Nat :=
  let c0_i32_2799 : BitVec 32 := 0#32
  ![v5792.toNat, 0]

def k0_chk828 (v5792 : BitVec 32) : Prop :=
  (∀ a, (k0_off1656 v5792) a + S1x768.size a ≤ S50257x768.size a)
theorem k0_off1656_inb : ∀ (v5792 : BitVec 32) (k0_hw828 : k0_chk828 v5792), ∀ a, (k0_off1656 v5792) a + S1x768.size a ≤ S50257x768.size a := fun v5792 k0_hw828 => k0_hw828

def k0_off1657 (i : grid0.Coords) : Fin 1 → Nat :=
  let arg0 : BitVec 32 := BitVec.ofNat 32 (i 0).val
  let c512_i32 : BitVec 32 := 512#32
  let v0 : BitVec 32 := Scalar.muli arg0 c512_i32
  let c316_i32_2800 : BitVec 32 := 316#32
  let v5797 : BitVec 32 := Scalar.addi v0 c316_i32_2800
  let v5798 : Index := Scalar.indexCast v5797
  ![v5798.toNat]
def k0_off1658 (v5799 : BitVec 32) : Fin 2 → Nat :=
  let c0_i32_2803 : BitVec 32 := 0#32
  ![v5799.toNat, 0]

def k0_chk829 (v5799 : BitVec 32) : Prop :=
  (∀ a, (k0_off1658 v5799) a + S1x768.size a ≤ S50257x768.size a)
theorem k0_off1658_inb : ∀ (v5799 : BitVec 32) (k0_hw829 : k0_chk829 v5799), ∀ a, (k0_off1658 v5799) a + S1x768.size a ≤ S50257x768.size a := fun v5799 k0_hw829 => k0_hw829

def k0_off1659 (i : grid0.Coords) : Fin 1 → Nat :=
  let arg0 : BitVec 32 := BitVec.ofNat 32 (i 0).val
  let c512_i32 : BitVec 32 := 512#32
  let v0 : BitVec 32 := Scalar.muli arg0 c512_i32
  let c317_i32_2804 : BitVec 32 := 317#32
  let v5804 : BitVec 32 := Scalar.addi v0 c317_i32_2804
  let v5805 : Index := Scalar.indexCast v5804
  ![v5805.toNat]
def k0_off1660 (v5806 : BitVec 32) : Fin 2 → Nat :=
  let c0_i32_2807 : BitVec 32 := 0#32
  ![v5806.toNat, 0]

def k0_chk830 (v5806 : BitVec 32) : Prop :=
  (∀ a, (k0_off1660 v5806) a + S1x768.size a ≤ S50257x768.size a)
theorem k0_off1660_inb : ∀ (v5806 : BitVec 32) (k0_hw830 : k0_chk830 v5806), ∀ a, (k0_off1660 v5806) a + S1x768.size a ≤ S50257x768.size a := fun v5806 k0_hw830 => k0_hw830

def k0_off1661 (i : grid0.Coords) : Fin 1 → Nat :=
  let arg0 : BitVec 32 := BitVec.ofNat 32 (i 0).val
  let c512_i32 : BitVec 32 := 512#32
  let v0 : BitVec 32 := Scalar.muli arg0 c512_i32
  let c318_i32_2808 : BitVec 32 := 318#32
  let v5811 : BitVec 32 := Scalar.addi v0 c318_i32_2808
  let v5812 : Index := Scalar.indexCast v5811
  ![v5812.toNat]
def k0_off1662 (v5813 : BitVec 32) : Fin 2 → Nat :=
  let c0_i32_2811 : BitVec 32 := 0#32
  ![v5813.toNat, 0]

def k0_chk831 (v5813 : BitVec 32) : Prop :=
  (∀ a, (k0_off1662 v5813) a + S1x768.size a ≤ S50257x768.size a)
theorem k0_off1662_inb : ∀ (v5813 : BitVec 32) (k0_hw831 : k0_chk831 v5813), ∀ a, (k0_off1662 v5813) a + S1x768.size a ≤ S50257x768.size a := fun v5813 k0_hw831 => k0_hw831

def k0_off1663 (i : grid0.Coords) : Fin 1 → Nat :=
  let arg0 : BitVec 32 := BitVec.ofNat 32 (i 0).val
  let c512_i32 : BitVec 32 := 512#32
  let v0 : BitVec 32 := Scalar.muli arg0 c512_i32
  let c319_i32_2812 : BitVec 32 := 319#32
  let v5818 : BitVec 32 := Scalar.addi v0 c319_i32_2812
  let v5819 : Index := Scalar.indexCast v5818
  ![v5819.toNat]
def k0_off1664 (v5820 : BitVec 32) : Fin 2 → Nat :=
  let c0_i32_2815 : BitVec 32 := 0#32
  ![v5820.toNat, 0]

def k0_chk832 (v5820 : BitVec 32) : Prop :=
  (∀ a, (k0_off1664 v5820) a + S1x768.size a ≤ S50257x768.size a)
theorem k0_off1664_inb : ∀ (v5820 : BitVec 32) (k0_hw832 : k0_chk832 v5820), ∀ a, (k0_off1664 v5820) a + S1x768.size a ≤ S50257x768.size a := fun v5820 k0_hw832 => k0_hw832

def k0_off1665 (i : grid0.Coords) : Fin 1 → Nat :=
  let arg0 : BitVec 32 := BitVec.ofNat 32 (i 0).val
  let c512_i32 : BitVec 32 := 512#32
  let v0 : BitVec 32 := Scalar.muli arg0 c512_i32
  let c320_i32_2816 : BitVec 32 := 320#32
  let v5825 : BitVec 32 := Scalar.addi v0 c320_i32_2816
  let v5826 : Index := Scalar.indexCast v5825
  ![v5826.toNat]
def k0_off1666 (v5827 : BitVec 32) : Fin 2 → Nat :=
  let c0_i32_2819 : BitVec 32 := 0#32
  ![v5827.toNat, 0]

def k0_chk833 (v5827 : BitVec 32) : Prop :=
  (∀ a, (k0_off1666 v5827) a + S1x768.size a ≤ S50257x768.size a)
theorem k0_off1666_inb : ∀ (v5827 : BitVec 32) (k0_hw833 : k0_chk833 v5827), ∀ a, (k0_off1666 v5827) a + S1x768.size a ≤ S50257x768.size a := fun v5827 k0_hw833 => k0_hw833

def k0_off1667 (i : grid0.Coords) : Fin 1 → Nat :=
  let arg0 : BitVec 32 := BitVec.ofNat 32 (i 0).val
  let c512_i32 : BitVec 32 := 512#32
  let v0 : BitVec 32 := Scalar.muli arg0 c512_i32
  let c321_i32_2820 : BitVec 32 := 321#32
  let v5832 : BitVec 32 := Scalar.addi v0 c321_i32_2820
  let v5833 : Index := Scalar.indexCast v5832
  ![v5833.toNat]
def k0_off1668 (v5834 : BitVec 32) : Fin 2 → Nat :=
  let c0_i32_2823 : BitVec 32 := 0#32
  ![v5834.toNat, 0]

def k0_chk834 (v5834 : BitVec 32) : Prop :=
  (∀ a, (k0_off1668 v5834) a + S1x768.size a ≤ S50257x768.size a)
theorem k0_off1668_inb : ∀ (v5834 : BitVec 32) (k0_hw834 : k0_chk834 v5834), ∀ a, (k0_off1668 v5834) a + S1x768.size a ≤ S50257x768.size a := fun v5834 k0_hw834 => k0_hw834

def k0_off1669 (i : grid0.Coords) : Fin 1 → Nat :=
  let arg0 : BitVec 32 := BitVec.ofNat 32 (i 0).val
  let c512_i32 : BitVec 32 := 512#32
  let v0 : BitVec 32 := Scalar.muli arg0 c512_i32
  let c322_i32_2824 : BitVec 32 := 322#32
  let v5839 : BitVec 32 := Scalar.addi v0 c322_i32_2824
  let v5840 : Index := Scalar.indexCast v5839
  ![v5840.toNat]
def k0_off1670 (v5841 : BitVec 32) : Fin 2 → Nat :=
  let c0_i32_2827 : BitVec 32 := 0#32
  ![v5841.toNat, 0]

def k0_chk835 (v5841 : BitVec 32) : Prop :=
  (∀ a, (k0_off1670 v5841) a + S1x768.size a ≤ S50257x768.size a)
theorem k0_off1670_inb : ∀ (v5841 : BitVec 32) (k0_hw835 : k0_chk835 v5841), ∀ a, (k0_off1670 v5841) a + S1x768.size a ≤ S50257x768.size a := fun v5841 k0_hw835 => k0_hw835

def k0_off1671 (i : grid0.Coords) : Fin 1 → Nat :=
  let arg0 : BitVec 32 := BitVec.ofNat 32 (i 0).val
  let c512_i32 : BitVec 32 := 512#32
  let v0 : BitVec 32 := Scalar.muli arg0 c512_i32
  let c323_i32_2828 : BitVec 32 := 323#32
  let v5846 : BitVec 32 := Scalar.addi v0 c323_i32_2828
  let v5847 : Index := Scalar.indexCast v5846
  ![v5847.toNat]
def k0_off1672 (v5848 : BitVec 32) : Fin 2 → Nat :=
  let c0_i32_2831 : BitVec 32 := 0#32
  ![v5848.toNat, 0]

def k0_chk836 (v5848 : BitVec 32) : Prop :=
  (∀ a, (k0_off1672 v5848) a + S1x768.size a ≤ S50257x768.size a)
theorem k0_off1672_inb : ∀ (v5848 : BitVec 32) (k0_hw836 : k0_chk836 v5848), ∀ a, (k0_off1672 v5848) a + S1x768.size a ≤ S50257x768.size a := fun v5848 k0_hw836 => k0_hw836

def k0_off1673 (i : grid0.Coords) : Fin 1 → Nat :=
  let arg0 : BitVec 32 := BitVec.ofNat 32 (i 0).val
  let c512_i32 : BitVec 32 := 512#32
  let v0 : BitVec 32 := Scalar.muli arg0 c512_i32
  let c324_i32_2832 : BitVec 32 := 324#32
  let v5853 : BitVec 32 := Scalar.addi v0 c324_i32_2832
  let v5854 : Index := Scalar.indexCast v5853
  ![v5854.toNat]
def k0_off1674 (v5855 : BitVec 32) : Fin 2 → Nat :=
  let c0_i32_2835 : BitVec 32 := 0#32
  ![v5855.toNat, 0]

def k0_chk837 (v5855 : BitVec 32) : Prop :=
  (∀ a, (k0_off1674 v5855) a + S1x768.size a ≤ S50257x768.size a)
theorem k0_off1674_inb : ∀ (v5855 : BitVec 32) (k0_hw837 : k0_chk837 v5855), ∀ a, (k0_off1674 v5855) a + S1x768.size a ≤ S50257x768.size a := fun v5855 k0_hw837 => k0_hw837

def k0_off1675 (i : grid0.Coords) : Fin 1 → Nat :=
  let arg0 : BitVec 32 := BitVec.ofNat 32 (i 0).val
  let c512_i32 : BitVec 32 := 512#32
  let v0 : BitVec 32 := Scalar.muli arg0 c512_i32
  let c325_i32_2836 : BitVec 32 := 325#32
  let v5860 : BitVec 32 := Scalar.addi v0 c325_i32_2836
  let v5861 : Index := Scalar.indexCast v5860
  ![v5861.toNat]
def k0_off1676 (v5862 : BitVec 32) : Fin 2 → Nat :=
  let c0_i32_2839 : BitVec 32 := 0#32
  ![v5862.toNat, 0]

def k0_chk838 (v5862 : BitVec 32) : Prop :=
  (∀ a, (k0_off1676 v5862) a + S1x768.size a ≤ S50257x768.size a)
theorem k0_off1676_inb : ∀ (v5862 : BitVec 32) (k0_hw838 : k0_chk838 v5862), ∀ a, (k0_off1676 v5862) a + S1x768.size a ≤ S50257x768.size a := fun v5862 k0_hw838 => k0_hw838

def k0_off1677 (i : grid0.Coords) : Fin 1 → Nat :=
  let arg0 : BitVec 32 := BitVec.ofNat 32 (i 0).val
  let c512_i32 : BitVec 32 := 512#32
  let v0 : BitVec 32 := Scalar.muli arg0 c512_i32
  let c326_i32_2840 : BitVec 32 := 326#32
  let v5867 : BitVec 32 := Scalar.addi v0 c326_i32_2840
  let v5868 : Index := Scalar.indexCast v5867
  ![v5868.toNat]
def k0_off1678 (v5869 : BitVec 32) : Fin 2 → Nat :=
  let c0_i32_2843 : BitVec 32 := 0#32
  ![v5869.toNat, 0]

def k0_chk839 (v5869 : BitVec 32) : Prop :=
  (∀ a, (k0_off1678 v5869) a + S1x768.size a ≤ S50257x768.size a)
theorem k0_off1678_inb : ∀ (v5869 : BitVec 32) (k0_hw839 : k0_chk839 v5869), ∀ a, (k0_off1678 v5869) a + S1x768.size a ≤ S50257x768.size a := fun v5869 k0_hw839 => k0_hw839

def k0_off1679 (i : grid0.Coords) : Fin 1 → Nat :=
  let arg0 : BitVec 32 := BitVec.ofNat 32 (i 0).val
  let c512_i32 : BitVec 32 := 512#32
  let v0 : BitVec 32 := Scalar.muli arg0 c512_i32
  let c327_i32_2844 : BitVec 32 := 327#32
  let v5874 : BitVec 32 := Scalar.addi v0 c327_i32_2844
  let v5875 : Index := Scalar.indexCast v5874
  ![v5875.toNat]
def k0_off1680 (v5876 : BitVec 32) : Fin 2 → Nat :=
  let c0_i32_2847 : BitVec 32 := 0#32
  ![v5876.toNat, 0]

def k0_chk840 (v5876 : BitVec 32) : Prop :=
  (∀ a, (k0_off1680 v5876) a + S1x768.size a ≤ S50257x768.size a)
theorem k0_off1680_inb : ∀ (v5876 : BitVec 32) (k0_hw840 : k0_chk840 v5876), ∀ a, (k0_off1680 v5876) a + S1x768.size a ≤ S50257x768.size a := fun v5876 k0_hw840 => k0_hw840

def k0_off1681 (i : grid0.Coords) : Fin 1 → Nat :=
  let arg0 : BitVec 32 := BitVec.ofNat 32 (i 0).val
  let c512_i32 : BitVec 32 := 512#32
  let v0 : BitVec 32 := Scalar.muli arg0 c512_i32
  let c328_i32_2848 : BitVec 32 := 328#32
  let v5881 : BitVec 32 := Scalar.addi v0 c328_i32_2848
  let v5882 : Index := Scalar.indexCast v5881
  ![v5882.toNat]
def k0_off1682 (v5883 : BitVec 32) : Fin 2 → Nat :=
  let c0_i32_2851 : BitVec 32 := 0#32
  ![v5883.toNat, 0]

def k0_chk841 (v5883 : BitVec 32) : Prop :=
  (∀ a, (k0_off1682 v5883) a + S1x768.size a ≤ S50257x768.size a)
theorem k0_off1682_inb : ∀ (v5883 : BitVec 32) (k0_hw841 : k0_chk841 v5883), ∀ a, (k0_off1682 v5883) a + S1x768.size a ≤ S50257x768.size a := fun v5883 k0_hw841 => k0_hw841

def k0_off1683 (i : grid0.Coords) : Fin 1 → Nat :=
  let arg0 : BitVec 32 := BitVec.ofNat 32 (i 0).val
  let c512_i32 : BitVec 32 := 512#32
  let v0 : BitVec 32 := Scalar.muli arg0 c512_i32
  let c329_i32_2852 : BitVec 32 := 329#32
  let v5888 : BitVec 32 := Scalar.addi v0 c329_i32_2852
  let v5889 : Index := Scalar.indexCast v5888
  ![v5889.toNat]
def k0_off1684 (v5890 : BitVec 32) : Fin 2 → Nat :=
  let c0_i32_2855 : BitVec 32 := 0#32
  ![v5890.toNat, 0]

def k0_chk842 (v5890 : BitVec 32) : Prop :=
  (∀ a, (k0_off1684 v5890) a + S1x768.size a ≤ S50257x768.size a)
theorem k0_off1684_inb : ∀ (v5890 : BitVec 32) (k0_hw842 : k0_chk842 v5890), ∀ a, (k0_off1684 v5890) a + S1x768.size a ≤ S50257x768.size a := fun v5890 k0_hw842 => k0_hw842

def k0_off1685 (i : grid0.Coords) : Fin 1 → Nat :=
  let arg0 : BitVec 32 := BitVec.ofNat 32 (i 0).val
  let c512_i32 : BitVec 32 := 512#32
  let v0 : BitVec 32 := Scalar.muli arg0 c512_i32
  let c330_i32_2856 : BitVec 32 := 330#32
  let v5895 : BitVec 32 := Scalar.addi v0 c330_i32_2856
  let v5896 : Index := Scalar.indexCast v5895
  ![v5896.toNat]
def k0_off1686 (v5897 : BitVec 32) : Fin 2 → Nat :=
  let c0_i32_2859 : BitVec 32 := 0#32
  ![v5897.toNat, 0]

def k0_chk843 (v5897 : BitVec 32) : Prop :=
  (∀ a, (k0_off1686 v5897) a + S1x768.size a ≤ S50257x768.size a)
theorem k0_off1686_inb : ∀ (v5897 : BitVec 32) (k0_hw843 : k0_chk843 v5897), ∀ a, (k0_off1686 v5897) a + S1x768.size a ≤ S50257x768.size a := fun v5897 k0_hw843 => k0_hw843

def k0_off1687 (i : grid0.Coords) : Fin 1 → Nat :=
  let arg0 : BitVec 32 := BitVec.ofNat 32 (i 0).val
  let c512_i32 : BitVec 32 := 512#32
  let v0 : BitVec 32 := Scalar.muli arg0 c512_i32
  let c331_i32_2860 : BitVec 32 := 331#32
  let v5902 : BitVec 32 := Scalar.addi v0 c331_i32_2860
  let v5903 : Index := Scalar.indexCast v5902
  ![v5903.toNat]
def k0_off1688 (v5904 : BitVec 32) : Fin 2 → Nat :=
  let c0_i32_2863 : BitVec 32 := 0#32
  ![v5904.toNat, 0]

def k0_chk844 (v5904 : BitVec 32) : Prop :=
  (∀ a, (k0_off1688 v5904) a + S1x768.size a ≤ S50257x768.size a)
theorem k0_off1688_inb : ∀ (v5904 : BitVec 32) (k0_hw844 : k0_chk844 v5904), ∀ a, (k0_off1688 v5904) a + S1x768.size a ≤ S50257x768.size a := fun v5904 k0_hw844 => k0_hw844

def k0_off1689 (i : grid0.Coords) : Fin 1 → Nat :=
  let arg0 : BitVec 32 := BitVec.ofNat 32 (i 0).val
  let c512_i32 : BitVec 32 := 512#32
  let v0 : BitVec 32 := Scalar.muli arg0 c512_i32
  let c332_i32_2864 : BitVec 32 := 332#32
  let v5909 : BitVec 32 := Scalar.addi v0 c332_i32_2864
  let v5910 : Index := Scalar.indexCast v5909
  ![v5910.toNat]
def k0_off1690 (v5911 : BitVec 32) : Fin 2 → Nat :=
  let c0_i32_2867 : BitVec 32 := 0#32
  ![v5911.toNat, 0]

def k0_chk845 (v5911 : BitVec 32) : Prop :=
  (∀ a, (k0_off1690 v5911) a + S1x768.size a ≤ S50257x768.size a)
theorem k0_off1690_inb : ∀ (v5911 : BitVec 32) (k0_hw845 : k0_chk845 v5911), ∀ a, (k0_off1690 v5911) a + S1x768.size a ≤ S50257x768.size a := fun v5911 k0_hw845 => k0_hw845

def k0_off1691 (i : grid0.Coords) : Fin 1 → Nat :=
  let arg0 : BitVec 32 := BitVec.ofNat 32 (i 0).val
  let c512_i32 : BitVec 32 := 512#32
  let v0 : BitVec 32 := Scalar.muli arg0 c512_i32
  let c333_i32_2868 : BitVec 32 := 333#32
  let v5916 : BitVec 32 := Scalar.addi v0 c333_i32_2868
  let v5917 : Index := Scalar.indexCast v5916
  ![v5917.toNat]
def k0_off1692 (v5918 : BitVec 32) : Fin 2 → Nat :=
  let c0_i32_2871 : BitVec 32 := 0#32
  ![v5918.toNat, 0]

def k0_chk846 (v5918 : BitVec 32) : Prop :=
  (∀ a, (k0_off1692 v5918) a + S1x768.size a ≤ S50257x768.size a)
theorem k0_off1692_inb : ∀ (v5918 : BitVec 32) (k0_hw846 : k0_chk846 v5918), ∀ a, (k0_off1692 v5918) a + S1x768.size a ≤ S50257x768.size a := fun v5918 k0_hw846 => k0_hw846

def k0_off1693 (i : grid0.Coords) : Fin 1 → Nat :=
  let arg0 : BitVec 32 := BitVec.ofNat 32 (i 0).val
  let c512_i32 : BitVec 32 := 512#32
  let v0 : BitVec 32 := Scalar.muli arg0 c512_i32
  let c334_i32_2872 : BitVec 32 := 334#32
  let v5923 : BitVec 32 := Scalar.addi v0 c334_i32_2872
  let v5924 : Index := Scalar.indexCast v5923
  ![v5924.toNat]
def k0_off1694 (v5925 : BitVec 32) : Fin 2 → Nat :=
  let c0_i32_2875 : BitVec 32 := 0#32
  ![v5925.toNat, 0]

def k0_chk847 (v5925 : BitVec 32) : Prop :=
  (∀ a, (k0_off1694 v5925) a + S1x768.size a ≤ S50257x768.size a)
theorem k0_off1694_inb : ∀ (v5925 : BitVec 32) (k0_hw847 : k0_chk847 v5925), ∀ a, (k0_off1694 v5925) a + S1x768.size a ≤ S50257x768.size a := fun v5925 k0_hw847 => k0_hw847

def k0_off1695 (i : grid0.Coords) : Fin 1 → Nat :=
  let arg0 : BitVec 32 := BitVec.ofNat 32 (i 0).val
  let c512_i32 : BitVec 32 := 512#32
  let v0 : BitVec 32 := Scalar.muli arg0 c512_i32
  let c335_i32_2876 : BitVec 32 := 335#32
  let v5930 : BitVec 32 := Scalar.addi v0 c335_i32_2876
  let v5931 : Index := Scalar.indexCast v5930
  ![v5931.toNat]
def k0_off1696 (v5932 : BitVec 32) : Fin 2 → Nat :=
  let c0_i32_2879 : BitVec 32 := 0#32
  ![v5932.toNat, 0]

def k0_chk848 (v5932 : BitVec 32) : Prop :=
  (∀ a, (k0_off1696 v5932) a + S1x768.size a ≤ S50257x768.size a)
theorem k0_off1696_inb : ∀ (v5932 : BitVec 32) (k0_hw848 : k0_chk848 v5932), ∀ a, (k0_off1696 v5932) a + S1x768.size a ≤ S50257x768.size a := fun v5932 k0_hw848 => k0_hw848

def k0_off1697 (i : grid0.Coords) : Fin 1 → Nat :=
  let arg0 : BitVec 32 := BitVec.ofNat 32 (i 0).val
  let c512_i32 : BitVec 32 := 512#32
  let v0 : BitVec 32 := Scalar.muli arg0 c512_i32
  let c336_i32_2880 : BitVec 32 := 336#32
  let v5937 : BitVec 32 := Scalar.addi v0 c336_i32_2880
  let v5938 : Index := Scalar.indexCast v5937
  ![v5938.toNat]
def k0_off1698 (v5939 : BitVec 32) : Fin 2 → Nat :=
  let c0_i32_2883 : BitVec 32 := 0#32
  ![v5939.toNat, 0]

def k0_chk849 (v5939 : BitVec 32) : Prop :=
  (∀ a, (k0_off1698 v5939) a + S1x768.size a ≤ S50257x768.size a)
theorem k0_off1698_inb : ∀ (v5939 : BitVec 32) (k0_hw849 : k0_chk849 v5939), ∀ a, (k0_off1698 v5939) a + S1x768.size a ≤ S50257x768.size a := fun v5939 k0_hw849 => k0_hw849

def k0_off1699 (i : grid0.Coords) : Fin 1 → Nat :=
  let arg0 : BitVec 32 := BitVec.ofNat 32 (i 0).val
  let c512_i32 : BitVec 32 := 512#32
  let v0 : BitVec 32 := Scalar.muli arg0 c512_i32
  let c337_i32_2884 : BitVec 32 := 337#32
  let v5944 : BitVec 32 := Scalar.addi v0 c337_i32_2884
  let v5945 : Index := Scalar.indexCast v5944
  ![v5945.toNat]
def k0_off1700 (v5946 : BitVec 32) : Fin 2 → Nat :=
  let c0_i32_2887 : BitVec 32 := 0#32
  ![v5946.toNat, 0]

def k0_chk850 (v5946 : BitVec 32) : Prop :=
  (∀ a, (k0_off1700 v5946) a + S1x768.size a ≤ S50257x768.size a)
theorem k0_off1700_inb : ∀ (v5946 : BitVec 32) (k0_hw850 : k0_chk850 v5946), ∀ a, (k0_off1700 v5946) a + S1x768.size a ≤ S50257x768.size a := fun v5946 k0_hw850 => k0_hw850

def k0_off1701 (i : grid0.Coords) : Fin 1 → Nat :=
  let arg0 : BitVec 32 := BitVec.ofNat 32 (i 0).val
  let c512_i32 : BitVec 32 := 512#32
  let v0 : BitVec 32 := Scalar.muli arg0 c512_i32
  let c338_i32_2888 : BitVec 32 := 338#32
  let v5951 : BitVec 32 := Scalar.addi v0 c338_i32_2888
  let v5952 : Index := Scalar.indexCast v5951
  ![v5952.toNat]
def k0_off1702 (v5953 : BitVec 32) : Fin 2 → Nat :=
  let c0_i32_2891 : BitVec 32 := 0#32
  ![v5953.toNat, 0]

def k0_chk851 (v5953 : BitVec 32) : Prop :=
  (∀ a, (k0_off1702 v5953) a + S1x768.size a ≤ S50257x768.size a)
theorem k0_off1702_inb : ∀ (v5953 : BitVec 32) (k0_hw851 : k0_chk851 v5953), ∀ a, (k0_off1702 v5953) a + S1x768.size a ≤ S50257x768.size a := fun v5953 k0_hw851 => k0_hw851

def k0_off1703 (i : grid0.Coords) : Fin 1 → Nat :=
  let arg0 : BitVec 32 := BitVec.ofNat 32 (i 0).val
  let c512_i32 : BitVec 32 := 512#32
  let v0 : BitVec 32 := Scalar.muli arg0 c512_i32
  let c339_i32_2892 : BitVec 32 := 339#32
  let v5958 : BitVec 32 := Scalar.addi v0 c339_i32_2892
  let v5959 : Index := Scalar.indexCast v5958
  ![v5959.toNat]
def k0_off1704 (v5960 : BitVec 32) : Fin 2 → Nat :=
  let c0_i32_2895 : BitVec 32 := 0#32
  ![v5960.toNat, 0]

def k0_chk852 (v5960 : BitVec 32) : Prop :=
  (∀ a, (k0_off1704 v5960) a + S1x768.size a ≤ S50257x768.size a)
theorem k0_off1704_inb : ∀ (v5960 : BitVec 32) (k0_hw852 : k0_chk852 v5960), ∀ a, (k0_off1704 v5960) a + S1x768.size a ≤ S50257x768.size a := fun v5960 k0_hw852 => k0_hw852

def k0_off1705 (i : grid0.Coords) : Fin 1 → Nat :=
  let arg0 : BitVec 32 := BitVec.ofNat 32 (i 0).val
  let c512_i32 : BitVec 32 := 512#32
  let v0 : BitVec 32 := Scalar.muli arg0 c512_i32
  let c340_i32_2896 : BitVec 32 := 340#32
  let v5965 : BitVec 32 := Scalar.addi v0 c340_i32_2896
  let v5966 : Index := Scalar.indexCast v5965
  ![v5966.toNat]
def k0_off1706 (v5967 : BitVec 32) : Fin 2 → Nat :=
  let c0_i32_2899 : BitVec 32 := 0#32
  ![v5967.toNat, 0]

def k0_chk853 (v5967 : BitVec 32) : Prop :=
  (∀ a, (k0_off1706 v5967) a + S1x768.size a ≤ S50257x768.size a)
theorem k0_off1706_inb : ∀ (v5967 : BitVec 32) (k0_hw853 : k0_chk853 v5967), ∀ a, (k0_off1706 v5967) a + S1x768.size a ≤ S50257x768.size a := fun v5967 k0_hw853 => k0_hw853

def k0_off1707 (i : grid0.Coords) : Fin 1 → Nat :=
  let arg0 : BitVec 32 := BitVec.ofNat 32 (i 0).val
  let c512_i32 : BitVec 32 := 512#32
  let v0 : BitVec 32 := Scalar.muli arg0 c512_i32
  let c341_i32_2900 : BitVec 32 := 341#32
  let v5972 : BitVec 32 := Scalar.addi v0 c341_i32_2900
  let v5973 : Index := Scalar.indexCast v5972
  ![v5973.toNat]
def k0_off1708 (v5974 : BitVec 32) : Fin 2 → Nat :=
  let c0_i32_2903 : BitVec 32 := 0#32
  ![v5974.toNat, 0]

def k0_chk854 (v5974 : BitVec 32) : Prop :=
  (∀ a, (k0_off1708 v5974) a + S1x768.size a ≤ S50257x768.size a)
theorem k0_off1708_inb : ∀ (v5974 : BitVec 32) (k0_hw854 : k0_chk854 v5974), ∀ a, (k0_off1708 v5974) a + S1x768.size a ≤ S50257x768.size a := fun v5974 k0_hw854 => k0_hw854

def k0_off1709 (i : grid0.Coords) : Fin 1 → Nat :=
  let arg0 : BitVec 32 := BitVec.ofNat 32 (i 0).val
  let c512_i32 : BitVec 32 := 512#32
  let v0 : BitVec 32 := Scalar.muli arg0 c512_i32
  let c342_i32_2904 : BitVec 32 := 342#32
  let v5979 : BitVec 32 := Scalar.addi v0 c342_i32_2904
  let v5980 : Index := Scalar.indexCast v5979
  ![v5980.toNat]
def k0_off1710 (v5981 : BitVec 32) : Fin 2 → Nat :=
  let c0_i32_2907 : BitVec 32 := 0#32
  ![v5981.toNat, 0]

def k0_chk855 (v5981 : BitVec 32) : Prop :=
  (∀ a, (k0_off1710 v5981) a + S1x768.size a ≤ S50257x768.size a)
theorem k0_off1710_inb : ∀ (v5981 : BitVec 32) (k0_hw855 : k0_chk855 v5981), ∀ a, (k0_off1710 v5981) a + S1x768.size a ≤ S50257x768.size a := fun v5981 k0_hw855 => k0_hw855

def k0_off1711 (i : grid0.Coords) : Fin 1 → Nat :=
  let arg0 : BitVec 32 := BitVec.ofNat 32 (i 0).val
  let c512_i32 : BitVec 32 := 512#32
  let v0 : BitVec 32 := Scalar.muli arg0 c512_i32
  let c343_i32_2908 : BitVec 32 := 343#32
  let v5986 : BitVec 32 := Scalar.addi v0 c343_i32_2908
  let v5987 : Index := Scalar.indexCast v5986
  ![v5987.toNat]
def k0_off1712 (v5988 : BitVec 32) : Fin 2 → Nat :=
  let c0_i32_2911 : BitVec 32 := 0#32
  ![v5988.toNat, 0]

def k0_chk856 (v5988 : BitVec 32) : Prop :=
  (∀ a, (k0_off1712 v5988) a + S1x768.size a ≤ S50257x768.size a)
theorem k0_off1712_inb : ∀ (v5988 : BitVec 32) (k0_hw856 : k0_chk856 v5988), ∀ a, (k0_off1712 v5988) a + S1x768.size a ≤ S50257x768.size a := fun v5988 k0_hw856 => k0_hw856

def k0_off1713 (i : grid0.Coords) : Fin 1 → Nat :=
  let arg0 : BitVec 32 := BitVec.ofNat 32 (i 0).val
  let c512_i32 : BitVec 32 := 512#32
  let v0 : BitVec 32 := Scalar.muli arg0 c512_i32
  let c344_i32_2912 : BitVec 32 := 344#32
  let v5993 : BitVec 32 := Scalar.addi v0 c344_i32_2912
  let v5994 : Index := Scalar.indexCast v5993
  ![v5994.toNat]
def k0_off1714 (v5995 : BitVec 32) : Fin 2 → Nat :=
  let c0_i32_2915 : BitVec 32 := 0#32
  ![v5995.toNat, 0]

def k0_chk857 (v5995 : BitVec 32) : Prop :=
  (∀ a, (k0_off1714 v5995) a + S1x768.size a ≤ S50257x768.size a)
theorem k0_off1714_inb : ∀ (v5995 : BitVec 32) (k0_hw857 : k0_chk857 v5995), ∀ a, (k0_off1714 v5995) a + S1x768.size a ≤ S50257x768.size a := fun v5995 k0_hw857 => k0_hw857

def k0_off1715 (i : grid0.Coords) : Fin 1 → Nat :=
  let arg0 : BitVec 32 := BitVec.ofNat 32 (i 0).val
  let c512_i32 : BitVec 32 := 512#32
  let v0 : BitVec 32 := Scalar.muli arg0 c512_i32
  let c345_i32_2916 : BitVec 32 := 345#32
  let v6000 : BitVec 32 := Scalar.addi v0 c345_i32_2916
  let v6001 : Index := Scalar.indexCast v6000
  ![v6001.toNat]
def k0_off1716 (v6002 : BitVec 32) : Fin 2 → Nat :=
  let c0_i32_2919 : BitVec 32 := 0#32
  ![v6002.toNat, 0]

def k0_chk858 (v6002 : BitVec 32) : Prop :=
  (∀ a, (k0_off1716 v6002) a + S1x768.size a ≤ S50257x768.size a)
theorem k0_off1716_inb : ∀ (v6002 : BitVec 32) (k0_hw858 : k0_chk858 v6002), ∀ a, (k0_off1716 v6002) a + S1x768.size a ≤ S50257x768.size a := fun v6002 k0_hw858 => k0_hw858

def k0_off1717 (i : grid0.Coords) : Fin 1 → Nat :=
  let arg0 : BitVec 32 := BitVec.ofNat 32 (i 0).val
  let c512_i32 : BitVec 32 := 512#32
  let v0 : BitVec 32 := Scalar.muli arg0 c512_i32
  let c346_i32_2920 : BitVec 32 := 346#32
  let v6007 : BitVec 32 := Scalar.addi v0 c346_i32_2920
  let v6008 : Index := Scalar.indexCast v6007
  ![v6008.toNat]
def k0_off1718 (v6009 : BitVec 32) : Fin 2 → Nat :=
  let c0_i32_2923 : BitVec 32 := 0#32
  ![v6009.toNat, 0]

def k0_chk859 (v6009 : BitVec 32) : Prop :=
  (∀ a, (k0_off1718 v6009) a + S1x768.size a ≤ S50257x768.size a)
theorem k0_off1718_inb : ∀ (v6009 : BitVec 32) (k0_hw859 : k0_chk859 v6009), ∀ a, (k0_off1718 v6009) a + S1x768.size a ≤ S50257x768.size a := fun v6009 k0_hw859 => k0_hw859

def k0_off1719 (i : grid0.Coords) : Fin 1 → Nat :=
  let arg0 : BitVec 32 := BitVec.ofNat 32 (i 0).val
  let c512_i32 : BitVec 32 := 512#32
  let v0 : BitVec 32 := Scalar.muli arg0 c512_i32
  let c347_i32_2924 : BitVec 32 := 347#32
  let v6014 : BitVec 32 := Scalar.addi v0 c347_i32_2924
  let v6015 : Index := Scalar.indexCast v6014
  ![v6015.toNat]
def k0_off1720 (v6016 : BitVec 32) : Fin 2 → Nat :=
  let c0_i32_2927 : BitVec 32 := 0#32
  ![v6016.toNat, 0]

def k0_chk860 (v6016 : BitVec 32) : Prop :=
  (∀ a, (k0_off1720 v6016) a + S1x768.size a ≤ S50257x768.size a)
theorem k0_off1720_inb : ∀ (v6016 : BitVec 32) (k0_hw860 : k0_chk860 v6016), ∀ a, (k0_off1720 v6016) a + S1x768.size a ≤ S50257x768.size a := fun v6016 k0_hw860 => k0_hw860

def k0_off1721 (i : grid0.Coords) : Fin 1 → Nat :=
  let arg0 : BitVec 32 := BitVec.ofNat 32 (i 0).val
  let c512_i32 : BitVec 32 := 512#32
  let v0 : BitVec 32 := Scalar.muli arg0 c512_i32
  let c348_i32_2928 : BitVec 32 := 348#32
  let v6021 : BitVec 32 := Scalar.addi v0 c348_i32_2928
  let v6022 : Index := Scalar.indexCast v6021
  ![v6022.toNat]
def k0_off1722 (v6023 : BitVec 32) : Fin 2 → Nat :=
  let c0_i32_2931 : BitVec 32 := 0#32
  ![v6023.toNat, 0]

def k0_chk861 (v6023 : BitVec 32) : Prop :=
  (∀ a, (k0_off1722 v6023) a + S1x768.size a ≤ S50257x768.size a)
theorem k0_off1722_inb : ∀ (v6023 : BitVec 32) (k0_hw861 : k0_chk861 v6023), ∀ a, (k0_off1722 v6023) a + S1x768.size a ≤ S50257x768.size a := fun v6023 k0_hw861 => k0_hw861

def k0_off1723 (i : grid0.Coords) : Fin 1 → Nat :=
  let arg0 : BitVec 32 := BitVec.ofNat 32 (i 0).val
  let c512_i32 : BitVec 32 := 512#32
  let v0 : BitVec 32 := Scalar.muli arg0 c512_i32
  let c349_i32_2932 : BitVec 32 := 349#32
  let v6028 : BitVec 32 := Scalar.addi v0 c349_i32_2932
  let v6029 : Index := Scalar.indexCast v6028
  ![v6029.toNat]
def k0_off1724 (v6030 : BitVec 32) : Fin 2 → Nat :=
  let c0_i32_2935 : BitVec 32 := 0#32
  ![v6030.toNat, 0]

def k0_chk862 (v6030 : BitVec 32) : Prop :=
  (∀ a, (k0_off1724 v6030) a + S1x768.size a ≤ S50257x768.size a)
theorem k0_off1724_inb : ∀ (v6030 : BitVec 32) (k0_hw862 : k0_chk862 v6030), ∀ a, (k0_off1724 v6030) a + S1x768.size a ≤ S50257x768.size a := fun v6030 k0_hw862 => k0_hw862

def k0_off1725 (i : grid0.Coords) : Fin 1 → Nat :=
  let arg0 : BitVec 32 := BitVec.ofNat 32 (i 0).val
  let c512_i32 : BitVec 32 := 512#32
  let v0 : BitVec 32 := Scalar.muli arg0 c512_i32
  let c350_i32_2936 : BitVec 32 := 350#32
  let v6035 : BitVec 32 := Scalar.addi v0 c350_i32_2936
  let v6036 : Index := Scalar.indexCast v6035
  ![v6036.toNat]
def k0_off1726 (v6037 : BitVec 32) : Fin 2 → Nat :=
  let c0_i32_2939 : BitVec 32 := 0#32
  ![v6037.toNat, 0]

def k0_chk863 (v6037 : BitVec 32) : Prop :=
  (∀ a, (k0_off1726 v6037) a + S1x768.size a ≤ S50257x768.size a)
theorem k0_off1726_inb : ∀ (v6037 : BitVec 32) (k0_hw863 : k0_chk863 v6037), ∀ a, (k0_off1726 v6037) a + S1x768.size a ≤ S50257x768.size a := fun v6037 k0_hw863 => k0_hw863

def k0_off1727 (i : grid0.Coords) : Fin 1 → Nat :=
  let arg0 : BitVec 32 := BitVec.ofNat 32 (i 0).val
  let c512_i32 : BitVec 32 := 512#32
  let v0 : BitVec 32 := Scalar.muli arg0 c512_i32
  let c351_i32_2940 : BitVec 32 := 351#32
  let v6042 : BitVec 32 := Scalar.addi v0 c351_i32_2940
  let v6043 : Index := Scalar.indexCast v6042
  ![v6043.toNat]
def k0_off1728 (v6044 : BitVec 32) : Fin 2 → Nat :=
  let c0_i32_2943 : BitVec 32 := 0#32
  ![v6044.toNat, 0]

def k0_chk864 (v6044 : BitVec 32) : Prop :=
  (∀ a, (k0_off1728 v6044) a + S1x768.size a ≤ S50257x768.size a)
theorem k0_off1728_inb : ∀ (v6044 : BitVec 32) (k0_hw864 : k0_chk864 v6044), ∀ a, (k0_off1728 v6044) a + S1x768.size a ≤ S50257x768.size a := fun v6044 k0_hw864 => k0_hw864

def k0_off1729 (i : grid0.Coords) : Fin 1 → Nat :=
  let arg0 : BitVec 32 := BitVec.ofNat 32 (i 0).val
  let c512_i32 : BitVec 32 := 512#32
  let v0 : BitVec 32 := Scalar.muli arg0 c512_i32
  let c352_i32_2944 : BitVec 32 := 352#32
  let v6049 : BitVec 32 := Scalar.addi v0 c352_i32_2944
  let v6050 : Index := Scalar.indexCast v6049
  ![v6050.toNat]
def k0_off1730 (v6051 : BitVec 32) : Fin 2 → Nat :=
  let c0_i32_2947 : BitVec 32 := 0#32
  ![v6051.toNat, 0]

def k0_chk865 (v6051 : BitVec 32) : Prop :=
  (∀ a, (k0_off1730 v6051) a + S1x768.size a ≤ S50257x768.size a)
theorem k0_off1730_inb : ∀ (v6051 : BitVec 32) (k0_hw865 : k0_chk865 v6051), ∀ a, (k0_off1730 v6051) a + S1x768.size a ≤ S50257x768.size a := fun v6051 k0_hw865 => k0_hw865

def k0_off1731 (i : grid0.Coords) : Fin 1 → Nat :=
  let arg0 : BitVec 32 := BitVec.ofNat 32 (i 0).val
  let c512_i32 : BitVec 32 := 512#32
  let v0 : BitVec 32 := Scalar.muli arg0 c512_i32
  let c353_i32_2948 : BitVec 32 := 353#32
  let v6056 : BitVec 32 := Scalar.addi v0 c353_i32_2948
  let v6057 : Index := Scalar.indexCast v6056
  ![v6057.toNat]
def k0_off1732 (v6058 : BitVec 32) : Fin 2 → Nat :=
  let c0_i32_2951 : BitVec 32 := 0#32
  ![v6058.toNat, 0]

def k0_chk866 (v6058 : BitVec 32) : Prop :=
  (∀ a, (k0_off1732 v6058) a + S1x768.size a ≤ S50257x768.size a)
theorem k0_off1732_inb : ∀ (v6058 : BitVec 32) (k0_hw866 : k0_chk866 v6058), ∀ a, (k0_off1732 v6058) a + S1x768.size a ≤ S50257x768.size a := fun v6058 k0_hw866 => k0_hw866

def k0_off1733 (i : grid0.Coords) : Fin 1 → Nat :=
  let arg0 : BitVec 32 := BitVec.ofNat 32 (i 0).val
  let c512_i32 : BitVec 32 := 512#32
  let v0 : BitVec 32 := Scalar.muli arg0 c512_i32
  let c354_i32_2952 : BitVec 32 := 354#32
  let v6063 : BitVec 32 := Scalar.addi v0 c354_i32_2952
  let v6064 : Index := Scalar.indexCast v6063
  ![v6064.toNat]
def k0_off1734 (v6065 : BitVec 32) : Fin 2 → Nat :=
  let c0_i32_2955 : BitVec 32 := 0#32
  ![v6065.toNat, 0]

def k0_chk867 (v6065 : BitVec 32) : Prop :=
  (∀ a, (k0_off1734 v6065) a + S1x768.size a ≤ S50257x768.size a)
theorem k0_off1734_inb : ∀ (v6065 : BitVec 32) (k0_hw867 : k0_chk867 v6065), ∀ a, (k0_off1734 v6065) a + S1x768.size a ≤ S50257x768.size a := fun v6065 k0_hw867 => k0_hw867

def k0_off1735 (i : grid0.Coords) : Fin 1 → Nat :=
  let arg0 : BitVec 32 := BitVec.ofNat 32 (i 0).val
  let c512_i32 : BitVec 32 := 512#32
  let v0 : BitVec 32 := Scalar.muli arg0 c512_i32
  let c355_i32_2956 : BitVec 32 := 355#32
  let v6070 : BitVec 32 := Scalar.addi v0 c355_i32_2956
  let v6071 : Index := Scalar.indexCast v6070
  ![v6071.toNat]
def k0_off1736 (v6072 : BitVec 32) : Fin 2 → Nat :=
  let c0_i32_2959 : BitVec 32 := 0#32
  ![v6072.toNat, 0]

def k0_chk868 (v6072 : BitVec 32) : Prop :=
  (∀ a, (k0_off1736 v6072) a + S1x768.size a ≤ S50257x768.size a)
theorem k0_off1736_inb : ∀ (v6072 : BitVec 32) (k0_hw868 : k0_chk868 v6072), ∀ a, (k0_off1736 v6072) a + S1x768.size a ≤ S50257x768.size a := fun v6072 k0_hw868 => k0_hw868

def k0_off1737 (i : grid0.Coords) : Fin 1 → Nat :=
  let arg0 : BitVec 32 := BitVec.ofNat 32 (i 0).val
  let c512_i32 : BitVec 32 := 512#32
  let v0 : BitVec 32 := Scalar.muli arg0 c512_i32
  let c356_i32_2960 : BitVec 32 := 356#32
  let v6077 : BitVec 32 := Scalar.addi v0 c356_i32_2960
  let v6078 : Index := Scalar.indexCast v6077
  ![v6078.toNat]
def k0_off1738 (v6079 : BitVec 32) : Fin 2 → Nat :=
  let c0_i32_2963 : BitVec 32 := 0#32
  ![v6079.toNat, 0]

def k0_chk869 (v6079 : BitVec 32) : Prop :=
  (∀ a, (k0_off1738 v6079) a + S1x768.size a ≤ S50257x768.size a)
theorem k0_off1738_inb : ∀ (v6079 : BitVec 32) (k0_hw869 : k0_chk869 v6079), ∀ a, (k0_off1738 v6079) a + S1x768.size a ≤ S50257x768.size a := fun v6079 k0_hw869 => k0_hw869

def k0_off1739 (i : grid0.Coords) : Fin 1 → Nat :=
  let arg0 : BitVec 32 := BitVec.ofNat 32 (i 0).val
  let c512_i32 : BitVec 32 := 512#32
  let v0 : BitVec 32 := Scalar.muli arg0 c512_i32
  let c357_i32_2964 : BitVec 32 := 357#32
  let v6084 : BitVec 32 := Scalar.addi v0 c357_i32_2964
  let v6085 : Index := Scalar.indexCast v6084
  ![v6085.toNat]
def k0_off1740 (v6086 : BitVec 32) : Fin 2 → Nat :=
  let c0_i32_2967 : BitVec 32 := 0#32
  ![v6086.toNat, 0]

def k0_chk870 (v6086 : BitVec 32) : Prop :=
  (∀ a, (k0_off1740 v6086) a + S1x768.size a ≤ S50257x768.size a)
theorem k0_off1740_inb : ∀ (v6086 : BitVec 32) (k0_hw870 : k0_chk870 v6086), ∀ a, (k0_off1740 v6086) a + S1x768.size a ≤ S50257x768.size a := fun v6086 k0_hw870 => k0_hw870

def k0_off1741 (i : grid0.Coords) : Fin 1 → Nat :=
  let arg0 : BitVec 32 := BitVec.ofNat 32 (i 0).val
  let c512_i32 : BitVec 32 := 512#32
  let v0 : BitVec 32 := Scalar.muli arg0 c512_i32
  let c358_i32_2968 : BitVec 32 := 358#32
  let v6091 : BitVec 32 := Scalar.addi v0 c358_i32_2968
  let v6092 : Index := Scalar.indexCast v6091
  ![v6092.toNat]
def k0_off1742 (v6093 : BitVec 32) : Fin 2 → Nat :=
  let c0_i32_2971 : BitVec 32 := 0#32
  ![v6093.toNat, 0]

def k0_chk871 (v6093 : BitVec 32) : Prop :=
  (∀ a, (k0_off1742 v6093) a + S1x768.size a ≤ S50257x768.size a)
theorem k0_off1742_inb : ∀ (v6093 : BitVec 32) (k0_hw871 : k0_chk871 v6093), ∀ a, (k0_off1742 v6093) a + S1x768.size a ≤ S50257x768.size a := fun v6093 k0_hw871 => k0_hw871

def k0_off1743 (i : grid0.Coords) : Fin 1 → Nat :=
  let arg0 : BitVec 32 := BitVec.ofNat 32 (i 0).val
  let c512_i32 : BitVec 32 := 512#32
  let v0 : BitVec 32 := Scalar.muli arg0 c512_i32
  let c359_i32_2972 : BitVec 32 := 359#32
  let v6098 : BitVec 32 := Scalar.addi v0 c359_i32_2972
  let v6099 : Index := Scalar.indexCast v6098
  ![v6099.toNat]
def k0_off1744 (v6100 : BitVec 32) : Fin 2 → Nat :=
  let c0_i32_2975 : BitVec 32 := 0#32
  ![v6100.toNat, 0]

def k0_chk872 (v6100 : BitVec 32) : Prop :=
  (∀ a, (k0_off1744 v6100) a + S1x768.size a ≤ S50257x768.size a)
theorem k0_off1744_inb : ∀ (v6100 : BitVec 32) (k0_hw872 : k0_chk872 v6100), ∀ a, (k0_off1744 v6100) a + S1x768.size a ≤ S50257x768.size a := fun v6100 k0_hw872 => k0_hw872

def k0_off1745 (i : grid0.Coords) : Fin 1 → Nat :=
  let arg0 : BitVec 32 := BitVec.ofNat 32 (i 0).val
  let c512_i32 : BitVec 32 := 512#32
  let v0 : BitVec 32 := Scalar.muli arg0 c512_i32
  let c360_i32_2976 : BitVec 32 := 360#32
  let v6105 : BitVec 32 := Scalar.addi v0 c360_i32_2976
  let v6106 : Index := Scalar.indexCast v6105
  ![v6106.toNat]
def k0_off1746 (v6107 : BitVec 32) : Fin 2 → Nat :=
  let c0_i32_2979 : BitVec 32 := 0#32
  ![v6107.toNat, 0]

def k0_chk873 (v6107 : BitVec 32) : Prop :=
  (∀ a, (k0_off1746 v6107) a + S1x768.size a ≤ S50257x768.size a)
theorem k0_off1746_inb : ∀ (v6107 : BitVec 32) (k0_hw873 : k0_chk873 v6107), ∀ a, (k0_off1746 v6107) a + S1x768.size a ≤ S50257x768.size a := fun v6107 k0_hw873 => k0_hw873

def k0_off1747 (i : grid0.Coords) : Fin 1 → Nat :=
  let arg0 : BitVec 32 := BitVec.ofNat 32 (i 0).val
  let c512_i32 : BitVec 32 := 512#32
  let v0 : BitVec 32 := Scalar.muli arg0 c512_i32
  let c361_i32_2980 : BitVec 32 := 361#32
  let v6112 : BitVec 32 := Scalar.addi v0 c361_i32_2980
  let v6113 : Index := Scalar.indexCast v6112
  ![v6113.toNat]
def k0_off1748 (v6114 : BitVec 32) : Fin 2 → Nat :=
  let c0_i32_2983 : BitVec 32 := 0#32
  ![v6114.toNat, 0]

def k0_chk874 (v6114 : BitVec 32) : Prop :=
  (∀ a, (k0_off1748 v6114) a + S1x768.size a ≤ S50257x768.size a)
theorem k0_off1748_inb : ∀ (v6114 : BitVec 32) (k0_hw874 : k0_chk874 v6114), ∀ a, (k0_off1748 v6114) a + S1x768.size a ≤ S50257x768.size a := fun v6114 k0_hw874 => k0_hw874

def k0_off1749 (i : grid0.Coords) : Fin 1 → Nat :=
  let arg0 : BitVec 32 := BitVec.ofNat 32 (i 0).val
  let c512_i32 : BitVec 32 := 512#32
  let v0 : BitVec 32 := Scalar.muli arg0 c512_i32
  let c362_i32_2984 : BitVec 32 := 362#32
  let v6119 : BitVec 32 := Scalar.addi v0 c362_i32_2984
  let v6120 : Index := Scalar.indexCast v6119
  ![v6120.toNat]
def k0_off1750 (v6121 : BitVec 32) : Fin 2 → Nat :=
  let c0_i32_2987 : BitVec 32 := 0#32
  ![v6121.toNat, 0]

def k0_chk875 (v6121 : BitVec 32) : Prop :=
  (∀ a, (k0_off1750 v6121) a + S1x768.size a ≤ S50257x768.size a)
theorem k0_off1750_inb : ∀ (v6121 : BitVec 32) (k0_hw875 : k0_chk875 v6121), ∀ a, (k0_off1750 v6121) a + S1x768.size a ≤ S50257x768.size a := fun v6121 k0_hw875 => k0_hw875

def k0_off1751 (i : grid0.Coords) : Fin 1 → Nat :=
  let arg0 : BitVec 32 := BitVec.ofNat 32 (i 0).val
  let c512_i32 : BitVec 32 := 512#32
  let v0 : BitVec 32 := Scalar.muli arg0 c512_i32
  let c363_i32_2988 : BitVec 32 := 363#32
  let v6126 : BitVec 32 := Scalar.addi v0 c363_i32_2988
  let v6127 : Index := Scalar.indexCast v6126
  ![v6127.toNat]
def k0_off1752 (v6128 : BitVec 32) : Fin 2 → Nat :=
  let c0_i32_2991 : BitVec 32 := 0#32
  ![v6128.toNat, 0]

def k0_chk876 (v6128 : BitVec 32) : Prop :=
  (∀ a, (k0_off1752 v6128) a + S1x768.size a ≤ S50257x768.size a)
theorem k0_off1752_inb : ∀ (v6128 : BitVec 32) (k0_hw876 : k0_chk876 v6128), ∀ a, (k0_off1752 v6128) a + S1x768.size a ≤ S50257x768.size a := fun v6128 k0_hw876 => k0_hw876

def k0_off1753 (i : grid0.Coords) : Fin 1 → Nat :=
  let arg0 : BitVec 32 := BitVec.ofNat 32 (i 0).val
  let c512_i32 : BitVec 32 := 512#32
  let v0 : BitVec 32 := Scalar.muli arg0 c512_i32
  let c364_i32_2992 : BitVec 32 := 364#32
  let v6133 : BitVec 32 := Scalar.addi v0 c364_i32_2992
  let v6134 : Index := Scalar.indexCast v6133
  ![v6134.toNat]
def k0_off1754 (v6135 : BitVec 32) : Fin 2 → Nat :=
  let c0_i32_2995 : BitVec 32 := 0#32
  ![v6135.toNat, 0]

def k0_chk877 (v6135 : BitVec 32) : Prop :=
  (∀ a, (k0_off1754 v6135) a + S1x768.size a ≤ S50257x768.size a)
theorem k0_off1754_inb : ∀ (v6135 : BitVec 32) (k0_hw877 : k0_chk877 v6135), ∀ a, (k0_off1754 v6135) a + S1x768.size a ≤ S50257x768.size a := fun v6135 k0_hw877 => k0_hw877

def k0_off1755 (i : grid0.Coords) : Fin 1 → Nat :=
  let arg0 : BitVec 32 := BitVec.ofNat 32 (i 0).val
  let c512_i32 : BitVec 32 := 512#32
  let v0 : BitVec 32 := Scalar.muli arg0 c512_i32
  let c365_i32_2996 : BitVec 32 := 365#32
  let v6140 : BitVec 32 := Scalar.addi v0 c365_i32_2996
  let v6141 : Index := Scalar.indexCast v6140
  ![v6141.toNat]
def k0_off1756 (v6142 : BitVec 32) : Fin 2 → Nat :=
  let c0_i32_2999 : BitVec 32 := 0#32
  ![v6142.toNat, 0]

def k0_chk878 (v6142 : BitVec 32) : Prop :=
  (∀ a, (k0_off1756 v6142) a + S1x768.size a ≤ S50257x768.size a)
theorem k0_off1756_inb : ∀ (v6142 : BitVec 32) (k0_hw878 : k0_chk878 v6142), ∀ a, (k0_off1756 v6142) a + S1x768.size a ≤ S50257x768.size a := fun v6142 k0_hw878 => k0_hw878

def k0_off1757 (i : grid0.Coords) : Fin 1 → Nat :=
  let arg0 : BitVec 32 := BitVec.ofNat 32 (i 0).val
  let c512_i32 : BitVec 32 := 512#32
  let v0 : BitVec 32 := Scalar.muli arg0 c512_i32
  let c366_i32_3000 : BitVec 32 := 366#32
  let v6147 : BitVec 32 := Scalar.addi v0 c366_i32_3000
  let v6148 : Index := Scalar.indexCast v6147
  ![v6148.toNat]
def k0_off1758 (v6149 : BitVec 32) : Fin 2 → Nat :=
  let c0_i32_3003 : BitVec 32 := 0#32
  ![v6149.toNat, 0]

def k0_chk879 (v6149 : BitVec 32) : Prop :=
  (∀ a, (k0_off1758 v6149) a + S1x768.size a ≤ S50257x768.size a)
theorem k0_off1758_inb : ∀ (v6149 : BitVec 32) (k0_hw879 : k0_chk879 v6149), ∀ a, (k0_off1758 v6149) a + S1x768.size a ≤ S50257x768.size a := fun v6149 k0_hw879 => k0_hw879

def k0_off1759 (i : grid0.Coords) : Fin 1 → Nat :=
  let arg0 : BitVec 32 := BitVec.ofNat 32 (i 0).val
  let c512_i32 : BitVec 32 := 512#32
  let v0 : BitVec 32 := Scalar.muli arg0 c512_i32
  let c367_i32_3004 : BitVec 32 := 367#32
  let v6154 : BitVec 32 := Scalar.addi v0 c367_i32_3004
  let v6155 : Index := Scalar.indexCast v6154
  ![v6155.toNat]
def k0_off1760 (v6156 : BitVec 32) : Fin 2 → Nat :=
  let c0_i32_3007 : BitVec 32 := 0#32
  ![v6156.toNat, 0]

def k0_chk880 (v6156 : BitVec 32) : Prop :=
  (∀ a, (k0_off1760 v6156) a + S1x768.size a ≤ S50257x768.size a)
theorem k0_off1760_inb : ∀ (v6156 : BitVec 32) (k0_hw880 : k0_chk880 v6156), ∀ a, (k0_off1760 v6156) a + S1x768.size a ≤ S50257x768.size a := fun v6156 k0_hw880 => k0_hw880

def k0_off1761 (i : grid0.Coords) : Fin 1 → Nat :=
  let arg0 : BitVec 32 := BitVec.ofNat 32 (i 0).val
  let c512_i32 : BitVec 32 := 512#32
  let v0 : BitVec 32 := Scalar.muli arg0 c512_i32
  let c368_i32_3008 : BitVec 32 := 368#32
  let v6161 : BitVec 32 := Scalar.addi v0 c368_i32_3008
  let v6162 : Index := Scalar.indexCast v6161
  ![v6162.toNat]
def k0_off1762 (v6163 : BitVec 32) : Fin 2 → Nat :=
  let c0_i32_3011 : BitVec 32 := 0#32
  ![v6163.toNat, 0]

def k0_chk881 (v6163 : BitVec 32) : Prop :=
  (∀ a, (k0_off1762 v6163) a + S1x768.size a ≤ S50257x768.size a)
theorem k0_off1762_inb : ∀ (v6163 : BitVec 32) (k0_hw881 : k0_chk881 v6163), ∀ a, (k0_off1762 v6163) a + S1x768.size a ≤ S50257x768.size a := fun v6163 k0_hw881 => k0_hw881

def k0_off1763 (i : grid0.Coords) : Fin 1 → Nat :=
  let arg0 : BitVec 32 := BitVec.ofNat 32 (i 0).val
  let c512_i32 : BitVec 32 := 512#32
  let v0 : BitVec 32 := Scalar.muli arg0 c512_i32
  let c369_i32_3012 : BitVec 32 := 369#32
  let v6168 : BitVec 32 := Scalar.addi v0 c369_i32_3012
  let v6169 : Index := Scalar.indexCast v6168
  ![v6169.toNat]
def k0_off1764 (v6170 : BitVec 32) : Fin 2 → Nat :=
  let c0_i32_3015 : BitVec 32 := 0#32
  ![v6170.toNat, 0]

def k0_chk882 (v6170 : BitVec 32) : Prop :=
  (∀ a, (k0_off1764 v6170) a + S1x768.size a ≤ S50257x768.size a)
theorem k0_off1764_inb : ∀ (v6170 : BitVec 32) (k0_hw882 : k0_chk882 v6170), ∀ a, (k0_off1764 v6170) a + S1x768.size a ≤ S50257x768.size a := fun v6170 k0_hw882 => k0_hw882

def k0_off1765 (i : grid0.Coords) : Fin 1 → Nat :=
  let arg0 : BitVec 32 := BitVec.ofNat 32 (i 0).val
  let c512_i32 : BitVec 32 := 512#32
  let v0 : BitVec 32 := Scalar.muli arg0 c512_i32
  let c370_i32_3016 : BitVec 32 := 370#32
  let v6175 : BitVec 32 := Scalar.addi v0 c370_i32_3016
  let v6176 : Index := Scalar.indexCast v6175
  ![v6176.toNat]
def k0_off1766 (v6177 : BitVec 32) : Fin 2 → Nat :=
  let c0_i32_3019 : BitVec 32 := 0#32
  ![v6177.toNat, 0]

def k0_chk883 (v6177 : BitVec 32) : Prop :=
  (∀ a, (k0_off1766 v6177) a + S1x768.size a ≤ S50257x768.size a)
theorem k0_off1766_inb : ∀ (v6177 : BitVec 32) (k0_hw883 : k0_chk883 v6177), ∀ a, (k0_off1766 v6177) a + S1x768.size a ≤ S50257x768.size a := fun v6177 k0_hw883 => k0_hw883

def k0_off1767 (i : grid0.Coords) : Fin 1 → Nat :=
  let arg0 : BitVec 32 := BitVec.ofNat 32 (i 0).val
  let c512_i32 : BitVec 32 := 512#32
  let v0 : BitVec 32 := Scalar.muli arg0 c512_i32
  let c371_i32_3020 : BitVec 32 := 371#32
  let v6182 : BitVec 32 := Scalar.addi v0 c371_i32_3020
  let v6183 : Index := Scalar.indexCast v6182
  ![v6183.toNat]
def k0_off1768 (v6184 : BitVec 32) : Fin 2 → Nat :=
  let c0_i32_3023 : BitVec 32 := 0#32
  ![v6184.toNat, 0]

def k0_chk884 (v6184 : BitVec 32) : Prop :=
  (∀ a, (k0_off1768 v6184) a + S1x768.size a ≤ S50257x768.size a)
theorem k0_off1768_inb : ∀ (v6184 : BitVec 32) (k0_hw884 : k0_chk884 v6184), ∀ a, (k0_off1768 v6184) a + S1x768.size a ≤ S50257x768.size a := fun v6184 k0_hw884 => k0_hw884

def k0_off1769 (i : grid0.Coords) : Fin 1 → Nat :=
  let arg0 : BitVec 32 := BitVec.ofNat 32 (i 0).val
  let c512_i32 : BitVec 32 := 512#32
  let v0 : BitVec 32 := Scalar.muli arg0 c512_i32
  let c372_i32_3024 : BitVec 32 := 372#32
  let v6189 : BitVec 32 := Scalar.addi v0 c372_i32_3024
  let v6190 : Index := Scalar.indexCast v6189
  ![v6190.toNat]
def k0_off1770 (v6191 : BitVec 32) : Fin 2 → Nat :=
  let c0_i32_3027 : BitVec 32 := 0#32
  ![v6191.toNat, 0]

def k0_chk885 (v6191 : BitVec 32) : Prop :=
  (∀ a, (k0_off1770 v6191) a + S1x768.size a ≤ S50257x768.size a)
theorem k0_off1770_inb : ∀ (v6191 : BitVec 32) (k0_hw885 : k0_chk885 v6191), ∀ a, (k0_off1770 v6191) a + S1x768.size a ≤ S50257x768.size a := fun v6191 k0_hw885 => k0_hw885

def k0_off1771 (i : grid0.Coords) : Fin 1 → Nat :=
  let arg0 : BitVec 32 := BitVec.ofNat 32 (i 0).val
  let c512_i32 : BitVec 32 := 512#32
  let v0 : BitVec 32 := Scalar.muli arg0 c512_i32
  let c373_i32_3028 : BitVec 32 := 373#32
  let v6196 : BitVec 32 := Scalar.addi v0 c373_i32_3028
  let v6197 : Index := Scalar.indexCast v6196
  ![v6197.toNat]
def k0_off1772 (v6198 : BitVec 32) : Fin 2 → Nat :=
  let c0_i32_3031 : BitVec 32 := 0#32
  ![v6198.toNat, 0]

def k0_chk886 (v6198 : BitVec 32) : Prop :=
  (∀ a, (k0_off1772 v6198) a + S1x768.size a ≤ S50257x768.size a)
theorem k0_off1772_inb : ∀ (v6198 : BitVec 32) (k0_hw886 : k0_chk886 v6198), ∀ a, (k0_off1772 v6198) a + S1x768.size a ≤ S50257x768.size a := fun v6198 k0_hw886 => k0_hw886

def k0_off1773 (i : grid0.Coords) : Fin 1 → Nat :=
  let arg0 : BitVec 32 := BitVec.ofNat 32 (i 0).val
  let c512_i32 : BitVec 32 := 512#32
  let v0 : BitVec 32 := Scalar.muli arg0 c512_i32
  let c374_i32_3032 : BitVec 32 := 374#32
  let v6203 : BitVec 32 := Scalar.addi v0 c374_i32_3032
  let v6204 : Index := Scalar.indexCast v6203
  ![v6204.toNat]
def k0_off1774 (v6205 : BitVec 32) : Fin 2 → Nat :=
  let c0_i32_3035 : BitVec 32 := 0#32
  ![v6205.toNat, 0]

def k0_chk887 (v6205 : BitVec 32) : Prop :=
  (∀ a, (k0_off1774 v6205) a + S1x768.size a ≤ S50257x768.size a)
theorem k0_off1774_inb : ∀ (v6205 : BitVec 32) (k0_hw887 : k0_chk887 v6205), ∀ a, (k0_off1774 v6205) a + S1x768.size a ≤ S50257x768.size a := fun v6205 k0_hw887 => k0_hw887

def k0_off1775 (i : grid0.Coords) : Fin 1 → Nat :=
  let arg0 : BitVec 32 := BitVec.ofNat 32 (i 0).val
  let c512_i32 : BitVec 32 := 512#32
  let v0 : BitVec 32 := Scalar.muli arg0 c512_i32
  let c375_i32_3036 : BitVec 32 := 375#32
  let v6210 : BitVec 32 := Scalar.addi v0 c375_i32_3036
  let v6211 : Index := Scalar.indexCast v6210
  ![v6211.toNat]
def k0_off1776 (v6212 : BitVec 32) : Fin 2 → Nat :=
  let c0_i32_3039 : BitVec 32 := 0#32
  ![v6212.toNat, 0]

def k0_chk888 (v6212 : BitVec 32) : Prop :=
  (∀ a, (k0_off1776 v6212) a + S1x768.size a ≤ S50257x768.size a)
theorem k0_off1776_inb : ∀ (v6212 : BitVec 32) (k0_hw888 : k0_chk888 v6212), ∀ a, (k0_off1776 v6212) a + S1x768.size a ≤ S50257x768.size a := fun v6212 k0_hw888 => k0_hw888

def k0_off1777 (i : grid0.Coords) : Fin 1 → Nat :=
  let arg0 : BitVec 32 := BitVec.ofNat 32 (i 0).val
  let c512_i32 : BitVec 32 := 512#32
  let v0 : BitVec 32 := Scalar.muli arg0 c512_i32
  let c376_i32_3040 : BitVec 32 := 376#32
  let v6217 : BitVec 32 := Scalar.addi v0 c376_i32_3040
  let v6218 : Index := Scalar.indexCast v6217
  ![v6218.toNat]
def k0_off1778 (v6219 : BitVec 32) : Fin 2 → Nat :=
  let c0_i32_3043 : BitVec 32 := 0#32
  ![v6219.toNat, 0]

def k0_chk889 (v6219 : BitVec 32) : Prop :=
  (∀ a, (k0_off1778 v6219) a + S1x768.size a ≤ S50257x768.size a)
theorem k0_off1778_inb : ∀ (v6219 : BitVec 32) (k0_hw889 : k0_chk889 v6219), ∀ a, (k0_off1778 v6219) a + S1x768.size a ≤ S50257x768.size a := fun v6219 k0_hw889 => k0_hw889

def k0_off1779 (i : grid0.Coords) : Fin 1 → Nat :=
  let arg0 : BitVec 32 := BitVec.ofNat 32 (i 0).val
  let c512_i32 : BitVec 32 := 512#32
  let v0 : BitVec 32 := Scalar.muli arg0 c512_i32
  let c377_i32_3044 : BitVec 32 := 377#32
  let v6224 : BitVec 32 := Scalar.addi v0 c377_i32_3044
  let v6225 : Index := Scalar.indexCast v6224
  ![v6225.toNat]
def k0_off1780 (v6226 : BitVec 32) : Fin 2 → Nat :=
  let c0_i32_3047 : BitVec 32 := 0#32
  ![v6226.toNat, 0]

def k0_chk890 (v6226 : BitVec 32) : Prop :=
  (∀ a, (k0_off1780 v6226) a + S1x768.size a ≤ S50257x768.size a)
theorem k0_off1780_inb : ∀ (v6226 : BitVec 32) (k0_hw890 : k0_chk890 v6226), ∀ a, (k0_off1780 v6226) a + S1x768.size a ≤ S50257x768.size a := fun v6226 k0_hw890 => k0_hw890

def k0_off1781 (i : grid0.Coords) : Fin 1 → Nat :=
  let arg0 : BitVec 32 := BitVec.ofNat 32 (i 0).val
  let c512_i32 : BitVec 32 := 512#32
  let v0 : BitVec 32 := Scalar.muli arg0 c512_i32
  let c378_i32_3048 : BitVec 32 := 378#32
  let v6231 : BitVec 32 := Scalar.addi v0 c378_i32_3048
  let v6232 : Index := Scalar.indexCast v6231
  ![v6232.toNat]
def k0_off1782 (v6233 : BitVec 32) : Fin 2 → Nat :=
  let c0_i32_3051 : BitVec 32 := 0#32
  ![v6233.toNat, 0]

def k0_chk891 (v6233 : BitVec 32) : Prop :=
  (∀ a, (k0_off1782 v6233) a + S1x768.size a ≤ S50257x768.size a)
theorem k0_off1782_inb : ∀ (v6233 : BitVec 32) (k0_hw891 : k0_chk891 v6233), ∀ a, (k0_off1782 v6233) a + S1x768.size a ≤ S50257x768.size a := fun v6233 k0_hw891 => k0_hw891

def k0_off1783 (i : grid0.Coords) : Fin 1 → Nat :=
  let arg0 : BitVec 32 := BitVec.ofNat 32 (i 0).val
  let c512_i32 : BitVec 32 := 512#32
  let v0 : BitVec 32 := Scalar.muli arg0 c512_i32
  let c379_i32_3052 : BitVec 32 := 379#32
  let v6238 : BitVec 32 := Scalar.addi v0 c379_i32_3052
  let v6239 : Index := Scalar.indexCast v6238
  ![v6239.toNat]
def k0_off1784 (v6240 : BitVec 32) : Fin 2 → Nat :=
  let c0_i32_3055 : BitVec 32 := 0#32
  ![v6240.toNat, 0]

def k0_chk892 (v6240 : BitVec 32) : Prop :=
  (∀ a, (k0_off1784 v6240) a + S1x768.size a ≤ S50257x768.size a)
theorem k0_off1784_inb : ∀ (v6240 : BitVec 32) (k0_hw892 : k0_chk892 v6240), ∀ a, (k0_off1784 v6240) a + S1x768.size a ≤ S50257x768.size a := fun v6240 k0_hw892 => k0_hw892

def k0_off1785 (i : grid0.Coords) : Fin 1 → Nat :=
  let arg0 : BitVec 32 := BitVec.ofNat 32 (i 0).val
  let c512_i32 : BitVec 32 := 512#32
  let v0 : BitVec 32 := Scalar.muli arg0 c512_i32
  let c380_i32_3056 : BitVec 32 := 380#32
  let v6245 : BitVec 32 := Scalar.addi v0 c380_i32_3056
  let v6246 : Index := Scalar.indexCast v6245
  ![v6246.toNat]
def k0_off1786 (v6247 : BitVec 32) : Fin 2 → Nat :=
  let c0_i32_3059 : BitVec 32 := 0#32
  ![v6247.toNat, 0]

def k0_chk893 (v6247 : BitVec 32) : Prop :=
  (∀ a, (k0_off1786 v6247) a + S1x768.size a ≤ S50257x768.size a)
theorem k0_off1786_inb : ∀ (v6247 : BitVec 32) (k0_hw893 : k0_chk893 v6247), ∀ a, (k0_off1786 v6247) a + S1x768.size a ≤ S50257x768.size a := fun v6247 k0_hw893 => k0_hw893

def k0_off1787 (i : grid0.Coords) : Fin 1 → Nat :=
  let arg0 : BitVec 32 := BitVec.ofNat 32 (i 0).val
  let c512_i32 : BitVec 32 := 512#32
  let v0 : BitVec 32 := Scalar.muli arg0 c512_i32
  let c381_i32_3060 : BitVec 32 := 381#32
  let v6252 : BitVec 32 := Scalar.addi v0 c381_i32_3060
  let v6253 : Index := Scalar.indexCast v6252
  ![v6253.toNat]
def k0_off1788 (v6254 : BitVec 32) : Fin 2 → Nat :=
  let c0_i32_3063 : BitVec 32 := 0#32
  ![v6254.toNat, 0]

def k0_chk894 (v6254 : BitVec 32) : Prop :=
  (∀ a, (k0_off1788 v6254) a + S1x768.size a ≤ S50257x768.size a)
theorem k0_off1788_inb : ∀ (v6254 : BitVec 32) (k0_hw894 : k0_chk894 v6254), ∀ a, (k0_off1788 v6254) a + S1x768.size a ≤ S50257x768.size a := fun v6254 k0_hw894 => k0_hw894

def k0_off1789 (i : grid0.Coords) : Fin 1 → Nat :=
  let arg0 : BitVec 32 := BitVec.ofNat 32 (i 0).val
  let c512_i32 : BitVec 32 := 512#32
  let v0 : BitVec 32 := Scalar.muli arg0 c512_i32
  let c382_i32_3064 : BitVec 32 := 382#32
  let v6259 : BitVec 32 := Scalar.addi v0 c382_i32_3064
  let v6260 : Index := Scalar.indexCast v6259
  ![v6260.toNat]
def k0_off1790 (v6261 : BitVec 32) : Fin 2 → Nat :=
  let c0_i32_3067 : BitVec 32 := 0#32
  ![v6261.toNat, 0]

def k0_chk895 (v6261 : BitVec 32) : Prop :=
  (∀ a, (k0_off1790 v6261) a + S1x768.size a ≤ S50257x768.size a)
theorem k0_off1790_inb : ∀ (v6261 : BitVec 32) (k0_hw895 : k0_chk895 v6261), ∀ a, (k0_off1790 v6261) a + S1x768.size a ≤ S50257x768.size a := fun v6261 k0_hw895 => k0_hw895

def k0_off1791 (i : grid0.Coords) : Fin 1 → Nat :=
  let arg0 : BitVec 32 := BitVec.ofNat 32 (i 0).val
  let c512_i32 : BitVec 32 := 512#32
  let v0 : BitVec 32 := Scalar.muli arg0 c512_i32
  let c383_i32_3068 : BitVec 32 := 383#32
  let v6266 : BitVec 32 := Scalar.addi v0 c383_i32_3068
  let v6267 : Index := Scalar.indexCast v6266
  ![v6267.toNat]
def k0_off1792 (v6268 : BitVec 32) : Fin 2 → Nat :=
  let c0_i32_3071 : BitVec 32 := 0#32
  ![v6268.toNat, 0]

def k0_chk896 (v6268 : BitVec 32) : Prop :=
  (∀ a, (k0_off1792 v6268) a + S1x768.size a ≤ S50257x768.size a)
theorem k0_off1792_inb : ∀ (v6268 : BitVec 32) (k0_hw896 : k0_chk896 v6268), ∀ a, (k0_off1792 v6268) a + S1x768.size a ≤ S50257x768.size a := fun v6268 k0_hw896 => k0_hw896

def k0_off1793 (i : grid0.Coords) : Fin 1 → Nat :=
  let arg0 : BitVec 32 := BitVec.ofNat 32 (i 0).val
  let c512_i32 : BitVec 32 := 512#32
  let v0 : BitVec 32 := Scalar.muli arg0 c512_i32
  let c384_i32_3072 : BitVec 32 := 384#32
  let v6273 : BitVec 32 := Scalar.addi v0 c384_i32_3072
  let v6274 : Index := Scalar.indexCast v6273
  ![v6274.toNat]
def k0_off1794 (v6275 : BitVec 32) : Fin 2 → Nat :=
  let c0_i32_3075 : BitVec 32 := 0#32
  ![v6275.toNat, 0]

def k0_chk897 (v6275 : BitVec 32) : Prop :=
  (∀ a, (k0_off1794 v6275) a + S1x768.size a ≤ S50257x768.size a)
theorem k0_off1794_inb : ∀ (v6275 : BitVec 32) (k0_hw897 : k0_chk897 v6275), ∀ a, (k0_off1794 v6275) a + S1x768.size a ≤ S50257x768.size a := fun v6275 k0_hw897 => k0_hw897

def k0_off1795 (i : grid0.Coords) : Fin 1 → Nat :=
  let arg0 : BitVec 32 := BitVec.ofNat 32 (i 0).val
  let c512_i32 : BitVec 32 := 512#32
  let v0 : BitVec 32 := Scalar.muli arg0 c512_i32
  let c385_i32_3076 : BitVec 32 := 385#32
  let v6280 : BitVec 32 := Scalar.addi v0 c385_i32_3076
  let v6281 : Index := Scalar.indexCast v6280
  ![v6281.toNat]
def k0_off1796 (v6282 : BitVec 32) : Fin 2 → Nat :=
  let c0_i32_3079 : BitVec 32 := 0#32
  ![v6282.toNat, 0]

def k0_chk898 (v6282 : BitVec 32) : Prop :=
  (∀ a, (k0_off1796 v6282) a + S1x768.size a ≤ S50257x768.size a)
theorem k0_off1796_inb : ∀ (v6282 : BitVec 32) (k0_hw898 : k0_chk898 v6282), ∀ a, (k0_off1796 v6282) a + S1x768.size a ≤ S50257x768.size a := fun v6282 k0_hw898 => k0_hw898

def k0_off1797 (i : grid0.Coords) : Fin 1 → Nat :=
  let arg0 : BitVec 32 := BitVec.ofNat 32 (i 0).val
  let c512_i32 : BitVec 32 := 512#32
  let v0 : BitVec 32 := Scalar.muli arg0 c512_i32
  let c386_i32_3080 : BitVec 32 := 386#32
  let v6287 : BitVec 32 := Scalar.addi v0 c386_i32_3080
  let v6288 : Index := Scalar.indexCast v6287
  ![v6288.toNat]
def k0_off1798 (v6289 : BitVec 32) : Fin 2 → Nat :=
  let c0_i32_3083 : BitVec 32 := 0#32
  ![v6289.toNat, 0]

def k0_chk899 (v6289 : BitVec 32) : Prop :=
  (∀ a, (k0_off1798 v6289) a + S1x768.size a ≤ S50257x768.size a)
theorem k0_off1798_inb : ∀ (v6289 : BitVec 32) (k0_hw899 : k0_chk899 v6289), ∀ a, (k0_off1798 v6289) a + S1x768.size a ≤ S50257x768.size a := fun v6289 k0_hw899 => k0_hw899

def k0_off1799 (i : grid0.Coords) : Fin 1 → Nat :=
  let arg0 : BitVec 32 := BitVec.ofNat 32 (i 0).val
  let c512_i32 : BitVec 32 := 512#32
  let v0 : BitVec 32 := Scalar.muli arg0 c512_i32
  let c387_i32_3084 : BitVec 32 := 387#32
  let v6294 : BitVec 32 := Scalar.addi v0 c387_i32_3084
  let v6295 : Index := Scalar.indexCast v6294
  ![v6295.toNat]
def k0_off1800 (v6296 : BitVec 32) : Fin 2 → Nat :=
  let c0_i32_3087 : BitVec 32 := 0#32
  ![v6296.toNat, 0]

def k0_chk900 (v6296 : BitVec 32) : Prop :=
  (∀ a, (k0_off1800 v6296) a + S1x768.size a ≤ S50257x768.size a)
theorem k0_off1800_inb : ∀ (v6296 : BitVec 32) (k0_hw900 : k0_chk900 v6296), ∀ a, (k0_off1800 v6296) a + S1x768.size a ≤ S50257x768.size a := fun v6296 k0_hw900 => k0_hw900

def k0_off1801 (i : grid0.Coords) : Fin 1 → Nat :=
  let arg0 : BitVec 32 := BitVec.ofNat 32 (i 0).val
  let c512_i32 : BitVec 32 := 512#32
  let v0 : BitVec 32 := Scalar.muli arg0 c512_i32
  let c388_i32_3088 : BitVec 32 := 388#32
  let v6301 : BitVec 32 := Scalar.addi v0 c388_i32_3088
  let v6302 : Index := Scalar.indexCast v6301
  ![v6302.toNat]
def k0_off1802 (v6303 : BitVec 32) : Fin 2 → Nat :=
  let c0_i32_3091 : BitVec 32 := 0#32
  ![v6303.toNat, 0]

def k0_chk901 (v6303 : BitVec 32) : Prop :=
  (∀ a, (k0_off1802 v6303) a + S1x768.size a ≤ S50257x768.size a)
theorem k0_off1802_inb : ∀ (v6303 : BitVec 32) (k0_hw901 : k0_chk901 v6303), ∀ a, (k0_off1802 v6303) a + S1x768.size a ≤ S50257x768.size a := fun v6303 k0_hw901 => k0_hw901

def k0_off1803 (i : grid0.Coords) : Fin 1 → Nat :=
  let arg0 : BitVec 32 := BitVec.ofNat 32 (i 0).val
  let c512_i32 : BitVec 32 := 512#32
  let v0 : BitVec 32 := Scalar.muli arg0 c512_i32
  let c389_i32_3092 : BitVec 32 := 389#32
  let v6308 : BitVec 32 := Scalar.addi v0 c389_i32_3092
  let v6309 : Index := Scalar.indexCast v6308
  ![v6309.toNat]
def k0_off1804 (v6310 : BitVec 32) : Fin 2 → Nat :=
  let c0_i32_3095 : BitVec 32 := 0#32
  ![v6310.toNat, 0]

def k0_chk902 (v6310 : BitVec 32) : Prop :=
  (∀ a, (k0_off1804 v6310) a + S1x768.size a ≤ S50257x768.size a)
theorem k0_off1804_inb : ∀ (v6310 : BitVec 32) (k0_hw902 : k0_chk902 v6310), ∀ a, (k0_off1804 v6310) a + S1x768.size a ≤ S50257x768.size a := fun v6310 k0_hw902 => k0_hw902

def k0_off1805 (i : grid0.Coords) : Fin 1 → Nat :=
  let arg0 : BitVec 32 := BitVec.ofNat 32 (i 0).val
  let c512_i32 : BitVec 32 := 512#32
  let v0 : BitVec 32 := Scalar.muli arg0 c512_i32
  let c390_i32_3096 : BitVec 32 := 390#32
  let v6315 : BitVec 32 := Scalar.addi v0 c390_i32_3096
  let v6316 : Index := Scalar.indexCast v6315
  ![v6316.toNat]
def k0_off1806 (v6317 : BitVec 32) : Fin 2 → Nat :=
  let c0_i32_3099 : BitVec 32 := 0#32
  ![v6317.toNat, 0]

def k0_chk903 (v6317 : BitVec 32) : Prop :=
  (∀ a, (k0_off1806 v6317) a + S1x768.size a ≤ S50257x768.size a)
theorem k0_off1806_inb : ∀ (v6317 : BitVec 32) (k0_hw903 : k0_chk903 v6317), ∀ a, (k0_off1806 v6317) a + S1x768.size a ≤ S50257x768.size a := fun v6317 k0_hw903 => k0_hw903

def k0_off1807 (i : grid0.Coords) : Fin 1 → Nat :=
  let arg0 : BitVec 32 := BitVec.ofNat 32 (i 0).val
  let c512_i32 : BitVec 32 := 512#32
  let v0 : BitVec 32 := Scalar.muli arg0 c512_i32
  let c391_i32_3100 : BitVec 32 := 391#32
  let v6322 : BitVec 32 := Scalar.addi v0 c391_i32_3100
  let v6323 : Index := Scalar.indexCast v6322
  ![v6323.toNat]
def k0_off1808 (v6324 : BitVec 32) : Fin 2 → Nat :=
  let c0_i32_3103 : BitVec 32 := 0#32
  ![v6324.toNat, 0]

def k0_chk904 (v6324 : BitVec 32) : Prop :=
  (∀ a, (k0_off1808 v6324) a + S1x768.size a ≤ S50257x768.size a)
theorem k0_off1808_inb : ∀ (v6324 : BitVec 32) (k0_hw904 : k0_chk904 v6324), ∀ a, (k0_off1808 v6324) a + S1x768.size a ≤ S50257x768.size a := fun v6324 k0_hw904 => k0_hw904

def k0_off1809 (i : grid0.Coords) : Fin 1 → Nat :=
  let arg0 : BitVec 32 := BitVec.ofNat 32 (i 0).val
  let c512_i32 : BitVec 32 := 512#32
  let v0 : BitVec 32 := Scalar.muli arg0 c512_i32
  let c392_i32_3104 : BitVec 32 := 392#32
  let v6329 : BitVec 32 := Scalar.addi v0 c392_i32_3104
  let v6330 : Index := Scalar.indexCast v6329
  ![v6330.toNat]
def k0_off1810 (v6331 : BitVec 32) : Fin 2 → Nat :=
  let c0_i32_3107 : BitVec 32 := 0#32
  ![v6331.toNat, 0]

def k0_chk905 (v6331 : BitVec 32) : Prop :=
  (∀ a, (k0_off1810 v6331) a + S1x768.size a ≤ S50257x768.size a)
theorem k0_off1810_inb : ∀ (v6331 : BitVec 32) (k0_hw905 : k0_chk905 v6331), ∀ a, (k0_off1810 v6331) a + S1x768.size a ≤ S50257x768.size a := fun v6331 k0_hw905 => k0_hw905

def k0_off1811 (i : grid0.Coords) : Fin 1 → Nat :=
  let arg0 : BitVec 32 := BitVec.ofNat 32 (i 0).val
  let c512_i32 : BitVec 32 := 512#32
  let v0 : BitVec 32 := Scalar.muli arg0 c512_i32
  let c393_i32_3108 : BitVec 32 := 393#32
  let v6336 : BitVec 32 := Scalar.addi v0 c393_i32_3108
  let v6337 : Index := Scalar.indexCast v6336
  ![v6337.toNat]
def k0_off1812 (v6338 : BitVec 32) : Fin 2 → Nat :=
  let c0_i32_3111 : BitVec 32 := 0#32
  ![v6338.toNat, 0]

def k0_chk906 (v6338 : BitVec 32) : Prop :=
  (∀ a, (k0_off1812 v6338) a + S1x768.size a ≤ S50257x768.size a)
theorem k0_off1812_inb : ∀ (v6338 : BitVec 32) (k0_hw906 : k0_chk906 v6338), ∀ a, (k0_off1812 v6338) a + S1x768.size a ≤ S50257x768.size a := fun v6338 k0_hw906 => k0_hw906

def k0_off1813 (i : grid0.Coords) : Fin 1 → Nat :=
  let arg0 : BitVec 32 := BitVec.ofNat 32 (i 0).val
  let c512_i32 : BitVec 32 := 512#32
  let v0 : BitVec 32 := Scalar.muli arg0 c512_i32
  let c394_i32_3112 : BitVec 32 := 394#32
  let v6343 : BitVec 32 := Scalar.addi v0 c394_i32_3112
  let v6344 : Index := Scalar.indexCast v6343
  ![v6344.toNat]
def k0_off1814 (v6345 : BitVec 32) : Fin 2 → Nat :=
  let c0_i32_3115 : BitVec 32 := 0#32
  ![v6345.toNat, 0]

def k0_chk907 (v6345 : BitVec 32) : Prop :=
  (∀ a, (k0_off1814 v6345) a + S1x768.size a ≤ S50257x768.size a)
theorem k0_off1814_inb : ∀ (v6345 : BitVec 32) (k0_hw907 : k0_chk907 v6345), ∀ a, (k0_off1814 v6345) a + S1x768.size a ≤ S50257x768.size a := fun v6345 k0_hw907 => k0_hw907

def k0_off1815 (i : grid0.Coords) : Fin 1 → Nat :=
  let arg0 : BitVec 32 := BitVec.ofNat 32 (i 0).val
  let c512_i32 : BitVec 32 := 512#32
  let v0 : BitVec 32 := Scalar.muli arg0 c512_i32
  let c395_i32_3116 : BitVec 32 := 395#32
  let v6350 : BitVec 32 := Scalar.addi v0 c395_i32_3116
  let v6351 : Index := Scalar.indexCast v6350
  ![v6351.toNat]
def k0_off1816 (v6352 : BitVec 32) : Fin 2 → Nat :=
  let c0_i32_3119 : BitVec 32 := 0#32
  ![v6352.toNat, 0]

def k0_chk908 (v6352 : BitVec 32) : Prop :=
  (∀ a, (k0_off1816 v6352) a + S1x768.size a ≤ S50257x768.size a)
theorem k0_off1816_inb : ∀ (v6352 : BitVec 32) (k0_hw908 : k0_chk908 v6352), ∀ a, (k0_off1816 v6352) a + S1x768.size a ≤ S50257x768.size a := fun v6352 k0_hw908 => k0_hw908

def k0_off1817 (i : grid0.Coords) : Fin 1 → Nat :=
  let arg0 : BitVec 32 := BitVec.ofNat 32 (i 0).val
  let c512_i32 : BitVec 32 := 512#32
  let v0 : BitVec 32 := Scalar.muli arg0 c512_i32
  let c396_i32_3120 : BitVec 32 := 396#32
  let v6357 : BitVec 32 := Scalar.addi v0 c396_i32_3120
  let v6358 : Index := Scalar.indexCast v6357
  ![v6358.toNat]
def k0_off1818 (v6359 : BitVec 32) : Fin 2 → Nat :=
  let c0_i32_3123 : BitVec 32 := 0#32
  ![v6359.toNat, 0]

def k0_chk909 (v6359 : BitVec 32) : Prop :=
  (∀ a, (k0_off1818 v6359) a + S1x768.size a ≤ S50257x768.size a)
theorem k0_off1818_inb : ∀ (v6359 : BitVec 32) (k0_hw909 : k0_chk909 v6359), ∀ a, (k0_off1818 v6359) a + S1x768.size a ≤ S50257x768.size a := fun v6359 k0_hw909 => k0_hw909

def k0_off1819 (i : grid0.Coords) : Fin 1 → Nat :=
  let arg0 : BitVec 32 := BitVec.ofNat 32 (i 0).val
  let c512_i32 : BitVec 32 := 512#32
  let v0 : BitVec 32 := Scalar.muli arg0 c512_i32
  let c397_i32_3124 : BitVec 32 := 397#32
  let v6364 : BitVec 32 := Scalar.addi v0 c397_i32_3124
  let v6365 : Index := Scalar.indexCast v6364
  ![v6365.toNat]
def k0_off1820 (v6366 : BitVec 32) : Fin 2 → Nat :=
  let c0_i32_3127 : BitVec 32 := 0#32
  ![v6366.toNat, 0]

def k0_chk910 (v6366 : BitVec 32) : Prop :=
  (∀ a, (k0_off1820 v6366) a + S1x768.size a ≤ S50257x768.size a)
theorem k0_off1820_inb : ∀ (v6366 : BitVec 32) (k0_hw910 : k0_chk910 v6366), ∀ a, (k0_off1820 v6366) a + S1x768.size a ≤ S50257x768.size a := fun v6366 k0_hw910 => k0_hw910

def k0_off1821 (i : grid0.Coords) : Fin 1 → Nat :=
  let arg0 : BitVec 32 := BitVec.ofNat 32 (i 0).val
  let c512_i32 : BitVec 32 := 512#32
  let v0 : BitVec 32 := Scalar.muli arg0 c512_i32
  let c398_i32_3128 : BitVec 32 := 398#32
  let v6371 : BitVec 32 := Scalar.addi v0 c398_i32_3128
  let v6372 : Index := Scalar.indexCast v6371
  ![v6372.toNat]
def k0_off1822 (v6373 : BitVec 32) : Fin 2 → Nat :=
  let c0_i32_3131 : BitVec 32 := 0#32
  ![v6373.toNat, 0]

def k0_chk911 (v6373 : BitVec 32) : Prop :=
  (∀ a, (k0_off1822 v6373) a + S1x768.size a ≤ S50257x768.size a)
theorem k0_off1822_inb : ∀ (v6373 : BitVec 32) (k0_hw911 : k0_chk911 v6373), ∀ a, (k0_off1822 v6373) a + S1x768.size a ≤ S50257x768.size a := fun v6373 k0_hw911 => k0_hw911

def k0_off1823 (i : grid0.Coords) : Fin 1 → Nat :=
  let arg0 : BitVec 32 := BitVec.ofNat 32 (i 0).val
  let c512_i32 : BitVec 32 := 512#32
  let v0 : BitVec 32 := Scalar.muli arg0 c512_i32
  let c399_i32_3132 : BitVec 32 := 399#32
  let v6378 : BitVec 32 := Scalar.addi v0 c399_i32_3132
  let v6379 : Index := Scalar.indexCast v6378
  ![v6379.toNat]
def k0_off1824 (v6380 : BitVec 32) : Fin 2 → Nat :=
  let c0_i32_3135 : BitVec 32 := 0#32
  ![v6380.toNat, 0]

def k0_chk912 (v6380 : BitVec 32) : Prop :=
  (∀ a, (k0_off1824 v6380) a + S1x768.size a ≤ S50257x768.size a)
theorem k0_off1824_inb : ∀ (v6380 : BitVec 32) (k0_hw912 : k0_chk912 v6380), ∀ a, (k0_off1824 v6380) a + S1x768.size a ≤ S50257x768.size a := fun v6380 k0_hw912 => k0_hw912

def k0_off1825 (i : grid0.Coords) : Fin 1 → Nat :=
  let arg0 : BitVec 32 := BitVec.ofNat 32 (i 0).val
  let c512_i32 : BitVec 32 := 512#32
  let v0 : BitVec 32 := Scalar.muli arg0 c512_i32
  let c400_i32_3136 : BitVec 32 := 400#32
  let v6385 : BitVec 32 := Scalar.addi v0 c400_i32_3136
  let v6386 : Index := Scalar.indexCast v6385
  ![v6386.toNat]
def k0_off1826 (v6387 : BitVec 32) : Fin 2 → Nat :=
  let c0_i32_3139 : BitVec 32 := 0#32
  ![v6387.toNat, 0]

def k0_chk913 (v6387 : BitVec 32) : Prop :=
  (∀ a, (k0_off1826 v6387) a + S1x768.size a ≤ S50257x768.size a)
theorem k0_off1826_inb : ∀ (v6387 : BitVec 32) (k0_hw913 : k0_chk913 v6387), ∀ a, (k0_off1826 v6387) a + S1x768.size a ≤ S50257x768.size a := fun v6387 k0_hw913 => k0_hw913

def k0_off1827 (i : grid0.Coords) : Fin 1 → Nat :=
  let arg0 : BitVec 32 := BitVec.ofNat 32 (i 0).val
  let c512_i32 : BitVec 32 := 512#32
  let v0 : BitVec 32 := Scalar.muli arg0 c512_i32
  let c401_i32_3140 : BitVec 32 := 401#32
  let v6392 : BitVec 32 := Scalar.addi v0 c401_i32_3140
  let v6393 : Index := Scalar.indexCast v6392
  ![v6393.toNat]
def k0_off1828 (v6394 : BitVec 32) : Fin 2 → Nat :=
  let c0_i32_3143 : BitVec 32 := 0#32
  ![v6394.toNat, 0]

def k0_chk914 (v6394 : BitVec 32) : Prop :=
  (∀ a, (k0_off1828 v6394) a + S1x768.size a ≤ S50257x768.size a)
theorem k0_off1828_inb : ∀ (v6394 : BitVec 32) (k0_hw914 : k0_chk914 v6394), ∀ a, (k0_off1828 v6394) a + S1x768.size a ≤ S50257x768.size a := fun v6394 k0_hw914 => k0_hw914

def k0_off1829 (i : grid0.Coords) : Fin 1 → Nat :=
  let arg0 : BitVec 32 := BitVec.ofNat 32 (i 0).val
  let c512_i32 : BitVec 32 := 512#32
  let v0 : BitVec 32 := Scalar.muli arg0 c512_i32
  let c402_i32_3144 : BitVec 32 := 402#32
  let v6399 : BitVec 32 := Scalar.addi v0 c402_i32_3144
  let v6400 : Index := Scalar.indexCast v6399
  ![v6400.toNat]
def k0_off1830 (v6401 : BitVec 32) : Fin 2 → Nat :=
  let c0_i32_3147 : BitVec 32 := 0#32
  ![v6401.toNat, 0]

def k0_chk915 (v6401 : BitVec 32) : Prop :=
  (∀ a, (k0_off1830 v6401) a + S1x768.size a ≤ S50257x768.size a)
theorem k0_off1830_inb : ∀ (v6401 : BitVec 32) (k0_hw915 : k0_chk915 v6401), ∀ a, (k0_off1830 v6401) a + S1x768.size a ≤ S50257x768.size a := fun v6401 k0_hw915 => k0_hw915

def k0_off1831 (i : grid0.Coords) : Fin 1 → Nat :=
  let arg0 : BitVec 32 := BitVec.ofNat 32 (i 0).val
  let c512_i32 : BitVec 32 := 512#32
  let v0 : BitVec 32 := Scalar.muli arg0 c512_i32
  let c403_i32_3148 : BitVec 32 := 403#32
  let v6406 : BitVec 32 := Scalar.addi v0 c403_i32_3148
  let v6407 : Index := Scalar.indexCast v6406
  ![v6407.toNat]
def k0_off1832 (v6408 : BitVec 32) : Fin 2 → Nat :=
  let c0_i32_3151 : BitVec 32 := 0#32
  ![v6408.toNat, 0]

def k0_chk916 (v6408 : BitVec 32) : Prop :=
  (∀ a, (k0_off1832 v6408) a + S1x768.size a ≤ S50257x768.size a)
theorem k0_off1832_inb : ∀ (v6408 : BitVec 32) (k0_hw916 : k0_chk916 v6408), ∀ a, (k0_off1832 v6408) a + S1x768.size a ≤ S50257x768.size a := fun v6408 k0_hw916 => k0_hw916

def k0_off1833 (i : grid0.Coords) : Fin 1 → Nat :=
  let arg0 : BitVec 32 := BitVec.ofNat 32 (i 0).val
  let c512_i32 : BitVec 32 := 512#32
  let v0 : BitVec 32 := Scalar.muli arg0 c512_i32
  let c404_i32_3152 : BitVec 32 := 404#32
  let v6413 : BitVec 32 := Scalar.addi v0 c404_i32_3152
  let v6414 : Index := Scalar.indexCast v6413
  ![v6414.toNat]
def k0_off1834 (v6415 : BitVec 32) : Fin 2 → Nat :=
  let c0_i32_3155 : BitVec 32 := 0#32
  ![v6415.toNat, 0]

def k0_chk917 (v6415 : BitVec 32) : Prop :=
  (∀ a, (k0_off1834 v6415) a + S1x768.size a ≤ S50257x768.size a)
theorem k0_off1834_inb : ∀ (v6415 : BitVec 32) (k0_hw917 : k0_chk917 v6415), ∀ a, (k0_off1834 v6415) a + S1x768.size a ≤ S50257x768.size a := fun v6415 k0_hw917 => k0_hw917

def k0_off1835 (i : grid0.Coords) : Fin 1 → Nat :=
  let arg0 : BitVec 32 := BitVec.ofNat 32 (i 0).val
  let c512_i32 : BitVec 32 := 512#32
  let v0 : BitVec 32 := Scalar.muli arg0 c512_i32
  let c405_i32_3156 : BitVec 32 := 405#32
  let v6420 : BitVec 32 := Scalar.addi v0 c405_i32_3156
  let v6421 : Index := Scalar.indexCast v6420
  ![v6421.toNat]
def k0_off1836 (v6422 : BitVec 32) : Fin 2 → Nat :=
  let c0_i32_3159 : BitVec 32 := 0#32
  ![v6422.toNat, 0]

def k0_chk918 (v6422 : BitVec 32) : Prop :=
  (∀ a, (k0_off1836 v6422) a + S1x768.size a ≤ S50257x768.size a)
theorem k0_off1836_inb : ∀ (v6422 : BitVec 32) (k0_hw918 : k0_chk918 v6422), ∀ a, (k0_off1836 v6422) a + S1x768.size a ≤ S50257x768.size a := fun v6422 k0_hw918 => k0_hw918

def k0_off1837 (i : grid0.Coords) : Fin 1 → Nat :=
  let arg0 : BitVec 32 := BitVec.ofNat 32 (i 0).val
  let c512_i32 : BitVec 32 := 512#32
  let v0 : BitVec 32 := Scalar.muli arg0 c512_i32
  let c406_i32_3160 : BitVec 32 := 406#32
  let v6427 : BitVec 32 := Scalar.addi v0 c406_i32_3160
  let v6428 : Index := Scalar.indexCast v6427
  ![v6428.toNat]
def k0_off1838 (v6429 : BitVec 32) : Fin 2 → Nat :=
  let c0_i32_3163 : BitVec 32 := 0#32
  ![v6429.toNat, 0]

def k0_chk919 (v6429 : BitVec 32) : Prop :=
  (∀ a, (k0_off1838 v6429) a + S1x768.size a ≤ S50257x768.size a)
theorem k0_off1838_inb : ∀ (v6429 : BitVec 32) (k0_hw919 : k0_chk919 v6429), ∀ a, (k0_off1838 v6429) a + S1x768.size a ≤ S50257x768.size a := fun v6429 k0_hw919 => k0_hw919

def k0_off1839 (i : grid0.Coords) : Fin 1 → Nat :=
  let arg0 : BitVec 32 := BitVec.ofNat 32 (i 0).val
  let c512_i32 : BitVec 32 := 512#32
  let v0 : BitVec 32 := Scalar.muli arg0 c512_i32
  let c407_i32_3164 : BitVec 32 := 407#32
  let v6434 : BitVec 32 := Scalar.addi v0 c407_i32_3164
  let v6435 : Index := Scalar.indexCast v6434
  ![v6435.toNat]
def k0_off1840 (v6436 : BitVec 32) : Fin 2 → Nat :=
  let c0_i32_3167 : BitVec 32 := 0#32
  ![v6436.toNat, 0]

def k0_chk920 (v6436 : BitVec 32) : Prop :=
  (∀ a, (k0_off1840 v6436) a + S1x768.size a ≤ S50257x768.size a)
theorem k0_off1840_inb : ∀ (v6436 : BitVec 32) (k0_hw920 : k0_chk920 v6436), ∀ a, (k0_off1840 v6436) a + S1x768.size a ≤ S50257x768.size a := fun v6436 k0_hw920 => k0_hw920

def k0_off1841 (i : grid0.Coords) : Fin 1 → Nat :=
  let arg0 : BitVec 32 := BitVec.ofNat 32 (i 0).val
  let c512_i32 : BitVec 32 := 512#32
  let v0 : BitVec 32 := Scalar.muli arg0 c512_i32
  let c408_i32_3168 : BitVec 32 := 408#32
  let v6441 : BitVec 32 := Scalar.addi v0 c408_i32_3168
  let v6442 : Index := Scalar.indexCast v6441
  ![v6442.toNat]
def k0_off1842 (v6443 : BitVec 32) : Fin 2 → Nat :=
  let c0_i32_3171 : BitVec 32 := 0#32
  ![v6443.toNat, 0]

def k0_chk921 (v6443 : BitVec 32) : Prop :=
  (∀ a, (k0_off1842 v6443) a + S1x768.size a ≤ S50257x768.size a)
theorem k0_off1842_inb : ∀ (v6443 : BitVec 32) (k0_hw921 : k0_chk921 v6443), ∀ a, (k0_off1842 v6443) a + S1x768.size a ≤ S50257x768.size a := fun v6443 k0_hw921 => k0_hw921

def k0_off1843 (i : grid0.Coords) : Fin 1 → Nat :=
  let arg0 : BitVec 32 := BitVec.ofNat 32 (i 0).val
  let c512_i32 : BitVec 32 := 512#32
  let v0 : BitVec 32 := Scalar.muli arg0 c512_i32
  let c409_i32_3172 : BitVec 32 := 409#32
  let v6448 : BitVec 32 := Scalar.addi v0 c409_i32_3172
  let v6449 : Index := Scalar.indexCast v6448
  ![v6449.toNat]
def k0_off1844 (v6450 : BitVec 32) : Fin 2 → Nat :=
  let c0_i32_3175 : BitVec 32 := 0#32
  ![v6450.toNat, 0]

def k0_chk922 (v6450 : BitVec 32) : Prop :=
  (∀ a, (k0_off1844 v6450) a + S1x768.size a ≤ S50257x768.size a)
theorem k0_off1844_inb : ∀ (v6450 : BitVec 32) (k0_hw922 : k0_chk922 v6450), ∀ a, (k0_off1844 v6450) a + S1x768.size a ≤ S50257x768.size a := fun v6450 k0_hw922 => k0_hw922

def k0_off1845 (i : grid0.Coords) : Fin 1 → Nat :=
  let arg0 : BitVec 32 := BitVec.ofNat 32 (i 0).val
  let c512_i32 : BitVec 32 := 512#32
  let v0 : BitVec 32 := Scalar.muli arg0 c512_i32
  let c410_i32_3176 : BitVec 32 := 410#32
  let v6455 : BitVec 32 := Scalar.addi v0 c410_i32_3176
  let v6456 : Index := Scalar.indexCast v6455
  ![v6456.toNat]
def k0_off1846 (v6457 : BitVec 32) : Fin 2 → Nat :=
  let c0_i32_3179 : BitVec 32 := 0#32
  ![v6457.toNat, 0]

def k0_chk923 (v6457 : BitVec 32) : Prop :=
  (∀ a, (k0_off1846 v6457) a + S1x768.size a ≤ S50257x768.size a)
theorem k0_off1846_inb : ∀ (v6457 : BitVec 32) (k0_hw923 : k0_chk923 v6457), ∀ a, (k0_off1846 v6457) a + S1x768.size a ≤ S50257x768.size a := fun v6457 k0_hw923 => k0_hw923

def k0_off1847 (i : grid0.Coords) : Fin 1 → Nat :=
  let arg0 : BitVec 32 := BitVec.ofNat 32 (i 0).val
  let c512_i32 : BitVec 32 := 512#32
  let v0 : BitVec 32 := Scalar.muli arg0 c512_i32
  let c411_i32_3180 : BitVec 32 := 411#32
  let v6462 : BitVec 32 := Scalar.addi v0 c411_i32_3180
  let v6463 : Index := Scalar.indexCast v6462
  ![v6463.toNat]
def k0_off1848 (v6464 : BitVec 32) : Fin 2 → Nat :=
  let c0_i32_3183 : BitVec 32 := 0#32
  ![v6464.toNat, 0]

def k0_chk924 (v6464 : BitVec 32) : Prop :=
  (∀ a, (k0_off1848 v6464) a + S1x768.size a ≤ S50257x768.size a)
theorem k0_off1848_inb : ∀ (v6464 : BitVec 32) (k0_hw924 : k0_chk924 v6464), ∀ a, (k0_off1848 v6464) a + S1x768.size a ≤ S50257x768.size a := fun v6464 k0_hw924 => k0_hw924

def k0_off1849 (i : grid0.Coords) : Fin 1 → Nat :=
  let arg0 : BitVec 32 := BitVec.ofNat 32 (i 0).val
  let c512_i32 : BitVec 32 := 512#32
  let v0 : BitVec 32 := Scalar.muli arg0 c512_i32
  let c412_i32_3184 : BitVec 32 := 412#32
  let v6469 : BitVec 32 := Scalar.addi v0 c412_i32_3184
  let v6470 : Index := Scalar.indexCast v6469
  ![v6470.toNat]
def k0_off1850 (v6471 : BitVec 32) : Fin 2 → Nat :=
  let c0_i32_3187 : BitVec 32 := 0#32
  ![v6471.toNat, 0]

def k0_chk925 (v6471 : BitVec 32) : Prop :=
  (∀ a, (k0_off1850 v6471) a + S1x768.size a ≤ S50257x768.size a)
theorem k0_off1850_inb : ∀ (v6471 : BitVec 32) (k0_hw925 : k0_chk925 v6471), ∀ a, (k0_off1850 v6471) a + S1x768.size a ≤ S50257x768.size a := fun v6471 k0_hw925 => k0_hw925

def k0_off1851 (i : grid0.Coords) : Fin 1 → Nat :=
  let arg0 : BitVec 32 := BitVec.ofNat 32 (i 0).val
  let c512_i32 : BitVec 32 := 512#32
  let v0 : BitVec 32 := Scalar.muli arg0 c512_i32
  let c413_i32_3188 : BitVec 32 := 413#32
  let v6476 : BitVec 32 := Scalar.addi v0 c413_i32_3188
  let v6477 : Index := Scalar.indexCast v6476
  ![v6477.toNat]
def k0_off1852 (v6478 : BitVec 32) : Fin 2 → Nat :=
  let c0_i32_3191 : BitVec 32 := 0#32
  ![v6478.toNat, 0]

def k0_chk926 (v6478 : BitVec 32) : Prop :=
  (∀ a, (k0_off1852 v6478) a + S1x768.size a ≤ S50257x768.size a)
theorem k0_off1852_inb : ∀ (v6478 : BitVec 32) (k0_hw926 : k0_chk926 v6478), ∀ a, (k0_off1852 v6478) a + S1x768.size a ≤ S50257x768.size a := fun v6478 k0_hw926 => k0_hw926

def k0_off1853 (i : grid0.Coords) : Fin 1 → Nat :=
  let arg0 : BitVec 32 := BitVec.ofNat 32 (i 0).val
  let c512_i32 : BitVec 32 := 512#32
  let v0 : BitVec 32 := Scalar.muli arg0 c512_i32
  let c414_i32_3192 : BitVec 32 := 414#32
  let v6483 : BitVec 32 := Scalar.addi v0 c414_i32_3192
  let v6484 : Index := Scalar.indexCast v6483
  ![v6484.toNat]
def k0_off1854 (v6485 : BitVec 32) : Fin 2 → Nat :=
  let c0_i32_3195 : BitVec 32 := 0#32
  ![v6485.toNat, 0]

def k0_chk927 (v6485 : BitVec 32) : Prop :=
  (∀ a, (k0_off1854 v6485) a + S1x768.size a ≤ S50257x768.size a)
theorem k0_off1854_inb : ∀ (v6485 : BitVec 32) (k0_hw927 : k0_chk927 v6485), ∀ a, (k0_off1854 v6485) a + S1x768.size a ≤ S50257x768.size a := fun v6485 k0_hw927 => k0_hw927

def k0_off1855 (i : grid0.Coords) : Fin 1 → Nat :=
  let arg0 : BitVec 32 := BitVec.ofNat 32 (i 0).val
  let c512_i32 : BitVec 32 := 512#32
  let v0 : BitVec 32 := Scalar.muli arg0 c512_i32
  let c415_i32_3196 : BitVec 32 := 415#32
  let v6490 : BitVec 32 := Scalar.addi v0 c415_i32_3196
  let v6491 : Index := Scalar.indexCast v6490
  ![v6491.toNat]
def k0_off1856 (v6492 : BitVec 32) : Fin 2 → Nat :=
  let c0_i32_3199 : BitVec 32 := 0#32
  ![v6492.toNat, 0]

def k0_chk928 (v6492 : BitVec 32) : Prop :=
  (∀ a, (k0_off1856 v6492) a + S1x768.size a ≤ S50257x768.size a)
theorem k0_off1856_inb : ∀ (v6492 : BitVec 32) (k0_hw928 : k0_chk928 v6492), ∀ a, (k0_off1856 v6492) a + S1x768.size a ≤ S50257x768.size a := fun v6492 k0_hw928 => k0_hw928

def k0_off1857 (i : grid0.Coords) : Fin 1 → Nat :=
  let arg0 : BitVec 32 := BitVec.ofNat 32 (i 0).val
  let c512_i32 : BitVec 32 := 512#32
  let v0 : BitVec 32 := Scalar.muli arg0 c512_i32
  let c416_i32_3200 : BitVec 32 := 416#32
  let v6497 : BitVec 32 := Scalar.addi v0 c416_i32_3200
  let v6498 : Index := Scalar.indexCast v6497
  ![v6498.toNat]
def k0_off1858 (v6499 : BitVec 32) : Fin 2 → Nat :=
  let c0_i32_3203 : BitVec 32 := 0#32
  ![v6499.toNat, 0]

def k0_chk929 (v6499 : BitVec 32) : Prop :=
  (∀ a, (k0_off1858 v6499) a + S1x768.size a ≤ S50257x768.size a)
theorem k0_off1858_inb : ∀ (v6499 : BitVec 32) (k0_hw929 : k0_chk929 v6499), ∀ a, (k0_off1858 v6499) a + S1x768.size a ≤ S50257x768.size a := fun v6499 k0_hw929 => k0_hw929

def k0_off1859 (i : grid0.Coords) : Fin 1 → Nat :=
  let arg0 : BitVec 32 := BitVec.ofNat 32 (i 0).val
  let c512_i32 : BitVec 32 := 512#32
  let v0 : BitVec 32 := Scalar.muli arg0 c512_i32
  let c417_i32_3204 : BitVec 32 := 417#32
  let v6504 : BitVec 32 := Scalar.addi v0 c417_i32_3204
  let v6505 : Index := Scalar.indexCast v6504
  ![v6505.toNat]
def k0_off1860 (v6506 : BitVec 32) : Fin 2 → Nat :=
  let c0_i32_3207 : BitVec 32 := 0#32
  ![v6506.toNat, 0]

def k0_chk930 (v6506 : BitVec 32) : Prop :=
  (∀ a, (k0_off1860 v6506) a + S1x768.size a ≤ S50257x768.size a)
theorem k0_off1860_inb : ∀ (v6506 : BitVec 32) (k0_hw930 : k0_chk930 v6506), ∀ a, (k0_off1860 v6506) a + S1x768.size a ≤ S50257x768.size a := fun v6506 k0_hw930 => k0_hw930

def k0_off1861 (i : grid0.Coords) : Fin 1 → Nat :=
  let arg0 : BitVec 32 := BitVec.ofNat 32 (i 0).val
  let c512_i32 : BitVec 32 := 512#32
  let v0 : BitVec 32 := Scalar.muli arg0 c512_i32
  let c418_i32_3208 : BitVec 32 := 418#32
  let v6511 : BitVec 32 := Scalar.addi v0 c418_i32_3208
  let v6512 : Index := Scalar.indexCast v6511
  ![v6512.toNat]
def k0_off1862 (v6513 : BitVec 32) : Fin 2 → Nat :=
  let c0_i32_3211 : BitVec 32 := 0#32
  ![v6513.toNat, 0]

def k0_chk931 (v6513 : BitVec 32) : Prop :=
  (∀ a, (k0_off1862 v6513) a + S1x768.size a ≤ S50257x768.size a)
theorem k0_off1862_inb : ∀ (v6513 : BitVec 32) (k0_hw931 : k0_chk931 v6513), ∀ a, (k0_off1862 v6513) a + S1x768.size a ≤ S50257x768.size a := fun v6513 k0_hw931 => k0_hw931

def k0_off1863 (i : grid0.Coords) : Fin 1 → Nat :=
  let arg0 : BitVec 32 := BitVec.ofNat 32 (i 0).val
  let c512_i32 : BitVec 32 := 512#32
  let v0 : BitVec 32 := Scalar.muli arg0 c512_i32
  let c419_i32_3212 : BitVec 32 := 419#32
  let v6518 : BitVec 32 := Scalar.addi v0 c419_i32_3212
  let v6519 : Index := Scalar.indexCast v6518
  ![v6519.toNat]
def k0_off1864 (v6520 : BitVec 32) : Fin 2 → Nat :=
  let c0_i32_3215 : BitVec 32 := 0#32
  ![v6520.toNat, 0]

def k0_chk932 (v6520 : BitVec 32) : Prop :=
  (∀ a, (k0_off1864 v6520) a + S1x768.size a ≤ S50257x768.size a)
theorem k0_off1864_inb : ∀ (v6520 : BitVec 32) (k0_hw932 : k0_chk932 v6520), ∀ a, (k0_off1864 v6520) a + S1x768.size a ≤ S50257x768.size a := fun v6520 k0_hw932 => k0_hw932

def k0_off1865 (i : grid0.Coords) : Fin 1 → Nat :=
  let arg0 : BitVec 32 := BitVec.ofNat 32 (i 0).val
  let c512_i32 : BitVec 32 := 512#32
  let v0 : BitVec 32 := Scalar.muli arg0 c512_i32
  let c420_i32_3216 : BitVec 32 := 420#32
  let v6525 : BitVec 32 := Scalar.addi v0 c420_i32_3216
  let v6526 : Index := Scalar.indexCast v6525
  ![v6526.toNat]
def k0_off1866 (v6527 : BitVec 32) : Fin 2 → Nat :=
  let c0_i32_3219 : BitVec 32 := 0#32
  ![v6527.toNat, 0]

def k0_chk933 (v6527 : BitVec 32) : Prop :=
  (∀ a, (k0_off1866 v6527) a + S1x768.size a ≤ S50257x768.size a)
theorem k0_off1866_inb : ∀ (v6527 : BitVec 32) (k0_hw933 : k0_chk933 v6527), ∀ a, (k0_off1866 v6527) a + S1x768.size a ≤ S50257x768.size a := fun v6527 k0_hw933 => k0_hw933

def k0_off1867 (i : grid0.Coords) : Fin 1 → Nat :=
  let arg0 : BitVec 32 := BitVec.ofNat 32 (i 0).val
  let c512_i32 : BitVec 32 := 512#32
  let v0 : BitVec 32 := Scalar.muli arg0 c512_i32
  let c421_i32_3220 : BitVec 32 := 421#32
  let v6532 : BitVec 32 := Scalar.addi v0 c421_i32_3220
  let v6533 : Index := Scalar.indexCast v6532
  ![v6533.toNat]
def k0_off1868 (v6534 : BitVec 32) : Fin 2 → Nat :=
  let c0_i32_3223 : BitVec 32 := 0#32
  ![v6534.toNat, 0]

def k0_chk934 (v6534 : BitVec 32) : Prop :=
  (∀ a, (k0_off1868 v6534) a + S1x768.size a ≤ S50257x768.size a)
theorem k0_off1868_inb : ∀ (v6534 : BitVec 32) (k0_hw934 : k0_chk934 v6534), ∀ a, (k0_off1868 v6534) a + S1x768.size a ≤ S50257x768.size a := fun v6534 k0_hw934 => k0_hw934

def k0_off1869 (i : grid0.Coords) : Fin 1 → Nat :=
  let arg0 : BitVec 32 := BitVec.ofNat 32 (i 0).val
  let c512_i32 : BitVec 32 := 512#32
  let v0 : BitVec 32 := Scalar.muli arg0 c512_i32
  let c422_i32_3224 : BitVec 32 := 422#32
  let v6539 : BitVec 32 := Scalar.addi v0 c422_i32_3224
  let v6540 : Index := Scalar.indexCast v6539
  ![v6540.toNat]
def k0_off1870 (v6541 : BitVec 32) : Fin 2 → Nat :=
  let c0_i32_3227 : BitVec 32 := 0#32
  ![v6541.toNat, 0]

def k0_chk935 (v6541 : BitVec 32) : Prop :=
  (∀ a, (k0_off1870 v6541) a + S1x768.size a ≤ S50257x768.size a)
theorem k0_off1870_inb : ∀ (v6541 : BitVec 32) (k0_hw935 : k0_chk935 v6541), ∀ a, (k0_off1870 v6541) a + S1x768.size a ≤ S50257x768.size a := fun v6541 k0_hw935 => k0_hw935

def k0_off1871 (i : grid0.Coords) : Fin 1 → Nat :=
  let arg0 : BitVec 32 := BitVec.ofNat 32 (i 0).val
  let c512_i32 : BitVec 32 := 512#32
  let v0 : BitVec 32 := Scalar.muli arg0 c512_i32
  let c423_i32_3228 : BitVec 32 := 423#32
  let v6546 : BitVec 32 := Scalar.addi v0 c423_i32_3228
  let v6547 : Index := Scalar.indexCast v6546
  ![v6547.toNat]
def k0_off1872 (v6548 : BitVec 32) : Fin 2 → Nat :=
  let c0_i32_3231 : BitVec 32 := 0#32
  ![v6548.toNat, 0]

def k0_chk936 (v6548 : BitVec 32) : Prop :=
  (∀ a, (k0_off1872 v6548) a + S1x768.size a ≤ S50257x768.size a)
theorem k0_off1872_inb : ∀ (v6548 : BitVec 32) (k0_hw936 : k0_chk936 v6548), ∀ a, (k0_off1872 v6548) a + S1x768.size a ≤ S50257x768.size a := fun v6548 k0_hw936 => k0_hw936

def k0_off1873 (i : grid0.Coords) : Fin 1 → Nat :=
  let arg0 : BitVec 32 := BitVec.ofNat 32 (i 0).val
  let c512_i32 : BitVec 32 := 512#32
  let v0 : BitVec 32 := Scalar.muli arg0 c512_i32
  let c424_i32_3232 : BitVec 32 := 424#32
  let v6553 : BitVec 32 := Scalar.addi v0 c424_i32_3232
  let v6554 : Index := Scalar.indexCast v6553
  ![v6554.toNat]
def k0_off1874 (v6555 : BitVec 32) : Fin 2 → Nat :=
  let c0_i32_3235 : BitVec 32 := 0#32
  ![v6555.toNat, 0]

def k0_chk937 (v6555 : BitVec 32) : Prop :=
  (∀ a, (k0_off1874 v6555) a + S1x768.size a ≤ S50257x768.size a)
theorem k0_off1874_inb : ∀ (v6555 : BitVec 32) (k0_hw937 : k0_chk937 v6555), ∀ a, (k0_off1874 v6555) a + S1x768.size a ≤ S50257x768.size a := fun v6555 k0_hw937 => k0_hw937

def k0_off1875 (i : grid0.Coords) : Fin 1 → Nat :=
  let arg0 : BitVec 32 := BitVec.ofNat 32 (i 0).val
  let c512_i32 : BitVec 32 := 512#32
  let v0 : BitVec 32 := Scalar.muli arg0 c512_i32
  let c425_i32_3236 : BitVec 32 := 425#32
  let v6560 : BitVec 32 := Scalar.addi v0 c425_i32_3236
  let v6561 : Index := Scalar.indexCast v6560
  ![v6561.toNat]
def k0_off1876 (v6562 : BitVec 32) : Fin 2 → Nat :=
  let c0_i32_3239 : BitVec 32 := 0#32
  ![v6562.toNat, 0]

def k0_chk938 (v6562 : BitVec 32) : Prop :=
  (∀ a, (k0_off1876 v6562) a + S1x768.size a ≤ S50257x768.size a)
theorem k0_off1876_inb : ∀ (v6562 : BitVec 32) (k0_hw938 : k0_chk938 v6562), ∀ a, (k0_off1876 v6562) a + S1x768.size a ≤ S50257x768.size a := fun v6562 k0_hw938 => k0_hw938

def k0_off1877 (i : grid0.Coords) : Fin 1 → Nat :=
  let arg0 : BitVec 32 := BitVec.ofNat 32 (i 0).val
  let c512_i32 : BitVec 32 := 512#32
  let v0 : BitVec 32 := Scalar.muli arg0 c512_i32
  let c426_i32_3240 : BitVec 32 := 426#32
  let v6567 : BitVec 32 := Scalar.addi v0 c426_i32_3240
  let v6568 : Index := Scalar.indexCast v6567
  ![v6568.toNat]
def k0_off1878 (v6569 : BitVec 32) : Fin 2 → Nat :=
  let c0_i32_3243 : BitVec 32 := 0#32
  ![v6569.toNat, 0]

def k0_chk939 (v6569 : BitVec 32) : Prop :=
  (∀ a, (k0_off1878 v6569) a + S1x768.size a ≤ S50257x768.size a)
theorem k0_off1878_inb : ∀ (v6569 : BitVec 32) (k0_hw939 : k0_chk939 v6569), ∀ a, (k0_off1878 v6569) a + S1x768.size a ≤ S50257x768.size a := fun v6569 k0_hw939 => k0_hw939

def k0_off1879 (i : grid0.Coords) : Fin 1 → Nat :=
  let arg0 : BitVec 32 := BitVec.ofNat 32 (i 0).val
  let c512_i32 : BitVec 32 := 512#32
  let v0 : BitVec 32 := Scalar.muli arg0 c512_i32
  let c427_i32_3244 : BitVec 32 := 427#32
  let v6574 : BitVec 32 := Scalar.addi v0 c427_i32_3244
  let v6575 : Index := Scalar.indexCast v6574
  ![v6575.toNat]
def k0_off1880 (v6576 : BitVec 32) : Fin 2 → Nat :=
  let c0_i32_3247 : BitVec 32 := 0#32
  ![v6576.toNat, 0]

def k0_chk940 (v6576 : BitVec 32) : Prop :=
  (∀ a, (k0_off1880 v6576) a + S1x768.size a ≤ S50257x768.size a)
theorem k0_off1880_inb : ∀ (v6576 : BitVec 32) (k0_hw940 : k0_chk940 v6576), ∀ a, (k0_off1880 v6576) a + S1x768.size a ≤ S50257x768.size a := fun v6576 k0_hw940 => k0_hw940

def k0_off1881 (i : grid0.Coords) : Fin 1 → Nat :=
  let arg0 : BitVec 32 := BitVec.ofNat 32 (i 0).val
  let c512_i32 : BitVec 32 := 512#32
  let v0 : BitVec 32 := Scalar.muli arg0 c512_i32
  let c428_i32_3248 : BitVec 32 := 428#32
  let v6581 : BitVec 32 := Scalar.addi v0 c428_i32_3248
  let v6582 : Index := Scalar.indexCast v6581
  ![v6582.toNat]
def k0_off1882 (v6583 : BitVec 32) : Fin 2 → Nat :=
  let c0_i32_3251 : BitVec 32 := 0#32
  ![v6583.toNat, 0]

def k0_chk941 (v6583 : BitVec 32) : Prop :=
  (∀ a, (k0_off1882 v6583) a + S1x768.size a ≤ S50257x768.size a)
theorem k0_off1882_inb : ∀ (v6583 : BitVec 32) (k0_hw941 : k0_chk941 v6583), ∀ a, (k0_off1882 v6583) a + S1x768.size a ≤ S50257x768.size a := fun v6583 k0_hw941 => k0_hw941

def k0_off1883 (i : grid0.Coords) : Fin 1 → Nat :=
  let arg0 : BitVec 32 := BitVec.ofNat 32 (i 0).val
  let c512_i32 : BitVec 32 := 512#32
  let v0 : BitVec 32 := Scalar.muli arg0 c512_i32
  let c429_i32_3252 : BitVec 32 := 429#32
  let v6588 : BitVec 32 := Scalar.addi v0 c429_i32_3252
  let v6589 : Index := Scalar.indexCast v6588
  ![v6589.toNat]
def k0_off1884 (v6590 : BitVec 32) : Fin 2 → Nat :=
  let c0_i32_3255 : BitVec 32 := 0#32
  ![v6590.toNat, 0]

def k0_chk942 (v6590 : BitVec 32) : Prop :=
  (∀ a, (k0_off1884 v6590) a + S1x768.size a ≤ S50257x768.size a)
theorem k0_off1884_inb : ∀ (v6590 : BitVec 32) (k0_hw942 : k0_chk942 v6590), ∀ a, (k0_off1884 v6590) a + S1x768.size a ≤ S50257x768.size a := fun v6590 k0_hw942 => k0_hw942

def k0_off1885 (i : grid0.Coords) : Fin 1 → Nat :=
  let arg0 : BitVec 32 := BitVec.ofNat 32 (i 0).val
  let c512_i32 : BitVec 32 := 512#32
  let v0 : BitVec 32 := Scalar.muli arg0 c512_i32
  let c430_i32_3256 : BitVec 32 := 430#32
  let v6595 : BitVec 32 := Scalar.addi v0 c430_i32_3256
  let v6596 : Index := Scalar.indexCast v6595
  ![v6596.toNat]
def k0_off1886 (v6597 : BitVec 32) : Fin 2 → Nat :=
  let c0_i32_3259 : BitVec 32 := 0#32
  ![v6597.toNat, 0]

def k0_chk943 (v6597 : BitVec 32) : Prop :=
  (∀ a, (k0_off1886 v6597) a + S1x768.size a ≤ S50257x768.size a)
theorem k0_off1886_inb : ∀ (v6597 : BitVec 32) (k0_hw943 : k0_chk943 v6597), ∀ a, (k0_off1886 v6597) a + S1x768.size a ≤ S50257x768.size a := fun v6597 k0_hw943 => k0_hw943

def k0_off1887 (i : grid0.Coords) : Fin 1 → Nat :=
  let arg0 : BitVec 32 := BitVec.ofNat 32 (i 0).val
  let c512_i32 : BitVec 32 := 512#32
  let v0 : BitVec 32 := Scalar.muli arg0 c512_i32
  let c431_i32_3260 : BitVec 32 := 431#32
  let v6602 : BitVec 32 := Scalar.addi v0 c431_i32_3260
  let v6603 : Index := Scalar.indexCast v6602
  ![v6603.toNat]
def k0_off1888 (v6604 : BitVec 32) : Fin 2 → Nat :=
  let c0_i32_3263 : BitVec 32 := 0#32
  ![v6604.toNat, 0]

def k0_chk944 (v6604 : BitVec 32) : Prop :=
  (∀ a, (k0_off1888 v6604) a + S1x768.size a ≤ S50257x768.size a)
theorem k0_off1888_inb : ∀ (v6604 : BitVec 32) (k0_hw944 : k0_chk944 v6604), ∀ a, (k0_off1888 v6604) a + S1x768.size a ≤ S50257x768.size a := fun v6604 k0_hw944 => k0_hw944

def k0_off1889 (i : grid0.Coords) : Fin 1 → Nat :=
  let arg0 : BitVec 32 := BitVec.ofNat 32 (i 0).val
  let c512_i32 : BitVec 32 := 512#32
  let v0 : BitVec 32 := Scalar.muli arg0 c512_i32
  let c432_i32_3264 : BitVec 32 := 432#32
  let v6609 : BitVec 32 := Scalar.addi v0 c432_i32_3264
  let v6610 : Index := Scalar.indexCast v6609
  ![v6610.toNat]
def k0_off1890 (v6611 : BitVec 32) : Fin 2 → Nat :=
  let c0_i32_3267 : BitVec 32 := 0#32
  ![v6611.toNat, 0]

def k0_chk945 (v6611 : BitVec 32) : Prop :=
  (∀ a, (k0_off1890 v6611) a + S1x768.size a ≤ S50257x768.size a)
theorem k0_off1890_inb : ∀ (v6611 : BitVec 32) (k0_hw945 : k0_chk945 v6611), ∀ a, (k0_off1890 v6611) a + S1x768.size a ≤ S50257x768.size a := fun v6611 k0_hw945 => k0_hw945

def k0_off1891 (i : grid0.Coords) : Fin 1 → Nat :=
  let arg0 : BitVec 32 := BitVec.ofNat 32 (i 0).val
  let c512_i32 : BitVec 32 := 512#32
  let v0 : BitVec 32 := Scalar.muli arg0 c512_i32
  let c433_i32_3268 : BitVec 32 := 433#32
  let v6616 : BitVec 32 := Scalar.addi v0 c433_i32_3268
  let v6617 : Index := Scalar.indexCast v6616
  ![v6617.toNat]
def k0_off1892 (v6618 : BitVec 32) : Fin 2 → Nat :=
  let c0_i32_3271 : BitVec 32 := 0#32
  ![v6618.toNat, 0]

def k0_chk946 (v6618 : BitVec 32) : Prop :=
  (∀ a, (k0_off1892 v6618) a + S1x768.size a ≤ S50257x768.size a)
theorem k0_off1892_inb : ∀ (v6618 : BitVec 32) (k0_hw946 : k0_chk946 v6618), ∀ a, (k0_off1892 v6618) a + S1x768.size a ≤ S50257x768.size a := fun v6618 k0_hw946 => k0_hw946

def k0_off1893 (i : grid0.Coords) : Fin 1 → Nat :=
  let arg0 : BitVec 32 := BitVec.ofNat 32 (i 0).val
  let c512_i32 : BitVec 32 := 512#32
  let v0 : BitVec 32 := Scalar.muli arg0 c512_i32
  let c434_i32_3272 : BitVec 32 := 434#32
  let v6623 : BitVec 32 := Scalar.addi v0 c434_i32_3272
  let v6624 : Index := Scalar.indexCast v6623
  ![v6624.toNat]
def k0_off1894 (v6625 : BitVec 32) : Fin 2 → Nat :=
  let c0_i32_3275 : BitVec 32 := 0#32
  ![v6625.toNat, 0]

def k0_chk947 (v6625 : BitVec 32) : Prop :=
  (∀ a, (k0_off1894 v6625) a + S1x768.size a ≤ S50257x768.size a)
theorem k0_off1894_inb : ∀ (v6625 : BitVec 32) (k0_hw947 : k0_chk947 v6625), ∀ a, (k0_off1894 v6625) a + S1x768.size a ≤ S50257x768.size a := fun v6625 k0_hw947 => k0_hw947

def k0_off1895 (i : grid0.Coords) : Fin 1 → Nat :=
  let arg0 : BitVec 32 := BitVec.ofNat 32 (i 0).val
  let c512_i32 : BitVec 32 := 512#32
  let v0 : BitVec 32 := Scalar.muli arg0 c512_i32
  let c435_i32_3276 : BitVec 32 := 435#32
  let v6630 : BitVec 32 := Scalar.addi v0 c435_i32_3276
  let v6631 : Index := Scalar.indexCast v6630
  ![v6631.toNat]
def k0_off1896 (v6632 : BitVec 32) : Fin 2 → Nat :=
  let c0_i32_3279 : BitVec 32 := 0#32
  ![v6632.toNat, 0]

def k0_chk948 (v6632 : BitVec 32) : Prop :=
  (∀ a, (k0_off1896 v6632) a + S1x768.size a ≤ S50257x768.size a)
theorem k0_off1896_inb : ∀ (v6632 : BitVec 32) (k0_hw948 : k0_chk948 v6632), ∀ a, (k0_off1896 v6632) a + S1x768.size a ≤ S50257x768.size a := fun v6632 k0_hw948 => k0_hw948

def k0_off1897 (i : grid0.Coords) : Fin 1 → Nat :=
  let arg0 : BitVec 32 := BitVec.ofNat 32 (i 0).val
  let c512_i32 : BitVec 32 := 512#32
  let v0 : BitVec 32 := Scalar.muli arg0 c512_i32
  let c436_i32_3280 : BitVec 32 := 436#32
  let v6637 : BitVec 32 := Scalar.addi v0 c436_i32_3280
  let v6638 : Index := Scalar.indexCast v6637
  ![v6638.toNat]
def k0_off1898 (v6639 : BitVec 32) : Fin 2 → Nat :=
  let c0_i32_3283 : BitVec 32 := 0#32
  ![v6639.toNat, 0]

def k0_chk949 (v6639 : BitVec 32) : Prop :=
  (∀ a, (k0_off1898 v6639) a + S1x768.size a ≤ S50257x768.size a)
theorem k0_off1898_inb : ∀ (v6639 : BitVec 32) (k0_hw949 : k0_chk949 v6639), ∀ a, (k0_off1898 v6639) a + S1x768.size a ≤ S50257x768.size a := fun v6639 k0_hw949 => k0_hw949

def k0_off1899 (i : grid0.Coords) : Fin 1 → Nat :=
  let arg0 : BitVec 32 := BitVec.ofNat 32 (i 0).val
  let c512_i32 : BitVec 32 := 512#32
  let v0 : BitVec 32 := Scalar.muli arg0 c512_i32
  let c437_i32_3284 : BitVec 32 := 437#32
  let v6644 : BitVec 32 := Scalar.addi v0 c437_i32_3284
  let v6645 : Index := Scalar.indexCast v6644
  ![v6645.toNat]
def k0_off1900 (v6646 : BitVec 32) : Fin 2 → Nat :=
  let c0_i32_3287 : BitVec 32 := 0#32
  ![v6646.toNat, 0]

def k0_chk950 (v6646 : BitVec 32) : Prop :=
  (∀ a, (k0_off1900 v6646) a + S1x768.size a ≤ S50257x768.size a)
theorem k0_off1900_inb : ∀ (v6646 : BitVec 32) (k0_hw950 : k0_chk950 v6646), ∀ a, (k0_off1900 v6646) a + S1x768.size a ≤ S50257x768.size a := fun v6646 k0_hw950 => k0_hw950

def k0_off1901 (i : grid0.Coords) : Fin 1 → Nat :=
  let arg0 : BitVec 32 := BitVec.ofNat 32 (i 0).val
  let c512_i32 : BitVec 32 := 512#32
  let v0 : BitVec 32 := Scalar.muli arg0 c512_i32
  let c438_i32_3288 : BitVec 32 := 438#32
  let v6651 : BitVec 32 := Scalar.addi v0 c438_i32_3288
  let v6652 : Index := Scalar.indexCast v6651
  ![v6652.toNat]
def k0_off1902 (v6653 : BitVec 32) : Fin 2 → Nat :=
  let c0_i32_3291 : BitVec 32 := 0#32
  ![v6653.toNat, 0]

def k0_chk951 (v6653 : BitVec 32) : Prop :=
  (∀ a, (k0_off1902 v6653) a + S1x768.size a ≤ S50257x768.size a)
theorem k0_off1902_inb : ∀ (v6653 : BitVec 32) (k0_hw951 : k0_chk951 v6653), ∀ a, (k0_off1902 v6653) a + S1x768.size a ≤ S50257x768.size a := fun v6653 k0_hw951 => k0_hw951

def k0_off1903 (i : grid0.Coords) : Fin 1 → Nat :=
  let arg0 : BitVec 32 := BitVec.ofNat 32 (i 0).val
  let c512_i32 : BitVec 32 := 512#32
  let v0 : BitVec 32 := Scalar.muli arg0 c512_i32
  let c439_i32_3292 : BitVec 32 := 439#32
  let v6658 : BitVec 32 := Scalar.addi v0 c439_i32_3292
  let v6659 : Index := Scalar.indexCast v6658
  ![v6659.toNat]
def k0_off1904 (v6660 : BitVec 32) : Fin 2 → Nat :=
  let c0_i32_3295 : BitVec 32 := 0#32
  ![v6660.toNat, 0]

def k0_chk952 (v6660 : BitVec 32) : Prop :=
  (∀ a, (k0_off1904 v6660) a + S1x768.size a ≤ S50257x768.size a)
theorem k0_off1904_inb : ∀ (v6660 : BitVec 32) (k0_hw952 : k0_chk952 v6660), ∀ a, (k0_off1904 v6660) a + S1x768.size a ≤ S50257x768.size a := fun v6660 k0_hw952 => k0_hw952

def k0_off1905 (i : grid0.Coords) : Fin 1 → Nat :=
  let arg0 : BitVec 32 := BitVec.ofNat 32 (i 0).val
  let c512_i32 : BitVec 32 := 512#32
  let v0 : BitVec 32 := Scalar.muli arg0 c512_i32
  let c440_i32_3296 : BitVec 32 := 440#32
  let v6665 : BitVec 32 := Scalar.addi v0 c440_i32_3296
  let v6666 : Index := Scalar.indexCast v6665
  ![v6666.toNat]
def k0_off1906 (v6667 : BitVec 32) : Fin 2 → Nat :=
  let c0_i32_3299 : BitVec 32 := 0#32
  ![v6667.toNat, 0]

def k0_chk953 (v6667 : BitVec 32) : Prop :=
  (∀ a, (k0_off1906 v6667) a + S1x768.size a ≤ S50257x768.size a)
theorem k0_off1906_inb : ∀ (v6667 : BitVec 32) (k0_hw953 : k0_chk953 v6667), ∀ a, (k0_off1906 v6667) a + S1x768.size a ≤ S50257x768.size a := fun v6667 k0_hw953 => k0_hw953

def k0_off1907 (i : grid0.Coords) : Fin 1 → Nat :=
  let arg0 : BitVec 32 := BitVec.ofNat 32 (i 0).val
  let c512_i32 : BitVec 32 := 512#32
  let v0 : BitVec 32 := Scalar.muli arg0 c512_i32
  let c441_i32_3300 : BitVec 32 := 441#32
  let v6672 : BitVec 32 := Scalar.addi v0 c441_i32_3300
  let v6673 : Index := Scalar.indexCast v6672
  ![v6673.toNat]
def k0_off1908 (v6674 : BitVec 32) : Fin 2 → Nat :=
  let c0_i32_3303 : BitVec 32 := 0#32
  ![v6674.toNat, 0]

def k0_chk954 (v6674 : BitVec 32) : Prop :=
  (∀ a, (k0_off1908 v6674) a + S1x768.size a ≤ S50257x768.size a)
theorem k0_off1908_inb : ∀ (v6674 : BitVec 32) (k0_hw954 : k0_chk954 v6674), ∀ a, (k0_off1908 v6674) a + S1x768.size a ≤ S50257x768.size a := fun v6674 k0_hw954 => k0_hw954

def k0_off1909 (i : grid0.Coords) : Fin 1 → Nat :=
  let arg0 : BitVec 32 := BitVec.ofNat 32 (i 0).val
  let c512_i32 : BitVec 32 := 512#32
  let v0 : BitVec 32 := Scalar.muli arg0 c512_i32
  let c442_i32_3304 : BitVec 32 := 442#32
  let v6679 : BitVec 32 := Scalar.addi v0 c442_i32_3304
  let v6680 : Index := Scalar.indexCast v6679
  ![v6680.toNat]
def k0_off1910 (v6681 : BitVec 32) : Fin 2 → Nat :=
  let c0_i32_3307 : BitVec 32 := 0#32
  ![v6681.toNat, 0]

def k0_chk955 (v6681 : BitVec 32) : Prop :=
  (∀ a, (k0_off1910 v6681) a + S1x768.size a ≤ S50257x768.size a)
theorem k0_off1910_inb : ∀ (v6681 : BitVec 32) (k0_hw955 : k0_chk955 v6681), ∀ a, (k0_off1910 v6681) a + S1x768.size a ≤ S50257x768.size a := fun v6681 k0_hw955 => k0_hw955

def k0_off1911 (i : grid0.Coords) : Fin 1 → Nat :=
  let arg0 : BitVec 32 := BitVec.ofNat 32 (i 0).val
  let c512_i32 : BitVec 32 := 512#32
  let v0 : BitVec 32 := Scalar.muli arg0 c512_i32
  let c443_i32_3308 : BitVec 32 := 443#32
  let v6686 : BitVec 32 := Scalar.addi v0 c443_i32_3308
  let v6687 : Index := Scalar.indexCast v6686
  ![v6687.toNat]
def k0_off1912 (v6688 : BitVec 32) : Fin 2 → Nat :=
  let c0_i32_3311 : BitVec 32 := 0#32
  ![v6688.toNat, 0]

def k0_chk956 (v6688 : BitVec 32) : Prop :=
  (∀ a, (k0_off1912 v6688) a + S1x768.size a ≤ S50257x768.size a)
theorem k0_off1912_inb : ∀ (v6688 : BitVec 32) (k0_hw956 : k0_chk956 v6688), ∀ a, (k0_off1912 v6688) a + S1x768.size a ≤ S50257x768.size a := fun v6688 k0_hw956 => k0_hw956

def k0_off1913 (i : grid0.Coords) : Fin 1 → Nat :=
  let arg0 : BitVec 32 := BitVec.ofNat 32 (i 0).val
  let c512_i32 : BitVec 32 := 512#32
  let v0 : BitVec 32 := Scalar.muli arg0 c512_i32
  let c444_i32_3312 : BitVec 32 := 444#32
  let v6693 : BitVec 32 := Scalar.addi v0 c444_i32_3312
  let v6694 : Index := Scalar.indexCast v6693
  ![v6694.toNat]
def k0_off1914 (v6695 : BitVec 32) : Fin 2 → Nat :=
  let c0_i32_3315 : BitVec 32 := 0#32
  ![v6695.toNat, 0]

def k0_chk957 (v6695 : BitVec 32) : Prop :=
  (∀ a, (k0_off1914 v6695) a + S1x768.size a ≤ S50257x768.size a)
theorem k0_off1914_inb : ∀ (v6695 : BitVec 32) (k0_hw957 : k0_chk957 v6695), ∀ a, (k0_off1914 v6695) a + S1x768.size a ≤ S50257x768.size a := fun v6695 k0_hw957 => k0_hw957

def k0_off1915 (i : grid0.Coords) : Fin 1 → Nat :=
  let arg0 : BitVec 32 := BitVec.ofNat 32 (i 0).val
  let c512_i32 : BitVec 32 := 512#32
  let v0 : BitVec 32 := Scalar.muli arg0 c512_i32
  let c445_i32_3316 : BitVec 32 := 445#32
  let v6700 : BitVec 32 := Scalar.addi v0 c445_i32_3316
  let v6701 : Index := Scalar.indexCast v6700
  ![v6701.toNat]
def k0_off1916 (v6702 : BitVec 32) : Fin 2 → Nat :=
  let c0_i32_3319 : BitVec 32 := 0#32
  ![v6702.toNat, 0]

def k0_chk958 (v6702 : BitVec 32) : Prop :=
  (∀ a, (k0_off1916 v6702) a + S1x768.size a ≤ S50257x768.size a)
theorem k0_off1916_inb : ∀ (v6702 : BitVec 32) (k0_hw958 : k0_chk958 v6702), ∀ a, (k0_off1916 v6702) a + S1x768.size a ≤ S50257x768.size a := fun v6702 k0_hw958 => k0_hw958

def k0_off1917 (i : grid0.Coords) : Fin 1 → Nat :=
  let arg0 : BitVec 32 := BitVec.ofNat 32 (i 0).val
  let c512_i32 : BitVec 32 := 512#32
  let v0 : BitVec 32 := Scalar.muli arg0 c512_i32
  let c446_i32_3320 : BitVec 32 := 446#32
  let v6707 : BitVec 32 := Scalar.addi v0 c446_i32_3320
  let v6708 : Index := Scalar.indexCast v6707
  ![v6708.toNat]
def k0_off1918 (v6709 : BitVec 32) : Fin 2 → Nat :=
  let c0_i32_3323 : BitVec 32 := 0#32
  ![v6709.toNat, 0]

def k0_chk959 (v6709 : BitVec 32) : Prop :=
  (∀ a, (k0_off1918 v6709) a + S1x768.size a ≤ S50257x768.size a)
theorem k0_off1918_inb : ∀ (v6709 : BitVec 32) (k0_hw959 : k0_chk959 v6709), ∀ a, (k0_off1918 v6709) a + S1x768.size a ≤ S50257x768.size a := fun v6709 k0_hw959 => k0_hw959

def k0_off1919 (i : grid0.Coords) : Fin 1 → Nat :=
  let arg0 : BitVec 32 := BitVec.ofNat 32 (i 0).val
  let c512_i32 : BitVec 32 := 512#32
  let v0 : BitVec 32 := Scalar.muli arg0 c512_i32
  let c447_i32_3324 : BitVec 32 := 447#32
  let v6714 : BitVec 32 := Scalar.addi v0 c447_i32_3324
  let v6715 : Index := Scalar.indexCast v6714
  ![v6715.toNat]
def k0_off1920 (v6716 : BitVec 32) : Fin 2 → Nat :=
  let c0_i32_3327 : BitVec 32 := 0#32
  ![v6716.toNat, 0]

def k0_chk960 (v6716 : BitVec 32) : Prop :=
  (∀ a, (k0_off1920 v6716) a + S1x768.size a ≤ S50257x768.size a)
theorem k0_off1920_inb : ∀ (v6716 : BitVec 32) (k0_hw960 : k0_chk960 v6716), ∀ a, (k0_off1920 v6716) a + S1x768.size a ≤ S50257x768.size a := fun v6716 k0_hw960 => k0_hw960

def k0_off1921 (i : grid0.Coords) : Fin 1 → Nat :=
  let arg0 : BitVec 32 := BitVec.ofNat 32 (i 0).val
  let c512_i32 : BitVec 32 := 512#32
  let v0 : BitVec 32 := Scalar.muli arg0 c512_i32
  let c448_i32_3328 : BitVec 32 := 448#32
  let v6721 : BitVec 32 := Scalar.addi v0 c448_i32_3328
  let v6722 : Index := Scalar.indexCast v6721
  ![v6722.toNat]
def k0_off1922 (v6723 : BitVec 32) : Fin 2 → Nat :=
  let c0_i32_3331 : BitVec 32 := 0#32
  ![v6723.toNat, 0]

def k0_chk961 (v6723 : BitVec 32) : Prop :=
  (∀ a, (k0_off1922 v6723) a + S1x768.size a ≤ S50257x768.size a)
theorem k0_off1922_inb : ∀ (v6723 : BitVec 32) (k0_hw961 : k0_chk961 v6723), ∀ a, (k0_off1922 v6723) a + S1x768.size a ≤ S50257x768.size a := fun v6723 k0_hw961 => k0_hw961

def k0_off1923 (i : grid0.Coords) : Fin 1 → Nat :=
  let arg0 : BitVec 32 := BitVec.ofNat 32 (i 0).val
  let c512_i32 : BitVec 32 := 512#32
  let v0 : BitVec 32 := Scalar.muli arg0 c512_i32
  let c449_i32_3332 : BitVec 32 := 449#32
  let v6728 : BitVec 32 := Scalar.addi v0 c449_i32_3332
  let v6729 : Index := Scalar.indexCast v6728
  ![v6729.toNat]
def k0_off1924 (v6730 : BitVec 32) : Fin 2 → Nat :=
  let c0_i32_3335 : BitVec 32 := 0#32
  ![v6730.toNat, 0]

def k0_chk962 (v6730 : BitVec 32) : Prop :=
  (∀ a, (k0_off1924 v6730) a + S1x768.size a ≤ S50257x768.size a)
theorem k0_off1924_inb : ∀ (v6730 : BitVec 32) (k0_hw962 : k0_chk962 v6730), ∀ a, (k0_off1924 v6730) a + S1x768.size a ≤ S50257x768.size a := fun v6730 k0_hw962 => k0_hw962

def k0_off1925 (i : grid0.Coords) : Fin 1 → Nat :=
  let arg0 : BitVec 32 := BitVec.ofNat 32 (i 0).val
  let c512_i32 : BitVec 32 := 512#32
  let v0 : BitVec 32 := Scalar.muli arg0 c512_i32
  let c450_i32_3336 : BitVec 32 := 450#32
  let v6735 : BitVec 32 := Scalar.addi v0 c450_i32_3336
  let v6736 : Index := Scalar.indexCast v6735
  ![v6736.toNat]
def k0_off1926 (v6737 : BitVec 32) : Fin 2 → Nat :=
  let c0_i32_3339 : BitVec 32 := 0#32
  ![v6737.toNat, 0]

def k0_chk963 (v6737 : BitVec 32) : Prop :=
  (∀ a, (k0_off1926 v6737) a + S1x768.size a ≤ S50257x768.size a)
theorem k0_off1926_inb : ∀ (v6737 : BitVec 32) (k0_hw963 : k0_chk963 v6737), ∀ a, (k0_off1926 v6737) a + S1x768.size a ≤ S50257x768.size a := fun v6737 k0_hw963 => k0_hw963

def k0_off1927 (i : grid0.Coords) : Fin 1 → Nat :=
  let arg0 : BitVec 32 := BitVec.ofNat 32 (i 0).val
  let c512_i32 : BitVec 32 := 512#32
  let v0 : BitVec 32 := Scalar.muli arg0 c512_i32
  let c451_i32_3340 : BitVec 32 := 451#32
  let v6742 : BitVec 32 := Scalar.addi v0 c451_i32_3340
  let v6743 : Index := Scalar.indexCast v6742
  ![v6743.toNat]
def k0_off1928 (v6744 : BitVec 32) : Fin 2 → Nat :=
  let c0_i32_3343 : BitVec 32 := 0#32
  ![v6744.toNat, 0]

def k0_chk964 (v6744 : BitVec 32) : Prop :=
  (∀ a, (k0_off1928 v6744) a + S1x768.size a ≤ S50257x768.size a)
theorem k0_off1928_inb : ∀ (v6744 : BitVec 32) (k0_hw964 : k0_chk964 v6744), ∀ a, (k0_off1928 v6744) a + S1x768.size a ≤ S50257x768.size a := fun v6744 k0_hw964 => k0_hw964

def k0_off1929 (i : grid0.Coords) : Fin 1 → Nat :=
  let arg0 : BitVec 32 := BitVec.ofNat 32 (i 0).val
  let c512_i32 : BitVec 32 := 512#32
  let v0 : BitVec 32 := Scalar.muli arg0 c512_i32
  let c452_i32_3344 : BitVec 32 := 452#32
  let v6749 : BitVec 32 := Scalar.addi v0 c452_i32_3344
  let v6750 : Index := Scalar.indexCast v6749
  ![v6750.toNat]
def k0_off1930 (v6751 : BitVec 32) : Fin 2 → Nat :=
  let c0_i32_3347 : BitVec 32 := 0#32
  ![v6751.toNat, 0]

def k0_chk965 (v6751 : BitVec 32) : Prop :=
  (∀ a, (k0_off1930 v6751) a + S1x768.size a ≤ S50257x768.size a)
theorem k0_off1930_inb : ∀ (v6751 : BitVec 32) (k0_hw965 : k0_chk965 v6751), ∀ a, (k0_off1930 v6751) a + S1x768.size a ≤ S50257x768.size a := fun v6751 k0_hw965 => k0_hw965

def k0_off1931 (i : grid0.Coords) : Fin 1 → Nat :=
  let arg0 : BitVec 32 := BitVec.ofNat 32 (i 0).val
  let c512_i32 : BitVec 32 := 512#32
  let v0 : BitVec 32 := Scalar.muli arg0 c512_i32
  let c453_i32_3348 : BitVec 32 := 453#32
  let v6756 : BitVec 32 := Scalar.addi v0 c453_i32_3348
  let v6757 : Index := Scalar.indexCast v6756
  ![v6757.toNat]
def k0_off1932 (v6758 : BitVec 32) : Fin 2 → Nat :=
  let c0_i32_3351 : BitVec 32 := 0#32
  ![v6758.toNat, 0]

def k0_chk966 (v6758 : BitVec 32) : Prop :=
  (∀ a, (k0_off1932 v6758) a + S1x768.size a ≤ S50257x768.size a)
theorem k0_off1932_inb : ∀ (v6758 : BitVec 32) (k0_hw966 : k0_chk966 v6758), ∀ a, (k0_off1932 v6758) a + S1x768.size a ≤ S50257x768.size a := fun v6758 k0_hw966 => k0_hw966

def k0_off1933 (i : grid0.Coords) : Fin 1 → Nat :=
  let arg0 : BitVec 32 := BitVec.ofNat 32 (i 0).val
  let c512_i32 : BitVec 32 := 512#32
  let v0 : BitVec 32 := Scalar.muli arg0 c512_i32
  let c454_i32_3352 : BitVec 32 := 454#32
  let v6763 : BitVec 32 := Scalar.addi v0 c454_i32_3352
  let v6764 : Index := Scalar.indexCast v6763
  ![v6764.toNat]
def k0_off1934 (v6765 : BitVec 32) : Fin 2 → Nat :=
  let c0_i32_3355 : BitVec 32 := 0#32
  ![v6765.toNat, 0]

def k0_chk967 (v6765 : BitVec 32) : Prop :=
  (∀ a, (k0_off1934 v6765) a + S1x768.size a ≤ S50257x768.size a)
theorem k0_off1934_inb : ∀ (v6765 : BitVec 32) (k0_hw967 : k0_chk967 v6765), ∀ a, (k0_off1934 v6765) a + S1x768.size a ≤ S50257x768.size a := fun v6765 k0_hw967 => k0_hw967

def k0_off1935 (i : grid0.Coords) : Fin 1 → Nat :=
  let arg0 : BitVec 32 := BitVec.ofNat 32 (i 0).val
  let c512_i32 : BitVec 32 := 512#32
  let v0 : BitVec 32 := Scalar.muli arg0 c512_i32
  let c455_i32_3356 : BitVec 32 := 455#32
  let v6770 : BitVec 32 := Scalar.addi v0 c455_i32_3356
  let v6771 : Index := Scalar.indexCast v6770
  ![v6771.toNat]
def k0_off1936 (v6772 : BitVec 32) : Fin 2 → Nat :=
  let c0_i32_3359 : BitVec 32 := 0#32
  ![v6772.toNat, 0]

def k0_chk968 (v6772 : BitVec 32) : Prop :=
  (∀ a, (k0_off1936 v6772) a + S1x768.size a ≤ S50257x768.size a)
theorem k0_off1936_inb : ∀ (v6772 : BitVec 32) (k0_hw968 : k0_chk968 v6772), ∀ a, (k0_off1936 v6772) a + S1x768.size a ≤ S50257x768.size a := fun v6772 k0_hw968 => k0_hw968

def k0_off1937 (i : grid0.Coords) : Fin 1 → Nat :=
  let arg0 : BitVec 32 := BitVec.ofNat 32 (i 0).val
  let c512_i32 : BitVec 32 := 512#32
  let v0 : BitVec 32 := Scalar.muli arg0 c512_i32
  let c456_i32_3360 : BitVec 32 := 456#32
  let v6777 : BitVec 32 := Scalar.addi v0 c456_i32_3360
  let v6778 : Index := Scalar.indexCast v6777
  ![v6778.toNat]
def k0_off1938 (v6779 : BitVec 32) : Fin 2 → Nat :=
  let c0_i32_3363 : BitVec 32 := 0#32
  ![v6779.toNat, 0]

def k0_chk969 (v6779 : BitVec 32) : Prop :=
  (∀ a, (k0_off1938 v6779) a + S1x768.size a ≤ S50257x768.size a)
theorem k0_off1938_inb : ∀ (v6779 : BitVec 32) (k0_hw969 : k0_chk969 v6779), ∀ a, (k0_off1938 v6779) a + S1x768.size a ≤ S50257x768.size a := fun v6779 k0_hw969 => k0_hw969

def k0_off1939 (i : grid0.Coords) : Fin 1 → Nat :=
  let arg0 : BitVec 32 := BitVec.ofNat 32 (i 0).val
  let c512_i32 : BitVec 32 := 512#32
  let v0 : BitVec 32 := Scalar.muli arg0 c512_i32
  let c457_i32_3364 : BitVec 32 := 457#32
  let v6784 : BitVec 32 := Scalar.addi v0 c457_i32_3364
  let v6785 : Index := Scalar.indexCast v6784
  ![v6785.toNat]
def k0_off1940 (v6786 : BitVec 32) : Fin 2 → Nat :=
  let c0_i32_3367 : BitVec 32 := 0#32
  ![v6786.toNat, 0]

def k0_chk970 (v6786 : BitVec 32) : Prop :=
  (∀ a, (k0_off1940 v6786) a + S1x768.size a ≤ S50257x768.size a)
theorem k0_off1940_inb : ∀ (v6786 : BitVec 32) (k0_hw970 : k0_chk970 v6786), ∀ a, (k0_off1940 v6786) a + S1x768.size a ≤ S50257x768.size a := fun v6786 k0_hw970 => k0_hw970

def k0_off1941 (i : grid0.Coords) : Fin 1 → Nat :=
  let arg0 : BitVec 32 := BitVec.ofNat 32 (i 0).val
  let c512_i32 : BitVec 32 := 512#32
  let v0 : BitVec 32 := Scalar.muli arg0 c512_i32
  let c458_i32_3368 : BitVec 32 := 458#32
  let v6791 : BitVec 32 := Scalar.addi v0 c458_i32_3368
  let v6792 : Index := Scalar.indexCast v6791
  ![v6792.toNat]
def k0_off1942 (v6793 : BitVec 32) : Fin 2 → Nat :=
  let c0_i32_3371 : BitVec 32 := 0#32
  ![v6793.toNat, 0]

def k0_chk971 (v6793 : BitVec 32) : Prop :=
  (∀ a, (k0_off1942 v6793) a + S1x768.size a ≤ S50257x768.size a)
theorem k0_off1942_inb : ∀ (v6793 : BitVec 32) (k0_hw971 : k0_chk971 v6793), ∀ a, (k0_off1942 v6793) a + S1x768.size a ≤ S50257x768.size a := fun v6793 k0_hw971 => k0_hw971

def k0_off1943 (i : grid0.Coords) : Fin 1 → Nat :=
  let arg0 : BitVec 32 := BitVec.ofNat 32 (i 0).val
  let c512_i32 : BitVec 32 := 512#32
  let v0 : BitVec 32 := Scalar.muli arg0 c512_i32
  let c459_i32_3372 : BitVec 32 := 459#32
  let v6798 : BitVec 32 := Scalar.addi v0 c459_i32_3372
  let v6799 : Index := Scalar.indexCast v6798
  ![v6799.toNat]
def k0_off1944 (v6800 : BitVec 32) : Fin 2 → Nat :=
  let c0_i32_3375 : BitVec 32 := 0#32
  ![v6800.toNat, 0]

def k0_chk972 (v6800 : BitVec 32) : Prop :=
  (∀ a, (k0_off1944 v6800) a + S1x768.size a ≤ S50257x768.size a)
theorem k0_off1944_inb : ∀ (v6800 : BitVec 32) (k0_hw972 : k0_chk972 v6800), ∀ a, (k0_off1944 v6800) a + S1x768.size a ≤ S50257x768.size a := fun v6800 k0_hw972 => k0_hw972

def k0_off1945 (i : grid0.Coords) : Fin 1 → Nat :=
  let arg0 : BitVec 32 := BitVec.ofNat 32 (i 0).val
  let c512_i32 : BitVec 32 := 512#32
  let v0 : BitVec 32 := Scalar.muli arg0 c512_i32
  let c460_i32_3376 : BitVec 32 := 460#32
  let v6805 : BitVec 32 := Scalar.addi v0 c460_i32_3376
  let v6806 : Index := Scalar.indexCast v6805
  ![v6806.toNat]
def k0_off1946 (v6807 : BitVec 32) : Fin 2 → Nat :=
  let c0_i32_3379 : BitVec 32 := 0#32
  ![v6807.toNat, 0]

def k0_chk973 (v6807 : BitVec 32) : Prop :=
  (∀ a, (k0_off1946 v6807) a + S1x768.size a ≤ S50257x768.size a)
theorem k0_off1946_inb : ∀ (v6807 : BitVec 32) (k0_hw973 : k0_chk973 v6807), ∀ a, (k0_off1946 v6807) a + S1x768.size a ≤ S50257x768.size a := fun v6807 k0_hw973 => k0_hw973

def k0_off1947 (i : grid0.Coords) : Fin 1 → Nat :=
  let arg0 : BitVec 32 := BitVec.ofNat 32 (i 0).val
  let c512_i32 : BitVec 32 := 512#32
  let v0 : BitVec 32 := Scalar.muli arg0 c512_i32
  let c461_i32_3380 : BitVec 32 := 461#32
  let v6812 : BitVec 32 := Scalar.addi v0 c461_i32_3380
  let v6813 : Index := Scalar.indexCast v6812
  ![v6813.toNat]
def k0_off1948 (v6814 : BitVec 32) : Fin 2 → Nat :=
  let c0_i32_3383 : BitVec 32 := 0#32
  ![v6814.toNat, 0]

def k0_chk974 (v6814 : BitVec 32) : Prop :=
  (∀ a, (k0_off1948 v6814) a + S1x768.size a ≤ S50257x768.size a)
theorem k0_off1948_inb : ∀ (v6814 : BitVec 32) (k0_hw974 : k0_chk974 v6814), ∀ a, (k0_off1948 v6814) a + S1x768.size a ≤ S50257x768.size a := fun v6814 k0_hw974 => k0_hw974

def k0_off1949 (i : grid0.Coords) : Fin 1 → Nat :=
  let arg0 : BitVec 32 := BitVec.ofNat 32 (i 0).val
  let c512_i32 : BitVec 32 := 512#32
  let v0 : BitVec 32 := Scalar.muli arg0 c512_i32
  let c462_i32_3384 : BitVec 32 := 462#32
  let v6819 : BitVec 32 := Scalar.addi v0 c462_i32_3384
  let v6820 : Index := Scalar.indexCast v6819
  ![v6820.toNat]
def k0_off1950 (v6821 : BitVec 32) : Fin 2 → Nat :=
  let c0_i32_3387 : BitVec 32 := 0#32
  ![v6821.toNat, 0]

def k0_chk975 (v6821 : BitVec 32) : Prop :=
  (∀ a, (k0_off1950 v6821) a + S1x768.size a ≤ S50257x768.size a)
theorem k0_off1950_inb : ∀ (v6821 : BitVec 32) (k0_hw975 : k0_chk975 v6821), ∀ a, (k0_off1950 v6821) a + S1x768.size a ≤ S50257x768.size a := fun v6821 k0_hw975 => k0_hw975

def k0_off1951 (i : grid0.Coords) : Fin 1 → Nat :=
  let arg0 : BitVec 32 := BitVec.ofNat 32 (i 0).val
  let c512_i32 : BitVec 32 := 512#32
  let v0 : BitVec 32 := Scalar.muli arg0 c512_i32
  let c463_i32_3388 : BitVec 32 := 463#32
  let v6826 : BitVec 32 := Scalar.addi v0 c463_i32_3388
  let v6827 : Index := Scalar.indexCast v6826
  ![v6827.toNat]
def k0_off1952 (v6828 : BitVec 32) : Fin 2 → Nat :=
  let c0_i32_3391 : BitVec 32 := 0#32
  ![v6828.toNat, 0]

def k0_chk976 (v6828 : BitVec 32) : Prop :=
  (∀ a, (k0_off1952 v6828) a + S1x768.size a ≤ S50257x768.size a)
theorem k0_off1952_inb : ∀ (v6828 : BitVec 32) (k0_hw976 : k0_chk976 v6828), ∀ a, (k0_off1952 v6828) a + S1x768.size a ≤ S50257x768.size a := fun v6828 k0_hw976 => k0_hw976

def k0_off1953 (i : grid0.Coords) : Fin 1 → Nat :=
  let arg0 : BitVec 32 := BitVec.ofNat 32 (i 0).val
  let c512_i32 : BitVec 32 := 512#32
  let v0 : BitVec 32 := Scalar.muli arg0 c512_i32
  let c464_i32_3392 : BitVec 32 := 464#32
  let v6833 : BitVec 32 := Scalar.addi v0 c464_i32_3392
  let v6834 : Index := Scalar.indexCast v6833
  ![v6834.toNat]
def k0_off1954 (v6835 : BitVec 32) : Fin 2 → Nat :=
  let c0_i32_3395 : BitVec 32 := 0#32
  ![v6835.toNat, 0]

def k0_chk977 (v6835 : BitVec 32) : Prop :=
  (∀ a, (k0_off1954 v6835) a + S1x768.size a ≤ S50257x768.size a)
theorem k0_off1954_inb : ∀ (v6835 : BitVec 32) (k0_hw977 : k0_chk977 v6835), ∀ a, (k0_off1954 v6835) a + S1x768.size a ≤ S50257x768.size a := fun v6835 k0_hw977 => k0_hw977

def k0_off1955 (i : grid0.Coords) : Fin 1 → Nat :=
  let arg0 : BitVec 32 := BitVec.ofNat 32 (i 0).val
  let c512_i32 : BitVec 32 := 512#32
  let v0 : BitVec 32 := Scalar.muli arg0 c512_i32
  let c465_i32_3396 : BitVec 32 := 465#32
  let v6840 : BitVec 32 := Scalar.addi v0 c465_i32_3396
  let v6841 : Index := Scalar.indexCast v6840
  ![v6841.toNat]
def k0_off1956 (v6842 : BitVec 32) : Fin 2 → Nat :=
  let c0_i32_3399 : BitVec 32 := 0#32
  ![v6842.toNat, 0]

def k0_chk978 (v6842 : BitVec 32) : Prop :=
  (∀ a, (k0_off1956 v6842) a + S1x768.size a ≤ S50257x768.size a)
theorem k0_off1956_inb : ∀ (v6842 : BitVec 32) (k0_hw978 : k0_chk978 v6842), ∀ a, (k0_off1956 v6842) a + S1x768.size a ≤ S50257x768.size a := fun v6842 k0_hw978 => k0_hw978

def k0_off1957 (i : grid0.Coords) : Fin 1 → Nat :=
  let arg0 : BitVec 32 := BitVec.ofNat 32 (i 0).val
  let c512_i32 : BitVec 32 := 512#32
  let v0 : BitVec 32 := Scalar.muli arg0 c512_i32
  let c466_i32_3400 : BitVec 32 := 466#32
  let v6847 : BitVec 32 := Scalar.addi v0 c466_i32_3400
  let v6848 : Index := Scalar.indexCast v6847
  ![v6848.toNat]
def k0_off1958 (v6849 : BitVec 32) : Fin 2 → Nat :=
  let c0_i32_3403 : BitVec 32 := 0#32
  ![v6849.toNat, 0]

def k0_chk979 (v6849 : BitVec 32) : Prop :=
  (∀ a, (k0_off1958 v6849) a + S1x768.size a ≤ S50257x768.size a)
theorem k0_off1958_inb : ∀ (v6849 : BitVec 32) (k0_hw979 : k0_chk979 v6849), ∀ a, (k0_off1958 v6849) a + S1x768.size a ≤ S50257x768.size a := fun v6849 k0_hw979 => k0_hw979

def k0_off1959 (i : grid0.Coords) : Fin 1 → Nat :=
  let arg0 : BitVec 32 := BitVec.ofNat 32 (i 0).val
  let c512_i32 : BitVec 32 := 512#32
  let v0 : BitVec 32 := Scalar.muli arg0 c512_i32
  let c467_i32_3404 : BitVec 32 := 467#32
  let v6854 : BitVec 32 := Scalar.addi v0 c467_i32_3404
  let v6855 : Index := Scalar.indexCast v6854
  ![v6855.toNat]
def k0_off1960 (v6856 : BitVec 32) : Fin 2 → Nat :=
  let c0_i32_3407 : BitVec 32 := 0#32
  ![v6856.toNat, 0]

def k0_chk980 (v6856 : BitVec 32) : Prop :=
  (∀ a, (k0_off1960 v6856) a + S1x768.size a ≤ S50257x768.size a)
theorem k0_off1960_inb : ∀ (v6856 : BitVec 32) (k0_hw980 : k0_chk980 v6856), ∀ a, (k0_off1960 v6856) a + S1x768.size a ≤ S50257x768.size a := fun v6856 k0_hw980 => k0_hw980

def k0_off1961 (i : grid0.Coords) : Fin 1 → Nat :=
  let arg0 : BitVec 32 := BitVec.ofNat 32 (i 0).val
  let c512_i32 : BitVec 32 := 512#32
  let v0 : BitVec 32 := Scalar.muli arg0 c512_i32
  let c468_i32_3408 : BitVec 32 := 468#32
  let v6861 : BitVec 32 := Scalar.addi v0 c468_i32_3408
  let v6862 : Index := Scalar.indexCast v6861
  ![v6862.toNat]
def k0_off1962 (v6863 : BitVec 32) : Fin 2 → Nat :=
  let c0_i32_3411 : BitVec 32 := 0#32
  ![v6863.toNat, 0]

def k0_chk981 (v6863 : BitVec 32) : Prop :=
  (∀ a, (k0_off1962 v6863) a + S1x768.size a ≤ S50257x768.size a)
theorem k0_off1962_inb : ∀ (v6863 : BitVec 32) (k0_hw981 : k0_chk981 v6863), ∀ a, (k0_off1962 v6863) a + S1x768.size a ≤ S50257x768.size a := fun v6863 k0_hw981 => k0_hw981

def k0_off1963 (i : grid0.Coords) : Fin 1 → Nat :=
  let arg0 : BitVec 32 := BitVec.ofNat 32 (i 0).val
  let c512_i32 : BitVec 32 := 512#32
  let v0 : BitVec 32 := Scalar.muli arg0 c512_i32
  let c469_i32_3412 : BitVec 32 := 469#32
  let v6868 : BitVec 32 := Scalar.addi v0 c469_i32_3412
  let v6869 : Index := Scalar.indexCast v6868
  ![v6869.toNat]
def k0_off1964 (v6870 : BitVec 32) : Fin 2 → Nat :=
  let c0_i32_3415 : BitVec 32 := 0#32
  ![v6870.toNat, 0]

def k0_chk982 (v6870 : BitVec 32) : Prop :=
  (∀ a, (k0_off1964 v6870) a + S1x768.size a ≤ S50257x768.size a)
theorem k0_off1964_inb : ∀ (v6870 : BitVec 32) (k0_hw982 : k0_chk982 v6870), ∀ a, (k0_off1964 v6870) a + S1x768.size a ≤ S50257x768.size a := fun v6870 k0_hw982 => k0_hw982

def k0_off1965 (i : grid0.Coords) : Fin 1 → Nat :=
  let arg0 : BitVec 32 := BitVec.ofNat 32 (i 0).val
  let c512_i32 : BitVec 32 := 512#32
  let v0 : BitVec 32 := Scalar.muli arg0 c512_i32
  let c470_i32_3416 : BitVec 32 := 470#32
  let v6875 : BitVec 32 := Scalar.addi v0 c470_i32_3416
  let v6876 : Index := Scalar.indexCast v6875
  ![v6876.toNat]
def k0_off1966 (v6877 : BitVec 32) : Fin 2 → Nat :=
  let c0_i32_3419 : BitVec 32 := 0#32
  ![v6877.toNat, 0]

def k0_chk983 (v6877 : BitVec 32) : Prop :=
  (∀ a, (k0_off1966 v6877) a + S1x768.size a ≤ S50257x768.size a)
theorem k0_off1966_inb : ∀ (v6877 : BitVec 32) (k0_hw983 : k0_chk983 v6877), ∀ a, (k0_off1966 v6877) a + S1x768.size a ≤ S50257x768.size a := fun v6877 k0_hw983 => k0_hw983

def k0_off1967 (i : grid0.Coords) : Fin 1 → Nat :=
  let arg0 : BitVec 32 := BitVec.ofNat 32 (i 0).val
  let c512_i32 : BitVec 32 := 512#32
  let v0 : BitVec 32 := Scalar.muli arg0 c512_i32
  let c471_i32_3420 : BitVec 32 := 471#32
  let v6882 : BitVec 32 := Scalar.addi v0 c471_i32_3420
  let v6883 : Index := Scalar.indexCast v6882
  ![v6883.toNat]
def k0_off1968 (v6884 : BitVec 32) : Fin 2 → Nat :=
  let c0_i32_3423 : BitVec 32 := 0#32
  ![v6884.toNat, 0]

def k0_chk984 (v6884 : BitVec 32) : Prop :=
  (∀ a, (k0_off1968 v6884) a + S1x768.size a ≤ S50257x768.size a)
theorem k0_off1968_inb : ∀ (v6884 : BitVec 32) (k0_hw984 : k0_chk984 v6884), ∀ a, (k0_off1968 v6884) a + S1x768.size a ≤ S50257x768.size a := fun v6884 k0_hw984 => k0_hw984

def k0_off1969 (i : grid0.Coords) : Fin 1 → Nat :=
  let arg0 : BitVec 32 := BitVec.ofNat 32 (i 0).val
  let c512_i32 : BitVec 32 := 512#32
  let v0 : BitVec 32 := Scalar.muli arg0 c512_i32
  let c472_i32_3424 : BitVec 32 := 472#32
  let v6889 : BitVec 32 := Scalar.addi v0 c472_i32_3424
  let v6890 : Index := Scalar.indexCast v6889
  ![v6890.toNat]
def k0_off1970 (v6891 : BitVec 32) : Fin 2 → Nat :=
  let c0_i32_3427 : BitVec 32 := 0#32
  ![v6891.toNat, 0]

def k0_chk985 (v6891 : BitVec 32) : Prop :=
  (∀ a, (k0_off1970 v6891) a + S1x768.size a ≤ S50257x768.size a)
theorem k0_off1970_inb : ∀ (v6891 : BitVec 32) (k0_hw985 : k0_chk985 v6891), ∀ a, (k0_off1970 v6891) a + S1x768.size a ≤ S50257x768.size a := fun v6891 k0_hw985 => k0_hw985

def k0_off1971 (i : grid0.Coords) : Fin 1 → Nat :=
  let arg0 : BitVec 32 := BitVec.ofNat 32 (i 0).val
  let c512_i32 : BitVec 32 := 512#32
  let v0 : BitVec 32 := Scalar.muli arg0 c512_i32
  let c473_i32_3428 : BitVec 32 := 473#32
  let v6896 : BitVec 32 := Scalar.addi v0 c473_i32_3428
  let v6897 : Index := Scalar.indexCast v6896
  ![v6897.toNat]
def k0_off1972 (v6898 : BitVec 32) : Fin 2 → Nat :=
  let c0_i32_3431 : BitVec 32 := 0#32
  ![v6898.toNat, 0]

def k0_chk986 (v6898 : BitVec 32) : Prop :=
  (∀ a, (k0_off1972 v6898) a + S1x768.size a ≤ S50257x768.size a)
theorem k0_off1972_inb : ∀ (v6898 : BitVec 32) (k0_hw986 : k0_chk986 v6898), ∀ a, (k0_off1972 v6898) a + S1x768.size a ≤ S50257x768.size a := fun v6898 k0_hw986 => k0_hw986

def k0_off1973 (i : grid0.Coords) : Fin 1 → Nat :=
  let arg0 : BitVec 32 := BitVec.ofNat 32 (i 0).val
  let c512_i32 : BitVec 32 := 512#32
  let v0 : BitVec 32 := Scalar.muli arg0 c512_i32
  let c474_i32_3432 : BitVec 32 := 474#32
  let v6903 : BitVec 32 := Scalar.addi v0 c474_i32_3432
  let v6904 : Index := Scalar.indexCast v6903
  ![v6904.toNat]
def k0_off1974 (v6905 : BitVec 32) : Fin 2 → Nat :=
  let c0_i32_3435 : BitVec 32 := 0#32
  ![v6905.toNat, 0]

def k0_chk987 (v6905 : BitVec 32) : Prop :=
  (∀ a, (k0_off1974 v6905) a + S1x768.size a ≤ S50257x768.size a)
theorem k0_off1974_inb : ∀ (v6905 : BitVec 32) (k0_hw987 : k0_chk987 v6905), ∀ a, (k0_off1974 v6905) a + S1x768.size a ≤ S50257x768.size a := fun v6905 k0_hw987 => k0_hw987

def k0_off1975 (i : grid0.Coords) : Fin 1 → Nat :=
  let arg0 : BitVec 32 := BitVec.ofNat 32 (i 0).val
  let c512_i32 : BitVec 32 := 512#32
  let v0 : BitVec 32 := Scalar.muli arg0 c512_i32
  let c475_i32_3436 : BitVec 32 := 475#32
  let v6910 : BitVec 32 := Scalar.addi v0 c475_i32_3436
  let v6911 : Index := Scalar.indexCast v6910
  ![v6911.toNat]
def k0_off1976 (v6912 : BitVec 32) : Fin 2 → Nat :=
  let c0_i32_3439 : BitVec 32 := 0#32
  ![v6912.toNat, 0]

def k0_chk988 (v6912 : BitVec 32) : Prop :=
  (∀ a, (k0_off1976 v6912) a + S1x768.size a ≤ S50257x768.size a)
theorem k0_off1976_inb : ∀ (v6912 : BitVec 32) (k0_hw988 : k0_chk988 v6912), ∀ a, (k0_off1976 v6912) a + S1x768.size a ≤ S50257x768.size a := fun v6912 k0_hw988 => k0_hw988

def k0_off1977 (i : grid0.Coords) : Fin 1 → Nat :=
  let arg0 : BitVec 32 := BitVec.ofNat 32 (i 0).val
  let c512_i32 : BitVec 32 := 512#32
  let v0 : BitVec 32 := Scalar.muli arg0 c512_i32
  let c476_i32_3440 : BitVec 32 := 476#32
  let v6917 : BitVec 32 := Scalar.addi v0 c476_i32_3440
  let v6918 : Index := Scalar.indexCast v6917
  ![v6918.toNat]
def k0_off1978 (v6919 : BitVec 32) : Fin 2 → Nat :=
  let c0_i32_3443 : BitVec 32 := 0#32
  ![v6919.toNat, 0]

def k0_chk989 (v6919 : BitVec 32) : Prop :=
  (∀ a, (k0_off1978 v6919) a + S1x768.size a ≤ S50257x768.size a)
theorem k0_off1978_inb : ∀ (v6919 : BitVec 32) (k0_hw989 : k0_chk989 v6919), ∀ a, (k0_off1978 v6919) a + S1x768.size a ≤ S50257x768.size a := fun v6919 k0_hw989 => k0_hw989

def k0_off1979 (i : grid0.Coords) : Fin 1 → Nat :=
  let arg0 : BitVec 32 := BitVec.ofNat 32 (i 0).val
  let c512_i32 : BitVec 32 := 512#32
  let v0 : BitVec 32 := Scalar.muli arg0 c512_i32
  let c477_i32_3444 : BitVec 32 := 477#32
  let v6924 : BitVec 32 := Scalar.addi v0 c477_i32_3444
  let v6925 : Index := Scalar.indexCast v6924
  ![v6925.toNat]
def k0_off1980 (v6926 : BitVec 32) : Fin 2 → Nat :=
  let c0_i32_3447 : BitVec 32 := 0#32
  ![v6926.toNat, 0]

def k0_chk990 (v6926 : BitVec 32) : Prop :=
  (∀ a, (k0_off1980 v6926) a + S1x768.size a ≤ S50257x768.size a)
theorem k0_off1980_inb : ∀ (v6926 : BitVec 32) (k0_hw990 : k0_chk990 v6926), ∀ a, (k0_off1980 v6926) a + S1x768.size a ≤ S50257x768.size a := fun v6926 k0_hw990 => k0_hw990

def k0_off1981 (i : grid0.Coords) : Fin 1 → Nat :=
  let arg0 : BitVec 32 := BitVec.ofNat 32 (i 0).val
  let c512_i32 : BitVec 32 := 512#32
  let v0 : BitVec 32 := Scalar.muli arg0 c512_i32
  let c478_i32_3448 : BitVec 32 := 478#32
  let v6931 : BitVec 32 := Scalar.addi v0 c478_i32_3448
  let v6932 : Index := Scalar.indexCast v6931
  ![v6932.toNat]
def k0_off1982 (v6933 : BitVec 32) : Fin 2 → Nat :=
  let c0_i32_3451 : BitVec 32 := 0#32
  ![v6933.toNat, 0]

def k0_chk991 (v6933 : BitVec 32) : Prop :=
  (∀ a, (k0_off1982 v6933) a + S1x768.size a ≤ S50257x768.size a)
theorem k0_off1982_inb : ∀ (v6933 : BitVec 32) (k0_hw991 : k0_chk991 v6933), ∀ a, (k0_off1982 v6933) a + S1x768.size a ≤ S50257x768.size a := fun v6933 k0_hw991 => k0_hw991

def k0_off1983 (i : grid0.Coords) : Fin 1 → Nat :=
  let arg0 : BitVec 32 := BitVec.ofNat 32 (i 0).val
  let c512_i32 : BitVec 32 := 512#32
  let v0 : BitVec 32 := Scalar.muli arg0 c512_i32
  let c479_i32_3452 : BitVec 32 := 479#32
  let v6938 : BitVec 32 := Scalar.addi v0 c479_i32_3452
  let v6939 : Index := Scalar.indexCast v6938
  ![v6939.toNat]
def k0_off1984 (v6940 : BitVec 32) : Fin 2 → Nat :=
  let c0_i32_3455 : BitVec 32 := 0#32
  ![v6940.toNat, 0]

def k0_chk992 (v6940 : BitVec 32) : Prop :=
  (∀ a, (k0_off1984 v6940) a + S1x768.size a ≤ S50257x768.size a)
theorem k0_off1984_inb : ∀ (v6940 : BitVec 32) (k0_hw992 : k0_chk992 v6940), ∀ a, (k0_off1984 v6940) a + S1x768.size a ≤ S50257x768.size a := fun v6940 k0_hw992 => k0_hw992

def k0_off1985 (i : grid0.Coords) : Fin 1 → Nat :=
  let arg0 : BitVec 32 := BitVec.ofNat 32 (i 0).val
  let c512_i32 : BitVec 32 := 512#32
  let v0 : BitVec 32 := Scalar.muli arg0 c512_i32
  let c480_i32_3456 : BitVec 32 := 480#32
  let v6945 : BitVec 32 := Scalar.addi v0 c480_i32_3456
  let v6946 : Index := Scalar.indexCast v6945
  ![v6946.toNat]
def k0_off1986 (v6947 : BitVec 32) : Fin 2 → Nat :=
  let c0_i32_3459 : BitVec 32 := 0#32
  ![v6947.toNat, 0]

def k0_chk993 (v6947 : BitVec 32) : Prop :=
  (∀ a, (k0_off1986 v6947) a + S1x768.size a ≤ S50257x768.size a)
theorem k0_off1986_inb : ∀ (v6947 : BitVec 32) (k0_hw993 : k0_chk993 v6947), ∀ a, (k0_off1986 v6947) a + S1x768.size a ≤ S50257x768.size a := fun v6947 k0_hw993 => k0_hw993

def k0_off1987 (i : grid0.Coords) : Fin 1 → Nat :=
  let arg0 : BitVec 32 := BitVec.ofNat 32 (i 0).val
  let c512_i32 : BitVec 32 := 512#32
  let v0 : BitVec 32 := Scalar.muli arg0 c512_i32
  let c481_i32_3460 : BitVec 32 := 481#32
  let v6952 : BitVec 32 := Scalar.addi v0 c481_i32_3460
  let v6953 : Index := Scalar.indexCast v6952
  ![v6953.toNat]
def k0_off1988 (v6954 : BitVec 32) : Fin 2 → Nat :=
  let c0_i32_3463 : BitVec 32 := 0#32
  ![v6954.toNat, 0]

def k0_chk994 (v6954 : BitVec 32) : Prop :=
  (∀ a, (k0_off1988 v6954) a + S1x768.size a ≤ S50257x768.size a)
theorem k0_off1988_inb : ∀ (v6954 : BitVec 32) (k0_hw994 : k0_chk994 v6954), ∀ a, (k0_off1988 v6954) a + S1x768.size a ≤ S50257x768.size a := fun v6954 k0_hw994 => k0_hw994

def k0_off1989 (i : grid0.Coords) : Fin 1 → Nat :=
  let arg0 : BitVec 32 := BitVec.ofNat 32 (i 0).val
  let c512_i32 : BitVec 32 := 512#32
  let v0 : BitVec 32 := Scalar.muli arg0 c512_i32
  let c482_i32_3464 : BitVec 32 := 482#32
  let v6959 : BitVec 32 := Scalar.addi v0 c482_i32_3464
  let v6960 : Index := Scalar.indexCast v6959
  ![v6960.toNat]
def k0_off1990 (v6961 : BitVec 32) : Fin 2 → Nat :=
  let c0_i32_3467 : BitVec 32 := 0#32
  ![v6961.toNat, 0]

def k0_chk995 (v6961 : BitVec 32) : Prop :=
  (∀ a, (k0_off1990 v6961) a + S1x768.size a ≤ S50257x768.size a)
theorem k0_off1990_inb : ∀ (v6961 : BitVec 32) (k0_hw995 : k0_chk995 v6961), ∀ a, (k0_off1990 v6961) a + S1x768.size a ≤ S50257x768.size a := fun v6961 k0_hw995 => k0_hw995

def k0_off1991 (i : grid0.Coords) : Fin 1 → Nat :=
  let arg0 : BitVec 32 := BitVec.ofNat 32 (i 0).val
  let c512_i32 : BitVec 32 := 512#32
  let v0 : BitVec 32 := Scalar.muli arg0 c512_i32
  let c483_i32_3468 : BitVec 32 := 483#32
  let v6966 : BitVec 32 := Scalar.addi v0 c483_i32_3468
  let v6967 : Index := Scalar.indexCast v6966
  ![v6967.toNat]
def k0_off1992 (v6968 : BitVec 32) : Fin 2 → Nat :=
  let c0_i32_3471 : BitVec 32 := 0#32
  ![v6968.toNat, 0]

def k0_chk996 (v6968 : BitVec 32) : Prop :=
  (∀ a, (k0_off1992 v6968) a + S1x768.size a ≤ S50257x768.size a)
theorem k0_off1992_inb : ∀ (v6968 : BitVec 32) (k0_hw996 : k0_chk996 v6968), ∀ a, (k0_off1992 v6968) a + S1x768.size a ≤ S50257x768.size a := fun v6968 k0_hw996 => k0_hw996

def k0_off1993 (i : grid0.Coords) : Fin 1 → Nat :=
  let arg0 : BitVec 32 := BitVec.ofNat 32 (i 0).val
  let c512_i32 : BitVec 32 := 512#32
  let v0 : BitVec 32 := Scalar.muli arg0 c512_i32
  let c484_i32_3472 : BitVec 32 := 484#32
  let v6973 : BitVec 32 := Scalar.addi v0 c484_i32_3472
  let v6974 : Index := Scalar.indexCast v6973
  ![v6974.toNat]
def k0_off1994 (v6975 : BitVec 32) : Fin 2 → Nat :=
  let c0_i32_3475 : BitVec 32 := 0#32
  ![v6975.toNat, 0]

def k0_chk997 (v6975 : BitVec 32) : Prop :=
  (∀ a, (k0_off1994 v6975) a + S1x768.size a ≤ S50257x768.size a)
theorem k0_off1994_inb : ∀ (v6975 : BitVec 32) (k0_hw997 : k0_chk997 v6975), ∀ a, (k0_off1994 v6975) a + S1x768.size a ≤ S50257x768.size a := fun v6975 k0_hw997 => k0_hw997

def k0_off1995 (i : grid0.Coords) : Fin 1 → Nat :=
  let arg0 : BitVec 32 := BitVec.ofNat 32 (i 0).val
  let c512_i32 : BitVec 32 := 512#32
  let v0 : BitVec 32 := Scalar.muli arg0 c512_i32
  let c485_i32_3476 : BitVec 32 := 485#32
  let v6980 : BitVec 32 := Scalar.addi v0 c485_i32_3476
  let v6981 : Index := Scalar.indexCast v6980
  ![v6981.toNat]
def k0_off1996 (v6982 : BitVec 32) : Fin 2 → Nat :=
  let c0_i32_3479 : BitVec 32 := 0#32
  ![v6982.toNat, 0]

def k0_chk998 (v6982 : BitVec 32) : Prop :=
  (∀ a, (k0_off1996 v6982) a + S1x768.size a ≤ S50257x768.size a)
theorem k0_off1996_inb : ∀ (v6982 : BitVec 32) (k0_hw998 : k0_chk998 v6982), ∀ a, (k0_off1996 v6982) a + S1x768.size a ≤ S50257x768.size a := fun v6982 k0_hw998 => k0_hw998

def k0_off1997 (i : grid0.Coords) : Fin 1 → Nat :=
  let arg0 : BitVec 32 := BitVec.ofNat 32 (i 0).val
  let c512_i32 : BitVec 32 := 512#32
  let v0 : BitVec 32 := Scalar.muli arg0 c512_i32
  let c486_i32_3480 : BitVec 32 := 486#32
  let v6987 : BitVec 32 := Scalar.addi v0 c486_i32_3480
  let v6988 : Index := Scalar.indexCast v6987
  ![v6988.toNat]
def k0_off1998 (v6989 : BitVec 32) : Fin 2 → Nat :=
  let c0_i32_3483 : BitVec 32 := 0#32
  ![v6989.toNat, 0]

def k0_chk999 (v6989 : BitVec 32) : Prop :=
  (∀ a, (k0_off1998 v6989) a + S1x768.size a ≤ S50257x768.size a)
theorem k0_off1998_inb : ∀ (v6989 : BitVec 32) (k0_hw999 : k0_chk999 v6989), ∀ a, (k0_off1998 v6989) a + S1x768.size a ≤ S50257x768.size a := fun v6989 k0_hw999 => k0_hw999

def k0_off1999 (i : grid0.Coords) : Fin 1 → Nat :=
  let arg0 : BitVec 32 := BitVec.ofNat 32 (i 0).val
  let c512_i32 : BitVec 32 := 512#32
  let v0 : BitVec 32 := Scalar.muli arg0 c512_i32
  let c487_i32_3484 : BitVec 32 := 487#32
  let v6994 : BitVec 32 := Scalar.addi v0 c487_i32_3484
  let v6995 : Index := Scalar.indexCast v6994
  ![v6995.toNat]
def k0_off2000 (v6996 : BitVec 32) : Fin 2 → Nat :=
  let c0_i32_3487 : BitVec 32 := 0#32
  ![v6996.toNat, 0]

def k0_chk1000 (v6996 : BitVec 32) : Prop :=
  (∀ a, (k0_off2000 v6996) a + S1x768.size a ≤ S50257x768.size a)
theorem k0_off2000_inb : ∀ (v6996 : BitVec 32) (k0_hw1000 : k0_chk1000 v6996), ∀ a, (k0_off2000 v6996) a + S1x768.size a ≤ S50257x768.size a := fun v6996 k0_hw1000 => k0_hw1000

def k0_off2001 (i : grid0.Coords) : Fin 1 → Nat :=
  let arg0 : BitVec 32 := BitVec.ofNat 32 (i 0).val
  let c512_i32 : BitVec 32 := 512#32
  let v0 : BitVec 32 := Scalar.muli arg0 c512_i32
  let c488_i32_3488 : BitVec 32 := 488#32
  let v7001 : BitVec 32 := Scalar.addi v0 c488_i32_3488
  let v7002 : Index := Scalar.indexCast v7001
  ![v7002.toNat]
def k0_off2002 (v7003 : BitVec 32) : Fin 2 → Nat :=
  let c0_i32_3491 : BitVec 32 := 0#32
  ![v7003.toNat, 0]

def k0_chk1001 (v7003 : BitVec 32) : Prop :=
  (∀ a, (k0_off2002 v7003) a + S1x768.size a ≤ S50257x768.size a)
theorem k0_off2002_inb : ∀ (v7003 : BitVec 32) (k0_hw1001 : k0_chk1001 v7003), ∀ a, (k0_off2002 v7003) a + S1x768.size a ≤ S50257x768.size a := fun v7003 k0_hw1001 => k0_hw1001

def k0_off2003 (i : grid0.Coords) : Fin 1 → Nat :=
  let arg0 : BitVec 32 := BitVec.ofNat 32 (i 0).val
  let c512_i32 : BitVec 32 := 512#32
  let v0 : BitVec 32 := Scalar.muli arg0 c512_i32
  let c489_i32_3492 : BitVec 32 := 489#32
  let v7008 : BitVec 32 := Scalar.addi v0 c489_i32_3492
  let v7009 : Index := Scalar.indexCast v7008
  ![v7009.toNat]
def k0_off2004 (v7010 : BitVec 32) : Fin 2 → Nat :=
  let c0_i32_3495 : BitVec 32 := 0#32
  ![v7010.toNat, 0]

def k0_chk1002 (v7010 : BitVec 32) : Prop :=
  (∀ a, (k0_off2004 v7010) a + S1x768.size a ≤ S50257x768.size a)
theorem k0_off2004_inb : ∀ (v7010 : BitVec 32) (k0_hw1002 : k0_chk1002 v7010), ∀ a, (k0_off2004 v7010) a + S1x768.size a ≤ S50257x768.size a := fun v7010 k0_hw1002 => k0_hw1002

def k0_off2005 (i : grid0.Coords) : Fin 1 → Nat :=
  let arg0 : BitVec 32 := BitVec.ofNat 32 (i 0).val
  let c512_i32 : BitVec 32 := 512#32
  let v0 : BitVec 32 := Scalar.muli arg0 c512_i32
  let c490_i32_3496 : BitVec 32 := 490#32
  let v7015 : BitVec 32 := Scalar.addi v0 c490_i32_3496
  let v7016 : Index := Scalar.indexCast v7015
  ![v7016.toNat]
def k0_off2006 (v7017 : BitVec 32) : Fin 2 → Nat :=
  let c0_i32_3499 : BitVec 32 := 0#32
  ![v7017.toNat, 0]

def k0_chk1003 (v7017 : BitVec 32) : Prop :=
  (∀ a, (k0_off2006 v7017) a + S1x768.size a ≤ S50257x768.size a)
theorem k0_off2006_inb : ∀ (v7017 : BitVec 32) (k0_hw1003 : k0_chk1003 v7017), ∀ a, (k0_off2006 v7017) a + S1x768.size a ≤ S50257x768.size a := fun v7017 k0_hw1003 => k0_hw1003

def k0_off2007 (i : grid0.Coords) : Fin 1 → Nat :=
  let arg0 : BitVec 32 := BitVec.ofNat 32 (i 0).val
  let c512_i32 : BitVec 32 := 512#32
  let v0 : BitVec 32 := Scalar.muli arg0 c512_i32
  let c491_i32_3500 : BitVec 32 := 491#32
  let v7022 : BitVec 32 := Scalar.addi v0 c491_i32_3500
  let v7023 : Index := Scalar.indexCast v7022
  ![v7023.toNat]
def k0_off2008 (v7024 : BitVec 32) : Fin 2 → Nat :=
  let c0_i32_3503 : BitVec 32 := 0#32
  ![v7024.toNat, 0]

def k0_chk1004 (v7024 : BitVec 32) : Prop :=
  (∀ a, (k0_off2008 v7024) a + S1x768.size a ≤ S50257x768.size a)
theorem k0_off2008_inb : ∀ (v7024 : BitVec 32) (k0_hw1004 : k0_chk1004 v7024), ∀ a, (k0_off2008 v7024) a + S1x768.size a ≤ S50257x768.size a := fun v7024 k0_hw1004 => k0_hw1004

def k0_off2009 (i : grid0.Coords) : Fin 1 → Nat :=
  let arg0 : BitVec 32 := BitVec.ofNat 32 (i 0).val
  let c512_i32 : BitVec 32 := 512#32
  let v0 : BitVec 32 := Scalar.muli arg0 c512_i32
  let c492_i32_3504 : BitVec 32 := 492#32
  let v7029 : BitVec 32 := Scalar.addi v0 c492_i32_3504
  let v7030 : Index := Scalar.indexCast v7029
  ![v7030.toNat]
def k0_off2010 (v7031 : BitVec 32) : Fin 2 → Nat :=
  let c0_i32_3507 : BitVec 32 := 0#32
  ![v7031.toNat, 0]

def k0_chk1005 (v7031 : BitVec 32) : Prop :=
  (∀ a, (k0_off2010 v7031) a + S1x768.size a ≤ S50257x768.size a)
theorem k0_off2010_inb : ∀ (v7031 : BitVec 32) (k0_hw1005 : k0_chk1005 v7031), ∀ a, (k0_off2010 v7031) a + S1x768.size a ≤ S50257x768.size a := fun v7031 k0_hw1005 => k0_hw1005

def k0_off2011 (i : grid0.Coords) : Fin 1 → Nat :=
  let arg0 : BitVec 32 := BitVec.ofNat 32 (i 0).val
  let c512_i32 : BitVec 32 := 512#32
  let v0 : BitVec 32 := Scalar.muli arg0 c512_i32
  let c493_i32_3508 : BitVec 32 := 493#32
  let v7036 : BitVec 32 := Scalar.addi v0 c493_i32_3508
  let v7037 : Index := Scalar.indexCast v7036
  ![v7037.toNat]
def k0_off2012 (v7038 : BitVec 32) : Fin 2 → Nat :=
  let c0_i32_3511 : BitVec 32 := 0#32
  ![v7038.toNat, 0]

def k0_chk1006 (v7038 : BitVec 32) : Prop :=
  (∀ a, (k0_off2012 v7038) a + S1x768.size a ≤ S50257x768.size a)
theorem k0_off2012_inb : ∀ (v7038 : BitVec 32) (k0_hw1006 : k0_chk1006 v7038), ∀ a, (k0_off2012 v7038) a + S1x768.size a ≤ S50257x768.size a := fun v7038 k0_hw1006 => k0_hw1006

def k0_off2013 (i : grid0.Coords) : Fin 1 → Nat :=
  let arg0 : BitVec 32 := BitVec.ofNat 32 (i 0).val
  let c512_i32 : BitVec 32 := 512#32
  let v0 : BitVec 32 := Scalar.muli arg0 c512_i32
  let c494_i32_3512 : BitVec 32 := 494#32
  let v7043 : BitVec 32 := Scalar.addi v0 c494_i32_3512
  let v7044 : Index := Scalar.indexCast v7043
  ![v7044.toNat]
def k0_off2014 (v7045 : BitVec 32) : Fin 2 → Nat :=
  let c0_i32_3515 : BitVec 32 := 0#32
  ![v7045.toNat, 0]

def k0_chk1007 (v7045 : BitVec 32) : Prop :=
  (∀ a, (k0_off2014 v7045) a + S1x768.size a ≤ S50257x768.size a)
theorem k0_off2014_inb : ∀ (v7045 : BitVec 32) (k0_hw1007 : k0_chk1007 v7045), ∀ a, (k0_off2014 v7045) a + S1x768.size a ≤ S50257x768.size a := fun v7045 k0_hw1007 => k0_hw1007

def k0_off2015 (i : grid0.Coords) : Fin 1 → Nat :=
  let arg0 : BitVec 32 := BitVec.ofNat 32 (i 0).val
  let c512_i32 : BitVec 32 := 512#32
  let v0 : BitVec 32 := Scalar.muli arg0 c512_i32
  let c495_i32_3516 : BitVec 32 := 495#32
  let v7050 : BitVec 32 := Scalar.addi v0 c495_i32_3516
  let v7051 : Index := Scalar.indexCast v7050
  ![v7051.toNat]
def k0_off2016 (v7052 : BitVec 32) : Fin 2 → Nat :=
  let c0_i32_3519 : BitVec 32 := 0#32
  ![v7052.toNat, 0]

def k0_chk1008 (v7052 : BitVec 32) : Prop :=
  (∀ a, (k0_off2016 v7052) a + S1x768.size a ≤ S50257x768.size a)
theorem k0_off2016_inb : ∀ (v7052 : BitVec 32) (k0_hw1008 : k0_chk1008 v7052), ∀ a, (k0_off2016 v7052) a + S1x768.size a ≤ S50257x768.size a := fun v7052 k0_hw1008 => k0_hw1008

def k0_off2017 (i : grid0.Coords) : Fin 1 → Nat :=
  let arg0 : BitVec 32 := BitVec.ofNat 32 (i 0).val
  let c512_i32 : BitVec 32 := 512#32
  let v0 : BitVec 32 := Scalar.muli arg0 c512_i32
  let c496_i32_3520 : BitVec 32 := 496#32
  let v7057 : BitVec 32 := Scalar.addi v0 c496_i32_3520
  let v7058 : Index := Scalar.indexCast v7057
  ![v7058.toNat]
def k0_off2018 (v7059 : BitVec 32) : Fin 2 → Nat :=
  let c0_i32_3523 : BitVec 32 := 0#32
  ![v7059.toNat, 0]

def k0_chk1009 (v7059 : BitVec 32) : Prop :=
  (∀ a, (k0_off2018 v7059) a + S1x768.size a ≤ S50257x768.size a)
theorem k0_off2018_inb : ∀ (v7059 : BitVec 32) (k0_hw1009 : k0_chk1009 v7059), ∀ a, (k0_off2018 v7059) a + S1x768.size a ≤ S50257x768.size a := fun v7059 k0_hw1009 => k0_hw1009

def k0_off2019 (i : grid0.Coords) : Fin 1 → Nat :=
  let arg0 : BitVec 32 := BitVec.ofNat 32 (i 0).val
  let c512_i32 : BitVec 32 := 512#32
  let v0 : BitVec 32 := Scalar.muli arg0 c512_i32
  let c497_i32_3524 : BitVec 32 := 497#32
  let v7064 : BitVec 32 := Scalar.addi v0 c497_i32_3524
  let v7065 : Index := Scalar.indexCast v7064
  ![v7065.toNat]
def k0_off2020 (v7066 : BitVec 32) : Fin 2 → Nat :=
  let c0_i32_3527 : BitVec 32 := 0#32
  ![v7066.toNat, 0]

def k0_chk1010 (v7066 : BitVec 32) : Prop :=
  (∀ a, (k0_off2020 v7066) a + S1x768.size a ≤ S50257x768.size a)
theorem k0_off2020_inb : ∀ (v7066 : BitVec 32) (k0_hw1010 : k0_chk1010 v7066), ∀ a, (k0_off2020 v7066) a + S1x768.size a ≤ S50257x768.size a := fun v7066 k0_hw1010 => k0_hw1010

def k0_off2021 (i : grid0.Coords) : Fin 1 → Nat :=
  let arg0 : BitVec 32 := BitVec.ofNat 32 (i 0).val
  let c512_i32 : BitVec 32 := 512#32
  let v0 : BitVec 32 := Scalar.muli arg0 c512_i32
  let c498_i32_3528 : BitVec 32 := 498#32
  let v7071 : BitVec 32 := Scalar.addi v0 c498_i32_3528
  let v7072 : Index := Scalar.indexCast v7071
  ![v7072.toNat]
def k0_off2022 (v7073 : BitVec 32) : Fin 2 → Nat :=
  let c0_i32_3531 : BitVec 32 := 0#32
  ![v7073.toNat, 0]

def k0_chk1011 (v7073 : BitVec 32) : Prop :=
  (∀ a, (k0_off2022 v7073) a + S1x768.size a ≤ S50257x768.size a)
theorem k0_off2022_inb : ∀ (v7073 : BitVec 32) (k0_hw1011 : k0_chk1011 v7073), ∀ a, (k0_off2022 v7073) a + S1x768.size a ≤ S50257x768.size a := fun v7073 k0_hw1011 => k0_hw1011

def k0_off2023 (i : grid0.Coords) : Fin 1 → Nat :=
  let arg0 : BitVec 32 := BitVec.ofNat 32 (i 0).val
  let c512_i32 : BitVec 32 := 512#32
  let v0 : BitVec 32 := Scalar.muli arg0 c512_i32
  let c499_i32_3532 : BitVec 32 := 499#32
  let v7078 : BitVec 32 := Scalar.addi v0 c499_i32_3532
  let v7079 : Index := Scalar.indexCast v7078
  ![v7079.toNat]
def k0_off2024 (v7080 : BitVec 32) : Fin 2 → Nat :=
  let c0_i32_3535 : BitVec 32 := 0#32
  ![v7080.toNat, 0]

def k0_chk1012 (v7080 : BitVec 32) : Prop :=
  (∀ a, (k0_off2024 v7080) a + S1x768.size a ≤ S50257x768.size a)
theorem k0_off2024_inb : ∀ (v7080 : BitVec 32) (k0_hw1012 : k0_chk1012 v7080), ∀ a, (k0_off2024 v7080) a + S1x768.size a ≤ S50257x768.size a := fun v7080 k0_hw1012 => k0_hw1012

def k0_off2025 (i : grid0.Coords) : Fin 1 → Nat :=
  let arg0 : BitVec 32 := BitVec.ofNat 32 (i 0).val
  let c512_i32 : BitVec 32 := 512#32
  let v0 : BitVec 32 := Scalar.muli arg0 c512_i32
  let c500_i32_3536 : BitVec 32 := 500#32
  let v7085 : BitVec 32 := Scalar.addi v0 c500_i32_3536
  let v7086 : Index := Scalar.indexCast v7085
  ![v7086.toNat]
def k0_off2026 (v7087 : BitVec 32) : Fin 2 → Nat :=
  let c0_i32_3539 : BitVec 32 := 0#32
  ![v7087.toNat, 0]

def k0_chk1013 (v7087 : BitVec 32) : Prop :=
  (∀ a, (k0_off2026 v7087) a + S1x768.size a ≤ S50257x768.size a)
theorem k0_off2026_inb : ∀ (v7087 : BitVec 32) (k0_hw1013 : k0_chk1013 v7087), ∀ a, (k0_off2026 v7087) a + S1x768.size a ≤ S50257x768.size a := fun v7087 k0_hw1013 => k0_hw1013

def k0_off2027 (i : grid0.Coords) : Fin 1 → Nat :=
  let arg0 : BitVec 32 := BitVec.ofNat 32 (i 0).val
  let c512_i32 : BitVec 32 := 512#32
  let v0 : BitVec 32 := Scalar.muli arg0 c512_i32
  let c501_i32_3540 : BitVec 32 := 501#32
  let v7092 : BitVec 32 := Scalar.addi v0 c501_i32_3540
  let v7093 : Index := Scalar.indexCast v7092
  ![v7093.toNat]
def k0_off2028 (v7094 : BitVec 32) : Fin 2 → Nat :=
  let c0_i32_3543 : BitVec 32 := 0#32
  ![v7094.toNat, 0]

def k0_chk1014 (v7094 : BitVec 32) : Prop :=
  (∀ a, (k0_off2028 v7094) a + S1x768.size a ≤ S50257x768.size a)
theorem k0_off2028_inb : ∀ (v7094 : BitVec 32) (k0_hw1014 : k0_chk1014 v7094), ∀ a, (k0_off2028 v7094) a + S1x768.size a ≤ S50257x768.size a := fun v7094 k0_hw1014 => k0_hw1014

def k0_off2029 (i : grid0.Coords) : Fin 1 → Nat :=
  let arg0 : BitVec 32 := BitVec.ofNat 32 (i 0).val
  let c512_i32 : BitVec 32 := 512#32
  let v0 : BitVec 32 := Scalar.muli arg0 c512_i32
  let c502_i32_3544 : BitVec 32 := 502#32
  let v7099 : BitVec 32 := Scalar.addi v0 c502_i32_3544
  let v7100 : Index := Scalar.indexCast v7099
  ![v7100.toNat]
def k0_off2030 (v7101 : BitVec 32) : Fin 2 → Nat :=
  let c0_i32_3547 : BitVec 32 := 0#32
  ![v7101.toNat, 0]

def k0_chk1015 (v7101 : BitVec 32) : Prop :=
  (∀ a, (k0_off2030 v7101) a + S1x768.size a ≤ S50257x768.size a)
theorem k0_off2030_inb : ∀ (v7101 : BitVec 32) (k0_hw1015 : k0_chk1015 v7101), ∀ a, (k0_off2030 v7101) a + S1x768.size a ≤ S50257x768.size a := fun v7101 k0_hw1015 => k0_hw1015

def k0_off2031 (i : grid0.Coords) : Fin 1 → Nat :=
  let arg0 : BitVec 32 := BitVec.ofNat 32 (i 0).val
  let c512_i32 : BitVec 32 := 512#32
  let v0 : BitVec 32 := Scalar.muli arg0 c512_i32
  let c503_i32_3548 : BitVec 32 := 503#32
  let v7106 : BitVec 32 := Scalar.addi v0 c503_i32_3548
  let v7107 : Index := Scalar.indexCast v7106
  ![v7107.toNat]
def k0_off2032 (v7108 : BitVec 32) : Fin 2 → Nat :=
  let c0_i32_3551 : BitVec 32 := 0#32
  ![v7108.toNat, 0]

def k0_chk1016 (v7108 : BitVec 32) : Prop :=
  (∀ a, (k0_off2032 v7108) a + S1x768.size a ≤ S50257x768.size a)
theorem k0_off2032_inb : ∀ (v7108 : BitVec 32) (k0_hw1016 : k0_chk1016 v7108), ∀ a, (k0_off2032 v7108) a + S1x768.size a ≤ S50257x768.size a := fun v7108 k0_hw1016 => k0_hw1016

def k0_off2033 (i : grid0.Coords) : Fin 1 → Nat :=
  let arg0 : BitVec 32 := BitVec.ofNat 32 (i 0).val
  let c512_i32 : BitVec 32 := 512#32
  let v0 : BitVec 32 := Scalar.muli arg0 c512_i32
  let c504_i32_3552 : BitVec 32 := 504#32
  let v7113 : BitVec 32 := Scalar.addi v0 c504_i32_3552
  let v7114 : Index := Scalar.indexCast v7113
  ![v7114.toNat]
def k0_off2034 (v7115 : BitVec 32) : Fin 2 → Nat :=
  let c0_i32_3555 : BitVec 32 := 0#32
  ![v7115.toNat, 0]

def k0_chk1017 (v7115 : BitVec 32) : Prop :=
  (∀ a, (k0_off2034 v7115) a + S1x768.size a ≤ S50257x768.size a)
theorem k0_off2034_inb : ∀ (v7115 : BitVec 32) (k0_hw1017 : k0_chk1017 v7115), ∀ a, (k0_off2034 v7115) a + S1x768.size a ≤ S50257x768.size a := fun v7115 k0_hw1017 => k0_hw1017

def k0_off2035 (i : grid0.Coords) : Fin 1 → Nat :=
  let arg0 : BitVec 32 := BitVec.ofNat 32 (i 0).val
  let c512_i32 : BitVec 32 := 512#32
  let v0 : BitVec 32 := Scalar.muli arg0 c512_i32
  let c505_i32_3556 : BitVec 32 := 505#32
  let v7120 : BitVec 32 := Scalar.addi v0 c505_i32_3556
  let v7121 : Index := Scalar.indexCast v7120
  ![v7121.toNat]
def k0_off2036 (v7122 : BitVec 32) : Fin 2 → Nat :=
  let c0_i32_3559 : BitVec 32 := 0#32
  ![v7122.toNat, 0]

def k0_chk1018 (v7122 : BitVec 32) : Prop :=
  (∀ a, (k0_off2036 v7122) a + S1x768.size a ≤ S50257x768.size a)
theorem k0_off2036_inb : ∀ (v7122 : BitVec 32) (k0_hw1018 : k0_chk1018 v7122), ∀ a, (k0_off2036 v7122) a + S1x768.size a ≤ S50257x768.size a := fun v7122 k0_hw1018 => k0_hw1018

def k0_off2037 (i : grid0.Coords) : Fin 1 → Nat :=
  let arg0 : BitVec 32 := BitVec.ofNat 32 (i 0).val
  let c512_i32 : BitVec 32 := 512#32
  let v0 : BitVec 32 := Scalar.muli arg0 c512_i32
  let c506_i32_3560 : BitVec 32 := 506#32
  let v7127 : BitVec 32 := Scalar.addi v0 c506_i32_3560
  let v7128 : Index := Scalar.indexCast v7127
  ![v7128.toNat]
def k0_off2038 (v7129 : BitVec 32) : Fin 2 → Nat :=
  let c0_i32_3563 : BitVec 32 := 0#32
  ![v7129.toNat, 0]

def k0_chk1019 (v7129 : BitVec 32) : Prop :=
  (∀ a, (k0_off2038 v7129) a + S1x768.size a ≤ S50257x768.size a)
theorem k0_off2038_inb : ∀ (v7129 : BitVec 32) (k0_hw1019 : k0_chk1019 v7129), ∀ a, (k0_off2038 v7129) a + S1x768.size a ≤ S50257x768.size a := fun v7129 k0_hw1019 => k0_hw1019

def k0_off2039 (i : grid0.Coords) : Fin 1 → Nat :=
  let arg0 : BitVec 32 := BitVec.ofNat 32 (i 0).val
  let c512_i32 : BitVec 32 := 512#32
  let v0 : BitVec 32 := Scalar.muli arg0 c512_i32
  let c507_i32_3564 : BitVec 32 := 507#32
  let v7134 : BitVec 32 := Scalar.addi v0 c507_i32_3564
  let v7135 : Index := Scalar.indexCast v7134
  ![v7135.toNat]
def k0_off2040 (v7136 : BitVec 32) : Fin 2 → Nat :=
  let c0_i32_3567 : BitVec 32 := 0#32
  ![v7136.toNat, 0]

def k0_chk1020 (v7136 : BitVec 32) : Prop :=
  (∀ a, (k0_off2040 v7136) a + S1x768.size a ≤ S50257x768.size a)
theorem k0_off2040_inb : ∀ (v7136 : BitVec 32) (k0_hw1020 : k0_chk1020 v7136), ∀ a, (k0_off2040 v7136) a + S1x768.size a ≤ S50257x768.size a := fun v7136 k0_hw1020 => k0_hw1020

def k0_off2041 (i : grid0.Coords) : Fin 1 → Nat :=
  let arg0 : BitVec 32 := BitVec.ofNat 32 (i 0).val
  let c512_i32 : BitVec 32 := 512#32
  let v0 : BitVec 32 := Scalar.muli arg0 c512_i32
  let c508_i32_3568 : BitVec 32 := 508#32
  let v7141 : BitVec 32 := Scalar.addi v0 c508_i32_3568
  let v7142 : Index := Scalar.indexCast v7141
  ![v7142.toNat]
def k0_off2042 (v7143 : BitVec 32) : Fin 2 → Nat :=
  let c0_i32_3571 : BitVec 32 := 0#32
  ![v7143.toNat, 0]

def k0_chk1021 (v7143 : BitVec 32) : Prop :=
  (∀ a, (k0_off2042 v7143) a + S1x768.size a ≤ S50257x768.size a)
theorem k0_off2042_inb : ∀ (v7143 : BitVec 32) (k0_hw1021 : k0_chk1021 v7143), ∀ a, (k0_off2042 v7143) a + S1x768.size a ≤ S50257x768.size a := fun v7143 k0_hw1021 => k0_hw1021

def k0_off2043 (i : grid0.Coords) : Fin 1 → Nat :=
  let arg0 : BitVec 32 := BitVec.ofNat 32 (i 0).val
  let c512_i32 : BitVec 32 := 512#32
  let v0 : BitVec 32 := Scalar.muli arg0 c512_i32
  let c509_i32_3572 : BitVec 32 := 509#32
  let v7148 : BitVec 32 := Scalar.addi v0 c509_i32_3572
  let v7149 : Index := Scalar.indexCast v7148
  ![v7149.toNat]
def k0_off2044 (v7150 : BitVec 32) : Fin 2 → Nat :=
  let c0_i32_3575 : BitVec 32 := 0#32
  ![v7150.toNat, 0]

def k0_chk1022 (v7150 : BitVec 32) : Prop :=
  (∀ a, (k0_off2044 v7150) a + S1x768.size a ≤ S50257x768.size a)
theorem k0_off2044_inb : ∀ (v7150 : BitVec 32) (k0_hw1022 : k0_chk1022 v7150), ∀ a, (k0_off2044 v7150) a + S1x768.size a ≤ S50257x768.size a := fun v7150 k0_hw1022 => k0_hw1022

def k0_off2045 (i : grid0.Coords) : Fin 1 → Nat :=
  let arg0 : BitVec 32 := BitVec.ofNat 32 (i 0).val
  let c512_i32 : BitVec 32 := 512#32
  let v0 : BitVec 32 := Scalar.muli arg0 c512_i32
  let c510_i32_3576 : BitVec 32 := 510#32
  let v7155 : BitVec 32 := Scalar.addi v0 c510_i32_3576
  let v7156 : Index := Scalar.indexCast v7155
  ![v7156.toNat]
def k0_off2046 (v7157 : BitVec 32) : Fin 2 → Nat :=
  let c0_i32_3579 : BitVec 32 := 0#32
  ![v7157.toNat, 0]

def k0_chk1023 (v7157 : BitVec 32) : Prop :=
  (∀ a, (k0_off2046 v7157) a + S1x768.size a ≤ S50257x768.size a)
theorem k0_off2046_inb : ∀ (v7157 : BitVec 32) (k0_hw1023 : k0_chk1023 v7157), ∀ a, (k0_off2046 v7157) a + S1x768.size a ≤ S50257x768.size a := fun v7157 k0_hw1023 => k0_hw1023

def k0_off2047 (i : grid0.Coords) : Fin 1 → Nat :=
  let arg0 : BitVec 32 := BitVec.ofNat 32 (i 0).val
  let c512_i32 : BitVec 32 := 512#32
  let v0 : BitVec 32 := Scalar.muli arg0 c512_i32
  let c511_i32_3580 : BitVec 32 := 511#32
  let v7162 : BitVec 32 := Scalar.addi v0 c511_i32_3580
  let v7163 : Index := Scalar.indexCast v7162
  ![v7163.toNat]
def k0_off2048 (v7164 : BitVec 32) : Fin 2 → Nat :=
  let c0_i32_3583 : BitVec 32 := 0#32
  ![v7164.toNat, 0]

def k0_chk1024 (v7164 : BitVec 32) : Prop :=
  (∀ a, (k0_off2048 v7164) a + S1x768.size a ≤ S50257x768.size a)
theorem k0_off2048_inb : ∀ (v7164 : BitVec 32) (k0_hw1024 : k0_chk1024 v7164), ∀ a, (k0_off2048 v7164) a + S1x768.size a ≤ S50257x768.size a := fun v7164 k0_hw1024 => k0_hw1024

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096 : Shape := ⟨1, ![4096]⟩
abbrev S50257x768 : Shape := ⟨2, ![50257, 768]⟩
abbrev S1x768 : Shape := ⟨2, ![1, 768]⟩
abbrev S_ : Shape := ⟨0, ![]⟩
abbrev S4096x1 : Shape := ⟨2, ![4096, 1]⟩
abbrev S4096x768 : Shape := ⟨2, ![4096, 768]⟩

abbrev nBuf : Space → Nat
  | .hbm => 41
  | .vmem => 0
  | .smem => 0
  | _ => 0

abbrev bufTy : (tb : Table) → Fin (tcTables nBuf tb) → BufTy
  | .hbm, ⟨0, _⟩ => ⟨S4096, .i32⟩
  | .hbm, ⟨1, _⟩ => ⟨S50257x768, .f32⟩
  | .hbm, ⟨2, _⟩ => ⟨S1x768, .f32⟩
  | .hbm, ⟨3, _⟩ => ⟨S1x768, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x768, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x768, .f32⟩
  | .hbm, ⟨35, _⟩ => ⟨S4096x768, .f32⟩
  | .hbm, ⟨36, _⟩ => ⟨S4096x768, .f32⟩
  | .hbm, ⟨37, _⟩ => ⟨S4096x768, .f32⟩
  | .hbm, ⟨38, _⟩ => ⟨S4096x768, .f32⟩
  | .hbm, ⟨39, _⟩ => ⟨S4096x768, .f32⟩
  | .hbm, ⟨40, _⟩ => ⟨S4096x768, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Gather.Rows.lean ====
/-
  The copies of one grid point: the row the k-th token names is copied to row k of the scratch, all 512 copies on one
  semaphore. What the core holds after k copies were started, and after k waits.
-/
module

public import proofs.«01_k».proof.Proof.Gen.Kernel2Ideal.Launch
public import Idealize.ShloMosaic.Lib.Batch
public import Idealize.ShloMosaic.Lib.Tactic
public import Idealize.ShloMosaic.Lib.Pipeline.FrameBody
public import Idealize.ShloMosaic.Lib.Pipeline.Value
public import Idealize.ShloMosaic.Lib.ValueLayout
public import Idealize.ShloMosaic.Lib.Affine
public import Idealize.ShloMosaic.Lib.Pipeline.ValueKit.Geometry

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UG : Type := Pipeline.UD sig nD τ
local notation "𝕄" => MT nD τ sig Unit (Elt F) ℕ UG ℕ

/-! ## The rows -/

/-- Where the k-th token of grid point `i` lies in the table, as the kernel computes it. -/
def tokOff (i : grid0.Coords) (k : ℕ) : Fin 1 → ℕ :=
  ![(Scalar.indexCast (Scalar.addi (Scalar.muli (BitVec.ofNat 32 (i 0).val) 512#32) (BitVec.ofNat 32 k))).toNat]

/-- The rows of the embedding begin at their number. -/
def rowOff (v : BitVec 32) : Fin 2 → ℕ := ![v.toNat, 0]

abbrev tabM : Memref sig .tc .smem S4096 .i32 := Memref.whole main_arg0
abbrev embM : Memref sig .tc .hbm S50257x768 .f32 := Memref.whole main_arg1
abbrev scrM : Memref sig .tc .vmem S512x768 .f32 := Memref.whole cc0_scratch0

abbrev srcRow (v : BitVec 32) (h : ∀ a, rowOff v a + S1x768.size a ≤ S50257x768.size a) : Memref sig .tc .hbm S768 .f32 :=
  (embM.slice (Rect.unit (s := S50257x768) (rowOff v) S1x768.size h) (fun _ => rfl)).squeeze S768 squeezes_S1x768_S768
abbrev dstRow (k : ℕ) (h : ∀ a, (![k, 0] : Fin 2 → ℕ) a + S1x768.size a ≤ S512x768.size a) : Memref sig .tc .vmem S768 .f32 :=
  (scrM.slice (Rect.unit (s := S512x768) ![k, 0] S1x768.size h) (fun _ => rfl)).squeeze S768 squeezes_S1x768_S768

theorem tokOff_val (i : grid0.Coords) (k : ℕ) (hk : k < 512) : (tokOff i k) 0 = 512 * (i 0).val + k := by
  have hi : (i 0).val < 8 := (i 0).isLt
  show (Scalar.indexCast (Scalar.addi (Scalar.muli (BitVec.ofNat 32 (i 0).val) 512#32) (BitVec.ofNat 32 k))).toNat = _
  show (BitVec.ofNat 32 (i 0).val * 512#32 + BitVec.ofNat 32 k).toNat = _
  simp only [BitVec.toNat_add, BitVec.toNat_mul, BitVec.toNat_ofNat]
  omega

theorem tokOff_inb (i : grid0.Coords) (k : ℕ) (hk : k < 512) : ∀ a, tokOff i k a + S1.size a ≤ S4096.size a := fun a => by
  have hi : (i 0).val < 8 := (i 0).isLt
  match a with
  | ⟨0, _⟩ => show tokOff i k 0 + 1 ≤ 4096; rw [tokOff_val i k hk]; omega

theorem dst_inb (k : ℕ) (hk : k < 512) : ∀ a, (![k, 0] : Fin 2 → ℕ) a + S1x768.size a ≤ S512x768.size a := fun a => by
  match a with
  | ⟨0, _⟩ => show k + 1 ≤ 512; omega
  | ⟨1, _⟩ => show 0 + 768 ≤ 768; omega

theorem src_inb (v : BitVec 32) (hv : v.toNat < 50257) : ∀ a, rowOff v a + S1x768.size a ≤ S50257x768.size a := fun a => by
  match a with
  | ⟨0, _⟩ => show v.toNat + 1 ≤ 50257; omega
  | ⟨1, _⟩ => show 0 + 768 ≤ 768; omega

/-! ## The elements of a row, and of the rows from the k-th on -/

theorem mem_dst (k : ℕ) (h) (y : S512x768.Idx) : y ∈ (dstRow k h).view.set ↔ (y 0).val = k := by
  have e : (dstRow k h).view.set = (Rect.unit (s := S512x768) ![k, 0] S1x768.size h).set :=
    (View.set_reshape _ _).trans (View.set_slice_whole cc0_scratch0 _)
  rw [e]
  refine Rect.mem_set_unit.trans ⟨fun h => ?_, fun h a => ?_⟩
  · have h0 := h 0
    have h1 : k ≤ (y 0).val := h0.1
    have h2 : (y 0).val < k + 1 := h0.2
    omega
  · match a with
    | ⟨0, _⟩ => exact ⟨h.ge, by show (y 0).val < k + 1; omega⟩
    | ⟨1, _⟩ => exact ⟨Nat.zero_le _, by show (y 1).val < 0 + 768; have := (y 1).isLt; change (y 1).val < 768 at this; omega⟩

/-- The rows of the scratch from the k-th on. -/
def fromRow (k : ℕ) : Finset S512x768.Idx := Finset.univ.filter fun y => k ≤ (y 0).val

theorem dst_from (k : ℕ) (h) : (dstRow k h).view.set ⊆ fromRow k := fun y hy =>
  Finset.mem_filter.2 ⟨Finset.mem_univ _, ((mem_dst k h y).mp hy).ge⟩

theorem from_sdiff (k : ℕ) (h) : fromRow k \ (dstRow k h).view.set = fromRow (k + 1) := by
  ext y
  rw [Finset.mem_sdiff, mem_dst]
  refine ⟨fun hy => Finset.mem_filter.2 ⟨Finset.mem_univ _, ?_⟩, fun hy => ⟨Finset.mem_filter.2 ⟨Finset.mem_univ _, ?_⟩, ?_⟩⟩
  · have := (Finset.mem_filter.1 hy.1).2
    have := hy.2
    omega
  · have := (Finset.mem_filter.1 hy).2; omega
  · have := (Finset.mem_filter.1 hy).2; omega

theorem from_zero : fromRow 0 = Finset.univ := Finset.filter_true_of_mem fun _ _ => Nat.zero_le _

/-! ## What is read and what is written -/

variable (c : Dev nD) (i : grid0.Coords) (T : S4096.Idx → BitVec 32) (M : S50257x768.Idx → Elt F .f32)

/-- The k-th token of the grid point. -/
def tok (k : ℕ) : BitVec 32 := T (ix1 ⟨(512 * (i 0).val + k) % 4096, Nat.mod_lt _ (by decide)⟩)

/-- The scratch after the copies: row k holds the row the k-th token names. -/
def gathered (y : S512x768.Idx) : Elt F .f32 := M (ix2 ⟨(tok i T (y 0).val).toNat % 50257, Nat.mod_lt _ (by decide)⟩ (y 1))

/-- The read of the table at the k-th token. -/
theorem read_tok (k : ℕ) (hk : k < 512) (h) (x) :
    (tabM.access (Rect.unit (s := S4096) (tokOff i k) S1.size h)).read (Elt F) (T : tabM.view.ty.Contents (Elt F)) x = tok i T k := by
  have hi : (i 0).val < 8 := (i 0).isLt
  show T _ = T _
  congr 1
  funext a; apply Fin.ext
  match a with
  | ⟨0, _⟩ =>
    have hx : (x 0).val < 1 := (x 0).isLt
    show tokOff i k 0 + 1 * (x 0).val = (512 * (i 0).val + k) % 4096
    rw [tokOff_val i k hk]; omega

theorem dst_idx (k : ℕ) (h) (f : S512x768.Idx → Elt F .f32) (q : Fin 768) (hk : k < 512) :
    (dstRow k h).view.read (Elt F) (f : scrM.view.ty.Contents (Elt F)) (ix1 q) = f (ix2 ⟨k, hk⟩ q) := by
  rw [Memref.read_squeeze_slice scrM _ _ _ (show S1x768.ShapeCasts S768 by decide),
    shapeCast_apply _ _ (ix1 q) (ix2 (0 : Fin 1) q) (by
      rw [Shape.rowMajor_val_two, Shape.rowMajor_val_one]
      show 0 * 768 + q.val = q.val
      omega)]
  show f _ = f _
  congr 1
  funext a; apply Fin.ext
  match a with
  | ⟨0, _⟩ => show k + 1 * 0 = k; omega
  | ⟨1, _⟩ => show 0 + 1 * q.val = q.val; omega

theorem src_idx (v : BitVec 32) (h) (q : Fin 768) (hv : v.toNat < 50257) :
    (srcRow v h).view.read (Elt F) (M : embM.view.ty.Contents (Elt F)) (ix1 q) = M (ix2 ⟨v.toNat, hv⟩ q) := by
  rw [Memref.read_squeeze_slice embM _ _ _ (show S1x768.ShapeCasts S768 by decide),
    shapeCast_apply _ _ (ix1 q) (ix2 (0 : Fin 1) q) (by
      rw [Shape.rowMajor_val_two, Shape.rowMajor_val_one]
      show 0 * 768 + q.val = q.val
      omega)]
  show M _ = M _
  congr 1
  funext a; apply Fin.ext
  match a with
  | ⟨0, _⟩ => show v.toNat + 1 * 0 = v.toNat; omega
  | ⟨1, _⟩ => show 0 + 1 * q.val = q.val; omega

/-- A landed copy leaves its row as `gathered` has it. -/
theorem landed (k : ℕ) (hk : k < 512) (hd) (hs) (hv : (tok i T k).toNat < 50257) (fd : scrM.view.ty.Contents (Elt F)) (y : S512x768.Idx)
    (hy : y ∈ (dstRow k hd).view.set) :
    (dstRow k hd).view.write (Elt F) fd (ReadAs.same.apply ((srcRow (tok i T k) hs).view.read (Elt F) (M : embM.view.ty.Contents (Elt F)))) Finset.univ y
      = gathered i T M y := by
  have e0 : (y 0).val = k := (mem_dst k hd y).mp hy
  have h1 := congrFun (View.read_write_univ (v := (dstRow k hd).view) fd
    (ReadAs.same.apply ((srcRow (tok i T k) hs).view.read (Elt F) (M : embM.view.ty.Contents (Elt F))))) (ix1 (y 1))
  rw [dst_idx k hd _ (y 1) hk] at h1
  have ey : (ix2 ⟨k, hk⟩ (y 1) : S512x768.Idx) = y := by
    rw [eq_ix2 y]
    funext a; apply Fin.ext
    match a with
    | ⟨0, _⟩ => exact e0.symm
    | ⟨1, _⟩ => rfl
  rw [ey] at h1
  refine h1.trans ((src_idx M (tok i T k) hs (y 1) hv).trans ?_)
  unfold gathered
  refine congrArg M (congrArg (fun a : Fin 50257 => (ix2 a (y 1) : S50257x768.Idx)) (Fin.ext ?_))
  show (tok i T k).toNat = (tok i T (y 0).val).toNat % 50257
  rw [e0, Nat.mod_eq_of_lt hv]

/-! ## What the core holds -/

abbrev gsem : DmaSem sig := (cc0_scratch1 : DmaSems sig S_).sem

/-- What one row's copy counts. -/
abbrev rowN : ℕ := (dstRow 0 (dst_inb 0 (by decide))).view.amount (SemLoc.dma gsem)

/-- The share of the embedding the k-th copy reads under, and what is left after k of them. -/
abbrev eTok (k : ℕ) : PosShare TreeShare := Transfers.shareTokN fullShare k
abbrev eRest (k : ℕ) : PosShare TreeShare := Transfers.shareDrop fullShare k

variable (hT : ∀ k, (tok i T k).toNat < 50257)

/-- The elements of the row the k-th token names. -/
abbrev srcSet (k : ℕ) : Finset S50257x768.Idx := (srcRow (tok i T k) (src_inb _ (hT k))).view.set

/-- What the k-th copy hands back: its row of the scratch filled, and the row it read. -/
def handed (k : Fin 512) : sProp 𝕄 :=
  iprop(((c : Thread nD τ).loc cc0_scratch0 ↦[(dstRow k.val (dst_inb k.val k.isLt)).view.set]{fullShare} (gathered i T M : Buf (Elt F) ((c : Thread nD τ).loc cc0_scratch0)))
    ∗ ((c : Thread nD τ).loc main_arg1 ↦[srcSet i T hT k.val]{eTok k.val} (M : Buf (Elt F) ((c : Thread nD τ).loc main_arg1))))

instance handed_storable : ∀ k, Storable (upEmb : UEmb _ 𝕄) (handed c i T M hT k) := fun k => by unfold handed; infer_instance

/-- The record of the core's waits. -/
abbrev waits : sProp 𝕄 := iprop(∃ W, owes (c : Thread nD τ) 0 W)

/-- The shares of the rows that the first k copies did not read. -/
abbrev unread (k : ℕ) : sProp 𝕄 :=
  BI.bigSep (Finset.range k) fun j => ((c : Thread nD τ).loc main_arg1 ↦[Finset.univ \ srcSet i T hT j]{eTok j} (M : Buf (Elt F) ((c : Thread nD τ).loc main_arg1)))

abbrev batch (k u : ℕ) : sProp 𝕄 :=
  Transfers.Batch countersEmb (c : Thread nD τ) (SemLoc.dma gsem) () rowN (handed c i T M hT) k u

/-- After k copies were started. -/
def started (g : S512x768.Idx → Elt F .f32) (k : ℕ) : sProp 𝕄 :=
  iprop(batch c i T M hT k 0 ∗ ((c : Thread nD τ).loc cc0_scratch0 ↦[fromRow k]{fullShare} (g : Buf (Elt F) ((c : Thread nD τ).loc cc0_scratch0)))
    ∗ ((c : Thread nD τ).loc main_arg1 ↦{eRest k} (M : Buf (Elt F) ((c : Thread nD τ).loc main_arg1))) ∗ unread c i T M hT k ∗ waits c)

/-- All copies done: the scratch filled, the embedding whole, the semaphore at zero. -/
def filled : sProp 𝕄 :=
  iprop(((c : Thread nD τ).loc cc0_scratch0 ↦{fullShare} (gathered i T M : Buf (Elt F) ((c : Thread nD τ).loc cc0_scratch0)))
    ∗ ((c : Thread nD τ).loc main_arg1 ↦{fullShare} (M : Buf (Elt F) ((c : Thread nD τ).loc main_arg1)))
    ∗ semVal ((c : Thread nD τ), SemLoc.dma gsem) 0 ∗ waits c)

/-- After all were started and k waited for. -/
def waited (k : ℕ) : sProp 𝕄 :=
  if k < 512 then
    iprop(batch c i T M hT 512 (rowN * k) ∗ ((c : Thread nD τ).loc main_arg1 ↦{eRest 512} (M : Buf (Elt F) ((c : Thread nD τ).loc main_arg1)))
      ∗ unread c i T M hT 512 ∗ waits c)
  else filled c i T M

end Cert.Kernel2Ideal.Gather
-- ==== Proof.Gather.Steps.lean ====
/-
  One statement of the row loop at a time: what the rest of the program needs before it, from what it needs after it.
-/
module

public import proofs.«01_k».proof.Proof.Gather.Rows

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UG ℕ

section

variable {α : Type} (c : Dev nD) (i : grid0.Coords) (T : S4096.Idx → BitVec 32) (M : S50257x768.Idx → Elt F .f32)
  (hT : ∀ k, (tok i T k).toNat < 50257) (qT : PosShare TreeShare) (g : S512x768.Idx → Elt F .f32)

/-- What is left of a program on core `c`, run to `Q`. -/
abbrev runs (p : Prog (TpuEff nD τ sig (Elt F) Λ₀ .tc) α) (Q : α → sProp 𝕄) : sProp 𝕄 :=
  wp frame (wpE (defs₀ (F := F)) Variants.none (c : Thread nD τ) none) Set.univ p Q

/-- The token table, held whole. -/
abbrev table : sProp 𝕄 := iprop((c : Thread nD τ).loc main_arg0 ↦{qT} (T : Buf (Elt F) ((c : Thread nD τ).loc main_arg0)))

theorem step_load {Q : α → sProp 𝕄} {P : sProp 𝕄} {k : ℕ} (hk : k < 512) {h} {hl} {K : (_ → Elt F .i32) → Prog (TpuEff nD τ sig (Elt F) Λ₀ .tc) α}
    (next : iprop(table c T qT ∗ P) ⊢ runs c (K fun _ => tok i T k) Q) :
    iprop(table c T qT ∗ P)
      ⊢ runs c (.op (.load tabM (Rect.unit (s := S4096) (tokOff i k) S1.size h).toLoadRect hl) K) Q := by
  have e : (tabM.access (Rect.unit (s := S4096) (tokOff i k) S1.size h)).read (Elt F) (T : tabM.view.ty.Contents (Elt F)) = fun _ => tok i T k :=
    funext fun x => read_tok i T k hk h x
  iintro ⟨Ht, HP⟩
  iapply (wp_load_rect Variants.none (c : Thread nD τ) none Set.univ (m := tabM) (r := Rect.unit (s := S4096) (tokOff i k) S1.size h) (Finset.subset_univ _)) $$ Ht
  iintro Ht
  rw [e]
  iapply next
  isplitl [Ht]; · iexact Ht
  iexact HP

theorem step_assume {Q : α → sProp 𝕄} {R : sProp 𝕄} {P : Prop} {d : Decidable P} {K : PLift P → Prog (TpuEff nD τ sig (Elt F) Λ₀ .tc) α} (h : P)
    (next : R ⊢ runs c (K ⟨h⟩) Q) : R ⊢ runs c (.op (.assume P d) K) Q :=
  next.trans (wp_assume Variants.none (c : Thread nD τ) none Set.univ h)

theorem step_start {Q : α → sProp 𝕄} {k k2 : ℕ} (hk : k2 = k) (hk2 : k2 < 512) {hs} {hd} {hsrc} {hdst} {hsem} {K : PUnit → Prog (TpuEff nD τ sig (Elt F) Λ₀ .tc) α}
    (next : iprop(table c T qT ∗ started c i T M hT g (k2 + 1)) ⊢ runs c (K ⟨⟩) Q) :
    iprop(table c T qT ∗ started c i T M hT g k)
      ⊢ runs c (.op (.enqueueDmaAs (srcRow (tok i T k2) hs) (.here (dstRow k2 hd)) ReadAs.same (.dma gsem) hsrc hdst hsem) K) Q := by
  subst hk
  have hD : iprop(((c : Thread nD τ).loc cc0_scratch0 ↦[(dstRow k2 hd).view.set]{fullShare}
        ((dstRow k2 hd).view.write (Elt F) (g : scrM.view.ty.Contents (Elt F))
          (ReadAs.same.apply ((srcRow (tok i T k2) hs).view.read (Elt F) (M : embM.view.ty.Contents (Elt F)))) Finset.univ : Buf (Elt F) ((c : Thread nD τ).loc cc0_scratch0)))
      ∗ ((c : Thread nD τ).loc main_arg1 ↦[srcSet i T hT k2]{eTok k2} (M : Buf (Elt F) ((c : Thread nD τ).loc main_arg1))))
      ⊢ handed (F := F) c i T M hT ⟨k2, hk2⟩ := by
    unfold handed
    exact sep_mono (Entails.of_eq (pointsTo_congr fun y hy => landed i T M k2 hk2 hd hs (hT k2) _ y hy)) .rfl
  have hU : iprop(((c : Thread nD τ).loc main_arg1 ↦[Finset.univ \ srcSet i T hT k2]{eTok k2} (M : Buf (Elt F) ((c : Thread nD τ).loc main_arg1)))
      ∗ unread c i T M hT k2) ⊢ (unread c i T M hT (k2 + 1) : sProp 𝕄) := by
    unfold unread
    rw [Finset.range_add_one, bigSep_insert Finset.notMem_range_self]
    exact .rfl
  unfold started at next ⊢
  iintro ⟨Ht, HB, Hscr, Hemb, Hun, Ho⟩
  ihave Hscr := (show _ ⊢ _ from (pointsTo_split_subset (dst_from k2 (dst_inb k2 hk2))).1) $$ Hscr
  icases Hscr with ⟨Hrow, Hscr⟩
  ihave Hemb := (show _ ⊢ _ from (pointsTo_share (PosShare.mem_left_op_right (eRest k2))).1) $$ Hemb
  icases Hemb with ⟨Hemb, Htok⟩
  ihave Htok := (show _ ⊢ _ from (pointsTo_split_subset (Finset.subset_univ (srcSet i T hT k2))).1) $$ Htok
  icases Htok with ⟨Hsrc, Hrem⟩
  iapply (Transfers.wp_dmaBatch countersEmb Variants.none (c : Thread nD τ) none (src := srcRow (tok i T k2) hs) (dst := dstRow k2 hd)
    (fs := M) (fd := g) () rowN rfl subset_rfl (D := handed c i T M hT) (j := k2) (u := 0) (q := eTok k2) hk2 (Nat.zero_le _) hD) $$ [Hrow Hsrc HB]
  · isplitl [Hsrc]; · iexact Hsrc
    isplitl [Hrow]; · iexact Hrow
    iexact HB
  iintro HB
  iapply next
  isplitl [Ht]; · iexact Ht
  isplitl [HB]; · iexact HB
  isplitl [Hscr]
  · rw [from_sdiff]; iexact Hscr
  isplitl [Hemb]; · iexact Hemb
  isplitl [Hun Hrem]
  · iapply hU
    isplitl [Hrem]; · iexact Hrem
    iexact Hun
  iexact Ho

/-- All of the copies' returns put together. -/
theorem collect :
    iprop(bigSep Finset.univ (handed c i T M hT) ∗ ((c : Thread nD τ).loc main_arg1 ↦{eRest 512} (M : Buf (Elt F) ((c : Thread nD τ).loc main_arg1)))
        ∗ unread c i T M hT 512)
      ⊢ (iprop(((c : Thread nD τ).loc cc0_scratch0 ↦{fullShare} (gathered i T M : Buf (Elt F) ((c : Thread nD τ).loc cc0_scratch0)))
        ∗ ((c : Thread nD τ).loc main_arg1 ↦{fullShare} (M : Buf (Elt F) ((c : Thread nD τ).loc main_arg1)))) : sProp 𝕄) := by
  have hr : unread c i T M hT 512 = bigSep Finset.univ fun j : Fin 512 =>
      (iprop((c : Thread nD τ).loc main_arg1 ↦[Finset.univ \ srcSet i T hT j.val]{eTok j.val} (M : Buf (Elt F) ((c : Thread nD τ).loc main_arg1))) : sProp 𝕄) := by
    unfold unread
    rw [← Nat.Iio_eq_range, ← Fin.map_valEmbedding_univ, BI.bigSep_map]; rfl
  have hh : bigSep Finset.univ (handed c i T M hT)
      = (iprop(bigSep Finset.univ (fun j : Fin 512 => iprop((c : Thread nD τ).loc cc0_scratch0 ↦[(dstRow j.val (dst_inb j.val j.isLt)).view.set]{fullShare} (gathered i T M : Buf (Elt F) ((c : Thread nD τ).loc cc0_scratch0))))
        ∗ bigSep Finset.univ (fun j : Fin 512 => iprop((c : Thread nD τ).loc main_arg1 ↦[srcSet i T hT j.val]{eTok j.val} (M : Buf (Elt F) ((c : Thread nD τ).loc main_arg1))))) : sProp 𝕄) := by
    unfold handed
    exact bigSep_sep _ _ _
  have hs : (bigSep Finset.univ (fun j : Fin 512 => iprop((c : Thread nD τ).loc cc0_scratch0 ↦[(dstRow j.val (dst_inb j.val j.isLt)).view.set]{fullShare} (gathered i T M : Buf (Elt F) ((c : Thread nD τ).loc cc0_scratch0)))) : sProp 𝕄)
      = iprop((c : Thread nD τ).loc cc0_scratch0 ↦{fullShare} (gathered i T M : Buf (Elt F) ((c : Thread nD τ).loc cc0_scratch0))) := by
    rw [← pointsTo_biUnion (ℓ := (c : Thread nD τ).loc cc0_scratch0) Finset.univ (fun j : Fin 512 => (dstRow j.val (dst_inb j.val j.isLt)).view.set)
      (fun t _ t' _ hne => Finset.disjoint_left.2 fun y hy hy' => hne (Fin.ext (((mem_dst t.val _ y).mp hy).symm.trans ((mem_dst t'.val _ y).mp hy'))))]
    rw [show Finset.univ.biUnion (fun j : Fin 512 => (dstRow j.val (dst_inb j.val j.isLt)).view.set) = Finset.univ from
      Finset.eq_univ_iff_forall.2 fun y => Finset.mem_biUnion.2 ⟨⟨(y (0 : Fin 2)).val, (y (0 : Fin 2)).isLt⟩, Finset.mem_univ _, (mem_dst _ _ y).mpr rfl⟩]
  have he : (iprop(bigSep Finset.univ (fun j : Fin 512 => iprop((c : Thread nD τ).loc main_arg1 ↦[srcSet i T hT j.val]{eTok j.val} (M : Buf (Elt F) ((c : Thread nD τ).loc main_arg1))))
        ∗ bigSep Finset.univ (fun j : Fin 512 => iprop((c : Thread nD τ).loc main_arg1 ↦[Finset.univ \ srcSet i T hT j.val]{eTok j.val} (M : Buf (Elt F) ((c : Thread nD τ).loc main_arg1))))) : sProp 𝕄)
      ⊢ bigSep Finset.univ (fun j : Fin 512 => iprop((c : Thread nD τ).loc main_arg1 ↦[Finset.univ]{Transfers.shareTok fullShare 512 j} (M : Buf (Elt F) ((c : Thread nD τ).loc main_arg1)))) := by
    refine BIBase.Entails.trans (Entails.of_eq (bigSep_sep _ _ _).symm) (bigSep_mono fun j _ => ?_)
    exact (pointsTo_split_subset (Finset.subset_univ (srcSet i T hT j.val))).2
  rw [hr, hh, hs]
  iintro ⟨⟨Hs, Hd⟩, Hr, Hu⟩
  isplitl [Hs]; · iexact Hs
  iapply (Transfers.pointsTo_toks_join fullShare 512)
  isplitl [Hr]; · iexact Hr
  iapply he
  isplitl [Hd]; · iexact Hd
  iexact Hu

theorem rowN_pos : 0 < rowN := by decide

theorem step_wait {Q : α → sProp 𝕄} {k : ℕ} (hk : k < 512) {hb} {K : PUnit → Prog (TpuEff nD τ sig (Elt F) Λ₀ .tc) α}
    (next : iprop(table c T qT ∗ waited c i T M hT (k + 1)) ⊢ runs c (K ⟨⟩) Q) :
    iprop(table c T qT ∗ waited c i T M hT k)
      ⊢ runs c (.op (.waitDma gsem cc0_scratch0 S768 .f32 hb) K) Q := by
  have hcol := collect (F := F) c i T M hT
  unfold waited at next ⊢
  rw [if_pos hk]
  by_cases h : k + 1 < 512
  · rw [if_pos h] at next
    iintro ⟨Ht, HB, Hemb, Hun, ⟨%W, Ho⟩⟩
    iapply (Transfers.wp_waitBatchSized countersEmb Variants.none (c : Thread nD τ) none () (N := rowN) rfl (D := handed c i T M hT) (u := rowN * k)
      (show rowN * k + rowN < rowN * 512 from (Nat.mul_succ rowN k).symm ▸ Nat.mul_lt_mul_of_pos_left h rowN_pos)) $$ [HB Ho]
    · isplitl [HB]; · iexact HB
      iexact Ho
    iintro ⟨HB, Ho⟩
    iapply next
    isplitl [Ht]; · iexact Ht
    isplitl [HB]; · iexact HB
    isplitl [Hemb]; · iexact Hemb
    isplitl [Hun]; · iexact Hun
    iexists _; iexact Ho
  · rw [if_neg h] at next
    have hk' : k = 511 := by omega
    subst hk'
    unfold filled at next
    iintro ⟨Ht, HB, Hemb, Hun, ⟨%W, Ho⟩⟩
    iapply (Transfers.wp_waitBatchLastSized countersEmb Variants.none (c : Thread nD τ) none () (N := rowN) rfl rowN_pos (D := handed c i T M hT) (u := rowN * 511)
      (show rowN * 511 + rowN = rowN * 512 from (Nat.mul_succ rowN 511).symm)) $$ [HB Ho]
    · isplitl [HB]; · iexact HB
      iexact Ho
    iintro ⟨HD, Hv, Ho⟩
    ihave H := hcol $$ [HD Hemb Hun]
    · isplitl [HD]; · iexact HD
      isplitl [Hemb]; · iexact Hemb
      iexact Hun
    icases H with ⟨Hs, He⟩
    iapply next
    isplitl [Ht]; · iexact Ht
    isplitl [Hs]; · iexact Hs
    isplitl [He]; · iexact He
    isplitl [Hv]; · iexact Hv
    iexists _; iexact Ho

/-- Every copy started, none waited for; the last share of the scratch holds no element. -/
theorem all_started {P : sProp 𝕄} (h : iprop(table c T qT ∗ waited c i T M hT 0) ⊢ P) :
    iprop(table c T qT ∗ started c i T M hT g 512) ⊢ P := by
  refine BIBase.Entails.trans ?_ h
  unfold started waited
  rw [if_pos (by decide)]
  iintro ⟨Ht, HB, -, He, Hu, Ho⟩
  isplitl [Ht]; · iexact Ht
  isplitl [HB]; · iexact HB
  isplitl [He]; · iexact He
  isplitl [Hu]; · iexact Hu
  iexact Ho

/-- A wait's own load, which names the row. -/
theorem step_again {Q : α → sProp 𝕄} {k k2 : ℕ} (hk : k2 = k) (hk2 : k2 < 512) {h} {hl} {K : (_ → Elt F .i32) → Prog (TpuEff nD τ sig (Elt F) Λ₀ .tc) α}
    (next : iprop(table c T qT ∗ waited c i T M hT k2) ⊢ runs c (K fun _ => tok i T k2) Q) :
    iprop(table c T qT ∗ waited c i T M hT k)
      ⊢ runs c (.op (.load tabM (Rect.unit (s := S4096) (tokOff i k2) S1.size h).toLoadRect hl) K) Q := by
  subst hk
  exact step_load c i T qT hk2 next

end

end Cert.Kernel2Ideal.Gather
-- ==== Proof.Gather.Loops.lean ====
/-
  The row loops of one grid point: 512 rows started, then 512 waits, in the four pieces the program is cut into.
-/
module

public import proofs.«01_k».proof.Proof.Gather.Steps
public import proofs.«01_k».proof.Proof.Gen.Kernel2Ideal.Skeleton

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UG ℕ

section

variable {α : Type} (c : Dev nD) (i : grid0.Coords) (T : S4096.Idx → BitVec 32) (M : S50257x768.Idx → Elt F .f32)
  (hT : ∀ k, (tok i T k).toNat < 50257) (qT : PosShare TreeShare) (g : S512x768.Idx → Elt F .f32)
  (arg3 : Memref sig .tc .vmem S1x768 .f32) (harg3 : arg3.IsWhole) (arg4 : Memref sig .tc .vmem S1x768 .f32) (harg4 : arg4.IsWhole)
  (arg5 : Memref sig .tc .vmem S512x768 .f32) (harg5 : arg5.IsWhole) (arg6 : Memref sig .tc .vmem S512x768 .bf16) (harg6 : arg6.IsWhole)

/-- The first row of the grid point. -/
abbrev base : BitVec 32 := Scalar.muli (BitVec.ofNat 32 (i 0).val) 512#32

set_option maxHeartbeats 0 in
theorem rows1 {Q : α → sProp 𝕄} (K : _ → Prog (TpuEff nD τ sig (Elt F) Λ₀ .tc) α)
    (next : iprop(table c T qT ∗ started c i T M hT g 276) ⊢ runs c (K ⟨base i, tok i T 276, src_inb _ (hT 276)⟩) Q) :
    iprop(table c T qT ∗ started c i T M hT g 0)
      ⊢ runs c (Prog.bind (k0_part223 (F := F) i tabM (Memref.isWhole_whole _) embM (Memref.isWhole_whole _) arg3 harg3 arg4 harg4 arg5 harg5 arg6 harg6 scrM (Memref.isWhole_whole _) cc0_scratch1) K) Q := by
  iterate 276
    refine step_load c i T qT (by decide) ?_
    refine step_assume c (src_inb _ (hT _)) ?_
    refine step_start c i T M hT qT g (by rfl) (by decide) ?_
  refine step_load c i T qT (by decide) ?_
  refine step_assume c (src_inb _ (hT _)) ?_
  exact next

set_option maxHeartbeats 0 in
theorem rows2 {Q : α → sProp 𝕄} (K : _ → Prog (TpuEff nD τ sig (Elt F) Λ₀ .tc) α)
    (next : iprop(table c T qT ∗ waited c i T M hT 41) ⊢ runs c (K ⟨tok i T 41, src_inb _ (hT 41)⟩) Q) :
    iprop(table c T qT ∗ started c i T M hT g 276)
      ⊢ runs c (Prog.bind (k0_part224 (F := F) i tabM (Memref.isWhole_whole _) embM (Memref.isWhole_whole _) arg3 harg3 arg4 harg4 arg5 harg5 arg6 harg6 scrM (Memref.isWhole_whole _) cc0_scratch1 (base i) (tok i T 276) (src_inb _ (hT 276))) K) Q := by
  refine step_start c i T M hT qT g (by rfl) (by decide) ?_
  iterate 235
    refine step_load c i T qT (by decide) ?_
    refine step_assume c (src_inb _ (hT _)) ?_
    refine step_start c i T M hT qT g (by rfl) (by decide) ?_
  refine all_started c i T M hT qT g ?_
  iterate 41
    refine step_again c i T M hT qT (by rfl) (by decide) ?_
    refine step_assume c (src_inb _ (hT _)) ?_
    refine step_wait c i T M hT qT (by decide) ?_
  refine step_again c i T M hT qT (by rfl) (by decide) ?_
  refine step_assume c (src_inb _ (hT _)) ?_
  exact next

set_option maxHeartbeats 0 in
theorem rows3 {Q : α → sProp 𝕄} (K : _ → Prog (TpuEff nD τ sig (Elt F) Λ₀ .tc) α)
    (next : iprop(table c T qT ∗ waited c i T M hT 318) ⊢ runs c (K ⟨tok i T 318, src_inb _ (hT 318)⟩) Q) :
    iprop(table c T qT ∗ waited c i T M hT 41)
      ⊢ runs c (Prog.bind (k0_part225 (F := F) i tabM (Memref.isWhole_whole _) embM (Memref.isWhole_whole _) arg3 harg3 arg4 harg4 arg5 harg5 arg6 harg6 scrM (Memref.isWhole_whole _) cc0_scratch1 (base i) (tok i T 41) (src_inb _ (hT 41))) K) Q := by
  refine step_wait c i T M hT qT (by decide) ?_
  iterate 276
    refine step_again c i T M hT qT (by rfl) (by decide) ?_
    refine step_assume c (src_inb _ (hT _)) ?_
    refine step_wait c i T M hT qT (by decide) ?_
  refine step_again c i T M hT qT (by rfl) (by decide) ?_
  refine step_assume c (src_inb _ (hT _)) ?_
  exact next

/-- The scratch read back whole. -/
theorem step_read {Q : α → sProp 𝕄} {h} {hl} {K : (S512x768.Idx → Elt F .f32) → Prog (TpuEff nD τ sig (Elt F) Λ₀ .tc) α}
    (next : iprop(table c T qT ∗ filled c i T M) ⊢ runs c (K (gathered i T M)) Q) :
    iprop(table c T qT ∗ waited c i T M hT 512)
      ⊢ runs c (.op (.load scrM (Rect.unit (s := S512x768) ![0, 0] S512x768.size h).toLoadRect hl) K) Q := by
  have e : (scrM.access (Rect.unit (s := S512x768) ![0, 0] S512x768.size h)).read (Elt F) (gathered i T M : scrM.view.ty.Contents (Elt F)) = gathered i T M := by
    funext x
    show gathered i T M _ = gathered i T M x
    congr 1
    funext a; apply Fin.ext
    match a with
    | ⟨0, _⟩ => show 0 + 1 * (x 0).val = (x 0).val; omega
    | ⟨1, _⟩ => show 0 + 1 * (x 1).val = (x 1).val; omega
  unfold waited
  rw [if_neg (by decide)]
  unfold filled at next ⊢
  iintro ⟨Ht, Hs, He, Hv, Ho⟩
  iapply (wp_load_rect Variants.none (c : Thread nD τ) none Set.univ (m := scrM) (r := Rect.unit (s := S512x768) ![0, 0] S512x768.size h) (Finset.subset_univ _)) $$ Hs
  iintro Hs
  rw [e]
  iapply next
  isplitl [Ht]; · iexact Ht
  isplitl [Hs]; · iexact Hs
  isplitl [He]; · iexact He
  isplitl [Hv]; · iexact Hv
  iexact Ho

set_option maxHeartbeats 0 in
theorem rows4 {Q : α → sProp 𝕄} (K : _ → Prog (TpuEff nD τ sig (Elt F) Λ₀ .tc) α)
    (next : iprop(table c T qT ∗ filled c i T M)
      ⊢ runs c (K ⟨k0_pay4 (gathered i T M) (k0_pay3 (gathered i T M)), k0_pay5 (gathered i T M) (k0_pay3 (gathered i T M))⟩) Q) :
    iprop(table c T qT ∗ waited c i T M hT 318)
      ⊢ runs c (Prog.bind (k0_part226 (F := F) i tabM (Memref.isWhole_whole _) embM (Memref.isWhole_whole _) arg3 harg3 arg4 harg4 arg5 harg5 arg6 harg6 scrM (Memref.isWhole_whole _) cc0_scratch1 (base i) (tok i T 318) (src_inb _ (hT 318))) K) Q := by
  refine step_wait c i T M hT qT (by decide) ?_
  iterate 193
    refine step_again c i T M hT qT (by rfl) (by decide) ?_
    refine step_assume c (src_inb _ (hT _)) ?_
    refine step_wait c i T M hT qT (by decide) ?_
  refine step_read c i T M hT qT ?_
  exact next

end

end Cert.Kernel2Ideal.Gather
-- ==== Proof.Gather.Body.lean ====
/-
  One grid point whole: the rows gathered, normalised, and stored at both precisions.
-/
module

public import proofs.«01_k».proof.Proof.Gather.Loops
public import Idealize.ShloMosaic.Lib.Pipeline.FrameBody
public import Idealize.ShloMosaic.Lib.WritesUnit

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UG ℕ

/-- A load of a whole buffer known to hold `x`. -/
theorem readAt_all {sp : Space} {s : Shape} {e : EltTy} {A : Memref sig .tc sp s e} (h : A.IsWhole) {off : Fin s.rank → ℕ}
    (h0 : off = fun _ => 0) (inb : ∀ a, off a + s.size a ≤ s.size a) (x : s.Idx → Elt F e) :
    View.readAt (Elt F) A.view (Rect.unit off s.size inb).toLoadRect (h.unread x) = x := by
  subst h0
  funext y
  rw [View.readAt_apply, h.read_unread]
  exact congrArg x (funext fun a => Fin.ext (by show 0 + 1 * (y a).val = (y a).val; omega))

/-- A buffer stored whole. -/
theorem read_stored {sp : Space} {s : Shape} {e : EltTy} (v : View sig .tc sp s e) {off : Fin s.rank → ℕ}
    (h0 : off = fun _ => 0) (inb : ∀ a, off a + s.size a ≤ s.size a) (f : v.ty.Contents (Elt F))
    (w : (Rect.unit off s.size inb).shape.Idx → Elt F e) (L : List (View.Piece (Elt F) s e)) :
    v.read (Elt F) (v.writes (Elt F) f (⟨Rect.unit off s.size inb, w⟩ :: L)) = w := by
  funext y
  exact View.read_writes_cons_unit_of_mem v _ inb w L y y h0 fun a => (Nat.zero_add _).symm

/-- The centred rows, and the reciprocal of their deviation. -/
abbrev centred (G : S512x768.Idx → Elt F .f32) : FVec F S512x768 .f32 := k0_pay4 G (k0_pay3 G)
abbrev recip (G : S512x768.Idx → Elt F .f32) : FVec F S512x768 .f32 := k0_pay5 G (k0_pay3 G)
/-- The normalised rows, at both precisions. -/
abbrev normed (G : S512x768.Idx → Elt F .f32) (x0 x1 : S1x768.Idx → Elt F .f32) : Vec F S512x768 .f32 := k0_pay1 (centred G) (recip G) x0 x1
abbrev normedB (G : S512x768.Idx → Elt F .f32) (x0 x1 : S1x768.Idx → Elt F .f32) : Vec F S512x768 .bf16 := k0_pay2 (centred G) (recip G) x0 x1

section

variable (c : Dev nD) (i : grid0.Coords) (T : S4096.Idx → BitVec 32) (M : S50257x768.Idx → Elt F .f32)
  (hT : ∀ k, (tok i T k).toNat < 50257) (qT : PosShare TreeShare) (g : S512x768.Idx → Elt F .f32)
  (arg3 : Memref sig .tc .vmem S1x768 .f32) (harg3 : arg3.IsWhole) (arg4 : Memref sig .tc .vmem S1x768 .f32) (harg4 : arg4.IsWhole)
  (arg5 : Memref sig .tc .vmem S512x768 .f32) (harg5 : arg5.IsWhole) (arg6 : Memref sig .tc .vmem S512x768 .bf16) (harg6 : arg6.IsWhole)

/-- The rest of a part: nothing. -/
theorem part_alone {α : Type} {P : sProp 𝕄} {p : Prog (TpuEff nD τ sig (Elt F) Λ₀ .tc) α} {Q : α → sProp 𝕄}
    (h : P ⊢ runs c (Prog.bind p .ret) Q) : P ⊢ runs c p Q := by
  have e : Prog.bind p .ret = p := Prog.bind_pure p
  rwa [e] at h

theorem ret_here {α : Type} {P : sProp 𝕄} {a : α} {Q : α → sProp 𝕄} (h : P ⊢ Q a) : P ⊢ runs c (.ret a) Q := by
  refine h.trans ?_
  show _ ⊢ wp frame (wpE (defs₀ (F := F)) Variants.none (c : Thread nD τ) none) Set.univ (.ret a) Q
  rw [wp_ret]
  exact fupd_intro

/-- What the row loops leave, with the payloads they hand on. -/
theorem rowsAll {Q : PUnit → sProp 𝕄} (K : (Σ' (_ : FVec F S512x768 .f32), FVec F S512x768 .f32) → Prog (TpuEff nD τ sig (Elt F) Λ₀ .tc) PUnit) {P : sProp 𝕄}
    (next : iprop((table c T qT ∗ filled c i T M) ∗ P) ⊢ runs c (K ⟨centred (gathered i T M), recip (gathered i T M)⟩) Q) :
    iprop((table c T qT ∗ started c i T M hT g 0) ∗ P)
      ⊢ runs c (Prog.bind (k0_part223 (F := F) i tabM (Memref.isWhole_whole _) embM (Memref.isWhole_whole _) arg3 harg3 arg4 harg4 arg5 harg5 arg6 harg6 scrM (Memref.isWhole_whole _) cc0_scratch1) fun r1 =>
          Prog.bind (k0_part224 (F := F) i tabM (Memref.isWhole_whole _) embM (Memref.isWhole_whole _) arg3 harg3 arg4 harg4 arg5 harg5 arg6 harg6 scrM (Memref.isWhole_whole _) cc0_scratch1 r1.1 r1.2.1 r1.2.2) fun r2 =>
          Prog.bind (k0_part225 (F := F) i tabM (Memref.isWhole_whole _) embM (Memref.isWhole_whole _) arg3 harg3 arg4 harg4 arg5 harg5 arg6 harg6 scrM (Memref.isWhole_whole _) cc0_scratch1 r1.1 r2.1 r2.2) fun r3 =>
          Prog.bind (k0_part226 (F := F) i tabM (Memref.isWhole_whole _) embM (Memref.isWhole_whole _) arg3 harg3 arg4 harg4 arg5 harg5 arg6 harg6 scrM (Memref.isWhole_whole _) cc0_scratch1 r1.1 r3.1 r3.2) K) Q := by
  have step {α : Type} {p : Prog (TpuEff nD τ sig (Elt F) Λ₀ .tc) α} {k : α → Prog (TpuEff nD τ sig (Elt F) Λ₀ .tc) PUnit} {A B : sProp 𝕄} {a : α}
      (h1 : A ⊢ runs c (Prog.bind p .ret) fun r => iprop(⌜r = a⌝ ∗ B)) (h2 : iprop(B ∗ P) ⊢ runs c (k a) Q) : iprop(A ∗ P) ⊢ runs c (Prog.bind p k) Q := by
    have e := wp_bind frame (wpE (defs₀ (F := F)) Variants.none (c : Thread nD τ) none) Set.univ p k Q
    refine BIBase.Entails.trans ?_ (Entails.of_eq e.symm)
    refine (sep_mono_left (part_alone c h1)).trans ?_
    refine (wp_frame_r frame _ _).trans (wp_mono frame _ _ fun r => ?_)
    iintro ⟨⟨%hr, HB⟩, HP⟩
    subst hr
    iapply h2
    isplitl [HB]; · iexact HB
    iexact HP
  have ret {α : Type} {a : α} {A : sProp 𝕄} : A ⊢ runs c (.ret a) fun r => iprop(⌜r = a⌝ ∗ A) := by
    refine ret_here c ?_
    iintro HA
    isplitr; · ipureintro; rfl
    iexact HA
  refine step (rows1 c i T M hT qT g arg3 harg3 arg4 harg4 arg5 harg5 arg6 harg6 _ ret) ?_
  dsimp only
  refine step (rows2 c i T M hT qT g arg3 harg3 arg4 harg4 arg5 harg5 arg6 harg6 _ ret) ?_
  dsimp only
  refine step (rows3 c i T M hT qT arg3 harg3 arg4 harg4 arg5 harg5 arg6 harg6 _ ret) ?_
  dsimp only
  refine step (rows4 c i T M hT qT arg3 harg3 arg4 harg4 arg5 harg5 arg6 harg6 _ ret) ?_
  exact next

/-- The last statements: normalise and store. -/
def lastly (r : Σ' (_ : FVec F S512x768 .f32), FVec F S512x768 .f32) : Prog (TpuEff nD τ sig (Elt F) Λ₀ .tc) PUnit := do
  let v7186 : Vec F S1x768 .f32 ← Prog.lift (.load arg3 (Rect.unit (s := S1x768) ![0, 0] S1x768.size inb_S1x768_S1x768_0_0).toLoadRect (View.loadsAt_vmem h_S1x768))
  let v7189 : Vec F S1x768 .f32 ← Prog.lift (.load arg4 (Rect.unit (s := S1x768) ![0, 0] S1x768.size inb_S1x768_S1x768_0_0).toLoadRect (View.loadsAt_vmem h_S1x768))
  let v7192 : Vec F S512x768 .f32 ← Prog.lift (.load arg5 (Rect.unit (s := S512x768) ![0, 0] S512x768.size inb_S512x768_S512x768_0_0).toLoadRect (View.loadsAt_vmem h_S512x768))
  Prog.lift (.store arg5 (Rect.unit (s := S512x768) ![0, 0] S512x768.size inb_S512x768_S512x768_0_0) (k0_pay1 r.1 r.2 v7186 v7189) Finset.univ (View.stores_vmem_bits_univ h_S512x768 rfl) (.inl rfl))
  let v7194 : Vec F S512x768 .bf16 ← Prog.lift (.load arg6 (Rect.unit (s := S512x768) ![0, 0] S512x768.size inb_S512x768_S512x768_0_0).toLoadRect (View.loadsAt_vmem h_S512x768))
  Prog.lift (.store arg6 (Rect.unit (s := S512x768) ![0, 0] S512x768.size inb_S512x768_S512x768_0_0) (k0_pay2 r.1 r.2 v7186 v7189) Finset.univ (View.stores_vmem h_S512x768 (harg6.storeExact_slice rfl _ packedbf16_S512x768_S512x768_0_0) (fun _ => rfl)) (.inl rfl))
  pure ⟨⟩

set_option maxRecDepth 65536 in
theorem body_cut :
    cc0_gather_ln (F := F) i tabM (Memref.isWhole_whole _) embM (Memref.isWhole_whole _) arg3 harg3 arg4 harg4 arg5 harg5 arg6 harg6 scrM (Memref.isWhole_whole _) cc0_scratch1
      = Prog.bind (k0_part223 (F := F) i tabM (Memref.isWhole_whole _) embM (Memref.isWhole_whole _) arg3 harg3 arg4 harg4 arg5 harg5 arg6 harg6 scrM (Memref.isWhole_whole _) cc0_scratch1) fun r1 =>
          Prog.bind (k0_part224 (F := F) i tabM (Memref.isWhole_whole _) embM (Memref.isWhole_whole _) arg3 harg3 arg4 harg4 arg5 harg5 arg6 harg6 scrM (Memref.isWhole_whole _) cc0_scratch1 r1.1 r1.2.1 r1.2.2) fun r2 =>
          Prog.bind (k0_part225 (F := F) i tabM (Memref.isWhole_whole _) embM (Memref.isWhole_whole _) arg3 harg3 arg4 harg4 arg5 harg5 arg6 harg6 scrM (Memref.isWhole_whole _) cc0_scratch1 r1.1 r2.1 r2.2) fun r3 =>
          Prog.bind (k0_part226 (F := F) i tabM (Memref.isWhole_whole _) embM (Memref.isWhole_whole _) arg3 harg3 arg4 harg4 arg5 harg5 arg6 harg6 scrM (Memref.isWhole_whole _) cc0_scratch1 r1.1 r3.1 r3.2) (lastly arg3 arg4 arg5 arg6 harg6) := by
  rw [cc0_gather_ln_eq_skeleton]
  unfold cc0_gather_ln_skel
  refine congrArg (Prog.bind _) (funext fun ⟨_, _, _⟩ => ?_)
  refine congrArg (Prog.bind _) (funext fun ⟨_, _⟩ => ?_)
  refine congrArg (Prog.bind _) (funext fun ⟨_, _⟩ => ?_)
  refine congrArg (Prog.bind _) (funext fun ⟨_, _⟩ => ?_)
  rfl

include harg3 harg4 in
/-- The last statements' triple. -/
theorem lastlyRun (G : S512x768.Idx → Elt F .f32) (x0 x1 : S1x768.Idx → Elt F .f32) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (normed G x0 x1) ∗ owns (c : Thread nD τ) arg6 fullShare (normedB G x0 x1)) -∗ K PUnit.unit))
      ⊢ runs c (lastly arg3 arg4 arg5 arg6 harg6 ⟨centred G, recip G⟩) K := by
  unfold runs lastly owns
  iintro ⟨⟨%f0, %hf0, H0⟩, ⟨%f1, %hf1, H1⟩, ⟨%d2, %f2, -, H2⟩, ⟨%d3, %f3, -, H3⟩, Hk⟩
  obtain rfl := harg3.eq_unread hf0; obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    refine (read_stored _ (by decide) _ _ _ _).trans ?_
    rw [readAt_all harg3 (by decide), readAt_all harg4 (by decide)]
  iexists _; isplitr; swap; · iexact H3
  ipureintro
  refine (read_stored _ (by decide) _ _ _ _).trans ?_
  rw [readAt_all harg3 (by decide), readAt_all harg4 (by decide)]

include hT in
/-- The body's triple. -/
theorem gatherRun (x0 x1 : S1x768.Idx → Elt F .f32) (K : PUnit → sProp 𝕄) :
    iprop(table c T qT ∗ (∃ f : Buf (Elt F) ((c : Thread nD τ).loc cc0_scratch0), ((c : Thread nD τ).loc cc0_scratch0) ↦{fullShare} f)
        ∗ ((c : Thread nD τ).loc main_arg1 ↦{fullShare} (M : Buf (Elt F) ((c : Thread nD τ).loc main_arg1)))
        ∗ semVal ((c : Thread nD τ), SemLoc.dma gsem) 0 ∗ waits c
        ∗ owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(table c T qT ∗ (∃ f : Buf (Elt F) ((c : Thread nD τ).loc cc0_scratch0), ((c : Thread nD τ).loc cc0_scratch0) ↦{fullShare} f)
            ∗ ((c : Thread nD τ).loc main_arg1 ↦{fullShare} (M : Buf (Elt F) ((c : Thread nD τ).loc main_arg1)))
            ∗ semVal ((c : Thread nD τ), SemLoc.dma gsem) 0 ∗ waits c
            ∗ owns (c : Thread nD τ) arg3 fullShare x0 ∗ owns (c : Thread nD τ) arg4 fullShare x1 ∗ owns (c : Thread nD τ) arg5 fullShare (normed (gathered i T M) x0 x1) ∗ owns (c : Thread nD τ) arg6 fullShare (normedB (gathered i T M) x0 x1)) -∗ K PUnit.unit))
      ⊢ runs c (cc0_gather_ln (F := F) i tabM (Memref.isWhole_whole _) embM (Memref.isWhole_whole _) arg3 harg3 arg4 harg4 arg5 harg5 arg6 harg6 scrM (Memref.isWhole_whole _) cc0_scratch1) K := by
  rw [body_cut]
  iintro ⟨Ht, ⟨%f, Hs⟩, He, Hv, Ho, H0, H1, H2, H3, Hk⟩
  iapply (fupd_wp frame (wpE (defs₀ (F := F)) Variants.none (c : Thread nD τ) none) Set.univ _ _)
  imod (Transfers.batch_alloc' (Lvl := ℕ) countersEmb (c : Thread nD τ) () rowN (handed c i T M hT) (sm := SemLoc.dma gsem) (E := Set.univ)) $$ Hv with HB
  imodintro
  iapply (rowsAll c i T M hT qT f arg3 harg3 arg4 harg4 arg5 harg5 arg6 harg6 (lastly arg3 arg4 arg5 arg6 harg6) (P := iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ _)) ?_)
  rotate_left
  · isplitl [Ht HB Hs He Ho]
    · isplitl [Ht]; · iexact Ht
      unfold started
      rw [from_zero]
      isplitl [HB]; · iexact HB
      isplitl [Hs]; · iexact Hs
      isplitl [He]; · iexact He
      isplitr [Ho]
      · unfold unread; rw [Finset.range_zero, bigSep_empty]; iempintro
      iexact Ho
    isplitl [H0]; · iexact H0
    isplitl [H1]; · iexact H1
    isplitl [H2]; · iexact H2
    isplitl [H3]; · iexact H3
    iexact Hk
  · unfold filled
    iintro ⟨⟨Ht, Hs, He, Hv, Ho⟩, H0, H1, H2, H3, Hk⟩
    iapply (lastlyRun c arg3 harg3 arg4 harg4 arg5 arg6 harg6 (gathered i T M) x0 x1 K)
    isplitl [H0]; · iexact H0
    isplitl [H1]; · iexact H1
    isplitl [H2]; · iexact H2
    isplitl [H3]; · iexact H3
    iintro ⟨H0, H1, H2, H3⟩
    iapply Hk
    isplitl [Ht]; · iexact Ht
    isplitl [Hs]; · iexists _; iexact Hs
    isplitl [He]; · iexact He
    isplitl [Hv]; · iexact Hv
    isplitl [Ho]; · iexact Ho
    isplitl [H0]; · iexact H0
    isplitl [H1]; · iexact H1
    isplitl [H2]; · iexact H2
    iexact H3

end

end Cert.Kernel2Ideal.Gather
-- ==== Proof.Gather.Region.lean ====
/-
  The call's pipeline: the scale and the shift staged once, a block of 512 rows written at both precisions per point,
  and what it leaves in the two result arrays.
-/
module

public import proofs.«01_k».proof.Proof.Gather.Body
public import proofs.«01_k».proof.Proof.Gen.Kernel2Ideal.Launch
public import Idealize.ShloMosaic.Lib.Pipeline.Frame
public import Idealize.ShloMosaic.Lib.Pipeline.ValueKit.Geometry

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose arrRef)

variable {F : FTy → Type} [FloatOps F]

local notation "𝕄" => MT nD τ sig Unit (Elt F) ℕ UG ℕ

/-! ## The launch contents -/

variable (m : (ℓ : Loc nD τ sig) → Buf (Elt F) ℓ)

/-- The buffers as launched. -/
abbrev V0 (c : Dev nD) (b : Ref sig .tc) : Buf (Elt F) ((c : Thread nD τ).loc b) := m ((c : Thread nD τ).loc b)

/-- The tokens, the embedding, the scale and the shift. -/
abbrev toks (c : Dev nD) : S4096.Idx → BitVec 32 := V0 m c main_arg0
abbrev embs (c : Dev nD) : S50257x768.Idx → Elt F .f32 := V0 m c main_arg1
abbrev scale (c : Dev nD) : S1x768.Idx → Elt F .f32 := V0 m c main_arg2
abbrev shift (c : Dev nD) : S1x768.Idx → Elt F .f32 := V0 m c main_arg3

/-- The token table the pipeline is run at. -/
def tbl : pre0.Contents (Elt F) := fun k => V0 m (0 : Dev nD) (pre0.ref k)
theorem tbl_eq (c : Dev nD) (k : Fin 1) : V0 m c (pre0.ref k) = tbl m k := by
  obtain rfl : c = 0 := Subsingleton.elim _ _; rfl
abbrev adm : (pcfg0 (F := F)).Adm := ⟨tbl m, trivial⟩
abbrev cfgM : Cfg sig Λ₀ := cfg0 (adm m)

/-! ## What a point holds besides its staging buffers -/

/-- The kernel's own semaphore, and the array it reads itself. -/
abbrev osem : Fin 1 → SemLoc sig := fun _ => SemLoc.dma gsem
theorem osemFacts : Pipeline.OwnSemFacts spec0 osem := by decide
def HE : Finset (Ref sig .tc) := {main_arg1}
theorem HE_sub : HE ⊆ Pipeline.restRefsP sig pre0 spec0 := by decide

theorem osem_eq (c : Dev nD) :
    (Pipeline.ownSems0 (Ix := Unit) (Name := ℕ) (U := UG) (Lvl := ℕ) (Val := Elt F) (τ := τ) osem c : sProp 𝕄)
      = semVal ((c : Thread nD τ), SemLoc.dma gsem) 0 := by
  rw [Pipeline.ownSems0_eq_of_list c osem [(0 : Fin 1)] (by decide) (by decide)]; rfl

theorem phi_eq (c : Dev nD) :
    (Pipeline.ΦD osem spec0 HE (V0 m) c : sProp 𝕄)
      = iprop((∃ f : Buf (Elt F) ((c : Thread nD τ).loc cc0_scratch0), ((c : Thread nD τ).loc cc0_scratch0) ↦{fullShare} f) ∗ (∃ r, prngReg c r)
          ∗ semVal ((c : Thread nD τ), SemLoc.dma gsem) 0 ∗ ((c : Thread nD τ).loc main_arg1 ↦{fullShare} (embs m c : Buf (Elt F) ((c : Thread nD τ).loc main_arg1)))) := by
  rw [Pipeline.ΦD_eq, scopedRest0_eq, osem_eq, BI.bigSep_eq_bigSepL_of_eq [main_arg1] (by decide) (by decide)]; rfl

theorem phiT_eq (c : Dev nD) :
    (Pipeline.ΦT pre0 (tbl m) c : sProp 𝕄) = table c (toks m c) fullShare.right := by
  obtain rfl : c = 0 := Subsingleton.elim _ _
  unfold Pipeline.ΦT Pipeline.prefHeld
  rw [show (Finset.univ : Finset (Fin 1)) = {(0 : Fin 1)} from by decide, bigSep_singleton]
  rfl

/-- The block of rows point `t` gathers, normalised. -/
abbrev blk32 (c : Dev nD) (t : Fin grid0.N) : Vec F S512x768 .f32 :=
  normed (gathered (grid0.coords t) (toks m c) (embs m c)) (scale m c) (shift m c)
abbrev blk16 (c : Dev nD) (t : Fin grid0.N) : Vec F S512x768 .bf16 :=
  normedB (gathered (grid0.coords t) (toks m c) (embs m c)) (scale m c) (shift m c)

/-- The proof data of the pipeline. -/
def dat (c : Dev nD) : Dat τ (Elt F) Unit ℕ UG ℕ (cfgM m) c where
  A w := V0 m c (arrRef spec0 w)
  after w t := match w with
    | ⟨0, _⟩ => scale m c
    | ⟨1, _⟩ => shift m c
    | ⟨2, _⟩ => blk32 m c t
    | ⟨3, _⟩ => blk16 m c t
  Φ _ := iprop(Pipeline.ΦD osem spec0 HE (V0 m) c ∗ Pipeline.ΦT pre0 (tbl m) c)
  q _ := fullShare
  owed _ := 0

theorem after_0 (c : Dev nD) (t : Fin (cfgM m).N) : (dat m c).after 0 t = scale m c := rfl
theorem after_1 (c : Dev nD) (t : Fin (cfgM m).N) : (dat m c).after 1 t = shift m c := rfl
theorem after_2 (c : Dev nD) (t : Fin (cfgM m).N) : (dat m c).after 2 t = blk32 m c t := rfl
theorem after_3 (c : Dev nD) (t : Fin (cfgM m).N) : (dat m c).after 3 t = blk16 m c t := rfl

theorem ix_2 : ∀ t : Fin grid0.N, cc0_transform_3 (grid0.coords t) 0 = (grid0.coords t 0).val := by decide +kernel
theorem ix_3 : ∀ t : Fin grid0.N, cc0_transform_4 (grid0.coords t) 0 = (grid0.coords t 0).val := by decide +kernel

theorem blockOf_0 (c : Dev nD) (t : Fin (cfgM m).N) : (dat m c).blockOf 0 t = scale m c := by
  refine funext fun (y : S1x768.Idx) => ?_
  show scale m c _ = scale m c y
  congr 1; funext a; apply Fin.ext
  match a with
  | ⟨0, _⟩ => show 0 * 1 + 1 * (y 0).val = (y 0).val; omega
  | ⟨1, _⟩ => show 0 * 768 + 1 * (y 1).val = (y 1).val; omega
theorem blockOf_1 (c : Dev nD) (t : Fin (cfgM m).N) : (dat m c).blockOf 1 t = shift m c := by
  refine funext fun (y : S1x768.Idx) => ?_
  show shift m c _ = shift m c y
  congr 1; funext a; apply Fin.ext
  match a with
  | ⟨0, _⟩ => show 0 * 1 + 1 * (y 0).val = (y 0).val; omega
  | ⟨1, _⟩ => show 0 * 768 + 1 * (y 1).val = (y 1).val; omega

theorem before_0 (c : Dev nD) (t : Fin (cfgM m).N) (d) : (dat m c).before 0 t d = scale m c :=
  ((dat m c).before_in_eq_fetched 0 rfl (fun _ => rfl) (fun _ _ _ => rfl) (fun t => (blockOf_0 m c t).symm) t d).trans (blockOf_0 m c t)
theorem before_1 (c : Dev nD) (t : Fin (cfgM m).N) (d) : (dat m c).before 1 t d = shift m c :=
  ((dat m c).before_in_eq_fetched 1 rfl (fun _ => rfl) (fun _ _ _ => rfl) (fun t => (blockOf_1 m c t).symm) t d).trans (blockOf_1 m c t)

/-- The current staging buffer of each window at point `t`. -/
abbrev st_0 (t : Fin (cfgM m).N) := ((cfgM m).win 0).stage ((cfgM m).slots t 0)
abbrev st_1 (t : Fin (cfgM m).N) := ((cfgM m).win 1).stage ((cfgM m).slots t 1)
abbrev st_2 (t : Fin (cfgM m).N) := ((cfgM m).win 2).stage ((cfgM m).slots t 2)
abbrev st_3 (t : Fin (cfgM m).N) := ((cfgM m).win 3).stage ((cfgM m).slots t 3)

/-- The body at point `t`. -/
abbrev bodyAt (t : Fin (cfgM m).N) : Prog (TpuEff nD τ sig (Elt F) Λ₀ .tc) PUnit :=
  cc0_gather_ln (F := F) (grid0.coords t) tabM (Memref.isWhole_whole _) embM (Memref.isWhole_whole _)
    (spec0_0.stage ((cfgM m).slots t 0)) (hstage0_0 (((cfgM m).slots t 0).cast nbuf0_0)) (spec0_1.stage ((cfgM m).slots t 1)) (hstage0_1 (((cfgM m).slots t 1).cast nbuf0_1))
    (spec0_2.stage ((cfgM m).slots t 2)) (hstage0_2 (((cfgM m).slots t 2).cast nbuf0_2)) (spec0_3.stage ((cfgM m).slots t 3)) (hstage0_3 (((cfgM m).slots t 3).cast nbuf0_3))
    scrM (Memref.isWhole_whole _) cc0_scratch1

def bodyPre (c : Dev nD) (t : Fin (cfgM m).N) : sProp 𝕄 :=
  iprop((dat m c).Φ t.castSucc ∗ (dat m c).owesAt () t.castSucc
    ∗ (∃ d, owns (c : Thread nD τ) (st_0 m t) fullShare ((dat m c).before 0 t d))
    ∗ (∃ d, owns (c : Thread nD τ) (st_1 m t) fullShare ((dat m c).before 1 t d))
    ∗ (∃ d, owns (c : Thread nD τ) (st_2 m t) fullShare ((dat m c).before 2 t d))
    ∗ (∃ d, owns (c : Thread nD τ) (st_3 m t) fullShare ((dat m c).before 3 t d)))

def bodyPost (c : Dev nD) (t : Fin (cfgM m).N) : sProp 𝕄 :=
  iprop((dat m c).Φ t.succ ∗ (dat m c).owesAt () t.succ
    ∗ owns (c : Thread nD τ) (st_0 m t) fullShare ((dat m c).after 0 t)
    ∗ owns (c : Thread nD τ) (st_1 m t) fullShare ((dat m c).after 1 t)
    ∗ owns (c : Thread nD τ) (st_2 m t) fullShare ((dat m c).after 2 t)
    ∗ owns (c : Thread nD τ) (st_3 m t) fullShare ((dat m c).after 3 t))

/-- The kernel at any point. -/
theorem sound (hT : ∀ (c : Dev nD) k, (toks m c k).toNat < 50257) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [after_0, after_1, after_2, after_3, show (dat m c).Φ t.castSucc = iprop(Pipeline.ΦD osem spec0 HE (V0 m) c ∗ Pipeline.ΦT pre0 (tbl m) c) from rfl,
    show (dat m c).Φ t.succ = iprop(Pipeline.ΦD osem spec0 HE (V0 m) c ∗ Pipeline.ΦT pre0 (tbl m) c) from rfl, phi_eq, phiT_eq]
  unfold Dat.owesAt Pipeline.owesWithin
  rw [show (dat m c).owed t.castSucc = 0 from rfl, show (dat m c).owed t.succ = 0 from rfl]
  iintro ⟨⟨⟨Hs, Hg, Hv, He⟩, Ht⟩, ⟨%W, -, Ho⟩, ⟨%d0, H0⟩, ⟨%d1, H1⟩, ⟨%d2, H2⟩, ⟨%d3, H3⟩⟩
  iapply (gatherRun c (grid0.coords t) (toks m c) (embs m c) (fun k => hT c _) fullShare.right _ _ _ _ _ _ _ _ (scale m c) (shift m c) _)
  isplitl [Ht]; · iexact Ht
  isplitl [Hs]; · iexact Hs
  isplitl [He]; · iexact He
  isplitl [Hv]; · iexact Hv
  isplitl [Ho]; · iexists W; iexact Ho
  isplitl [H0]; · iexact H0
  isplitl [H1]; · iexact H1
  isplitl [H2]; · iexists _; iexact H2
  isplitl [H3]; · iexists _; iexact H3
  iintro ⟨Ht, Hs, He, Hv, ⟨%W', Ho⟩, H0, H1, H2, H3⟩
  isplitl [Ht Hs He Hv Hg]
  · isplitr [Ht]
    · isplitl [Hs]; · iexact Hs
      isplitl [Hg]; · iexact Hg
      isplitl [Hv]; · iexact Hv
      iexact He
    iexact Ht
  isplitl [Ho]
  · iexists W'
    isplitr; · ipureintro; exact fun _ _ => Or.inl trivial
    iexact Ho
  isplitl [H0]; · iexact H0
  isplitl [H1]; · iexact H1
  isplitl [H2]; · iexact H2
  iexact H3

theorem row (t : Fin (cfgM m).N) : defs₀ (F := F) .tc (cfgM m).body ((cfgM m).bodyArgs t ((cfgM m).slots t)) = bodyAt m t := by
  unfold defs₀; rw [Defs.onTc_tc]

/-- The library's body obligation. -/
theorem obligation (hT : ∀ (c : Dev nD) k, (toks m c k).toNat < 50257) (c : Dev nD) :
    BodyObligationLoose (dat (F := F) m c) (defs₀ (F := F)) Variants.none () Set.univ := by
  refine BodyObligation.loose (dat (F := F) m c) (fgt := fun _ => false) fun t => ?_
  rw [bigSep_W0, bigSep_W0, row]
  exact triple_restated (sound m hT c t) rfl .rfl fun _ => .rfl

/-! ## The results -/

/-- A result array whose blocks of 512 rows are `B`. -/
def ofBlocks {α : Type} (B : Fin grid0.N → S512x768.Idx → α) : S4096x768.Idx → α := fun y =>
  B ⟨(y 0).val / 512, by have : (y 0).val < 4096 := (y 0).isLt; rw [N_0]; omega⟩ (ix2 ⟨(y 0).val % 512, Nat.mod_lt _ (by omega)⟩ (y 1))

theorem coords_val : ∀ t : Fin grid0.N, (grid0.coords t 0).val = t.val := by decide +kernel

theorem ofBlocks_at {α : Type} (B : Fin grid0.N → S512x768.Idx → α) (t : Fin grid0.N) (y : S512x768.Idx) (z : S4096x768.Idx)
    (h0 : (z 0).val = t.val * 512 + (y 0).val) (h1 : (z 1).val = (y 1).val) : ofBlocks B z = B t y := by
  have hy : (y 0).val < 512 := (y 0).isLt
  have e1 : (⟨(z 0).val / 512, by have : (z 0).val < 4096 := (z 0).isLt; rw [N_0]; omega⟩ : Fin grid0.N) = t := Fin.ext (by show (z 0).val / 512 = t.val; omega)
  have e2 : (ix2 ⟨(z 0).val % 512, Nat.mod_lt _ (by omega)⟩ (z 1) : S512x768.Idx) = y := by
    funext a; apply Fin.ext
    match a with
    | ⟨0, _⟩ => show (z 0).val % 512 = (y 0).val; omega
    | ⟨1, _⟩ => exact h1
  show B _ _ = B t y
  rw [e1, e2]

theorem flushes_2 : ∀ t : Fin grid0.N, Window.flushOf grid0 true cc0_transform_3 t = true := by decide +kernel
theorem covers_2 : ((cfgM m).win 2).Covers := by
  refine ⟨show ∀ a : Fin 2, 0 < S512x768.size a by decide, fun (β : (a : Fin 2) → Fin (((cfgM m).win 2).nblk a)) => ?_⟩
  have h0 : (β 0).val < 8 := lt_of_lt_of_eq (β 0).isLt (show (4096 + 512 - 1) / 512 = 8 by norm_num)
  have h1 : (β 1).val < 1 := lt_of_lt_of_eq (β 1).isLt (show (768 + 768 - 1) / 768 = 1 by norm_num)
  refine ⟨⟨(β 0).val, by show _ < grid0.N; rw [N_0]; exact h0⟩, flushes_2 _, fun (a : Fin 2) => ⟨?_, Or.inl rfl⟩⟩
  match a with
  | ⟨0, _⟩ => exact (ix_2 _).trans (coords_val _)
  | ⟨1, _⟩ => show 0 = (β 1).val; omega

theorem final_2 (c : Dev nD) : (dat m c).arrAt 2 (cfgM m).N = ofBlocks (blk32 m c) := by
  refine (dat m c).arrAt_eq_of_covers 2 (ofBlocks (blk32 m c)) (covers_2 m) fun t hf (y : S512x768.Idx) => ?_
  rw [after_2]
  refine (ofBlocks_at (blk32 m c) t y _ ?_ ?_).symm
  · show cc0_transform_3 (grid0.coords t) 0 * 512 + 1 * (y 0).val = t.val * 512 + (y 0).val
    rw [ix_2, coords_val]; omega
  · show 0 * 768 + 1 * (y 1).val = (y 1).val; omega

theorem flushes_3 : ∀ t : Fin grid0.N, Window.flushOf grid0 true cc0_transform_4 t = true := by decide +kernel
theorem covers_3 : ((cfgM m).win 3).Covers := by
  refine ⟨show ∀ a : Fin 2, 0 < S512x768.size a by decide, fun (β : (a : Fin 2) → Fin (((cfgM m).win 3).nblk a)) => ?_⟩
  have h0 : (β 0).val < 8 := lt_of_lt_of_eq (β 0).isLt (show (4096 + 512 - 1) / 512 = 8 by norm_num)
  have h1 : (β 1).val < 1 := lt_of_lt_of_eq (β 1).isLt (show (768 + 768 - 1) / 768 = 1 by norm_num)
  refine ⟨⟨(β 0).val, by show _ < grid0.N; rw [N_0]; exact h0⟩, flushes_3 _, fun (a : Fin 2) => ⟨?_, Or.inl rfl⟩⟩
  match a with
  | ⟨0, _⟩ => exact (ix_3 _).trans (coords_val _)
  | ⟨1, _⟩ => show 0 = (β 1).val; omega

theorem final_3 (c : Dev nD) : (dat m c).arrAt 3 (cfgM m).N = ofBlocks (blk16 m c) := by
  refine (dat m c).arrAt_eq_of_covers 3 (ofBlocks (blk16 m c)) (covers_3 m) fun t hf (y : S512x768.Idx) => ?_
  rw [after_3]
  refine (ofBlocks_at (blk16 m c) t y _ ?_ ?_).symm
  · show cc0_transform_4 (grid0.coords t) 0 * 512 + 1 * (y 0).val = t.val * 512 + (y 0).val
    rw [ix_3, coords_val]; omega
  · show 0 * 768 + 1 * (y 1).val = (y 1).val; omega

end Cert.Kernel2Ideal.Gather
-- ==== Proof.Gather.Run.lean ====
/-
  The gather's run: the arguments end as launched, every semaphore counter at zero, and the two results hold the
  normalised rows.
-/
module

public import proofs.«01_k».proof.Proof.Gather.Region

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose arrRef)

variable {F : FTy → Type} [FloatOps F]
variable (m : (ℓ : Loc nD τ sig) → Buf (Elt F) ℓ)

/-- The pipelines' data: there is one pipeline. -/
def dats (p : Fin 1) (c : Dev nD) : Dat τ (Elt F) Unit ℕ UG ℕ (Pipeline.pin pcfgs (fun _ => adm m) p) c := dat m c

/-- What the run leaves on a device. -/
def Left (c : Dev nD) (s : MemSt nD τ sig (Elt F)) : Prop :=
  s.mem ((c : Thread nD τ).loc main_v0_0) = ofBlocks (blk32 m c)
    ∧ s.mem ((c : Thread nD τ).loc main_v0_1) = ofBlocks (blk16 m c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem left_of_post (r : PUnit × MemSt nD τ sig (Elt F))
    (h : Pipeline.FramePost (Pipeline.pin pcfgs (fun _ => adm m)) (dats m) 0 (V0 m) r) (c : Dev nD) : Left m c r.2 := by
  obtain ⟨hw, hr⟩ := h c
  refine ⟨(hw 2).trans (final_2 m c), (hw 3).trans (final_3 m c), hr main_arg0 ?_, hr main_arg1 ?_,
    (hw 0).trans ((dat m c).arrAt_in 0 rfl _), (hw 1).trans ((dat m c).arrAt_in 1 rfl _)⟩
  · exact Pipeline.mem_restRefs_of main_arg0 rfl (show ∀ w, (spec0 w).arr.view.ref ≠ main_arg0 by decide)
  · exact Pipeline.mem_restRefs_of main_arg1 rfl (show ∀ w, (spec0 w).arr.view.ref ≠ main_arg1 by decide)

/-- The whole run, the tokens within the embedding. -/
theorem run (hT : ∀ c k, (toks m c k).toNat < 50257) (ρ : Dev nD → PrngReg) :
    θ_run defs (onTc (τ := τ) (main (F := F))) ⟨m, fun _ => 0, ρ⟩ (fun r => (∀ c : Dev nD, Left m c r.2) ∧ r.2.sem = fun _ => 0) :=
  Pipeline.θ_run_frameP_dma pcfgs (fun _ => adm m) (dats m) (0 : Fin 1) launch0 osem defs₀ Variants.none osemFacts HE HE_sub m ρ main
    (hbody := fun c => obligation m hT c)
    (hshare := fun c w => (dat m c).share_full (fun _ => rfl) w)
    (howed := fun _ _ => rfl)
    (V := V0 m)
    (hmain := Pipeline.hmainP_region pcfgs (0 : Fin 1) defs₀ Variants.none m main (fun c => main_chain c))
    (hA := fun _ _ => rfl)
    (hpf := fun c k => tbl_eq m c k)
    (hin := fun _ => .rfl)
    (hout := fun c => by
      change iprop(_ ∗ _) ⊢ _
      iintro ⟨HD, -⟩
      iexact HD)
    (Q' := fun r => (∀ c : Dev nD, Left m c r.2) ∧ r.2.sem = fun _ => 0)
    (hQ' := fun r h => ⟨left_of_post m r h.1, h.2⟩)

end Cert.Kernel2Ideal.Gather

end
-- ==== Proof.Gather.Norm.lean ====
/-
  A normalised row as a formula over the extended reals, and the kernel's block of rows as that formula.
-/
module

public import proofs.«01_k».proof.Proof.Gather.Run
public import Idealize.ShloMosaic.PureOps.Ideal.Laws
public import Idealize.ShloMosaic.Lib.ValueLayoutCasts
public import Idealize.ShloMosaic.Lib.KernelVsHost

@[expose] public section

set_option maxRecDepth 16384

noncomputable section

namespace Cert.Kernel2Ideal.Gather

open Cert.Kernel2Ideal Cert.Kernel2Ideal.Gen
open Idealize.ShloMosaic Idealize.ShloMosaic.ValueIdx
open Idealize.ShloMosaic.TcCoe Idealize.ShloMosaic.Tactic

/-- The width of a row, 768, and the variance's offset. -/
def widthE : EReal := Ideal.ofBits .f32 0x44400000#32
def epsE : EReal := Ideal.ofBits .f32 0x3727C5AC#32

/-- A row less its mean. -/
def devE (v : Fin 768 → EReal) (e : Fin 768) : EReal := v e - Ideal.div (∑ k : Fin 768, v k) widthE

/-- The reciprocal of a row's deviation. -/
def recipE (v : Fin 768 → EReal) : EReal := Ideal.rsqrt (Ideal.div (∑ k : Fin 768, devE v k * devE v k) widthE + epsE)

/-- A row normalised, scaled by `g` and shifted by `b`. -/
def rowE (v g b : Fin 768 → EReal) (e : Fin 768) : EReal := devE v e * recipE v * g e + b e

/-- The rows' sums, by columns. -/
theorem rowSum (x : FVec Ideal S512x768 .f32) (r : Fin 512) :
    (k0_pay3 (F := Ideal) x (ix1 r) : EReal) = ∑ k : Fin 768, (x (ix2 r k) : EReal) := by
  refine (Ideal.multiReduction_add_single x _ reduces_S512x768_S512 (.inl rfl) rfl (ix1 r)).trans (Finset.sum_congr rfl fun k _ => ?_)
  exact congrArg x (funext fun a => by match a with | ⟨0, _⟩ => rfl | ⟨1, _⟩ => rfl)

/-- A column of row values, laid over the rows. -/
theorem column_at (x : FVec Ideal S512x1 .f32) (r : Fin 512) (e : Fin 768) :
    broadcastTo S512x768 x broadcasts_S512x1_S512x768 (ix2 r e) = x (ix2 r 0) :=
  broadcastTo_apply x _ (ix2 r e) (ix2 r (0 : Fin 1)) fun a => by match a with | ⟨0, _⟩ => rfl | ⟨1, _⟩ => rfl

/-- A row of column values, laid over the rows. -/
theorem line_at (x : FVec Ideal S1x768 .f32) (r : Fin 512) (e : Fin 768) :
    broadcastTo S512x768 x broadcasts_S1x768_S512x768 (ix2 r e) = x (ix2 0 e) :=
  broadcastTo_1b_ab_apply x _ r e

theorem cast_at (x : FVec Ideal S512 .f32) (r : Fin 512) : shapeCast S512x1 x shapeCasts_S512_S512x1 (ix2 r 0) = x (ix1 r) :=
  shapeCast_a_a1_apply x _ r 0

theorem centred_at (G : FVec Ideal S512x768 .f32) (r : Fin 512) (e : Fin 768) :
    (centred (F := Ideal) G (ix2 r e) : EReal) = devE (fun k => G (ix2 r k)) e := by
  refine congrArg (fun z : EReal => (G (ix2 r e) : EReal) - z) ?_
  refine (column_at _ r e).trans ?_
  refine congrArg (fun z : EReal => Ideal.div z widthE) ?_
  exact (cast_at _ r).trans (rowSum G r)

theorem recip_at (G : FVec Ideal S512x768 .f32) (r : Fin 512) (e : Fin 768) :
    (recip (F := Ideal) G (ix2 r e) : EReal) = recipE (fun k => G (ix2 r k)) := by
  refine (column_at (rsqrt (addf (divf (shapeCast S512x1 (k0_pay3 (mulf (centred (F := Ideal) G) (centred (F := Ideal) G))) shapeCasts_S512_S512x1)
    (broadcast S512x1 (Scalar.ofBits .f32 0x44400000#32))) (broadcast S512x1 (Scalar.ofBits .f32 0x3727C5AC#32)))) r e).trans ?_
  refine congrArg (fun z : EReal => Ideal.rsqrt (Ideal.div z widthE + epsE)) ?_
  refine (cast_at _ r).trans ((rowSum (mulf (centred (F := Ideal) G) (centred (F := Ideal) G)) r).trans (Finset.sum_congr rfl fun k _ => ?_))
  exact congrArg (fun z : EReal => z * z) (centred_at G r k)

theorem normed_at (G : FVec Ideal S512x768 .f32) (g b : FVec Ideal S1x768 .f32) (r : Fin 512) (e : Fin 768) :
    (normed (F := Ideal) G g b (ix2 r e) : EReal) = rowE (fun k => G (ix2 r k)) (fun k => g (ix2 0 k)) (fun k => b (ix2 0 k)) e := by
  have h : (normed (F := Ideal) G g b (ix2 r e) : EReal)
      = (centred (F := Ideal) G (ix2 r e) : EReal) * recip (F := Ideal) G (ix2 r e) * broadcastTo S512x768 g broadcasts_S1x768_S512x768 (ix2 r e)
        + broadcastTo S512x768 b broadcasts_S1x768_S512x768 (ix2 r e) := rfl
  rw [h, centred_at, recip_at, line_at, line_at]
  rfl

/-- The rows named by the tokens, normalised. -/
def rowsE (T : IVec S4096 32) (M : FVec Ideal S50257x768 .f32) (g b : FVec Ideal S1x768 .f32) (y : S4096x768.Idx) : EReal :=
  rowE (fun k => M (ix2 ⟨(T (ix1 (y 0))).toNat % 50257, Nat.mod_lt _ (by omega)⟩ k)) (fun k => g (ix2 0 k)) (fun k => b (ix2 0 k)) (y 1)

variable (m : (ℓ : Loc nD τ sig) → Buf (Elt Ideal) ℓ)

/-- The first result is the rows named by the tokens, normalised; the second is the same. -/
theorem result_32 (c : Dev nD) (y : S4096x768.Idx) : (ofBlocks (blk32 m c) y : EReal) = rowsE (toks m c) (embs m c) (scale m c) (shift m c) y := by
  have hy : (y 0).val < 4096 := (y 0).isLt
  refine (normed_at _ _ _ _ _).trans ?_
  unfold rowsE
  refine congrArg (fun v => rowE v _ _ (y 1)) (funext fun k => ?_)
  have e : tok (grid0.coords ⟨(y 0).val / 512, by rw [N_0]; omega⟩) (toks m c) ((y 0).val % 512) = toks m c (ix1 (y 0)) := by
    refine congrArg (toks m c) (congrArg ix1 (Fin.ext ?_))
    show (512 * (grid0.coords ⟨(y 0).val / 512, _⟩ 0).val + (y 0).val % 512) % 4096 = (y 0).val
    rw [coords_val]
    show (512 * ((y 0).val / 512) + (y 0).val % 512) % 4096 = (y 0).val
    omega
  refine congrArg (embs m c) (congrArg (fun i => ix2 i k) (Fin.ext ?_))
  exact congrArg (fun w : BitVec 32 => w.toNat % 50257) e

theorem result_16 (c : Dev nD) (y : S4096x768.Idx) : (ofBlocks (blk16 m c) y : EReal) = rowsE (toks m c) (embs m c) (scale m c) (shift m c) y :=
  result_32 m c y

end Cert.Kernel2Ideal.Gather

end
-- ==== Proof.Gather.Reference.lean ====
/-
  The reference of the gather: its two results are the same normalised rows, the tokens within the embedding.
-/
module

public import proofs.«01_k».proof.Proof.Gather.Norm
public import proofs.«01_k».proof.Proof.Gen.Reference2Ideal.Run
public import Idealize.ShloMosaic.Lib.IdealHost

@[expose] public section

set_option maxRecDepth 16384

noncomputable section

namespace Cert.Reference2Ideal.Rows

open Cert.Reference2Ideal Cert.Reference2Ideal.Gen
open Idealize.ShloMosaic Idealize.ShloMosaic.ValueIdx
open Idealize.ShloMosaic.TcCoe Idealize.ShloMosaic.Tactic
open Cert.Kernel2Ideal.Gather (widthE epsE devE recipE rowE rowsE)

/-- The row numbers, as the reference writes them: a negative token counts from the end. -/
def rowNo (T : IVec S4096 32) : IVec S4096x1 32 :=
  broadcastInDim S4096x1 ![0] bcast_S4096_S4096x1_0
    (select (cmpi .slt T (broadcastInDim S4096 ![] bcast_S_S4096 (constantI S_ 32 0#32)))
      (addi T (broadcastInDim S4096 ![] bcast_S_S4096 (constantI S_ 32 50257#32))) T)

theorem rowNo_at (T : IVec S4096 32) (i : Fin 4096) (h : (T (ix1 i)).toNat < 50257) : rowNo T (ix2 i 0) = T (ix1 i) := by
  have e : IntOp.cmpi .slt (T (ix1 i)) 0#32 = 0#1 := by
    show BitVec.ofBool ((T (ix1 i)).slt 0#32) = 0#1
    have : (T (ix1 i)).slt 0#32 = false := by
      rw [BitVec.slt, decide_eq_false_iff_not, BitVec.toInt_eq_toNat_of_lt (by omega)]
      simp
    rw [this]; rfl
  refine (broadcastInDim_apply _ _ _ (ix2 i (0 : Fin 1)) (ix1 i) (fun a => by match a with | ⟨0, _⟩ => rfl)).trans ?_
  show Scalar.select (IntOp.cmpi .slt (T (ix1 i)) 0#32) (T (ix1 i) + 50257#32) (T (ix1 i)) = T (ix1 i)
  rw [e]; rfl

/-- The rows taken. -/
def taken (T : IVec S4096 32) (M : FVec Ideal S50257x768 .f32) : FVec Ideal S4096x768 .f32 :=
  Host.gather gather_S50257x768_S4096x1_S4096x768_1_0_n_n_0_1_1768 M (rowNo T)

/-- A row is taken whole, at its number. -/
theorem taken_at (T : IVec S4096 32) (M : FVec Ideal S50257x768 .f32) (i : Fin 4096) (h : (T (ix1 i)).toNat < 50257) (e : Fin 768) :
    taken T M (ix2 i e) = M (ix2 ⟨(T (ix1 i)).toNat % 50257, Nat.mod_lt _ (by omega)⟩ e) := by
  unfold taken Host.gather
  congr 1
  funext a
  refine Fin.ext ?_
  show GatherDims.start gather_S50257x768_S4096x1_S4096x768_1_0_n_n_0_1_1768 (ix2 i e) (rowNo T) a
      + GatherDims.batchCoord gather_S50257x768_S4096x1_S4096x768_1_0_n_n_0_1_1768 (ix2 i e) a
      + GatherDims.offCoord gather_S50257x768_S4096x1_S4096x768_1_0_n_n_0_1_1768 (ix2 i e) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S50257x768_S4096x1_S4096x768_1_0_n_n_0_1_1768.startIndexMap from List.mem_singleton.mpr rfl)]
    have hsi : gather_S50257x768_S4096x1_S4096x768_1_0_n_n_0_1_1768.siIdx (ix2 i e) ⟨List.idxOf (0 : Fin 2) gather_S50257x768_S4096x1_S4096x768_1_0_n_n_0_1_1768.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi, rowNo_at T i h]
    show min (T (ix1 i)).toInt.toNat (50257 - 1) = (T (ix1 i)).toNat % 50257
    rw [BitVec.toInt_eq_toNat_of_lt (by omega), Nat.mod_eq_of_lt h]
    show min (T (ix1 i)).toNat (50257 - 1) = _
    omega
  · have hs : (1 : Fin 2) ∉ gather_S50257x768_S4096x1_S4096x768_1_0_n_n_0_1_1768.startIndexMap := by
      show (1 : Fin 2) ∉ ([0] : List (Fin 2))
      decide
    unfold GatherDims.start GatherDims.offCoord
    rw [dif_neg hs, Nat.zero_add, dif_pos ((GatherDims.mem_sKept _ _).mpr ⟨hs, List.not_mem_nil⟩)]
    rfl

/-- The rows less their means. -/
def means (x : FVec Ideal S4096x768 .f32) : FVec Ideal S4096x1 .f32 :=
  Host.divf (broadcastInDim S4096x1 ![0] bcast_S4096_S4096x1_0 (Host.reduceAdd x (constant S_ .f32 0x00000000#32) reducesTo_S4096x768_S4096_d1 h_S_))
    (broadcastInDim S4096x1 ![] bcast_S_S4096x1 (constant S_ .f32 0x44400000#32))
def centred (x : FVec Ideal S4096x768 .f32) : FVec Ideal S4096x768 .f32 :=
  subf x (broadcastInDim S4096x768 ![0, 1] bcast_S4096x1_S4096x768_0_1 (means x))

theorem means_at (x : FVec Ideal S4096x768 .f32) (i : Fin 4096) :
    (means x (ix2 i 0) : EReal) = Ideal.div (∑ k : Fin 768, (x (ix2 i k) : EReal)) widthE := by
  refine congrArg (fun z : EReal => Ideal.div z widthE) ?_
  refine (broadcastInDim_apply _ _ _ (ix2 i (0 : Fin 1)) (ix1 i) (fun a => by match a with | ⟨0, _⟩ => rfl)).trans ?_
  have hr : S4096x768.Reduces [1] S4096 := by decide
  refine (Ideal.hostReduceAdd_single reducesTo_S4096x768_S4096_d1 hr x _ (ix1 i)).trans ?_
  show Ideal.ofBits .f32 0x00000000#32 + _ = _
  rw [Ideal.ofBits_zero_f32, zero_add]
  refine Finset.sum_congr rfl fun k _ => ?_
  exact congrArg x (funext fun a => by match a with | ⟨0, _⟩ => rfl | ⟨1, _⟩ => rfl)

theorem column_at (x : FVec Ideal S4096x1 .f32) (i : Fin 4096) (e : Fin 768) :
    broadcastInDim S4096x768 ![0, 1] bcast_S4096x1_S4096x768_0_1 x (ix2 i e) = x (ix2 i 0) :=
  broadcastInDim_apply _ _ _ (ix2 i e) (ix2 i (0 : Fin 1)) (fun a => by match a with | ⟨0, _⟩ => rfl | ⟨1, _⟩ => rfl)

theorem line_at (x : FVec Ideal S1x768 .f32) (i : Fin 4096) (e : Fin 768) :
    broadcastInDim S4096x768 ![0, 1] bcast_S1x768_S4096x768_0_1 x (ix2 i e) = x (ix2 0 e) :=
  broadcastInDim_apply _ _ _ (ix2 i e) (ix2 (0 : Fin 1) e) (fun a => by match a with | ⟨0, _⟩ => rfl | ⟨1, _⟩ => rfl)

theorem centred_at (x : FVec Ideal S4096x768 .f32) (i : Fin 4096) (e : Fin 768) :
    (centred x (ix2 i e) : EReal) = devE (fun k => x (ix2 i k)) e := by
  refine congrArg (fun z : EReal => (x (ix2 i e) : EReal) - z) ?_
  exact (column_at _ i e).trans (means_at x i)

/-- The reciprocals of the rows' deviations. -/
def recips (x : FVec Ideal S4096x768 .f32) : FVec Ideal S4096x1 .f32 :=
  Host.rsqrt (addf (means (mulf (centred x) (centred x))) (broadcastInDim S4096x1 ![] bcast_S_S4096x1 (constant S_ .f32 0x3727C5AC#32)))

theorem recips_at (x : FVec Ideal S4096x768 .f32) (i : Fin 4096) : (recips x (ix2 i 0) : EReal) = recipE (fun k => x (ix2 i k)) := by
  refine congrArg (fun z : EReal => Ideal.rsqrt (z + epsE)) ((means_at _ i).trans ?_)
  refine congrArg (fun z : EReal => Ideal.div z widthE) (Finset.sum_congr rfl fun k _ => ?_)
  exact congrArg (fun z : EReal => z * z) (centred_at x i k)

/-- The reference's first result. -/
def result (T : IVec S4096 32) (M : FVec Ideal S50257x768 .f32) (g b : FVec Ideal S1x768 .f32) : FVec Ideal S4096x768 .f32 :=
  addf (mulf (mulf (centred (taken T M)) (broadcastInDim S4096x768 ![0, 1] bcast_S4096x1_S4096x768_0_1 (recips (taken T M))))
    (broadcastInDim S4096x768 ![0, 1] bcast_S1x768_S4096x768_0_1 g)) (broadcastInDim S4096x768 ![0, 1] bcast_S1x768_S4096x768_0_1 b)

theorem result_at (T : IVec S4096 32) (hT : ∀ k, (T k).toNat < 50257) (M : FVec Ideal S50257x768 .f32) (g b : FVec Ideal S1x768 .f32) (y : S4096x768.Idx) :
    (result T M g b y : EReal) = rowsE T M g b y := by
  obtain ⟨i, e, rfl⟩ : ∃ (i : Fin 4096) (e : Fin 768), y = ix2 i e := ⟨y 0, y 1, eq_ix2 y⟩
  have h : (result T M g b (ix2 i e) : EReal)
      = (centred (taken T M) (ix2 i e) : EReal) * broadcastInDim S4096x768 ![0, 1] bcast_S4096x1_S4096x768_0_1 (recips (taken T M)) (ix2 i e)
          * broadcastInDim S4096x768 ![0, 1] bcast_S1x768_S4096x768_0_1 g (ix2 i e)
        + broadcastInDim S4096x768 ![0, 1] bcast_S1x768_S4096x768_0_1 b (ix2 i e) := rfl
  have hv : (fun k : Fin 768 => (taken T M (ix2 i k) : EReal)) = fun k => M (ix2 ⟨(T (ix1 i)).toNat % 50257, Nat.mod_lt _ (by omega)⟩ k) :=
    funext fun k => taken_at T M i (hT _) k
  rw [h, centred_at, column_at, recips_at, line_at, line_at, hv]
  rfl

open Idealize.SL.Sem in
/-- The reference's run: both results are `result` of its arguments, and these are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = truncf .bf16 (result (m ((c.tc : Thread nD τ).loc main_arg0)) (m ((c.tc : Thread nD τ).loc main_arg1)) (m ((c.tc : Thread nD τ).loc main_arg2)) (m ((c.tc : Thread nD τ).loc main_arg3))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run m ρ

end Cert.Reference2Ideal.Rows

end
-- ==== Proof.MainNames.lean ====
/-
  Names for the places the vocabulary kernel moves data between: the band of the result one copy fills (`band u b`:
  rows `1024 u … 1024 u + 1023` of batch `b`), the scratch slot a batch's block is built in (`slotM b`), and that
  slot's semaphore (`csm b`). The body's own slices are these (`@[sl_canon]` equations).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Ring
public import Idealize.ShloMosaic.Lib.Affine
public import Idealize.ShloMosaic.Lib.Tactic
public import Idealize.ShloMosaic.Lib.Pipeline.RegionArraysD

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipelines' cells beside the counters the kernel's own copies ride on. -/
abbrev UU (nD : Nat) (τ : Topo) : Type := UR sig nD τ × Counters
abbrev 𝒱₀ : Variants := Variants.none

/-- The result of the vocabulary kernel, whole. -/
abbrev outM : Memref sig .tc .hbm S50257x4x1024 .f32 := Memref.whole main_v4
/-- The scratch of one-hot rows. -/
abbrev ohM : Memref sig .tc .vmem S1024x1024 .bf16 := Memref.whole cc1_scratch0
/-- The scratch of four output blocks. -/
abbrev obM : Memref sig .tc .vmem S4x1024x1024 .f32 := Memref.whole cc1_scratch1

/-- Where band `u` of batch `b` begins. -/
abbrev bandOff (u : Fin 49) (b : Fin 4) : Fin 3 → Nat := ![1024 * u.val, b.val, 0]
theorem bandOff_inb (u : Fin 49) (b : Fin 4) : ∀ a, bandOff u b a + S1024x1x1024.size a ≤ S50257x4x1024.size a := by
  have := u.isLt; have := b.isLt; intro a; fin_cases a
  · show 1024 * u.val + 1024 ≤ 50257; omega
  · show b.val + 1 ≤ 4; omega
  · show 0 + 1024 ≤ 1024; omega
/-- Where slot `b` of the scratch begins. -/
abbrev slotOff (b : Fin 4) : Fin 3 → Nat := ![b.val, 0, 0]
theorem slotOff_inb (b : Fin 4) : ∀ a, slotOff b a + S1x1024x1024.size a ≤ S4x1024x1024.size a := by
  have := b.isLt; intro a; fin_cases a
  · show b.val + 1 ≤ 4; omega
  · show 0 + 1024 ≤ 1024; omega
  · show 0 + 1024 ≤ 1024; omega
abbrev semOff (b : Fin 4) : Fin 1 → Nat := ![b.val]
theorem semOff_inb (b : Fin 4) : ∀ a, semOff b a + S1.size a ≤ S4.size a := by
  have := b.isLt; intro a; fin_cases a; show b.val + 1 ≤ 4; omega

/-- Band `u` of batch `b` of the result, a square matrix. -/
def band (u : Fin 49) (b : Fin 4) : Memref sig .tc .hbm S1024x1024 .f32 :=
  (outM.slice (Rect.unit (s := S50257x4x1024) (bandOff u b) S1024x1x1024.size (bandOff_inb u b)) (fun _ => rfl)).squeeze S1024x1024 squeezes_S1024x1x1024_S1024x1024
/-- Slot `b` of the scratch of output blocks. -/
def slotM (b : Fin 4) : Memref sig .tc .vmem S1024x1024 .f32 :=
  (obM.slice (Rect.unit (s := S4x1024x1024) (slotOff b) S1x1024x1024.size (slotOff_inb b)) (fun _ => rfl)).squeeze S1024x1024 squeezes_S1x1024x1024_S1024x1024
/-- Slot `b`'s semaphore. -/
def csm (b : Fin 4) : DmaSems sig S_ := (cc1_scratch2.slice (Rect.unit (s := S4) (semOff b) S1.size (semOff_inb b))).squeeze S_ squeezes_S1_S_

instance (b : Fin 4) : ClosedOff (slotOff b) := ⟨slotOff b, rfl⟩
instance (u : Fin 49) (b : Fin 4) : ClosedOff (bandOff u b) := ⟨bandOff u b, rfl⟩

theorem csm_congr {off : Fin 1 → Nat} {b : Fin 4} (e : off = semOff b) (hh) :
    (cc1_scratch2.slice (Rect.unit (s := S4) off S1.size hh)).squeeze S_ squeezes_S1_S_ = csm b :=
  congrArg (fun A : DmaSems sig S1 => A.squeeze S_ squeezes_S1_S_) (SemArray.slice_unit_congr _ e _ _)
theorem slot_congr {off : Fin 3 → Nat} {b : Fin 4} (e : off = slotOff b) (hh hs) :
    (obM.slice (Rect.unit (s := S4x1024x1024) off S1x1024x1024.size hh) hs).squeeze S1024x1024 squeezes_S1x1024x1024_S1024x1024 = slotM b :=
  congrArg (fun M : Memref sig .tc .vmem S1x1024x1024 .f32 => M.squeeze S1024x1024 squeezes_S1x1024x1024_S1024x1024) (Memref.slice_unit_congr _ e _ _ _ _)
theorem band_congr {off : Fin 3 → Nat} {u : Fin 49} {b : Fin 4} (e : off = bandOff u b) (hh hs) :
    (outM.slice (Rect.unit (s := S50257x4x1024) off S1024x1x1024.size hh) hs).squeeze S1024x1024 squeezes_S1024x1x1024_S1024x1024 = band u b :=
  congrArg (fun M : Memref sig .tc .hbm S1024x1x1024 .f32 => M.squeeze S1024x1024 squeezes_S1024x1x1024_S1024x1024) (Memref.slice_unit_congr _ e _ _ _ _)

@[sl_canon] theorem sem0 (hh) : (cc1_scratch2.slice (Rect.unit (s := S4) ![0] S1.size hh)).squeeze S_ squeezes_S1_S_ = csm 0 := csm_congr (by decide) _
@[sl_canon] theorem sem1 (hh) : (cc1_scratch2.slice (Rect.unit (s := S4) ![1] S1.size hh)).squeeze S_ squeezes_S1_S_ = csm 1 := csm_congr (by decide) _
@[sl_canon] theorem sem2 (hh) : (cc1_scratch2.slice (Rect.unit (s := S4) ![2] S1.size hh)).squeeze S_ squeezes_S1_S_ = csm 2 := csm_congr (by decide) _
@[sl_canon] theorem sem3 (hh) : (cc1_scratch2.slice (Rect.unit (s := S4) ![3] S1.size hh)).squeeze S_ squeezes_S1_S_ = csm 3 := csm_congr (by decide) _
@[sl_canon] theorem slot0 (hh hs) : (obM.slice (Rect.unit (s := S4x1024x1024) ![0, 0, 0] S1x1024x1024.size hh) hs).squeeze S1024x1024 squeezes_S1x1024x1024_S1024x1024 = slotM 0 := slot_congr (by decide) _ _
@[sl_canon] theorem slot1 (hh hs) : (obM.slice (Rect.unit (s := S4x1024x1024) ![1, 0, 0] S1x1024x1024.size hh) hs).squeeze S1024x1024 squeezes_S1x1024x1024_S1024x1024 = slotM 1 := slot_congr (by decide) _ _
@[sl_canon] theorem slot2 (hh hs) : (obM.slice (Rect.unit (s := S4x1024x1024) ![2, 0, 0] S1x1024x1024.size hh) hs).squeeze S1024x1024 squeezes_S1x1024x1024_S1024x1024 = slotM 2 := slot_congr (by decide) _ _
@[sl_canon] theorem slot3 (hh hs) : (obM.slice (Rect.unit (s := S4x1024x1024) ![3, 0, 0] S1x1024x1024.size hh) hs).squeeze S1024x1024 squeezes_S1x1024x1024_S1024x1024 = slotM 3 := slot_congr (by decide) _ _

/-- The band a grid point works on. -/
abbrev pt (i : grid1.Coords) : Fin 49 := i 0

@[sl_canon] theorem band_k1 (i : grid1.Coords) (hh hs) :
    (outM.slice (Rect.unit (s := S50257x4x1024) (k1_off1 i) S1024x1x1024.size hh) hs).squeeze S1024x1024 squeezes_S1024x1x1024_S1024x1024 = band (pt i) 0 := band_congr (k1_off1_eq i) _ _
@[sl_canon] theorem band_k2 (i : grid1.Coords) (hh hs) :
    (outM.slice (Rect.unit (s := S50257x4x1024) (k1_off2 i) S1024x1x1024.size hh) hs).squeeze S1024x1024 squeezes_S1024x1x1024_S1024x1024 = band (pt i) 0 := band_congr (k1_off2_eq i) _ _
@[sl_canon] theorem band_k3 (i : grid1.Coords) (hh hs) :
    (outM.slice (Rect.unit (s := S50257x4x1024) (k1_off3 i) S1024x1x1024.size hh) hs).squeeze S1024x1024 squeezes_S1024x1x1024_S1024x1024 = band (pt i) 1 := band_congr (k1_off3_eq i) _ _
@[sl_canon] theorem band_k4 (i : grid1.Coords) (hh hs) :
    (outM.slice (Rect.unit (s := S50257x4x1024) (k1_off4 i) S1024x1x1024.size hh) hs).squeeze S1024x1024 squeezes_S1024x1x1024_S1024x1024 = band (pt i) 1 := band_congr (k1_off4_eq i) _ _
@[sl_canon] theorem band_k5 (i : grid1.Coords) (hh hs) :
    (outM.slice (Rect.unit (s := S50257x4x1024) (k1_off5 i) S1024x1x1024.size hh) hs).squeeze S1024x1024 squeezes_S1024x1x1024_S1024x1024 = band (pt i) 2 := band_congr (k1_off5_eq i) _ _
@[sl_canon] theorem band_k6 (i : grid1.Coords) (hh hs) :
    (outM.slice (Rect.unit (s := S50257x4x1024) (k1_off6 i) S1024x1x1024.size hh) hs).squeeze S1024x1024 squeezes_S1024x1x1024_S1024x1024 = band (pt i) 2 := band_congr (k1_off6_eq i) _ _
@[sl_canon] theorem band_k7 (i : grid1.Coords) (hh hs) :
    (outM.slice (Rect.unit (s := S50257x4x1024) (k1_off7 i) S1024x1x1024.size hh) hs).squeeze S1024x1024 squeezes_S1024x1x1024_S1024x1024 = band (pt i) 3 := band_congr (k1_off7_eq i) _ _
@[sl_canon] theorem band_k8 (i : grid1.Coords) (hh hs) :
    (outM.slice (Rect.unit (s := S50257x4x1024) (k1_off8 i) S1024x1x1024.size hh) hs).squeeze S1024x1024 squeezes_S1024x1x1024_S1024x1024 = band (pt i) 3 := band_congr (k1_off8_eq i) _ _
@[sl_canon] theorem band_k9 (i : grid1.Coords) (hh hs) :
    (outM.slice (Rect.unit (s := S50257x4x1024) (k1_off9 i) S1024x1x1024.size hh) hs).squeeze S1024x1024 squeezes_S1024x1x1024_S1024x1024 = band (pt i) 0 := band_congr (k1_off9_eq i) _ _
@[sl_canon] theorem band_k10 (i : grid1.Coords) (hh hs) :
    (outM.slice (Rect.unit (s := S50257x4x1024) (k1_off10 i) S1024x1x1024.size hh) hs).squeeze S1024x1024 squeezes_S1024x1x1024_S1024x1024 = band (pt i) 1 := band_congr (k1_off10_eq i) _ _
@[sl_canon] theorem band_k11 (i : grid1.Coords) (hh hs) :
    (outM.slice (Rect.unit (s := S50257x4x1024) (k1_off11 i) S1024x1x1024.size hh) hs).squeeze S1024x1024 squeezes_S1024x1x1024_S1024x1024 = band (pt i) 2 := band_congr (k1_off11_eq i) _ _
@[sl_canon] theorem band_k12 (i : grid1.Coords) (hh hs) :
    (outM.slice (Rect.unit (s := S50257x4x1024) (k1_off12 i) S1024x1x1024.size hh) hs).squeeze S1024x1024 squeezes_S1024x1x1024_S1024x1024 = band (pt i) 3 := band_congr (k1_off12_eq i) _ _

end Cert.KernelIdeal.Run

end
-- ==== Proof.MainValue.lean ====
/-
  What one grid point of the vocabulary kernel puts into a slot: a batch's block of 1024 vocabulary rows by 1024
  positions, built as four tiles of 256 positions. `blk i x0 x1 x2 x3 b` names it as a function of the staged inputs.
-/
module

public import proofs.«01_k».proof.Proof.MainNames
public import Idealize.ShloMosaic.Lib.ValueLayout
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA

variable {F : FTy → Type} [FloatOps F]

/-- The part of an array a rectangle covers. -/
def cut {s : Shape} {α : Type} (r : LoadRect s) (x : s.Idx → α) : r.shape.Idx → α := fun y => x (r.idx y)

/-- A load of a whole buffer known to hold `x` is the part of `x` its rectangle covers. -/
theorem readAt_unread {sp : Space} {s : Shape} {e : EltTy} {M : Memref sig .tc sp s e} (h : M.IsWhole) (r : LoadRect s)
    (x : s.Idx → Elt F e) : View.readAt (Elt F) M.view r (h.unread x) = cut r x := by
  funext y
  rw [View.readAt_apply, h.read_unread]; rfl

/-- A load after a store of the whole buffer is the part of the stored value its rectangle covers. -/
theorem readCov_cut {sp : Space} {s : Shape} {e : EltTy} (v : View sig .tc sp s e) {off : Fin s.rank → ℕ}
    (h0 : off = fun _ => 0) (inb : ∀ a, off a + s.size a ≤ s.size a)
    (w : (Rect.unit off s.size inb).shape.Idx → Elt F e) (L : List (View.Piece (Elt F) s e)) (r : LoadRect s) :
    v.readCov (⟨Rect.unit off s.size inb, w⟩ :: L) r = cut r w := by
  funext y
  show v.read (Elt F) (v.writes (Elt F) v.junk (⟨Rect.unit off s.size inb, w⟩ :: L)) (r.idx y) = w (r.idx y)
  exact View.read_writes_cons_unit_of_mem v _ inb w L (r.idx y) (r.idx y) h0 fun a => (Nat.zero_add _).symm

/-- A load of the one-hot scratch after its store. -/
theorem oh_load (inb : ∀ a, (![0, 0] : Fin 2 → ℕ) a + (![1024, 1024] : Fin 2 → ℕ) a ≤ S1024x1024.size a)
    (w : (Rect.unit (s := S1024x1024) ![0, 0] ![1024, 1024] inb).shape.Idx → Elt F .bf16) (L : List (View.Piece (Elt F) S1024x1024 .bf16)) (r : LoadRect S1024x1024) :
    (View.whole cc1_scratch0).readCov (⟨Rect.unit (s := S1024x1024) ![0, 0] ![1024, 1024] inb, w⟩ :: L) r = cut r w :=
  readCov_cut (View.whole cc1_scratch0) (by decide) inb w L r

/-- The whole block of weight rows. -/
theorem cut_hw (inb : ∀ a, (![0, 0] : Fin 2 → ℕ) a + (![1024, 768] : Fin 2 → ℕ) a ≤ S1024x768.size a) (x : S1024x768.Idx → Elt F .f32) :
    cut (Rect.unit (s := S1024x768) ![0, 0] ![1024, 768] inb).toLoadRect x = x := by
  funext y
  refine congrArg x (funext fun a => Fin.ext ?_)
  match a with
  | ⟨0, _⟩ => show 0 + 1 * (y 0).val = (y 0).val; omega
  | ⟨1, _⟩ => show 0 + 1 * (y 1).val = (y 1).val; omega

/-- Four tiles of 256 columns side by side. -/
def joinTiles {α : Type} (p0 p1 p2 p3 : S1x1024x256.Idx → α) : S1024x1024.Idx → α := fun y =>
  if h0 : (y 1).val < 256 then p0 (ix3 0 (y 0) ⟨(y 1).val, h0⟩)
  else if h1 : (y 1).val < 512 then p1 (ix3 0 (y 0) ⟨(y 1).val - 256, by omega⟩)
  else if h2 : (y 1).val < 768 then p2 (ix3 0 (y 0) ⟨(y 1).val - 512, by omega⟩)
  else p3 (ix3 0 (y 0) ⟨(y 1).val - 768, by have : (y 1).val < 1024 := (y 1).isLt; omega⟩)

theorem joinTiles_ix2 {α : Type} (p0 p1 p2 p3 : S1x1024x256.Idx → α) (r q : Fin 1024) : joinTiles p0 p1 p2 p3 (ix2 r q) =
    if h0 : q.val < 256 then p0 (ix3 0 r ⟨q.val, h0⟩)
    else if h1 : q.val < 512 then p1 (ix3 0 r ⟨q.val - 256, by omega⟩)
    else if h2 : q.val < 768 then p2 (ix3 0 r ⟨q.val - 512, by omega⟩)
    else p3 (ix3 0 r ⟨q.val - 768, by omega⟩) := rfl

theorem joinTiles_congr {α : Type} {p0 p1 p2 p3 q0 q1 q2 q3 : S1x1024x256.Idx → α} (h0 : p0 = q0) (h1 : p1 = q1) (h2 : p2 = q2)
    (h3 : p3 = q3) : joinTiles p0 p1 p2 p3 = joinTiles q0 q1 q2 q3 := by rw [h0, h1, h2, h3]

theorem tile_inb (b : Fin 4) (j : Fin 4) : ∀ a, (![b.val, 0, 256 * j.val] : Fin 3 → ℕ) a + S1x1024x256.size a ≤ S4x1024x1024.size a := by
  have := b.isLt; have := j.isLt; intro a; fin_cases a
  · show b.val + 1 ≤ 4; omega
  · show 0 + 1024 ≤ 1024; omega
  · show 256 * j.val + 256 ≤ 1024; omega
/-- Where tile `j` of slot `b` lies in the scratch. -/
abbrev tileR (b j : Fin 4) : Rect S4x1024x1024 := Rect.unit (s := S4x1024x1024) ![b.val, 0, 256 * j.val] S1x1024x256.size (tile_inb b j)

/-- A slot, after its four tiles were stored, holds them side by side. -/
theorem slot_read (b : Fin 4) (g : obM.view.ty.Contents (Elt F)) (p0 p1 p2 p3 : S1x1024x256.Idx → Elt F .f32) :
    (slotM b).view.read (Elt F) (View.write (Elt F) (obM.access (tileR b 3)) (View.write (Elt F) (obM.access (tileR b 2))
      (View.write (Elt F) (obM.access (tileR b 1)) (View.write (Elt F) (obM.access (tileR b 0)) g p0 Finset.univ) p1 Finset.univ)
      p2 Finset.univ) p3 Finset.univ) = joinTiles p0 p1 p2 p3 := by
  funext y
  obtain ⟨r, q, rfl⟩ : ∃ (r : Fin 1024) (q : Fin 1024), y = ix2 r q := ⟨y 0, y 1, eq_ix2 y⟩
  have hb := b.isLt
  have hq := q.isLt
  unfold slotM
  rw [Memref.read_squeeze_slice obM _ _ _ (show S1x1024x1024.ShapeCasts S1024x1024 by decide), shapeCast_1ab_ab_apply]
  show obM.view.read (Elt F) (obM.view.writes (Elt F) g [⟨tileR b 3, p3⟩, ⟨tileR b 2, p2⟩, ⟨tileR b 1, p1⟩, ⟨tileR b 0, p0⟩]) _ = _
  have e : ∀ h, (Rect.unit (s := S4x1024x1024) (slotOff b) S1x1024x1024.size h).toLoadRect.idx (ix3 0 r q) = ix3 b r q := fun h => by
    funext a; apply Fin.ext
    match a with
    | ⟨0, _⟩ => show b.val + 1 * 0 = b.val; omega
    | ⟨1, _⟩ => show 0 + 1 * r.val = r.val; omega
    | ⟨2, _⟩ => show 0 + 1 * q.val = q.val; omega
  rw [e]
  have miss : ∀ (j : Fin 4) (w : S1x1024x256.Idx → Elt F .f32) (L : List (View.Piece (Elt F) S4x1024x1024 .f32)),
      (q.val < 256 * j.val ∨ 256 * j.val + 256 ≤ q.val) →
      obM.view.read (Elt F) (obM.view.writes (Elt F) g (⟨tileR b j, w⟩ :: L)) (ix3 b r q)
        = obM.view.read (Elt F) (obM.view.writes (Elt F) g L) (ix3 b r q) := fun j w L h =>
    View.read_writes_cons_unit_of_not_mem obM.view g _ w L (ix3 b r q) rfl 2 h
  have hit : ∀ (j : Fin 4) (w : S1x1024x256.Idx → Elt F .f32) (L : List (View.Piece (Elt F) S4x1024x1024 .f32)) (x : Fin 256),
      q.val = 256 * j.val + x.val →
      obM.view.read (Elt F) (obM.view.writes (Elt F) g (⟨tileR b j, w⟩ :: L)) (ix3 b r q) = w (ix3 0 r x) := fun j w L x h =>
    View.read_writes_cons_unit_of_mem obM.view g _ w L (ix3 b r q) (ix3 0 r x) rfl fun a => by
      match a with
      | ⟨0, _⟩ => show b.val = b.val + 0; omega
      | ⟨1, _⟩ => show r.val = 0 + r.val; omega
      | ⟨2, _⟩ => exact h
  rw [joinTiles_ix2]
  split
  · rw [miss 3 p3 _ (Or.inl (by show q.val < 768; omega)), miss 2 p2 _ (Or.inl (by show q.val < 512; omega)),
      miss 1 p1 _ (Or.inl (by show q.val < 256; omega)), hit 0 p0 _ ⟨q.val, by omega⟩ (by show q.val = 0 + q.val; omega)]
  split
  · rw [miss 3 p3 _ (Or.inl (by show q.val < 768; omega)), miss 2 p2 _ (Or.inl (by show q.val < 512; omega)),
      hit 1 p1 _ ⟨q.val - 256, by omega⟩ (by show q.val = 256 + (q.val - 256); omega)]
  split
  · rw [miss 3 p3 _ (Or.inl (by show q.val < 768; omega)), hit 2 p2 _ ⟨q.val - 512, by omega⟩ (by show q.val = 512 + (q.val - 512); omega)]
  · rw [hit 3 p3 _ ⟨q.val - 768, by omega⟩ (by show q.val = 768 + (q.val - 768); omega)]

/-! ## The block of one batch -/

theorem id_inb (b : Fin 4) : ∀ a, (![b.val, 0, 0] : Fin 3 → ℕ) a + S1x1x1024.size a ≤ S4x1x1024.size a := by
  have := b.isLt; intro a; fin_cases a
  · show b.val + 1 ≤ 4; omega
  · show 0 + 1 ≤ 1; omega
  · show 0 + 1024 ≤ 1024; omega
theorem x_inb (b j : Fin 4) : ∀ a, (![b.val, 256 * j.val, 0] : Fin 3 → ℕ) a + S1x256x768.size a ≤ S4x1024x768.size a := by
  have := b.isLt; have := j.isLt; intro a; fin_cases a
  · show b.val + 1 ≤ 4; omega
  · show 256 * j.val + 256 ≤ 1024; omega
  · show 0 + 768 ≤ 768; omega
theorem c_inb (b j : Fin 4) {k : ℕ} (hk : k ≤ 1024) : ∀ a, (![b.val, 256 * j.val, 0] : Fin 3 → ℕ) a + (![1, 256, k] : Fin 3 → ℕ) a ≤ S4x1024x1024.size a := by
  have := b.isLt; have := j.isLt; intro a; fin_cases a
  · show b.val + 1 ≤ 4; omega
  · show 256 * j.val + 256 ≤ 1024; omega
  · show 0 + k ≤ 1024; omega
theorem oh_inb {k : ℕ} (hk : k ≤ 1024) : ∀ a, (![0, 0] : Fin 2 → ℕ) a + (![1024, k] : Fin 2 → ℕ) a ≤ S1024x1024.size a := by
  intro a; fin_cases a
  · show 0 + 1024 ≤ 1024; omega
  · show 0 + k ≤ 1024; omega

/-- Batch `b`'s token ids. -/
abbrev idOf (x0 : Vec F S4x1x1024 .i32) (b : Fin 4) : Vec F S1x1x1024 .i32 :=
  cut (Rect.unit (s := S4x1x1024) ![b.val, 0, 0] S1x1x1024.size (id_inb b)).toLoadRect x0
/-- Positions `256 j …` of batch `b`'s activations. -/
abbrev xOf (x1 : Vec F S4x1024x768 .bf16) (b j : Fin 4) : Vec F S1x256x768 .bf16 :=
  cut (Rect.unit (s := S4x1024x768) ![b.val, 256 * j.val, 0] S1x256x768.size (x_inb b j)).toLoadRect x1
/-- The scores of positions `256 j …` of batch `b` against the first `k` positions. -/
abbrev cOf (x2 : Vec F S4x1024x1024 .bf16) (b j : Fin 4) {k : ℕ} (hk : k ≤ 1024) : (⟨3, ![1, 256, k]⟩ : Shape).Idx → Elt F .bf16 :=
  cut (Rect.unit (s := S4x1024x1024) ![b.val, 256 * j.val, 0] ![1, 256, k] (c_inb b j hk)).toLoadRect x2
/-- The first `k` columns of the one-hot rows. -/
abbrev ohOf (oh : Vec F S1024x1024 .bf16) {k : ℕ} (hk : k ≤ 1024) : (⟨2, ![1024, k]⟩ : Shape).Idx → Elt F .bf16 :=
  cut (Rect.unit (s := S1024x1024) ![0, 0] ![1024, k] (oh_inb hk)).toLoadRect oh

/-- The block batch `b` gets at grid point `i`. -/
def blk (i : grid1.Coords) (x0 : Vec F S4x1x1024 .i32) (x1 : Vec F S4x1024x768 .bf16) (x2 : Vec F S4x1024x1024 .bf16)
    (x3 : Vec F S1024x768 .f32) (b : Fin 4) : Vec F S1024x1024 .f32 :=
  joinTiles
    (k1_pay20 (k1_pay2 x3) (xOf x1 b 0) (ohOf (k1_pay4 i (idOf x0 b)) (k := 256) (by omega)) (cOf x2 b 0 (k := 256) (by omega)))
    (k1_pay6 (k1_pay2 x3) (xOf x1 b 1) (ohOf (k1_pay4 i (idOf x0 b)) (k := 512) (by omega)) (cOf x2 b 1 (k := 512) (by omega)))
    (k1_pay7 (k1_pay2 x3) (xOf x1 b 2) (ohOf (k1_pay4 i (idOf x0 b)) (k := 768) (by omega)) (cOf x2 b 2 (k := 768) (by omega)))
    (k1_pay17 (k1_pay2 x3) (xOf x1 b 3) (ohOf (k1_pay4 i (idOf x0 b)) (k := 1024) (by omega)) (cOf x2 b 3 (k := 1024) (by omega)))

/-! ## A tile from what was loaded -/

theorem tile_pay20 {hw hw' : FVec F S1024x768 .bf16} {x x' : Vec F S1x256x768 .bf16} {oh oh' : Vec F S1024x256 .bf16} {cb cb' : Vec F S1x256x256 .bf16}
    (h0 : hw = hw') (h1 : x = x') (h2 : oh = oh') (h3 : cb = cb') : k1_pay20 hw x oh cb = k1_pay20 hw' x' oh' cb' := by
  rw [h0, h1, h2, h3]
theorem tile_pay6 {hw hw' : FVec F S1024x768 .bf16} {x x' : Vec F S1x256x768 .bf16} {oh oh' : Vec F S1024x512 .bf16} {cb cb' : Vec F S1x256x512 .bf16}
    (h0 : hw = hw') (h1 : x = x') (h2 : oh = oh') (h3 : cb = cb') : k1_pay6 hw x oh cb = k1_pay6 hw' x' oh' cb' := by
  rw [h0, h1, h2, h3]
theorem tile_pay7 {hw hw' : FVec F S1024x768 .bf16} {x x' : Vec F S1x256x768 .bf16} {oh oh' : Vec F S1024x768 .bf16} {cb cb' : Vec F S1x256x768 .bf16}
    (h0 : hw = hw') (h1 : x = x') (h2 : oh = oh') (h3 : cb = cb') : k1_pay7 hw x oh cb = k1_pay7 hw' x' oh' cb' := by
  rw [h0, h1, h2, h3]
theorem tile_pay17 {hw hw' : FVec F S1024x768 .bf16} {x x' : Vec F S1x256x768 .bf16} {oh oh' : Vec F S1024x1024 .bf16} {cb cb' : Vec F S1x256x1024 .bf16}
    (h0 : hw = hw') (h1 : x = x') (h2 : oh = oh') (h3 : cb = cb') : k1_pay17 hw x oh cb = k1_pay17 hw' x' oh' cb' := by
  rw [h0, h1, h2, h3]

theorem tile_pay27 {hw hw' : FVec F S1024x768 .bf16} {x x' : Vec F S1x256x768 .bf16} {oh oh' : Vec F S1024x512 .bf16} {cb cb' : Vec F S1x256x512 .bf16}
    (h0 : hw = hw') (h1 : x = x') (h2 : oh = oh') (h3 : cb = cb') :
    k1_pay27 hw (k1_pay26 x) (constant S1024x256 .f32 0x00000000#32) oh cb = k1_pay6 hw' x' oh' cb' := by
  rw [h0, h1, h2, h3]; rfl
theorem tile_pay1 {hw hw' : FVec F S1024x768 .bf16} {x x' : Vec F S1x256x768 .bf16} {oh oh' : Vec F S1024x1024 .bf16} {cb cb' : Vec F S1x256x1024 .bf16}
    (h0 : hw = hw') (h1 : x = x') (h2 : oh = oh') (h3 : cb = cb') :
    k1_pay1 (k1_pay29 hw x) oh (k1_pay30 cb) (constant S1024x256 .f32 0x00000000#32) = k1_pay17 hw' x' oh' cb' := by
  rw [h0, h1, h2, h3]; rfl

theorem hw_part {M : Memref sig .tc .vmem S1024x768 .f32} (h : M.IsWhole) (x : Vec F S1024x768 .f32)
    {inb : ∀ a, (![0, 0] : Fin 2 → ℕ) a + (![1024, 768] : Fin 2 → ℕ) a ≤ S1024x768.size a} :
    k1_pay2 (View.readAt (Elt F) M.view (Rect.unit (s := S1024x768) ![0, 0] ![1024, 768] inb).toLoadRect (h.unread x)) = k1_pay2 x :=
  congrArg k1_pay2 ((readAt_unread h _ x).trans (cut_hw inb x))

theorem oh_part {i : grid1.Coords} {v6 : Vec F S1x1x1024 .i32} {x0 : Vec F S4x1x1024 .i32} {b : Fin 4} {k : ℕ} {hk : k ≤ 1024}
    {inb : ∀ a, (![0, 0] : Fin 2 → ℕ) a + (![1024, 1024] : Fin 2 → ℕ) a ≤ S1024x1024.size a}
    {w : (Rect.unit (s := S1024x1024) ![0, 0] ![1024, 1024] inb).shape.Idx → Elt F .bf16} {L : List (View.Piece (Elt F) S1024x1024 .bf16)}
    {inb' : ∀ a, (![0, 0] : Fin 2 → ℕ) a + (![1024, k] : Fin 2 → ℕ) a ≤ S1024x1024.size a}
    (e : v6 = idOf x0 b) (hw : w = k1_pay4 i v6) :
    (View.whole cc1_scratch0).readCov (⟨Rect.unit (s := S1024x1024) ![0, 0] ![1024, 1024] inb, w⟩ :: L) (Rect.unit (s := S1024x1024) ![0, 0] ![1024, k] inb').toLoadRect
      = ohOf (k1_pay4 i (idOf x0 b)) (k := k) hk :=
  (oh_load inb w L _).trans (by rw [hw, e])

end Cert.KernelIdeal.Run

end
-- ==== Proof.TailRun.lean ====
/-
  The last vocabulary rows' kernel: what its one grid point leaves in the output staging buffer, and the body's triple.
-/
module

public import proofs.«01_k».proof.Proof.MainValue
public import Idealize.ShloMosaic.Lib.Pipeline.FrameBody
public import Idealize.ShloMosaic.Lib.Pipeline.TalkSched

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

/-- The one-hot scratch. -/
abbrev ohM2 : Memref sig .tc .vmem S1024x1024 .bf16 := Memref.whole cc2_scratch0

/-- Sixteen tiles, one per batch and quarter of the positions. -/
def joinTail {α : Type} (p : Fin 4 → Fin 4 → S1024x1x256.Idx → α) : S1024x4x1024.Idx → α := fun y =>
  p (y 1) ⟨(y 2).val / 256, by have : (y 2).val < 1024 := (y 2).isLt; omega⟩ (ix3 (y 0) 0 ⟨(y 2).val % 256, Nat.mod_lt _ (by omega)⟩)

/-- The tile of batch `b` and quarter `j`. -/
def tailTile (x0 : Vec F S4x1x1024 .i32) (x1 : Vec F S4x1024x768 .bf16) (x2 : Vec F S4x1024x1024 .bf16) (x3 : Vec F S1024x768 .f32)
    (b j : Fin 4) : S1024x1x256.Idx → Elt F .f32 := match j with
  | 0 => k2_pay13 (k2_pay2 x3) (xOf x1 b 0) (ohOf (k2_pay12 k2_pay3 (idOf x0 b)) (k := 256) (by omega)) (cOf x2 b 0 (k := 256) (by omega))
  | 1 => k2_pay15 (k2_pay14 (k2_pay2 x3) (xOf x1 b 1)) (ohOf (k2_pay12 k2_pay3 (idOf x0 b)) (k := 512) (by omega)) (cOf x2 b 1 (k := 512) (by omega))
  | 2 => k2_pay16 (k2_pay2 x3) (xOf x1 b 2) (ohOf (k2_pay12 k2_pay3 (idOf x0 b)) (k := 768) (by omega)) (cOf x2 b 2 (k := 768) (by omega))
  | 3 => k2_pay18 (k2_pay17 (k2_pay2 x3) (xOf x1 b 3) (ohOf (k2_pay12 k2_pay3 (idOf x0 b)) (k := 1024) (by omega)) (cOf x2 b 3 (k := 1024) (by omega)))

/-- What the tail's grid point computes from the staged inputs. -/
def tailBlk (x0 : Vec F S4x1x1024 .i32) (x1 : Vec F S4x1024x768 .bf16) (x2 : Vec F S4x1024x1024 .bf16) (x3 : Vec F S1024x768 .f32) :
    Vec F S1024x4x1024 .f32 := joinTail (tailTile x0 x1 x2 x3)

section
variable {sp : Space} (v : View sig .tc sp S1024x4x1024 .f32) (g : v.ty.Contents (Elt F))

theorem tail_miss {b o : ℕ} {inb : ∀ a, (![0, b, o] : Fin 3 → ℕ) a + (![1024, 1, 256] : Fin 3 → ℕ) a ≤ S1024x4x1024.size a}
    (w : S1024x1x256.Idx → Elt F .f32) (L : List (View.Piece (Elt F) S1024x4x1024 .f32)) (r : Fin 1024) (b' : Fin 4) (q : Fin 1024)
    (h : b'.val ≠ b ∨ q.val < o ∨ o + 256 ≤ q.val) :
    v.read (Elt F) (v.writes (Elt F) g (⟨Rect.unit (s := S1024x4x1024) ![0, b, o] ![1024, 1, 256] inb, w⟩ :: L)) (ix3 r b' q)
      = v.read (Elt F) (v.writes (Elt F) g L) (ix3 r b' q) := by
  rcases h with h | h | h
  · refine View.read_writes_cons_unit_of_not_mem v g inb w L (ix3 r b' q) rfl 1 ?_
    show b'.val < b ∨ b + 1 ≤ b'.val
    omega
  · exact View.read_writes_cons_unit_of_not_mem v g inb w L (ix3 r b' q) rfl 2 (Or.inl h)
  · exact View.read_writes_cons_unit_of_not_mem v g inb w L (ix3 r b' q) rfl 2 (Or.inr h)

theorem tail_hit {b o : ℕ} {inb : ∀ a, (![0, b, o] : Fin 3 → ℕ) a + (![1024, 1, 256] : Fin 3 → ℕ) a ≤ S1024x4x1024.size a}
    (w : S1024x1x256.Idx → Elt F .f32) (L : List (View.Piece (Elt F) S1024x4x1024 .f32)) (r : Fin 1024) (b' : Fin 4) (q : Fin 1024)
    (q' : Fin 256) (hb : b'.val = b) (hq : q.val = o + q'.val) :
    v.read (Elt F) (v.writes (Elt F) g (⟨Rect.unit (s := S1024x4x1024) ![0, b, o] ![1024, 1, 256] inb, w⟩ :: L)) (ix3 r b' q) = w (ix3 r 0 q') :=
  View.read_writes_cons_unit_of_mem v g inb w L (ix3 r b' q) (ix3 r 0 q') rfl fun a => by
    match a with
    | ⟨0, _⟩ => show r.val = 0 + r.val; omega
    | ⟨1, _⟩ => exact hb
    | ⟨2, _⟩ => exact hq
end

/-- A tile's elements in the joined block. -/
theorem joinTail_at {α : Type} (P : Fin 4 → Fin 4 → S1024x1x256.Idx → α) (r : Fin 1024) (b j : Fin 4) (q : Fin 1024) (q' : Fin 256)
    (h : q.val = 256 * j.val + q'.val) : joinTail P (ix3 r b q) = P b j (ix3 r 0 q') := by
  have e1 : (⟨q.val / 256, by have := q.isLt; omega⟩ : Fin 4) = j := Fin.ext (by show q.val / 256 = j.val; omega)
  have e2 : (⟨q.val % 256, Nat.mod_lt _ (by omega)⟩ : Fin 256) = q' := Fin.ext (by show q.val % 256 = q'.val; omega)
  show P b ⟨q.val / 256, _⟩ (ix3 r 0 ⟨q.val % 256, _⟩) = _
  rw [e1, e2]

/-- What the sixteen stores leave. -/
theorem tail_read {sp : Space} (v : View sig .tc sp S1024x4x1024 .f32) (g : v.ty.Contents (Elt F)) (P : Fin 4 → Fin 4 → S1024x1x256.Idx → Elt F .f32)
    {p00 p01 p02 p03 p10 p11 p12 p13 p20 p21 p22 p23 p30 p31 p32 p33 : S1024x1x256.Idx → Elt F .f32}
    (e00 : p00 = P 0 0) (e01 : p01 = P 0 1) (e02 : p02 = P 0 2) (e03 : p03 = P 0 3) (e10 : p10 = P 1 0) (e11 : p11 = P 1 1) (e12 : p12 = P 1 2) (e13 : p13 = P 1 3) (e20 : p20 = P 2 0) (e21 : p21 = P 2 1) (e22 : p22 = P 2 2) (e23 : p23 = P 2 3) (e30 : p30 = P 3 0) (e31 : p31 = P 3 1) (e32 : p32 = P 3 2) (e33 : p33 = P 3 3) :
    v.read (Elt F) (v.writes (Elt F) g
      [⟨Rect.unit (s := S1024x4x1024) ![0, 3, 768] S1024x1x256.size inb_S1024x4x1024_S1024x1x256_0_3_768, p33⟩,
       ⟨Rect.unit (s := S1024x4x1024) ![0, 3, 512] S1024x1x256.size inb_S1024x4x1024_S1024x1x256_0_3_512, p32⟩,
       ⟨Rect.unit (s := S1024x4x1024) ![0, 3, 256] S1024x1x256.size inb_S1024x4x1024_S1024x1x256_0_3_256, p31⟩,
       ⟨Rect.unit (s := S1024x4x1024) ![0, 3, 0] S1024x1x256.size inb_S1024x4x1024_S1024x1x256_0_3_0, p30⟩,
       ⟨Rect.unit (s := S1024x4x1024) ![0, 2, 768] S1024x1x256.size inb_S1024x4x1024_S1024x1x256_0_2_768, p23⟩,
       ⟨Rect.unit (s := S1024x4x1024) ![0, 2, 512] S1024x1x256.size inb_S1024x4x1024_S1024x1x256_0_2_512, p22⟩,
       ⟨Rect.unit (s := S1024x4x1024) ![0, 2, 256] S1024x1x256.size inb_S1024x4x1024_S1024x1x256_0_2_256, p21⟩,
       ⟨Rect.unit (s := S1024x4x1024) ![0, 2, 0] S1024x1x256.size inb_S1024x4x1024_S1024x1x256_0_2_0, p20⟩,
       ⟨Rect.unit (s := S1024x4x1024) ![0, 1, 768] S1024x1x256.size inb_S1024x4x1024_S1024x1x256_0_1_768, p13⟩,
       ⟨Rect.unit (s := S1024x4x1024) ![0, 1, 512] S1024x1x256.size inb_S1024x4x1024_S1024x1x256_0_1_512, p12⟩,
       ⟨Rect.unit (s := S1024x4x1024) ![0, 1, 256] S1024x1x256.size inb_S1024x4x1024_S1024x1x256_0_1_256, p11⟩,
       ⟨Rect.unit (s := S1024x4x1024) ![0, 1, 0] S1024x1x256.size inb_S1024x4x1024_S1024x1x256_0_1_0, p10⟩,
       ⟨Rect.unit (s := S1024x4x1024) ![0, 0, 768] S1024x1x256.size inb_S1024x4x1024_S1024x1x256_0_0_768, p03⟩,
       ⟨Rect.unit (s := S1024x4x1024) ![0, 0, 512] S1024x1x256.size inb_S1024x4x1024_S1024x1x256_0_0_512, p02⟩,
       ⟨Rect.unit (s := S1024x4x1024) ![0, 0, 256] S1024x1x256.size inb_S1024x4x1024_S1024x1x256_0_0_256, p01⟩,
       ⟨Rect.unit (s := S1024x4x1024) ![0, 0, 0] S1024x1x256.size inb_S1024x4x1024_S1024x1x256_0_0_0, p00⟩]) = joinTail P := by
  funext y
  obtain ⟨r, b, q, rfl⟩ : ∃ (r : Fin 1024) (b : Fin 4) (q : Fin 1024), y = ix3 r b q := ⟨y 0, y 1, y 2, eq_ix3 y⟩
  have hq := q.isLt
  obtain ⟨j, q', h⟩ : ∃ (j : Fin 4) (q' : Fin 256), q.val = 256 * j.val + q'.val :=
    ⟨⟨q.val / 256, by omega⟩, ⟨q.val % 256, Nat.mod_lt _ (by omega)⟩, by show q.val = 256 * (q.val / 256) + q.val % 256; omega⟩
  have hq' := q'.isLt
  rw [joinTail_at P r b j q q' h]
  match b, j, h with
  | 0, 0, h =>
    have h : q.val = 0 + q'.val := h
    refine (tail_miss v g (b := 3) (o := 768) p33 _ r 0 q (Or.inl (by decide))).trans ?_
    refine (tail_miss v g (b := 3) (o := 512) p32 _ r 0 q (Or.inl (by decide))).trans ?_
    refine (tail_miss v g (b := 3) (o := 256) p31 _ r 0 q (Or.inl (by decide))).trans ?_
    refine (tail_miss v g (b := 3) (o := 0) p30 _ r 0 q (Or.inl (by decide))).trans ?_
    refine (tail_miss v g (b := 2) (o := 768) p23 _ r 0 q (Or.inl (by decide))).trans ?_
    refine (tail_miss v g (b := 2) (o := 512) p22 _ r 0 q (Or.inl (by decide))).trans ?_
    refine (tail_miss v g (b := 2) (o := 256) p21 _ r 0 q (Or.inl (by decide))).trans ?_
    refine (tail_miss v g (b := 2) (o := 0) p20 _ r 0 q (Or.inl (by decide))).trans ?_
    refine (tail_miss v g (b := 1) (o := 768) p13 _ r 0 q (Or.inl (by decide))).trans ?_
    refine (tail_miss v g (b := 1) (o := 512) p12 _ r 0 q (Or.inl (by decide))).trans ?_
    refine (tail_miss v g (b := 1) (o := 256) p11 _ r 0 q (Or.inl (by decide))).trans ?_
    refine (tail_miss v g (b := 1) (o := 0) p10 _ r 0 q (Or.inl (by decide))).trans ?_
    refine (tail_miss v g (b := 0) (o := 768) p03 _ r 0 q (by omega)).trans ?_
    refine (tail_miss v g (b := 0) (o := 512) p02 _ r 0 q (by omega)).trans ?_
    refine (tail_miss v g (b := 0) (o := 256) p01 _ r 0 q (by omega)).trans ?_
    exact (tail_hit v g (b := 0) (o := 0) p00 _ r 0 q q' rfl h).trans (congrFun e00 _)
  | 0, 1, h =>
    have h : q.val = 256 + q'.val := h
    refine (tail_miss v g (b := 3) (o := 768) p33 _ r 0 q (Or.inl (by decide))).trans ?_
    refine (tail_miss v g (b := 3) (o := 512) p32 _ r 0 q (Or.inl (by decide))).trans ?_
    refine (tail_miss v g (b := 3) (o := 256) p31 _ r 0 q (Or.inl (by decide))).trans ?_
    refine (tail_miss v g (b := 3) (o := 0) p30 _ r 0 q (Or.inl (by decide))).trans ?_
    refine (tail_miss v g (b := 2) (o := 768) p23 _ r 0 q (Or.inl (by decide))).trans ?_
    refine (tail_miss v g (b := 2) (o := 512) p22 _ r 0 q (Or.inl (by decide))).trans ?_
    refine (tail_miss v g (b := 2) (o := 256) p21 _ r 0 q (Or.inl (by decide))).trans ?_
    refine (tail_miss v g (b := 2) (o := 0) p20 _ r 0 q (Or.inl (by decide))).trans ?_
    refine (tail_miss v g (b := 1) (o := 768) p13 _ r 0 q (Or.inl (by decide))).trans ?_
    refine (tail_miss v g (b := 1) (o := 512) p12 _ r 0 q (Or.inl (by decide))).trans ?_
    refine (tail_miss v g (b := 1) (o := 256) p11 _ r 0 q (Or.inl (by decide))).trans ?_
    refine (tail_miss v g (b := 1) (o := 0) p10 _ r 0 q (Or.inl (by decide))).trans ?_
    refine (tail_miss v g (b := 0) (o := 768) p03 _ r 0 q (by omega)).trans ?_
    refine (tail_miss v g (b := 0) (o := 512) p02 _ r 0 q (by omega)).trans ?_
    exact (tail_hit v g (b := 0) (o := 256) p01 _ r 0 q q' rfl h).trans (congrFun e01 _)
  | 0, 2, h =>
    have h : q.val = 512 + q'.val := h
    refine (tail_miss v g (b := 3) (o := 768) p33 _ r 0 q (Or.inl (by decide))).trans ?_
    refine (tail_miss v g (b := 3) (o := 512) p32 _ r 0 q (Or.inl (by decide))).trans ?_
    refine (tail_miss v g (b := 3) (o := 256) p31 _ r 0 q (Or.inl (by decide))).trans ?_
    refine (tail_miss v g (b := 3) (o := 0) p30 _ r 0 q (Or.inl (by decide))).trans ?_
    refine (tail_miss v g (b := 2) (o := 768) p23 _ r 0 q (Or.inl (by decide))).trans ?_
    refine (tail_miss v g (b := 2) (o := 512) p22 _ r 0 q (Or.inl (by decide))).trans ?_
    refine (tail_miss v g (b := 2) (o := 256) p21 _ r 0 q (Or.inl (by decide))).trans ?_
    refine (tail_miss v g (b := 2) (o := 0) p20 _ r 0 q (Or.inl (by decide))).trans ?_
    refine (tail_miss v g (b := 1) (o := 768) p13 _ r 0 q (Or.inl (by decide))).trans ?_
    refine (tail_miss v g (b := 1) (o := 512) p12 _ r 0 q (Or.inl (by decide))).trans ?_
    refine (tail_miss v g (b := 1) (o := 256) p11 _ r 0 q (Or.inl (by decide))).trans ?_
    refine (tail_miss v g (b := 1) (o := 0) p10 _ r 0 q (Or.inl (by decide))).trans ?_
    refine (tail_miss v g (b := 0) (o := 768) p03 _ r 0 q (by omega)).trans ?_
    exact (tail_hit v g (b := 0) (o := 512) p02 _ r 0 q q' rfl h).trans (congrFun e02 _)
  | 0, 3, h =>
    have h : q.val = 768 + q'.val := h
    refine (tail_miss v g (b := 3) (o := 768) p33 _ r 0 q (Or.inl (by decide))).trans ?_
    refine (tail_miss v g (b := 3) (o := 512) p32 _ r 0 q (Or.inl (by decide))).trans ?_
    refine (tail_miss v g (b := 3) (o := 256) p31 _ r 0 q (Or.inl (by decide))).trans ?_
    refine (tail_miss v g (b := 3) (o := 0) p30 _ r 0 q (Or.inl (by decide))).trans ?_
    refine (tail_miss v g (b := 2) (o := 768) p23 _ r 0 q (Or.inl (by decide))).trans ?_
    refine (tail_miss v g (b := 2) (o := 512) p22 _ r 0 q (Or.inl (by decide))).trans ?_
    refine (tail_miss v g (b := 2) (o := 256) p21 _ r 0 q (Or.inl (by decide))).trans ?_
    refine (tail_miss v g (b := 2) (o := 0) p20 _ r 0 q (Or.inl (by decide))).trans ?_
    refine (tail_miss v g (b := 1) (o := 768) p13 _ r 0 q (Or.inl (by decide))).trans ?_
    refine (tail_miss v g (b := 1) (o := 512) p12 _ r 0 q (Or.inl (by decide))).trans ?_
    refine (tail_miss v g (b := 1) (o := 256) p11 _ r 0 q (Or.inl (by decide))).trans ?_
    refine (tail_miss v g (b := 1) (o := 0) p10 _ r 0 q (Or.inl (by decide))).trans ?_
    exact (tail_hit v g (b := 0) (o := 768) p03 _ r 0 q q' rfl h).trans (congrFun e03 _)
  | 1, 0, h =>
    have h : q.val = 0 + q'.val := h
    refine (tail_miss v g (b := 3) (o := 768) p33 _ r 1 q (Or.inl (by decide))).trans ?_
    refine (tail_miss v g (b := 3) (o := 512) p32 _ r 1 q (Or.inl (by decide))).trans ?_
    refine (tail_miss v g (b := 3) (o := 256) p31 _ r 1 q (Or.inl (by decide))).trans ?_
    refine (tail_miss v g (b := 3) (o := 0) p30 _ r 1 q (Or.inl (by decide))).trans ?_
    refine (tail_miss v g (b := 2) (o := 768) p23 _ r 1 q (Or.inl (by decide))).trans ?_
    refine (tail_miss v g (b := 2) (o := 512) p22 _ r 1 q (Or.inl (by decide))).trans ?_
    refine (tail_miss v g (b := 2) (o := 256) p21 _ r 1 q (Or.inl (by decide))).trans ?_
    refine (tail_miss v g (b := 2) (o := 0) p20 _ r 1 q (Or.inl (by decide))).trans ?_
    refine (tail_miss v g (b := 1) (o := 768) p13 _ r 1 q (by omega)).trans ?_
    refine (tail_miss v g (b := 1) (o := 512) p12 _ r 1 q (by omega)).trans ?_
    refine (tail_miss v g (b := 1) (o := 256) p11 _ r 1 q (by omega)).trans ?_
    exact (tail_hit v g (b := 1) (o := 0) p10 _ r 1 q q' rfl h).trans (congrFun e10 _)
  | 1, 1, h =>
    have h : q.val = 256 + q'.val := h
    refine (tail_miss v g (b := 3) (o := 768) p33 _ r 1 q (Or.inl (by decide))).trans ?_
    refine (tail_miss v g (b := 3) (o := 512) p32 _ r 1 q (Or.inl (by decide))).trans ?_
    refine (tail_miss v g (b := 3) (o := 256) p31 _ r 1 q (Or.inl (by decide))).trans ?_
    refine (tail_miss v g (b := 3) (o := 0) p30 _ r 1 q (Or.inl (by decide))).trans ?_
    refine (tail_miss v g (b := 2) (o := 768) p23 _ r 1 q (Or.inl (by decide))).trans ?_
    refine (tail_miss v g (b := 2) (o := 512) p22 _ r 1 q (Or.inl (by decide))).trans ?_
    refine (tail_miss v g (b := 2) (o := 256) p21 _ r 1 q (Or.inl (by decide))).trans ?_
    refine (tail_miss v g (b := 2) (o := 0) p20 _ r 1 q (Or.inl (by decide))).trans ?_
    refine (tail_miss v g (b := 1) (o := 768) p13 _ r 1 q (by omega)).trans ?_
    refine (tail_miss v g (b := 1) (o := 512) p12 _ r 1 q (by omega)).trans ?_
    exact (tail_hit v g (b := 1) (o := 256) p11 _ r 1 q q' rfl h).trans (congrFun e11 _)
  | 1, 2, h =>
    have h : q.val = 512 + q'.val := h
    refine (tail_miss v g (b := 3) (o := 768) p33 _ r 1 q (Or.inl (by decide))).trans ?_
    refine (tail_miss v g (b := 3) (o := 512) p32 _ r 1 q (Or.inl (by decide))).trans ?_
    refine (tail_miss v g (b := 3) (o := 256) p31 _ r 1 q (Or.inl (by decide))).trans ?_
    refine (tail_miss v g (b := 3) (o := 0) p30 _ r 1 q (Or.inl (by decide))).trans ?_
    refine (tail_miss v g (b := 2) (o := 768) p23 _ r 1 q (Or.inl (by decide))).trans ?_
    refine (tail_miss v g (b := 2) (o := 512) p22 _ r 1 q (Or.inl (by decide))).trans ?_
    refine (tail_miss v g (b := 2) (o := 256) p21 _ r 1 q (Or.inl (by decide))).trans ?_
    refine (tail_miss v g (b := 2) (o := 0) p20 _ r 1 q (Or.inl (by decide))).trans ?_
    refine (tail_miss v g (b := 1) (o := 768) p13 _ r 1 q (by omega)).trans ?_
    exact (tail_hit v g (b := 1) (o := 512) p12 _ r 1 q q' rfl h).trans (congrFun e12 _)
  | 1, 3, h =>
    have h : q.val = 768 + q'.val := h
    refine (tail_miss v g (b := 3) (o := 768) p33 _ r 1 q (Or.inl (by decide))).trans ?_
    refine (tail_miss v g (b := 3) (o := 512) p32 _ r 1 q (Or.inl (by decide))).trans ?_
    refine (tail_miss v g (b := 3) (o := 256) p31 _ r 1 q (Or.inl (by decide))).trans ?_
    refine (tail_miss v g (b := 3) (o := 0) p30 _ r 1 q (Or.inl (by decide))).trans ?_
    refine (tail_miss v g (b := 2) (o := 768) p23 _ r 1 q (Or.inl (by decide))).trans ?_
    refine (tail_miss v g (b := 2) (o := 512) p22 _ r 1 q (Or.inl (by decide))).trans ?_
    refine (tail_miss v g (b := 2) (o := 256) p21 _ r 1 q (Or.inl (by decide))).trans ?_
    refine (tail_miss v g (b := 2) (o := 0) p20 _ r 1 q (Or.inl (by decide))).trans ?_
    exact (tail_hit v g (b := 1) (o := 768) p13 _ r 1 q q' rfl h).trans (congrFun e13 _)
  | 2, 0, h =>
    have h : q.val = 0 + q'.val := h
    refine (tail_miss v g (b := 3) (o := 768) p33 _ r 2 q (Or.inl (by decide))).trans ?_
    refine (tail_miss v g (b := 3) (o := 512) p32 _ r 2 q (Or.inl (by decide))).trans ?_
    refine (tail_miss v g (b := 3) (o := 256) p31 _ r 2 q (Or.inl (by decide))).trans ?_
    refine (tail_miss v g (b := 3) (o := 0) p30 _ r 2 q (Or.inl (by decide))).trans ?_
    refine (tail_miss v g (b := 2) (o := 768) p23 _ r 2 q (by omega)).trans ?_
    refine (tail_miss v g (b := 2) (o := 512) p22 _ r 2 q (by omega)).trans ?_
    refine (tail_miss v g (b := 2) (o := 256) p21 _ r 2 q (by omega)).trans ?_
    exact (tail_hit v g (b := 2) (o := 0) p20 _ r 2 q q' rfl h).trans (congrFun e20 _)
  | 2, 1, h =>
    have h : q.val = 256 + q'.val := h
    refine (tail_miss v g (b := 3) (o := 768) p33 _ r 2 q (Or.inl (by decide))).trans ?_
    refine (tail_miss v g (b := 3) (o := 512) p32 _ r 2 q (Or.inl (by decide))).trans ?_
    refine (tail_miss v g (b := 3) (o := 256) p31 _ r 2 q (Or.inl (by decide))).trans ?_
    refine (tail_miss v g (b := 3) (o := 0) p30 _ r 2 q (Or.inl (by decide))).trans ?_
    refine (tail_miss v g (b := 2) (o := 768) p23 _ r 2 q (by omega)).trans ?_
    refine (tail_miss v g (b := 2) (o := 512) p22 _ r 2 q (by omega)).trans ?_
    exact (tail_hit v g (b := 2) (o := 256) p21 _ r 2 q q' rfl h).trans (congrFun e21 _)
  | 2, 2, h =>
    have h : q.val = 512 + q'.val := h
    refine (tail_miss v g (b := 3) (o := 768) p33 _ r 2 q (Or.inl (by decide))).trans ?_
    refine (tail_miss v g (b := 3) (o := 512) p32 _ r 2 q (Or.inl (by decide))).trans ?_
    refine (tail_miss v g (b := 3) (o := 256) p31 _ r 2 q (Or.inl (by decide))).trans ?_
    refine (tail_miss v g (b := 3) (o := 0) p30 _ r 2 q (Or.inl (by decide))).trans ?_
    refine (tail_miss v g (b := 2) (o := 768) p23 _ r 2 q (by omega)).trans ?_
    exact (tail_hit v g (b := 2) (o := 512) p22 _ r 2 q q' rfl h).trans (congrFun e22 _)
  | 2, 3, h =>
    have h : q.val = 768 + q'.val := h
    refine (tail_miss v g (b := 3) (o := 768) p33 _ r 2 q (Or.inl (by decide))).trans ?_
    refine (tail_miss v g (b := 3) (o := 512) p32 _ r 2 q (Or.inl (by decide))).trans ?_
    refine (tail_miss v g (b := 3) (o := 256) p31 _ r 2 q (Or.inl (by decide))).trans ?_
    refine (tail_miss v g (b := 3) (o := 0) p30 _ r 2 q (Or.inl (by decide))).trans ?_
    exact (tail_hit v g (b := 2) (o := 768) p23 _ r 2 q q' rfl h).trans (congrFun e23 _)
  | 3, 0, h =>
    have h : q.val = 0 + q'.val := h
    refine (tail_miss v g (b := 3) (o := 768) p33 _ r 3 q (by omega)).trans ?_
    refine (tail_miss v g (b := 3) (o := 512) p32 _ r 3 q (by omega)).trans ?_
    refine (tail_miss v g (b := 3) (o := 256) p31 _ r 3 q (by omega)).trans ?_
    exact (tail_hit v g (b := 3) (o := 0) p30 _ r 3 q q' rfl h).trans (congrFun e30 _)
  | 3, 1, h =>
    have h : q.val = 256 + q'.val := h
    refine (tail_miss v g (b := 3) (o := 768) p33 _ r 3 q (by omega)).trans ?_
    refine (tail_miss v g (b := 3) (o := 512) p32 _ r 3 q (by omega)).trans ?_
    exact (tail_hit v g (b := 3) (o := 256) p31 _ r 3 q q' rfl h).trans (congrFun e31 _)
  | 3, 2, h =>
    have h : q.val = 512 + q'.val := h
    refine (tail_miss v g (b := 3) (o := 768) p33 _ r 3 q (by omega)).trans ?_
    exact (tail_hit v g (b := 3) (o := 512) p32 _ r 3 q q' rfl h).trans (congrFun e32 _)
  | 3, 3, h =>
    have h : q.val = 768 + q'.val := h
    exact (tail_hit v g (b := 3) (o := 768) p33 _ r 3 q q' rfl h).trans (congrFun e33 _)

theorem hw_part2 {M : Memref sig .tc .vmem S1024x768 .f32} (h : M.IsWhole) (x : Vec F S1024x768 .f32)
    {inb : ∀ a, (![0, 0] : Fin 2 → ℕ) a + (![1024, 768] : Fin 2 → ℕ) a ≤ S1024x768.size a} :
    k2_pay2 (View.readAt (Elt F) M.view (Rect.unit (s := S1024x768) ![0, 0] ![1024, 768] inb).toLoadRect (h.unread x)) = k2_pay2 x :=
  congrArg k2_pay2 ((readAt_unread h _ x).trans (cut_hw inb x))

theorem oh_part2 {v6 : Vec F S1x1x1024 .i32} {x0 : Vec F S4x1x1024 .i32} {b : Fin 4} {k : ℕ} {hk : k ≤ 1024}
    {inb : ∀ a, (![0, 0] : Fin 2 → ℕ) a + (![1024, 1024] : Fin 2 → ℕ) a ≤ S1024x1024.size a}
    {w : (Rect.unit (s := S1024x1024) ![0, 0] ![1024, 1024] inb).shape.Idx → Elt F .bf16} {L : List (View.Piece (Elt F) S1024x1024 .bf16)}
    {inb' : ∀ a, (![0, 0] : Fin 2 → ℕ) a + (![1024, k] : Fin 2 → ℕ) a ≤ S1024x1024.size a}
    (e : v6 = idOf x0 b) (hw : w = k2_pay12 k2_pay3 v6) :
    (View.whole cc2_scratch0).readCov (⟨Rect.unit (s := S1024x1024) ![0, 0] ![1024, 1024] inb, w⟩ :: L) (Rect.unit (s := S1024x1024) ![0, 0] ![1024, k] inb').toLoadRect
      = ohOf (k2_pay12 k2_pay3 (idOf x0 b)) (k := k) hk :=
  (readCov_cut (View.whole cc2_scratch0) (by decide) inb w L _).trans (by rw [hw, e])

theorem tail_tile0 {hw hw' : FVec F S1024x768 .bf16} {x x' : Vec F S1x256x768 .bf16} {oh oh' : Vec F S1024x256 .bf16} {cb cb' : Vec F S1x256x256 .bf16}
    (h0 : hw = hw') (h1 : x = x') (h2 : oh = oh') (h3 : cb = cb') : k2_pay13 hw x oh cb = k2_pay13 hw' x' oh' cb' := by
  rw [h0, h1, h2, h3]

theorem tail_tile1 {hw hw' : FVec F S1024x768 .bf16} {x x' : Vec F S1x256x768 .bf16} {oh oh' : Vec F S1024x512 .bf16} {cb cb' : Vec F S1x256x512 .bf16}
    (h0 : hw = hw') (h1 : x = x') (h2 : oh = oh') (h3 : cb = cb') : k2_pay15 (k2_pay14 hw x) oh cb = k2_pay15 (k2_pay14 hw' x') oh' cb' := by
  rw [h0, h1, h2, h3]

theorem tail_tile2 {hw hw' : FVec F S1024x768 .bf16} {x x' : Vec F S1x256x768 .bf16} {oh oh' : Vec F S1024x768 .bf16} {cb cb' : Vec F S1x256x768 .bf16}
    (h0 : hw = hw') (h1 : x = x') (h2 : oh = oh') (h3 : cb = cb') : k2_pay16 hw x oh cb = k2_pay16 hw' x' oh' cb' := by
  rw [h0, h1, h2, h3]

theorem tail_tile3 {hw hw' : FVec F S1024x768 .bf16} {x x' : Vec F S1x256x768 .bf16} {oh oh' : Vec F S1024x1024 .bf16} {cb cb' : Vec F S1x256x1024 .bf16}
    (h0 : hw = hw') (h1 : x = x') (h2 : oh = oh') (h3 : cb = cb') : k2_pay18 (k2_pay17 hw x oh cb) = k2_pay18 (k2_pay17 hw' x' oh' cb') := by
  rw [h0, h1, h2, h3]

set_option maxHeartbeats 2000000 in
/-- The body's triple: the output buffer ends at the block. -/
theorem tailRun (c : Dev nD) (i : grid2.Coords) (arg1 : Memref sig .tc .vmem S4x1x1024 .i32) (harg1 : arg1.IsWhole) (arg2 : Memref sig .tc .vmem S4x1024x768 .bf16) (harg2 : arg2.IsWhole) (arg3 : Memref sig .tc .vmem S4x1024x1024 .bf16) (harg3 : arg3.IsWhole) (arg4 : Memref sig .tc .vmem S1024x768 .f32) (harg4 : arg4.IsWhole) (arg5 : Memref sig .tc .hbm S50257x4x1024 .f32) (harg5 : arg5.IsWhole) (arg6 : Memref sig .tc .vmem S1024x4x1024 .f32) (harg6 : arg6.IsWhole)
    (x0 : Vec F S4x1x1024 .i32) (x1 : Vec F S4x1024x768 .bf16) (x2 : Vec F S4x1024x1024 .bf16) (x3 : Vec F S1024x768 .f32) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) ohM2 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (tailBlk x0 x1 x2 x3) ∗ (∃ d, owns (c : Thread nD τ) ohM2 fullShare d)) -∗ K PUnit.unit))
          ⊢ wp frame (wpE (defs₀ (F := F)) Variants.none c none) Set.univ (cc2_logits_tail i arg1 harg1 arg2 harg2 arg3 harg3 arg4 harg4 arg5 harg5 arg6 harg6 ohM2 (Memref.isWhole_whole _)) K := by
    intro K
    simp only [cc2_logits_tail_eq_skeleton]; unfold cc2_logits_tail_skel
    simp (config := { proj := false }) only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      unfold tailBlk
      refine tail_read _ _ (tailTile x0 x1 x2 x3) ?_ ?_ ?_ ?_ ?_ ?_ ?_ ?_ ?_ ?_ ?_ ?_ ?_ ?_ ?_ ?_
      · exact tail_tile0 (hw_part2 harg4 x3) (readAt_unread harg2 _ x1) (oh_part2 (b := 0) (k := 256) (readAt_unread harg1 _ x0) rfl) (readAt_unread harg3 _ x2)
      · exact tail_tile1 (hw_part2 harg4 x3) (readAt_unread harg2 _ x1) (oh_part2 (b := 0) (k := 512) (readAt_unread harg1 _ x0) rfl) (readAt_unread harg3 _ x2)
      · exact tail_tile2 (hw_part2 harg4 x3) (readAt_unread harg2 _ x1) (oh_part2 (b := 0) (k := 768) (readAt_unread harg1 _ x0) rfl) (readAt_unread harg3 _ x2)
      · exact tail_tile3 (hw_part2 harg4 x3) (readAt_unread harg2 _ x1) (oh_part2 (b := 0) (k := 1024) (readAt_unread harg1 _ x0) rfl) (readAt_unread harg3 _ x2)
      · exact tail_tile0 (hw_part2 harg4 x3) (readAt_unread harg2 _ x1) (oh_part2 (b := 1) (k := 256) (readAt_unread harg1 _ x0) rfl) (readAt_unread harg3 _ x2)
      · exact tail_tile1 (hw_part2 harg4 x3) (readAt_unread harg2 _ x1) (oh_part2 (b := 1) (k := 512) (readAt_unread harg1 _ x0) rfl) (readAt_unread harg3 _ x2)
      · exact tail_tile2 (hw_part2 harg4 x3) (readAt_unread harg2 _ x1) (oh_part2 (b := 1) (k := 768) (readAt_unread harg1 _ x0) rfl) (readAt_unread harg3 _ x2)
      · exact tail_tile3 (hw_part2 harg4 x3) (readAt_unread harg2 _ x1) (oh_part2 (b := 1) (k := 1024) (readAt_unread harg1 _ x0) rfl) (readAt_unread harg3 _ x2)
      · exact tail_tile0 (hw_part2 harg4 x3) (readAt_unread harg2 _ x1) (oh_part2 (b := 2) (k := 256) (readAt_unread harg1 _ x0) rfl) (readAt_unread harg3 _ x2)
      · exact tail_tile1 (hw_part2 harg4 x3) (readAt_unread harg2 _ x1) (oh_part2 (b := 2) (k := 512) (readAt_unread harg1 _ x0) rfl) (readAt_unread harg3 _ x2)
      · exact tail_tile2 (hw_part2 harg4 x3) (readAt_unread harg2 _ x1) (oh_part2 (b := 2) (k := 768) (readAt_unread harg1 _ x0) rfl) (readAt_unread harg3 _ x2)
      · exact tail_tile3 (hw_part2 harg4 x3) (readAt_unread harg2 _ x1) (oh_part2 (b := 2) (k := 1024) (readAt_unread harg1 _ x0) rfl) (readAt_unread harg3 _ x2)
      · exact tail_tile0 (hw_part2 harg4 x3) (readAt_unread harg2 _ x1) (oh_part2 (b := 3) (k := 256) (readAt_unread harg1 _ x0) rfl) (readAt_unread harg3 _ x2)
      · exact tail_tile1 (hw_part2 harg4 x3) (readAt_unread harg2 _ x1) (oh_part2 (b := 3) (k := 512) (readAt_unread harg1 _ x0) rfl) (readAt_unread harg3 _ x2)
      · exact tail_tile2 (hw_part2 harg4 x3) (readAt_unread harg2 _ x1) (oh_part2 (b := 3) (k := 768) (readAt_unread harg1 _ x0) rfl) (readAt_unread harg3 _ x2)
      · exact tail_tile3 (hw_part2 harg4 x3) (readAt_unread harg2 _ x1) (oh_part2 (b := 3) (k := 1024) (readAt_unread harg1 _ x0) rfl) (readAt_unread harg3 _ x2)
    iexists _, _; isplitr; swap; · iexact HS0
    ipureintro; rfl

end Cert.KernelIdeal.Run

end
-- ==== Proof.VTile.lean ====
/-
  The vocabulary kernels' tiles over the extended reals: sums of products.
-/
module

public import proofs.«01_k».proof.Proof.TailRun
public import Idealize.ShloMosaic.Lib.MatmulPlain
public import Idealize.ShloMosaic.Lib.IdealHost

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

/-! ## Sums -/

/-- A sum whose terms beyond `k` vanish. -/
theorem sum_pad {k n : ℕ} (h : k ≤ n) (f : Fin n → EReal) (hz : ∀ s : Fin n, k ≤ s.val → f s = 0) :
    ∑ s : Fin k, f ⟨s.val, by have := s.isLt; omega⟩ = ∑ s : Fin n, f s := by
  obtain ⟨d, rfl⟩ := Nat.exists_eq_add_of_le h
  rw [Fin.sum_univ_add, Finset.sum_eq_zero (s := (Finset.univ : Finset (Fin d))) (fun s _ => hz _ (by show k ≤ k + s.val; omega)), add_zero]
  rfl

/-- The zero the products accumulate into. -/
theorem zero_splat {s : Shape} (y : s.Idx) : (constant s .f32 0x00000000#32 : FVec Ideal s .f32) y = (0 : EReal) := Ideal.ofBits_zero_f32

/-- A product with the second factor's rows, into zero. -/
theorem mm_rows {M K N : ℕ} {φ₁ φ₂ : FTy} (a : FVec Ideal ⟨2, ![M, K]⟩ φ₁) (b : FVec Ideal ⟨2, ![N, K]⟩ φ₂) (r : Fin M) (q : Fin N) :
    FloatOps.matmul (DotDims.transposedRhs M K N) none a b (constant ⟨2, ![M, N]⟩ .f32 0x00000000#32) (ix2 r q)
      = (∑ e : Fin K, (a (ix2 r e) : EReal) * b (ix2 q e) : EReal) := by
  rw [Ideal.matmul_transposedRhs_apply, zero_splat, zero_add]

/-- An `[a, b]` array read as `[a, 1, b]`. -/
theorem cast_mid {α : Type} {a b : ℕ} (x : (⟨2, ![a, b]⟩ : Shape).Idx → α) (h : (⟨2, ![a, b]⟩ : Shape).ShapeCasts ⟨3, ![a, 1, b]⟩)
    (i : Fin a) (j : Fin b) : shapeCast ⟨3, ![a, 1, b]⟩ x h (ix3 i 0 j) = x (ix2 i j) :=
  shapeCast_apply x h _ _ (by
    rw [Shape.rowMajor_val_three, Shape.rowMajor_val_two]
    show i.val * b + j.val = (i.val * 1 + 0) * b + j.val
    rw [Nat.mul_one, Nat.add_zero])

/-- A tile: weights times activations plus one-hot rows times scores. -/
theorem tile_sum {k : ℕ} (hw : FVec Ideal S1024x768 .bf16) (x : FVec Ideal S1x256x768 .bf16) (oh : FVec Ideal ⟨2, ![1024, k]⟩ .bf16)
    (cb : FVec Ideal ⟨3, ![1, 256, k]⟩ .bf16) (h : S1x256x768.ShapeCasts S256x768) (h' : (⟨3, ![1, 256, k]⟩ : Shape).ShapeCasts ⟨2, ![256, k]⟩)
    (r : Fin 1024) (q : Fin 256) :
    addf (FloatOps.matmul (DotDims.transposedRhs 1024 768 256) none hw (shapeCast S256x768 x h) (constant S1024x256 .f32 0x00000000#32))
        (FloatOps.matmul (DotDims.transposedRhs 1024 k 256) none oh (shapeCast ⟨2, ![256, k]⟩ cb h') (constant S1024x256 .f32 0x00000000#32)) (ix2 r q)
      = ((∑ e : Fin 768, (hw (ix2 r e) : EReal) * x (ix3 0 q e)) + ∑ s : Fin k, (oh (ix2 r s) : EReal) * cb (ix3 0 q s) : EReal) := by
  show (_ + _ : EReal) = _
  refine congrArg₂ _ ((mm_rows hw _ r q).trans (Finset.sum_congr rfl fun e _ => ?_)) ((mm_rows oh _ r q).trans (Finset.sum_congr rfl fun s _ => ?_))
  · rw [shapeCast_1ab_ab_apply]
  · rw [shapeCast_1ab_ab_apply]

/-- A tile from the parts of the staged arrays, the scores vanishing from column `k` on. -/
theorem tile_val {k : ℕ} (hk : k ≤ 1024) (hw : FVec Ideal S1024x768 .bf16) (x1 : Vec Ideal S4x1024x768 .bf16) (oh : FVec Ideal S1024x1024 .bf16)
    (x2 : Vec Ideal S4x1024x1024 .bf16) (b j : Fin 4) (r : Fin 1024) (q : Fin 256) (p : Fin 1024) (hp : p.val = 256 * j.val + q.val)
    (hz : ∀ s : Fin 1024, k ≤ s.val → (x2 (ix3 b p s) : EReal) = 0) :
    ((∑ e : Fin 768, (hw (ix2 r e) : EReal) * xOf (F := Ideal) x1 b j (ix3 0 q e)) + ∑ s : Fin k, (ohOf (F := Ideal) oh hk (ix2 r s) : EReal) * cOf (F := Ideal) x2 b j hk (ix3 0 q s) : EReal)
      = (∑ e : Fin 768, (hw (ix2 r e) : EReal) * x1 (ix3 b p e)) + ∑ s : Fin 1024, (oh (ix2 r s) : EReal) * x2 (ix3 b p s) := by
  have ep : (⟨256 * j.val + q.val, by have := p.isLt; omega⟩ : Fin 1024) = p := Fin.ext hp.symm
  congr 1
  · refine Finset.sum_congr rfl fun e _ => congrArg _ (congrArg x1 ?_)
    funext a; apply Fin.ext
    match a with
    | ⟨0, _⟩ => show b.val + 1 * 0 = b.val; omega
    | ⟨1, _⟩ => show 256 * j.val + 1 * q.val = p.val; omega
    | ⟨2, _⟩ => show 0 + 1 * e.val = e.val; omega
  · rw [← sum_pad hk (fun s => (oh (ix2 r s) : EReal) * x2 (ix3 b p s)) fun s hs => by rw [hz s hs, mul_zero]]
    refine Finset.sum_congr rfl fun s _ => congrArg₂ _ (congrArg oh ?_) (congrArg x2 ?_)
    · funext a; apply Fin.ext
      match a with
      | ⟨0, _⟩ => show 0 + 1 * r.val = r.val; omega
      | ⟨1, _⟩ => show 0 + 1 * s.val = s.val; omega
    · funext a; apply Fin.ext
      match a with
      | ⟨0, _⟩ => show b.val + 1 * 0 = b.val; omega
      | ⟨1, _⟩ => show 256 * j.val + 1 * q.val = p.val; omega
      | ⟨2, _⟩ => show 0 + 1 * s.val = s.val; omega

/-! ## The printed tiles -/

section
variable (hw : FVec Ideal S1024x768 .bf16) (x : Vec Ideal S1x256x768 .bf16) (r : Fin 1024) (q : Fin 256)

theorem pay20_at (oh : Vec Ideal S1024x256 .bf16) (cb : Vec Ideal S1x256x256 .bf16) : k1_pay20 (F := Ideal) hw x oh cb (ix3 0 r q)
    = ((∑ e : Fin 768, (hw (ix2 r e) : EReal) * x (ix3 0 q e)) + ∑ s : Fin 256, (oh (ix2 r s) : EReal) * cb (ix3 0 q s) : EReal) :=
  (shapeCast_ab_1ab_apply _ _ 0 r q).trans (tile_sum (k := 256) hw x oh cb _ _ r q)
theorem pay6_at (oh : Vec Ideal S1024x512 .bf16) (cb : Vec Ideal S1x256x512 .bf16) : k1_pay6 (F := Ideal) hw x oh cb (ix3 0 r q)
    = ((∑ e : Fin 768, (hw (ix2 r e) : EReal) * x (ix3 0 q e)) + ∑ s : Fin 512, (oh (ix2 r s) : EReal) * cb (ix3 0 q s) : EReal) :=
  (shapeCast_ab_1ab_apply _ _ 0 r q).trans (tile_sum (k := 512) hw x oh cb _ _ r q)
theorem pay7_at (oh : Vec Ideal S1024x768 .bf16) (cb : Vec Ideal S1x256x768 .bf16) : k1_pay7 (F := Ideal) hw x oh cb (ix3 0 r q)
    = ((∑ e : Fin 768, (hw (ix2 r e) : EReal) * x (ix3 0 q e)) + ∑ s : Fin 768, (oh (ix2 r s) : EReal) * cb (ix3 0 q s) : EReal) :=
  (shapeCast_ab_1ab_apply _ _ 0 r q).trans (tile_sum (k := 768) hw x oh cb _ _ r q)
theorem pay17_at (oh : Vec Ideal S1024x1024 .bf16) (cb : Vec Ideal S1x256x1024 .bf16) : k1_pay17 (F := Ideal) hw x oh cb (ix3 0 r q)
    = ((∑ e : Fin 768, (hw (ix2 r e) : EReal) * x (ix3 0 q e)) + ∑ s : Fin 1024, (oh (ix2 r s) : EReal) * cb (ix3 0 q s) : EReal) :=
  (shapeCast_ab_1ab_apply _ _ 0 r q).trans (tile_sum (k := 1024) hw x oh cb _ _ r q)

theorem tpay13_at (oh : Vec Ideal S1024x256 .bf16) (cb : Vec Ideal S1x256x256 .bf16) : k2_pay13 (F := Ideal) hw x oh cb (ix3 r 0 q)
    = ((∑ e : Fin 768, (hw (ix2 r e) : EReal) * x (ix3 0 q e)) + ∑ s : Fin 256, (oh (ix2 r s) : EReal) * cb (ix3 0 q s) : EReal) :=
  (cast_mid _ _ r q).trans (tile_sum (k := 256) hw x oh cb _ _ r q)
theorem tpay15_at (oh : Vec Ideal S1024x512 .bf16) (cb : Vec Ideal S1x256x512 .bf16) : k2_pay15 (F := Ideal) (k2_pay14 hw x) oh cb (ix3 r 0 q)
    = ((∑ e : Fin 768, (hw (ix2 r e) : EReal) * x (ix3 0 q e)) + ∑ s : Fin 512, (oh (ix2 r s) : EReal) * cb (ix3 0 q s) : EReal) :=
  (cast_mid _ _ r q).trans (tile_sum (k := 512) hw x oh cb _ _ r q)
theorem tpay16_at (oh : Vec Ideal S1024x768 .bf16) (cb : Vec Ideal S1x256x768 .bf16) : k2_pay16 (F := Ideal) hw x oh cb (ix3 r 0 q)
    = ((∑ e : Fin 768, (hw (ix2 r e) : EReal) * x (ix3 0 q e)) + ∑ s : Fin 768, (oh (ix2 r s) : EReal) * cb (ix3 0 q s) : EReal) :=
  (cast_mid _ _ r q).trans (tile_sum (k := 768) hw x oh cb _ _ r q)
theorem tpay18_at (oh : Vec Ideal S1024x1024 .bf16) (cb : Vec Ideal S1x256x1024 .bf16) : k2_pay18 (F := Ideal) (k2_pay17 hw x oh cb) (ix3 r 0 q)
    = ((∑ e : Fin 768, (hw (ix2 r e) : EReal) * x (ix3 0 q e)) + ∑ s : Fin 1024, (oh (ix2 r s) : EReal) * cb (ix3 0 q s) : EReal) :=
  (cast_mid _ _ r q).trans (tile_sum (k := 1024) hw x oh cb _ _ r q)
end

/-! ## The one-hot rows -/

/-- A word of the one-hot rows: one where the token is the row's vocabulary entry. -/
theorem hot (a b : BitVec 32) : (Scalar.select (IntOp.cmpi .eq a b) (Ideal.ofBits .f32 0x3F800000#32) (Ideal.ofBits .f32 0x00000000#32) : EReal)
    = if a = b then 1 else 0 := by
  rw [Ideal.ofBits_one_f32, Ideal.ofBits_zero_f32]
  by_cases h : a = b
  · rw [if_pos h, show IntOp.cmpi .eq a b = 1#1 from by simp [IntOp.cmpi, h]]; rfl
  · rw [if_neg h, show IntOp.cmpi .eq a b = 0#1 from by simp only [IntOp.cmpi, beq_eq_false_iff_ne.mpr h]; rfl]; rfl

theorem ids_row (ids : Vec Ideal S1x1x1024 .i32) (h : S1x1x1024.ShapeCasts S1x1024) (h' : S1x1024.Broadcasts S1024x1024) (r s : Fin 1024) :
    broadcastTo S1024x1024 (shapeCast S1x1024 ids h) h' (ix2 r s) = ids (ix3 0 0 s) := by
  rw [broadcastTo_1b_ab_apply, shapeCast_1ab_ab_apply]

theorem hot_main (i : grid1.Coords) (ids : Vec Ideal S1x1x1024 .i32) (r s : Fin 1024) :
    (k1_pay4 (F := Ideal) i ids (ix2 r s) : EReal) = if ids (ix3 0 0 s) = BitVec.ofNat 32 (1024 * (i 0).val + r.val) then 1 else 0 := by
  unfold k1_pay4
  rw [shapeCast_self]
  refine (hot _ _).trans ?_
  rw [ids_row, show k1_pay3 i (ix2 r s) = BitVec.ofNat 32 (1024 * (i 0).val + r.val) from by
    show BitVec.ofNat 32 (i 0).val * 1024#32 + BitVec.ofNat 32 (0 * 1024 + r.val) = _
    rw [show (1024#32 : BitVec 32) = BitVec.ofNat 32 1024 from rfl, ← BitVec.ofNat_mul, ← BitVec.ofNat_add]
    congr 1; omega]

theorem hot_tail (ids : Vec Ideal S1x1x1024 .i32) (r s : Fin 1024) :
    (k2_pay12 (F := Ideal) k2_pay3 ids (ix2 r s) : EReal) = if ids (ix3 0 0 s) = BitVec.ofNat 32 (1024 * 49 + r.val) then 1 else 0 := by
  unfold k2_pay12
  rw [shapeCast_self]
  refine (hot _ _).trans ?_
  rw [ids_row, show k2_pay3 (ix2 r s) = BitVec.ofNat 32 (1024 * 49 + r.val) from by
    show 50176#32 + BitVec.ofNat 32 (0 * 1024 + r.val) = _
    rw [show (50176#32 : BitVec 32) = BitVec.ofNat 32 50176 from rfl, ← BitVec.ofNat_add]
    congr 1; omega]

end Cert.KernelIdeal.Run

end
-- ==== Proof.MainShare.lean ====
/-
  The resources the vocabulary kernel's body hands over: a band of the result, a slot of the scratch, and a copy in
  flight from a slot to its band. A copy that carries the right block may be named by the final contents of the result.
-/
module

public import proofs.«01_k».proof.Proof.MainValue

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev slotP (c : Dev nD) (b : Fin 4) (f : Buf (Elt F) ((slotM b).view.loc (c : Thread nD τ))) : sProp 𝕄 :=
  (slotM b).view.loc (c : Thread nD τ) ↦[(slotM b).view.set]{fullShare} f
abbrev bandP (c : Dev nD) (u : Fin 49) (b : Fin 4) (f : Buf (Elt F) (outM.view.loc (c : Thread nD τ))) : sProp 𝕄 :=
  (band u b).view.loc (c : Thread nD τ) ↦[(band u b).view.set]{fullShare} f
abbrev flightP (c : Dev nD) (u : Fin 49) (b : Fin 4) (f : Buf (Elt F) (outM.view.loc (c : Thread nD τ)))
    (g : Buf (Elt F) ((slotM b).view.loc (c : Thread nD τ))) : sProp 𝕄 :=
  Transfers.Flight countersEmb (c : Thread nD τ) (SemLoc.dma (csm b).sem) () 131072 iprop(bandP c u b f ∗ slotP c b g)

/-- A band written with the block the final contents `G` have there is the band at `G`. -/
theorem band_named {c : Dev nD} {u : Fin 49} {b : Fin 4} {G fo : Buf (Elt F) (outM.view.loc (c : Thread nD τ))}
    {w : Vec F S1024x1024 .f32} (hG : (band u b).view.read (Elt F) G = w) :
    (((band u b).view.loc (c : Thread nD τ) ↦[(band u b).view.set]{fullShare} (band u b).view.writes (Elt F) fo [⟨Rect.whole S1024x1024, w⟩]) : sProp 𝕄)
      = bandP c u b G := by
  exact (pointsTo_rep (Ix := Unit) (Name := ℕ) (U := UU nD τ) (Lvl := ℕ) (c : Thread nD τ) (band u b) _ fullShare).trans
    ((congrArg (fun w : Vec F S1024x1024 .f32 => (((band u b).view.loc (c : Thread nD τ) ↦[(band u b).view.set]{fullShare} (band u b).view.rep w) : sProp 𝕄))
      ((View.read_writes_whole (band u b).view fo w).trans hG.symm)).trans
    (pointsTo_rep (Ix := Unit) (Name := ℕ) (U := UU nD τ) (Lvl := ℕ) (c : Thread nD τ) (band u b) G fullShare).symm)

theorem flight_named {c : Dev nD} {u : Fin 49} {b : Fin 4} {G fo : Buf (Elt F) (outM.view.loc (c : Thread nD τ))}
    {w : Vec F S1024x1024 .f32} {g : Buf (Elt F) ((slotM b).view.loc (c : Thread nD τ))} (hG : (band u b).view.read (Elt F) G = w) :
    (Transfers.Flight countersEmb (c : Thread nD τ) (SemLoc.dma (csm b).sem) () 131072
      iprop(((band u b).view.loc (c : Thread nD τ) ↦[(band u b).view.set]{fullShare} (band u b).view.writes (Elt F) fo [⟨Rect.whole S1024x1024, w⟩]) ∗ slotP c b g) : sProp 𝕄)
      ⊢ flightP c u b G g := by
  rw [band_named hG]

end Cert.KernelIdeal.Run

end
-- ==== Proof.MainGeo.lean ====
/-
  The result of the vocabulary kernel as 49 × 4 bands and a remainder, the scratch of output blocks as four slots, and
  the final contents `Gout` of the result: in every band the block its grid point computes, elsewhere what was there.
-/
module

public import proofs.«01_k».proof.Proof.MainShare

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The grid point that works on band `u`. -/
def stepAt (u : Fin 49) : grid1.Coords := grid1.coords ⟨u.val, N_1.symm ▸ u.isLt⟩

theorem pt_coords : ∀ t : Fin grid1.N, (pt (grid1.coords t)).val = t.val := by decide +kernel
theorem stepAt_val (t : Fin grid1.N) (h : t.val < 49) : stepAt ⟨t.val, h⟩ = grid1.coords t := rfl
theorem pt_stepAt (u : Fin 49) : pt (stepAt u) = u := Fin.ext (pt_coords _)

/-- The conditions of the body: all but the first point wait, the last also drains. -/
theorem conds_first : ∀ t : Fin grid1.N, t.val = 0 → ¬ k1_cond1 (grid1.coords t) = 1#1 ∧ ¬ k1_cond2 (grid1.coords t) = 1#1 ∧ ¬ k1_cond3 (grid1.coords t) = 1#1 ∧ ¬ k1_cond4 (grid1.coords t) = 1#1 ∧ ¬ k1_cond5 (grid1.coords t) = 1#1 := by decide +kernel
theorem conds_later : ∀ t : Fin grid1.N, t.val ≠ 0 → k1_cond1 (grid1.coords t) = 1#1 ∧ k1_cond2 (grid1.coords t) = 1#1 ∧ k1_cond3 (grid1.coords t) = 1#1 ∧ k1_cond4 (grid1.coords t) = 1#1 := by decide +kernel
theorem conds_mid : ∀ t : Fin grid1.N, t.val ≠ 48 → ¬ k1_cond5 (grid1.coords t) = 1#1 := by decide +kernel
theorem conds_last : ∀ t : Fin grid1.N, t.val = 48 → k1_cond5 (grid1.coords t) = 1#1 := by decide +kernel

/-! ## The bands -/

/-- The elements of a band. -/
def bandSet (u : Fin 49) (b : Fin 4) : Finset S50257x4x1024.Idx := (band u b).view.set
theorem band_set (u : Fin 49) (b : Fin 4) :
    bandSet u b = (Rect.unit (s := S50257x4x1024) (bandOff u b) S1024x1x1024.size (bandOff_inb u b)).set :=
  (View.set_reshape _ _).trans (View.set_slice_whole main_v4 _)

theorem mem_band (u : Fin 49) (b : Fin 4) (y : S50257x4x1024.Idx) :
    y ∈ bandSet u b ↔ (1024 * u.val ≤ (y 0).val ∧ (y 0).val < 1024 * u.val + 1024) ∧ (y 1).val = b.val := by
  rw [band_set]
  refine Rect.mem_set_unit.trans ⟨fun h => ?_, fun h a => ?_⟩
  · have h0 := h 0; have h1 := h 1
    have h2 : (y 1).val < b.val + 1 := h1.2
    have h3 : b.val ≤ (y 1).val := h1.1
    exact ⟨h0, by omega⟩
  · match a with
    | ⟨0, _⟩ => exact h.1
    | ⟨1, _⟩ => exact ⟨h.2.ge, by show (y 1).val < b.val + 1; omega⟩
    | ⟨2, _⟩ => exact ⟨Nat.zero_le _, by show (y 2).val < 0 + 1024; have := (y 2).isLt; change (y 2).val < 1024 at this; omega⟩

/-- The index in the result of position `(r, q)` of band `u` of batch `b`. -/
theorem band_idx (u : Fin 49) (b : Fin 4) (f : Vec F S50257x4x1024 .f32) (r q : Fin 1024) :
    (band u b).view.read (Elt F) (f : outM.view.ty.Contents (Elt F)) (ix2 r q)
      = f (ix3 ⟨1024 * u.val + r.val, by have := u.isLt; have := r.isLt; omega⟩ b q) := by
  unfold band
  rw [Memref.read_squeeze_slice outM _ _ _ (show S1024x1x1024.ShapeCasts S1024x1024 by decide),
    shapeCast_apply _ _ (ix2 r q) (ix3 r (0 : Fin 1) q) (by
      rw [Shape.rowMajor_val_three, Shape.rowMajor_val_two]
      show (r.val * 1 + 0) * 1024 + q.val = r.val * 1024 + q.val
      omega)]
  show f _ = f _
  congr 1
  funext a; apply Fin.ext
  match a with
  | ⟨0, _⟩ => show 1024 * u.val + 1 * r.val = 1024 * u.val + r.val; omega
  | ⟨1, _⟩ => show b.val + 1 * 0 = b.val; omega
  | ⟨2, _⟩ => show 0 + 1 * q.val = q.val; omega

theorem bands_disjoint (p p' : Fin 49 × Fin 4) (h : p ≠ p') : Disjoint (bandSet p.1 p.2) (bandSet p'.1 p'.2) := by
  rw [Finset.disjoint_left]
  intro y hy hy'
  have h1 := (mem_band p.1 p.2 y).mp hy
  have h2 := (mem_band p'.1 p'.2 y).mp hy'
  exact h (Prod.ext (Fin.ext (by omega)) (Fin.ext (by omega)))

/-- The elements in some band. -/
def bandsSet : Finset S50257x4x1024.Idx := Finset.univ.biUnion fun p : Fin 49 × Fin 4 => bandSet p.1 p.2

theorem mem_bandsSet (y : S50257x4x1024.Idx) : y ∈ bandsSet ↔ (y 0).val < 50176 := by
  unfold bandsSet
  rw [Finset.mem_biUnion]
  constructor
  · rintro ⟨p, -, hp⟩
    have h := (mem_band p.1 p.2 y).mp hp
    have := p.1.isLt
    omega
  · intro h
    refine ⟨(⟨(y 0).val / 1024, by omega⟩, y 1), Finset.mem_univ _, (mem_band _ _ y).mpr ⟨⟨?_, ?_⟩, rfl⟩⟩
    · show 1024 * ((y 0).val / 1024) ≤ (y 0).val; omega
    · show (y 0).val < 1024 * ((y 0).val / 1024) + 1024; omega

/-! ## The final contents -/

/-- The result after the kernel: the blocks in the bands, the entry contents elsewhere. -/
def Gout (x0 : Vec F S4x1x1024 .i32) (x1 : Vec F S4x1024x768 .bf16) (x2 : Vec F S4x1024x1024 .bf16) (hw : Fin 49 → Vec F S1024x768 .f32)
    (old : Vec F S50257x4x1024 .f32) : Vec F S50257x4x1024 .f32 := fun y =>
  if h : (y 0).val < 50176 then
    blk (stepAt ⟨(y 0).val / 1024, by omega⟩) x0 x1 x2 (hw ⟨(y 0).val / 1024, by omega⟩) (y 1)
      (ix2 ⟨(y 0).val % 1024, by omega⟩ (y 2))
  else old y

theorem band_Gout (x0 : Vec F S4x1x1024 .i32) (x1 : Vec F S4x1024x768 .bf16) (x2 : Vec F S4x1024x1024 .bf16) (hw : Fin 49 → Vec F S1024x768 .f32)
    (old : Vec F S50257x4x1024 .f32) (u : Fin 49) (b : Fin 4) :
    (band u b).view.read (Elt F) (Gout x0 x1 x2 hw old : outM.view.ty.Contents (Elt F)) = blk (stepAt u) x0 x1 x2 (hw u) b := by
  funext y
  obtain ⟨r, q, rfl⟩ : ∃ (r : Fin 1024) (q : Fin 1024), y = ix2 r q := ⟨y 0, y 1, eq_ix2 y⟩
  rw [band_idx]
  have hu := u.isLt; have hr := r.isLt
  have e1 : (1024 * u.val + r.val) / 1024 = u.val := by omega
  have e2 : (1024 * u.val + r.val) % 1024 = r.val := by omega
  unfold Gout
  rw [dif_pos (show 1024 * u.val + r.val < 50176 by omega)]
  have eu : ∀ h, (⟨(1024 * u.val + r.val) / 1024, h⟩ : Fin 49) = u := fun h => Fin.ext e1
  have er : ∀ h, (⟨(1024 * u.val + r.val) % 1024, h⟩ : Fin 1024) = r := fun h => Fin.ext e2
  show blk (stepAt ⟨(1024 * u.val + r.val) / 1024, _⟩) x0 x1 x2 (hw ⟨(1024 * u.val + r.val) / 1024, _⟩) b (ix2 ⟨(1024 * u.val + r.val) % 1024, _⟩ q) = _
  rw [eu, er]

theorem Gout_old (x0 : Vec F S4x1x1024 .i32) (x1 : Vec F S4x1024x768 .bf16) (x2 : Vec F S4x1024x1024 .bf16) (hw : Fin 49 → Vec F S1024x768 .f32)
    (old : Vec F S50257x4x1024 .f32) (y : S50257x4x1024.Idx) (h : y ∉ bandsSet) : Gout x0 x1 x2 hw old y = old y := by
  unfold Gout
  exact dif_neg fun h' => h ((mem_bandsSet y).mpr h')

/-! ## Split and joined -/

/-- The four bands of one grid point. -/
abbrev rowP (c : Dev nD) (u : Fin 49) (f : Buf (Elt F) (outM.view.loc (c : Thread nD τ))) : sProp 𝕄 :=
  iprop(bandP c u 0 f ∗ bandP c u 1 f ∗ bandP c u 2 f ∗ bandP c u 3 f)
/-- The part of the result no band covers. -/
abbrev spareP (c : Dev nD) (f : Buf (Elt F) (outM.view.loc (c : Thread nD τ))) : sProp 𝕄 :=
  outM.view.loc (c : Thread nD τ) ↦[Finset.univ \ bandsSet]{fullShare} f

theorem out_split (c : Dev nD) (f : Buf (Elt F) ((c : Thread nD τ).loc main_v4)) :
    (((c : Thread nD τ).loc main_v4 ↦{fullShare} f) : sProp 𝕄)
      ⊣⊢ iprop(bigSep Finset.univ (fun u : Fin 49 => rowP c u f) ∗ spareP c f) := by
  refine (pointsTo_split_subset (Ix := Unit) (Name := ℕ) (U := UU nD τ) (Lvl := ℕ) (q := fullShare) (f := f) (Finset.subset_univ bandsSet)).trans ?_
  have e : ((((c : Thread nD τ).loc main_v4) ↦[bandsSet]{fullShare} f) : sProp 𝕄) = bigSep Finset.univ (fun u : Fin 49 => rowP c u f) := by
    refine (pointsTo_biUnion (Ix := Unit) (Name := ℕ) (U := UU nD τ) (Lvl := ℕ) (q := fullShare) (f := f) Finset.univ
      (fun p : Fin 49 × Fin 4 => bandSet p.1 p.2) (fun p _ p' _ h => bands_disjoint p p' h)).trans ?_
    rw [BI.bigSep_univ_prod]
    exact BI.bigSep_congr fun u _ => bigSep_W1 _
  rw [e]

/-! ## The slots -/

/-- The elements of a slot. -/
def slotSet (b : Fin 4) : Finset S4x1024x1024.Idx := (slotM b).view.set
theorem slot_set (b : Fin 4) :
    slotSet b = (Rect.unit (s := S4x1024x1024) (slotOff b) S1x1024x1024.size (slotOff_inb b)).set :=
  (View.set_reshape _ _).trans (View.set_slice_whole cc1_scratch1 _)

theorem mem_slot (b : Fin 4) (y : S4x1024x1024.Idx) : y ∈ slotSet b ↔ (y 0).val = b.val := by
  rw [slot_set]
  refine Rect.mem_set_unit.trans ⟨fun h => ?_, fun h a => ?_⟩
  · have h0 := h 0
    have h2 : (y 0).val < b.val + 1 := h0.2
    have h3 : b.val ≤ (y 0).val := h0.1
    omega
  · match a with
    | ⟨0, _⟩ => exact ⟨h.ge, by show (y 0).val < b.val + 1; omega⟩
    | ⟨1, _⟩ => exact ⟨Nat.zero_le _, by show (y 1).val < 0 + 1024; have := (y 1).isLt; change (y 1).val < 1024 at this; omega⟩
    | ⟨2, _⟩ => exact ⟨Nat.zero_le _, by show (y 2).val < 0 + 1024; have := (y 2).isLt; change (y 2).val < 1024 at this; omega⟩

theorem slots_disjoint (b b' : Fin 4) (h : b ≠ b') : Disjoint (slotSet b) (slotSet b') := by
  rw [Finset.disjoint_left]
  intro y hy hy'
  exact h (Fin.ext (((mem_slot b y).mp hy).symm.trans ((mem_slot b' y).mp hy')))

theorem slots_cover : Finset.univ.biUnion (fun b : Fin 4 => slotSet b) = (Finset.univ : Finset S4x1024x1024.Idx) := by
  ext y
  exact ⟨fun _ => Finset.mem_univ _, fun _ => Finset.mem_biUnion.mpr ⟨y 0, Finset.mem_univ _, (mem_slot _ y).mpr rfl⟩⟩

theorem slots_split (c : Dev nD) :
    (iprop(∃ f : Buf (Elt F) ((c : Thread nD τ).loc cc1_scratch1), ((c : Thread nD τ).loc cc1_scratch1) ↦{fullShare} f) : sProp 𝕄)
      ⊢ iprop((∃ g, slotP c 0 g) ∗ (∃ g, slotP c 1 g) ∗ (∃ g, slotP c 2 g) ∗ (∃ g, slotP c 3 g)) := by
  iintro ⟨%f, H⟩
  ihave H' := (Entails.of_eq ((Ring.pointsTo_blocks (Ix := Unit) (Name := ℕ) (U := UU nD τ) (Lvl := ℕ) (ℓ := (c : Thread nD τ).loc cc1_scratch1)
    (fun b : Fin 4 => slotSet b) slots_disjoint slots_cover (q := fullShare) f).trans (bigSep_W1 _))) $$ H
  icases H' with ⟨H0, H1, H2, H3⟩
  isplitl [H0]; · iexists f; iexact H0
  isplitl [H1]; · iexists f; iexact H1
  isplitl [H2]; · iexists f; iexact H2
  iexists f; iexact H3

theorem slots_join (c : Dev nD) :
    (iprop((∃ g, slotP c 0 g) ∗ (∃ g, slotP c 1 g) ∗ (∃ g, slotP c 2 g) ∗ (∃ g, slotP c 3 g)) : sProp 𝕄)
      ⊢ iprop(∃ f : Buf (Elt F) ((c : Thread nD τ).loc cc1_scratch1), ((c : Thread nD τ).loc cc1_scratch1) ↦{fullShare} f) := by
  iintro ⟨⟨%g0, H0⟩, H1, H2, H3⟩
  iapply (Ring.pointsTo_blocks_join_exists (Ix := Unit) (Name := ℕ) (U := UU nD τ) (Lvl := ℕ) (ℓ := (c : Thread nD τ).loc cc1_scratch1)
    (fun b : Fin 4 => slotSet b) slots_disjoint slots_cover (q := fullShare) g0)
  iapply (Entails.of_eq (bigSep_W1 (fun b : Fin 4 => (iprop(∃ f, ((c : Thread nD τ).loc cc1_scratch1) ↦[(slotM b).view.set]{fullShare} f) : sProp 𝕄))).symm)
  isplitl [H0]; · iexists g0; iexact H0
  isplitl [H1]; · iexact H1
  isplitl [H2]; · iexact H2
  iexact H3

end Cert.KernelIdeal.Run

end
-- ==== Proof.MainFirst.lean ====
/-
  The first step of the vocabulary kernel: the slots are free, the four blocks are computed and their copies started.
-/
module

public import proofs.«01_k».proof.Proof.MainShare

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 2000000 in
theorem fstRun (c : Dev nD) (i : grid1.Coords) (arg1 : Memref sig .tc .vmem S4x1x1024 .i32) (harg1 : arg1.IsWhole) (arg2 : Memref sig .tc .vmem S4x1024x768 .bf16) (harg2 : arg2.IsWhole) (arg3 : Memref sig .tc .vmem S4x1024x1024 .bf16) (harg3 : arg3.IsWhole) (arg4 : Memref sig .tc .vmem S1024x768 .f32) (harg4 : arg4.IsWhole)
    (x0 : Vec F S4x1x1024 .i32) (x1 : Vec F S4x1024x768 .bf16) (x2 : Vec F S4x1024x1024 .bf16) (x3 : Vec F S1024x768 .f32)
    (u : Fin 49) (hc1 : ¬ k1_cond1 i = 1#1) (hc2 : ¬ k1_cond2 i = 1#1) (hc3 : ¬ k1_cond3 i = 1#1) (hc4 : ¬ k1_cond4 i = 1#1) (hc5 : ¬ k1_cond5 i = 1#1)
    (G fo : Buf (Elt F) (outM.view.loc (c : Thread nD τ)))
    (hG : ∀ b, (band (pt i) b).view.read (Elt F) G = blk i x0 x1 x2 x3 b) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) ohM fullShare d)
            ∗ ((∃ g, slotP c 0 g) ∗ semVal ((c : Thread nD τ), SemLoc.dma (csm 0).sem) 0) ∗ ((∃ g, slotP c 1 g) ∗ semVal ((c : Thread nD τ), SemLoc.dma (csm 1).sem) 0) ∗ ((∃ g, slotP c 2 g) ∗ semVal ((c : Thread nD τ), SemLoc.dma (csm 2).sem) 0) ∗ ((∃ g, slotP c 3 g) ∗ semVal ((c : Thread nD τ), SemLoc.dma (csm 3).sem) 0)
            ∗ bandP c (pt i) 0 fo ∗ bandP c (pt i) 1 fo ∗ bandP c (pt i) 2 fo ∗ bandP c (pt i) 3 fo
            ∗ (∃ W, owes (c : Thread nD τ) 0 W)
            ∗ ((owns (c : Thread nD τ) arg1 fullShare x0 ∗ owns (c : Thread nD τ) arg2 fullShare x1 ∗ owns (c : Thread nD τ) arg3 fullShare x2 ∗ owns (c : Thread nD τ) arg4 fullShare x3
              ∗ (∃ d, owns (c : Thread nD τ) ohM fullShare d)
              ∗ (∃ g, flightP c (pt i) 0 G g) ∗ (∃ g, flightP c (pt i) 1 G g) ∗ (∃ g, flightP c (pt i) 2 G g) ∗ (∃ g, flightP c (pt i) 3 G g)
              ∗ (∃ W, owes (c : Thread nD τ) 0 W)) -∗ K PUnit.unit))
          ⊢ wp frame (wpE (defs₀ (F := F)) Variants.none c none) Set.univ (cc1_logits_copy i arg1 harg1 arg2 harg2 arg3 harg3 arg4 harg4 outM (Memref.isWhole_whole _) ohM (Memref.isWhole_whole _) obM (Memref.isWhole_whole _) cc1_scratch2) K := by
    intro K
    simp only [cc1_logits_copy_eq_skeleton]; unfold cc1_logits_copy_skel
    simp (config := { proj := false }) only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨⟨%g0, HG0⟩, HF0⟩, ⟨⟨%g1, HG1⟩, HF1⟩, ⟨⟨%g2, HG2⟩, HF2⟩, ⟨⟨%g3, HG3⟩, HF3⟩, HB0, HB1, HB2, HB3, ⟨%W, HW⟩, HK⟩
    obtain rfl := harg1.eq_unread hf0; obtain rfl := harg2.eq_unread hf1; obtain rfl := harg3.eq_unread hf2; obtain rfl := harg4.eq_unread hf3
    sl_exec
    sl_step
    iapply HK
    isplitl [H0]; · iexists _; isplitr; swap; · iexact H0
                    ipureintro; exact harg1.read_unread _
    isplitl [H1]; · iexists _; isplitr; swap; · iexact H1
                    ipureintro; exact harg2.read_unread _
    isplitl [H2]; · iexists _; isplitr; swap; · iexact H2
                    ipureintro; exact harg3.read_unread _
    isplitl [H3]; · iexists _; isplitr; swap; · iexact H3
                    ipureintro; exact harg4.read_unread _
    isplitl [HS0]; · iexists _, _; isplitr; swap; · iexact HS0
                     ipureintro; rfl
    isplitl [HF0]
    · iexists _; iapply (flight_named ?_); rotate_left; · iexact HF0
      refine (hG 0).trans (Eq.symm ?_)
      dsimp only [fstRun.sl.dma24, fstRun.sl.HG0_w1, fstRun.sl.HG0_w2, fstRun.sl.HG0_w3, fstRun.sl.HG0_w4]
      refine (slot_read 0 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HF1]
    · iexists _; iapply (flight_named ?_); rotate_left; · iexact HF1
      refine (hG 1).trans (Eq.symm ?_)
      dsimp only [fstRun.sl.dma47, fstRun.sl.HG1_w5, fstRun.sl.HG1_w6, fstRun.sl.HG1_w7, fstRun.sl.HG1_w8]
      refine (slot_read 1 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HF2]
    · iexists _; iapply (flight_named ?_); rotate_left; · iexact HF2
      refine (hG 2).trans (Eq.symm ?_)
      dsimp only [fstRun.sl.dma70, fstRun.sl.HG2_w9, fstRun.sl.HG2_w10, fstRun.sl.HG2_w11, fstRun.sl.HG2_w12]
      refine (slot_read 2 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HF3]
    · iexists _; iapply (flight_named ?_); rotate_left; · iexact HF3
      refine (hG 3).trans (Eq.symm ?_)
      dsimp only [fstRun.sl.dma93, fstRun.sl.HG3_w13, fstRun.sl.HG3_w14, fstRun.sl.HG3_w15, fstRun.sl.HG3_w16]
      refine (slot_read 3 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay27 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay1 (hw_part harg4 x3) (readAt_unread harg2 _ x1) (oh_part (k := 1024) (readAt_unread harg1 _ x0) rfl) (readAt_unread harg3 _ x2)
    iexists _; iexact HW

end Cert.KernelIdeal.Run

end
-- ==== Proof.MainMid.lean ====
/-
  A middle step of the vocabulary kernel: the four copies of the step before are waited for, the four blocks are
  computed, and their copies are started.
-/
module

public import proofs.«01_k».proof.Proof.MainShare

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 2000000 in
theorem midRun (c : Dev nD) (i : grid1.Coords) (arg1 : Memref sig .tc .vmem S4x1x1024 .i32) (harg1 : arg1.IsWhole) (arg2 : Memref sig .tc .vmem S4x1024x768 .bf16) (harg2 : arg2.IsWhole) (arg3 : Memref sig .tc .vmem S4x1024x1024 .bf16) (harg3 : arg3.IsWhole) (arg4 : Memref sig .tc .vmem S1024x768 .f32) (harg4 : arg4.IsWhole)
    (x0 : Vec F S4x1x1024 .i32) (x1 : Vec F S4x1024x768 .bf16) (x2 : Vec F S4x1024x1024 .bf16) (x3 : Vec F S1024x768 .f32)
    (u : Fin 49) (hc1 : k1_cond1 i = 1#1) (hc2 : k1_cond2 i = 1#1) (hc3 : k1_cond3 i = 1#1) (hc4 : k1_cond4 i = 1#1) (hc5 : ¬ k1_cond5 i = 1#1)
    (G fo : Buf (Elt F) (outM.view.loc (c : Thread nD τ)))
    (hG : ∀ b, (band (pt i) b).view.read (Elt F) G = blk i x0 x1 x2 x3 b) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) ohM fullShare d)
            ∗ (∃ g, flightP c u 0 G g) ∗ (∃ g, flightP c u 1 G g) ∗ (∃ g, flightP c u 2 G g) ∗ (∃ g, flightP c u 3 G g)
            ∗ bandP c (pt i) 0 fo ∗ bandP c (pt i) 1 fo ∗ bandP c (pt i) 2 fo ∗ bandP c (pt i) 3 fo
            ∗ (∃ W, owes (c : Thread nD τ) 0 W)
            ∗ ((owns (c : Thread nD τ) arg1 fullShare x0 ∗ owns (c : Thread nD τ) arg2 fullShare x1 ∗ owns (c : Thread nD τ) arg3 fullShare x2 ∗ owns (c : Thread nD τ) arg4 fullShare x3
              ∗ (∃ d, owns (c : Thread nD τ) ohM fullShare d)
              ∗ (∃ g, flightP c (pt i) 0 G g) ∗ (∃ g, flightP c (pt i) 1 G g) ∗ (∃ g, flightP c (pt i) 2 G g) ∗ (∃ g, flightP c (pt i) 3 G g)
              ∗ bandP c u 0 G ∗ bandP c u 1 G ∗ bandP c u 2 G ∗ bandP c u 3 G
              ∗ (∃ W, owes (c : Thread nD τ) 0 W)) -∗ K PUnit.unit))
          ⊢ wp frame (wpE (defs₀ (F := F)) Variants.none c none) Set.univ (cc1_logits_copy i arg1 harg1 arg2 harg2 arg3 harg3 arg4 harg4 outM (Memref.isWhole_whole _) ohM (Memref.isWhole_whole _) obM (Memref.isWhole_whole _) cc1_scratch2) K := by
    intro K
    simp only [cc1_logits_copy_eq_skeleton]; unfold cc1_logits_copy_skel
    simp (config := { proj := false }) only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%g0, HF0⟩, ⟨%g1, HF1⟩, ⟨%g2, HF2⟩, ⟨%g3, HF3⟩, HB0, HB1, HB2, HB3, ⟨%W, HW⟩, HK⟩
    obtain rfl := harg1.eq_unread hf0; obtain rfl := harg2.eq_unread hf1; obtain rfl := harg3.eq_unread hf2; obtain rfl := harg4.eq_unread hf3
    sl_exec
    sl_step
    iapply HK
    isplitl [H0]; · iexists _; isplitr; swap; · iexact H0
                    ipureintro; exact harg1.read_unread _
    isplitl [H1]; · iexists _; isplitr; swap; · iexact H1
                    ipureintro; exact harg2.read_unread _
    isplitl [H2]; · iexists _; isplitr; swap; · iexact H2
                    ipureintro; exact harg3.read_unread _
    isplitl [H3]; · iexists _; isplitr; swap; · iexact H3
                    ipureintro; exact harg4.read_unread _
    isplitl [HS0]; · iexists _, _; isplitr; swap; · iexact HS0
                     ipureintro; rfl
    isplitl [HF0]
    · iexists _; iapply (flight_named ?_); rotate_left; · iexact HF0
      refine (hG 0).trans (Eq.symm ?_)
      dsimp only [midRun.sl.dma24, midRun.sl.HF0_src_w1, midRun.sl.HF0_src_w2, midRun.sl.HF0_src_w3, midRun.sl.HF0_src_w4]
      refine (slot_read 0 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HF1]
    · iexists _; iapply (flight_named ?_); rotate_left; · iexact HF1
      refine (hG 1).trans (Eq.symm ?_)
      dsimp only [midRun.sl.dma47, midRun.sl.HF1_src_w5, midRun.sl.HF1_src_w6, midRun.sl.HF1_src_w7, midRun.sl.HF1_src_w8]
      refine (slot_read 1 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HF2]
    · iexists _; iapply (flight_named ?_); rotate_left; · iexact HF2
      refine (hG 2).trans (Eq.symm ?_)
      dsimp only [midRun.sl.dma70, midRun.sl.HF2_src_w9, midRun.sl.HF2_src_w10, midRun.sl.HF2_src_w11, midRun.sl.HF2_src_w12]
      refine (slot_read 2 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HF3]
    · iexists _; iapply (flight_named ?_); rotate_left; · iexact HF3
      refine (hG 3).trans (Eq.symm ?_)
      dsimp only [midRun.sl.dma93, midRun.sl.HF3_src_w13, midRun.sl.HF3_src_w14, midRun.sl.HF3_src_w15, midRun.sl.HF3_src_w16]
      refine (slot_read 3 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay27 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay1 (hw_part harg4 x3) (readAt_unread harg2 _ x1) (oh_part (k := 1024) (readAt_unread harg1 _ x0) rfl) (readAt_unread harg3 _ x2)
    isplitl [HF0_dst]; · iexact HF0_dst
    isplitl [HF1_dst]; · iexact HF1_dst
    isplitl [HF2_dst]; · iexact HF2_dst
    isplitl [HF3_dst]; · iexact HF3_dst
    iexists _; iexact HW

end Cert.KernelIdeal.Run

end
-- ==== Proof.MainLast.lean ====
/-
  The last step of the vocabulary kernel: as a middle step, and then its own four copies are waited for as well.
-/
module

public import proofs.«01_k».proof.Proof.MainShare

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 2000000 in
theorem lastRun (c : Dev nD) (i : grid1.Coords) (arg1 : Memref sig .tc .vmem S4x1x1024 .i32) (harg1 : arg1.IsWhole) (arg2 : Memref sig .tc .vmem S4x1024x768 .bf16) (harg2 : arg2.IsWhole) (arg3 : Memref sig .tc .vmem S4x1024x1024 .bf16) (harg3 : arg3.IsWhole) (arg4 : Memref sig .tc .vmem S1024x768 .f32) (harg4 : arg4.IsWhole)
    (x0 : Vec F S4x1x1024 .i32) (x1 : Vec F S4x1024x768 .bf16) (x2 : Vec F S4x1024x1024 .bf16) (x3 : Vec F S1024x768 .f32)
    (u : Fin 49) (hc1 : k1_cond1 i = 1#1) (hc2 : k1_cond2 i = 1#1) (hc3 : k1_cond3 i = 1#1) (hc4 : k1_cond4 i = 1#1) (hc5 : k1_cond5 i = 1#1)
    (G fo : Buf (Elt F) (outM.view.loc (c : Thread nD τ)))
    (hG : ∀ b, (band (pt i) b).view.read (Elt F) G = blk i x0 x1 x2 x3 b) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) ohM fullShare d)
            ∗ (∃ g, flightP c u 0 G g) ∗ (∃ g, flightP c u 1 G g) ∗ (∃ g, flightP c u 2 G g) ∗ (∃ g, flightP c u 3 G g)
            ∗ bandP c (pt i) 0 fo ∗ bandP c (pt i) 1 fo ∗ bandP c (pt i) 2 fo ∗ bandP c (pt i) 3 fo
            ∗ (∃ W, owes (c : Thread nD τ) 0 W)
            ∗ ((owns (c : Thread nD τ) arg1 fullShare x0 ∗ owns (c : Thread nD τ) arg2 fullShare x1 ∗ owns (c : Thread nD τ) arg3 fullShare x2 ∗ owns (c : Thread nD τ) arg4 fullShare x3
              ∗ (∃ d, owns (c : Thread nD τ) ohM fullShare d)
              ∗ ((∃ g, slotP c 0 g) ∗ semVal ((c : Thread nD τ), SemLoc.dma (csm 0).sem) 0) ∗ ((∃ g, slotP c 1 g) ∗ semVal ((c : Thread nD τ), SemLoc.dma (csm 1).sem) 0) ∗ ((∃ g, slotP c 2 g) ∗ semVal ((c : Thread nD τ), SemLoc.dma (csm 2).sem) 0) ∗ ((∃ g, slotP c 3 g) ∗ semVal ((c : Thread nD τ), SemLoc.dma (csm 3).sem) 0)
              ∗ bandP c (pt i) 0 G ∗ bandP c (pt i) 1 G ∗ bandP c (pt i) 2 G ∗ bandP c (pt i) 3 G
              ∗ bandP c u 0 G ∗ bandP c u 1 G ∗ bandP c u 2 G ∗ bandP c u 3 G
              ∗ (∃ W, owes (c : Thread nD τ) 0 W)) -∗ K PUnit.unit))
          ⊢ wp frame (wpE (defs₀ (F := F)) Variants.none c none) Set.univ (cc1_logits_copy i arg1 harg1 arg2 harg2 arg3 harg3 arg4 harg4 outM (Memref.isWhole_whole _) ohM (Memref.isWhole_whole _) obM (Memref.isWhole_whole _) cc1_scratch2) K := by
    intro K
    simp only [cc1_logits_copy_eq_skeleton]; unfold cc1_logits_copy_skel
    simp (config := { proj := false }) only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%g0, HF0⟩, ⟨%g1, HF1⟩, ⟨%g2, HF2⟩, ⟨%g3, HF3⟩, HB0, HB1, HB2, HB3, ⟨%W, HW⟩, HK⟩
    obtain rfl := harg1.eq_unread hf0; obtain rfl := harg2.eq_unread hf1; obtain rfl := harg3.eq_unread hf2; obtain rfl := harg4.eq_unread hf3
    sl_exec
    sl_step
    iapply HK
    isplitl [H0]; · iexists _; isplitr; swap; · iexact H0
                    ipureintro; exact harg1.read_unread _
    isplitl [H1]; · iexists _; isplitr; swap; · iexact H1
                    ipureintro; exact harg2.read_unread _
    isplitl [H2]; · iexists _; isplitr; swap; · iexact H2
                    ipureintro; exact harg3.read_unread _
    isplitl [H3]; · iexists _; isplitr; swap; · iexact H3
                    ipureintro; exact harg4.read_unread _
    isplitl [HS0]; · iexists _, _; isplitr; swap; · iexact HS0
                     ipureintro; rfl
    isplitl [HF0_src HF0]
    · isplitl [HF0_src]
      · iexists _; iexact HF0_src
      · iexact HF0
    isplitl [HF1_src HF1]
    · isplitl [HF1_src]
      · iexists _; iexact HF1_src
      · iexact HF1
    isplitl [HF2_src HF2]
    · isplitl [HF2_src]
      · iexists _; iexact HF2_src
      · iexact HF2
    isplitl [HF3_src HF3]
    · isplitl [HF3_src]
      · iexists _; iexact HF3_src
      · iexact HF3
    isplitl [HB0]
    · iapply (Entails.of_eq (band_named ?_)); rotate_left; · iexact HB0
      refine (hG 0).trans (Eq.symm ?_)
      dsimp only [lastRun.sl.dma24, lastRun.sl.HF0_src_w1, lastRun.sl.HF0_src_w2, lastRun.sl.HF0_src_w3, lastRun.sl.HF0_src_w4]
      refine (slot_read 0 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HB1]
    · iapply (Entails.of_eq (band_named ?_)); rotate_left; · iexact HB1
      refine (hG 1).trans (Eq.symm ?_)
      dsimp only [lastRun.sl.dma47, lastRun.sl.HF1_src_w5, lastRun.sl.HF1_src_w6, lastRun.sl.HF1_src_w7, lastRun.sl.HF1_src_w8]
      refine (slot_read 1 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HB2]
    · iapply (Entails.of_eq (band_named ?_)); rotate_left; · iexact HB2
      refine (hG 2).trans (Eq.symm ?_)
      dsimp only [lastRun.sl.dma70, lastRun.sl.HF2_src_w9, lastRun.sl.HF2_src_w10, lastRun.sl.HF2_src_w11, lastRun.sl.HF2_src_w12]
      refine (slot_read 2 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay6 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay17 (hw_part harg4 x3) (readAt_unread harg2 _ x1) (oh_part (k := 1024) (readAt_unread harg1 _ x0) rfl) (readAt_unread harg3 _ x2)
    isplitl [HB3]
    · iapply (Entails.of_eq (band_named ?_)); rotate_left; · iexact HB3
      refine (hG 3).trans (Eq.symm ?_)
      dsimp only [lastRun.sl.dma93, lastRun.sl.HF3_src_w13, lastRun.sl.HF3_src_w14, lastRun.sl.HF3_src_w15, lastRun.sl.HF3_src_w16]
      refine (slot_read 3 _ _ _ _ _).trans (joinTiles_congr ?_ ?_ ?_ ?_)
      · exact tile_pay20 (hw_part harg4 x3) (readAt_unread harg2 _ x1) (oh_part (k := 256) (readAt_unread harg1 _ x0) rfl) (readAt_unread harg3 _ x2)
      · exact tile_pay27 (hw_part harg4 x3) (readAt_unread harg2 _ x1) (oh_part (k := 512) (readAt_unread harg1 _ x0) rfl) (readAt_unread harg3 _ x2)
      · exact tile_pay7 (hw_part harg4 x3) (readAt_unread harg2 _ x1) (oh_part (k := 768) (readAt_unread harg1 _ x0) rfl) (readAt_unread harg3 _ x2)
      · exact tile_pay1 (hw_part harg4 x3) (readAt_unread harg2 _ x1) (oh_part (k := 1024) (readAt_unread harg1 _ x0) rfl) (readAt_unread harg3 _ x2)
    isplitl [HF0_dst]; · iexact HF0_dst
    isplitl [HF1_dst]; · iexact HF1_dst
    isplitl [HF2_dst]; · iexact HF2_dst
    isplitl [HF3_dst]; · iexact HF3_dst
    iexists _; iexact HW

end Cert.KernelIdeal.Run

end
-- ==== Proof.MainRegion.lean ====
/-
  The vocabulary kernel's pipeline: what its invariant holds between grid points, and its body at a generic point.
  Before point `p` the bands from `p` on are as the region found them, band `p - 1` is being copied out of the slots, and
  the bands before it hold their final contents; at the ends the slots are free and their semaphores at zero.
-/
module

public import proofs.«01_k».proof.Proof.MainGeo
public import proofs.«01_k».proof.Proof.MainFirst
public import proofs.«01_k».proof.Proof.MainMid
public import proofs.«01_k».proof.Proof.MainLast
public import Idealize.ShloMosaic.Lib.Pipeline.FrameBody
public import Idealize.ShloMosaic.Lib.Pipeline.TalkSched

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (W : Dev nD → Valuation τ sig (Elt F))

/-- The staged inputs of the vocabulary kernel as the region finds them. -/
abbrev idsV (c : Dev nD) : Vec F S4x1x1024 .i32 := W c (Proc.devRef .tc main_v3)
abbrev xV (c : Dev nD) : Vec F S4x1024x768 .bf16 := W c (Proc.devRef .tc main_arg1)
abbrev cV (c : Dev nD) : Vec F S4x1024x1024 .bf16 := W c (Proc.devRef .tc main_v2)
abbrev hV (c : Dev nD) : Vec F S50257x768 .f32 := W c (Proc.devRef .tc main_arg2)
abbrev oldV (c : Dev nD) : Vec F S50257x4x1024 .f32 := W c (Proc.devRef .tc main_v4)

/-- The 1024 rows of the head weights grid point `u` works on. -/
def hwBlk (c : Dev nD) (u : Fin 49) : Vec F S1024x768 .f32 := fun y =>
  hV W c (ix2 ⟨1024 * u.val + (y 0).val, by have := u.isLt; have : (y 0).val < 1024 := (y 0).isLt; omega⟩ (y 1))

/-- The result after the region. -/
def GV (c : Dev nD) : Vec F S50257x4x1024 .f32 := Gout (idsV W c) (xV W c) (cV W c) (hwBlk W c) (oldV W c)

/-! ## The invariant -/

/-- A scoped buffer of the core, at some contents. -/
abbrev anyB (c : Dev nD) (b : Ref sig .tc) : sProp 𝕄 :=
  iprop(∃ f : Buf (Elt F) ((c : Thread nD τ).loc b), ((c : Thread nD τ).loc b) ↦{fullShare} f)

/-- The scoped buffers the region does not touch. -/
abbrev restP (c : Dev nD) : sProp 𝕄 :=
  iprop(anyB c cc0_stg0_0 ∗ anyB c cc0_stg0_1 ∗ anyB c cc0_stg1_0 ∗ anyB c cc0_stg2_0 ∗ anyB c cc0_stg3_0 ∗ anyB c cc0_stg3_1 ∗ anyB c cc0_scratch0
    ∗ anyB c cc2_stg0_0 ∗ anyB c cc2_stg1_0 ∗ anyB c cc2_stg2_0 ∗ anyB c cc2_stg3_0 ∗ anyB c cc2_stg4_0 ∗ anyB c cc2_scratch0)

/-- The four copies in flight to band `u`. -/
abbrev flightsP (c : Dev nD) (u : Fin 49) (f : Buf (Elt F) (outM.view.loc (c : Thread nD τ))) : sProp 𝕄 :=
  iprop((∃ g, flightP c u 0 f g) ∗ (∃ g, flightP c u 1 f g) ∗ (∃ g, flightP c u 2 f g) ∗ (∃ g, flightP c u 3 f g))
/-- A free slot and its semaphore at zero. -/
abbrev freeSlot (c : Dev nD) (b : Fin 4) : sProp 𝕄 :=
  iprop((∃ g, slotP c b g) ∗ semVal ((c : Thread nD τ), SemLoc.dma (csm b).sem) 0)
abbrev freeP (c : Dev nD) : sProp 𝕄 :=
  iprop(freeSlot c 0 ∗ freeSlot c 1 ∗ freeSlot c 2 ∗ freeSlot c 3)

/-- Band `u` before point `p`. -/
def item (c : Dev nD) (p : ℕ) (u : Fin 49) : sProp 𝕄 :=
  if p ≤ u.val then rowP c u (oldV W c) else if p = u.val + 1 ∧ p < 49 then flightsP c u (GV W c) else rowP c u (GV W c)
/-- The slots before point `p`. -/
def slotsAt (c : Dev nD) (p : ℕ) : sProp 𝕄 := if p = 0 ∨ p = 49 then freeP c else iprop(emp)

def Phi1 (c : Dev nD) (p : ℕ) : sProp 𝕄 :=
  iprop(restP c ∗ (∃ r, prngReg c r) ∗ (∃ d, owns (c : Thread nD τ) ohM fullShare d) ∗ spareP c (oldV W c)
    ∗ bigSep Finset.univ (fun u : Fin 49 => item W c p u) ∗ slotsAt c p)

theorem item_old {c : Dev nD} {p : ℕ} {u : Fin 49} (h : p ≤ u.val) : item W c p u = rowP c u (oldV W c) := if_pos h
theorem item_fly {c : Dev nD} {p : ℕ} {u : Fin 49} (h : p = u.val + 1) (h' : p < 49) : item W c p u = flightsP c u (GV W c) := by
  unfold item; rw [if_neg (by omega), if_pos ⟨h, h'⟩]
theorem item_new {c : Dev nD} {p : ℕ} {u : Fin 49} (h : u.val + 1 < p ∨ (u.val < p ∧ p = 49)) : item W c p u = rowP c u (GV W c) := by
  unfold item; rw [if_neg (by omega), if_neg (by omega)]

/-- The bands a point does not touch are the same before and after it. -/
theorem item_keep {c : Dev nD} {p : ℕ} {u : Fin 49} (hp : p < 49) (h : u.val ≠ p) (h' : u.val + 1 ≠ p) : item W c p u = item W c (p + 1) u := by
  rcases Nat.lt_or_ge u.val p with hu | hu
  · rw [item_new W (Or.inl (by omega)), item_new W (Or.inl (by omega))]
  · rw [item_old W hu, item_old W (by omega)]

theorem slotsAt_mid {c : Dev nD} {p : ℕ} (h : p ≠ 0) (h' : p ≠ 49) : slotsAt (F := F) c p = iprop(emp) := if_neg (by omega)

/-! ## The proof data -/

/-- The proof data of the vocabulary kernel's pipeline. -/
def dat1 (c : Dev nD) : Dat τ (Elt F) Unit ℕ (UU nD τ) ℕ cfg1 c where
  A w := W c (Proc.devRef .tc (arrRef spec1 w))
  after w t := match w with
    | ⟨0, _⟩ => idsV W c
    | ⟨1, _⟩ => xV W c
    | ⟨2, _⟩ => cV W c
    | ⟨3, _⟩ => hwBlk W c (pt (grid1.coords t))
  Φ p := Phi1 W c p.val
  q _ := fullShare
  owed _ := 0

theorem after1_0 (c : Dev nD) (t : Fin cfg1.N) : (dat1 W c).after 0 t = idsV W c := rfl
theorem after1_1 (c : Dev nD) (t : Fin cfg1.N) : (dat1 W c).after 1 t = xV W c := rfl
theorem after1_2 (c : Dev nD) (t : Fin cfg1.N) : (dat1 W c).after 2 t = cV W c := rfl
theorem after1_3 (c : Dev nD) (t : Fin cfg1.N) : (dat1 W c).after 3 t = hwBlk W c (pt (grid1.coords t)) := rfl

/-- A whole constant block is the array. -/
theorem blockOf1_0 (c : Dev nD) (t : Fin cfg1.N) : (dat1 W c).blockOf 0 t = idsV W c := by
  funext y
  show idsV W c _ = idsV W c y
  congr 1; funext a; apply Fin.ext
  match a with
  | ⟨0, _⟩ => show 0 * 4 + 1 * (y 0).val = (y 0).val; omega
  | ⟨1, _⟩ => show 0 * 1 + 1 * (y 1).val = (y 1).val; omega
  | ⟨2, _⟩ => show 0 * 1024 + 1 * (y 2).val = (y 2).val; omega
theorem blockOf1_1 (c : Dev nD) (t : Fin cfg1.N) : (dat1 W c).blockOf 1 t = xV W c := by
  funext y
  show xV W c _ = xV W c y
  congr 1; funext a; apply Fin.ext
  match a with
  | ⟨0, _⟩ => show 0 * 4 + 1 * (y 0).val = (y 0).val; omega
  | ⟨1, _⟩ => show 0 * 1024 + 1 * (y 1).val = (y 1).val; omega
  | ⟨2, _⟩ => show 0 * 768 + 1 * (y 2).val = (y 2).val; omega
theorem blockOf1_2 (c : Dev nD) (t : Fin cfg1.N) : (dat1 W c).blockOf 2 t = cV W c := by
  funext y
  show cV W c _ = cV W c y
  congr 1; funext a; apply Fin.ext
  match a with
  | ⟨0, _⟩ => show 0 * 4 + 1 * (y 0).val = (y 0).val; omega
  | ⟨1, _⟩ => show 0 * 1024 + 1 * (y 1).val = (y 1).val; omega
  | ⟨2, _⟩ => show 0 * 1024 + 1 * (y 2).val = (y 2).val; omega

theorem before1_0 (c : Dev nD) (t : Fin cfg1.N) (d) : (dat1 W c).before 0 t d = idsV W c :=
  ((dat1 W c).before_in_eq_fetched 0 rfl (fun _ => rfl) (fun _ _ _ => rfl) (fun t => (blockOf1_0 W c t).symm) t d).trans (blockOf1_0 W c t)
theorem before1_1 (c : Dev nD) (t : Fin cfg1.N) (d) : (dat1 W c).before 1 t d = xV W c :=
  ((dat1 W c).before_in_eq_fetched 1 rfl (fun _ => rfl) (fun _ _ _ => rfl) (fun t => (blockOf1_1 W c t).symm) t d).trans (blockOf1_1 W c t)
theorem before1_2 (c : Dev nD) (t : Fin cfg1.N) (d) : (dat1 W c).before 2 t d = cV W c :=
  ((dat1 W c).before_in_eq_fetched 2 rfl (fun _ => rfl) (fun _ _ _ => rfl) (fun t => (blockOf1_2 W c t).symm) t d).trans (blockOf1_2 W c t)

/-- No block of head weights the main kernel stages is cut. -/
theorem clip1_3 : ∀ (t : Fin grid1.N) (a : Fin 2), win1_3.clip (grid1.coords t) a = none := by decide +kernel
theorem ix1_3 : ∀ (t : Fin grid1.N), cc1_transform_3 (grid1.coords t) 0 = (pt (grid1.coords t)).val := by decide +kernel
theorem ix1_3' (i : grid1.Coords) : cc1_transform_3 i 1 = 0 := rfl

theorem before1_3 (c : Dev nD) (t : Fin cfg1.N) (d) : (dat1 W c).before 3 t d = hwBlk W c (pt (grid1.coords t)) := by
  rw [(dat1 W c).before_fetched 3 t (fetch1_3 t) d]
  unfold Dat.fetched
  funext y
  have hm : (cfg1.win 3).moved (cfg1.grid.coords t) y = true :=
    ((cfg1.win 3).moved_iff _ y).mpr fun a => by
      have := (y a).isLt
      unfold Window.xsize
      rw [show (cfg1.win 3).clip (cfg1.grid.coords t) a = none from clip1_3 t a]; exact this
  unfold Window.fill
  rw [dif_pos hm]
  show hV W c _ = hV W c _
  congr 1; funext a; apply Fin.ext
  match a with
  | ⟨0, _⟩ =>
    show cc1_transform_3 (grid1.coords t) 0 * 1024 + 1 * (y 0).val = 1024 * (pt (grid1.coords t)).val + (y 0).val
    rw [ix1_3]; omega
  | ⟨1, _⟩ => show 0 * 768 + 1 * (y 1).val = (y 1).val; omega

/-- The blocks a point computes are the final contents of its bands. -/
theorem G_at (c : Dev nD) (t : Fin cfg1.N) (b : Fin 4) :
    (band (pt (grid1.coords t)) b).view.read (Elt F) (GV W c : outM.view.ty.Contents (Elt F))
      = blk (grid1.coords t) (idsV W c) (xV W c) (cV W c) (hwBlk W c (pt (grid1.coords t))) b := by
  have h49 : t.val < 49 := N_1 ▸ t.isLt
  have e : pt (grid1.coords t) = ⟨t.val, h49⟩ := Fin.ext (pt_coords t)
  unfold GV
  rw [band_Gout, e, stepAt_val t h49]

end Cert.KernelIdeal.Run

end
-- ==== Proof.TailRegion.lean ====
/-
  The tail kernel's pipeline: one grid point over the last block of the head table, of which 81 rows exist.
-/
module

public import proofs.«01_k».proof.Proof.TailRun
public import proofs.«01_k».proof.Proof.MainRegion
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (W : Dev nD → Valuation τ sig (Elt F))

/-- The tail's result as the region finds it: the main kernel's result. -/
abbrev old2V (c : Dev nD) : Vec F S50257x4x1024 .f32 := W c (Proc.devRef .tc main_v5)

/-- The last block of head weights as staged: its 81 rows inside the table, the other rows as the buffer had them. -/
def hwTail (c : Dev nD) (d : Vec F S1024x768 .f32) : Vec F S1024x768 .f32 := fun y =>
  if h : (y 0).val < 81 then hV W c (ix2 ⟨50176 + (y 0).val, by omega⟩ (y 1)) else d y

/-- The same with fixed contents in the other rows. -/
abbrev hwTail0 (c : Dev nD) : Vec F S1024x768 .f32 := hwTail W c fun _ => hV W c (ix2 0 0)

/-- The proof data of the tail kernel's pipeline. -/
def dat2 (c : Dev nD) : Dat τ (Elt F) Unit ℕ (UU nD τ) ℕ cfg2 c where
  A w := W c (Proc.devRef .tc (arrRef spec2 w))
  after w t := match w with
    | ⟨0, _⟩ => idsV W c
    | ⟨1, _⟩ => xV W c
    | ⟨2, _⟩ => cV W c
    | ⟨3, _⟩ => hwTail0 W c
    | ⟨4, _⟩ => tailBlk (idsV W c) (xV W c) (cV W c) (hwTail0 W c)
  Φ _ := Pipeline.ΦA spec2 c
  q _ := fullShare
  owed _ := 0

theorem after2_0 (c : Dev nD) (t : Fin cfg2.N) : (dat2 W c).after 0 t = idsV W c := rfl
theorem after2_1 (c : Dev nD) (t : Fin cfg2.N) : (dat2 W c).after 1 t = xV W c := rfl
theorem after2_2 (c : Dev nD) (t : Fin cfg2.N) : (dat2 W c).after 2 t = cV W c := rfl
theorem after2_3 (c : Dev nD) (t : Fin cfg2.N) : (dat2 W c).after 3 t = hwTail0 W c := rfl
theorem after2_4 (c : Dev nD) (t : Fin cfg2.N) : (dat2 W c).after 4 t = tailBlk (idsV W c) (xV W c) (cV W c) (hwTail0 W c) := rfl

theorem blockOf2_0 (c : Dev nD) (t : Fin cfg2.N) : (dat2 W c).blockOf 0 t = idsV W c := by
  funext y
  show idsV W c _ = idsV W c y
  congr 1; funext a; apply Fin.ext
  match a with
  | ⟨0, _⟩ => show 0 * 4 + 1 * (y 0).val = (y 0).val; omega
  | ⟨1, _⟩ => show 0 * 1 + 1 * (y 1).val = (y 1).val; omega
  | ⟨2, _⟩ => show 0 * 1024 + 1 * (y 2).val = (y 2).val; omega
theorem blockOf2_1 (c : Dev nD) (t : Fin cfg2.N) : (dat2 W c).blockOf 1 t = xV W c := by
  funext y
  show xV W c _ = xV W c y
  congr 1; funext a; apply Fin.ext
  match a with
  | ⟨0, _⟩ => show 0 * 4 + 1 * (y 0).val = (y 0).val; omega
  | ⟨1, _⟩ => show 0 * 1024 + 1 * (y 1).val = (y 1).val; omega
  | ⟨2, _⟩ => show 0 * 768 + 1 * (y 2).val = (y 2).val; omega
theorem blockOf2_2 (c : Dev nD) (t : Fin cfg2.N) : (dat2 W c).blockOf 2 t = cV W c := by
  funext y
  show cV W c _ = cV W c y
  congr 1; funext a; apply Fin.ext
  match a with
  | ⟨0, _⟩ => show 0 * 4 + 1 * (y 0).val = (y 0).val; omega
  | ⟨1, _⟩ => show 0 * 1024 + 1 * (y 1).val = (y 1).val; omega
  | ⟨2, _⟩ => show 0 * 1024 + 1 * (y 2).val = (y 2).val; omega

theorem before2_0 (c : Dev nD) (t : Fin cfg2.N) (d) : (dat2 W c).before 0 t d = idsV W c :=
  ((dat2 W c).before_in_eq_fetched 0 rfl (fun _ => rfl) (fun _ _ _ => rfl) (fun t => (blockOf2_0 W c t).symm) t d).trans (blockOf2_0 W c t)
theorem before2_1 (c : Dev nD) (t : Fin cfg2.N) (d) : (dat2 W c).before 1 t d = xV W c :=
  ((dat2 W c).before_in_eq_fetched 1 rfl (fun _ => rfl) (fun _ _ _ => rfl) (fun t => (blockOf2_1 W c t).symm) t d).trans (blockOf2_1 W c t)
theorem before2_2 (c : Dev nD) (t : Fin cfg2.N) (d) : (dat2 W c).before 2 t d = cV W c :=
  ((dat2 W c).before_in_eq_fetched 2 rfl (fun _ => rfl) (fun _ _ _ => rfl) (fun t => (blockOf2_2 W c t).symm) t d).trans (blockOf2_2 W c t)

/-- How much of a clipped block is moved. -/
theorem size2_3 : ∀ (t : Fin grid2.N), win2_3.xsize (grid2.coords t) 0 = 81 ∧ win2_3.xsize (grid2.coords t) 1 = 768 := by decide +kernel
theorem size2_4 : ∀ (t : Fin grid2.N), win2_4.xsize (grid2.coords t) 0 = 81 ∧ win2_4.xsize (grid2.coords t) 1 = 4 ∧ win2_4.xsize (grid2.coords t) 2 = 1024 := by decide +kernel

theorem moved2_3 (t : Fin grid2.N) (y : S1024x768.Idx) : win2_3.moved (grid2.coords t) y = true ↔ (y 0).val < 81 := by
  rw [win2_3.moved_iff]
  constructor
  · intro h; have := h 0; rw [(size2_3 t).1] at this; exact this
  · intro h a
    match a with
    | ⟨0, _⟩ => show _ < win2_3.xsize (grid2.coords t) 0; rw [(size2_3 t).1]; exact h
    | ⟨1, _⟩ => show _ < win2_3.xsize (grid2.coords t) 1; rw [(size2_3 t).2]; exact (y 1).isLt
theorem moved2_4 (t : Fin grid2.N) (y : S1024x4x1024.Idx) : win2_4.moved (grid2.coords t) y = true ↔ (y 0).val < 81 := by
  rw [win2_4.moved_iff]
  constructor
  · intro h; have := h 0; rw [(size2_4 t).1] at this; exact this
  · intro h a
    match a with
    | ⟨0, _⟩ => show _ < win2_4.xsize (grid2.coords t) 0; rw [(size2_4 t).1]; exact h
    | ⟨1, _⟩ => show _ < win2_4.xsize (grid2.coords t) 1; rw [(size2_4 t).2.1]; exact (y 1).isLt
    | ⟨2, _⟩ => show _ < win2_4.xsize (grid2.coords t) 2; rw [(size2_4 t).2.2]; exact (y 2).isLt

theorem before2_3 (c : Dev nD) (t : Fin cfg2.N) (d) : (dat2 W c).before 3 t d = hwTail W c d := by
  rw [(dat2 W c).before_fetched 3 t (fetch2_3 t) d]
  unfold Dat.fetched
  funext y
  unfold Window.fill hwTail
  by_cases h : (y 0).val < 81
  · rw [dif_pos ((moved2_3 t y).mpr h), dif_pos h]
    show hV W c _ = hV W c _
    congr 1; funext a; apply Fin.ext
    match a with
    | ⟨0, _⟩ => show 49 * 1024 + 1 * (y 0).val = 50176 + (y 0).val; omega
    | ⟨1, _⟩ => show 0 * 768 + 1 * (y 1).val = (y 1).val; omega
  · rw [dif_neg (fun h' => h ((moved2_3 t y).mp h')), dif_neg h]

/-- The scoped buffers the tail kernel leaves alone. -/
abbrev rest2P (c : Dev nD) : sProp 𝕄 :=
  iprop(anyB c cc0_stg0_0 ∗ anyB c cc0_stg0_1 ∗ anyB c cc0_stg1_0 ∗ anyB c cc0_stg2_0 ∗ anyB c cc0_stg3_0 ∗ anyB c cc0_stg3_1 ∗ anyB c cc0_scratch0
    ∗ anyB c cc1_stg0_0 ∗ anyB c cc1_stg1_0 ∗ anyB c cc1_stg2_0 ∗ anyB c cc1_stg3_0 ∗ anyB c cc1_stg3_1 ∗ anyB c cc1_scratch0 ∗ anyB c cc1_scratch1)

/-- The invariant is the scratch buffer and the rest. -/
theorem phi2_out (c : Dev nD) :
    (Pipeline.ΦA spec2 c : sProp 𝕄) ⊢ iprop((∃ d, owns (c : Thread nD τ) ohM2 fullShare d) ∗ rest2P c ∗ (∃ r, prngReg c r)) := by
  unfold Pipeline.ΦA; rw [scopedRest2_eq]; simp only [ohM2, owns_whole]
  iintro ⟨⟨H1, H2, H3, H4, H5, H6, H7, H8, H9, H10, H11, H12, H13, H14, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg
theorem phi2_in (c : Dev nD) :
    iprop((∃ d, owns (c : Thread nD τ) ohM2 fullShare d) ∗ rest2P c ∗ (∃ r, prngReg c r)) ⊢ (Pipeline.ΦA spec2 c : sProp 𝕄) := by
  unfold Pipeline.ΦA; rw [scopedRest2_eq]; simp only [ohM2, owns_whole]
  iintro ⟨HS, ⟨H1, H2, H3, H4, H5, H6, H7, H8, H9, H10, H11, H12, H13, H14⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  iexact Hg

def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare d))

/-- The rows past the table's end are whatever the buffer held. -/
def bodyPost2 (c : Dev nD) (t : Fin cfg2.N) : sProp 𝕄 :=
  iprop(∃ d : Vec F S1024x768 .f32, (dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare (hwTail W c d)
    ∗ owns (c : Thread nD τ) (st2_4 t) fullShare (tailBlk (idsV W c) (xV W c) (cV W c) (hwTail W c d)))

theorem sound2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3]
  rw [after2_0, after2_1, after2_2, show (dat2 W c).Φ t.castSucc = Pipeline.ΦA spec2 c from rfl, show (dat2 W c).Φ t.succ = Pipeline.ΦA spec2 c from rfl,
    show (dat2 W c).owesAt () t.succ = (dat2 W c).owesAt () t.castSucc from rfl]
  iintro ⟨HP, Ho, ⟨%d0, H0⟩, ⟨%d1, H1⟩, ⟨%d2, H2⟩, ⟨%d3, H3⟩, ⟨%d4, H4⟩⟩
  ihave HP := (phi2_out c) $$ HP
  icases HP with ⟨HS, Hr, Hg⟩
  iapply (tailRun c (grid2.coords t) _ _ _ _ _ _ _ _ _ _ _ _ (idsV W c) (xV W c) (cV W c) (hwTail W c d3) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  iexists d3
  isplitl [HS Hr Hg]
  · iapply (phi2_in c)
    isplitl [HS]; · iexact HS
    isplitl [Hr]; · iexact Hr
    iexact Hg
  isplitl [Ho]; · iexact Ho
  isplitl [H0]; · iexact H0
  isplitl [H1]; · iexact H1
  isplitl [H2]; · iexact H2
  isplitl [H3]; · iexact H3
  iexact H4

theorem row2 (t : Fin cfg2.N) : defs₀ (F := F) .tc cfg2.body (cfg2.bodyArgs t (cfg2.slots t)) = bodyAt2 t := by
  unfold defs₀; rw [Defs.onTc_tc]

/-- A row of the tail's block depends on its own row of head weights. -/
def RowWise (F : FTy → Type) [FloatOps F] : Prop :=
  ∀ (x0 : Vec F S4x1x1024 .i32) (x1 : Vec F S4x1024x768 .bf16) (x2 : Vec F S4x1024x1024 .bf16) (a b : Vec F S1024x768 .f32),
    (∀ y : S1024x768.Idx, (y 0).val < 81 → a y = b y) → ∀ y : S1024x4x1024.Idx, (y 0).val < 81 → tailBlk x0 x1 x2 a y = tailBlk x0 x1 x2 b y

theorem hwTail_row (c : Dev nD) (d d' : Vec F S1024x768 .f32) (y : S1024x768.Idx) (h : (y 0).val < 81) : hwTail W c d y = hwTail W c d' y := by
  unfold hwTail; rw [dif_pos h, dif_pos h]

theorem fill2_3 (c : Dev nD) (t : Fin cfg2.N) (d : Vec F S1024x768 .f32) :
    hwTail W c d = win2_3.fill (grid2.coords t) (hwTail W c d) (win2_3.cut (grid2.coords t) (hwTail0 W c)) := by
  funext y
  unfold Window.fill
  by_cases h : (y 0).val < 81
  · rw [dif_pos ((moved2_3 t y).mpr h)]; exact hwTail_row W c _ _ y h
  · rw [dif_neg (fun h' => h ((moved2_3 t y).mp h'))]
theorem fill2_4 (hF : RowWise F) (c : Dev nD) (t : Fin cfg2.N) (d : Vec F S1024x768 .f32) :
    tailBlk (idsV W c) (xV W c) (cV W c) (hwTail W c d)
      = win2_4.fill (grid2.coords t) (tailBlk (idsV W c) (xV W c) (cV W c) (hwTail W c d))
          (win2_4.cut (grid2.coords t) (tailBlk (idsV W c) (xV W c) (cV W c) (hwTail0 W c))) := by
  funext y
  unfold Window.fill
  by_cases h : (y 0).val < 81
  · rw [dif_pos ((moved2_4 t y).mpr h)]
    exact hF _ _ _ _ _ (fun y h => hwTail_row W c _ _ y h) y h
  · rw [dif_neg (fun h' => h ((moved2_4 t y).mp h'))]

/-- The windows whose contents are not named: the tail's result, or none. -/
def forget2 (b : Bool) : Fin 5 → Bool := fun w => b && (w.val == 4)

/-- The postcondition with the result unnamed. -/
def looseT (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ (∃ d, owns (c : Thread nD τ) (st2_3 t) fullShare (win2_3.fill (grid2.coords t) d (win2_3.cut (grid2.coords t) ((dat2 W c).after 3 t))))
    ∗ (∃ d, owns (c : Thread nD τ) (st2_4 t) fullShare d))

/-- The postcondition with the result named on the rows that exist. -/
def looseF (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ (∃ d, owns (c : Thread nD τ) (st2_3 t) fullShare (win2_3.fill (grid2.coords t) d (win2_3.cut (grid2.coords t) ((dat2 W c).after 3 t))))
    ∗ (∃ d, owns (c : Thread nD τ) (st2_4 t) fullShare (win2_4.fill (grid2.coords t) d (win2_4.cut (grid2.coords t) ((dat2 W c).after 4 t)))))

theorem post_looseT (c : Dev nD) (t : Fin cfg2.N) : bodyPost2 W c t ⊢ looseT W c t := by
  unfold bodyPost2 looseT
  iintro ⟨%d, HP, Ho, H0, H1, H2, H3, H4⟩
  isplitl [HP]; · iexact HP
  isplitl [Ho]; · iexact Ho
  isplitl [H0]; · iexact H0
  isplitl [H1]; · iexact H1
  isplitl [H2]; · iexact H2
  isplitl [H3]
  · iexists (hwTail W c d)
    rw [after2_3, ← fill2_3 W c t d]; iexact H3
  iexists _; iexact H4

theorem post_looseF (hF : RowWise F) (c : Dev nD) (t : Fin cfg2.N) : bodyPost2 W c t ⊢ looseF W c t := by
  unfold bodyPost2 looseF
  iintro ⟨%d, HP, Ho, H0, H1, H2, H3, H4⟩
  isplitl [HP]; · iexact HP
  isplitl [Ho]; · iexact Ho
  isplitl [H0]; · iexact H0
  isplitl [H1]; · iexact H1
  isplitl [H2]; · iexact H2
  isplitl [H3]
  · iexists (hwTail W c d)
    rw [after2_3, ← fill2_3 W c t d]; iexact H3
  iexists (tailBlk (idsV W c) (xV W c) (cV W c) (hwTail W c d))
  rw [after2_4, ← fill2_4 W hF c t d]; iexact H4

/-- The precondition with the result buffer's old contents named. -/
def namedF (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d)))

theorem named_pre (c : Dev nD) (t : Fin cfg2.N) : namedF W c t ⊢ bodyPre2 W c t := by
  unfold namedF bodyPre2
  iintro ⟨HP, Ho, H0, H1, H2, H3, ⟨%d, H4⟩⟩
  isplitl [HP]; · iexact HP
  isplitl [Ho]; · iexact Ho
  isplitl [H0]; · iexact H0
  isplitl [H1]; · iexact H1
  isplitl [H2]; · iexact H2
  isplitl [H3]; · iexact H3
  iexists _; iexact H4

/-- The library's body obligation for the tail kernel, its result named or not. -/
theorem obligation2 (b : Bool) (hb : b = false → RowWise F) (c : Dev nD) :
    BodyObligationLoose (dat2 (F := F) W c) (defs₀ (F := F)) Variants.none () Set.univ (forget2 b) := by
  intro t
  rw [bigSep_W2, bigSep_W2, row2]
  cases b with
  | true => exact triple_restated (sound2 W c t) rfl .rfl fun _ => post_looseT W c t
  | false => exact triple_restated (sound2 W c t) rfl (named_pre W c t) fun _ => post_looseF W (hb rfl) c t

/-- The result array after the region, where it is named: its last 81 rows are the tail's, the others as before. -/
def tailOut (c : Dev nD) : Vec F S50257x4x1024 .f32 := fun y =>
  if h : 50176 ≤ (y 0).val then tailBlk (idsV W c) (xV W c) (cV W c) (hwTail0 W c) (ix3 ⟨(y 0).val - 50176, by have : (y 0).val < 50257 := (y 0).isLt; omega⟩ (y 1) (y 2))
  else old2V W c y

end Cert.KernelIdeal.Run

end
-- ==== Proof.VBlock.lean ====
/-
  The vocabulary kernels' blocks over the extended reals.
-/
module

public import proofs.«01_k».proof.Proof.VTile
public import proofs.«01_k».proof.Proof.TailRegion

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

/-! ## A block of the vocabulary kernel -/

/-- What both vocabulary kernels compute for vocabulary entry `n`, whose head weights are row `r` of `hw`, batch `b` and position `p`. -/
def entry (x0 : Vec Ideal S4x1x1024 .i32) (x1 : Vec Ideal S4x1024x768 .bf16) (x2 : Vec Ideal S4x1024x1024 .bf16) (hw : Fin 768 → EReal)
    (n : ℕ) (b : Fin 4) (p : Fin 1024) : EReal :=
  (∑ e : Fin 768, hw e * x1 (ix3 b p e)) + ∑ s : Fin 1024, (if x0 (ix3 b 0 s) = BitVec.ofNat 32 n then 1 else 0) * x2 (ix3 b p s)

theorem id_at (x0 : Vec Ideal S4x1x1024 .i32) (b : Fin 4) (s : Fin 1024) : idOf (F := Ideal) x0 b (ix3 0 0 s) = x0 (ix3 b 0 s) := by
  refine congrArg x0 ?_
  funext a; apply Fin.ext
  match a with
  | ⟨0, _⟩ => show b.val + 1 * 0 = b.val; omega
  | ⟨1, _⟩ => show 0 + 1 * 0 = 0; omega
  | ⟨2, _⟩ => show 0 + 1 * s.val = s.val; omega

theorem entry_main (i : grid1.Coords) (x0 : Vec Ideal S4x1x1024 .i32) (x1 : Vec Ideal S4x1024x768 .bf16) (x2 : Vec Ideal S4x1024x1024 .bf16)
    (x3 : Vec Ideal S1024x768 .f32) (b : Fin 4) (r p : Fin 1024) :
    ((∑ e : Fin 768, (k1_pay2 (F := Ideal) x3 (ix2 r e) : EReal) * x1 (ix3 b p e))
        + ∑ s : Fin 1024, (k1_pay4 (F := Ideal) i (idOf x0 b) (ix2 r s) : EReal) * x2 (ix3 b p s) : EReal)
      = entry x0 x1 x2 (fun e => x3 (ix2 r e)) (1024 * (i 0).val + r.val) b p := by
  unfold entry
  refine congrArg₂ _ rfl (Finset.sum_congr rfl fun s _ => congrArg (fun z : EReal => z * (x2 (ix3 b p s) : EReal)) ?_)
  rw [hot_main, id_at]

theorem entry_tail (x0 : Vec Ideal S4x1x1024 .i32) (x1 : Vec Ideal S4x1024x768 .bf16) (x2 : Vec Ideal S4x1024x1024 .bf16)
    (x3 : Vec Ideal S1024x768 .f32) (b : Fin 4) (r p : Fin 1024) :
    ((∑ e : Fin 768, (k2_pay2 (F := Ideal) x3 (ix2 r e) : EReal) * x1 (ix3 b p e))
        + ∑ s : Fin 1024, (k2_pay12 (F := Ideal) k2_pay3 (idOf x0 b) (ix2 r s) : EReal) * x2 (ix3 b p s) : EReal)
      = entry x0 x1 x2 (fun e => x3 (ix2 r e)) (1024 * 49 + r.val) b p := by
  unfold entry
  refine congrArg₂ _ rfl (Finset.sum_congr rfl fun s _ => congrArg (fun z : EReal => z * (x2 (ix3 b p s) : EReal)) ?_)
  rw [hot_tail, id_at]

/-- No score above the diagonal. -/
def Causal (x2 : Vec Ideal S4x1024x1024 .bf16) : Prop := ∀ (b : Fin 4) (p s : Fin 1024), p.val < s.val → (x2 (ix3 b p s) : EReal) = 0

theorem blk_val (i : grid1.Coords) (x0 : Vec Ideal S4x1x1024 .i32) (x1 : Vec Ideal S4x1024x768 .bf16) (x2 : Vec Ideal S4x1024x1024 .bf16)
    (x3 : Vec Ideal S1024x768 .f32) (hz : Causal x2) (b : Fin 4) (r p : Fin 1024) :
    (blk (F := Ideal) i x0 x1 x2 x3 b (ix2 r p) : EReal) = entry x0 x1 x2 (fun e => x3 (ix2 r e)) (1024 * (i 0).val + r.val) b p := by
  rw [← entry_main i x0 x1 x2 x3 b r p]
  have hp := p.isLt
  unfold blk
  rw [joinTiles_ix2]
  split
  · exact (pay20_at _ _ r _ _ _).trans (tile_val _ _ x1 _ x2 b 0 r _ p (by show p.val = 256 * 0 + p.val; omega) fun s hs => hz b p s (by omega))
  split
  · exact (pay6_at _ _ r _ _ _).trans (tile_val _ _ x1 _ x2 b 1 r _ p (by show p.val = 256 * 1 + (p.val - 256); omega) fun s hs => hz b p s (by omega))
  split
  · exact (pay7_at _ _ r _ _ _).trans (tile_val _ _ x1 _ x2 b 2 r _ p (by show p.val = 256 * 2 + (p.val - 512); omega) fun s hs => hz b p s (by omega))
  · exact (pay17_at _ _ r _ _ _).trans (tile_val _ _ x1 _ x2 b 3 r _ p (by show p.val = 256 * 3 + (p.val - 768); omega) fun s hs => hz b p s (by omega))

/-! ## The tail's block -/

/-- The tail's block as sums over the columns its tile reads. -/
theorem tail_tile (x0 : Vec Ideal S4x1x1024 .i32) (x1 : Vec Ideal S4x1024x768 .bf16) (x2 : Vec Ideal S4x1024x1024 .bf16)
    (x3 : Vec Ideal S1024x768 .f32) (b j : Fin 4) (r : Fin 1024) (q : Fin 256) (hk : 256 * (j.val + 1) ≤ 1024) :
    (tailTile (F := Ideal) x0 x1 x2 x3 b j (ix3 r 0 q) : EReal)
      = (∑ e : Fin 768, (k2_pay2 (F := Ideal) x3 (ix2 r e) : EReal) * xOf (F := Ideal) x1 b j (ix3 0 q e))
        + ∑ s : Fin (256 * (j.val + 1)), (ohOf (F := Ideal) (k2_pay12 k2_pay3 (idOf x0 b)) hk (ix2 r s) : EReal) * cOf (F := Ideal) x2 b j hk (ix3 0 q s) := by
  match j with
  | ⟨0, _⟩ => exact tpay13_at _ _ r q _ _
  | ⟨1, _⟩ => exact tpay15_at _ _ r q _ _
  | ⟨2, _⟩ => exact tpay16_at _ _ r q _ _
  | ⟨3, _⟩ => exact tpay18_at _ _ r q _ _

theorem rowWise : RowWise Ideal := by
  intro x0 x1 x2 a b hab y hy
  have h2 : (y 2).val < 1024 := (y 2).isLt
  show tailTile (F := Ideal) x0 x1 x2 a (y 1) ⟨(y 2).val / 256, by omega⟩ (ix3 (y 0) 0 ⟨(y 2).val % 256, Nat.mod_lt _ (by omega)⟩)
    = tailTile (F := Ideal) x0 x1 x2 b (y 1) ⟨(y 2).val / 256, by omega⟩ (ix3 (y 0) 0 ⟨(y 2).val % 256, Nat.mod_lt _ (by omega)⟩)
  have hk : 256 * ((⟨(y 2).val / 256, by omega⟩ : Fin 4).val + 1) ≤ 1024 := by show 256 * ((y 2).val / 256 + 1) ≤ 1024; omega
  refine (tail_tile x0 x1 x2 a _ _ _ _ hk).trans (Eq.trans ?_ (tail_tile x0 x1 x2 b _ _ _ _ hk).symm)
  refine congrArg₂ _ (Finset.sum_congr rfl fun e _ => congrArg (fun z : EReal => z * _) ?_) rfl
  exact hab (ix2 (y 0) e) hy

theorem tail_val (x0 : Vec Ideal S4x1x1024 .i32) (x1 : Vec Ideal S4x1024x768 .bf16) (x2 : Vec Ideal S4x1024x1024 .bf16)
    (x3 : Vec Ideal S1024x768 .f32) (hz : Causal x2) (b : Fin 4) (r p : Fin 1024) :
    (tailBlk (F := Ideal) x0 x1 x2 x3 (ix3 r b p) : EReal) = entry x0 x1 x2 (fun e => x3 (ix2 r e)) (1024 * 49 + r.val) b p := by
  have hp := p.isLt
  rw [← entry_tail x0 x1 x2 x3 b r p]
  have hk : 256 * ((⟨p.val / 256, by omega⟩ : Fin 4).val + 1) ≤ 1024 := by show 256 * (p.val / 256 + 1) ≤ 1024; omega
  exact (tail_tile x0 x1 x2 x3 b ⟨p.val / 256, by omega⟩ r ⟨p.val % 256, Nat.mod_lt _ (by omega)⟩ hk).trans
    (tile_val hk _ x1 _ x2 b _ r _ p (by show p.val = 256 * (p.val / 256) + p.val % 256; omega)
      fun s hs => hz b p s (by have : 256 * (p.val / 256 + 1) ≤ s.val := hs; omega))

end Cert.KernelIdeal.Run

end
-- ==== Proof.ScoreRun.lean ====
/-
  The scores kernel's body: what one batch's block of scores is, and the body's triple leaving the output staging buffer
  at that block.
-/
module

public import proofs.«01_k».proof.Proof.MainValue
public import Idealize.ShloMosaic.Lib.Pipeline.FrameBody
public import Idealize.ShloMosaic.Lib.Pipeline.TalkSched

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

/-- A load of all of an array is the array. -/
theorem cut_all {s : Shape} {α : Type} {off : Fin s.rank → ℕ} (h0 : off = fun _ => 0) (inb : ∀ a, off a + s.size a ≤ s.size a) (x : s.Idx → α) :
    cut (Rect.unit off s.size inb).toLoadRect x = x := by
  subst h0
  funext y
  exact congrArg x (funext fun a => Fin.ext (by show 0 + 1 * (y a).val = (y a).val; omega))

/-- A batch's scores from four blocks of rows, each a computed tile up to the diagonal and a tile beyond it. -/
def joinScores {α : Type} (p0 : S1x256x256.Idx → α) (z0 : S1x256x768.Idx → α) (p1 z1 : S1x256x512.Idx → α)
    (p2 : S1x256x768.Idx → α) (z2 : S1x256x256.Idx → α) (p3 : S1x256x1024.Idx → α) (r q : Fin 1024) : α :=
  if h0 : r.val < 256 then
    (if h : q.val < 256 then p0 (ix3 0 ⟨r.val, h0⟩ ⟨q.val, h⟩) else z0 (ix3 0 ⟨r.val, h0⟩ ⟨q.val - 256, by omega⟩))
  else if h1 : r.val < 512 then
    (if h : q.val < 512 then p1 (ix3 0 ⟨r.val - 256, by omega⟩ ⟨q.val, h⟩) else z1 (ix3 0 ⟨r.val - 256, by omega⟩ ⟨q.val - 512, by omega⟩))
  else if h2 : r.val < 768 then
    (if h : q.val < 768 then p2 (ix3 0 ⟨r.val - 512, by omega⟩ ⟨q.val, h⟩) else z2 (ix3 0 ⟨r.val - 512, by omega⟩ ⟨q.val - 768, by omega⟩))
  else p3 (ix3 0 ⟨r.val - 768, by omega⟩ q)

section
variable {sp : Space} (v : View sig .tc sp S1x1024x1024 .bf16) (g : v.ty.Contents (Elt F))

theorem score_miss {n k o p : ℕ} {inb : ∀ a, (![0, o, p] : Fin 3 → ℕ) a + (![1, n, k] : Fin 3 → ℕ) a ≤ S1x1024x1024.size a}
    (w : (⟨3, ![1, n, k]⟩ : Shape).Idx → Elt F .bf16) (L : List (View.Piece (Elt F) S1x1024x1024 .bf16)) (r q : Fin 1024)
    (h : r.val < o ∨ o + n ≤ r.val ∨ q.val < p ∨ p + k ≤ q.val) :
    v.read (Elt F) (v.writes (Elt F) g (⟨Rect.unit (s := S1x1024x1024) ![0, o, p] ![1, n, k] inb, w⟩ :: L)) (ix3 0 r q)
      = v.read (Elt F) (v.writes (Elt F) g L) (ix3 0 r q) := by
  rcases h with h | h | h | h
  · exact View.read_writes_cons_unit_of_not_mem v g inb w L (ix3 0 r q) rfl 1 (Or.inl h)
  · exact View.read_writes_cons_unit_of_not_mem v g inb w L (ix3 0 r q) rfl 1 (Or.inr h)
  · exact View.read_writes_cons_unit_of_not_mem v g inb w L (ix3 0 r q) rfl 2 (Or.inl h)
  · exact View.read_writes_cons_unit_of_not_mem v g inb w L (ix3 0 r q) rfl 2 (Or.inr h)

theorem score_hit {n k o p : ℕ} {inb : ∀ a, (![0, o, p] : Fin 3 → ℕ) a + (![1, n, k] : Fin 3 → ℕ) a ≤ S1x1024x1024.size a}
    (w : (⟨3, ![1, n, k]⟩ : Shape).Idx → Elt F .bf16) (L : List (View.Piece (Elt F) S1x1024x1024 .bf16)) (r q : Fin 1024)
    (r' : Fin n) (q' : Fin k) (hr : r.val = o + r'.val) (hq : q.val = p + q'.val) :
    v.read (Elt F) (v.writes (Elt F) g (⟨Rect.unit (s := S1x1024x1024) ![0, o, p] ![1, n, k] inb, w⟩ :: L)) (ix3 0 r q) = w (ix3 0 r' q') :=
  View.read_writes_cons_unit_of_mem v g inb w L (ix3 0 r q) (ix3 0 r' q') rfl fun a => by
    match a with
    | ⟨0, _⟩ => rfl
    | ⟨1, _⟩ => exact hr
    | ⟨2, _⟩ => exact hq

/-- What the seven stores leave. -/
theorem scores_read (p0 : S1x256x256.Idx → Elt F .bf16) (z0 : S1x256x768.Idx → Elt F .bf16) (p1 z1 : S1x256x512.Idx → Elt F .bf16)
    (p2 : S1x256x768.Idx → Elt F .bf16) (z2 : S1x256x256.Idx → Elt F .bf16) (p3 : S1x256x1024.Idx → Elt F .bf16) :
    v.read (Elt F) (v.writes (Elt F) g
      [⟨Rect.unit (s := S1x1024x1024) ![0, 768, 0] S1x256x1024.size inb_S1x1024x1024_S1x256x1024_0_768_0, p3⟩,
       ⟨Rect.unit (s := S1x1024x1024) ![0, 512, 768] S1x256x256.size inb_S1x1024x1024_S1x256x256_0_512_768, z2⟩,
       ⟨Rect.unit (s := S1x1024x1024) ![0, 512, 0] S1x256x768.size inb_S1x1024x1024_S1x256x768_0_512_0, p2⟩,
       ⟨Rect.unit (s := S1x1024x1024) ![0, 256, 512] S1x256x512.size inb_S1x1024x1024_S1x256x512_0_256_512, z1⟩,
       ⟨Rect.unit (s := S1x1024x1024) ![0, 256, 0] S1x256x512.size inb_S1x1024x1024_S1x256x512_0_256_0, p1⟩,
       ⟨Rect.unit (s := S1x1024x1024) ![0, 0, 256] S1x256x768.size inb_S1x1024x1024_S1x256x768_0_0_256, z0⟩,
       ⟨Rect.unit (s := S1x1024x1024) ![0, 0, 0] S1x256x256.size inb_S1x1024x1024_S1x256x256_0_0_0, p0⟩])
      = fun y => joinScores p0 z0 p1 z1 p2 z2 p3 (y 1) (y 2) := by
  funext y
  obtain ⟨b, r, q, rfl⟩ : ∃ (b : Fin 1) (r : Fin 1024) (q : Fin 1024), y = ix3 b r q := ⟨y 0, y 1, y 2, eq_ix3 y⟩
  obtain rfl : b = 0 := Subsingleton.elim _ _
  show _ = joinScores p0 z0 p1 z1 p2 z2 p3 r q
  have hr := r.isLt
  have hq := q.isLt
  unfold joinScores
  split
  · refine (score_miss v g (o := 768) (p := 0) (n := 256) (k := 1024) p3 _ r q (by omega)).trans ?_
    refine (score_miss v g (o := 512) (p := 768) (n := 256) (k := 256) z2 _ r q (by omega)).trans ?_
    refine (score_miss v g (o := 512) (p := 0) (n := 256) (k := 768) p2 _ r q (by omega)).trans ?_
    refine (score_miss v g (o := 256) (p := 512) (n := 256) (k := 512) z1 _ r q (by omega)).trans ?_
    refine (score_miss v g (o := 256) (p := 0) (n := 256) (k := 512) p1 _ r q (by omega)).trans ?_
    split
    · refine (score_miss v g (o := 0) (p := 256) (n := 256) (k := 768) z0 _ r q (by omega)).trans ?_
      exact score_hit v g (o := 0) (p := 0) (n := 256) (k := 256) p0 _ r q ⟨r.val, by omega⟩ ⟨q.val, by omega⟩ (by show r.val = 0 + r.val; omega) (by show q.val = 0 + q.val; omega)
    · exact score_hit v g (o := 0) (p := 256) (n := 256) (k := 768) z0 _ r q ⟨r.val, by omega⟩ ⟨q.val - 256, by omega⟩ (by show r.val = 0 + r.val; omega) (by show q.val = 256 + (q.val - 256); omega)
  split
  · refine (score_miss v g (o := 768) (p := 0) (n := 256) (k := 1024) p3 _ r q (by omega)).trans ?_
    refine (score_miss v g (o := 512) (p := 768) (n := 256) (k := 256) z2 _ r q (by omega)).trans ?_
    refine (score_miss v g (o := 512) (p := 0) (n := 256) (k := 768) p2 _ r q (by omega)).trans ?_
    split
    · refine (score_miss v g (o := 256) (p := 512) (n := 256) (k := 512) z1 _ r q (by omega)).trans ?_
      exact score_hit v g (o := 256) (p := 0) (n := 256) (k := 512) p1 _ r q ⟨r.val - 256, by omega⟩ ⟨q.val, by omega⟩ (by show r.val = 256 + (r.val - 256); omega) (by show q.val = 0 + q.val; omega)
    · exact score_hit v g (o := 256) (p := 512) (n := 256) (k := 512) z1 _ r q ⟨r.val - 256, by omega⟩ ⟨q.val - 512, by omega⟩ (by show r.val = 256 + (r.val - 256); omega) (by show q.val = 512 + (q.val - 512); omega)
  split
  · refine (score_miss v g (o := 768) (p := 0) (n := 256) (k := 1024) p3 _ r q (by omega)).trans ?_
    split
    · refine (score_miss v g (o := 512) (p := 768) (n := 256) (k := 256) z2 _ r q (by omega)).trans ?_
      exact score_hit v g (o := 512) (p := 0) (n := 256) (k := 768) p2 _ r q ⟨r.val - 512, by omega⟩ ⟨q.val, by omega⟩ (by show r.val = 512 + (r.val - 512); omega) (by show q.val = 0 + q.val; omega)
    · exact score_hit v g (o := 512) (p := 768) (n := 256) (k := 256) z2 _ r q ⟨r.val - 512, by omega⟩ ⟨q.val - 768, by omega⟩ (by show r.val = 512 + (r.val - 512); omega) (by show q.val = 768 + (q.val - 768); omega)
  · exact score_hit v g (o := 768) (p := 0) (n := 256) (k := 1024) p3 _ r q ⟨r.val - 768, by omega⟩ q (by show r.val = 768 + (r.val - 768); omega) (by show q.val = 0 + q.val; omega)
end

theorem xq_inb (j : Fin 4) : ∀ a, (![0, 256 * j.val, 0] : Fin 3 → ℕ) a + S1x256x768.size a ≤ S1x1024x768.size a := by
  have := j.isLt; intro a; fin_cases a
  · show 0 + 1 ≤ 1; omega
  · show 256 * j.val + 256 ≤ 1024; omega
  · show 0 + 768 ≤ 768; omega
theorem kk_inb {k : ℕ} (hk : k ≤ 1024) : ∀ a, (![0, 0] : Fin 2 → ℕ) a + (![k, 256] : Fin 2 → ℕ) a ≤ S1024x256.size a := by
  intro a; fin_cases a
  · show 0 + k ≤ 1024; omega
  · show 0 + 256 ≤ 256; omega

/-- Positions `256 j …` of a batch's activations. -/
abbrev xqOf (x0 : Vec F S1x1024x768 .bf16) (j : Fin 4) : Vec F S1x256x768 .bf16 :=
  cut (Rect.unit (s := S1x1024x768) ![0, 256 * j.val, 0] S1x256x768.size (xq_inb j)).toLoadRect x0
/-- The first `k` keys. -/
abbrev kOf (ks : Vec F S1024x256 .bf16) {k : ℕ} (hk : k ≤ 1024) : (⟨2, ![k, 256]⟩ : Shape).Idx → Elt F .bf16 :=
  cut (Rect.unit (s := S1024x256) ![0, 0] ![k, 256] (kk_inb hk)).toLoadRect ks

/-- A batch's block of scores, from its activations and the two weights. -/
def scoreBlk (x0 : Vec F S1x1024x768 .bf16) (x1 x2 : Vec F S256x768 .bf16) : Vec F S1x1024x1024 .bf16 := fun y =>
  joinScores
    (k0_pay3 (xqOf x0 0) x1 (kOf (k0_pay2 x0 x2) (k := 256) (by omega))) (k0_pay5 (k0_pay4 (F := F)))
    (k0_pay6 (xqOf x0 1) x1 (kOf (k0_pay2 x0 x2) (k := 512) (by omega))) (k0_pay7 (F := F))
    (k0_pay10 (k0_pay8 (xqOf x0 2)) (k0_pay9 x1) (kOf (k0_pay2 x0 x2) (k := 768) (by omega))) (k0_pay11 (F := F))
    (k0_pay1 (k0_pay12 (xqOf x0 3) x1 (kOf (k0_pay2 x0 x2) (k := 1024) (by omega))) (iota .tc S256x1024 32 [0] iota_S256x1024_d0_w32) k0_pay13)
    (y 1) (y 2)

theorem w_part {M : Memref sig .tc .vmem S256x768 .bf16} (h : M.IsWhole) (x : Vec F S256x768 .bf16)
    {inb : ∀ a, (![0, 0] : Fin 2 → ℕ) a + (![256, 768] : Fin 2 → ℕ) a ≤ S256x768.size a} :
    View.readAt (Elt F) M.view (Rect.unit (s := S256x768) ![0, 0] ![256, 768] inb).toLoadRect (h.unread x) = x :=
  (readAt_unread h _ x).trans (cut_all (s := S256x768) (by decide) inb x)
theorem xa_part {M : Memref sig .tc .vmem S1x1024x768 .bf16} (h : M.IsWhole) (x : Vec F S1x1024x768 .bf16)
    {inb : ∀ a, (![0, 0, 0] : Fin 3 → ℕ) a + (![1, 1024, 768] : Fin 3 → ℕ) a ≤ S1x1024x768.size a} :
    View.readAt (Elt F) M.view (Rect.unit (s := S1x1024x768) ![0, 0, 0] ![1, 1024, 768] inb).toLoadRect (h.unread x) = x :=
  (readAt_unread h _ x).trans (cut_all (s := S1x1024x768) (by decide) inb x)

/-- A load of the first `k` keys after the keys were stored. -/
theorem k_part {a : Vec F S1x1024x768 .bf16} {b : Vec F S256x768 .bf16} {x0 : Vec F S1x1024x768 .bf16} {x2 : Vec F S256x768 .bf16} {k : ℕ} {hk : k ≤ 1024}
    {inb : ∀ a, (![0, 0] : Fin 2 → ℕ) a + (![1024, 256] : Fin 2 → ℕ) a ≤ S1024x256.size a}
    {inb' : ∀ a, (![0, 0] : Fin 2 → ℕ) a + (![k, 256] : Fin 2 → ℕ) a ≤ S1024x256.size a} (h0 : a = x0) (h2 : b = x2) :
    (View.whole cc0_scratch0).readCov [⟨Rect.unit (s := S1024x256) ![0, 0] ![1024, 256] inb, k0_pay2 a b⟩] (Rect.unit (s := S1024x256) ![0, 0] ![k, 256] inb').toLoadRect
      = kOf (k0_pay2 x0 x2) (k := k) hk :=
  (readCov_cut (View.whole cc0_scratch0) (by decide) inb _ _ _).trans (by rw [h0, h2])

/-- The scores scratch holds the keys of a batch; the queries of 256 positions are multiplied with its first rows. -/
abbrev kM : Memref sig .tc .vmem S1024x256 .bf16 := Memref.whole cc0_scratch0

theorem pay3_congr {x x' : Vec F S1x256x768 .bf16} {w w' : Vec F S256x768 .bf16} {k k' : Vec F S256x256 .bf16}
    (h0 : x = x') (h1 : w = w') (h2 : k = k') : k0_pay3 x w k = k0_pay3 x' w' k' := by rw [h0, h1, h2]
theorem pay6_congr {x x' : Vec F S1x256x768 .bf16} {w w' : Vec F S256x768 .bf16} {k k' : Vec F S512x256 .bf16}
    (h0 : x = x') (h1 : w = w') (h2 : k = k') : k0_pay6 x w k = k0_pay6 x' w' k' := by rw [h0, h1, h2]
theorem pay10_congr {x x' : Vec F S1x256x768 .bf16} {w w' : Vec F S256x768 .bf16} {k k' : Vec F S768x256 .bf16}
    (h0 : x = x') (h1 : w = w') (h2 : k = k') : k0_pay10 (k0_pay8 x) (k0_pay9 w) k = k0_pay10 (k0_pay8 x') (k0_pay9 w') k' := by rw [h0, h1, h2]
theorem pay12_congr {x x' : Vec F S1x256x768 .bf16} {w w' : Vec F S256x768 .bf16} {k k' : Vec F S1024x256 .bf16} {a b : IVec S256x1024 32}
    (h0 : x = x') (h1 : w = w') (h2 : k = k') : k0_pay1 (k0_pay12 x w k) a b = k0_pay1 (k0_pay12 x' w' k') a b := by rw [h0, h1, h2]

set_option maxHeartbeats 1000000 in
/-- The body's triple: the output buffer ends at the batch's block of scores. -/
theorem qkcRun (c : Dev nD) (i : grid0.Coords) (arg1 : Memref sig .tc .vmem S1x1024x768 .bf16) (harg1 : arg1.IsWhole) (arg2 : Memref sig .tc .vmem S256x768 .bf16) (harg2 : arg2.IsWhole) (arg3 : Memref sig .tc .vmem S256x768 .bf16) (harg3 : arg3.IsWhole) (arg4 : Memref sig .tc .vmem S1x1024x1024 .bf16) (harg4 : arg4.IsWhole)
    (x0 : Vec F S1x1024x768 .bf16) (x1 : Vec F S256x768 .bf16) (x2 : Vec F S256x768 .bf16) :
      ∀ (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) kM fullShare d)
            ∗ (iprop(owns (c : Thread nD τ) arg1 fullShare x0 ∗ owns (c : Thread nD τ) arg2 fullShare x1 ∗ owns (c : Thread nD τ) arg3 fullShare x2 ∗ owns (c : Thread nD τ) arg4 fullShare (scoreBlk x0 x1 x2) ∗ (∃ d, owns (c : Thread nD τ) kM fullShare d)) -∗ K PUnit.unit))
          ⊢ wp frame (wpE (defs₀ (F := F)) Variants.none c none) Set.univ (cc0_qkc i arg1 harg1 arg2 harg2 arg3 harg3 arg4 harg4 kM (Memref.isWhole_whole _)) K := by
    intro K
    simp only [cc0_qkc_eq_skeleton]; unfold cc0_qkc_skel
    simp (config := { proj := false }) only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      unfold scoreBlk
      refine (scores_read _ _ _ _ _ _ _ _ _).trans (funext fun y => ?_)
      congr 1
      · exact pay3_congr (readAt_unread harg1 _ x0) (w_part harg2 x1) (k_part (k := 256) (xa_part harg1 x0) (w_part harg3 x2))
      · exact pay6_congr (readAt_unread harg1 _ x0) (w_part harg2 x1) (k_part (k := 512) (xa_part harg1 x0) (w_part harg3 x2))
      · exact pay10_congr (readAt_unread harg1 _ x0) (w_part harg2 x1) (k_part (k := 768) (xa_part harg1 x0) (w_part harg3 x2))
      · exact pay12_congr (readAt_unread harg1 _ x0) (w_part harg2 x1) (k_part (k := 1024) (xa_part harg1 x0) (w_part harg3 x2))
    iexists _, _; isplitr; swap; · iexact HS0
    ipureintro; rfl

end Cert.KernelIdeal.Run

end
-- ==== Proof.VScore.lean ====
/-
  The scores over the extended reals: queries times keys, scaled, causal.
-/
module

public import proofs.«01_k».proof.Proof.VTile
public import proofs.«01_k».proof.Proof.ScoreRun

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

/-! ## The causal mask -/

theorem toInt_small (a : ℕ) (h : a < 2 ^ 20) : (BitVec.ofNat 32 a).toInt = (a : ℤ) := by
  rw [BitVec.toInt_ofNat', Int.bmod_eq_of_le (by omega) (by omega)]

/-- A choice by a comparison of two small numbers. -/
theorem sel_ge (a b : ℕ) (ha : a < 2 ^ 20) (hb : b < 2 ^ 20) (x z : EReal) :
    (Scalar.select (IntOp.cmpi .sge (BitVec.ofNat 32 a) (BitVec.ofNat 32 b)) x z : EReal) = if b ≤ a then x else z := by
  have e : IntOp.cmpi .sge (BitVec.ofNat 32 a) (BitVec.ofNat 32 b) = BitVec.ofBool (decide (b ≤ a)) := by
    show BitVec.ofBool ((BitVec.ofNat 32 b).sle (BitVec.ofNat 32 a)) = _
    congr 1
    rw [BitVec.sle, toInt_small a ha, toInt_small b hb]
    simp
  rw [e]
  by_cases h : b ≤ a
  · rw [if_pos h, decide_eq_true h]; rfl
  · rw [if_neg h, decide_eq_false h]; rfl

/-- The factor of the scores. -/
abbrev κ₀ : EReal := Ideal.ofBits .f32 0x3B800000#32

/-- A tile of scores: queries times keys, scaled, zero above the diagonal. -/
theorem score_sum {k : ℕ} (off : ℕ) (hoff : off ≤ 1024) (hk : k ≤ 1024) (x : FVec Ideal S1x256x768 .bf16) (w : FVec Ideal S256x768 .bf16)
    (ks : FVec Ideal ⟨2, ![k, 256]⟩ .bf16) (h : S1x256x768.ShapeCasts S256x768) (h' : S256x768.ShapeCasts S256x768)
    (h0 : (⟨2, ![256, k]⟩ : Shape).Iotas .tc 32 [0]) (h1 : (⟨2, ![256, k]⟩ : Shape).Iotas .tc 32 [1]) (g : FTy.bf16.bits < FTy.f32.bits)
    (r : Fin 256) (s : Fin k) :
    (truncf .bf16 (select (cmpi .sge (addi (broadcast ⟨2, ![256, k]⟩ (BitVec.ofNat 32 off)) (iota .tc ⟨2, ![256, k]⟩ 32 [0] h0)) (iota .tc ⟨2, ![256, k]⟩ 32 [1] h1))
        (mulf (FloatOps.matmul (DotDims.transposedRhs 256 256 k) none
            (truncf .bf16 (FloatOps.matmul (DotDims.transposedRhs 256 768 256) none (shapeCast S256x768 x h) (shapeCast S256x768 w h') (constant S256x256 .f32 0x00000000#32)) g)
            ks (constant ⟨2, ![256, k]⟩ .f32 0x00000000#32)) (broadcast ⟨2, ![256, k]⟩ (Scalar.ofBits .f32 0x3B800000#32)))
        (broadcast ⟨2, ![256, k]⟩ (Scalar.ofBits (F := Ideal) .f32 0x00000000#32))) g (ix2 r s) : EReal)
      = if s.val ≤ off + r.val then (∑ a : Fin 256, (∑ e : Fin 768, (x (ix3 0 r e) : EReal) * w (ix2 a e)) * (ks (ix2 s a) : EReal)) * κ₀ else 0 := by
  have hr := r.isLt
  have hs := s.isLt
  have e : ∀ (A z : EReal), (Scalar.select (IntOp.cmpi .sge (BitVec.ofNat 32 off + BitVec.ofNat 32 (0 * 256 + r.val)) (BitVec.ofNat 32 (0 * k + s.val))) A z : EReal)
      = if s.val ≤ off + r.val then A else z := fun A z => by
    rw [← BitVec.ofNat_add, show off + (0 * 256 + r.val) = off + r.val from by omega, show 0 * k + s.val = s.val from by omega]
    exact sel_ge _ _ (by omega) (by omega) A z
  refine Eq.trans (e _ (Ideal.ofBits .f32 0x00000000#32)) ?_
  rw [Ideal.ofBits_zero_f32]
  refine if_congr Iff.rfl (congrArg (fun z : EReal => z * κ₀) ?_) rfl
  refine (mm_rows _ ks r s).trans (Finset.sum_congr rfl fun a _ => congrArg (fun z : EReal => z * (ks (ix2 s a) : EReal)) ?_)
  refine (mm_rows (shapeCast S256x768 x h) (shapeCast S256x768 w h') r a).trans (Finset.sum_congr rfl fun e _ => ?_)
  rw [shapeCast_1ab_ab_apply, shapeCast_self]

section
variable (x : Vec Ideal S1x256x768 .bf16) (w : Vec Ideal S256x768 .bf16) (r : Fin 256)

theorem spay3_at (ks : Vec Ideal S256x256 .bf16) (s : Fin 256) : (k0_pay3 (F := Ideal) x w ks (ix3 0 r s) : EReal)
    = if s.val ≤ 0 + r.val then (∑ a : Fin 256, (∑ e : Fin 768, (x (ix3 0 r e) : EReal) * w (ix2 a e)) * (ks (ix2 s a) : EReal)) * κ₀ else 0 :=
  (shapeCast_ab_1ab_apply _ _ 0 r s).trans (score_sum (k := 256) 0 (by omega) (by omega) x w ks _ _ _ _ _ r s)
theorem spay6_at (ks : Vec Ideal S512x256 .bf16) (s : Fin 512) : (k0_pay6 (F := Ideal) x w ks (ix3 0 r s) : EReal)
    = if s.val ≤ 256 + r.val then (∑ a : Fin 256, (∑ e : Fin 768, (x (ix3 0 r e) : EReal) * w (ix2 a e)) * (ks (ix2 s a) : EReal)) * κ₀ else 0 :=
  (shapeCast_ab_1ab_apply _ _ 0 r s).trans (score_sum (k := 512) 256 (by omega) (by omega) x w ks _ _ _ _ _ r s)
theorem spay10_at (ks : Vec Ideal S768x256 .bf16) (s : Fin 768) : (k0_pay10 (F := Ideal) (k0_pay8 x) (k0_pay9 w) ks (ix3 0 r s) : EReal)
    = if s.val ≤ 512 + r.val then (∑ a : Fin 256, (∑ e : Fin 768, (x (ix3 0 r e) : EReal) * w (ix2 a e)) * (ks (ix2 s a) : EReal)) * κ₀ else 0 :=
  (shapeCast_ab_1ab_apply _ _ 0 r s).trans (score_sum (k := 768) 512 (by omega) (by omega) x w ks _ _ _ _ _ r s)
theorem spay1_at (ks : Vec Ideal S1024x256 .bf16) (s : Fin 1024) :
    (k0_pay1 (F := Ideal) (k0_pay12 x w ks) (iota .tc S256x1024 32 [0] iota_S256x1024_d0_w32) k0_pay13 (ix3 0 r s) : EReal)
    = if s.val ≤ 768 + r.val then (∑ a : Fin 256, (∑ e : Fin 768, (x (ix3 0 r e) : EReal) * w (ix2 a e)) * (ks (ix2 s a) : EReal)) * κ₀ else 0 :=
  (shapeCast_ab_1ab_apply _ _ 0 r s).trans (score_sum (k := 1024) 768 (by omega) (by omega) x w ks _ _ _ _ _ r s)
end

/-- The keys. -/
theorem keys_at (x0 : Vec Ideal S1x1024x768 .bf16) (w : Vec Ideal S256x768 .bf16) (s : Fin 1024) (a : Fin 256) :
    (k0_pay2 (F := Ideal) x0 w (ix2 s a) : EReal) = ∑ e : Fin 768, (x0 (ix3 0 s e) : EReal) * w (ix2 a e) := by
  unfold k0_pay2
  rw [shapeCast_self]
  refine (mm_rows (shapeCast S1024x768 x0 shapeCasts_S1x1024x768_S1024x768) (shapeCast S256x768 w shapeCasts_S256x768_S256x768) s a).trans
    (Finset.sum_congr rfl fun e _ => ?_)
  rw [shapeCast_1ab_ab_apply, shapeCast_self]

/-- The score of position `t` against position `s` within one batch. -/
def scoreE (x : Fin 1024 → Fin 768 → EReal) (wq wk : Fin 256 → Fin 768 → EReal) (t s : Fin 1024) : EReal :=
  if s.val ≤ t.val then (∑ a : Fin 256, (∑ e : Fin 768, x t e * wq a e) * ∑ e : Fin 768, x s e * wk a e) * κ₀ else 0

theorem score_part (x0 : Vec Ideal S1x1024x768 .bf16) (x1 x2 : Vec Ideal S256x768 .bf16) (j : Fin 4) {k : ℕ} (hk : k ≤ 1024) (t : Fin 1024)
    (r : Fin 256) (ht : t.val = 256 * j.val + r.val) (s : Fin k) (s' : Fin 1024) (hs : s'.val = s.val) :
    (if s.val ≤ 256 * j.val + r.val then (∑ a : Fin 256, (∑ e : Fin 768, (xqOf (F := Ideal) x0 j (ix3 0 r e) : EReal) * x1 (ix2 a e)) * (kOf (F := Ideal) (k0_pay2 x0 x2) hk (ix2 s a) : EReal)) * κ₀ else 0 : EReal)
      = scoreE (fun t e => x0 (ix3 0 t e)) (fun a e => x1 (ix2 a e)) (fun a e => x2 (ix2 a e)) t s' := by
  unfold scoreE
  refine if_congr (by omega) (congrArg (fun z : EReal => z * κ₀) (Finset.sum_congr rfl fun a _ => congrArg₂ _ (Finset.sum_congr rfl fun e _ => congrArg (fun z : EReal => z * _) (congrArg x0 ?_)) ?_)) rfl
  · funext c; apply Fin.ext
    match c with
    | ⟨0, _⟩ => rfl
    | ⟨1, _⟩ => show 256 * j.val + 1 * r.val = t.val; omega
    | ⟨2, _⟩ => show 0 + 1 * e.val = e.val; omega
  · refine Eq.trans (congrArg (k0_pay2 (F := Ideal) x0 x2) ?_) (keys_at x0 x2 s' a)
    funext c; apply Fin.ext
    match c with
    | ⟨0, _⟩ => show 0 + 1 * s.val = s'.val; omega
    | ⟨1, _⟩ => show 0 + 1 * a.val = a.val; omega

theorem scoreE_above (x : Fin 1024 → Fin 768 → EReal) (wq wk : Fin 256 → Fin 768 → EReal) (t s : Fin 1024) (h : t.val < s.val) :
    scoreE x wq wk t s = 0 := if_neg (by omega)

theorem scoreBlk_val (x0 : Vec Ideal S1x1024x768 .bf16) (x1 x2 : Vec Ideal S256x768 .bf16) (t s : Fin 1024) :
    (scoreBlk (F := Ideal) x0 x1 x2 (ix3 0 t s) : EReal) = scoreE (fun t e => x0 (ix3 0 t e)) (fun a e => x1 (ix2 a e)) (fun a e => x2 (ix2 a e)) t s := by
  have ht := t.isLt
  show (joinScores _ _ _ _ _ _ _ t s : EReal) = _
  unfold joinScores
  split
  · split
    · exact (spay3_at _ _ _ _ _).trans (score_part x0 x1 x2 0 _ t ⟨t.val, by omega⟩ (by show t.val = 256 * 0 + t.val; omega) ⟨s.val, by omega⟩ s rfl)
    · exact Eq.trans (Ideal.ofBits_zero_bf16) (scoreE_above _ _ _ t s (by omega)).symm
  split
  · split
    · exact (spay6_at _ _ _ _ _).trans (score_part x0 x1 x2 1 _ t ⟨t.val - 256, by omega⟩ (by show t.val = 256 * 1 + (t.val - 256); omega) ⟨s.val, by omega⟩ s rfl)
    · exact Eq.trans (Ideal.ofBits_zero_bf16) (scoreE_above _ _ _ t s (by omega)).symm
  split
  · split
    · exact (spay10_at _ _ _ _ _).trans (score_part x0 x1 x2 2 _ t ⟨t.val - 512, by omega⟩ (by show t.val = 256 * 2 + (t.val - 512); omega) ⟨s.val, by omega⟩ s rfl)
    · exact Eq.trans (Ideal.ofBits_zero_bf16) (scoreE_above _ _ _ t s (by omega)).symm
  · exact (spay1_at _ _ _ _ _).trans (score_part x0 x1 x2 3 _ t ⟨t.val - 768, by omega⟩ (by show t.val = 256 * 3 + (t.val - 768); omega) s s rfl)

end Cert.KernelIdeal.Run

end
-- ==== Proof.VLogits.lean ====
/-
  The logits as a formula.
-/
module

public import proofs.«01_k».proof.Proof.VScore

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

/-- The logit of vocabulary entry `v` at position `t` of batch `b`: the head product, and the scores of the earlier positions
    whose token is `v`. -/
def logitsE (ids : Fin 4 → Fin 1024 → BitVec 32) (x : Fin 4 → Fin 1024 → Fin 768 → EReal) (hw : Fin 50257 → Fin 768 → EReal)
    (wq wk : Fin 256 → Fin 768 → EReal) (b : Fin 4) (t : Fin 1024) (v : Fin 50257) : EReal :=
  (∑ e : Fin 768, hw v e * x b t e) + ∑ s : Fin 1024, (if ids b s = BitVec.ofNat 32 v.val then 1 else 0) * scoreE (x b) wq wk t s

/-- The logits from the five argument arrays. -/
def logitsOf (a0 : Vec Ideal S4x1024 .i32) (a1 : Vec Ideal S4x1024x768 .bf16) (a2 : Vec Ideal S50257x768 .f32) (a3 a4 : Vec Ideal S256x768 .f32)
    (b : Fin 4) (t : Fin 1024) (v : Fin 50257) : EReal :=
  logitsE (fun b s => a0 (ix2 b s)) (fun b t e => a1 (ix3 b t e)) (fun v e => a2 (ix2 v e)) (fun a e => a3 (ix2 a e)) (fun a e => a4 (ix2 a e)) b t v

end Cert.KernelIdeal.Run

end
-- ==== Proof.VTailOut.lean ====
/-
  What the tail kernel leaves in the result.
-/
module

public import proofs.«01_k».proof.Proof.TailRegion
public import Idealize.ShloMosaic.Lib.Pipeline.ValueKit.Partial

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (W : Dev nD → Valuation τ sig (Elt F))

/-- The same as the result buffer's contents. -/
abbrev tailBuf (c : Dev nD) : Buf (Elt F) ((c : Thread nD τ).loc main_v5) := tailOut W c

/-- An index of the part of the tail's block that is written back. -/
theorem tail_moved (t : Fin grid2.N) (y : (win2_4.xblock (grid2.coords t)).Idx) : (y 0).val < 81 ∧ (y 1).val < 4 ∧ (y 2).val < 1024 := by
  have h : ∀ a, (y a).val < win2_4.xsize (grid2.coords t) a := fun a => (y a).isLt
  have h0 := h 0
  have h1 := h 1
  have h2 := h 2
  rw [(size2_4 t).1] at h0
  rw [(size2_4 t).2.1] at h1
  rw [(size2_4 t).2.2] at h2
  exact ⟨h0, h1, h2⟩

/-- The tail writes the rows of the last block and no other. -/
theorem final2 (c : Dev nD) : (dat2 W c).arrAt 4 cfg2.N = tailOut W c := by
  refine (dat2 W c).arrAt_eq_of_coversWhere_of_agree 4 (tailBuf W c) (fun k => k 0 = 49) (by decide +kernel) (fun t hf y => ?_) (fun j hj => ?_)
  · rw [after2_4]
    obtain ⟨h0, h1, h2⟩ := tail_moved t y
    have e : ((win2_4.blk t).view.emb y : S50257x4x1024.Idx) = ix3 ⟨50176 + (y 0).val, by omega⟩ ⟨(y 1).val, h1⟩ ⟨(y 2).val, h2⟩ := by
      funext a; apply Fin.ext
      match a with
      | ⟨0, _⟩ => show 49 * 1024 + 1 * (y 0).val = 50176 + (y 0).val; omega
      | ⟨1, _⟩ => show 0 * 4 + 1 * (y 1).val = (y 1).val; omega
      | ⟨2, _⟩ => show 0 * 1024 + 1 * (y 2).val = (y 2).val; omega
    show _ = tailOut W c ((win2_4.blk t).view.emb y)
    rw [e]
    unfold tailOut
    rw [dif_pos (show 50176 ≤ 50176 + (y 0).val by omega)]
    show tailBlk (idsV W c) (xV W c) (cV W c) (hwTail0 W c) _ = tailBlk (idsV W c) (xV W c) (cV W c) (hwTail0 W c) _
    congr 1
    funext a; apply Fin.ext
    match a with
    | ⟨0, _⟩ => show (y 0).val = 50176 + (y 0).val - 50176; omega
    | ⟨1, _⟩ => rfl
    | ⟨2, _⟩ => rfl
  · have hj' : ¬ (j 0).val / 1024 = 49 := hj
    have hl : (j 0).val < 50257 := (j 0).isLt
    show old2V W c j = tailOut W c j
    unfold tailOut
    rw [dif_neg (show ¬ 50176 ≤ (j 0).val by omega)]

end Cert.KernelIdeal.Run

end
-- ==== Proof.ScoreRegion.lean ====
/-
  The score kernel's pipeline: one batch of activations staged per point, the weights staged once, and what the region
  leaves in the score array.
-/
module

public import proofs.«01_k».proof.Proof.ScoreRun
public import proofs.«01_k».proof.Proof.MainRegion
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (W : Dev nD → Valuation τ sig (Elt F))

/-- What the score kernel stages, as the region finds it: the activations and the two halves of the query and key weights. -/
abbrev qwV (c : Dev nD) : Vec F S256x768 .bf16 := W c (Proc.devRef .tc main_v0)
abbrev kwV (c : Dev nD) : Vec F S256x768 .bf16 := W c (Proc.devRef .tc main_v1)

/-- The batch grid point `t` works on. -/
abbrev batchAt (t : Fin grid0.N) : Fin 4 := grid0.coords t 0

/-- The activations of one batch, as a block of one row. -/
def xRow (c : Dev nD) (b : Fin 4) : Vec F S1x1024x768 .bf16 := fun y => W c (Proc.devRef .tc main_arg1) (ix3 b (y 1) (y 2) : S4x1024x768.Idx)

/-- The proof data of the score kernel's pipeline. -/
def dat0 (c : Dev nD) : Dat τ (Elt F) Unit ℕ (UU nD τ) ℕ cfg0 c where
  A w := W c (Proc.devRef .tc (arrRef spec0 w))
  after w t := match w with
    | ⟨0, _⟩ => xRow W c (batchAt t)
    | ⟨1, _⟩ => qwV W c
    | ⟨2, _⟩ => kwV W c
    | ⟨3, _⟩ => scoreBlk (xRow W c (batchAt t)) (qwV W c) (kwV W c)
  Φ _ := Pipeline.ΦA spec0 c
  q _ := fullShare
  owed _ := 0

theorem after0_0 (c : Dev nD) (t : Fin cfg0.N) : (dat0 W c).after 0 t = xRow W c (batchAt t) := rfl
theorem after0_1 (c : Dev nD) (t : Fin cfg0.N) : (dat0 W c).after 1 t = qwV W c := rfl
theorem after0_2 (c : Dev nD) (t : Fin cfg0.N) : (dat0 W c).after 2 t = kwV W c := rfl
theorem after0_3 (c : Dev nD) (t : Fin cfg0.N) : (dat0 W c).after 3 t = scoreBlk (xRow W c (batchAt t)) (qwV W c) (kwV W c) := rfl

theorem ix0_0 : ∀ t : Fin grid0.N, cc0_transform_0 (grid0.coords t) 0 = (grid0.coords t 0).val := by decide +kernel
theorem ix0_3 : ∀ t : Fin grid0.N, cc0_transform_3 (grid0.coords t) 0 = (grid0.coords t 0).val := by decide +kernel

theorem blockOf0_0 (c : Dev nD) (t : Fin cfg0.N) : (dat0 W c).blockOf 0 t = xRow W c (batchAt t) := by
  funext y
  show W c (Proc.devRef .tc main_arg1) _ = W c (Proc.devRef .tc main_arg1) _
  congr 1; funext a; apply Fin.ext
  have h0 : (y 0).val < 1 := (y 0).isLt
  match a with
  | ⟨0, _⟩ =>
    show cc0_transform_0 (grid0.coords t) 0 * 1 + 1 * (y 0).val = (grid0.coords t 0).val
    rw [ix0_0]; omega
  | ⟨1, _⟩ => show 0 * 1024 + 1 * (y 1).val = (y 1).val; omega
  | ⟨2, _⟩ => show 0 * 768 + 1 * (y 2).val = (y 2).val; omega
theorem blockOf0_1 (c : Dev nD) (t : Fin cfg0.N) : (dat0 W c).blockOf 1 t = qwV W c := by
  funext y
  show qwV W c _ = qwV W c y
  congr 1; funext a; apply Fin.ext
  match a with
  | ⟨0, _⟩ => show 0 * 256 + 1 * (y 0).val = (y 0).val; omega
  | ⟨1, _⟩ => show 0 * 768 + 1 * (y 1).val = (y 1).val; omega
theorem blockOf0_2 (c : Dev nD) (t : Fin cfg0.N) : (dat0 W c).blockOf 2 t = kwV W c := by
  funext y
  show kwV W c _ = kwV W c y
  congr 1; funext a; apply Fin.ext
  match a with
  | ⟨0, _⟩ => show 0 * 256 + 1 * (y 0).val = (y 0).val; omega
  | ⟨1, _⟩ => show 0 * 768 + 1 * (y 1).val = (y 1).val; omega

theorem before0_0 (c : Dev nD) (t : Fin cfg0.N) (d) : (dat0 W c).before 0 t d = xRow W c (batchAt t) :=
  ((dat0 W c).before_in_eq_fetched 0 rfl (fun _ => rfl) (fun _ _ _ => rfl) (fun t => (blockOf0_0 W c t).symm) t d).trans (blockOf0_0 W c t)
theorem before0_1 (c : Dev nD) (t : Fin cfg0.N) (d) : (dat0 W c).before 1 t d = qwV W c :=
  ((dat0 W c).before_in_eq_fetched 1 rfl (fun _ => rfl) (fun _ _ _ => rfl) (fun t => (blockOf0_1 W c t).symm) t d).trans (blockOf0_1 W c t)
theorem before0_2 (c : Dev nD) (t : Fin cfg0.N) (d) : (dat0 W c).before 2 t d = kwV W c :=
  ((dat0 W c).before_in_eq_fetched 2 rfl (fun _ => rfl) (fun _ _ _ => rfl) (fun t => (blockOf0_2 W c t).symm) t d).trans (blockOf0_2 W c t)

/-- The scoped buffers the score kernel leaves alone. -/
abbrev rest0P (c : Dev nD) : sProp 𝕄 :=
  iprop(anyB c cc1_stg0_0 ∗ anyB c cc1_stg1_0 ∗ anyB c cc1_stg2_0 ∗ anyB c cc1_stg3_0 ∗ anyB c cc1_stg3_1 ∗ anyB c cc1_scratch0 ∗ anyB c cc1_scratch1
    ∗ anyB c cc2_stg0_0 ∗ anyB c cc2_stg1_0 ∗ anyB c cc2_stg2_0 ∗ anyB c cc2_stg3_0 ∗ anyB c cc2_stg4_0 ∗ anyB c cc2_scratch0)

/-- The invariant, with the scratch buffer taken out. -/
theorem phi0_eq (c : Dev nD) :
    (Pipeline.ΦA spec0 c : sProp 𝕄) = iprop(iprop((∃ d, owns (c : Thread nD τ) kM fullShare d) ∗ rest0P c) ∗ (∃ r, prngReg c r)) := by
  unfold Pipeline.ΦA; rw [scopedRest0_eq]; simp only [kM, owns_whole]; rfl

def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d)))

def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t))

/-- The score kernel at any point: the staged blocks stay, the result block is the scores of its batch. -/
theorem sound0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [after0_0, after0_1, after0_2, after0_3, show (dat0 W c).Φ t.castSucc = Pipeline.ΦA spec0 c from rfl, show (dat0 W c).Φ t.succ = Pipeline.ΦA spec0 c from rfl, phi0_eq,
    show (dat0 W c).owesAt () t.succ = (dat0 W c).owesAt () t.castSucc from rfl]
  iintro ⟨⟨⟨HS, Hr⟩, Hg⟩, Ho, ⟨%d0, H0⟩, ⟨%d1, H1⟩, ⟨%d2, H2⟩, ⟨%d3, H3⟩⟩
  iapply (qkcRun c (grid0.coords t) _ _ _ _ _ _ _ _ (xRow W c (batchAt t)) (qwV W c) (kwV W c) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hr Hg]
  · isplitl [HS Hr]
    · isplitl [HS]; · iexact HS
      iexact Hr
    iexact Hg
  isplitl [Ho]; · iexact Ho
  isplitl [H0]; · iexact H0
  isplitl [H1]; · iexact H1
  isplitl [H2]; · iexact H2
  iexact H3

theorem row0 (t : Fin cfg0.N) : defs₀ (F := F) .tc cfg0.body (cfg0.bodyArgs t (cfg0.slots t)) = bodyAt0 t := by
  unfold defs₀; rw [Defs.onTc_tc]

/-- The library's body obligation for the score kernel. -/
theorem obligation0 (c : Dev nD) : BodyObligationLoose (dat0 (F := F) W c) (defs₀ (F := F)) Variants.none () Set.univ := by
  refine BodyObligation.loose (dat0 (F := F) W c) (fgt := fun _ => false) fun t => ?_
  rw [bigSep_W0, bigSep_W0, row0]
  exact triple_restated (sound0 W c t) rfl .rfl fun _ => .rfl

/-- The scores of every batch, from the activations and the weights. -/
def scoresOf (c : Dev nD) : Vec F S4x1024x1024 .bf16 := fun y => scoreBlk (xRow W c (y 0)) (qwV W c) (kwV W c) (ix3 0 (y 1) (y 2))

/-- What the region leaves in the result array. -/
theorem final0 (c : Dev nD) : (dat0 W c).arrAt 3 cfg0.N = scoresOf W c := by
  refine (dat0 W c).arrAt_eq_of_covers 3 (scoresOf W c) (by decide +kernel) fun t hf y => ?_
  rw [after0_3]
  have h0 : (y 0).val < 1 := (y 0).isLt
  have e : ((win0_3.blk t).view.emb y : S4x1024x1024.Idx) = ix3 (batchAt t) (y 1) (y 2) := by
    funext a; apply Fin.ext
    match a with
    | ⟨0, _⟩ =>
      show cc0_transform_3 (grid0.coords t) 0 * 1 + 1 * (y 0).val = (grid0.coords t 0).val
      rw [ix0_3]; omega
    | ⟨1, _⟩ => show 0 * 1024 + 1 * (y 1).val = (y 1).val; omega
    | ⟨2, _⟩ => show 0 * 1024 + 1 * (y 2).val = (y 2).val; omega
  show _ = scoresOf W c ((win0_3.blk t).view.emb y)
  rw [e]
  show scoreBlk (xRow W c (batchAt t)) (qwV W c) (kwV W c) _ = scoreBlk (xRow W c (batchAt t)) (qwV W c) (kwV W c) _
  congr 1
  funext a; apply Fin.ext
  match a with
  | ⟨0, _⟩ => show (y 0).val = 0; omega
  | ⟨1, _⟩ => rfl
  | ⟨2, _⟩ => rfl

end Cert.KernelIdeal.Run

end
-- ==== Proof.MainBody.lean ====
/-
  The vocabulary kernel's body at every grid point: from the invariant before the point and the staged inputs to the
  invariant after it.
-/
module

public import proofs.«01_k».proof.Proof.MainRegion

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (W : Dev nD → Valuation τ sig (Elt F))

/-- One member of a product taken out. -/
theorem bigSep_take {I : Type} [DecidableEq I] {s : Finset I} {i : I} (h : i ∈ s) {Φ : I → sProp 𝕄} :
    bigSep s Φ = iprop(Φ i ∗ bigSep (s.erase i) Φ) := bigSep_erase h

/-- What the body is called with at point `t`, window by window, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t))

theorem owes_out (c : Dev nD) (p) : ((dat1 W c).owesAt () p : sProp 𝕄) ⊢ iprop(∃ W, owes (c : Thread nD τ) 0 W) :=
  TalkSites.owesAt_elim (dat1 W c) () p 0 rfl
theorem owes_in (c : Dev nD) (p) : (iprop(∃ W, owes (c : Thread nD τ) 0 W) : sProp 𝕄) ⊢ (dat1 W c).owesAt () p := by
  iintro ⟨%Wd, H⟩
  iapply (TalkSites.owesAt_intro (dat1 W c) () p 0 rfl rfl Wd); iexact H

theorem body1_first (c : Dev nD) (t : Fin cfg1.N) (ht : t.val = 0) :
    bodyPre1 W c t ⊢ wp frame (wpE (defs₀ (F := F)) Variants.none c none) Set.univ (bodyAt1 t) (fun _ => bodyPost1 W c t) := by
  obtain ⟨h1, h2, h3, h4, h5⟩ := conds_first t ht
  have hv : (pt (grid1.coords t)).val = t.val := pt_coords t
  unfold bodyPre1 bodyPost1 bodyAt1
  simp only [before1_0, before1_1, before1_2, before1_3]
  rw [after1_0, after1_1, after1_2, after1_3, show (dat1 W c).Φ t.castSucc = Phi1 W c t.val from rfl, show (dat1 W c).Φ t.succ = Phi1 W c (t.val + 1) from rfl]
  unfold Phi1
  rw [bigSep_take (Finset.mem_univ (pt (grid1.coords t))), bigSep_take (Φ := fun u => item W c (t.val + 1) u) (Finset.mem_univ (pt (grid1.coords t))),
    item_old W (c := c) (p := t.val) (u := pt (grid1.coords t)) hv.ge, item_fly W (c := c) (p := t.val + 1) (u := pt (grid1.coords t)) (by omega) (by omega),
    bigSep_congr (s := Finset.univ.erase (pt (grid1.coords t))) (Φ := fun u => item W c t.val u) (Ψ := fun u => item W c (t.val + 1) u)
      (fun u hu => item_keep W (by omega) (fun h => (Finset.mem_erase.mp hu).1 (Fin.ext (h.trans hv.symm))) (by omega)),
    show slotsAt (F := F) c t.val = freeP c from if_pos (Or.inl ht), slotsAt_mid (c := c) (p := t.val + 1) (by omega) (by omega)]
  iintro ⟨⟨Hr, Hg, Hoh, Hsp, ⟨⟨HB0, HB1, HB2, HB3⟩, HI⟩, ⟨HS0, HS1, HS2, HS3⟩⟩, Ho, ⟨%d0, H0⟩, ⟨%d1, H1⟩, ⟨%d2, H2⟩, ⟨%d3, H3⟩⟩
  iapply (fstRun c (grid1.coords t) _ _ _ _ _ _ _ _ (idsV W c) (xV W c) (cV W c) (hwBlk W c (pt (grid1.coords t))) 0 h1 h2 h3 h4 h5 (GV W c) (oldV W c) (G_at W c t) _)
  isplitl [H0]; · iexact H0
  isplitl [H1]; · iexact H1
  isplitl [H2]; · iexact H2
  isplitl [H3]; · iexact H3
  isplitl [Hoh]; · iexact Hoh
  isplitl [HS0]; · iexact HS0
  isplitl [HS1]; · iexact HS1
  isplitl [HS2]; · iexact HS2
  isplitl [HS3]; · iexact HS3
  isplitl [HB0]; · iexact HB0
  isplitl [HB1]; · iexact HB1
  isplitl [HB2]; · iexact HB2
  isplitl [HB3]; · iexact HB3
  isplitl [Ho]; · iapply (owes_out W c t.castSucc); iexact Ho
  iintro ⟨H0, H1, H2, H3, Hoh, HF0, HF1, HF2, HF3, Ho⟩
  isplitl [Hr Hg Hoh Hsp HI HF0 HF1 HF2 HF3]
  · isplitl [Hr]; · iexact Hr
    isplitl [Hg]; · iexact Hg
    isplitl [Hoh]; · iexact Hoh
    isplitl [Hsp]; · iexact Hsp
    isplitl [HI HF0 HF1 HF2 HF3]
    · isplitl [HF0 HF1 HF2 HF3]
      · isplitl [HF0]; · iexact HF0
        isplitl [HF1]; · iexact HF1
        isplitl [HF2]; · iexact HF2
        iexact HF3
      iexact HI
    iempintro
  isplitl [Ho]; · iapply (owes_in W c t.succ); iexact Ho
  isplitl [H0]; · iexact H0
  isplitl [H1]; · iexact H1
  isplitl [H2]; · iexact H2
  iexact H3

/-- The point before `t`'s. -/
theorem prev_mem (t : Fin cfg1.N) (u : Fin 49) (hu : u.val + 1 = t.val) : u ∈ Finset.univ.erase (pt (grid1.coords t)) :=
  Finset.mem_erase.mpr ⟨fun h => by have := pt_coords t; rw [← h] at this; omega, Finset.mem_univ _⟩

theorem body1_mid (c : Dev nD) (t : Fin cfg1.N) (ht : t.val ≠ 0) (ht' : t.val ≠ 48) :
    bodyPre1 W c t ⊢ wp frame (wpE (defs₀ (F := F)) Variants.none c none) Set.univ (bodyAt1 t) (fun _ => bodyPost1 W c t) := by
  obtain ⟨h1, h2, h3, h4⟩ := conds_later t ht
  have h5 := conds_mid t ht'
  have hv : (pt (grid1.coords t)).val = t.val := pt_coords t
  have h49 : t.val < 49 := N_1 ▸ t.isLt
  obtain ⟨u, hu⟩ : ∃ u : Fin 49, u.val + 1 = t.val := ⟨⟨t.val - 1, by omega⟩, by show t.val - 1 + 1 = t.val; omega⟩
  unfold bodyPre1 bodyPost1 bodyAt1
  simp only [before1_0, before1_1, before1_2, before1_3]
  rw [after1_0, after1_1, after1_2, after1_3, show (dat1 W c).Φ t.castSucc = Phi1 W c t.val from rfl, show (dat1 W c).Φ t.succ = Phi1 W c (t.val + 1) from rfl]
  unfold Phi1
  rw [bigSep_take (Finset.mem_univ (pt (grid1.coords t))), bigSep_take (Φ := fun u => item W c t.val u) (prev_mem t u hu),
    bigSep_take (Φ := fun u => item W c (t.val + 1) u) (Finset.mem_univ (pt (grid1.coords t))), bigSep_take (Φ := fun u => item W c (t.val + 1) u) (prev_mem t u hu),
    item_old W (c := c) (p := t.val) (u := pt (grid1.coords t)) hv.ge, item_fly W (c := c) (p := t.val + 1) (u := pt (grid1.coords t)) (by omega) (by omega),
    item_fly W (c := c) (p := t.val) (u := u) hu.symm h49, item_new W (c := c) (p := t.val + 1) (u := u) (Or.inl (by omega)),
    bigSep_congr (s := (Finset.univ.erase (pt (grid1.coords t))).erase u) (Φ := fun u => item W c t.val u) (Ψ := fun u => item W c (t.val + 1) u)
      (fun u' hu' => item_keep W h49 (fun h => (Finset.mem_erase.mp (Finset.mem_erase.mp hu').2).1 (Fin.ext (h.trans hv.symm)))
        (fun h => (Finset.mem_erase.mp hu').1 (Fin.ext (by omega)))),
    slotsAt_mid (c := c) (p := t.val) ht (by omega), slotsAt_mid (c := c) (p := t.val + 1) (by omega) (by omega)]
  iintro ⟨⟨Hr, Hg, Hoh, Hsp, ⟨⟨HB0, HB1, HB2, HB3⟩, ⟨⟨HF0, HF1, HF2, HF3⟩, HI⟩⟩, -⟩, Ho, ⟨%d0, H0⟩, ⟨%d1, H1⟩, ⟨%d2, H2⟩, ⟨%d3, H3⟩⟩
  iapply (midRun c (grid1.coords t) _ _ _ _ _ _ _ _ (idsV W c) (xV W c) (cV W c) (hwBlk W c (pt (grid1.coords t))) u h1 h2 h3 h4 h5 (GV W c) (oldV W c) (G_at W c t) _)
  isplitl [H0]; · iexact H0
  isplitl [H1]; · iexact H1
  isplitl [H2]; · iexact H2
  isplitl [H3]; · iexact H3
  isplitl [Hoh]; · iexact Hoh
  isplitl [HF0]; · iexact HF0
  isplitl [HF1]; · iexact HF1
  isplitl [HF2]; · iexact HF2
  isplitl [HF3]; · iexact HF3
  isplitl [HB0]; · iexact HB0
  isplitl [HB1]; · iexact HB1
  isplitl [HB2]; · iexact HB2
  isplitl [HB3]; · iexact HB3
  isplitl [Ho]; · iapply (owes_out W c t.castSucc); iexact Ho
  iintro ⟨H0, H1, H2, H3, Hoh, HF0, HF1, HF2, HF3, HB0, HB1, HB2, HB3, Ho⟩
  isplitl [Hr Hg Hoh Hsp HI HF0 HF1 HF2 HF3 HB0 HB1 HB2 HB3]
  · isplitl [Hr]; · iexact Hr
    isplitl [Hg]; · iexact Hg
    isplitl [Hoh]; · iexact Hoh
    isplitl [Hsp]; · iexact Hsp
    isplitl [HI HF0 HF1 HF2 HF3 HB0 HB1 HB2 HB3]
    · isplitl [HF0 HF1 HF2 HF3]
      · isplitl [HF0]; · iexact HF0
        isplitl [HF1]; · iexact HF1
        isplitl [HF2]; · iexact HF2
        iexact HF3
      isplitl [HB0 HB1 HB2 HB3]
      · isplitl [HB0]; · iexact HB0
        isplitl [HB1]; · iexact HB1
        isplitl [HB2]; · iexact HB2
        iexact HB3
      iexact HI
    iempintro
  isplitl [Ho]; · iapply (owes_in W c t.succ); iexact Ho
  isplitl [H0]; · iexact H0
  isplitl [H1]; · iexact H1
  isplitl [H2]; · iexact H2
  iexact H3

theorem body1_last (c : Dev nD) (t : Fin cfg1.N) (ht : t.val = 48) :
    bodyPre1 W c t ⊢ wp frame (wpE (defs₀ (F := F)) Variants.none c none) Set.univ (bodyAt1 t) (fun _ => bodyPost1 W c t) := by
  obtain ⟨h1, h2, h3, h4⟩ := conds_later t (by omega)
  have h5 := conds_last t ht
  have hv : (pt (grid1.coords t)).val = t.val := pt_coords t
  have h49 : t.val < 49 := N_1 ▸ t.isLt
  obtain ⟨u, hu⟩ : ∃ u : Fin 49, u.val + 1 = t.val := ⟨⟨t.val - 1, by omega⟩, by show t.val - 1 + 1 = t.val; omega⟩
  unfold bodyPre1 bodyPost1 bodyAt1
  simp only [before1_0, before1_1, before1_2, before1_3]
  rw [after1_0, after1_1, after1_2, after1_3, show (dat1 W c).Φ t.castSucc = Phi1 W c t.val from rfl, show (dat1 W c).Φ t.succ = Phi1 W c (t.val + 1) from rfl]
  unfold Phi1
  rw [bigSep_take (Finset.mem_univ (pt (grid1.coords t))), bigSep_take (Φ := fun u => item W c t.val u) (prev_mem t u hu),
    bigSep_take (Φ := fun u => item W c (t.val + 1) u) (Finset.mem_univ (pt (grid1.coords t))), bigSep_take (Φ := fun u => item W c (t.val + 1) u) (prev_mem t u hu),
    item_old W (c := c) (p := t.val) (u := pt (grid1.coords t)) hv.ge, item_new W (c := c) (p := t.val + 1) (u := pt (grid1.coords t)) (Or.inr ⟨by omega, by omega⟩),
    item_fly W (c := c) (p := t.val) (u := u) hu.symm h49, item_new W (c := c) (p := t.val + 1) (u := u) (Or.inl (by omega)),
    bigSep_congr (s := (Finset.univ.erase (pt (grid1.coords t))).erase u) (Φ := fun u => item W c t.val u) (Ψ := fun u => item W c (t.val + 1) u)
      (fun u' hu' => item_keep W h49 (fun h => (Finset.mem_erase.mp (Finset.mem_erase.mp hu').2).1 (Fin.ext (h.trans hv.symm)))
        (fun h => (Finset.mem_erase.mp hu').1 (Fin.ext (by omega)))),
    slotsAt_mid (c := c) (p := t.val) (by omega) (by omega), show slotsAt (F := F) c (t.val + 1) = freeP c from if_pos (Or.inr (by omega))]
  iintro ⟨⟨Hr, Hg, Hoh, Hsp, ⟨⟨HB0, HB1, HB2, HB3⟩, ⟨⟨HF0, HF1, HF2, HF3⟩, HI⟩⟩, -⟩, Ho, ⟨%d0, H0⟩, ⟨%d1, H1⟩, ⟨%d2, H2⟩, ⟨%d3, H3⟩⟩
  iapply (lastRun c (grid1.coords t) _ _ _ _ _ _ _ _ (idsV W c) (xV W c) (cV W c) (hwBlk W c (pt (grid1.coords t))) u h1 h2 h3 h4 h5 (GV W c) (oldV W c) (G_at W c t) _)
  isplitl [H0]; · iexact H0
  isplitl [H1]; · iexact H1
  isplitl [H2]; · iexact H2
  isplitl [H3]; · iexact H3
  isplitl [Hoh]; · iexact Hoh
  isplitl [HF0]; · iexact HF0
  isplitl [HF1]; · iexact HF1
  isplitl [HF2]; · iexact HF2
  isplitl [HF3]; · iexact HF3
  isplitl [HB0]; · iexact HB0
  isplitl [HB1]; · iexact HB1
  isplitl [HB2]; · iexact HB2
  isplitl [HB3]; · iexact HB3
  isplitl [Ho]; · iapply (owes_out W c t.castSucc); iexact Ho
  iintro ⟨H0, H1, H2, H3, Hoh, HS0, HS1, HS2, HS3, HN0, HN1, HN2, HN3, HB0, HB1, HB2, HB3, Ho⟩
  isplitl [Hr Hg Hoh Hsp HI HS0 HS1 HS2 HS3 HN0 HN1 HN2 HN3 HB0 HB1 HB2 HB3]
  · isplitl [Hr]; · iexact Hr
    isplitl [Hg]; · iexact Hg
    isplitl [Hoh]; · iexact Hoh
    isplitl [Hsp]; · iexact Hsp
    isplitl [HI HN0 HN1 HN2 HN3 HB0 HB1 HB2 HB3]
    · isplitl [HN0 HN1 HN2 HN3]
      · isplitl [HN0]; · iexact HN0
        isplitl [HN1]; · iexact HN1
        isplitl [HN2]; · iexact HN2
        iexact HN3
      isplitl [HB0 HB1 HB2 HB3]
      · isplitl [HB0]; · iexact HB0
        isplitl [HB1]; · iexact HB1
        isplitl [HB2]; · iexact HB2
        iexact HB3
      iexact HI
    isplitl [HS0]; · iexact HS0
    isplitl [HS1]; · iexact HS1
    isplitl [HS2]; · iexact HS2
    iexact HS3
  isplitl [Ho]; · iapply (owes_in W c t.succ); iexact Ho
  isplitl [H0]; · iexact H0
  isplitl [H1]; · iexact H1
  isplitl [H2]; · iexact H2
  iexact H3

theorem sound1 (c : Dev nD) (t : Fin cfg1.N) :
    bodyPre1 W c t ⊢ wp frame (wpE (defs₀ (F := F)) Variants.none c none) Set.univ (bodyAt1 t) (fun _ => bodyPost1 W c t) := by
  by_cases h : t.val = 0
  · exact body1_first W c t h
  by_cases h' : t.val = 48
  · exact body1_last W c t h'
  · exact body1_mid W c t h h'

theorem row1 (t : Fin cfg1.N) : defs₀ (F := F) .tc cfg1.body (cfg1.bodyArgs t (cfg1.slots t)) = bodyAt1 t := by
  unfold defs₀; rw [Defs.onTc_tc]

/-- The library's body obligation for the vocabulary kernel. -/
theorem obligation1 (c : Dev nD) : BodyObligationLoose (dat1 (F := F) W c) (defs₀ (F := F)) Variants.none () Set.univ := by
  refine BodyObligation.loose (dat1 (F := F) W c) (fgt := fun _ => false) fun t => ?_
  rw [bigSep_W1, bigSep_W1, row1]
  exact triple_restated (sound1 W c t) rfl .rfl fun _ => .rfl

end Cert.KernelIdeal.Run

end
-- ==== Proof.MainEnter.lean ====
/-
  The vocabulary kernel's invariant is made at the region's entry and taken apart at its exit.
-/
module

public import proofs.«01_k».proof.Proof.MainRegion

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (W : Dev nD → Valuation τ sig (Elt F))

/-- The kernel's own semaphores: one per batch's copy. -/
abbrev osem1 : Fin 4 → SemLoc sig := fun b => SemLoc.dma (csm b).sem

/-- Before the first point every band holds the entry contents. -/
theorem items_first (c : Dev nD) : (bigSep Finset.univ (fun u : Fin 49 => rowP c u (oldV W c)) : sProp 𝕄) = bigSep Finset.univ (fun u : Fin 49 => item W c 0 u) :=
  BI.bigSep_congr fun u _ => (item_old W (Nat.zero_le _)).symm
/-- After the last point every band holds its block. -/
theorem items_last (c : Dev nD) : (bigSep Finset.univ (fun u : Fin 49 => item W c 49 u) : sProp 𝕄) = bigSep Finset.univ (fun u : Fin 49 => rowP c u (GV W c)) :=
  BI.bigSep_congr fun u _ => item_new W (Or.inr ⟨u.isLt, rfl⟩)
/-- Outside the bands nothing changed. -/
theorem spare_same (c : Dev nD) : (spareP c (oldV W c) : sProp 𝕄) = spareP c (GV W c) :=
  pointsTo_congr fun y hy => (Gout_old (idsV W c) (xV W c) (cV W c) (hwBlk W c) (oldV W c) y (Finset.mem_sdiff.mp hy).2).symm

theorem enter1 (c : Dev nD) :
    iprop(Pipeline.scopedRest spec1 c ∗ (∃ r, prngReg c r) ∗ Pipeline.ownSems0 osem1 c
      ∗ ((c : Thread nD τ).loc main_v4 ↦{fullShare} oldV W c)) ⊢ (Phi1 W c 0 : sProp 𝕄) := by
  unfold Phi1
  rw [scopedRest1_eq, ← items_first]
  unfold slotsAt Pipeline.ownSems0
  rw [if_pos (Or.inl rfl), bigSep_W1]
  simp only [ohM, owns_whole]
  iintro ⟨⟨H1, H2, H3, H4, H5, H6, H7, HS, HT, H8, H9, H10, H11, H12, H13⟩, Hg, ⟨Hs0, Hs1, Hs2, Hs3⟩, Ho⟩
  ihave Ho := (out_split c (oldV W c)).1 $$ Ho
  icases Ho with ⟨Hb, Hsp⟩
  ihave HT := (slots_split c) $$ HT
  icases HT with ⟨T0, T1, T2, T3⟩
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [Hg]; · iexact Hg
  isplitl [HS]; · iexact HS
  isplitl [Hsp]; · iexact Hsp
  isplitl [Hb]; · iexact Hb
  isplitl [T0 Hs0]; · isplitl [T0] <;> iassumption
  isplitl [T1 Hs1]; · isplitl [T1] <;> iassumption
  isplitl [T2 Hs2]; · isplitl [T2] <;> iassumption
  isplitl [T3] <;> iassumption

theorem leave1 (c : Dev nD) :
    (Phi1 W c 49 : sProp 𝕄) ⊢ iprop(Pipeline.scopedRest spec1 c ∗ (∃ r, prngReg c r) ∗ Pipeline.ownSems0 osem1 c
      ∗ ((c : Thread nD τ).loc main_v4 ↦{fullShare} GV W c)) := by
  unfold Phi1
  rw [scopedRest1_eq, items_last, spare_same]
  unfold slotsAt Pipeline.ownSems0
  rw [if_pos (Or.inr rfl), bigSep_W1]
  simp only [ohM, owns_whole]
  iintro ⟨⟨H1, H2, H3, H4, H5, H6, H7, H8, H9, H10, H11, H12, H13⟩, Hg, HS, Hsp, Hb, ⟨T0, Hs0⟩, ⟨T1, Hs1⟩, ⟨T2, Hs2⟩, ⟨T3, Hs3⟩⟩
  isplitl [H1 H2 H3 H4 H5 H6 H7 HS T0 T1 T2 T3 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    isplitl [T0 T1 T2 T3]
    · iapply (slots_join c)
      isplitl [T0]; · iexact T0
      isplitl [T1]; · iexact T1
      isplitl [T2]; · iexact T2
      iexact T3
    isplitl [H8]; · iexact H8
    isplitl [H9]; · iexact H9
    isplitl [H10]; · iexact H10
    isplitl [H11]; · iexact H11
    isplitl [H12]; · iexact H12
    iexact H13
  isplitl [Hg]; · iexact Hg
  isplitl [Hs0 Hs1 Hs2 Hs3]
  · isplitl [Hs0]; · iexact Hs0
    isplitl [Hs1]; · iexact Hs1
    isplitl [Hs2]; · iexact Hs2
    iexact Hs3
  iapply (out_split c (GV W c)).2
  isplitl [Hb]; · iexact Hb
  iexact Hsp

end Cert.KernelIdeal.Run

end
-- ==== Proof.Segs.lean ====
/-
  The three kernel regions as segments of the program: each is entered holding every unscoped buffer and left holding
  every unscoped buffer, with its result in place.
-/
module

public import proofs.«01_k».proof.Proof.ScoreRegion
public import proofs.«01_k».proof.Proof.MainBody
public import proofs.«01_k».proof.Proof.MainEnter
public import proofs.«01_k».proof.Proof.TailRegion
public import proofs.«01_k».proof.Proof.Gen.KernelIdeal.Regions
public import Idealize.ShloMosaic.Lib.Pipeline.RegionArraysD
public import Idealize.ShloMosaic.Lib.Pipeline.RegionArraysF
public import Idealize.ShloMosaic.Lib.Pipeline.RegionsOwned

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (m : (ℓ : Loc nD τ sig) → Buf (Elt F) ℓ)

/-! ## What the buffers hold between the items -/

/-- At the launch, after the casts of the weights, after the scores, after the reshape of the ids, after the vocabulary
    kernel, after the copy of its result. -/
abbrev U0 (c : Dev nD) : Valuation τ sig (Elt F) := fun b => m (c, b)
def U1 (c : Dev nD) : Valuation τ sig (Elt F) := StableHlo.after hostOps0 (U0 m c)
def U2 (c : Dev nD) : Valuation τ sig (Elt F) := Function.update (U1 m c) (Proc.devRef .tc main_v2) (scoresOf (U1 m) c)
def U3 (c : Dev nD) : Valuation τ sig (Elt F) := StableHlo.after hostOps1 (U2 m c)
def U4 (c : Dev nD) : Valuation τ sig (Elt F) := Function.update (U3 m c) (Proc.devRef .tc main_v4) (GV (U3 m) c)
def U5 (c : Dev nD) : Valuation τ sig (Elt F) := StableHlo.after hostOps2 (U4 m c)

/-! ## The proof data of the three pipelines -/

abbrev adm : (p : Fin 3) → (pcfgs (F := F) p).Adm := fun p => (cfgs p).toPCfg_adm
def pdats : (p : Fin 3) → (c : Dev nD) → Dat τ (Elt F) Unit ℕ (UU nD τ) ℕ (Pipeline.pin (pcfgs (F := F)) adm p) c
  | 0 => dat0 (U1 m)
  | 1 => dat1 (U3 m)
  | 2 => dat2 (U5 m)

/-- No obligations between cores: one level everywhere on the TensorCores. -/
abbrev L : GSem nD τ sig → Finset Unit := fun g => if g.1.2 = .tc then {()} else ∅
abbrev lv : GSem nD τ sig → Unit → ℕ := fun _ _ => 0
abbrev D0 : Dev nD → CellTallies nD τ sig Unit := fun _ => 0

theorem cutAt (p : Fin 3) : Pipeline.LevelCut (pcfgs (F := F)) adm () L lv p D0 (fun _ => 0) where
  hι c w s := by show () ∈ (if _ then _ else _); rw [if_pos rfl]; exact Finset.mem_singleton_self _
  hιb c w s := Nat.le_refl _
  hD c g i h := absurd h (Nat.lt_irrefl _)

theorem free_waits (c : Dev nD) : (levAts L lv : sProp 𝕄) ⊢ Transfers.MayWaits (c : Thread nD τ) () (D0 c) := by
  iintro -
  iapply (Transfers.MayWaits.zero (c : Thread nD τ) ())
  iempintro

/-- The buffers a region holds beside its arrays. -/
abbrev beside {gr Wn : Nat} (spec : Fin Wn → Pipeline.WinSpec sig gr) : Finset (DevRef τ sig) := Pipeline.ucRefs τ sig \ Pipeline.arrRefs spec

theorem mem_arrRefs {gr Wn : Nat} (spec : Fin Wn → Pipeline.WinSpec sig gr) (w : Fin Wn) : (Proc.devRef .tc (arrRef spec w) : DevRef τ sig) ∈ Pipeline.arrRefs (τ := τ) spec :=
  Finset.mem_map.mpr ⟨_, Finset.mem_image.mpr ⟨w, Finset.mem_univ _, rfl⟩, rfl⟩

/-- What travels beside the buffers: a core owing nothing and the generator's register. -/
abbrev restE (c : Dev nD) : sProp 𝕄 := iprop((∃ Wd, owes (c : Thread nD τ) (D0 c) Wd) ∗ (∃ r, prngReg c r))

/-- The state before a region as the region's records ask for it, and back. -/
theorem to_region {gr Wn : Nat} (spec : Fin Wn → Pipeline.WinSpec sig gr) (hS : Pipeline.arrRefs spec ⊆ Pipeline.ucRefs τ sig) (V : Valuation τ sig (Elt F)) (c : Dev nD) :
    (iprop(StableHlo.held (c : Thread nD τ) (Pipeline.ucRefs τ sig) V ∗ restE c) : sProp 𝕄)
      ⊢ iprop(StableHlo.held (c : Thread nD τ) (Pipeline.arrRefs spec) V ∗ (∃ r, prngReg c r)
        ∗ (StableHlo.held (c : Thread nD τ) (beside spec) V ∗ emp) ∗ ∃ Wd, owes (c : Thread nD τ) (D0 c) Wd) := by
  rw [StableHlo.held_sub_split (c : Thread nD τ) hS V]
  iintro ⟨⟨Ha, Hb⟩, HO, Hg⟩
  isplitl [Ha]; · iexact Ha
  isplitl [Hg]; · iexact Hg
  isplitl [Hb]
  · isplitl [Hb]; · iexact Hb
    iempintro
  iexact HO
theorem of_region {gr Wn : Nat} (spec : Fin Wn → Pipeline.WinSpec sig gr) (hS : Pipeline.arrRefs spec ⊆ Pipeline.ucRefs τ sig) (V : Valuation τ sig (Elt F)) (c : Dev nD) :
    iprop(StableHlo.held (c : Thread nD τ) (Pipeline.arrRefs spec) V ∗ (∃ r, prngReg c r)
        ∗ (StableHlo.held (c : Thread nD τ) (beside spec) V ∗ emp) ∗ ∃ Wd, owes (c : Thread nD τ) (D0 c) Wd)
      ⊢ (iprop(StableHlo.held (c : Thread nD τ) (Pipeline.ucRefs τ sig) V ∗ restE c) : sProp 𝕄) := by
  rw [StableHlo.held_sub_split (c : Thread nD τ) hS V]
  iintro ⟨Ha, Hg, ⟨Hb, -⟩, HO⟩
  isplitl [Ha Hb]; · isplitl [Ha] <;> iassumption
  isplitl [HO]; · iexact HO
  iexact Hg

theorem sub0 : Pipeline.arrRefs spec0 ⊆ Pipeline.ucRefs τ sig := Pipeline.arrRefs_sub_ucRefs spec0 (by decide)
theorem sub1 : Pipeline.arrRefs spec1 ⊆ Pipeline.ucRefs τ sig := Pipeline.arrRefs_sub_ucRefs spec1 (by decide)
theorem sub2 : Pipeline.arrRefs spec2 ⊆ Pipeline.ucRefs τ sig := Pipeline.arrRefs_sub_ucRefs spec2 (by decide)

/-! ## The scores -/

theorem arr0 (c : Dev nD) (w : Fin 4) : (dat0 (U1 m) c).arrAt w cfg0.N = U2 m c (Proc.devRef .tc (arrRef spec0 w)) := by
  unfold U2
  match w with
  | ⟨0, _⟩ => exact ((dat0 (U1 m) c).arrAt_in 0 rfl _).trans (Function.update_of_ne (show (Proc.devRef .tc (arrRef spec0 0) : DevRef τ sig) ≠ Proc.devRef .tc main_v2 from by decide) (scoresOf (U1 m) c) (U1 m c)).symm
  | ⟨1, _⟩ => exact ((dat0 (U1 m) c).arrAt_in 1 rfl _).trans (Function.update_of_ne (show (Proc.devRef .tc (arrRef spec0 1) : DevRef τ sig) ≠ Proc.devRef .tc main_v2 from by decide) (scoresOf (U1 m) c) (U1 m c)).symm
  | ⟨2, _⟩ => exact ((dat0 (U1 m) c).arrAt_in 2 rfl _).trans (Function.update_of_ne (show (Proc.devRef .tc (arrRef spec0 2) : DevRef τ sig) ≠ Proc.devRef .tc main_v2 from by decide) (scoresOf (U1 m) c) (U1 m c)).symm
  | ⟨3, _⟩ => exact (final0 (U1 m) c).trans (Function.update_self (Proc.devRef .tc main_v2 : DevRef τ sig) (scoresOf (U1 m) c) (U1 m c)).symm

def reg0 : Pipeline.RegionSeg (pcfgs (F := F)) adm (pdats m) () defs₀ 𝒱₀ L lv 0 :=
  Pipeline.RegionSeg.ofHeldDW (pcfgs (F := F)) adm (pdats m) () defs₀ 𝒱₀ L lv 0 D0 () (fun k : PEmpty => k.elim) (Pipeline.OwnSemFacts.none _)
    ∅ ∅ (beside spec0) (by simp [Pipeline.hbmRefs]) (by simp [Pipeline.hbmRefs]) launch0.toP rfl (fun c => obligation0 (U1 m) c)
    (fun _ _ => rfl) (fun _ => rfl) (fun _ _ => ite_self _) free_waits (U1 m) (U2 m)
    (fun c b hb => Function.update_of_ne (fun e => by
      subst e
      exact (Finset.mem_sdiff.mp (Finset.mem_sdiff.mp hb).1).2 (mem_arrRefs spec0 3)) ..)
    (fun c => by
      show _ ⊢ Pipeline.ΦA spec0 c
      unfold Pipeline.ΦA
      iintro ⟨Hr, Hg, -⟩
      isplitl [Hr] <;> iassumption)
    (fun c => by
      show Pipeline.ΦA spec0 c ⊢ _
      unfold Pipeline.ΦA
      rw [Pipeline.ownSems0_none, BI.bigSep_empty, BI.bigSep_empty]
      iintro ⟨Hr, Hg⟩
      isplitl [Hr]; · iexact Hr
      isplitl [Hg]; · iexact Hg
      isplitr; · iempintro
      isplitr <;> iempintro)
    (fun _ => 0) (cutAt 0) (fun _ => iprop(emp)) (fun _ _ => rfl) (fun c w => arr0 m c w)

/-! ## The vocabulary kernel -/

theorem arr1 (c : Dev nD) (w : Fin 4) : (dat1 (U3 m) c).arrAt w cfg1.N = U4 m c (Proc.devRef .tc (arrRef spec1 w)) := by
  unfold U4
  match w with
  | ⟨0, _⟩ => exact ((dat1 (U3 m) c).arrAt_in 0 rfl _).trans (Function.update_of_ne (show (Proc.devRef .tc (arrRef spec1 0) : DevRef τ sig) ≠ Proc.devRef .tc main_v4 from by decide) (GV (U3 m) c) (U3 m c)).symm
  | ⟨1, _⟩ => exact ((dat1 (U3 m) c).arrAt_in 1 rfl _).trans (Function.update_of_ne (show (Proc.devRef .tc (arrRef spec1 1) : DevRef τ sig) ≠ Proc.devRef .tc main_v4 from by decide) (GV (U3 m) c) (U3 m c)).symm
  | ⟨2, _⟩ => exact ((dat1 (U3 m) c).arrAt_in 2 rfl _).trans (Function.update_of_ne (show (Proc.devRef .tc (arrRef spec1 2) : DevRef τ sig) ≠ Proc.devRef .tc main_v4 from by decide) (GV (U3 m) c) (U3 m c)).symm
  | ⟨3, _⟩ => exact ((dat1 (U3 m) c).arrAt_in 3 rfl _).trans (Function.update_of_ne (show (Proc.devRef .tc (arrRef spec1 3) : DevRef τ sig) ≠ Proc.devRef .tc main_v4 from by decide) (GV (U3 m) c) (U3 m c)).symm

/-- The four semaphores are scoped, distinct and no window's. -/
theorem own1 : Pipeline.OwnSemFacts spec1 osem1 := by decide

def reg1 : Pipeline.RegionSeg (pcfgs (F := F)) adm (pdats m) () defs₀ 𝒱₀ L lv 1 :=
  Pipeline.RegionSeg.ofHeldDW (pcfgs (F := F)) adm (pdats m) () defs₀ 𝒱₀ L lv 1 D0 () osem1 own1
    ∅ {main_v4} (beside spec1) (by simp [Pipeline.hbmRefs]) (by decide) launch1.toP rfl (fun c => obligation1 (U3 m) c)
    (fun _ _ => rfl) (fun _ => rfl) (fun _ _ => ite_self _) free_waits (U3 m) (U4 m)
    (fun c b hb => Function.update_of_ne (fun e => by
      subst e
      exact (Finset.mem_sdiff.mp hb).2 (by decide)) ..)
    (fun c => by
      show _ ⊢ Phi1 (U3 m) c 0
      rw [BI.bigSep_singleton]
      iintro ⟨Hr, Hg, Hs, -, Ho, -⟩
      iapply (enter1 (U3 m) c)
      isplitl [Hr]; · iexact Hr
      isplitl [Hg]; · iexact Hg
      isplitl [Hs]; · iexact Hs
      iexact Ho)
    (fun c => by
      show Phi1 (U3 m) c 49 ⊢ _
      rw [BI.bigSep_singleton, BI.bigSep_empty, show U4 m c (Proc.devRef .tc main_v4) = GV (U3 m) c from Function.update_self ..]
      refine (leave1 (U3 m) c).trans ?_
      iintro ⟨Hr, Hg, Hs, Ho⟩
      isplitl [Hr]; · iexact Hr
      isplitl [Hg]; · iexact Hg
      isplitl [Hs]; · iexact Hs
      isplitr; · iempintro
      iexact Ho)
    (fun _ => 0) (cutAt 1) (fun _ => iprop(emp)) (fun _ _ => rfl) (fun c w => arr1 m c w)

/-! ## The tail -/

/-- The buffers after the tail: its result is what the pipeline left, named or not. -/
def U6 (b : Bool) (c : Dev nD) (X : Vec F S50257x4x1024 .f32) : Valuation τ sig (Elt F) :=
  Function.update (U5 m c) (Proc.devRef .tc main_v5) (if b then X else (dat2 (U5 m) c).arrAt 4 cfg2.N)

/-- The windows not named: of the tail only. -/
def fg (b : Bool) : (p : Fin 3) → Fin (Pipeline.pin (pcfgs (F := F)) adm p).W → Bool
  | 0 => fun _ => false
  | 1 => fun _ => false
  | 2 => forget2 b

theorem arr2 (b : Bool) (c : Dev nD) (A : (w : Fin 5) → Buf (Elt F) ((cfg2.win w).arr.view.loc (c : Thread nD τ)))
    (h : ∀ w, forget2 b w = false → A w = (dat2 (U5 m) c).arrAt w cfg2.N) (w : Fin 5) : A w = U6 m b c (A 4) (Proc.devRef .tc (arrRef spec2 w)) := by
  unfold U6
  match w with
  | ⟨0, _⟩ => exact ((h 0 (by cases b <;> rfl)).trans ((dat2 (U5 m) c).arrAt_in 0 rfl _)).trans (Function.update_of_ne (show (Proc.devRef .tc (arrRef spec2 0) : DevRef τ sig) ≠ Proc.devRef .tc main_v5 from by decide) (if b then A 4 else (dat2 (U5 m) c).arrAt 4 cfg2.N) (U5 m c)).symm
  | ⟨1, _⟩ => exact ((h 1 (by cases b <;> rfl)).trans ((dat2 (U5 m) c).arrAt_in 1 rfl _)).trans (Function.update_of_ne (show (Proc.devRef .tc (arrRef spec2 1) : DevRef τ sig) ≠ Proc.devRef .tc main_v5 from by decide) (if b then A 4 else (dat2 (U5 m) c).arrAt 4 cfg2.N) (U5 m c)).symm
  | ⟨2, _⟩ => exact ((h 2 (by cases b <;> rfl)).trans ((dat2 (U5 m) c).arrAt_in 2 rfl _)).trans (Function.update_of_ne (show (Proc.devRef .tc (arrRef spec2 2) : DevRef τ sig) ≠ Proc.devRef .tc main_v5 from by decide) (if b then A 4 else (dat2 (U5 m) c).arrAt 4 cfg2.N) (U5 m c)).symm
  | ⟨3, _⟩ => exact ((h 3 (by cases b <;> rfl)).trans ((dat2 (U5 m) c).arrAt_in 3 rfl _)).trans (Function.update_of_ne (show (Proc.devRef .tc (arrRef spec2 3) : DevRef τ sig) ≠ Proc.devRef .tc main_v5 from by decide) (if b then A 4 else (dat2 (U5 m) c).arrAt 4 cfg2.N) (U5 m c)).symm
  | ⟨4, _⟩ =>
    refine Eq.trans ?_ (Function.update_self (Proc.devRef .tc main_v5 : DevRef τ sig) (if b then A 4 else (dat2 (U5 m) c).arrAt 4 cfg2.N) (U5 m c)).symm
    cases b with
    | true => rfl
    | false => exact h 4 rfl

def reg2 (b : Bool) (hb : b = false → RowWise F) :
    Pipeline.RDat.RegionSeg (pcfgs (F := F)) adm (Pipeline.toRsF (pcfgs (F := F)) adm (pdats m) (fg b)) () defs₀ 𝒱₀ L lv 2 :=
  Pipeline.RDat.RegionSeg.ofHeldF (pcfgs (F := F)) adm (pdats m) () defs₀ 𝒱₀ L lv 2 D0 (fg b) () (fun k : PEmpty => k.elim) (Pipeline.OwnSemFacts.none _)
    ∅ ∅ (beside spec2) (by simp [Pipeline.hbmRefs]) (by simp [Pipeline.hbmRefs]) launch2.toP rfl (fun c => obligation2 (U5 m) b hb c)
    (fun _ _ => rfl) (fun _ => rfl) (fun _ _ => ite_self _) free_waits (U5 m) (fun c A _ => U6 m b c (A (4 : Fin 5)))
    (fun c A _ h w => arr2 m b c A h w)
    (fun c A g r hr => absurd hr (Finset.notMem_empty _))
    (fun c A g d hd => Function.update_of_ne (fun e => by
      subst e
      exact (Finset.mem_sdiff.mp (Finset.mem_sdiff.mp (Finset.mem_sdiff.mp hd).1).1).2 (mem_arrRefs spec2 4)) ..)
    (fun c A g d hd => by simp [Pipeline.hbmRefs] at hd)
    (fun c => by
      show _ ⊢ Pipeline.ΦA spec2 c
      unfold Pipeline.ΦA
      iintro ⟨Hr, Hg, -⟩
      isplitl [Hr] <;> iassumption)
    (fun c => by
      show Pipeline.ΦA spec2 c ⊢ _
      unfold Pipeline.ΦA
      rw [Pipeline.ownSems0_none, BI.bigSep_empty, BI.bigSep_empty]
      iintro ⟨Hr, Hg⟩
      isplitl [Hr]; · iexact Hr
      isplitl [Hg]; · iexact Hg
      isplitr; · iempintro
      isplitr <;> iempintro)
    (fun _ => 0) (cutAt 2) (fun _ => iprop(emp)) (fun _ _ => rfl)

end Cert.KernelIdeal.Run

end
-- ==== Proof.Run.lean ====
/-
  The whole run: three kernel regions between four host stretches. Every argument ends as launched and every counter at
  zero; where the tail's result is named, so is the program's.
-/
module

public import proofs.«01_k».proof.Proof.Segs

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable {F : FTy → Type} [FloatOps F]

local notation "𝕄" => MT nD τ sig Unit (Elt F) ℕ (UU nD τ) ℕ

variable (m : (ℓ : Loc nD τ sig) → Buf (Elt F) ℓ)

/-- The exact proof data read relationally, the tail's result forgotten where `b` says so. -/
def rdats (b : Bool) : (p : Fin 3) → (c : Dev nD) → Pipeline.RDat τ (Elt F) Unit ℕ (UU nD τ) ℕ (Pipeline.pin (pcfgs (F := F)) adm p) c
  | 0 => fun c => (dat0 (U1 m) c).toR
  | 1 => fun c => (dat1 (U3 m) c).toR
  | 2 => fun c => (dat2 (U5 m) c).toRForget (forget2 b)

local notation "ℍ" => Pipeline.HostSeg (Ix := Unit) (Name := ℕ) (U := UU nD τ) (Lvl := ℕ) (pcfgs (F := F)) defs₀ 𝒱₀ L lv

def rreg0 (b : Bool) : Pipeline.RDat.RegionSeg (pcfgs (F := F)) adm (rdats m b) () defs₀ 𝒱₀ L lv 0 :=
  let R := (reg0 m).toR (pcfgs (F := F)) adm (pdats m) () defs₀ 𝒱₀ L lv
  { win := R.win, block_pos := R.block_pos, stage_whole := R.stage_whole, K := R.K, fK := R.fK, osem := R.osem, ho := R.ho, hbody := R.hbody,
    hwaits := R.hwaits, pre := R.pre, post := R.post, X := R.X, Y := R.Y, Z := R.Z, hentry := R.hentry, hin := R.hin, hout := R.hout, hexit := R.hexit }
def rreg1 (b : Bool) : Pipeline.RDat.RegionSeg (pcfgs (F := F)) adm (rdats m b) () defs₀ 𝒱₀ L lv 1 :=
  let R := (reg1 m).toR (pcfgs (F := F)) adm (pdats m) () defs₀ 𝒱₀ L lv
  { win := R.win, block_pos := R.block_pos, stage_whole := R.stage_whole, K := R.K, fK := R.fK, osem := R.osem, ho := R.ho, hbody := R.hbody,
    hwaits := R.hwaits, pre := R.pre, post := R.post, X := R.X, Y := R.Y, Z := R.Z, hentry := R.hentry, hin := R.hin, hout := R.hout, hexit := R.hexit }
def rreg2 (b : Bool) (hb : b = false → RowWise F) : Pipeline.RDat.RegionSeg (pcfgs (F := F)) adm (rdats m b) () defs₀ 𝒱₀ L lv 2 :=
  let R := reg2 m b hb
  { win := R.win, block_pos := R.block_pos, stage_whole := R.stage_whole, K := R.K, fK := R.fK, osem := R.osem, ho := R.ho, hbody := R.hbody,
    hwaits := R.hwaits, pre := R.pre, post := R.post, X := R.X, Y := R.Y, Z := R.Z, hentry := R.hentry, hin := R.hin, hout := R.hout, hexit := R.hexit }

/-! ## The host stretches -/

def host0 : ℍ := Pipeline.HostSeg.ofOps _ _ _ _ _ (Pipeline.ucRefs τ sig) hostOps0
  (fun op h => Pipeline.sub_ucRefs op ((List.forall_iff_forall_mem.mp hostOps0_sub) op h))
  (fun op h => (List.forall_iff_forall_mem.mp hostOps0_fresh) op h) (U0 m) restE
def host1 : ℍ := Pipeline.HostSeg.ofOps _ _ _ _ _ (Pipeline.ucRefs τ sig) hostOps1
  (fun op h => Pipeline.sub_ucRefs op ((List.forall_iff_forall_mem.mp hostOps1_sub) op h))
  (fun op h => (List.forall_iff_forall_mem.mp hostOps1_fresh) op h) (U2 m) restE
def host2 : ℍ := Pipeline.HostSeg.ofOps _ _ _ _ _ (Pipeline.ucRefs τ sig) hostOps2
  (fun op h => Pipeline.sub_ucRefs op ((List.forall_iff_forall_mem.mp hostOps2_sub) op h))
  (fun op h => (List.forall_iff_forall_mem.mp hostOps2_fresh) op h) (U4 m) restE
def host3 (b : Bool) : ℍ := Pipeline.HostSeg.ofOpsEx _ _ _ _ _ (Γ := fun _ => Vec F S50257x4x1024 .f32) (Pipeline.ucRefs τ sig) hostOps3
  (fun op h => Pipeline.sub_ucRefs op ((List.forall_iff_forall_mem.mp hostOps3_sub) op h))
  (fun op h => (List.forall_iff_forall_mem.mp hostOps3_fresh) op h) (U6 m b) restE

def segs (b : Bool) (hb : b = false → RowWise F) : List (Pipeline.RDat.Seg (pcfgs (F := F)) adm (rdats m b) () defs₀ 𝒱₀ L lv) :=
  [.host (host0 m), .region (rreg0 m b), .host (host1 m), .region (rreg1 m b), .host (host2 m), .region (rreg2 m b hb), .host (host3 m b)]

/-! ## What reaches the end -/

/-- The buffers after the last stretch. -/
def U7 (b : Bool) (c : Dev nD) (X : Vec F S50257x4x1024 .f32) : Valuation τ sig (Elt F) := StableHlo.after hostOps3 (U6 m b c X)

/-- A buffer no item writes ends as launched. -/
theorem U7_keep (b : Bool) (c : Dev nD) (X : Vec F S50257x4x1024 .f32) (r : Ref sig .tc)
    (h0 : r ∉ hostOps0_W) (h1 : r ∉ hostOps1_W) (h2 : r ∉ hostOps2_W) (h3 : r ∉ hostOps3_W) (e2 : r ≠ main_v2) (e4 : r ≠ main_v4) (e5 : r ≠ main_v5) :
    U7 m b c X (Proc.devRef .tc r) = m ((c : Thread nD τ).loc r) := by
  refine (StableHlo.after_of_writes_sub hostOps3 _ hostOps3_writes h3).trans ?_
  refine (Function.update_of_ne (StableHlo.devRef_ne_of_ne e5 : (Proc.devRef .tc r : DevRef τ sig) ≠ Proc.devRef .tc main_v5) _ _).trans ?_
  refine (StableHlo.after_of_writes_sub hostOps2 _ hostOps2_writes h2).trans ?_
  refine (Function.update_of_ne (StableHlo.devRef_ne_of_ne e4 : (Proc.devRef .tc r : DevRef τ sig) ≠ Proc.devRef .tc main_v4) _ _).trans ?_
  refine (StableHlo.after_of_writes_sub hostOps1 _ hostOps1_writes h1).trans ?_
  refine (Function.update_of_ne (StableHlo.devRef_ne_of_ne e2 : (Proc.devRef .tc r : DevRef τ sig) ≠ Proc.devRef .tc main_v2) _ _).trans ?_
  exact StableHlo.after_of_writes_sub hostOps0 _ hostOps0_writes h0

/-- What is read off a device's final memory. -/
def QY (b : Bool) (c : Dev nD) (s : MemSt nD τ sig (Elt F)) : Prop :=
  ∃ X : Vec F S50257x4x1024 .f32, s.mem ((c : Thread nD τ).loc main_v6) = U7 m b c X (Proc.devRef .tc main_v6)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_end (b : Bool) (c : Dev nD) (s' : Phys nD τ sig (Elt F)) :
    (iprop((∃ X, StableHlo.held (c : Thread nD τ) (Pipeline.ucRefs τ sig) (U7 m b c X)) ∗ SI s') : sProp 𝕄) ⊢ |={Set.univ}=> iprop(⌜QY m b c s'.mem⌝ ∗ SI s') := by
  unfold StableHlo.held
  iintro ⟨⟨%X, Hh⟩, HSI⟩
  ihave Hr := (pointsTo_read_all (Pipeline.ucRefs τ sig) (fun b => ((c : Thread nD τ).1, b)) (U7 m b c X) s') $$ [Hh HSI]
  · isplitl [Hh] <;> iassumption
  icases Hr with ⟨%h, HSI⟩
  imodintro
  isplitr
  · ipureintro
    exact ⟨X, h (Proc.devRef .tc main_v6) (Finset.mem_filter.mpr ⟨StableHlo.devRef_mem_tcRefs main_v6, by decide⟩),
      (h (Proc.devRef .tc main_arg0) (Finset.mem_filter.mpr ⟨StableHlo.devRef_mem_tcRefs main_arg0, by decide⟩)).trans (U7_keep m b c X main_arg0 (by decide) (by decide) (by decide) (by decide) (by decide) (by decide) (by decide)),
      (h (Proc.devRef .tc main_arg1) (Finset.mem_filter.mpr ⟨StableHlo.devRef_mem_tcRefs main_arg1, by decide⟩)).trans (U7_keep m b c X main_arg1 (by decide) (by decide) (by decide) (by decide) (by decide) (by decide) (by decide)),
      (h (Proc.devRef .tc main_arg2) (Finset.mem_filter.mpr ⟨StableHlo.devRef_mem_tcRefs main_arg2, by decide⟩)).trans (U7_keep m b c X main_arg2 (by decide) (by decide) (by decide) (by decide) (by decide) (by decide) (by decide)),
      (h (Proc.devRef .tc main_arg3) (Finset.mem_filter.mpr ⟨StableHlo.devRef_mem_tcRefs main_arg3, by decide⟩)).trans (U7_keep m b c X main_arg3 (by decide) (by decide) (by decide) (by decide) (by decide) (by decide) (by decide)),
      (h (Proc.devRef .tc main_arg4) (Finset.mem_filter.mpr ⟨StableHlo.devRef_mem_tcRefs main_arg4, by decide⟩)).trans (U7_keep m b c X main_arg4 (by decide) (by decide) (by decide) (by decide) (by decide) (by decide) (by decide))⟩
  · iexact HSI

/-- What the tail's record leaves, gathered. -/
theorem leave2 (b : Bool) (hb : b = false → RowWise F) (c : Dev nD) :
    (rreg2 m b hb).post c ⊢ (iprop((∃ X, StableHlo.held (c : Thread nD τ) (Pipeline.ucRefs τ sig) (U6 m b c X)) ∗ restE c) : sProp 𝕄) := by
  dsimp only [rreg2, reg2, Pipeline.RDat.RegionSeg.ofHeldF]
  iintro ⟨%A, %g, H⟩
  ihave H := (of_region spec2 sub2 (U6 m b c (A (4 : Fin 5))) c) $$ H
  icases H with ⟨Hh, HE⟩
  isplitl [Hh]; · iexists _; iexact Hh
  iexact HE

theorem pre0 (b : Bool) (c : Dev nD) : (iprop(StableHlo.held (c : Thread nD τ) (Pipeline.ucRefs τ sig) (U1 m c) ∗ restE c) : sProp 𝕄) ⊢ (rreg0 m b).pre c :=
  to_region spec0 sub0 (U1 m c) c
theorem post0 (b : Bool) (c : Dev nD) : (rreg0 m b).post c ⊢ (iprop(StableHlo.held (c : Thread nD τ) (Pipeline.ucRefs τ sig) (U2 m c) ∗ restE c) : sProp 𝕄) :=
  of_region spec0 sub0 (U2 m c) c
theorem pre1 (b : Bool) (c : Dev nD) : (iprop(StableHlo.held (c : Thread nD τ) (Pipeline.ucRefs τ sig) (U3 m c) ∗ restE c) : sProp 𝕄) ⊢ (rreg1 m b).pre c :=
  to_region spec1 sub1 (U3 m c) c
theorem post1 (b : Bool) (c : Dev nD) : (rreg1 m b).post c ⊢ (iprop(StableHlo.held (c : Thread nD τ) (Pipeline.ucRefs τ sig) (U4 m c) ∗ restE c) : sProp 𝕄) :=
  of_region spec1 sub1 (U4 m c) c
theorem pre2 (b : Bool) (hb : b = false → RowWise F) (c : Dev nD) :
    (iprop(StableHlo.held (c : Thread nD τ) (Pipeline.ucRefs τ sig) (U5 m c) ∗ restE c) : sProp 𝕄) ⊢ (rreg2 m b hb).pre c :=
  to_region spec2 sub2 (U5 m c) c
theorem post3 (b : Bool) (c : Dev nD) : (host3 m b).post c
    ⊢ (iprop((∃ X, StableHlo.held (c : Thread nD τ) (Pipeline.ucRefs τ sig) (U7 m b c X)) ∗ ∃ Wd, owes (c : Thread nD τ) (0 : CellTallies nD τ sig Unit) Wd) : sProp 𝕄) := by
  show iprop((∃ X, StableHlo.held (c : Thread nD τ) (Pipeline.ucRefs τ sig) (U7 m b c X)) ∗ restE c) ⊢ _
  iintro ⟨Hh, HO, -⟩
  isplitl [Hh]; · iexact Hh
  iexact HO

theorem chained (b : Bool) (hb : b = false → RowWise F) (c : Dev nD) :
    Pipeline.RDat.Seg.ChainsAt c (fun c => iprop(StableHlo.held (c : Thread nD τ) (Pipeline.ucRefs τ sig) (U0 m c) ∗ restE c)) (segs m b hb)
      fun c => iprop((∃ X, StableHlo.held (c : Thread nD τ) (Pipeline.ucRefs τ sig) (U7 m b c X)) ∗ ∃ Wd, owes (c : Thread nD τ) (0 : CellTallies nD τ sig Unit) Wd) :=
  ⟨.rfl, pre0 m b c, post0 m b c, pre1 m b c, post1 m b c, pre2 m b hb c, leave2 m b hb c, post3 m b c⟩

/-- The launch's ghost element: the pipelines' cells, no counter. -/
def u₀ : UU nD τ :=
  (initOf (Pipeline.cells (Pipeline.pin (pcfgs (F := F)) adm) cellOf_inj) (Pipeline.launchToks (Pipeline.pin (pcfgs (F := F)) adm) cellOf_inj), 1)

abbrev EP : Emb (UR sig nD τ) (MT nD τ sig Unit (Elt F) ℕ (UU nD τ) ℕ) := embL

set_option backward.isDefEq.respectTransparency.types false in
theorem run (b : Bool) (hb : b = false → RowWise F) (ρ : Dev nD → PrngReg) :
    θ_run defs (onTc (τ := τ) (main (F := F))) ⟨m, fun _ => 0, ρ⟩ (fun r => (∀ c : Dev nD, QY m b c r.2) ∧ r.2.sem = fun _ => 0) := by
  refine Pipeline.RDat.θ_run_regions_kit_dev_sems (pcfgs (F := F)) adm (rdats m b) () cellOf_inj EP defs₀ 𝒱₀ L lv m ρ main
    (fun _ => segs m b hb)
    (fun c Q => by
      rewrite [main_chain c, Pipeline.RDat.Seg.run_eq_chain,
        show (segs m b hb).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Pipeline.RDat.Seg.pipes_host, Pipeline.RDat.Seg.pipes_region, Pipeline.RDat.Seg.pipes_nil]; decide)
    (O₀ := 0) (hL := fun g h => if_neg h) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ restE c))
    (Tₙ := fun c => iprop(∃ X, StableHlo.held (c : Thread nD τ) (Pipeline.ucRefs τ sig) (U7 m b c X)))
    (hch := chained m b hb)
    (hinit := by
      refine Pipeline.initEach L lv fun c => ?_
      rw [show unscopedBufs c (fun b => m ((c : Thread nD τ).loc b)) = StableHlo.held (c : Thread nD τ) (Pipeline.ucRefs τ sig) (U0 m c) from
        Pipeline.unscopedBufs_held (Ix := Unit) (Name := ℕ) (U := UU nD τ) (Lvl := ℕ) c (U0 m c)]
      iintro ⟨⟨Hh, -, HO, -, Hg, -⟩, -⟩
      imodintro
      isplitl [Hh]; · iexact Hh
      isplitl [HO]; · iexists ∅; iexact HO
      iexists _; iexact Hg)
    (QY := QY m b) (hfin := fun c s' => read_end m b c s')
    (hQ := fun _ h hz => ⟨h, funext fun g => hz g (.inr (regions_no_unscoped g.2))⟩)

end Cert.KernelIdeal.Run

end
-- ==== Proof.VKernel.lean ====
/-
  The kernel's result over the extended reals is the logits' formula.
-/
module

public import proofs.«01_k».proof.Proof.VBlock
public import proofs.«01_k».proof.Proof.VLogits
public import proofs.«01_k».proof.Proof.VTailOut
public import proofs.«01_k».proof.Proof.Run
public import Idealize.ShloMosaic.Lib.StableHlo.Run

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef)

variable (m : (ℓ : Loc nD τ sig) → Buf (Elt Ideal) ℓ)

/-! ## What the kernels find -/

/-- A buffer no item before the main kernel writes. -/
theorem U3_keep (c : Dev nD) (r : Ref sig .tc) (h0 : r ∉ hostOps0_W) (h1 : r ∉ hostOps1_W) (e2 : r ≠ main_v2) :
    U3 m c (Proc.devRef .tc r) = m ((c : Thread nD τ).loc r) := by
  refine (StableHlo.after_of_writes_sub hostOps1 _ hostOps1_writes h1).trans ?_
  refine (Function.update_of_ne (StableHlo.devRef_ne_of_ne e2 : (Proc.devRef .tc r : DevRef τ sig) ≠ Proc.devRef .tc main_v2) _ _).trans ?_
  exact StableHlo.after_of_writes_sub hostOps0 _ hostOps0_writes h0

/-- The tail finds what the main kernel found, but for the result. -/
theorem U5_keep (c : Dev nD) (r : Ref sig .tc) (h2 : r ∉ hostOps2_W) (e4 : r ≠ main_v4) : U5 m c (Proc.devRef .tc r) = U3 m c (Proc.devRef .tc r) := by
  refine (StableHlo.after_of_writes_sub hostOps2 _ hostOps2_writes h2).trans ?_
  exact Function.update_of_ne (StableHlo.devRef_ne_of_ne e4 : (Proc.devRef .tc r : DevRef τ sig) ≠ Proc.devRef .tc main_v4) _ _

/-- The four arrays as the vocabulary kernels read them. -/
structure Found (W : Dev nD → Valuation τ sig (Elt Ideal)) (c : Dev nD) : Prop where
  ids : ∀ (b : Fin 4) (s : Fin 1024), idsV W c (ix3 b 0 s) = m ((c : Thread nD τ).loc main_arg0) (ix2 b s)
  x : xV W c = m ((c : Thread nD τ).loc main_arg1)
  sc : cV W c = scoresOf (U1 m) c
  hw : hV W c = m ((c : Thread nD τ).loc main_arg2)

theorem U3_v3 (c : Dev nD) : U3 m c (Proc.devRef .tc main_v3) = shapeCast S4x1x1024 (m ((c : Thread nD τ).loc main_arg0)) shapeCasts_S4x1024_S4x1x1024 := by
  have h : U2 m c (Proc.devRef .tc main_arg0) = m ((c : Thread nD τ).loc main_arg0) :=
    (Function.update_of_ne (show (Proc.devRef .tc main_arg0 : DevRef τ sig) ≠ Proc.devRef .tc main_v2 from by decide) _ _).trans
      (StableHlo.after_of_writes_sub hostOps0 _ hostOps0_writes (by decide))
  rw [← h]
  unfold U3
  after_results_simp <;> rfl

theorem U1_v0 (c : Dev nD) : U1 m c (Proc.devRef .tc main_v0) = (truncf .bf16 (m ((c : Thread nD τ).loc main_arg3) : FVec Ideal S256x768 .f32) bitsLt_bf16_f32 : FVec Ideal S256x768 .bf16) := by
  unfold U1
  after_results_simp <;> rfl
theorem U1_v1 (c : Dev nD) : U1 m c (Proc.devRef .tc main_v1) = (truncf .bf16 (m ((c : Thread nD τ).loc main_arg4) : FVec Ideal S256x768 .f32) bitsLt_bf16_f32 : FVec Ideal S256x768 .bf16) := by
  unfold U1
  after_results_simp <;> rfl
theorem U1_x (c : Dev nD) : U1 m c (Proc.devRef .tc main_arg1) = m ((c : Thread nD τ).loc main_arg1) :=
  StableHlo.after_of_writes_sub hostOps0 _ hostOps0_writes (by decide)
theorem U5_v5 (c : Dev nD) : U5 m c (Proc.devRef .tc main_v5) = GV (U3 m) c := by
  have h : U4 m c (Proc.devRef .tc main_v4) = GV (U3 m) c := by
    unfold U4; exact Function.update_self (Proc.devRef .tc main_v4 : DevRef τ sig) (GV (U3 m) c) (U3 m c)
  rw [← h]
  unfold U5
  after_results_simp <;> rfl
theorem U7_v6 (b : Bool) (c : Dev nD) (X : Vec Ideal S50257x4x1024 .f32) : U7 m b c X (Proc.devRef .tc main_v6)
    = transpose S4x1024x50257 [1, 2, 0] (U6 m b c X (Proc.devRef .tc main_v5)) transposes_S50257x4x1024_S4x1024x50257_1_2_0 := by
  unfold U7
  after_results_simp <;> rfl

theorem found3 (c : Dev nD) : Found m (U3 m) c where
  ids b s := by
    show U3 m c (Proc.devRef .tc main_v3) (ix3 b 0 s) = _
    rw [U3_v3]
    exact cast_mid _ _ b s
  x := U3_keep m c main_arg1 (by decide) (by decide) (by decide)
  sc := (StableHlo.after_of_writes_sub hostOps1 (U2 m c) hostOps1_writes (r := main_v2) (by decide)).trans
    (by unfold U2; exact Function.update_self (Proc.devRef .tc main_v2 : DevRef τ sig) (scoresOf (U1 m) c) (U1 m c))
  hw := U3_keep m c main_arg2 (by decide) (by decide) (by decide)

theorem found5 (c : Dev nD) : Found m (U5 m) c where
  ids b s := (congrFun (U5_keep m c main_v3 (by decide) (by decide)) (ix3 b 0 s)).trans ((found3 m c).ids b s)
  x := (U5_keep m c main_arg1 (by decide) (by decide)).trans (found3 m c).x
  sc := (U5_keep m c main_v2 (by decide) (by decide)).trans (found3 m c).sc
  hw := (U5_keep m c main_arg2 (by decide) (by decide)).trans (found3 m c).hw

/-! ## The scores -/

theorem scores_at (c : Dev nD) (b : Fin 4) (t s : Fin 1024) : (scoresOf (U1 m) c (ix3 b t s) : EReal)
    = scoreE (fun t e => m ((c : Thread nD τ).loc main_arg1) (ix3 b t e)) (fun a e => m ((c : Thread nD τ).loc main_arg3) (ix2 a e))
        (fun a e => m ((c : Thread nD τ).loc main_arg4) (ix2 a e)) t s := by
  refine (scoreBlk_val (xRow (U1 m) c b) (qwV (U1 m) c) (kwV (U1 m) c) t s).trans ?_
  have e1 : (fun t e => xRow (U1 m) c b (ix3 0 t e) : Fin 1024 → Fin 768 → EReal) = fun t e => m ((c : Thread nD τ).loc main_arg1) (ix3 b t e) :=
    funext fun t => funext fun e => congrFun (U1_x m c) (ix3 b t e)
  have e2 : (fun a e => qwV (U1 m) c (ix2 a e) : Fin 256 → Fin 768 → EReal) = fun a e => m ((c : Thread nD τ).loc main_arg3) (ix2 a e) :=
    funext fun a => funext fun e => congrFun (U1_v0 m c) (ix2 a e)
  have e3 : (fun a e => kwV (U1 m) c (ix2 a e) : Fin 256 → Fin 768 → EReal) = fun a e => m ((c : Thread nD τ).loc main_arg4) (ix2 a e) :=
    funext fun a => funext fun e => congrFun (U1_v1 m c) (ix2 a e)
  rw [e1, e2, e3]

theorem causal (c : Dev nD) : Causal (scoresOf (U1 m) c) := fun b p s h => (scores_at m c b p s).trans (scoreE_above _ _ _ p s h)

/-! ## The logits -/

/-- The formula of the logits over a device's arguments. -/
abbrev want (c : Dev nD) (b : Fin 4) (t : Fin 1024) (v : Fin 50257) : EReal :=
  logitsOf (m ((c : Thread nD τ).loc main_arg0)) (m ((c : Thread nD τ).loc main_arg1)) (m ((c : Thread nD τ).loc main_arg2))
    (m ((c : Thread nD τ).loc main_arg3)) (m ((c : Thread nD τ).loc main_arg4)) b t v

theorem entry_want (W : Dev nD → Valuation τ sig (Elt Ideal)) (c : Dev nD) (hW : Found m W c) (hw : Fin 768 → EReal) (n : ℕ) (b : Fin 4)
    (t : Fin 1024) (v : Fin 50257) (hn : n = v.val) (hh : ∀ e, hw e = hV W c (ix2 v e)) :
    entry (idsV W c) (xV W c) (cV W c) hw n b t = want m c b t v := by
  subst hn
  unfold entry
  rw [hW.x, hW.sc]
  show _ = (_ + _ : EReal)
  refine congrArg₂ _ (Finset.sum_congr rfl fun e _ => ?_) (Finset.sum_congr rfl fun s _ => ?_)
  · rw [hh e, hW.hw]
  · rw [hW.ids, scores_at]

theorem step_val (u : Fin 49) : (stepAt u 0).val = u.val := by
  have h : ∀ t : Fin grid1.N, (grid1.coords t 0).val = t.val := by decide +kernel
  exact h _

theorem main_want (c : Dev nD) (v : Fin 50257) (hv : v.val < 50176) (b : Fin 4) (t : Fin 1024) :
    (GV (U3 m) c (ix3 v b t) : EReal) = want m c b t v := by
  unfold GV Gout
  rw [dif_pos (show ((ix3 v b t : S50257x4x1024.Idx) 0).val < 50176 from hv)]
  have hz : Causal (cV (U3 m) c) := by rw [(found3 m c).sc]; exact causal m c
  refine (blk_val _ _ _ _ _ hz b ⟨v.val % 1024, by omega⟩ t).trans ?_
  refine entry_want m (U3 m) c (found3 m c) _ _ b t v ?_ fun e => ?_
  · rw [step_val]; show 1024 * (v.val / 1024) + v.val % 1024 = v.val; omega
  · show hV (U3 m) c (ix2 ⟨1024 * (v.val / 1024) + v.val % 1024, _⟩ e) = _
    congr 2; apply Fin.ext; show 1024 * (v.val / 1024) + v.val % 1024 = v.val; omega

theorem hwTail_at (W : Dev nD → Valuation τ sig (Elt Ideal)) (c : Dev nD) (d : Vec Ideal S1024x768 .f32) (r : Fin 1024) (e : Fin 768) (h : r.val < 81)
    (v : Fin 50257) (hv : v.val = 50176 + r.val) : hwTail W c d (ix2 r e) = hV W c (ix2 v e) := by
  have ev : v = ⟨50176 + r.val, by omega⟩ := Fin.ext hv
  rw [ev]
  exact dif_pos h

theorem tail_want (c : Dev nD) (v : Fin 50257) (b : Fin 4) (t : Fin 1024) : (tailOut (U5 m) c (ix3 v b t) : EReal) = want m c b t v := by
  have hv := v.isLt
  unfold tailOut
  by_cases h : 50176 ≤ v.val
  · rw [dif_pos (show 50176 ≤ ((ix3 v b t : S50257x4x1024.Idx) 0).val from h)]
    have hz : Causal (cV (U5 m) c) := by rw [(found5 m c).sc]; exact causal m c
    refine (tail_val _ _ _ _ hz b ⟨v.val - 50176, by omega⟩ t).trans ?_
    refine entry_want m (U5 m) c (found5 m c) _ _ b t v (by show 1024 * 49 + (v.val - 50176) = v.val; omega) fun e => ?_
    refine (hwTail_at (U5 m) c _ ⟨v.val - 50176, by omega⟩ e (by show v.val - 50176 < 81; omega) v ?_)
    show v.val = 50176 + (v.val - 50176)
    omega
  · rw [dif_neg (show ¬ 50176 ≤ ((ix3 v b t : S50257x4x1024.Idx) 0).val from h)]
    exact (congrFun (U5_v5 m c) (ix3 v b t)).trans (main_want m c v (by omega) b t)

/-- The result array over the extended reals. -/
theorem U7_want (c : Dev nD) (X : Vec Ideal S50257x4x1024 .f32) (b : Fin 4) (t : Fin 1024) (v : Fin 50257) :
    (U7 m false c X (Proc.devRef .tc main_v6) (ix3 b t v) : EReal) = want m c b t v := by
  rw [U7_v6]
  have h6 : U6 m false c X (Proc.devRef .tc main_v5) = tailOut (U5 m) c :=
    (Function.update_self (Proc.devRef .tc main_v5 : DevRef τ sig) _ (U5 m c)).trans (final2 (U5 m) c)
  rw [h6, ← tail_want m c v b t]
  show tailOut (U5 m) c _ = tailOut (U5 m) c _
  congr 1
  funext a; apply Fin.ext
  match a with
  | ⟨0, _⟩ => rfl
  | ⟨1, _⟩ => rfl
  | ⟨2, _⟩ => rfl

end Cert.KernelIdeal.Run

end
-- ==== Proof.RScatter.lean ====
/-
  Where the reference's scatter lands.
-/
module

public import proofs.«01_k».proof.Proof.Gen.ReferenceIdeal
public import Idealize.ShloMosaic.Lib.Routing.OpsPair

@[expose] public section

set_option maxRecDepth 16384

noncomputable section

namespace Cert.ReferenceIdeal.Val

open Cert.ReferenceIdeal Cert.ReferenceIdeal.Gen
open Idealize.ShloMosaic Idealize.ShloMosaic.ValueIdx
open Idealize.ShloMosaic.TcCoe Idealize.ShloMosaic.Tactic

/-- Where an update of the scatter lands: at the three words its index vector holds, read signed. -/
theorem lands (idx : IVec S4x1024x1024x3 32) (b : Fin 4) (t s : Fin 1024) (B : Fin 4) (T : Fin 1024) (V : Fin 50257) :
    scatter_S4x1024x50257_S4x1024x1024x3_S4x1024x1024_n_012_012_3.resultIdx? (ix3 b t s) idx = some (ix3 B T V)
      ↔ (idx (ix4 b t s 0)).toInt = B.val ∧ (idx (ix4 b t s 1)).toInt = T.val ∧ (idx (ix4 b t s 2)).toInt = V.val := by
  let d := scatter_S4x1024x50257_S4x1024x1024x3_S4x1024x1024_n_012_012_3
  show d.resultIdx? _ _ = _ ↔ _
  have hm : ∀ q : Fin 3, q ∈ d.scatterDimsToOperandDims := fun q => by fin_cases q <;> simp [d, scatter_S4x1024x50257_S4x1024x1024x3_S4x1024x1024_n_012_012_3]
  have hwin : ∀ q : Fin 3, d.window (ix3 b t s) q = 0 := fun q => by
    unfold ScatterDims.window
    rw [dif_neg fun h => (of_decide_eq_true (List.mem_filter.1 h).2) (by fin_cases q <;> simp [d, scatter_S4x1024x50257_S4x1024x1024x3_S4x1024x1024_n_012_012_3])]
  have hsi : ∀ q : Fin 3, d.siIdx (ix3 b t s) ⟨d.scatterDimsToOperandDims.idxOf q, List.idxOf_lt_length_iff.2 (hm q)⟩ = ix4 b t s q := fun q => by
    funext a; apply Fin.ext
    match a with
    | ⟨0, _⟩ => rfl
    | ⟨1, _⟩ => rfl
    | ⟨2, _⟩ => rfl
    | ⟨3, _⟩ => fin_cases q <;> rfl
  have hstart : ∀ q : Fin 3, d.start (ix3 b t s) idx q = (idx (ix4 b t s q)).toInt := fun q => by
    unfold ScatterDims.start
    rw [dif_pos (hm q), hsi]
  rw [Idealize.ShloMosaic.Routing.resultIdx?_eq_some]
  constructor
  · intro h
    have h0 := h 0; have h1 := h 1; have h2 := h 2
    rw [hstart, hwin] at h0 h1 h2
    exact ⟨by simpa using h0, by simpa using h1, by simpa using h2⟩
  · rintro ⟨h0, h1, h2⟩ a
    rw [hstart, hwin]
    match a with
    | ⟨0, _⟩ => simpa using h0
    | ⟨1, _⟩ => simpa using h1
    | ⟨2, _⟩ => simpa using h2

end Cert.ReferenceIdeal.Val

end
-- ==== Proof.RWords.lean ====
/-
  The index words of the reference's scatter, and the scattered scores.
-/
module

public import proofs.«01_k».proof.Proof.RScatter
public import Idealize.ShloMosaic.Lib.Pipeline.Value
public import Idealize.ShloMosaic.Lib.IdealHost

@[expose] public section

set_option maxRecDepth 16384

noncomputable section

namespace Cert.ReferenceIdeal.Val

open Cert.ReferenceIdeal Cert.ReferenceIdeal.Gen
open Idealize.ShloMosaic Idealize.ShloMosaic.ValueIdx
open Idealize.ShloMosaic.TcCoe Idealize.ShloMosaic.Tactic

/-! ## Three arrays side by side along a new last axis -/

section
variable (x0 x1 x2 : IVec S4x1024x1024x1 32) (b : Fin 4) (t s : Fin 1024)

theorem piece_0 : concatenate S4x1024x1024x3 3 [⟨S4x1024x1024x1, x0⟩, ⟨S4x1024x1024x1, x1⟩, ⟨S4x1024x1024x1, x2⟩]
    concatenates_S4x1024x1024x1_S4x1024x1024x1_S4x1024x1024x1_S4x1024x1024x3_d3 (ix4 b t s 0) = x0 (ix4 b t s 0) :=
  concatenate_apply_piece (α := BitVec 32) (t := S4x1024x1024x3) 3 [⟨S4x1024x1024x1, x0⟩, ⟨S4x1024x1024x1, x1⟩, ⟨S4x1024x1024x1, x2⟩]
    concatenates_S4x1024x1024x1_S4x1024x1024x1_S4x1024x1024x1_S4x1024x1024x3_d3 (ix4 b t s 0) 0 (show 0 < 3 by decide) S4x1024x1024x1 x0 rfl rfl 0 rfl
    (ix4 b t s 0) (fun a ha => by
      match a with
      | ⟨0, _⟩ => rfl
      | ⟨1, _⟩ => rfl
      | ⟨2, _⟩ => rfl
      | ⟨3, _⟩ => exact absurd rfl ha) rfl
theorem piece_1 : concatenate S4x1024x1024x3 3 [⟨S4x1024x1024x1, x0⟩, ⟨S4x1024x1024x1, x1⟩, ⟨S4x1024x1024x1, x2⟩]
    concatenates_S4x1024x1024x1_S4x1024x1024x1_S4x1024x1024x1_S4x1024x1024x3_d3 (ix4 b t s 1) = x1 (ix4 b t s 0) :=
  concatenate_apply_piece (α := BitVec 32) (t := S4x1024x1024x3) 3 [⟨S4x1024x1024x1, x0⟩, ⟨S4x1024x1024x1, x1⟩, ⟨S4x1024x1024x1, x2⟩]
    concatenates_S4x1024x1024x1_S4x1024x1024x1_S4x1024x1024x1_S4x1024x1024x3_d3 (ix4 b t s 1) 1 (show 1 < 3 by decide) S4x1024x1024x1 x1 rfl rfl 1 rfl
    (ix4 b t s 0) (fun a ha => by
      match a with
      | ⟨0, _⟩ => rfl
      | ⟨1, _⟩ => rfl
      | ⟨2, _⟩ => rfl
      | ⟨3, _⟩ => exact absurd rfl ha) rfl
theorem piece_2 : concatenate S4x1024x1024x3 3 [⟨S4x1024x1024x1, x0⟩, ⟨S4x1024x1024x1, x1⟩, ⟨S4x1024x1024x1, x2⟩]
    concatenates_S4x1024x1024x1_S4x1024x1024x1_S4x1024x1024x1_S4x1024x1024x3_d3 (ix4 b t s 2) = x2 (ix4 b t s 0) :=
  concatenate_apply_piece (α := BitVec 32) (t := S4x1024x1024x3) 3 [⟨S4x1024x1024x1, x0⟩, ⟨S4x1024x1024x1, x1⟩, ⟨S4x1024x1024x1, x2⟩]
    concatenates_S4x1024x1024x1_S4x1024x1024x1_S4x1024x1024x1_S4x1024x1024x3_d3 (ix4 b t s 2) 2 (show 2 < 3 by decide) S4x1024x1024x1 x2 rfl rfl 2 rfl
    (ix4 b t s 0) (fun a ha => by
      match a with
      | ⟨0, _⟩ => rfl
      | ⟨1, _⟩ => rfl
      | ⟨2, _⟩ => rfl
      | ⟨3, _⟩ => exact absurd rfl ha) rfl
end

/-! ## Index words -/

/-- The wrap of negative words leaves a word that is not negative. -/
theorem wrapped {s : Shape} (X Z C : IVec s 32) (i : s.Idx) (hz : Z i = 0#32) (h : 0 ≤ (X i).toInt) :
    select (cmpi .slt X Z) (addi X C) X i = X i := by
  show Scalar.select (IntOp.cmpi .slt (X i) (Z i)) (X i + C i) (X i) = X i
  rw [hz]
  refine Idealize.ShloMosaic.Routing.wrap_of_lt (X i) (X i + C i) ?_
  have := (X i).isLt
  rw [BitVec.toInt_eq_toNat_cond] at h
  split at h <;> omega

/-- The index vectors of the scatter. -/
def words (a0 : IVec S4x1024 32) : IVec S4x1024x1024x3 32 :=
  concatenate S4x1024x1024x3 3 [⟨S4x1024x1024x1, (broadcastInDim S4x1024x1024x1 ![0, 1, 2] bcast_S4x1024x1024_S4x1024x1024x1_0_1_2 (broadcastInDim S4x1024x1024 ![0, 1, 2] bcast_S4x1x1_S4x1024x1024_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x1024x1024x1, (broadcastInDim S4x1024x1024x1 ![0, 1, 2] bcast_S4x1024x1024_S4x1024x1024x1_0_1_2 (broadcastInDim S4x1024x1024 ![0, 1, 2] bcast_S1x1024x1_S4x1024x1024_0_1_2 (select (cmpi .slt (broadcastInDim S1x1024x1 ![1] bcast_S1024_S1x1024x1_1 (iotaInDim S1024 32 0)) (broadcastInDim S1x1024x1 ![] bcast_S_S1x1024x1 (constantI S_ 32 0#32))) (addi (broadcastInDim S1x1024x1 ![1] bcast_S1024_S1x1024x1_1 (iotaInDim S1024 32 0)) (broadcastInDim S1x1024x1 ![] bcast_S_S1x1024x1 (constantI S_ 32 1024#32))) (broadcastInDim S1x1024x1 ![1] bcast_S1024_S1x1024x1_1 (iotaInDim S1024 32 0)))))⟩, ⟨S4x1024x1024x1, (broadcastInDim S4x1024x1024x1 ![0, 1, 2] bcast_S4x1024x1024_S4x1024x1024x1_0_1_2 (broadcastInDim S4x1024x1024 ![0, 1, 2] bcast_S4x1x1024_S4x1024x1024_0_1_2 (select (cmpi .slt (broadcastInDim S4x1x1024 ![0, 2] bcast_S4x1024_S4x1x1024_0_2 a0) (broadcastInDim S4x1x1024 ![] bcast_S_S4x1x1024 (constantI S_ 32 0#32))) (addi (broadcastInDim S4x1x1024 ![0, 2] bcast_S4x1024_S4x1x1024_0_2 a0) (broadcastInDim S4x1x1024 ![] bcast_S_S4x1x1024 (constantI S_ 32 50257#32))) (broadcastInDim S4x1x1024 ![0, 2] bcast_S4x1024_S4x1x1024_0_2 a0))))⟩] concatenates_S4x1024x1024x1_S4x1024x1024x1_S4x1024x1024x1_S4x1024x1024x3_d3

/-- A number below 2^20 as a word, read signed. -/
theorem small (a : ℕ) (h : a < 2 ^ 20) : (BitVec.ofNat 32 a).toInt = (a : ℤ) := by
  rw [BitVec.toInt_ofNat', Int.bmod_eq_of_le (by omega) (by omega)]

section
variable (a0 : IVec S4x1024 32) (b : Fin 4) (t s : Fin 1024)

theorem words_0 : words a0 (ix4 b t s 0) = BitVec.ofNat 32 b.val := by
  unfold words
  refine (piece_0 _ _ _ b t s).trans ?_
  refine (broadcastInDim_apply _ _ _ (ix4 b t s 0) (ix3 b t s) (fun a => by match a with | ⟨0, _⟩ => rfl | ⟨1, _⟩ => rfl | ⟨2, _⟩ => rfl)).trans ?_
  refine (broadcastInDim_apply _ _ _ (ix3 b t s) (ix3 b 0 0) (fun a => by match a with | ⟨0, _⟩ => rfl | ⟨1, _⟩ => rfl | ⟨2, _⟩ => rfl)).trans ?_
  have e : broadcastInDim S4x1x1 ![0] bcast_S4_S4x1x1_0 (iotaInDim S4 32 0) (ix3 b 0 0) = BitVec.ofNat 32 b.val :=
    (broadcastInDim_apply _ _ _ (ix3 b 0 0) (ix1 b) (fun a => by match a with | ⟨0, _⟩ => rfl)).trans rfl
  refine (wrapped _ _ _ _ rfl (by rw [e, small _ (by have := b.isLt; omega)]; omega)).trans e

theorem words_1 : words a0 (ix4 b t s 1) = BitVec.ofNat 32 t.val := by
  unfold words
  refine (piece_1 _ _ _ b t s).trans ?_
  refine (broadcastInDim_apply _ _ _ (ix4 b t s 0) (ix3 b t s) (fun a => by match a with | ⟨0, _⟩ => rfl | ⟨1, _⟩ => rfl | ⟨2, _⟩ => rfl)).trans ?_
  refine (broadcastInDim_apply _ _ _ (ix3 b t s) (ix3 0 t 0) (fun a => by match a with | ⟨0, _⟩ => rfl | ⟨1, _⟩ => rfl | ⟨2, _⟩ => rfl)).trans ?_
  have e : broadcastInDim S1x1024x1 ![1] bcast_S1024_S1x1024x1_1 (iotaInDim S1024 32 0) (ix3 0 t 0) = BitVec.ofNat 32 t.val :=
    (broadcastInDim_apply _ _ _ (ix3 0 t 0) (ix1 t) (fun a => by match a with | ⟨0, _⟩ => rfl)).trans rfl
  refine (wrapped _ _ _ _ rfl (by rw [e, small _ (by have := t.isLt; omega)]; omega)).trans e

theorem words_2 (h : 0 ≤ (a0 (ix2 b s)).toInt) : words a0 (ix4 b t s 2) = a0 (ix2 b s) := by
  unfold words
  refine (piece_2 _ _ _ b t s).trans ?_
  refine (broadcastInDim_apply _ _ _ (ix4 b t s 0) (ix3 b t s) (fun a => by match a with | ⟨0, _⟩ => rfl | ⟨1, _⟩ => rfl | ⟨2, _⟩ => rfl)).trans ?_
  refine (broadcastInDim_apply _ _ _ (ix3 b t s) (ix3 b 0 s) (fun a => by match a with | ⟨0, _⟩ => rfl | ⟨1, _⟩ => rfl | ⟨2, _⟩ => rfl)).trans ?_
  have e : broadcastInDim S4x1x1024 ![0, 2] bcast_S4x1024_S4x1x1024_0_2 a0 (ix3 b 0 s) = a0 (ix2 b s) :=
    broadcastInDim_apply _ _ _ (ix3 b 0 s) (ix2 b s) (fun a => by match a with | ⟨0, _⟩ => rfl | ⟨1, _⟩ => rfl)
  exact (wrapped _ _ _ _ rfl (by rw [e]; exact h)).trans e
end

/-- The score at `(b', t', s)` lands on the entry of its batch, its position and its token. -/
theorem lands_words (a0 : IVec S4x1024 32) (h : ∀ b s, 0 ≤ (a0 (ix2 b s)).toInt) (b' : Fin 4) (t' s : Fin 1024) (b : Fin 4) (t : Fin 1024) (v : Fin 50257) :
    scatter_S4x1024x50257_S4x1024x1024x3_S4x1024x1024_n_012_012_3.resultIdx? (ix3 b' t' s) (words a0) = some (ix3 b t v)
      ↔ b' = b ∧ t' = t ∧ a0 (ix2 b' s) = BitVec.ofNat 32 v.val := by
  have hv := v.isLt
  have hb := b'.isLt
  have ht := t'.isLt
  rw [lands, words_0, words_1, words_2 _ _ _ _ (h b' s), small _ (by omega), small _ (by omega)]
  refine and_congr ?_ (and_congr ?_ ?_)
  · rw [Fin.ext_iff]; omega
  · rw [Fin.ext_iff]; omega
  · rw [← small v.val (by omega), BitVec.toInt_inj]

/-- The scattered scores: for each entry, the scores of its row whose token it is. -/
theorem scattered (a0 : IVec S4x1024 32) (h : ∀ b s, 0 ≤ (a0 (ix2 b s)).toInt) (z : FVec Ideal S4x1024x50257 .f32) (u : FVec Ideal S4x1024x1024 .f32)
    (hz : ∀ j, (z j : EReal) = 0) (b : Fin 4) (t : Fin 1024) (v : Fin 50257) :
    (Host.scatterAdd scatter_S4x1024x50257_S4x1024x1024x3_S4x1024x1024_n_012_012_3 z (words a0) u (ix3 b t v) : EReal)
      = ∑ s : Fin 1024, (if a0 (ix2 b s) = BitVec.ofNat 32 v.val then (1 : EReal) else 0) * u (ix3 b t s) := by
  show (z (ix3 b t v) + ∑ j ∈ Finset.univ.filter (fun j => scatter_S4x1024x50257_S4x1024x1024x3_S4x1024x1024_n_012_012_3.resultIdx? j (words a0) = some (ix3 b t v)), u j : EReal) = _
  rw [hz, zero_add]
  symm
  have e1 : (∑ s : Fin 1024, (if a0 (ix2 b s) = BitVec.ofNat 32 v.val then (1 : EReal) else 0) * u (ix3 b t s))
      = ∑ s ∈ Finset.univ.filter (fun s => a0 (ix2 b s) = BitVec.ofNat 32 v.val), (u (ix3 b t s) : EReal) := by
    rw [Finset.sum_filter]
    refine Finset.sum_congr rfl fun s _ => ?_
    split
    · rw [one_mul]
    · rw [zero_mul]
  rw [e1]
  refine Finset.sum_bij (fun s _ => ix3 b t s) ?_ ?_ ?_ (fun _ _ => rfl)
  · intro s hs
    rw [Finset.mem_filter] at hs ⊢
    exact ⟨Finset.mem_univ _, (lands_words a0 h b t s b t v).2 ⟨rfl, rfl, hs.2⟩⟩
  · intro s _ s' _ e
    exact congrFun e 2
  · intro j hj
    rw [Finset.mem_filter, eq_ix3 j] at hj
    obtain ⟨h1, h2, h3⟩ := (lands_words a0 h _ _ _ b t v).1 hj.2
    refine ⟨j 2, ?_, ?_⟩
    · exact Finset.mem_filter.2 ⟨Finset.mem_univ _, (congrArg (fun k => a0 (ix2 k (j 2))) h1).symm.trans h3⟩
    · rw [← h1, ← h2]; exact (eq_ix3 j).symm

end Cert.ReferenceIdeal.Val

end
-- ==== Proof.RDot.lean ====
/-
  The reference's products over the extended reals.
-/
module

public import proofs.«01_k».proof.Proof.Gen.ReferenceIdeal
public import Idealize.ShloMosaic.Lib.StackMember

@[expose] public section

set_option maxRecDepth 16384

noncomputable section

namespace Cert.ReferenceIdeal.Val

open Cert.ReferenceIdeal Cert.ReferenceIdeal.Gen
open Idealize.ShloMosaic Idealize.ShloMosaic.ValueIdx
open Idealize.ShloMosaic.TcCoe Idealize.ShloMosaic.Tactic

/-- Rows against rows: an `[4, 1024, 768]` array times the rows of a matrix. -/
theorem dot_rows {N : ℕ} {φ₁ φ₂ : FTy} (w : DotDims.WF ⟨3, ![4, 1024, 768]⟩ ⟨2, ![N, 768]⟩ ⟨3, ![4, 1024, N]⟩ [2] [1] [0, 1] [0] [] [])
    (A : FVec Ideal ⟨3, ![4, 1024, 768]⟩ φ₁) (B : FVec Ideal ⟨2, ![N, 768]⟩ φ₂) (b : Fin 4) (t : Fin 1024) (v : Fin N) :
    Host.dotGeneral (F := Ideal) { lhsContracting := [2], rhsContracting := [1], lhsNonContracting := [0, 1], rhsNonContracting := [0], lhsBatch := [], rhsBatch := [], wf := w } none A B (ix3 b t v)
      = (∑ e : Fin 768, (A (ix3 b t e) : EReal) * B (ix2 v e) : EReal) := by
  let d : DotDims ⟨3, ![4, 1024, 768]⟩ ⟨2, ![N, 768]⟩ ⟨3, ![4, 1024, N]⟩ := { lhsContracting := [2], rhsContracting := [1], lhsNonContracting := [0, 1], rhsNonContracting := [0], lhsBatch := [], rhsBatch := [], wf := w }
  show FloatOps.dotGeneral d none _ A B (ix3 b t v) = _
  rw [Ideal.dotGeneral_apply, ← Equiv.sum_comp (contrEquiv1 d 768 rfl rfl).symm]
  refine Finset.sum_congr rfl fun e _ => ?_
  have c := contrEquiv1_symm_val d 768 rfl rfl e
  have l : d.lhsIdx (ix3 b t v) ((contrEquiv1 d 768 rfl rfl).symm e) = ix3 b t e := by
    funext ax; apply Fin.ext
    match ax with
    | ⟨0, _⟩ => simp [DotDims.lhsIdx, d]; rfl
    | ⟨1, _⟩ => simp [DotDims.lhsIdx, d]; rfl
    | ⟨2, _⟩ => simp [DotDims.lhsIdx, d]; exact c
  have r : d.rhsIdx (ix3 b t v) ((contrEquiv1 d 768 rfl rfl).symm e) = ix2 v e := by
    funext ax; apply Fin.ext
    match ax with
    | ⟨0, _⟩ => simp [DotDims.rhsIdx, d]; rfl
    | ⟨1, _⟩ => simp [DotDims.rhsIdx, d]; exact c
  rw [l, r]

/-- Queries against keys, batch by batch. -/
theorem dot_batch {φ₁ φ₂ : FTy} (w : DotDims.WF ⟨3, ![4, 1024, 256]⟩ ⟨3, ![4, 1024, 256]⟩ ⟨3, ![4, 1024, 1024]⟩ [2] [2] [1] [1] [0] [0])
    (A : FVec Ideal ⟨3, ![4, 1024, 256]⟩ φ₁) (B : FVec Ideal ⟨3, ![4, 1024, 256]⟩ φ₂) (b : Fin 4) (t s : Fin 1024) :
    Host.dotGeneral (F := Ideal) { lhsContracting := [2], rhsContracting := [2], lhsNonContracting := [1], rhsNonContracting := [1], lhsBatch := [0], rhsBatch := [0], wf := w } none A B (ix3 b t s)
      = (∑ a : Fin 256, (A (ix3 b t a) : EReal) * B (ix3 b s a) : EReal) := by
  let d : DotDims ⟨3, ![4, 1024, 256]⟩ ⟨3, ![4, 1024, 256]⟩ ⟨3, ![4, 1024, 1024]⟩ := { lhsContracting := [2], rhsContracting := [2], lhsNonContracting := [1], rhsNonContracting := [1], lhsBatch := [0], rhsBatch := [0], wf := w }
  show FloatOps.dotGeneral d none _ A B (ix3 b t s) = _
  rw [Ideal.dotGeneral_apply, ← Equiv.sum_comp (contrEquiv1 d 256 rfl rfl).symm]
  refine Finset.sum_congr rfl fun e _ => ?_
  have c := contrEquiv1_symm_val d 256 rfl rfl e
  have l : d.lhsIdx (ix3 b t s) ((contrEquiv1 d 256 rfl rfl).symm e) = ix3 b t e := by
    funext ax; apply Fin.ext
    match ax with
    | ⟨0, _⟩ => simp [DotDims.lhsIdx, d]; rfl
    | ⟨1, _⟩ => simp [DotDims.lhsIdx, d]; rfl
    | ⟨2, _⟩ => simp [DotDims.lhsIdx, d]; exact c
  have r : d.rhsIdx (ix3 b t s) ((contrEquiv1 d 256 rfl rfl).symm e) = ix3 b s e := by
    funext ax; apply Fin.ext
    match ax with
    | ⟨0, _⟩ => simp [DotDims.rhsIdx, d]; rfl
    | ⟨1, _⟩ => simp [DotDims.rhsIdx, d]; rfl
    | ⟨2, _⟩ => simp [DotDims.rhsIdx, d]; exact c
  rw [l, r]

end Cert.ReferenceIdeal.Val

end
-- ==== Proof.RValue.lean ====
/-
  The reference's result as the formula.
-/
module

public import proofs.«01_k».proof.Proof.RWords
public import proofs.«01_k».proof.Proof.RDot
public import proofs.«01_k».proof.Proof.VLogits
public import proofs.«01_k».proof.Proof.Gen.ReferenceIdeal.Run

@[expose] public section

set_option maxRecDepth 16384

noncomputable section

namespace Cert.ReferenceIdeal.Val

open Cert.ReferenceIdeal Cert.ReferenceIdeal.Gen
open Idealize.ShloMosaic Idealize.ShloMosaic.ValueIdx
open Idealize.ShloMosaic.TcCoe Idealize.ShloMosaic.Tactic

/-- The causal mask, as the reference writes it. -/
def causal : IVec S1024x1024 1 := select (cmpi .sge (addi (iotaInDim S1024x1024 32 0) (broadcastInDim S1024x1024 ![] bcast_S_S1024x1024 (constantI S_ 32 0#32))) (iotaInDim S1024x1024 32 1)) (broadcastInDim S1024x1024 ![] bcast_S_S1024x1024 (constantI S_ 1 1#1)) (broadcastInDim S1024x1024 ![] bcast_S_S1024x1024 (constantI S_ 1 0#1))

theorem causal_at (t s : Fin 1024) : causal (ix2 t s) = if s.val ≤ t.val then 1#1 else 0#1 := by
  have e : IntOp.cmpi .sge (BitVec.ofNat 32 t.val + 0#32) (BitVec.ofNat 32 s.val) = BitVec.ofBool (decide (s.val ≤ t.val)) := by
    show BitVec.ofBool ((BitVec.ofNat 32 s.val).sle (BitVec.ofNat 32 t.val + 0#32)) = _
    congr 1
    have ht := t.isLt
    have hs := s.isLt
    rw [BitVec.add_zero, BitVec.sle, small t.val (by omega), small s.val (by omega)]
    simp
  show Scalar.select (IntOp.cmpi .sge (BitVec.ofNat 32 t.val + 0#32) (BitVec.ofNat 32 s.val)) 1#1 0#1 = _
  rw [e]
  by_cases h : s.val ≤ t.val
  · rw [if_pos h, decide_eq_true h]; rfl
  · rw [if_neg h, decide_eq_false h]; rfl

/-- The scores, as the reference writes them. -/
def scores (a1 : FVec Ideal S4x1024x768 .bf16) (a3 a4 : FVec Ideal S256x768 .f32) : FVec Ideal S4x1024x1024 .f32 := select (broadcastInDim S4x1024x1024 ![1, 2] bcast_S1024x1024_S4x1024x1024_1_2 causal) (mulf (Host.dotGeneral dot_S4x1024x256_S4x1024x256_S4x1024x1024_2_2_1_1_0_0 none (Host.dotGeneral dot_S4x1024x768_S256x768_S4x1024x256_2_1_01_0_n_n none (extf .f32 a1 bitsLt_bf16_f32) a3) (Host.dotGeneral dot_S4x1024x768_S256x768_S4x1024x256_2_1_01_0_n_n none (extf .f32 a1 bitsLt_bf16_f32) a4)) (broadcastInDim S4x1024x1024 ![] bcast_S_S4x1024x1024 (constant S_ .f32 0x3B800000#32))) (broadcastInDim S4x1024x1024 ![] bcast_S_S4x1024x1024 (constant S_ .f32 0x00000000#32))

theorem scores_at (a1 : FVec Ideal S4x1024x768 .bf16) (a3 a4 : FVec Ideal S256x768 .f32) (b : Fin 4) (t s : Fin 1024) :
    (scores a1 a3 a4 (ix3 b t s) : EReal)
      = Cert.KernelIdeal.Run.scoreE (fun t e => a1 (ix3 b t e)) (fun a e => a3 (ix2 a e)) (fun a e => a4 (ix2 a e)) t s := by
  have hm : broadcastInDim S4x1024x1024 ![1, 2] bcast_S1024x1024_S4x1024x1024_1_2 causal (ix3 b t s) = causal (ix2 t s) :=
    broadcastInDim_apply _ _ _ (ix3 b t s) (ix2 t s) (fun a => by match a with | ⟨0, _⟩ => rfl | ⟨1, _⟩ => rfl)
  have hq : (Host.dotGeneral dot_S4x1024x256_S4x1024x256_S4x1024x1024_2_2_1_1_0_0 none (Host.dotGeneral dot_S4x1024x768_S256x768_S4x1024x256_2_1_01_0_n_n none (extf .f32 a1 bitsLt_bf16_f32) a3) (Host.dotGeneral dot_S4x1024x768_S256x768_S4x1024x256_2_1_01_0_n_n none (extf .f32 a1 bitsLt_bf16_f32) a4) (ix3 b t s) : EReal)
      = ∑ a : Fin 256, (∑ e : Fin 768, (a1 (ix3 b t e) : EReal) * a3 (ix2 a e)) * ∑ e : Fin 768, (a1 (ix3 b s e) : EReal) * a4 (ix2 a e) := by
    refine (dot_batch _ _ _ b t s).trans (Finset.sum_congr rfl fun a _ => congrArg₂ (fun x y : EReal => x * y) ?_ ?_)
    · exact dot_rows _ (extf .f32 a1 bitsLt_bf16_f32) a3 b t a
    · exact dot_rows _ (extf .f32 a1 bitsLt_bf16_f32) a4 b s a
  unfold scores
  show (Scalar.select (broadcastInDim S4x1024x1024 ![1, 2] bcast_S1024x1024_S4x1024x1024_1_2 causal (ix3 b t s))
    ((Host.dotGeneral dot_S4x1024x256_S4x1024x256_S4x1024x1024_2_2_1_1_0_0 none (Host.dotGeneral dot_S4x1024x768_S256x768_S4x1024x256_2_1_01_0_n_n none (extf .f32 a1 bitsLt_bf16_f32) a3) (Host.dotGeneral dot_S4x1024x768_S256x768_S4x1024x256_2_1_01_0_n_n none (extf .f32 a1 bitsLt_bf16_f32) a4) (ix3 b t s) : EReal) * Ideal.ofBits .f32 0x3B800000#32)
    (Ideal.ofBits .f32 0x00000000#32) : EReal) = _
  rw [hm, causal_at, hq, Ideal.ofBits_zero_f32]
  unfold Cert.KernelIdeal.Run.scoreE
  by_cases h : s.val ≤ t.val
  · rw [if_pos h, if_pos h]; rfl
  · rw [if_neg h, if_neg h]; rfl

/-- The reference's result. -/
def result (a0 : IVec S4x1024 32) (a1 : FVec Ideal S4x1024x768 .bf16) (a2 : FVec Ideal S50257x768 .f32) (a3 a4 : FVec Ideal S256x768 .f32) : FVec Ideal S4x1024x50257 .f32 :=
  addf (Host.dotGeneral dot_S4x1024x768_S50257x768_S4x1024x50257_2_1_01_0_n_n none (extf .f32 a1 bitsLt_bf16_f32) a2)
    (Host.scatterAdd scatter_S4x1024x50257_S4x1024x1024x3_S4x1024x1024_n_012_012_3 (broadcastInDim S4x1024x50257 ![] bcast_S_S4x1024x50257 (constant S_ .f32 0x00000000#32)) (words a0) (scores a1 a3 a4))

/-- The reference's result at an index, the tokens not negative: the logit. -/
theorem result_at (a0 : IVec S4x1024 32) (h : ∀ b s, 0 ≤ (a0 (ix2 b s)).toInt) (a1 : FVec Ideal S4x1024x768 .bf16) (a2 : FVec Ideal S50257x768 .f32) (a3 a4 : FVec Ideal S256x768 .f32)
    (b : Fin 4) (t : Fin 1024) (v : Fin 50257) :
    (result a0 a1 a2 a3 a4 (ix3 b t v) : EReal) = Cert.KernelIdeal.Run.logitsOf a0 a1 a2 a3 a4 b t v := by
  refine congrArg₂ (fun x y : EReal => x + y) ?_ ?_
  · refine (dot_rows _ (extf .f32 a1 bitsLt_bf16_f32) a2 b t v).trans (Finset.sum_congr rfl fun e _ => ?_)
    exact mul_comm (a1 (ix3 b t e) : EReal) (a2 (ix2 v e))
  · refine (scattered a0 h _ (scores a1 a3 a4) (fun _ => Ideal.ofBits_zero_f32) b t v).trans (Finset.sum_congr rfl fun s _ => ?_)
    rw [scores_at]

open Idealize.SL.Sem in
/-- The reference's run: its result is `result` of its arguments, and these are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.ReferenceIdeal.Val

end
-- ==== Proof.lean ====
/-
  The proof of `Cert.Claim`: the frames of the kernel (as printed and idealized) and of the reference, and the equality of
  their logits over the extended reals where no token is negative.

  Kernel side: `Proof/Run.lean` and its twin `Proof/K/Run.lean` (runs, frames), `Proof/VKernel.lean` (the logits as a formula).
  Reference side: `Proof/RValue.lean` (the same formula).

  Then the same of the kernel's first call, the gather of the embedding's rows and their normalisation, where every token is a
  row number: `Proof/Gather/Run.lean` and its twin `Proof/GatherK/Run.lean` (runs, frames), `Proof/Gather/Norm.lean` (the rows
  as a formula), `Proof/Gather/Reference.lean` (the same formula).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tokens_not_negative
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_tokens_in_range
public import proofs.«01_k».proof.Proof.Gather.Norm
public import proofs.«01_k».proof.Proof.Gather.Reference
public import proofs.«01_k».proof.Proof.GatherK.Run
public import proofs.«01_k».proof.Proof.K.Run
public import proofs.«01_k».proof.Proof.VKernel
public import proofs.«01_k».proof.Proof.RValue
public import Idealize.ShloMosaic.Adequacy
public import Idealize.ShloMosaic.Init
public import Idealize.ShloMosaic.Lib.ReduceAll

@[expose] public section

set_option maxRecDepth 16384

noncomputable section

namespace Cert.Proof

open Idealize.ShloMosaic Idealize.ShloMosaic.ValueIdx Idealize.SL.Sem

/-- The precondition, at an entry: the token is not negative. -/
theorem token_of_pre (a0 : IVec Cert.KernelIdeal.S4x1024 32) (a1 : FVec Ideal Cert.KernelIdeal.S4x1024x768 .bf16) (a2 : FVec Ideal Cert.KernelIdeal.S50257x768 .f32)
    (a3 a4 : FVec Ideal Cert.KernelIdeal.S256x768 .f32)
    (h : Cert.Pre_tokens_not_negative.fn (F := Ideal) a0 a1 a2 a3 a4 = fun _ => 1#1) (b : Fin 4) (s : Fin 1024) : 0 ≤ (a0 (ix2 b s)).toInt := by
  have e := Host.reduce_andi_all _ _ Cert.Pre_tokens_not_negative.Facts.reducesTo_S4x1024_S_d0_1 Cert.Pre_tokens_not_negative.Facts.h_S_ (fun a => a.elim0) (congrFun h _) (ix2 b s)
  exact IntOp.cmpi_sge.1 e

/-- The kernel as printed. -/
theorem frame_kernel : Cert.quiescent_Kernel := fun m g _ =>
  (θ_run Cert.Kernel.defs _ _).mono (fun _ h => ⟨fun c => by
    obtain ⟨_, _, h⟩ := h.1 c
    exact h, h.2⟩) (Cert.Kernel.Run.run m true (by simp) g)

/-- The idealized kernel, from any memory. -/
theorem run_kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c, Cert.KernelIdeal.Run.QY m false c r.2) ∧ r.2.sem = fun _ => 0) :=
  Cert.KernelIdeal.Run.run m false (fun _ => Cert.KernelIdeal.Run.rowWise) g

theorem frame_kernelIdeal : Cert.quiescent_KernelIdeal := fun m g _ =>
  (θ_run Cert.KernelIdeal.defs _ _).mono (fun _ h => ⟨fun c => by
    obtain ⟨_, _, h⟩ := h.1 c
    exact h, h.2⟩) (run_kernelIdeal m g)

theorem frame_kernelIdeal_pre : Cert.quiescent_KernelIdeal_pre_tokens_not_negative := fun m g _ =>
  (θ_run Cert.KernelIdeal.defs _ _).mono (fun _ h => ⟨fun c => by
    obtain ⟨_, _, h⟩ := h.1 c
    exact h, h.2⟩) (run_kernelIdeal m g)

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Val.run m g)

theorem frame_reference_pre : Cert.quiescent_ReferenceIdeal_pre_tokens_not_negative := fun m g _ =>
  (θ_run Cert.ReferenceIdeal.defs _ _).mono (fun r h => ⟨fun c => (h c).2, sem_eq_zero_of_no_sems (by decide) r.2⟩) (Cert.ReferenceIdeal.Val.run m g)

/-- Kernel and reference end with the same logits. -/
theorem same_logits : Cert.algebraic_KernelIdeal_ReferenceIdeal_pre_tokens_not_negative := fun m g m' g' hpre hag => by
  refine ⟨fun c y => Cert.KernelIdeal.Run.want m c (y 0) (y 1) (y 2), ?_, ?_⟩
  · refine (θ_run Cert.KernelIdeal.defs _ _).mono (fun _ h c => ?_) (run_kernelIdeal m g)
    obtain ⟨X, hv, h0⟩ := h.1 c
    refine ⟨hv.trans (funext fun y => ?_), h0⟩
    rw [eq_ix3 y]
    exact Cert.KernelIdeal.Run.U7_want m c X (y 0) (y 1) (y 2)
  · refine (θ_run Cert.ReferenceIdeal.defs _ _).mono (fun _ h c => ?_) (Cert.ReferenceIdeal.Val.run m' g')
    obtain ⟨hv, h0⟩ := h c
    obtain ⟨e0, e1, e2, e3, e4⟩ := hag c
    refine ⟨hv.trans (funext fun y => ?_), h0⟩
    rw [e0, e1, e2, e3, e4, eq_ix3 y]
    exact Cert.ReferenceIdeal.Val.result_at _ (token_of_pre _ _ _ _ _ (hpre c)) _ _ _ _ (y 0) (y 1) (y 2)

/-! ## The gather -/

/-- The precondition, at an entry: the token is a row number of the embedding. -/
theorem token_in_range {F : FTy → Type} [FloatOps F] (a0 : IVec Cert.Kernel2.S4096 32) (a1 : FVec F Cert.Kernel2.S50257x768 .f32) (a2 a3 : FVec F Cert.Kernel2.S1x768 .f32)
    (h : Cert.Pre_tokens_in_range.fn (F := F) a0 a1 a2 a3 = fun _ => 1#1) (k : Cert.Kernel2.S4096.Idx) : (a0 k).toNat < 50257 := by
  have e := Host.reduce_andi_all _ _ Cert.Pre_tokens_in_range.Facts.reducesTo_S4096_S_d0 Cert.Pre_tokens_in_range.Facts.h_S_ (fun a => a.elim0) (congrFun h _) k
  have both : ∀ x y : BitVec 1, IntOp.andi x y = 1#1 → x = 1#1 ∧ y = 1#1 := by decide
  obtain ⟨l, r⟩ := both (IntOp.cmpi .sge (a0 k) 0#32) (IntOp.cmpi .slt (a0 k) 50257#32) e
  have l' : 0 ≤ (a0 k).toInt := IntOp.cmpi_sge.1 l
  have r' : (a0 k).toInt < 50257 := IntOp.cmpi_slt.1 r
  have := BitVec.toInt_eq_toNat_cond (a0 k)
  have hlt := (a0 k).isLt
  split_ifs at this <;> omega

/-- The gather as printed. -/
theorem frame_kernel2 : Cert.quiescent_Kernel2 := fun m g h =>
  (θ_run Cert.Kernel2.defs _ _).mono (fun _ r => ⟨fun c => (r.1 c).2.2, r.2⟩)
    (Cert.Kernel2.Gather.run m (fun c => token_in_range _ _ _ _ (h c)) g)

/-- The gather idealized. -/
theorem frame_kernel2Ideal : Cert.quiescent_Kernel2Ideal := fun m g h =>
  (θ_run Cert.Kernel2Ideal.defs _ _).mono (fun _ r => ⟨fun c => (r.1 c).2.2, r.2⟩)
    (Cert.Kernel2Ideal.Gather.run m (fun c => token_in_range _ _ _ _ (h c)) g)

theorem frame_reference2 : Cert.quiescent_Reference2Ideal := fun m g _ =>
  (θ_run Cert.Reference2Ideal.defs _ _).mono (fun r h => ⟨fun c => (h c).2.2, sem_eq_zero_of_no_sems (by decide) r.2⟩) (Cert.Reference2Ideal.Rows.run m g)

theorem frame_reference2_pre : Cert.quiescent_Reference2Ideal_pre_tokens_in_range := fun m g _ =>
  (θ_run Cert.Reference2Ideal.defs _ _).mono (fun r h => ⟨fun c => (h c).2.2, sem_eq_zero_of_no_sems (by decide) r.2⟩) (Cert.Reference2Ideal.Rows.run m g)

/-- The gather and its reference end with the same rows, at both precisions. -/
theorem same_rows : Cert.algebraic_Kernel2Ideal_Reference2Ideal := fun m g m' g' hpre hag => by
  have hT : ∀ c k, (Cert.Kernel2Ideal.Gather.toks m c k).toNat < 50257 := fun c => token_in_range _ _ _ _ (hpre c)
  refine ⟨fun c y => Cert.Kernel2Ideal.Gather.rowsE (Cert.Kernel2Ideal.Gather.toks m c) (Cert.Kernel2Ideal.Gather.embs m c) (Cert.Kernel2Ideal.Gather.scale m c) (Cert.Kernel2Ideal.Gather.shift m c) y,
    fun c y => Cert.Kernel2Ideal.Gather.rowsE (Cert.Kernel2Ideal.Gather.toks m c) (Cert.Kernel2Ideal.Gather.embs m c) (Cert.Kernel2Ideal.Gather.scale m c) (Cert.Kernel2Ideal.Gather.shift m c) y, ?_, ?_⟩
  · refine (θ_run Cert.Kernel2Ideal.defs _ _).mono (fun _ h c => ?_) (Cert.Kernel2Ideal.Gather.run m hT g)
    obtain ⟨h0, h1, hargs⟩ := h.1 c
    exact ⟨h0.trans (funext fun y => Cert.Kernel2Ideal.Gather.result_32 m c y), h1.trans (funext fun y => Cert.Kernel2Ideal.Gather.result_16 m c y), hargs⟩
  · refine (θ_run Cert.Reference2Ideal.defs _ _).mono (fun _ h c => ?_) (Cert.Reference2Ideal.Rows.run m' g')
    obtain ⟨h0, h1, hargs⟩ := h c
    obtain ⟨e0, e1, e2, e3⟩ := hag c
    have hv := fun y => Cert.Reference2Ideal.Rows.result_at (Cert.Kernel2Ideal.Gather.toks m c) (hT c) (Cert.Kernel2Ideal.Gather.embs m c) (Cert.Kernel2Ideal.Gather.scale m c) (Cert.Kernel2Ideal.Gather.shift m c) y
    refine ⟨h0.trans (funext fun y => ?_), h1.trans (funext fun y => ?_), hargs⟩
    · rw [e0, e1, e2, e3]; exact hv y
    · rw [e0, e1, e2, e3]; exact hv y

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Pre_tokens_not_negative.Gen.facts, Cert.Pre_tokens_in_range.Gen.facts,
    frame_kernel, frame_kernelIdeal, frame_kernelIdeal_pre, frame_reference, frame_reference_pre,
    frame_kernel2, frame_kernel2Ideal, frame_reference2, frame_reference2_pre, trivial, same_logits, trivial, same_rows⟩

end Cert.Proof

end
